-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DwguKernel (m : (ℓ : Loc Cert.DwguKernel.nD Cert.DwguKernel.τ Cert.DwguKernel.sig) → Buf (Elt Bits) ℓ) : Prop :=
  True

def Pre_DwguKernelIdeal (m : (ℓ : Loc Cert.DwguKernelIdeal.nD Cert.DwguKernelIdeal.τ Cert.DwguKernelIdeal.sig) → Buf (Elt Ideal) ℓ) : Prop :=
  True

def Pre_DwguReferenceIdeal (m : (ℓ : Loc Cert.DwguReferenceIdeal.nD Cert.DwguReferenceIdeal.τ Cert.DwguReferenceIdeal.sig) → Buf (Elt Ideal) ℓ) : Prop :=
  True

def Pre_Dh2Kernel (m : (ℓ : Loc Cert.Dh2Kernel.nD Cert.Dh2Kernel.τ Cert.Dh2Kernel.sig) → Buf (Elt Bits) ℓ) : Prop :=
  True

def Pre_Dh2KernelIdeal (m : (ℓ : Loc Cert.Dh2KernelIdeal.nD Cert.Dh2KernelIdeal.τ Cert.Dh2KernelIdeal.sig) → Buf (Elt Ideal) ℓ) : Prop :=
  True

def Pre_Dh2ReferenceIdeal (m : (ℓ : Loc Cert.Dh2ReferenceIdeal.nD Cert.Dh2ReferenceIdeal.τ Cert.Dh2ReferenceIdeal.sig) → Buf (Elt Ideal) ℓ) : Prop :=
  True

def Pre_GuKernel (m : (ℓ : Loc Cert.GuKernel.nD Cert.GuKernel.τ Cert.GuKernel.sig) → Buf (Elt Bits) ℓ) : Prop :=
  True

def Pre_GuKernelIdeal (m : (ℓ : Loc Cert.GuKernelIdeal.nD Cert.GuKernelIdeal.τ Cert.GuKernelIdeal.sig) → Buf (Elt Ideal) ℓ) : Prop :=
  True

def Pre_GuReferenceIdeal (m : (ℓ : Loc Cert.GuReferenceIdeal.nD Cert.GuReferenceIdeal.τ Cert.GuReferenceIdeal.sig) → Buf (Elt Ideal) ℓ) : Prop :=
  True

def Pre_DwdownKernel (m : (ℓ : Loc Cert.DwdownKernel.nD Cert.DwdownKernel.τ Cert.DwdownKernel.sig) → Buf (Elt Bits) ℓ) : Prop :=
  True

def Pre_DwdownKernelIdeal (m : (ℓ : Loc Cert.DwdownKernelIdeal.nD Cert.DwdownKernelIdeal.τ Cert.DwdownKernelIdeal.sig) → Buf (Elt Ideal) ℓ) : Prop :=
  True

def Pre_DwdownReferenceIdeal (m : (ℓ : Loc Cert.DwdownReferenceIdeal.nD Cert.DwdownReferenceIdeal.τ Cert.DwdownReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Dh1Kernel (m : (ℓ : Loc Cert.Dh1Kernel.nD Cert.Dh1Kernel.τ Cert.Dh1Kernel.sig) → Buf (Elt Bits) ℓ) : Prop :=
  True

def Pre_Dh1KernelIdeal (m : (ℓ : Loc Cert.Dh1KernelIdeal.nD Cert.Dh1KernelIdeal.τ Cert.Dh1KernelIdeal.sig) → Buf (Elt Ideal) ℓ) : Prop :=
  True

def Pre_Dh1ReferenceIdeal (m : (ℓ : Loc Cert.Dh1ReferenceIdeal.nD Cert.Dh1ReferenceIdeal.τ Cert.Dh1ReferenceIdeal.sig) → Buf (Elt Ideal) ℓ) : Prop :=
  True

def Pre_DwinKernel (m : (ℓ : Loc Cert.DwinKernel.nD Cert.DwinKernel.τ Cert.DwinKernel.sig) → Buf (Elt Bits) ℓ) : Prop :=
  True

def Pre_DwinKernelIdeal (m : (ℓ : Loc Cert.DwinKernelIdeal.nD Cert.DwinKernelIdeal.τ Cert.DwinKernelIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DmixKernel (m : (ℓ : Loc Cert.DmixKernel.nD Cert.DmixKernel.τ Cert.DmixKernel.sig) → Buf (Elt Bits) ℓ) : Prop :=
  True

def Pre_DmixKernelIdeal (m : (ℓ : Loc Cert.DmixKernelIdeal.nD Cert.DmixKernelIdeal.τ Cert.DmixKernelIdeal.sig) → Buf (Elt Ideal) ℓ) : Prop :=
  True

def Pre_DmixReferenceIdeal (m : (ℓ : Loc Cert.DmixReferenceIdeal.nD Cert.DmixReferenceIdeal.τ Cert.DmixReferenceIdeal.sig) → Buf (Elt Ideal) ℓ) : Prop :=
  True

def Pre_DwoutKernel (m : (ℓ : Loc Cert.DwoutKernel.nD Cert.DwoutKernel.τ Cert.DwoutKernel.sig) → Buf (Elt Bits) ℓ) : Prop :=
  True

def Pre_DwoutKernelIdeal (m : (ℓ : Loc Cert.DwoutKernelIdeal.nD Cert.DwoutKernelIdeal.τ Cert.DwoutKernelIdeal.sig) → Buf (Elt Ideal) ℓ) : Prop :=
  True

def Pre_DwoutReferenceIdeal (m : (ℓ : Loc Cert.DwoutReferenceIdeal.nD Cert.DwoutReferenceIdeal.τ Cert.DwoutReferenceIdeal.sig) → Buf (Elt Ideal) ℓ) : Prop :=
  True

def Pre_ScanKernel (m : (ℓ : Loc Cert.ScanKernel.nD Cert.ScanKernel.τ Cert.ScanKernel.sig) → Buf (Elt Bits) ℓ) : Prop :=
  True

def Pre_ScanKernelIdeal (m : (ℓ : Loc Cert.ScanKernelIdeal.nD Cert.ScanKernelIdeal.τ Cert.ScanKernelIdeal.sig) → Buf (Elt Ideal) ℓ) : Prop :=
  True

def Pre_ScanReferenceIdeal (m : (ℓ : Loc Cert.ScanReferenceIdeal.nD Cert.ScanReferenceIdeal.τ Cert.ScanReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_DnormKernel (m : (ℓ : Loc Cert.DnormKernel.nD Cert.DnormKernel.τ Cert.DnormKernel.sig) → Buf (Elt Bits) ℓ) : Prop :=
  True

def Pre_DnormKernelIdeal (m : (ℓ : Loc Cert.DnormKernelIdeal.nD Cert.DnormKernelIdeal.τ Cert.DnormKernelIdeal.sig) → Buf (Elt Ideal) ℓ) : Prop :=
  True

def Pre_DnormReferenceIdeal (m : (ℓ : Loc Cert.DnormReferenceIdeal.nD Cert.DnormReferenceIdeal.τ Cert.DnormReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_DconvKernel (m : (ℓ : Loc Cert.DconvKernel.nD Cert.DconvKernel.τ Cert.DconvKernel.sig) → Buf (Elt Bits) ℓ) : Prop :=
  True

def Pre_DconvKernelIdeal (m : (ℓ : Loc Cert.DconvKernelIdeal.nD Cert.DconvKernelIdeal.τ Cert.DconvKernelIdeal.sig) → Buf (Elt Ideal) ℓ) : Prop :=
  True

def Pre_DconvReferenceIdeal (m : (ℓ : Loc Cert.DconvReferenceIdeal.nD Cert.DconvReferenceIdeal.τ Cert.DconvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1)
      ∧ r.2.mem ((c.tc : Thread Cert.DactKernel.nD Cert.DactKernel.τ).loc Cert.DactKernel.main_arg2) = m ((c.tc : Thread Cert.DactKernel.nD Cert.DactKernel.τ).loc Cert.DactKernel.main_arg2))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2))
      ∧ r.2.sem = fun _ => 0)

def quiescent_DwguKernel [hDwguKernel : Cert.DwguKernel.Facts] : Prop :=
  ∀ (m : (ℓ : Loc Cert.DwguKernel.nD Cert.DwguKernel.τ Cert.DwguKernel.sig) → Buf (Elt Bits) ℓ) (g : Dev Cert.DwguKernel.nD → PrngReg), Pre_DwguKernel m →
    θ_run (Cert.DwguKernel.defs (F := Bits)) (onTc (τ := Cert.DwguKernel.τ) (Cert.DwguKernel.main (F := Bits))) ⟨m, fun _ => 0, g⟩ (fun r => (∀ c : Dev Cert.DwguKernel.nD,
      r.2.mem ((c.tc : Thread Cert.DwguKernel.nD Cert.DwguKernel.τ).loc Cert.DwguKernel.main_arg0) = m ((c.tc : Thread Cert.DwguKernel.nD Cert.DwguKernel.τ).loc Cert.DwguKernel.main_arg0)
      ∧ r.2.mem ((c.tc : Thread Cert.DwguKernel.nD Cert.DwguKernel.τ).loc Cert.DwguKernel.main_arg1) = m ((c.tc : Thread Cert.DwguKernel.nD Cert.DwguKernel.τ).loc Cert.DwguKernel.main_arg1))
      ∧ r.2.sem = fun _ => 0)

def quiescent_DwguKernelIdeal [hDwguKernelIdeal : Cert.DwguKernelIdeal.Facts] : Prop :=
  ∀ (m : (ℓ : Loc Cert.DwguKernelIdeal.nD Cert.DwguKernelIdeal.τ Cert.DwguKernelIdeal.sig) → Buf (Elt Ideal) ℓ) (g : Dev Cert.DwguKernelIdeal.nD → PrngReg), Pre_DwguKernelIdeal m →
    θ_run (Cert.DwguKernelIdeal.defs (F := Ideal)) (onTc (τ := Cert.DwguKernelIdeal.τ) (Cert.DwguKernelIdeal.main (F := Ideal))) ⟨m, fun _ => 0, g⟩ (fun r => (∀ c : Dev Cert.DwguKernelIdeal.nD,
      r.2.mem ((c.tc : Thread Cert.DwguKernelIdeal.nD Cert.DwguKernelIdeal.τ).loc Cert.DwguKernelIdeal.main_arg0) = m ((c.tc : Thread Cert.DwguKernelIdeal.nD Cert.DwguKernelIdeal.τ).loc Cert.DwguKernelIdeal.main_arg0)
      ∧ r.2.mem ((c.tc : Thread Cert.DwguKernelIdeal.nD Cert.DwguKernelIdeal.τ).loc Cert.DwguKernelIdeal.main_arg1) = m ((c.tc : Thread Cert.DwguKernelIdeal.nD Cert.DwguKernelIdeal.τ).loc Cert.DwguKernelIdeal.main_arg1))
      ∧ r.2.sem = fun _ => 0)

def quiescent_DwguReferenceIdeal [hDwguReferenceIdeal : Cert.DwguReferenceIdeal.Facts] : Prop :=
  ∀ (m : (ℓ : Loc Cert.DwguReferenceIdeal.nD Cert.DwguReferenceIdeal.τ Cert.DwguReferenceIdeal.sig) → Buf (Elt Ideal) ℓ) (g : Dev Cert.DwguReferenceIdeal.nD → PrngReg), Pre_DwguReferenceIdeal m →
    θ_run (Cert.DwguReferenceIdeal.defs (F := Ideal)) (onTc (τ := Cert.DwguReferenceIdeal.τ) (Cert.DwguReferenceIdeal.main (F := Ideal))) ⟨m, fun _ => 0, g⟩ (fun r => (∀ c : Dev Cert.DwguReferenceIdeal.nD,
      r.2.mem ((c.tc : Thread Cert.DwguReferenceIdeal.nD Cert.DwguReferenceIdeal.τ).loc Cert.DwguReferenceIdeal.main_arg0) = m ((c.tc : Thread Cert.DwguReferenceIdeal.nD Cert.DwguReferenceIdeal.τ).loc Cert.DwguReferenceIdeal.main_arg0)
      ∧ r.2.mem ((c.tc : Thread Cert.DwguReferenceIdeal.nD Cert.DwguReferenceIdeal.τ).loc Cert.DwguReferenceIdeal.main_arg1) = m ((c.tc : Thread Cert.DwguReferenceIdeal.nD Cert.DwguReferenceIdeal.τ).loc Cert.DwguReferenceIdeal.main_arg1))
      ∧ r.2.sem = fun _ => 0)

def quiescent_Dh2Kernel [hDh2Kernel : Cert.Dh2Kernel.Facts] : Prop :=
  ∀ (m : (ℓ : Loc Cert.Dh2Kernel.nD Cert.Dh2Kernel.τ Cert.Dh2Kernel.sig) → Buf (Elt Bits) ℓ) (g : Dev Cert.Dh2Kernel.nD → PrngReg), Pre_Dh2Kernel m →
    θ_run (Cert.Dh2Kernel.defs (F := Bits)) (onTc (τ := Cert.Dh2Kernel.τ) (Cert.Dh2Kernel.main (F := Bits))) ⟨m, fun _ => 0, g⟩ (fun r => (∀ c : Dev Cert.Dh2Kernel.nD,
      r.2.mem ((c.tc : Thread Cert.Dh2Kernel.nD Cert.Dh2Kernel.τ).loc Cert.Dh2Kernel.main_arg0) = m ((c.tc : Thread Cert.Dh2Kernel.nD Cert.Dh2Kernel.τ).loc Cert.Dh2Kernel.main_arg0)
      ∧ r.2.mem ((c.tc : Thread Cert.Dh2Kernel.nD Cert.Dh2Kernel.τ).loc Cert.Dh2Kernel.main_arg1) = m ((c.tc : Thread Cert.Dh2Kernel.nD Cert.Dh2Kernel.τ).loc Cert.Dh2Kernel.main_arg1))
      ∧ r.2.sem = fun _ => 0)

def quiescent_Dh2KernelIdeal [hDh2KernelIdeal : Cert.Dh2KernelIdeal.Facts] : Prop :=
  ∀ (m : (ℓ : Loc Cert.Dh2KernelIdeal.nD Cert.Dh2KernelIdeal.τ Cert.Dh2KernelIdeal.sig) → Buf (Elt Ideal) ℓ) (g : Dev Cert.Dh2KernelIdeal.nD → PrngReg), Pre_Dh2KernelIdeal m →
    θ_run (Cert.Dh2KernelIdeal.defs (F := Ideal)) (onTc (τ := Cert.Dh2KernelIdeal.τ) (Cert.Dh2KernelIdeal.main (F := Ideal))) ⟨m, fun _ => 0, g⟩ (fun r => (∀ c : Dev Cert.Dh2KernelIdeal.nD,
      r.2.mem ((c.tc : Thread Cert.Dh2KernelIdeal.nD Cert.Dh2KernelIdeal.τ).loc Cert.Dh2KernelIdeal.main_arg0) = m ((c.tc : Thread Cert.Dh2KernelIdeal.nD Cert.Dh2KernelIdeal.τ).loc Cert.Dh2KernelIdeal.main_arg0)
      ∧ r.2.mem ((c.tc : Thread Cert.Dh2KernelIdeal.nD Cert.Dh2KernelIdeal.τ).loc Cert.Dh2KernelIdeal.main_arg1) = m ((c.tc : Thread Cert.Dh2KernelIdeal.nD Cert.Dh2KernelIdeal.τ).loc Cert.Dh2KernelIdeal.main_arg1))
      ∧ r.2.sem = fun _ => 0)

def quiescent_Dh2ReferenceIdeal [hDh2ReferenceIdeal : Cert.Dh2ReferenceIdeal.Facts] : Prop :=
  ∀ (m : (ℓ : Loc Cert.Dh2ReferenceIdeal.nD Cert.Dh2ReferenceIdeal.τ Cert.Dh2ReferenceIdeal.sig) → Buf (Elt Ideal) ℓ) (g : Dev Cert.Dh2ReferenceIdeal.nD → PrngReg), Pre_Dh2ReferenceIdeal m →
    θ_run (Cert.Dh2ReferenceIdeal.defs (F := Ideal)) (onTc (τ := Cert.Dh2ReferenceIdeal.τ) (Cert.Dh2ReferenceIdeal.main (F := Ideal))) ⟨m, fun _ => 0, g⟩ (fun r => (∀ c : Dev Cert.Dh2ReferenceIdeal.nD,
      r.2.mem ((c.tc : Thread Cert.Dh2ReferenceIdeal.nD Cert.Dh2ReferenceIdeal.τ).loc Cert.Dh2ReferenceIdeal.main_arg0) = m ((c.tc : Thread Cert.Dh2ReferenceIdeal.nD Cert.Dh2ReferenceIdeal.τ).loc Cert.Dh2ReferenceIdeal.main_arg0)
      ∧ r.2.mem ((c.tc : Thread Cert.Dh2ReferenceIdeal.nD Cert.Dh2ReferenceIdeal.τ).loc Cert.Dh2ReferenceIdeal.main_arg1) = m ((c.tc : Thread Cert.Dh2ReferenceIdeal.nD Cert.Dh2ReferenceIdeal.τ).loc Cert.Dh2ReferenceIdeal.main_arg1))
      ∧ r.2.sem = fun _ => 0)

def quiescent_GuKernel [hGuKernel : Cert.GuKernel.Facts] : Prop :=
  ∀ (m : (ℓ : Loc Cert.GuKernel.nD Cert.GuKernel.τ Cert.GuKernel.sig) → Buf (Elt Bits) ℓ) (g : Dev Cert.GuKernel.nD → PrngReg), Pre_GuKernel m →
    θ_run (Cert.GuKernel.defs (F := Bits)) (onTc (τ := Cert.GuKernel.τ) (Cert.GuKernel.main (F := Bits))) ⟨m, fun _ => 0, g⟩ (fun r => (∀ c : Dev Cert.GuKernel.nD,
      r.2.mem ((c.tc : Thread Cert.GuKernel.nD Cert.GuKernel.τ).loc Cert.GuKernel.main_arg0) = m ((c.tc : Thread Cert.GuKernel.nD Cert.GuKernel.τ).loc Cert.GuKernel.main_arg0)
      ∧ r.2.mem ((c.tc : Thread Cert.GuKernel.nD Cert.GuKernel.τ).loc Cert.GuKernel.main_arg1) = m ((c.tc : Thread Cert.GuKernel.nD Cert.GuKernel.τ).loc Cert.GuKernel.main_arg1))
      ∧ r.2.sem = fun _ => 0)

def quiescent_GuKernelIdeal [hGuKernelIdeal : Cert.GuKernelIdeal.Facts] : Prop :=
  ∀ (m : (ℓ : Loc Cert.GuKernelIdeal.nD Cert.GuKernelIdeal.τ Cert.GuKernelIdeal.sig) → Buf (Elt Ideal) ℓ) (g : Dev Cert.GuKernelIdeal.nD → PrngReg), Pre_GuKernelIdeal m →
    θ_run (Cert.GuKernelIdeal.defs (F := Ideal)) (onTc (τ := Cert.GuKernelIdeal.τ) (Cert.GuKernelIdeal.main (F := Ideal))) ⟨m, fun _ => 0, g⟩ (fun r => (∀ c : Dev Cert.GuKernelIdeal.nD,
      r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
      ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1))
      ∧ r.2.sem = fun _ => 0)

def quiescent_DwdownKernel [hDwdownKernel : Cert.DwdownKernel.Facts] : Prop :=
  ∀ (m : (ℓ : Loc Cert.DwdownKernel.nD Cert.DwdownKernel.τ Cert.DwdownKernel.sig) → Buf (Elt Bits) ℓ) (g : Dev Cert.DwdownKernel.nD → PrngReg), Pre_DwdownKernel m →
    θ_run (Cert.DwdownKernel.defs (F := Bits)) (onTc (τ := Cert.DwdownKernel.τ) (Cert.DwdownKernel.main (F := Bits))) ⟨m, fun _ => 0, g⟩ (fun r => (∀ c : Dev Cert.DwdownKernel.nD,
      r.2.mem ((c.tc : Thread Cert.DwdownKernel.nD Cert.DwdownKernel.τ).loc Cert.DwdownKernel.main_arg0) = m ((c.tc : Thread Cert.DwdownKernel.nD Cert.DwdownKernel.τ).loc Cert.DwdownKernel.main_arg0)
      ∧ r.2.mem ((c.tc : Thread Cert.DwdownKernel.nD Cert.DwdownKernel.τ).loc Cert.DwdownKernel.main_arg1) = m ((c.tc : Thread Cert.DwdownKernel.nD Cert.DwdownKernel.τ).loc Cert.DwdownKernel.main_arg1))
      ∧ r.2.sem = fun _ => 0)

def quiescent_DwdownKernelIdeal [hDwdownKernelIdeal : Cert.DwdownKernelIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg), Pre_DwdownKernelIdeal m →
    θ_run (Cert.DwdownKernelIdeal.defs (F := Ideal)) (onTc (τ := Cert.DwdownKernelIdeal.τ) (Cert.DwdownKernelIdeal.main (F := Ideal))) ⟨m, fun _ => 0, g⟩ (fun r => (∀ c : Dev Cert.DwdownKernelIdeal.nD,
      r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
      ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ r.2.sem = fun _ => 0)

def quiescent_DwdownReferenceIdeal [hDwdownReferenceIdeal : Cert.DwdownReferenceIdeal.Facts] : Prop :=
  ∀ (m : (ℓ : Loc Cert.DwdownReferenceIdeal.nD Cert.DwdownReferenceIdeal.τ Cert.DwdownReferenceIdeal.sig) → Buf (Elt Ideal) ℓ) (g : Dev Cert.DwdownReferenceIdeal.nD → PrngReg), Pre_DwdownReferenceIdeal m →
    θ_run (Cert.DwdownReferenceIdeal.defs (F := Ideal)) (onTc (τ := Cert.DwdownReferenceIdeal.τ) (Cert.DwdownReferenceIdeal.main (F := Ideal))) ⟨m, fun _ => 0, g⟩ (fun r => (∀ c : Dev Cert.DwdownReferenceIdeal.nD,
      r.2.mem ((c.tc : Thread Cert.DwdownReferenceIdeal.nD Cert.DwdownReferenceIdeal.τ).loc Cert.DwdownReferenceIdeal.main_arg0) = m ((c.tc : Thread Cert.DwdownReferenceIdeal.nD Cert.DwdownReferenceIdeal.τ).loc Cert.DwdownReferenceIdeal.main_arg0)
      ∧ r.2.mem ((c.tc : Thread Cert.DwdownReferenceIdeal.nD Cert.DwdownReferenceIdeal.τ).loc Cert.DwdownReferenceIdeal.main_arg1) = m ((c.tc : Thread Cert.DwdownReferenceIdeal.nD Cert.DwdownReferenceIdeal.τ).loc Cert.DwdownReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Dh1Kernel [hDh1Kernel : Cert.Dh1Kernel.Facts] : Prop :=
  ∀ (m : (ℓ : Loc Cert.Dh1Kernel.nD Cert.Dh1Kernel.τ Cert.Dh1Kernel.sig) → Buf (Elt Bits) ℓ) (g : Dev Cert.Dh1Kernel.nD → PrngReg), Pre_Dh1Kernel m →
    θ_run (Cert.Dh1Kernel.defs (F := Bits)) (onTc (τ := Cert.Dh1Kernel.τ) (Cert.Dh1Kernel.main (F := Bits))) ⟨m, fun _ => 0, g⟩ (fun r => (∀ c : Dev Cert.Dh1Kernel.nD,
      r.2.mem ((c.tc : Thread Cert.Dh1Kernel.nD Cert.Dh1Kernel.τ).loc Cert.Dh1Kernel.main_arg0) = m ((c.tc : Thread Cert.Dh1Kernel.nD Cert.Dh1Kernel.τ).loc Cert.Dh1Kernel.main_arg0)
      ∧ r.2.mem ((c.tc : Thread Cert.Dh1Kernel.nD Cert.Dh1Kernel.τ).loc Cert.Dh1Kernel.main_arg1) = m ((c.tc : Thread Cert.Dh1Kernel.nD Cert.Dh1Kernel.τ).loc Cert.Dh1Kernel.main_arg1))
      ∧ r.2.sem = fun _ => 0)

def quiescent_Dh1KernelIdeal [hDh1KernelIdeal : Cert.Dh1KernelIdeal.Facts] : Prop :=
  ∀ (m : (ℓ : Loc Cert.Dh1KernelIdeal.nD Cert.Dh1KernelIdeal.τ Cert.Dh1KernelIdeal.sig) → Buf (Elt Ideal) ℓ) (g : Dev Cert.Dh1KernelIdeal.nD → PrngReg), Pre_Dh1KernelIdeal m →
    θ_run (Cert.Dh1KernelIdeal.defs (F := Ideal)) (onTc (τ := Cert.Dh1KernelIdeal.τ) (Cert.Dh1KernelIdeal.main (F := Ideal))) ⟨m, fun _ => 0, g⟩ (fun r => (∀ c : Dev Cert.Dh1KernelIdeal.nD,
      r.2.mem ((c.tc : Thread Cert.Dh1KernelIdeal.nD Cert.Dh1KernelIdeal.τ).loc Cert.Dh1KernelIdeal.main_arg0) = m ((c.tc : Thread Cert.Dh1KernelIdeal.nD Cert.Dh1KernelIdeal.τ).loc Cert.Dh1KernelIdeal.main_arg0)
      ∧ r.2.mem ((c.tc : Thread Cert.Dh1KernelIdeal.nD Cert.Dh1KernelIdeal.τ).loc Cert.Dh1KernelIdeal.main_arg1) = m ((c.tc : Thread Cert.Dh1KernelIdeal.nD Cert.Dh1KernelIdeal.τ).loc Cert.Dh1KernelIdeal.main_arg1))
      ∧ r.2.sem = fun _ => 0)

def quiescent_Dh1ReferenceIdeal [hDh1ReferenceIdeal : Cert.Dh1ReferenceIdeal.Facts] : Prop :=
  ∀ (m : (ℓ : Loc Cert.Dh1ReferenceIdeal.nD Cert.Dh1ReferenceIdeal.τ Cert.Dh1ReferenceIdeal.sig) → Buf (Elt Ideal) ℓ) (g : Dev Cert.Dh1ReferenceIdeal.nD → PrngReg), Pre_Dh1ReferenceIdeal m →
    θ_run (Cert.Dh1ReferenceIdeal.defs (F := Ideal)) (onTc (τ := Cert.Dh1ReferenceIdeal.τ) (Cert.Dh1ReferenceIdeal.main (F := Ideal))) ⟨m, fun _ => 0, g⟩ (fun r => (∀ c : Dev Cert.Dh1ReferenceIdeal.nD,
      r.2.mem ((c.tc : Thread Cert.Dh1ReferenceIdeal.nD Cert.Dh1ReferenceIdeal.τ).loc Cert.Dh1ReferenceIdeal.main_arg0) = m ((c.tc : Thread Cert.Dh1ReferenceIdeal.nD Cert.Dh1ReferenceIdeal.τ).loc Cert.Dh1ReferenceIdeal.main_arg0)
      ∧ r.2.mem ((c.tc : Thread Cert.Dh1ReferenceIdeal.nD Cert.Dh1ReferenceIdeal.τ).loc Cert.Dh1ReferenceIdeal.main_arg1) = m ((c.tc : Thread Cert.Dh1ReferenceIdeal.nD Cert.Dh1ReferenceIdeal.τ).loc Cert.Dh1ReferenceIdeal.main_arg1))
      ∧ r.2.sem = fun _ => 0)

def quiescent_DwinKernel [hDwinKernel : Cert.DwinKernel.Facts] : Prop :=
  ∀ (m : (ℓ : Loc Cert.DwinKernel.nD Cert.DwinKernel.τ Cert.DwinKernel.sig) → Buf (Elt Bits) ℓ) (g : Dev Cert.DwinKernel.nD → PrngReg), Pre_DwinKernel m →
    θ_run (Cert.DwinKernel.defs (F := Bits)) (onTc (τ := Cert.DwinKernel.τ) (Cert.DwinKernel.main (F := Bits))) ⟨m, fun _ => 0, g⟩ (fun r => (∀ c : Dev Cert.DwinKernel.nD,
      r.2.mem ((c.tc : Thread Cert.DwinKernel.nD Cert.DwinKernel.τ).loc Cert.DwinKernel.main_arg0) = m ((c.tc : Thread Cert.DwinKernel.nD Cert.DwinKernel.τ).loc Cert.DwinKernel.main_arg0)
      ∧ r.2.mem ((c.tc : Thread Cert.DwinKernel.nD Cert.DwinKernel.τ).loc Cert.DwinKernel.main_arg1) = m ((c.tc : Thread Cert.DwinKernel.nD Cert.DwinKernel.τ).loc Cert.DwinKernel.main_arg1))
      ∧ r.2.sem = fun _ => 0)

def quiescent_DwinKernelIdeal [hDwinKernelIdeal : Cert.DwinKernelIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg), Pre_DwinKernelIdeal m →
    θ_run (Cert.DwinKernelIdeal.defs (F := Ideal)) (onTc (τ := Cert.DwinKernelIdeal.τ) (Cert.DwinKernelIdeal.main (F := Ideal))) ⟨m, fun _ => 0, g⟩ (fun r => (∀ c : Dev Cert.DwinKernelIdeal.nD,
      r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
      ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_DmixKernel [hDmixKernel : Cert.DmixKernel.Facts] : Prop :=
  ∀ (m : (ℓ : Loc Cert.DmixKernel.nD Cert.DmixKernel.τ Cert.DmixKernel.sig) → Buf (Elt Bits) ℓ) (g : Dev Cert.DmixKernel.nD → PrngReg), Pre_DmixKernel m →
    θ_run (Cert.DmixKernel.defs (F := Bits)) (onTc (τ := Cert.DmixKernel.τ) (Cert.DmixKernel.main (F := Bits))) ⟨m, fun _ => 0, g⟩ (fun r => (∀ c : Dev Cert.DmixKernel.nD,
      r.2.mem ((c.tc : Thread Cert.DmixKernel.nD Cert.DmixKernel.τ).loc Cert.DmixKernel.main_arg0) = m ((c.tc : Thread Cert.DmixKernel.nD Cert.DmixKernel.τ).loc Cert.DmixKernel.main_arg0)
      ∧ r.2.mem ((c.tc : Thread Cert.DmixKernel.nD Cert.DmixKernel.τ).loc Cert.DmixKernel.main_arg1) = m ((c.tc : Thread Cert.DmixKernel.nD Cert.DmixKernel.τ).loc Cert.DmixKernel.main_arg1))
      ∧ r.2.sem = fun _ => 0)

def quiescent_DmixKernelIdeal [hDmixKernelIdeal : Cert.DmixKernelIdeal.Facts] : Prop :=
  ∀ (m : (ℓ : Loc Cert.DmixKernelIdeal.nD Cert.DmixKernelIdeal.τ Cert.DmixKernelIdeal.sig) → Buf (Elt Ideal) ℓ) (g : Dev Cert.DmixKernelIdeal.nD → PrngReg), Pre_DmixKernelIdeal m →
    θ_run (Cert.DmixKernelIdeal.defs (F := Ideal)) (onTc (τ := Cert.DmixKernelIdeal.τ) (Cert.DmixKernelIdeal.main (F := Ideal))) ⟨m, fun _ => 0, g⟩ (fun r => (∀ c : Dev Cert.DmixKernelIdeal.nD,
      r.2.mem ((c.tc : Thread Cert.DmixKernelIdeal.nD Cert.DmixKernelIdeal.τ).loc Cert.DmixKernelIdeal.main_arg0) = m ((c.tc : Thread Cert.DmixKernelIdeal.nD Cert.DmixKernelIdeal.τ).loc Cert.DmixKernelIdeal.main_arg0)
      ∧ r.2.mem ((c.tc : Thread Cert.DmixKernelIdeal.nD Cert.DmixKernelIdeal.τ).loc Cert.DmixKernelIdeal.main_arg1) = m ((c.tc : Thread Cert.DmixKernelIdeal.nD Cert.DmixKernelIdeal.τ).loc Cert.DmixKernelIdeal.main_arg1))
      ∧ r.2.sem = fun _ => 0)

def quiescent_DmixReferenceIdeal [hDmixReferenceIdeal : Cert.DmixReferenceIdeal.Facts] : Prop :=
  ∀ (m : (ℓ : Loc Cert.DmixReferenceIdeal.nD Cert.DmixReferenceIdeal.τ Cert.DmixReferenceIdeal.sig) → Buf (Elt Ideal) ℓ) (g : Dev Cert.DmixReferenceIdeal.nD → PrngReg), Pre_DmixReferenceIdeal m →
    θ_run (Cert.DmixReferenceIdeal.defs (F := Ideal)) (onTc (τ := Cert.DmixReferenceIdeal.τ) (Cert.DmixReferenceIdeal.main (F := Ideal))) ⟨m, fun _ => 0, g⟩ (fun r => (∀ c : Dev Cert.DmixReferenceIdeal.nD,
      r.2.mem ((c.tc : Thread Cert.DmixReferenceIdeal.nD Cert.DmixReferenceIdeal.τ).loc Cert.DmixReferenceIdeal.main_arg0) = m ((c.tc : Thread Cert.DmixReferenceIdeal.nD Cert.DmixReferenceIdeal.τ).loc Cert.DmixReferenceIdeal.main_arg0)
      ∧ r.2.mem ((c.tc : Thread Cert.DmixReferenceIdeal.nD Cert.DmixReferenceIdeal.τ).loc Cert.DmixReferenceIdeal.main_arg1) = m ((c.tc : Thread Cert.DmixReferenceIdeal.nD Cert.DmixReferenceIdeal.τ).loc Cert.DmixReferenceIdeal.main_arg1))
      ∧ r.2.sem = fun _ => 0)

def quiescent_DwoutKernel [hDwoutKernel : Cert.DwoutKernel.Facts] : Prop :=
  ∀ (m : (ℓ : Loc Cert.DwoutKernel.nD Cert.DwoutKernel.τ Cert.DwoutKernel.sig) → Buf (Elt Bits) ℓ) (g : Dev Cert.DwoutKernel.nD → PrngReg), Pre_DwoutKernel m →
    θ_run (Cert.DwoutKernel.defs (F := Bits)) (onTc (τ := Cert.DwoutKernel.τ) (Cert.DwoutKernel.main (F := Bits))) ⟨m, fun _ => 0, g⟩ (fun r => (∀ c : Dev Cert.DwoutKernel.nD,
      r.2.mem ((c.tc : Thread Cert.DwoutKernel.nD Cert.DwoutKernel.τ).loc Cert.DwoutKernel.main_arg0) = m ((c.tc : Thread Cert.DwoutKernel.nD Cert.DwoutKernel.τ).loc Cert.DwoutKernel.main_arg0)
      ∧ r.2.mem ((c.tc : Thread Cert.DwoutKernel.nD Cert.DwoutKernel.τ).loc Cert.DwoutKernel.main_arg1) = m ((c.tc : Thread Cert.DwoutKernel.nD Cert.DwoutKernel.τ).loc Cert.DwoutKernel.main_arg1))
      ∧ r.2.sem = fun _ => 0)

def quiescent_DwoutKernelIdeal [hDwoutKernelIdeal : Cert.DwoutKernelIdeal.Facts] : Prop :=
  ∀ (m : (ℓ : Loc Cert.DwoutKernelIdeal.nD Cert.DwoutKernelIdeal.τ Cert.DwoutKernelIdeal.sig) → Buf (Elt Ideal) ℓ) (g : Dev Cert.DwoutKernelIdeal.nD → PrngReg), Pre_DwoutKernelIdeal m →
    θ_run (Cert.DwoutKernelIdeal.defs (F := Ideal)) (onTc (τ := Cert.DwoutKernelIdeal.τ) (Cert.DwoutKernelIdeal.main (F := Ideal))) ⟨m, fun _ => 0, g⟩ (fun r => (∀ c : Dev Cert.DwoutKernelIdeal.nD,
      r.2.mem ((c.tc : Thread Cert.DwoutKernelIdeal.nD Cert.DwoutKernelIdeal.τ).loc Cert.DwoutKernelIdeal.main_arg0) = m ((c.tc : Thread Cert.DwoutKernelIdeal.nD Cert.DwoutKernelIdeal.τ).loc Cert.DwoutKernelIdeal.main_arg0)
      ∧ r.2.mem ((c.tc : Thread Cert.DwoutKernelIdeal.nD Cert.DwoutKernelIdeal.τ).loc Cert.DwoutKernelIdeal.main_arg1) = m ((c.tc : Thread Cert.DwoutKernelIdeal.nD Cert.DwoutKernelIdeal.τ).loc Cert.DwoutKernelIdeal.main_arg1))
      ∧ r.2.sem = fun _ => 0)

def quiescent_DwoutReferenceIdeal [hDwoutReferenceIdeal : Cert.DwoutReferenceIdeal.Facts] : Prop :=
  ∀ (m : (ℓ : Loc Cert.DwoutReferenceIdeal.nD Cert.DwoutReferenceIdeal.τ Cert.DwoutReferenceIdeal.sig) → Buf (Elt Ideal) ℓ) (g : Dev Cert.DwoutReferenceIdeal.nD → PrngReg), Pre_DwoutReferenceIdeal m →
    θ_run (Cert.DwoutReferenceIdeal.defs (F := Ideal)) (onTc (τ := Cert.DwoutReferenceIdeal.τ) (Cert.DwoutReferenceIdeal.main (F := Ideal))) ⟨m, fun _ => 0, g⟩ (fun r => (∀ c : Dev Cert.DwoutReferenceIdeal.nD,
      r.2.mem ((c.tc : Thread Cert.DwoutReferenceIdeal.nD Cert.DwoutReferenceIdeal.τ).loc Cert.DwoutReferenceIdeal.main_arg0) = m ((c.tc : Thread Cert.DwoutReferenceIdeal.nD Cert.DwoutReferenceIdeal.τ).loc Cert.DwoutReferenceIdeal.main_arg0)
      ∧ r.2.mem ((c.tc : Thread Cert.DwoutReferenceIdeal.nD Cert.DwoutReferenceIdeal.τ).loc Cert.DwoutReferenceIdeal.main_arg1) = m ((c.tc : Thread Cert.DwoutReferenceIdeal.nD Cert.DwoutReferenceIdeal.τ).loc Cert.DwoutReferenceIdeal.main_arg1))
      ∧ r.2.sem = fun _ => 0)

def quiescent_ScanKernel [hScanKernel : Cert.ScanKernel.Facts] : Prop :=
  ∀ (m : (ℓ : Loc Cert.ScanKernel.nD Cert.ScanKernel.τ Cert.ScanKernel.sig) → Buf (Elt Bits) ℓ) (g : Dev Cert.ScanKernel.nD → PrngReg), Pre_ScanKernel m →
    θ_run (Cert.ScanKernel.defs (F := Bits)) (onTc (τ := Cert.ScanKernel.τ) (Cert.ScanKernel.main (F := Bits))) ⟨m, fun _ => 0, g⟩ (fun r => (∀ c : Dev Cert.ScanKernel.nD,
      r.2.mem ((c.tc : Thread Cert.ScanKernel.nD Cert.ScanKernel.τ).loc Cert.ScanKernel.main_arg0) = m ((c.tc : Thread Cert.ScanKernel.nD Cert.ScanKernel.τ).loc Cert.ScanKernel.main_arg0)
      ∧ r.2.mem ((c.tc : Thread Cert.ScanKernel.nD Cert.ScanKernel.τ).loc Cert.ScanKernel.main_arg1) = m ((c.tc : Thread Cert.ScanKernel.nD Cert.ScanKernel.τ).loc Cert.ScanKernel.main_arg1)
      ∧ r.2.mem ((c.tc : Thread Cert.ScanKernel.nD Cert.ScanKernel.τ).loc Cert.ScanKernel.main_arg2) = m ((c.tc : Thread Cert.ScanKernel.nD Cert.ScanKernel.τ).loc Cert.ScanKernel.main_arg2)
      ∧ r.2.mem ((c.tc : Thread Cert.ScanKernel.nD Cert.ScanKernel.τ).loc Cert.ScanKernel.main_arg3) = m ((c.tc : Thread Cert.ScanKernel.nD Cert.ScanKernel.τ).loc Cert.ScanKernel.main_arg3)
      ∧ r.2.mem ((c.tc : Thread Cert.ScanKernel.nD Cert.ScanKernel.τ).loc Cert.ScanKernel.main_arg4) = m ((c.tc : Thread Cert.ScanKernel.nD Cert.ScanKernel.τ).loc Cert.ScanKernel.main_arg4)
      ∧ r.2.mem ((c.tc : Thread Cert.ScanKernel.nD Cert.ScanKernel.τ).loc Cert.ScanKernel.main_arg5) = m ((c.tc : Thread Cert.ScanKernel.nD Cert.ScanKernel.τ).loc Cert.ScanKernel.main_arg5)
      ∧ r.2.mem ((c.tc : Thread Cert.ScanKernel.nD Cert.ScanKernel.τ).loc Cert.ScanKernel.main_arg6) = m ((c.tc : Thread Cert.ScanKernel.nD Cert.ScanKernel.τ).loc Cert.ScanKernel.main_arg6)
      ∧ r.2.mem ((c.tc : Thread Cert.ScanKernel.nD Cert.ScanKernel.τ).loc Cert.ScanKernel.main_arg7) = m ((c.tc : Thread Cert.ScanKernel.nD Cert.ScanKernel.τ).loc Cert.ScanKernel.main_arg7)
      ∧ r.2.mem ((c.tc : Thread Cert.ScanKernel.nD Cert.ScanKernel.τ).loc Cert.ScanKernel.main_arg8) = m ((c.tc : Thread Cert.ScanKernel.nD Cert.ScanKernel.τ).loc Cert.ScanKernel.main_arg8)
      ∧ r.2.mem ((c.tc : Thread Cert.ScanKernel.nD Cert.ScanKernel.τ).loc Cert.ScanKernel.main_arg9) = m ((c.tc : Thread Cert.ScanKernel.nD Cert.ScanKernel.τ).loc Cert.ScanKernel.main_arg9))
      ∧ r.2.sem = fun _ => 0)

def quiescent_ScanKernelIdeal [hScanKernelIdeal : Cert.ScanKernelIdeal.Facts] : Prop :=
  ∀ (m : (ℓ : Loc Cert.ScanKernelIdeal.nD Cert.ScanKernelIdeal.τ Cert.ScanKernelIdeal.sig) → Buf (Elt Ideal) ℓ) (g : Dev Cert.ScanKernelIdeal.nD → PrngReg), Pre_ScanKernelIdeal m →
    θ_run (Cert.ScanKernelIdeal.defs (F := Ideal)) (onTc (τ := Cert.ScanKernelIdeal.τ) (Cert.ScanKernelIdeal.main (F := Ideal))) ⟨m, fun _ => 0, g⟩ (fun r => (∀ c : Dev Cert.ScanKernelIdeal.nD,
      r.2.mem ((c.tc : Thread Cert.ScanKernelIdeal.nD Cert.ScanKernelIdeal.τ).loc Cert.ScanKernelIdeal.main_arg0) = m ((c.tc : Thread Cert.ScanKernelIdeal.nD Cert.ScanKernelIdeal.τ).loc Cert.ScanKernelIdeal.main_arg0)
      ∧ r.2.mem ((c.tc : Thread Cert.ScanKernelIdeal.nD Cert.ScanKernelIdeal.τ).loc Cert.ScanKernelIdeal.main_arg1) = m ((c.tc : Thread Cert.ScanKernelIdeal.nD Cert.ScanKernelIdeal.τ).loc Cert.ScanKernelIdeal.main_arg1)
      ∧ r.2.mem ((c.tc : Thread Cert.ScanKernelIdeal.nD Cert.ScanKernelIdeal.τ).loc Cert.ScanKernelIdeal.main_arg2) = m ((c.tc : Thread Cert.ScanKernelIdeal.nD Cert.ScanKernelIdeal.τ).loc Cert.ScanKernelIdeal.main_arg2)
      ∧ r.2.mem ((c.tc : Thread Cert.ScanKernelIdeal.nD Cert.ScanKernelIdeal.τ).loc Cert.ScanKernelIdeal.main_arg3) = m ((c.tc : Thread Cert.ScanKernelIdeal.nD Cert.ScanKernelIdeal.τ).loc Cert.ScanKernelIdeal.main_arg3)
      ∧ r.2.mem ((c.tc : Thread Cert.ScanKernelIdeal.nD Cert.ScanKernelIdeal.τ).loc Cert.ScanKernelIdeal.main_arg4) = m ((c.tc : Thread Cert.ScanKernelIdeal.nD Cert.ScanKernelIdeal.τ).loc Cert.ScanKernelIdeal.main_arg4)
      ∧ r.2.mem ((c.tc : Thread Cert.ScanKernelIdeal.nD Cert.ScanKernelIdeal.τ).loc Cert.ScanKernelIdeal.main_arg5) = m ((c.tc : Thread Cert.ScanKernelIdeal.nD Cert.ScanKernelIdeal.τ).loc Cert.ScanKernelIdeal.main_arg5)
      ∧ r.2.mem ((c.tc : Thread Cert.ScanKernelIdeal.nD Cert.ScanKernelIdeal.τ).loc Cert.ScanKernelIdeal.main_arg6) = m ((c.tc : Thread Cert.ScanKernelIdeal.nD Cert.ScanKernelIdeal.τ).loc Cert.ScanKernelIdeal.main_arg6)
      ∧ r.2.mem ((c.tc : Thread Cert.ScanKernelIdeal.nD Cert.ScanKernelIdeal.τ).loc Cert.ScanKernelIdeal.main_arg7) = m ((c.tc : Thread Cert.ScanKernelIdeal.nD Cert.ScanKernelIdeal.τ).loc Cert.ScanKernelIdeal.main_arg7)
      ∧ r.2.mem ((c.tc : Thread Cert.ScanKernelIdeal.nD Cert.ScanKernelIdeal.τ).loc Cert.ScanKernelIdeal.main_arg8) = m ((c.tc : Thread Cert.ScanKernelIdeal.nD Cert.ScanKernelIdeal.τ).loc Cert.ScanKernelIdeal.main_arg8)
      ∧ r.2.mem ((c.tc : Thread Cert.ScanKernelIdeal.nD Cert.ScanKernelIdeal.τ).loc Cert.ScanKernelIdeal.main_arg9) = m ((c.tc : Thread Cert.ScanKernelIdeal.nD Cert.ScanKernelIdeal.τ).loc Cert.ScanKernelIdeal.main_arg9))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8)
      ∧ r.2.mem ((c.tc : Thread Cert.ScanReferenceIdeal.nD Cert.ScanReferenceIdeal.τ).loc Cert.ScanReferenceIdeal.main_arg9) = m ((c.tc : Thread Cert.ScanReferenceIdeal.nD Cert.ScanReferenceIdeal.τ).loc Cert.ScanReferenceIdeal.main_arg9))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_DnormKernel [hDnormKernel : Cert.DnormKernel.Facts] : Prop :=
  ∀ (m : (ℓ : Loc Cert.DnormKernel.nD Cert.DnormKernel.τ Cert.DnormKernel.sig) → Buf (Elt Bits) ℓ) (g : Dev Cert.DnormKernel.nD → PrngReg), Pre_DnormKernel m →
    θ_run (Cert.DnormKernel.defs (F := Bits)) (onTc (τ := Cert.DnormKernel.τ) (Cert.DnormKernel.main (F := Bits))) ⟨m, fun _ => 0, g⟩ (fun r => (∀ c : Dev Cert.DnormKernel.nD,
      r.2.mem ((c.tc : Thread Cert.DnormKernel.nD Cert.DnormKernel.τ).loc Cert.DnormKernel.main_arg0) = m ((c.tc : Thread Cert.DnormKernel.nD Cert.DnormKernel.τ).loc Cert.DnormKernel.main_arg0)
      ∧ r.2.mem ((c.tc : Thread Cert.DnormKernel.nD Cert.DnormKernel.τ).loc Cert.DnormKernel.main_arg1) = m ((c.tc : Thread Cert.DnormKernel.nD Cert.DnormKernel.τ).loc Cert.DnormKernel.main_arg1)
      ∧ r.2.mem ((c.tc : Thread Cert.DnormKernel.nD Cert.DnormKernel.τ).loc Cert.DnormKernel.main_arg2) = m ((c.tc : Thread Cert.DnormKernel.nD Cert.DnormKernel.τ).loc Cert.DnormKernel.main_arg2)
      ∧ r.2.mem ((c.tc : Thread Cert.DnormKernel.nD Cert.DnormKernel.τ).loc Cert.DnormKernel.main_arg3) = m ((c.tc : Thread Cert.DnormKernel.nD Cert.DnormKernel.τ).loc Cert.DnormKernel.main_arg3))
      ∧ r.2.sem = fun _ => 0)

def quiescent_DnormKernelIdeal [hDnormKernelIdeal : Cert.DnormKernelIdeal.Facts] : Prop :=
  ∀ (m : (ℓ : Loc Cert.DnormKernelIdeal.nD Cert.DnormKernelIdeal.τ Cert.DnormKernelIdeal.sig) → Buf (Elt Ideal) ℓ) (g : Dev Cert.DnormKernelIdeal.nD → PrngReg), Pre_DnormKernelIdeal m →
    θ_run (Cert.DnormKernelIdeal.defs (F := Ideal)) (onTc (τ := Cert.DnormKernelIdeal.τ) (Cert.DnormKernelIdeal.main (F := Ideal))) ⟨m, fun _ => 0, g⟩ (fun r => (∀ c : Dev Cert.DnormKernelIdeal.nD,
      r.2.mem ((c.tc : Thread Cert.DnormKernelIdeal.nD Cert.DnormKernelIdeal.τ).loc Cert.DnormKernelIdeal.main_arg0) = m ((c.tc : Thread Cert.DnormKernelIdeal.nD Cert.DnormKernelIdeal.τ).loc Cert.DnormKernelIdeal.main_arg0)
      ∧ r.2.mem ((c.tc : Thread Cert.DnormKernelIdeal.nD Cert.DnormKernelIdeal.τ).loc Cert.DnormKernelIdeal.main_arg1) = m ((c.tc : Thread Cert.DnormKernelIdeal.nD Cert.DnormKernelIdeal.τ).loc Cert.DnormKernelIdeal.main_arg1)
      ∧ r.2.mem ((c.tc : Thread Cert.DnormKernelIdeal.nD Cert.DnormKernelIdeal.τ).loc Cert.DnormKernelIdeal.main_arg2) = m ((c.tc : Thread Cert.DnormKernelIdeal.nD Cert.DnormKernelIdeal.τ).loc Cert.DnormKernelIdeal.main_arg2)
      ∧ r.2.mem ((c.tc : Thread Cert.DnormKernelIdeal.nD Cert.DnormKernelIdeal.τ).loc Cert.DnormKernelIdeal.main_arg3) = m ((c.tc : Thread Cert.DnormKernelIdeal.nD Cert.DnormKernelIdeal.τ).loc Cert.DnormKernelIdeal.main_arg3))
      ∧ r.2.sem = fun _ => 0)

def quiescent_DnormReferenceIdeal [hDnormReferenceIdeal : Cert.DnormReferenceIdeal.Facts] : Prop :=
  ∀ (m : (ℓ : Loc Cert.DnormReferenceIdeal.nD Cert.DnormReferenceIdeal.τ Cert.DnormReferenceIdeal.sig) → Buf (Elt Ideal) ℓ) (g : Dev Cert.DnormReferenceIdeal.nD → PrngReg), Pre_DnormReferenceIdeal m →
    θ_run (Cert.DnormReferenceIdeal.defs (F := Ideal)) (onTc (τ := Cert.DnormReferenceIdeal.τ) (Cert.DnormReferenceIdeal.main (F := Ideal))) ⟨m, fun _ => 0, g⟩ (fun r => (∀ c : Dev Cert.DnormReferenceIdeal.nD,
      r.2.mem ((c.tc : Thread Cert.DnormReferenceIdeal.nD Cert.DnormReferenceIdeal.τ).loc Cert.DnormReferenceIdeal.main_arg0) = m ((c.tc : Thread Cert.DnormReferenceIdeal.nD Cert.DnormReferenceIdeal.τ).loc Cert.DnormReferenceIdeal.main_arg0)
      ∧ r.2.mem ((c.tc : Thread Cert.DnormReferenceIdeal.nD Cert.DnormReferenceIdeal.τ).loc Cert.DnormReferenceIdeal.main_arg1) = m ((c.tc : Thread Cert.DnormReferenceIdeal.nD Cert.DnormReferenceIdeal.τ).loc Cert.DnormReferenceIdeal.main_arg1)
      ∧ r.2.mem ((c.tc : Thread Cert.DnormReferenceIdeal.nD Cert.DnormReferenceIdeal.τ).loc Cert.DnormReferenceIdeal.main_arg2) = m ((c.tc : Thread Cert.DnormReferenceIdeal.nD Cert.DnormReferenceIdeal.τ).loc Cert.DnormReferenceIdeal.main_arg2)
      ∧ r.2.mem ((c.tc : Thread Cert.DnormReferenceIdeal.nD Cert.DnormReferenceIdeal.τ).loc Cert.DnormReferenceIdeal.main_arg3) = m ((c.tc : Thread Cert.DnormReferenceIdeal.nD Cert.DnormReferenceIdeal.τ).loc Cert.DnormReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_DconvKernel [hDconvKernel : Cert.DconvKernel.Facts] : Prop :=
  ∀ (m : (ℓ : Loc Cert.DconvKernel.nD Cert.DconvKernel.τ Cert.DconvKernel.sig) → Buf (Elt Bits) ℓ) (g : Dev Cert.DconvKernel.nD → PrngReg), Pre_DconvKernel m →
    θ_run (Cert.DconvKernel.defs (F := Bits)) (onTc (τ := Cert.DconvKernel.τ) (Cert.DconvKernel.main (F := Bits))) ⟨m, fun _ => 0, g⟩ (fun r => (∀ c : Dev Cert.DconvKernel.nD,
      r.2.mem ((c.tc : Thread Cert.DconvKernel.nD Cert.DconvKernel.τ).loc Cert.DconvKernel.main_arg0) = m ((c.tc : Thread Cert.DconvKernel.nD Cert.DconvKernel.τ).loc Cert.DconvKernel.main_arg0)
      ∧ r.2.mem ((c.tc : Thread Cert.DconvKernel.nD Cert.DconvKernel.τ).loc Cert.DconvKernel.main_arg1) = m ((c.tc : Thread Cert.DconvKernel.nD Cert.DconvKernel.τ).loc Cert.DconvKernel.main_arg1)
      ∧ r.2.mem ((c.tc : Thread Cert.DconvKernel.nD Cert.DconvKernel.τ).loc Cert.DconvKernel.main_arg2) = m ((c.tc : Thread Cert.DconvKernel.nD Cert.DconvKernel.τ).loc Cert.DconvKernel.main_arg2))
      ∧ r.2.sem = fun _ => 0)

def quiescent_DconvKernelIdeal [hDconvKernelIdeal : Cert.DconvKernelIdeal.Facts] : Prop :=
  ∀ (m : (ℓ : Loc Cert.DconvKernelIdeal.nD Cert.DconvKernelIdeal.τ Cert.DconvKernelIdeal.sig) → Buf (Elt Ideal) ℓ) (g : Dev Cert.DconvKernelIdeal.nD → PrngReg), Pre_DconvKernelIdeal m →
    θ_run (Cert.DconvKernelIdeal.defs (F := Ideal)) (onTc (τ := Cert.DconvKernelIdeal.τ) (Cert.DconvKernelIdeal.main (F := Ideal))) ⟨m, fun _ => 0, g⟩ (fun r => (∀ c : Dev Cert.DconvKernelIdeal.nD,
      r.2.mem ((c.tc : Thread Cert.DconvKernelIdeal.nD Cert.DconvKernelIdeal.τ).loc Cert.DconvKernelIdeal.main_arg0) = m ((c.tc : Thread Cert.DconvKernelIdeal.nD Cert.DconvKernelIdeal.τ).loc Cert.DconvKernelIdeal.main_arg0)
      ∧ r.2.mem ((c.tc : Thread Cert.DconvKernelIdeal.nD Cert.DconvKernelIdeal.τ).loc Cert.DconvKernelIdeal.main_arg1) = m ((c.tc : Thread Cert.DconvKernelIdeal.nD Cert.DconvKernelIdeal.τ).loc Cert.DconvKernelIdeal.main_arg1)
      ∧ r.2.mem ((c.tc : Thread Cert.DconvKernelIdeal.nD Cert.DconvKernelIdeal.τ).loc Cert.DconvKernelIdeal.main_arg2) = m ((c.tc : Thread Cert.DconvKernelIdeal.nD Cert.DconvKernelIdeal.τ).loc Cert.DconvKernelIdeal.main_arg2))
      ∧ r.2.sem = fun _ => 0)

def quiescent_DconvReferenceIdeal [hDconvReferenceIdeal : Cert.DconvReferenceIdeal.Facts] : Prop :=
  ∀ (m : (ℓ : Loc Cert.DconvReferenceIdeal.nD Cert.DconvReferenceIdeal.τ Cert.DconvReferenceIdeal.sig) → Buf (Elt Ideal) ℓ) (g : Dev Cert.DconvReferenceIdeal.nD → PrngReg), Pre_DconvReferenceIdeal m →
    θ_run (Cert.DconvReferenceIdeal.defs (F := Ideal)) (onTc (τ := Cert.DconvReferenceIdeal.τ) (Cert.DconvReferenceIdeal.main (F := Ideal))) ⟨m, fun _ => 0, g⟩ (fun r => (∀ c : Dev Cert.DconvReferenceIdeal.nD,
      r.2.mem ((c.tc : Thread Cert.DconvReferenceIdeal.nD Cert.DconvReferenceIdeal.τ).loc Cert.DconvReferenceIdeal.main_arg0) = m ((c.tc : Thread Cert.DconvReferenceIdeal.nD Cert.DconvReferenceIdeal.τ).loc Cert.DconvReferenceIdeal.main_arg0)
      ∧ r.2.mem ((c.tc : Thread Cert.DconvReferenceIdeal.nD Cert.DconvReferenceIdeal.τ).loc Cert.DconvReferenceIdeal.main_arg1) = m ((c.tc : Thread Cert.DconvReferenceIdeal.nD Cert.DconvReferenceIdeal.τ).loc Cert.DconvReferenceIdeal.main_arg1)
      ∧ r.2.mem ((c.tc : Thread Cert.DconvReferenceIdeal.nD Cert.DconvReferenceIdeal.τ).loc Cert.DconvReferenceIdeal.main_arg2) = m ((c.tc : Thread Cert.DconvReferenceIdeal.nD Cert.DconvReferenceIdeal.τ).loc Cert.DconvReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DactKernel_DactKernelIdeal : Prop :=
  True

def algebraic_DactKernelIdeal_DactReferenceIdeal [hDactKernelIdeal : Cert.DactKernelIdeal.Facts] [hDactReferenceIdeal : Cert.DactReferenceIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)
      ∧ m' ((c.tc : Thread Cert.DactReferenceIdeal.nD Cert.DactReferenceIdeal.τ).loc Cert.DactReferenceIdeal.main_arg2) = m ((c.tc : Thread Cert.DactKernelIdeal.nD Cert.DactKernelIdeal.τ).loc Cert.DactKernelIdeal.main_arg2)) →
    ∃ (v0 : (c : Dev Cert.DactKernelIdeal.nD) → Buf (Elt Ideal) ((c.tc : Thread Cert.DactKernelIdeal.nD Cert.DactKernelIdeal.τ).loc Cert.DactKernelIdeal.main_v0)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v0) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
          ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v16) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2))

def preserves_DwguKernel_DwguKernelIdeal : Prop :=
  True

def algebraic_DwguKernelIdeal_DwguReferenceIdeal [hDwguKernelIdeal : Cert.DwguKernelIdeal.Facts] [hDwguReferenceIdeal : Cert.DwguReferenceIdeal.Facts] : Prop :=
  ∀ (m : (ℓ : Loc Cert.DwguKernelIdeal.nD Cert.DwguKernelIdeal.τ Cert.DwguKernelIdeal.sig) → Buf (Elt Ideal) ℓ) (g : Dev Cert.DwguKernelIdeal.nD → PrngReg)
    (m' : (ℓ : Loc Cert.DwguReferenceIdeal.nD Cert.DwguReferenceIdeal.τ Cert.DwguReferenceIdeal.sig) → Buf (Elt Ideal) ℓ) (g' : Dev Cert.DwguReferenceIdeal.nD → PrngReg), Pre_DwguKernelIdeal m →
    (∀ c : Dev Cert.DwguKernelIdeal.nD,
      m' ((c.tc : Thread Cert.DwguReferenceIdeal.nD Cert.DwguReferenceIdeal.τ).loc Cert.DwguReferenceIdeal.main_arg0) = m ((c.tc : Thread Cert.DwguKernelIdeal.nD Cert.DwguKernelIdeal.τ).loc Cert.DwguKernelIdeal.main_arg0)
      ∧ m' ((c.tc : Thread Cert.DwguReferenceIdeal.nD Cert.DwguReferenceIdeal.τ).loc Cert.DwguReferenceIdeal.main_arg1) = m ((c.tc : Thread Cert.DwguKernelIdeal.nD Cert.DwguKernelIdeal.τ).loc Cert.DwguKernelIdeal.main_arg1)) →
    ∃ (v0 : (c : Dev Cert.DwguKernelIdeal.nD) → Buf (Elt Ideal) ((c.tc : Thread Cert.DwguKernelIdeal.nD Cert.DwguKernelIdeal.τ).loc Cert.DwguKernelIdeal.main_v0)),
      θ_run (Cert.DwguKernelIdeal.defs (F := Ideal)) (onTc (τ := Cert.DwguKernelIdeal.τ) (Cert.DwguKernelIdeal.main (F := Ideal))) ⟨m, fun _ => 0, g⟩ (fun r => ∀ c : Dev Cert.DwguKernelIdeal.nD,
          r.2.mem ((c.tc : Thread Cert.DwguKernelIdeal.nD Cert.DwguKernelIdeal.τ).loc Cert.DwguKernelIdeal.main_v0) = v0 c
          ∧ r.2.mem ((c.tc : Thread Cert.DwguKernelIdeal.nD Cert.DwguKernelIdeal.τ).loc Cert.DwguKernelIdeal.main_arg0) = m ((c.tc : Thread Cert.DwguKernelIdeal.nD Cert.DwguKernelIdeal.τ).loc Cert.DwguKernelIdeal.main_arg0)
          ∧ r.2.mem ((c.tc : Thread Cert.DwguKernelIdeal.nD Cert.DwguKernelIdeal.τ).loc Cert.DwguKernelIdeal.main_arg1) = m ((c.tc : Thread Cert.DwguKernelIdeal.nD Cert.DwguKernelIdeal.τ).loc Cert.DwguKernelIdeal.main_arg1))
      ∧ θ_run (Cert.DwguReferenceIdeal.defs (F := Ideal)) (onTc (τ := Cert.DwguReferenceIdeal.τ) (Cert.DwguReferenceIdeal.main (F := Ideal))) ⟨m', fun _ => 0, g'⟩ (fun r => ∀ c : Dev Cert.DwguReferenceIdeal.nD,
          r.2.mem ((c.tc : Thread Cert.DwguReferenceIdeal.nD Cert.DwguReferenceIdeal.τ).loc Cert.DwguReferenceIdeal.main_v15) = v0 c
          ∧ r.2.mem ((c.tc : Thread Cert.DwguReferenceIdeal.nD Cert.DwguReferenceIdeal.τ).loc Cert.DwguReferenceIdeal.main_arg0) = m' ((c.tc : Thread Cert.DwguReferenceIdeal.nD Cert.DwguReferenceIdeal.τ).loc Cert.DwguReferenceIdeal.main_arg0)
          ∧ r.2.mem ((c.tc : Thread Cert.DwguReferenceIdeal.nD Cert.DwguReferenceIdeal.τ).loc Cert.DwguReferenceIdeal.main_arg1) = m' ((c.tc : Thread Cert.DwguReferenceIdeal.nD Cert.DwguReferenceIdeal.τ).loc Cert.DwguReferenceIdeal.main_arg1))

def preserves_Dh2Kernel_Dh2KernelIdeal : Prop :=
  True

def algebraic_Dh2KernelIdeal_Dh2ReferenceIdeal [hDh2KernelIdeal : Cert.Dh2KernelIdeal.Facts] [hDh2ReferenceIdeal : Cert.Dh2ReferenceIdeal.Facts] : Prop :=
  ∀ (m : (ℓ : Loc Cert.Dh2KernelIdeal.nD Cert.Dh2KernelIdeal.τ Cert.Dh2KernelIdeal.sig) → Buf (Elt Ideal) ℓ) (g : Dev Cert.Dh2KernelIdeal.nD → PrngReg)
    (m' : (ℓ : Loc Cert.Dh2ReferenceIdeal.nD Cert.Dh2ReferenceIdeal.τ Cert.Dh2ReferenceIdeal.sig) → Buf (Elt Ideal) ℓ) (g' : Dev Cert.Dh2ReferenceIdeal.nD → PrngReg), Pre_Dh2KernelIdeal m →
    (∀ c : Dev Cert.Dh2KernelIdeal.nD,
      m' ((c.tc : Thread Cert.Dh2ReferenceIdeal.nD Cert.Dh2ReferenceIdeal.τ).loc Cert.Dh2ReferenceIdeal.main_arg0) = m ((c.tc : Thread Cert.Dh2KernelIdeal.nD Cert.Dh2KernelIdeal.τ).loc Cert.Dh2KernelIdeal.main_arg0)
      ∧ m' ((c.tc : Thread Cert.Dh2ReferenceIdeal.nD Cert.Dh2ReferenceIdeal.τ).loc Cert.Dh2ReferenceIdeal.main_arg1) = m ((c.tc : Thread Cert.Dh2KernelIdeal.nD Cert.Dh2KernelIdeal.τ).loc Cert.Dh2KernelIdeal.main_arg1)) →
    ∃ (v0 : (c : Dev Cert.Dh2KernelIdeal.nD) → Buf (Elt Ideal) ((c.tc : Thread Cert.Dh2KernelIdeal.nD Cert.Dh2KernelIdeal.τ).loc Cert.Dh2KernelIdeal.main_v0)),
      θ_run (Cert.Dh2KernelIdeal.defs (F := Ideal)) (onTc (τ := Cert.Dh2KernelIdeal.τ) (Cert.Dh2KernelIdeal.main (F := Ideal))) ⟨m, fun _ => 0, g⟩ (fun r => ∀ c : Dev Cert.Dh2KernelIdeal.nD,
          r.2.mem ((c.tc : Thread Cert.Dh2KernelIdeal.nD Cert.Dh2KernelIdeal.τ).loc Cert.Dh2KernelIdeal.main_v0) = v0 c
          ∧ r.2.mem ((c.tc : Thread Cert.Dh2KernelIdeal.nD Cert.Dh2KernelIdeal.τ).loc Cert.Dh2KernelIdeal.main_arg0) = m ((c.tc : Thread Cert.Dh2KernelIdeal.nD Cert.Dh2KernelIdeal.τ).loc Cert.Dh2KernelIdeal.main_arg0)
          ∧ r.2.mem ((c.tc : Thread Cert.Dh2KernelIdeal.nD Cert.Dh2KernelIdeal.τ).loc Cert.Dh2KernelIdeal.main_arg1) = m ((c.tc : Thread Cert.Dh2KernelIdeal.nD Cert.Dh2KernelIdeal.τ).loc Cert.Dh2KernelIdeal.main_arg1))
      ∧ θ_run (Cert.Dh2ReferenceIdeal.defs (F := Ideal)) (onTc (τ := Cert.Dh2ReferenceIdeal.τ) (Cert.Dh2ReferenceIdeal.main (F := Ideal))) ⟨m', fun _ => 0, g'⟩ (fun r => ∀ c : Dev Cert.Dh2ReferenceIdeal.nD,
          r.2.mem ((c.tc : Thread Cert.Dh2ReferenceIdeal.nD Cert.Dh2ReferenceIdeal.τ).loc Cert.Dh2ReferenceIdeal.main_v14) = v0 c
          ∧ r.2.mem ((c.tc : Thread Cert.Dh2ReferenceIdeal.nD Cert.Dh2ReferenceIdeal.τ).loc Cert.Dh2ReferenceIdeal.main_arg0) = m' ((c.tc : Thread Cert.Dh2ReferenceIdeal.nD Cert.Dh2ReferenceIdeal.τ).loc Cert.Dh2ReferenceIdeal.main_arg0)
          ∧ r.2.mem ((c.tc : Thread Cert.Dh2ReferenceIdeal.nD Cert.Dh2ReferenceIdeal.τ).loc Cert.Dh2ReferenceIdeal.main_arg1) = m' ((c.tc : Thread Cert.Dh2ReferenceIdeal.nD Cert.Dh2ReferenceIdeal.τ).loc Cert.Dh2ReferenceIdeal.main_arg1))

def preserves_GuKernel_GuKernelIdeal : Prop :=
  True

def algebraic_GuKernelIdeal_GuReferenceIdeal [hGuKernelIdeal : Cert.GuKernelIdeal.Facts] [hGuReferenceIdeal : Cert.GuReferenceIdeal.Facts] : Prop :=
  ∀ (m : (ℓ : Loc Cert.GuKernelIdeal.nD Cert.GuKernelIdeal.τ Cert.GuKernelIdeal.sig) → Buf (Elt Ideal) ℓ) (g : Dev Cert.GuKernelIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuKernelIdeal m →
    (∀ c : Dev Cert.GuKernelIdeal.nD,
      m' ((c.tc : Thread Cert.GuReferenceIdeal.nD Cert.GuReferenceIdeal.τ).loc Cert.GuReferenceIdeal.main_arg0) = m ((c.tc : Thread Cert.GuKernelIdeal.nD Cert.GuKernelIdeal.τ).loc Cert.GuKernelIdeal.main_arg0)
      ∧ m' ((c.tc : Thread Cert.GuReferenceIdeal.nD Cert.GuReferenceIdeal.τ).loc Cert.GuReferenceIdeal.main_arg1) = m ((c.tc : Thread Cert.GuKernelIdeal.nD Cert.GuKernelIdeal.τ).loc Cert.GuKernelIdeal.main_arg1)) →
    ∃ (v0 : (c : Dev Cert.GuKernelIdeal.nD) → Buf (Elt Ideal) ((c.tc : Thread Cert.GuKernelIdeal.nD Cert.GuKernelIdeal.τ).loc Cert.GuKernelIdeal.main_v0_0)) (v1 : (c : Dev Cert.GuKernelIdeal.nD) → Buf (Elt Ideal) ((c.tc : Thread Cert.GuKernelIdeal.nD Cert.GuKernelIdeal.τ).loc Cert.GuKernelIdeal.main_v0_1)),
      θ_run (Cert.GuKernelIdeal.defs (F := Ideal)) (onTc (τ := Cert.GuKernelIdeal.τ) (Cert.GuKernelIdeal.main (F := Ideal))) ⟨m, fun _ => 0, g⟩ (fun r => ∀ c : Dev Cert.GuKernelIdeal.nD,
          r.2.mem ((c.tc : Thread Cert.GuKernelIdeal.nD Cert.GuKernelIdeal.τ).loc Cert.GuKernelIdeal.main_v0_0) = v0 c
          ∧ r.2.mem ((c.tc : Thread Cert.GuKernelIdeal.nD Cert.GuKernelIdeal.τ).loc Cert.GuKernelIdeal.main_v0_1) = v1 c
          ∧ r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
          ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v10) = v0 c
          ∧ r.2.mem ((c.tc : Thread Cert.GuReferenceIdeal.nD Cert.GuReferenceIdeal.τ).loc Cert.GuReferenceIdeal.main_v14) = v1 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1))

def preserves_DwdownKernel_DwdownKernelIdeal : Prop :=
  True

def algebraic_DwdownKernelIdeal_DwdownReferenceIdeal [hDwdownKernelIdeal : Cert.DwdownKernelIdeal.Facts] [hDwdownReferenceIdeal : Cert.DwdownReferenceIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg)
    (m' : (ℓ : Loc Cert.DwdownReferenceIdeal.nD Cert.DwdownReferenceIdeal.τ Cert.DwdownReferenceIdeal.sig) → Buf (Elt Ideal) ℓ) (g' : Dev Cert.DwdownReferenceIdeal.nD → PrngReg), Pre_DwdownKernelIdeal m →
    (∀ c : Dev Cert.DwdownKernelIdeal.nD,
      m' ((c.tc : Thread Cert.DwdownReferenceIdeal.nD Cert.DwdownReferenceIdeal.τ).loc Cert.DwdownReferenceIdeal.main_arg0) = m ((c.tc : Thread Cert.DwdownKernelIdeal.nD Cert.DwdownKernelIdeal.τ).loc Cert.DwdownKernelIdeal.main_arg0)
      ∧ m' ((c.tc : Thread Cert.DwdownReferenceIdeal.nD Cert.DwdownReferenceIdeal.τ).loc Cert.DwdownReferenceIdeal.main_arg1) = m ((c.tc : Thread Cert.DwdownKernelIdeal.nD Cert.DwdownKernelIdeal.τ).loc Cert.DwdownKernelIdeal.main_arg1)) →
    ∃ (v0 : (c : Dev Cert.DwdownKernelIdeal.nD) → Buf (Elt Ideal) ((c.tc : Thread Cert.DwdownKernelIdeal.nD Cert.DwdownKernelIdeal.τ).loc Cert.DwdownKernelIdeal.main_v0)),
      θ_run (Cert.DwdownKernelIdeal.defs (F := Ideal)) (onTc (τ := Cert.DwdownKernelIdeal.τ) (Cert.DwdownKernelIdeal.main (F := Ideal))) ⟨m, fun _ => 0, g⟩ (fun r => ∀ c : Dev Cert.DwdownKernelIdeal.nD,
          r.2.mem ((c.tc : Thread Cert.DwdownKernelIdeal.nD Cert.DwdownKernelIdeal.τ).loc Cert.DwdownKernelIdeal.main_v0) = v0 c
          ∧ r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
          ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ θ_run (Cert.DwdownReferenceIdeal.defs (F := Ideal)) (onTc (τ := Cert.DwdownReferenceIdeal.τ) (Cert.DwdownReferenceIdeal.main (F := Ideal))) ⟨m', fun _ => 0, g'⟩ (fun r => ∀ c : Dev Cert.DwdownReferenceIdeal.nD,
          r.2.mem ((c.tc : Thread Cert.DwdownReferenceIdeal.nD Cert.DwdownReferenceIdeal.τ).loc Cert.DwdownReferenceIdeal.main_v8) = v0 c
          ∧ r.2.mem ((c.tc : Thread Cert.DwdownReferenceIdeal.nD Cert.DwdownReferenceIdeal.τ).loc Cert.DwdownReferenceIdeal.main_arg0) = m' ((c.tc : Thread Cert.DwdownReferenceIdeal.nD Cert.DwdownReferenceIdeal.τ).loc Cert.DwdownReferenceIdeal.main_arg0)
          ∧ r.2.mem ((c.tc : Thread Cert.DwdownReferenceIdeal.nD Cert.DwdownReferenceIdeal.τ).loc Cert.DwdownReferenceIdeal.main_arg1) = m' ((c.tc : Thread Cert.DwdownReferenceIdeal.nD Cert.DwdownReferenceIdeal.τ).loc Cert.DwdownReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v5) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Dh1Kernel_Dh1KernelIdeal : Prop :=
  True

def algebraic_Dh1KernelIdeal_Dh1ReferenceIdeal [hDh1KernelIdeal : Cert.Dh1KernelIdeal.Facts] [hDh1ReferenceIdeal : Cert.Dh1ReferenceIdeal.Facts] : Prop :=
  ∀ (m : (ℓ : Loc Cert.Dh1KernelIdeal.nD Cert.Dh1KernelIdeal.τ Cert.Dh1KernelIdeal.sig) → Buf (Elt Ideal) ℓ) (g : Dev Cert.Dh1KernelIdeal.nD → PrngReg)
    (m' : (ℓ : Loc Cert.Dh1ReferenceIdeal.nD Cert.Dh1ReferenceIdeal.τ Cert.Dh1ReferenceIdeal.sig) → Buf (Elt Ideal) ℓ) (g' : Dev Cert.Dh1ReferenceIdeal.nD → PrngReg), Pre_Dh1KernelIdeal m →
    (∀ c : Dev Cert.Dh1KernelIdeal.nD,
      m' ((c.tc : Thread Cert.Dh1ReferenceIdeal.nD Cert.Dh1ReferenceIdeal.τ).loc Cert.Dh1ReferenceIdeal.main_arg0) = m ((c.tc : Thread Cert.Dh1KernelIdeal.nD Cert.Dh1KernelIdeal.τ).loc Cert.Dh1KernelIdeal.main_arg0)
      ∧ m' ((c.tc : Thread Cert.Dh1ReferenceIdeal.nD Cert.Dh1ReferenceIdeal.τ).loc Cert.Dh1ReferenceIdeal.main_arg1) = m ((c.tc : Thread Cert.Dh1KernelIdeal.nD Cert.Dh1KernelIdeal.τ).loc Cert.Dh1KernelIdeal.main_arg1)) →
    ∃ (v0 : (c : Dev Cert.Dh1KernelIdeal.nD) → Buf (Elt Ideal) ((c.tc : Thread Cert.Dh1KernelIdeal.nD Cert.Dh1KernelIdeal.τ).loc Cert.Dh1KernelIdeal.main_v0)),
      θ_run (Cert.Dh1KernelIdeal.defs (F := Ideal)) (onTc (τ := Cert.Dh1KernelIdeal.τ) (Cert.Dh1KernelIdeal.main (F := Ideal))) ⟨m, fun _ => 0, g⟩ (fun r => ∀ c : Dev Cert.Dh1KernelIdeal.nD,
          r.2.mem ((c.tc : Thread Cert.Dh1KernelIdeal.nD Cert.Dh1KernelIdeal.τ).loc Cert.Dh1KernelIdeal.main_v0) = v0 c
          ∧ r.2.mem ((c.tc : Thread Cert.Dh1KernelIdeal.nD Cert.Dh1KernelIdeal.τ).loc Cert.Dh1KernelIdeal.main_arg0) = m ((c.tc : Thread Cert.Dh1KernelIdeal.nD Cert.Dh1KernelIdeal.τ).loc Cert.Dh1KernelIdeal.main_arg0)
          ∧ r.2.mem ((c.tc : Thread Cert.Dh1KernelIdeal.nD Cert.Dh1KernelIdeal.τ).loc Cert.Dh1KernelIdeal.main_arg1) = m ((c.tc : Thread Cert.Dh1KernelIdeal.nD Cert.Dh1KernelIdeal.τ).loc Cert.Dh1KernelIdeal.main_arg1))
      ∧ θ_run (Cert.Dh1ReferenceIdeal.defs (F := Ideal)) (onTc (τ := Cert.Dh1ReferenceIdeal.τ) (Cert.Dh1ReferenceIdeal.main (F := Ideal))) ⟨m', fun _ => 0, g'⟩ (fun r => ∀ c : Dev Cert.Dh1ReferenceIdeal.nD,
          r.2.mem ((c.tc : Thread Cert.Dh1ReferenceIdeal.nD Cert.Dh1ReferenceIdeal.τ).loc Cert.Dh1ReferenceIdeal.main_v7) = v0 c
          ∧ r.2.mem ((c.tc : Thread Cert.Dh1ReferenceIdeal.nD Cert.Dh1ReferenceIdeal.τ).loc Cert.Dh1ReferenceIdeal.main_arg0) = m' ((c.tc : Thread Cert.Dh1ReferenceIdeal.nD Cert.Dh1ReferenceIdeal.τ).loc Cert.Dh1ReferenceIdeal.main_arg0)
          ∧ r.2.mem ((c.tc : Thread Cert.Dh1ReferenceIdeal.nD Cert.Dh1ReferenceIdeal.τ).loc Cert.Dh1ReferenceIdeal.main_arg1) = m' ((c.tc : Thread Cert.Dh1ReferenceIdeal.nD Cert.Dh1ReferenceIdeal.τ).loc Cert.Dh1ReferenceIdeal.main_arg1))

def preserves_DwinKernel_DwinKernelIdeal : Prop :=
  True

def algebraic_DwinKernelIdeal_DwinReferenceIdeal [hDwinKernelIdeal : Cert.DwinKernelIdeal.Facts] [hDwinReferenceIdeal : Cert.DwinReferenceIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinKernelIdeal m →
    (∀ c : Dev Cert.DwinKernelIdeal.nD,
      m' ((c.tc : Thread Cert.DwinReferenceIdeal.nD Cert.DwinReferenceIdeal.τ).loc Cert.DwinReferenceIdeal.main_arg0) = m ((c.tc : Thread Cert.DwinKernelIdeal.nD Cert.DwinKernelIdeal.τ).loc Cert.DwinKernelIdeal.main_arg0)
      ∧ m' ((c.tc : Thread Cert.DwinReferenceIdeal.nD Cert.DwinReferenceIdeal.τ).loc Cert.DwinReferenceIdeal.main_arg1) = m ((c.tc : Thread Cert.DwinKernelIdeal.nD Cert.DwinKernelIdeal.τ).loc Cert.DwinKernelIdeal.main_arg1)) →
    ∃ (v0 : (c : Dev Cert.DwinKernelIdeal.nD) → Buf (Elt Ideal) ((c.tc : Thread Cert.DwinKernelIdeal.nD Cert.DwinKernelIdeal.τ).loc Cert.DwinKernelIdeal.main_v0)),
      θ_run (Cert.DwinKernelIdeal.defs (F := Ideal)) (onTc (τ := Cert.DwinKernelIdeal.τ) (Cert.DwinKernelIdeal.main (F := Ideal))) ⟨m, fun _ => 0, g⟩ (fun r => ∀ c : Dev Cert.DwinKernelIdeal.nD,
          r.2.mem ((c.tc : Thread Cert.DwinKernelIdeal.nD Cert.DwinKernelIdeal.τ).loc Cert.DwinKernelIdeal.main_v0) = v0 c
          ∧ r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
          ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v8) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_DmixKernel_DmixKernelIdeal : Prop :=
  True

def algebraic_DmixKernelIdeal_DmixReferenceIdeal [hDmixKernelIdeal : Cert.DmixKernelIdeal.Facts] [hDmixReferenceIdeal : Cert.DmixReferenceIdeal.Facts] : Prop :=
  ∀ (m : (ℓ : Loc Cert.DmixKernelIdeal.nD Cert.DmixKernelIdeal.τ Cert.DmixKernelIdeal.sig) → Buf (Elt Ideal) ℓ) (g : Dev Cert.DmixKernelIdeal.nD → PrngReg)
    (m' : (ℓ : Loc Cert.DmixReferenceIdeal.nD Cert.DmixReferenceIdeal.τ Cert.DmixReferenceIdeal.sig) → Buf (Elt Ideal) ℓ) (g' : Dev Cert.DmixReferenceIdeal.nD → PrngReg), Pre_DmixKernelIdeal m →
    (∀ c : Dev Cert.DmixKernelIdeal.nD,
      m' ((c.tc : Thread Cert.DmixReferenceIdeal.nD Cert.DmixReferenceIdeal.τ).loc Cert.DmixReferenceIdeal.main_arg0) = m ((c.tc : Thread Cert.DmixKernelIdeal.nD Cert.DmixKernelIdeal.τ).loc Cert.DmixKernelIdeal.main_arg0)
      ∧ m' ((c.tc : Thread Cert.DmixReferenceIdeal.nD Cert.DmixReferenceIdeal.τ).loc Cert.DmixReferenceIdeal.main_arg1) = m ((c.tc : Thread Cert.DmixKernelIdeal.nD Cert.DmixKernelIdeal.τ).loc Cert.DmixKernelIdeal.main_arg1)) →
    ∃ (v0 : (c : Dev Cert.DmixKernelIdeal.nD) → Buf (Elt Ideal) ((c.tc : Thread Cert.DmixKernelIdeal.nD Cert.DmixKernelIdeal.τ).loc Cert.DmixKernelIdeal.main_v0)),
      θ_run (Cert.DmixKernelIdeal.defs (F := Ideal)) (onTc (τ := Cert.DmixKernelIdeal.τ) (Cert.DmixKernelIdeal.main (F := Ideal))) ⟨m, fun _ => 0, g⟩ (fun r => ∀ c : Dev Cert.DmixKernelIdeal.nD,
          r.2.mem ((c.tc : Thread Cert.DmixKernelIdeal.nD Cert.DmixKernelIdeal.τ).loc Cert.DmixKernelIdeal.main_v0) = v0 c
          ∧ r.2.mem ((c.tc : Thread Cert.DmixKernelIdeal.nD Cert.DmixKernelIdeal.τ).loc Cert.DmixKernelIdeal.main_arg0) = m ((c.tc : Thread Cert.DmixKernelIdeal.nD Cert.DmixKernelIdeal.τ).loc Cert.DmixKernelIdeal.main_arg0)
          ∧ r.2.mem ((c.tc : Thread Cert.DmixKernelIdeal.nD Cert.DmixKernelIdeal.τ).loc Cert.DmixKernelIdeal.main_arg1) = m ((c.tc : Thread Cert.DmixKernelIdeal.nD Cert.DmixKernelIdeal.τ).loc Cert.DmixKernelIdeal.main_arg1))
      ∧ θ_run (Cert.DmixReferenceIdeal.defs (F := Ideal)) (onTc (τ := Cert.DmixReferenceIdeal.τ) (Cert.DmixReferenceIdeal.main (F := Ideal))) ⟨m', fun _ => 0, g'⟩ (fun r => ∀ c : Dev Cert.DmixReferenceIdeal.nD,
          r.2.mem ((c.tc : Thread Cert.DmixReferenceIdeal.nD Cert.DmixReferenceIdeal.τ).loc Cert.DmixReferenceIdeal.main_v7) = v0 c
          ∧ r.2.mem ((c.tc : Thread Cert.DmixReferenceIdeal.nD Cert.DmixReferenceIdeal.τ).loc Cert.DmixReferenceIdeal.main_arg0) = m' ((c.tc : Thread Cert.DmixReferenceIdeal.nD Cert.DmixReferenceIdeal.τ).loc Cert.DmixReferenceIdeal.main_arg0)
          ∧ r.2.mem ((c.tc : Thread Cert.DmixReferenceIdeal.nD Cert.DmixReferenceIdeal.τ).loc Cert.DmixReferenceIdeal.main_arg1) = m' ((c.tc : Thread Cert.DmixReferenceIdeal.nD Cert.DmixReferenceIdeal.τ).loc Cert.DmixReferenceIdeal.main_arg1))

def preserves_DwoutKernel_DwoutKernelIdeal : Prop :=
  True

def algebraic_DwoutKernelIdeal_DwoutReferenceIdeal [hDwoutKernelIdeal : Cert.DwoutKernelIdeal.Facts] [hDwoutReferenceIdeal : Cert.DwoutReferenceIdeal.Facts] : Prop :=
  ∀ (m : (ℓ : Loc Cert.DwoutKernelIdeal.nD Cert.DwoutKernelIdeal.τ Cert.DwoutKernelIdeal.sig) → Buf (Elt Ideal) ℓ) (g : Dev Cert.DwoutKernelIdeal.nD → PrngReg)
    (m' : (ℓ : Loc Cert.DwoutReferenceIdeal.nD Cert.DwoutReferenceIdeal.τ Cert.DwoutReferenceIdeal.sig) → Buf (Elt Ideal) ℓ) (g' : Dev Cert.DwoutReferenceIdeal.nD → PrngReg), Pre_DwoutKernelIdeal m →
    (∀ c : Dev Cert.DwoutKernelIdeal.nD,
      m' ((c.tc : Thread Cert.DwoutReferenceIdeal.nD Cert.DwoutReferenceIdeal.τ).loc Cert.DwoutReferenceIdeal.main_arg0) = m ((c.tc : Thread Cert.DwoutKernelIdeal.nD Cert.DwoutKernelIdeal.τ).loc Cert.DwoutKernelIdeal.main_arg0)
      ∧ m' ((c.tc : Thread Cert.DwoutReferenceIdeal.nD Cert.DwoutReferenceIdeal.τ).loc Cert.DwoutReferenceIdeal.main_arg1) = m ((c.tc : Thread Cert.DwoutKernelIdeal.nD Cert.DwoutKernelIdeal.τ).loc Cert.DwoutKernelIdeal.main_arg1)) →
    ∃ (v0 : (c : Dev Cert.DwoutKernelIdeal.nD) → Buf (Elt Ideal) ((c.tc : Thread Cert.DwoutKernelIdeal.nD Cert.DwoutKernelIdeal.τ).loc Cert.DwoutKernelIdeal.main_v0)),
      θ_run (Cert.DwoutKernelIdeal.defs (F := Ideal)) (onTc (τ := Cert.DwoutKernelIdeal.τ) (Cert.DwoutKernelIdeal.main (F := Ideal))) ⟨m, fun _ => 0, g⟩ (fun r => ∀ c : Dev Cert.DwoutKernelIdeal.nD,
          r.2.mem ((c.tc : Thread Cert.DwoutKernelIdeal.nD Cert.DwoutKernelIdeal.τ).loc Cert.DwoutKernelIdeal.main_v0) = v0 c
          ∧ r.2.mem ((c.tc : Thread Cert.DwoutKernelIdeal.nD Cert.DwoutKernelIdeal.τ).loc Cert.DwoutKernelIdeal.main_arg0) = m ((c.tc : Thread Cert.DwoutKernelIdeal.nD Cert.DwoutKernelIdeal.τ).loc Cert.DwoutKernelIdeal.main_arg0)
          ∧ r.2.mem ((c.tc : Thread Cert.DwoutKernelIdeal.nD Cert.DwoutKernelIdeal.τ).loc Cert.DwoutKernelIdeal.main_arg1) = m ((c.tc : Thread Cert.DwoutKernelIdeal.nD Cert.DwoutKernelIdeal.τ).loc Cert.DwoutKernelIdeal.main_arg1))
      ∧ θ_run (Cert.DwoutReferenceIdeal.defs (F := Ideal)) (onTc (τ := Cert.DwoutReferenceIdeal.τ) (Cert.DwoutReferenceIdeal.main (F := Ideal))) ⟨m', fun _ => 0, g'⟩ (fun r => ∀ c : Dev Cert.DwoutReferenceIdeal.nD,
          r.2.mem ((c.tc : Thread Cert.DwoutReferenceIdeal.nD Cert.DwoutReferenceIdeal.τ).loc Cert.DwoutReferenceIdeal.main_v8) = v0 c
          ∧ r.2.mem ((c.tc : Thread Cert.DwoutReferenceIdeal.nD Cert.DwoutReferenceIdeal.τ).loc Cert.DwoutReferenceIdeal.main_arg0) = m' ((c.tc : Thread Cert.DwoutReferenceIdeal.nD Cert.DwoutReferenceIdeal.τ).loc Cert.DwoutReferenceIdeal.main_arg0)
          ∧ r.2.mem ((c.tc : Thread Cert.DwoutReferenceIdeal.nD Cert.DwoutReferenceIdeal.τ).loc Cert.DwoutReferenceIdeal.main_arg1) = m' ((c.tc : Thread Cert.DwoutReferenceIdeal.nD Cert.DwoutReferenceIdeal.τ).loc Cert.DwoutReferenceIdeal.main_arg1))

def preserves_ScanKernel_ScanKernelIdeal : Prop :=
  True

def algebraic_ScanKernelIdeal_ScanReferenceIdeal [hScanKernelIdeal : Cert.ScanKernelIdeal.Facts] [hScanReferenceIdeal : Cert.ScanReferenceIdeal.Facts] : Prop :=
  ∀ (m : (ℓ : Loc Cert.ScanKernelIdeal.nD Cert.ScanKernelIdeal.τ Cert.ScanKernelIdeal.sig) → Buf (Elt Ideal) ℓ) (g : Dev Cert.ScanKernelIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanKernelIdeal m →
    (∀ c : Dev Cert.ScanKernelIdeal.nD,
      m' ((c.tc : Thread Cert.ScanReferenceIdeal.nD Cert.ScanReferenceIdeal.τ).loc Cert.ScanReferenceIdeal.main_arg0) = m ((c.tc : Thread Cert.ScanKernelIdeal.nD Cert.ScanKernelIdeal.τ).loc Cert.ScanKernelIdeal.main_arg0)
      ∧ m' ((c.tc : Thread Cert.ScanReferenceIdeal.nD Cert.ScanReferenceIdeal.τ).loc Cert.ScanReferenceIdeal.main_arg1) = m ((c.tc : Thread Cert.ScanKernelIdeal.nD Cert.ScanKernelIdeal.τ).loc Cert.ScanKernelIdeal.main_arg1)
      ∧ m' ((c.tc : Thread Cert.ScanReferenceIdeal.nD Cert.ScanReferenceIdeal.τ).loc Cert.ScanReferenceIdeal.main_arg2) = m ((c.tc : Thread Cert.ScanKernelIdeal.nD Cert.ScanKernelIdeal.τ).loc Cert.ScanKernelIdeal.main_arg2)
      ∧ m' ((c.tc : Thread Cert.ScanReferenceIdeal.nD Cert.ScanReferenceIdeal.τ).loc Cert.ScanReferenceIdeal.main_arg3) = m ((c.tc : Thread Cert.ScanKernelIdeal.nD Cert.ScanKernelIdeal.τ).loc Cert.ScanKernelIdeal.main_arg3)
      ∧ m' ((c.tc : Thread Cert.ScanReferenceIdeal.nD Cert.ScanReferenceIdeal.τ).loc Cert.ScanReferenceIdeal.main_arg4) = m ((c.tc : Thread Cert.ScanKernelIdeal.nD Cert.ScanKernelIdeal.τ).loc Cert.ScanKernelIdeal.main_arg4)
      ∧ m' ((c.tc : Thread Cert.ScanReferenceIdeal.nD Cert.ScanReferenceIdeal.τ).loc Cert.ScanReferenceIdeal.main_arg5) = m ((c.tc : Thread Cert.ScanKernelIdeal.nD Cert.ScanKernelIdeal.τ).loc Cert.ScanKernelIdeal.main_arg5)
      ∧ m' ((c.tc : Thread Cert.ScanReferenceIdeal.nD Cert.ScanReferenceIdeal.τ).loc Cert.ScanReferenceIdeal.main_arg6) = m ((c.tc : Thread Cert.ScanKernelIdeal.nD Cert.ScanKernelIdeal.τ).loc Cert.ScanKernelIdeal.main_arg6)
      ∧ m' ((c.tc : Thread Cert.ScanReferenceIdeal.nD Cert.ScanReferenceIdeal.τ).loc Cert.ScanReferenceIdeal.main_arg7) = m ((c.tc : Thread Cert.ScanKernelIdeal.nD Cert.ScanKernelIdeal.τ).loc Cert.ScanKernelIdeal.main_arg7)
      ∧ m' ((c.tc : Thread Cert.ScanReferenceIdeal.nD Cert.ScanReferenceIdeal.τ).loc Cert.ScanReferenceIdeal.main_arg8) = m ((c.tc : Thread Cert.ScanKernelIdeal.nD Cert.ScanKernelIdeal.τ).loc Cert.ScanKernelIdeal.main_arg8)
      ∧ m' ((c.tc : Thread Cert.ScanReferenceIdeal.nD Cert.ScanReferenceIdeal.τ).loc Cert.ScanReferenceIdeal.main_arg9) = m ((c.tc : Thread Cert.ScanKernelIdeal.nD Cert.ScanKernelIdeal.τ).loc Cert.ScanKernelIdeal.main_arg9)) →
    ∃ (v0 : (c : Dev Cert.ScanKernelIdeal.nD) → Buf (Elt Ideal) ((c.tc : Thread Cert.ScanKernelIdeal.nD Cert.ScanKernelIdeal.τ).loc Cert.ScanKernelIdeal.main_v1_0)) (v1 : (c : Dev Cert.ScanKernelIdeal.nD) → Buf (Elt Ideal) ((c.tc : Thread Cert.ScanKernelIdeal.nD Cert.ScanKernelIdeal.τ).loc Cert.ScanKernelIdeal.main_v1_1)) (v2 : (c : Dev Cert.ScanKernelIdeal.nD) → Buf (Elt Ideal) ((c.tc : Thread Cert.ScanKernelIdeal.nD Cert.ScanKernelIdeal.τ).loc Cert.ScanKernelIdeal.main_v1_2)) (v3 : (c : Dev Cert.ScanKernelIdeal.nD) → Buf (Elt Ideal) ((c.tc : Thread Cert.ScanKernelIdeal.nD Cert.ScanKernelIdeal.τ).loc Cert.ScanKernelIdeal.main_v1_3)) (v4 : (c : Dev Cert.ScanKernelIdeal.nD) → Buf (Elt Ideal) ((c.tc : Thread Cert.ScanKernelIdeal.nD Cert.ScanKernelIdeal.τ).loc Cert.ScanKernelIdeal.main_v1_4)) (v5 : (c : Dev Cert.ScanKernelIdeal.nD) → Buf (Elt Ideal) ((c.tc : Thread Cert.ScanKernelIdeal.nD Cert.ScanKernelIdeal.τ).loc Cert.ScanKernelIdeal.main_v1_5)) (v6 : (c : Dev Cert.ScanKernelIdeal.nD) → Buf (Elt Ideal) ((c.tc : Thread Cert.ScanKernelIdeal.nD Cert.ScanKernelIdeal.τ).loc Cert.ScanKernelIdeal.main_v1_6)) (v7 : (c : Dev Cert.ScanKernelIdeal.nD) → Buf (Elt Ideal) ((c.tc : Thread Cert.ScanKernelIdeal.nD Cert.ScanKernelIdeal.τ).loc Cert.ScanKernelIdeal.main_v1_7)),
      θ_run (Cert.ScanKernelIdeal.defs (F := Ideal)) (onTc (τ := Cert.ScanKernelIdeal.τ) (Cert.ScanKernelIdeal.main (F := Ideal))) ⟨m, fun _ => 0, g⟩ (fun r => ∀ c : Dev Cert.ScanKernelIdeal.nD,
          r.2.mem ((c.tc : Thread Cert.ScanKernelIdeal.nD Cert.ScanKernelIdeal.τ).loc Cert.ScanKernelIdeal.main_v1_0) = v0 c
          ∧ r.2.mem ((c.tc : Thread Cert.ScanKernelIdeal.nD Cert.ScanKernelIdeal.τ).loc Cert.ScanKernelIdeal.main_v1_1) = v1 c
          ∧ r.2.mem ((c.tc : Thread Cert.ScanKernelIdeal.nD Cert.ScanKernelIdeal.τ).loc Cert.ScanKernelIdeal.main_v1_2) = v2 c
          ∧ r.2.mem ((c.tc : Thread Cert.ScanKernelIdeal.nD Cert.ScanKernelIdeal.τ).loc Cert.ScanKernelIdeal.main_v1_3) = v3 c
          ∧ r.2.mem ((c.tc : Thread Cert.ScanKernelIdeal.nD Cert.ScanKernelIdeal.τ).loc Cert.ScanKernelIdeal.main_v1_4) = v4 c
          ∧ r.2.mem ((c.tc : Thread Cert.ScanKernelIdeal.nD Cert.ScanKernelIdeal.τ).loc Cert.ScanKernelIdeal.main_v1_5) = v5 c
          ∧ r.2.mem ((c.tc : Thread Cert.ScanKernelIdeal.nD Cert.ScanKernelIdeal.τ).loc Cert.ScanKernelIdeal.main_v1_6) = v6 c
          ∧ r.2.mem ((c.tc : Thread Cert.ScanKernelIdeal.nD Cert.ScanKernelIdeal.τ).loc Cert.ScanKernelIdeal.main_v1_7) = v7 c
          ∧ r.2.mem ((c.tc : Thread Cert.ScanKernelIdeal.nD Cert.ScanKernelIdeal.τ).loc Cert.ScanKernelIdeal.main_arg0) = m ((c.tc : Thread Cert.ScanKernelIdeal.nD Cert.ScanKernelIdeal.τ).loc Cert.ScanKernelIdeal.main_arg0)
          ∧ r.2.mem ((c.tc : Thread Cert.ScanKernelIdeal.nD Cert.ScanKernelIdeal.τ).loc Cert.ScanKernelIdeal.main_arg1) = m ((c.tc : Thread Cert.ScanKernelIdeal.nD Cert.ScanKernelIdeal.τ).loc Cert.ScanKernelIdeal.main_arg1)
          ∧ r.2.mem ((c.tc : Thread Cert.ScanKernelIdeal.nD Cert.ScanKernelIdeal.τ).loc Cert.ScanKernelIdeal.main_arg2) = m ((c.tc : Thread Cert.ScanKernelIdeal.nD Cert.ScanKernelIdeal.τ).loc Cert.ScanKernelIdeal.main_arg2)
          ∧ r.2.mem ((c.tc : Thread Cert.ScanKernelIdeal.nD Cert.ScanKernelIdeal.τ).loc Cert.ScanKernelIdeal.main_arg3) = m ((c.tc : Thread Cert.ScanKernelIdeal.nD Cert.ScanKernelIdeal.τ).loc Cert.ScanKernelIdeal.main_arg3)
          ∧ r.2.mem ((c.tc : Thread Cert.ScanKernelIdeal.nD Cert.ScanKernelIdeal.τ).loc Cert.ScanKernelIdeal.main_arg4) = m ((c.tc : Thread Cert.ScanKernelIdeal.nD Cert.ScanKernelIdeal.τ).loc Cert.ScanKernelIdeal.main_arg4)
          ∧ r.2.mem ((c.tc : Thread Cert.ScanKernelIdeal.nD Cert.ScanKernelIdeal.τ).loc Cert.ScanKernelIdeal.main_arg5) = m ((c.tc : Thread Cert.ScanKernelIdeal.nD Cert.ScanKernelIdeal.τ).loc Cert.ScanKernelIdeal.main_arg5)
          ∧ r.2.mem ((c.tc : Thread Cert.ScanKernelIdeal.nD Cert.ScanKernelIdeal.τ).loc Cert.ScanKernelIdeal.main_arg6) = m ((c.tc : Thread Cert.ScanKernelIdeal.nD Cert.ScanKernelIdeal.τ).loc Cert.ScanKernelIdeal.main_arg6)
          ∧ r.2.mem ((c.tc : Thread Cert.ScanKernelIdeal.nD Cert.ScanKernelIdeal.τ).loc Cert.ScanKernelIdeal.main_arg7) = m ((c.tc : Thread Cert.ScanKernelIdeal.nD Cert.ScanKernelIdeal.τ).loc Cert.ScanKernelIdeal.main_arg7)
          ∧ r.2.mem ((c.tc : Thread Cert.ScanKernelIdeal.nD Cert.ScanKernelIdeal.τ).loc Cert.ScanKernelIdeal.main_arg8) = m ((c.tc : Thread Cert.ScanKernelIdeal.nD Cert.ScanKernelIdeal.τ).loc Cert.ScanKernelIdeal.main_arg8)
          ∧ r.2.mem ((c.tc : Thread Cert.ScanKernelIdeal.nD Cert.ScanKernelIdeal.τ).loc Cert.ScanKernelIdeal.main_arg9) = m ((c.tc : Thread Cert.ScanKernelIdeal.nD Cert.ScanKernelIdeal.τ).loc Cert.ScanKernelIdeal.main_arg9))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v27) = v0 c
          ∧ r.2.mem ((c.tc : Thread Cert.ScanReferenceIdeal.nD Cert.ScanReferenceIdeal.τ).loc Cert.ScanReferenceIdeal.main_v29) = v1 c
          ∧ r.2.mem ((c.tc : Thread Cert.ScanReferenceIdeal.nD Cert.ScanReferenceIdeal.τ).loc Cert.ScanReferenceIdeal.main_v31) = v2 c
          ∧ r.2.mem ((c.tc : Thread Cert.ScanReferenceIdeal.nD Cert.ScanReferenceIdeal.τ).loc Cert.ScanReferenceIdeal.main_v33) = v3 c
          ∧ r.2.mem ((c.tc : Thread Cert.ScanReferenceIdeal.nD Cert.ScanReferenceIdeal.τ).loc Cert.ScanReferenceIdeal.main_v36) = v4 c
          ∧ r.2.mem ((c.tc : Thread Cert.ScanReferenceIdeal.nD Cert.ScanReferenceIdeal.τ).loc Cert.ScanReferenceIdeal.main_v38) = v5 c
          ∧ r.2.mem ((c.tc : Thread Cert.ScanReferenceIdeal.nD Cert.ScanReferenceIdeal.τ).loc Cert.ScanReferenceIdeal.main_v39) = v6 c
          ∧ r.2.mem ((c.tc : Thread Cert.ScanReferenceIdeal.nD Cert.ScanReferenceIdeal.τ).loc Cert.ScanReferenceIdeal.main_v40) = v7 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5)
          ∧ r.2.mem ((c.tc : Thread Cert.ScanReferenceIdeal.nD Cert.ScanReferenceIdeal.τ).loc Cert.ScanReferenceIdeal.main_arg6) = m' ((c.tc : Thread Cert.ScanReferenceIdeal.nD Cert.ScanReferenceIdeal.τ).loc Cert.ScanReferenceIdeal.main_arg6)
          ∧ r.2.mem ((c.tc : Thread Cert.ScanReferenceIdeal.nD Cert.ScanReferenceIdeal.τ).loc Cert.ScanReferenceIdeal.main_arg7) = m' ((c.tc : Thread Cert.ScanReferenceIdeal.nD Cert.ScanReferenceIdeal.τ).loc Cert.ScanReferenceIdeal.main_arg7)
          ∧ r.2.mem ((c.tc : Thread Cert.ScanReferenceIdeal.nD Cert.ScanReferenceIdeal.τ).loc Cert.ScanReferenceIdeal.main_arg8) = m' ((c.tc : Thread Cert.ScanReferenceIdeal.nD Cert.ScanReferenceIdeal.τ).loc Cert.ScanReferenceIdeal.main_arg8)
          ∧ r.2.mem ((c.tc : Thread Cert.ScanReferenceIdeal.nD Cert.ScanReferenceIdeal.τ).loc Cert.ScanReferenceIdeal.main_arg9) = m' ((c.tc : Thread Cert.ScanReferenceIdeal.nD Cert.ScanReferenceIdeal.τ).loc Cert.ScanReferenceIdeal.main_arg9))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_DnormKernel_DnormKernelIdeal : Prop :=
  True

def algebraic_DnormKernelIdeal_DnormReferenceIdeal [hDnormKernelIdeal : Cert.DnormKernelIdeal.Facts] [hDnormReferenceIdeal : Cert.DnormReferenceIdeal.Facts] : Prop :=
  ∀ (m : (ℓ : Loc Cert.DnormKernelIdeal.nD Cert.DnormKernelIdeal.τ Cert.DnormKernelIdeal.sig) → Buf (Elt Ideal) ℓ) (g : Dev Cert.DnormKernelIdeal.nD → PrngReg)
    (m' : (ℓ : Loc Cert.DnormReferenceIdeal.nD Cert.DnormReferenceIdeal.τ Cert.DnormReferenceIdeal.sig) → Buf (Elt Ideal) ℓ) (g' : Dev Cert.DnormReferenceIdeal.nD → PrngReg), Pre_DnormKernelIdeal m →
    (∀ c : Dev Cert.DnormKernelIdeal.nD,
      m' ((c.tc : Thread Cert.DnormReferenceIdeal.nD Cert.DnormReferenceIdeal.τ).loc Cert.DnormReferenceIdeal.main_arg0) = m ((c.tc : Thread Cert.DnormKernelIdeal.nD Cert.DnormKernelIdeal.τ).loc Cert.DnormKernelIdeal.main_arg0)
      ∧ m' ((c.tc : Thread Cert.DnormReferenceIdeal.nD Cert.DnormReferenceIdeal.τ).loc Cert.DnormReferenceIdeal.main_arg1) = m ((c.tc : Thread Cert.DnormKernelIdeal.nD Cert.DnormKernelIdeal.τ).loc Cert.DnormKernelIdeal.main_arg1)
      ∧ m' ((c.tc : Thread Cert.DnormReferenceIdeal.nD Cert.DnormReferenceIdeal.τ).loc Cert.DnormReferenceIdeal.main_arg2) = m ((c.tc : Thread Cert.DnormKernelIdeal.nD Cert.DnormKernelIdeal.τ).loc Cert.DnormKernelIdeal.main_arg2)
      ∧ m' ((c.tc : Thread Cert.DnormReferenceIdeal.nD Cert.DnormReferenceIdeal.τ).loc Cert.DnormReferenceIdeal.main_arg3) = m ((c.tc : Thread Cert.DnormKernelIdeal.nD Cert.DnormKernelIdeal.τ).loc Cert.DnormKernelIdeal.main_arg3)) →
    ∃ (v0 : (c : Dev Cert.DnormKernelIdeal.nD) → Buf (Elt Ideal) ((c.tc : Thread Cert.DnormKernelIdeal.nD Cert.DnormKernelIdeal.τ).loc Cert.DnormKernelIdeal.main_v1_0)) (v1 : (c : Dev Cert.DnormKernelIdeal.nD) → Buf (Elt Ideal) ((c.tc : Thread Cert.DnormKernelIdeal.nD Cert.DnormKernelIdeal.τ).loc Cert.DnormKernelIdeal.main_v1_1)) (v2 : (c : Dev Cert.DnormKernelIdeal.nD) → Buf (Elt Ideal) ((c.tc : Thread Cert.DnormKernelIdeal.nD Cert.DnormKernelIdeal.τ).loc Cert.DnormKernelIdeal.main_v1_2)),
      θ_run (Cert.DnormKernelIdeal.defs (F := Ideal)) (onTc (τ := Cert.DnormKernelIdeal.τ) (Cert.DnormKernelIdeal.main (F := Ideal))) ⟨m, fun _ => 0, g⟩ (fun r => ∀ c : Dev Cert.DnormKernelIdeal.nD,
          r.2.mem ((c.tc : Thread Cert.DnormKernelIdeal.nD Cert.DnormKernelIdeal.τ).loc Cert.DnormKernelIdeal.main_v1_0) = v0 c
          ∧ r.2.mem ((c.tc : Thread Cert.DnormKernelIdeal.nD Cert.DnormKernelIdeal.τ).loc Cert.DnormKernelIdeal.main_v1_1) = v1 c
          ∧ r.2.mem ((c.tc : Thread Cert.DnormKernelIdeal.nD Cert.DnormKernelIdeal.τ).loc Cert.DnormKernelIdeal.main_v1_2) = v2 c
          ∧ r.2.mem ((c.tc : Thread Cert.DnormKernelIdeal.nD Cert.DnormKernelIdeal.τ).loc Cert.DnormKernelIdeal.main_arg0) = m ((c.tc : Thread Cert.DnormKernelIdeal.nD Cert.DnormKernelIdeal.τ).loc Cert.DnormKernelIdeal.main_arg0)
          ∧ r.2.mem ((c.tc : Thread Cert.DnormKernelIdeal.nD Cert.DnormKernelIdeal.τ).loc Cert.DnormKernelIdeal.main_arg1) = m ((c.tc : Thread Cert.DnormKernelIdeal.nD Cert.DnormKernelIdeal.τ).loc Cert.DnormKernelIdeal.main_arg1)
          ∧ r.2.mem ((c.tc : Thread Cert.DnormKernelIdeal.nD Cert.DnormKernelIdeal.τ).loc Cert.DnormKernelIdeal.main_arg2) = m ((c.tc : Thread Cert.DnormKernelIdeal.nD Cert.DnormKernelIdeal.τ).loc Cert.DnormKernelIdeal.main_arg2)
          ∧ r.2.mem ((c.tc : Thread Cert.DnormKernelIdeal.nD Cert.DnormKernelIdeal.τ).loc Cert.DnormKernelIdeal.main_arg3) = m ((c.tc : Thread Cert.DnormKernelIdeal.nD Cert.DnormKernelIdeal.τ).loc Cert.DnormKernelIdeal.main_arg3))
      ∧ θ_run (Cert.DnormReferenceIdeal.defs (F := Ideal)) (onTc (τ := Cert.DnormReferenceIdeal.τ) (Cert.DnormReferenceIdeal.main (F := Ideal))) ⟨m', fun _ => 0, g'⟩ (fun r => ∀ c : Dev Cert.DnormReferenceIdeal.nD,
          r.2.mem ((c.tc : Thread Cert.DnormReferenceIdeal.nD Cert.DnormReferenceIdeal.τ).loc Cert.DnormReferenceIdeal.main_v36) = v0 c
          ∧ r.2.mem ((c.tc : Thread Cert.DnormReferenceIdeal.nD Cert.DnormReferenceIdeal.τ).loc Cert.DnormReferenceIdeal.main_v37) = v1 c
          ∧ r.2.mem ((c.tc : Thread Cert.DnormReferenceIdeal.nD Cert.DnormReferenceIdeal.τ).loc Cert.DnormReferenceIdeal.main_v38) = v2 c
          ∧ r.2.mem ((c.tc : Thread Cert.DnormReferenceIdeal.nD Cert.DnormReferenceIdeal.τ).loc Cert.DnormReferenceIdeal.main_arg0) = m' ((c.tc : Thread Cert.DnormReferenceIdeal.nD Cert.DnormReferenceIdeal.τ).loc Cert.DnormReferenceIdeal.main_arg0)
          ∧ r.2.mem ((c.tc : Thread Cert.DnormReferenceIdeal.nD Cert.DnormReferenceIdeal.τ).loc Cert.DnormReferenceIdeal.main_arg1) = m' ((c.tc : Thread Cert.DnormReferenceIdeal.nD Cert.DnormReferenceIdeal.τ).loc Cert.DnormReferenceIdeal.main_arg1)
          ∧ r.2.mem ((c.tc : Thread Cert.DnormReferenceIdeal.nD Cert.DnormReferenceIdeal.τ).loc Cert.DnormReferenceIdeal.main_arg2) = m' ((c.tc : Thread Cert.DnormReferenceIdeal.nD Cert.DnormReferenceIdeal.τ).loc Cert.DnormReferenceIdeal.main_arg2)
          ∧ r.2.mem ((c.tc : Thread Cert.DnormReferenceIdeal.nD Cert.DnormReferenceIdeal.τ).loc Cert.DnormReferenceIdeal.main_arg3) = m' ((c.tc : Thread Cert.DnormReferenceIdeal.nD Cert.DnormReferenceIdeal.τ).loc Cert.DnormReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v2) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v59) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_DconvKernel_DconvKernelIdeal : Prop :=
  True

def algebraic_DconvKernelIdeal_DconvReferenceIdeal [hDconvKernelIdeal : Cert.DconvKernelIdeal.Facts] [hDconvReferenceIdeal : Cert.DconvReferenceIdeal.Facts] : Prop :=
  ∀ (m : (ℓ : Loc Cert.DconvKernelIdeal.nD Cert.DconvKernelIdeal.τ Cert.DconvKernelIdeal.sig) → Buf (Elt Ideal) ℓ) (g : Dev Cert.DconvKernelIdeal.nD → PrngReg)
    (m' : (ℓ : Loc Cert.DconvReferenceIdeal.nD Cert.DconvReferenceIdeal.τ Cert.DconvReferenceIdeal.sig) → Buf (Elt Ideal) ℓ) (g' : Dev Cert.DconvReferenceIdeal.nD → PrngReg), Pre_DconvKernelIdeal m →
    (∀ c : Dev Cert.DconvKernelIdeal.nD,
      m' ((c.tc : Thread Cert.DconvReferenceIdeal.nD Cert.DconvReferenceIdeal.τ).loc Cert.DconvReferenceIdeal.main_arg0) = m ((c.tc : Thread Cert.DconvKernelIdeal.nD Cert.DconvKernelIdeal.τ).loc Cert.DconvKernelIdeal.main_arg0)
      ∧ m' ((c.tc : Thread Cert.DconvReferenceIdeal.nD Cert.DconvReferenceIdeal.τ).loc Cert.DconvReferenceIdeal.main_arg1) = m ((c.tc : Thread Cert.DconvKernelIdeal.nD Cert.DconvKernelIdeal.τ).loc Cert.DconvKernelIdeal.main_arg1)
      ∧ m' ((c.tc : Thread Cert.DconvReferenceIdeal.nD Cert.DconvReferenceIdeal.τ).loc Cert.DconvReferenceIdeal.main_arg2) = m ((c.tc : Thread Cert.DconvKernelIdeal.nD Cert.DconvKernelIdeal.τ).loc Cert.DconvKernelIdeal.main_arg2)) →
    ∃ (v0 : (c : Dev Cert.DconvKernelIdeal.nD) → Buf (Elt Ideal) ((c.tc : Thread Cert.DconvKernelIdeal.nD Cert.DconvKernelIdeal.τ).loc Cert.DconvKernelIdeal.main_v0_0)) (v1 : (c : Dev Cert.DconvKernelIdeal.nD) → Buf (Elt Ideal) ((c.tc : Thread Cert.DconvKernelIdeal.nD Cert.DconvKernelIdeal.τ).loc Cert.DconvKernelIdeal.main_v0_1)),
      θ_run (Cert.DconvKernelIdeal.defs (F := Ideal)) (onTc (τ := Cert.DconvKernelIdeal.τ) (Cert.DconvKernelIdeal.main (F := Ideal))) ⟨m, fun _ => 0, g⟩ (fun r => ∀ c : Dev Cert.DconvKernelIdeal.nD,
          r.2.mem ((c.tc : Thread Cert.DconvKernelIdeal.nD Cert.DconvKernelIdeal.τ).loc Cert.DconvKernelIdeal.main_v0_0) = v0 c
          ∧ r.2.mem ((c.tc : Thread Cert.DconvKernelIdeal.nD Cert.DconvKernelIdeal.τ).loc Cert.DconvKernelIdeal.main_v0_1) = v1 c
          ∧ r.2.mem ((c.tc : Thread Cert.DconvKernelIdeal.nD Cert.DconvKernelIdeal.τ).loc Cert.DconvKernelIdeal.main_arg0) = m ((c.tc : Thread Cert.DconvKernelIdeal.nD Cert.DconvKernelIdeal.τ).loc Cert.DconvKernelIdeal.main_arg0)
          ∧ r.2.mem ((c.tc : Thread Cert.DconvKernelIdeal.nD Cert.DconvKernelIdeal.τ).loc Cert.DconvKernelIdeal.main_arg1) = m ((c.tc : Thread Cert.DconvKernelIdeal.nD Cert.DconvKernelIdeal.τ).loc Cert.DconvKernelIdeal.main_arg1)
          ∧ r.2.mem ((c.tc : Thread Cert.DconvKernelIdeal.nD Cert.DconvKernelIdeal.τ).loc Cert.DconvKernelIdeal.main_arg2) = m ((c.tc : Thread Cert.DconvKernelIdeal.nD Cert.DconvKernelIdeal.τ).loc Cert.DconvKernelIdeal.main_arg2))
      ∧ θ_run (Cert.DconvReferenceIdeal.defs (F := Ideal)) (onTc (τ := Cert.DconvReferenceIdeal.τ) (Cert.DconvReferenceIdeal.main (F := Ideal))) ⟨m', fun _ => 0, g'⟩ (fun r => ∀ c : Dev Cert.DconvReferenceIdeal.nD,
          r.2.mem ((c.tc : Thread Cert.DconvReferenceIdeal.nD Cert.DconvReferenceIdeal.τ).loc Cert.DconvReferenceIdeal.main_v83) = v0 c
          ∧ r.2.mem ((c.tc : Thread Cert.DconvReferenceIdeal.nD Cert.DconvReferenceIdeal.τ).loc Cert.DconvReferenceIdeal.main_v77) = v1 c
          ∧ r.2.mem ((c.tc : Thread Cert.DconvReferenceIdeal.nD Cert.DconvReferenceIdeal.τ).loc Cert.DconvReferenceIdeal.main_arg0) = m' ((c.tc : Thread Cert.DconvReferenceIdeal.nD Cert.DconvReferenceIdeal.τ).loc Cert.DconvReferenceIdeal.main_arg0)
          ∧ r.2.mem ((c.tc : Thread Cert.DconvReferenceIdeal.nD Cert.DconvReferenceIdeal.τ).loc Cert.DconvReferenceIdeal.main_arg1) = m' ((c.tc : Thread Cert.DconvReferenceIdeal.nD Cert.DconvReferenceIdeal.τ).loc Cert.DconvReferenceIdeal.main_arg1)
          ∧ r.2.mem ((c.tc : Thread Cert.DconvReferenceIdeal.nD Cert.DconvReferenceIdeal.τ).loc Cert.DconvReferenceIdeal.main_arg2) = m' ((c.tc : Thread Cert.DconvReferenceIdeal.nD Cert.DconvReferenceIdeal.τ).loc Cert.DconvReferenceIdeal.main_arg2))

def Claim : Prop :=
  ∃ (hKernel : Cert.Kernel.Facts) (hKernelIdeal : Cert.KernelIdeal.Facts) (hReferenceIdeal : Cert.ReferenceIdeal.Facts) (hDactKernel : Cert.DactKernel.Facts) (hDactKernelIdeal : Cert.DactKernelIdeal.Facts) (hDactReferenceIdeal : Cert.DactReferenceIdeal.Facts) (hDwguKernel : Cert.DwguKernel.Facts) (hDwguKernelIdeal : Cert.DwguKernelIdeal.Facts) (hDwguReferenceIdeal : Cert.DwguReferenceIdeal.Facts) (hDh2Kernel : Cert.Dh2Kernel.Facts) (hDh2KernelIdeal : Cert.Dh2KernelIdeal.Facts) (hDh2ReferenceIdeal : Cert.Dh2ReferenceIdeal.Facts) (hGuKernel : Cert.GuKernel.Facts) (hGuKernelIdeal : Cert.GuKernelIdeal.Facts) (hGuReferenceIdeal : Cert.GuReferenceIdeal.Facts) (hDwdownKernel : Cert.DwdownKernel.Facts) (hDwdownKernelIdeal : Cert.DwdownKernelIdeal.Facts) (hDwdownReferenceIdeal : Cert.DwdownReferenceIdeal.Facts) (hDownKernel : Cert.DownKernel.Facts) (hDownKernelIdeal : Cert.DownKernelIdeal.Facts) (hDownReferenceIdeal : Cert.DownReferenceIdeal.Facts) (hProjKernel : Cert.ProjKernel.Facts) (hProjKernelIdeal : Cert.ProjKernelIdeal.Facts) (hProjReferenceIdeal : Cert.ProjReferenceIdeal.Facts) (hDh1Kernel : Cert.Dh1Kernel.Facts) (hDh1KernelIdeal : Cert.Dh1KernelIdeal.Facts) (hDh1ReferenceIdeal : Cert.Dh1ReferenceIdeal.Facts) (hDwinKernel : Cert.DwinKernel.Facts) (hDwinKernelIdeal : Cert.DwinKernelIdeal.Facts) (hDwinReferenceIdeal : Cert.DwinReferenceIdeal.Facts) (hOutKernel : Cert.OutKernel.Facts) (hOutKernelIdeal : Cert.OutKernelIdeal.Facts) (hOutReferenceIdeal : Cert.OutReferenceIdeal.Facts) (hDmixKernel : Cert.DmixKernel.Facts) (hDmixKernelIdeal : Cert.DmixKernelIdeal.Facts) (hDmixReferenceIdeal : Cert.DmixReferenceIdeal.Facts) (hDwoutKernel : Cert.DwoutKernel.Facts) (hDwoutKernelIdeal : Cert.DwoutKernelIdeal.Facts) (hDwoutReferenceIdeal : Cert.DwoutReferenceIdeal.Facts) (hScanKernel : Cert.ScanKernel.Facts) (hScanKernelIdeal : Cert.ScanKernelIdeal.Facts) (hScanReferenceIdeal : Cert.ScanReferenceIdeal.Facts) (hNormKernel : Cert.NormKernel.Facts) (hNormKernelIdeal : Cert.NormKernelIdeal.Facts) (hNormReferenceIdeal : Cert.NormReferenceIdeal.Facts) (hDnormKernel : Cert.DnormKernel.Facts) (hDnormKernelIdeal : Cert.DnormKernelIdeal.Facts) (hDnormReferenceIdeal : Cert.DnormReferenceIdeal.Facts) (hGateKernel : Cert.GateKernel.Facts) (hGateKernelIdeal : Cert.GateKernelIdeal.Facts) (hGateReferenceIdeal : Cert.GateReferenceIdeal.Facts) (hDconvKernel : Cert.DconvKernel.Facts) (hDconvKernelIdeal : Cert.DconvKernelIdeal.Facts) (hDconvReferenceIdeal : Cert.DconvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_DactKernel (hDactKernel := hDactKernel)
    ∧ quiescent_DactKernelIdeal (hDactKernelIdeal := hDactKernelIdeal)
    ∧ quiescent_DactReferenceIdeal (hDactReferenceIdeal := hDactReferenceIdeal)
    ∧ quiescent_DwguKernel (hDwguKernel := hDwguKernel)
    ∧ quiescent_DwguKernelIdeal (hDwguKernelIdeal := hDwguKernelIdeal)
    ∧ quiescent_DwguReferenceIdeal (hDwguReferenceIdeal := hDwguReferenceIdeal)
    ∧ quiescent_Dh2Kernel (hDh2Kernel := hDh2Kernel)
    ∧ quiescent_Dh2KernelIdeal (hDh2KernelIdeal := hDh2KernelIdeal)
    ∧ quiescent_Dh2ReferenceIdeal (hDh2ReferenceIdeal := hDh2ReferenceIdeal)
    ∧ quiescent_GuKernel (hGuKernel := hGuKernel)
    ∧ quiescent_GuKernelIdeal (hGuKernelIdeal := hGuKernelIdeal)
    ∧ quiescent_GuReferenceIdeal (hGuReferenceIdeal := hGuReferenceIdeal)
    ∧ quiescent_DwdownKernel (hDwdownKernel := hDwdownKernel)
    ∧ quiescent_DwdownKernelIdeal (hDwdownKernelIdeal := hDwdownKernelIdeal)
    ∧ quiescent_DwdownReferenceIdeal (hDwdownReferenceIdeal := hDwdownReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_Dh1Kernel (hDh1Kernel := hDh1Kernel)
    ∧ quiescent_Dh1KernelIdeal (hDh1KernelIdeal := hDh1KernelIdeal)
    ∧ quiescent_Dh1ReferenceIdeal (hDh1ReferenceIdeal := hDh1ReferenceIdeal)
    ∧ quiescent_DwinKernel (hDwinKernel := hDwinKernel)
    ∧ quiescent_DwinKernelIdeal (hDwinKernelIdeal := hDwinKernelIdeal)
    ∧ quiescent_DwinReferenceIdeal (hDwinReferenceIdeal := hDwinReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DmixKernel (hDmixKernel := hDmixKernel)
    ∧ quiescent_DmixKernelIdeal (hDmixKernelIdeal := hDmixKernelIdeal)
    ∧ quiescent_DmixReferenceIdeal (hDmixReferenceIdeal := hDmixReferenceIdeal)
    ∧ quiescent_DwoutKernel (hDwoutKernel := hDwoutKernel)
    ∧ quiescent_DwoutKernelIdeal (hDwoutKernelIdeal := hDwoutKernelIdeal)
    ∧ quiescent_DwoutReferenceIdeal (hDwoutReferenceIdeal := hDwoutReferenceIdeal)
    ∧ quiescent_ScanKernel (hScanKernel := hScanKernel)
    ∧ quiescent_ScanKernelIdeal (hScanKernelIdeal := hScanKernelIdeal)
    ∧ quiescent_ScanReferenceIdeal (hScanReferenceIdeal := hScanReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_DnormKernel (hDnormKernel := hDnormKernel)
    ∧ quiescent_DnormKernelIdeal (hDnormKernelIdeal := hDnormKernelIdeal)
    ∧ quiescent_DnormReferenceIdeal (hDnormReferenceIdeal := hDnormReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_DconvKernel (hDconvKernel := hDconvKernel)
    ∧ quiescent_DconvKernelIdeal (hDconvKernelIdeal := hDconvKernelIdeal)
    ∧ quiescent_DconvReferenceIdeal (hDconvReferenceIdeal := hDconvReferenceIdeal)
    ∧ preserves_Kernel_KernelIdeal
    ∧ algebraic_KernelIdeal_ReferenceIdeal (hKernelIdeal := hKernelIdeal) (hReferenceIdeal := hReferenceIdeal)
    ∧ preserves_DactKernel_DactKernelIdeal
    ∧ algebraic_DactKernelIdeal_DactReferenceIdeal (hDactKernelIdeal := hDactKernelIdeal) (hDactReferenceIdeal := hDactReferenceIdeal)
    ∧ preserves_DwguKernel_DwguKernelIdeal
    ∧ algebraic_DwguKernelIdeal_DwguReferenceIdeal (hDwguKernelIdeal := hDwguKernelIdeal) (hDwguReferenceIdeal := hDwguReferenceIdeal)
    ∧ preserves_Dh2Kernel_Dh2KernelIdeal
    ∧ algebraic_Dh2KernelIdeal_Dh2ReferenceIdeal (hDh2KernelIdeal := hDh2KernelIdeal) (hDh2ReferenceIdeal := hDh2ReferenceIdeal)
    ∧ preserves_GuKernel_GuKernelIdeal
    ∧ algebraic_GuKernelIdeal_GuReferenceIdeal (hGuKernelIdeal := hGuKernelIdeal) (hGuReferenceIdeal := hGuReferenceIdeal)
    ∧ preserves_DwdownKernel_DwdownKernelIdeal
    ∧ algebraic_DwdownKernelIdeal_DwdownReferenceIdeal (hDwdownKernelIdeal := hDwdownKernelIdeal) (hDwdownReferenceIdeal := hDwdownReferenceIdeal)
    ∧ preserves_DownKernel_DownKernelIdeal
    ∧ algebraic_DownKernelIdeal_DownReferenceIdeal (hDownKernelIdeal := hDownKernelIdeal) (hDownReferenceIdeal := hDownReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_Dh1Kernel_Dh1KernelIdeal
    ∧ algebraic_Dh1KernelIdeal_Dh1ReferenceIdeal (hDh1KernelIdeal := hDh1KernelIdeal) (hDh1ReferenceIdeal := hDh1ReferenceIdeal)
    ∧ preserves_DwinKernel_DwinKernelIdeal
    ∧ algebraic_DwinKernelIdeal_DwinReferenceIdeal (hDwinKernelIdeal := hDwinKernelIdeal) (hDwinReferenceIdeal := hDwinReferenceIdeal)
    ∧ preserves_OutKernel_OutKernelIdeal
    ∧ algebraic_OutKernelIdeal_OutReferenceIdeal (hOutKernelIdeal := hOutKernelIdeal) (hOutReferenceIdeal := hOutReferenceIdeal)
    ∧ preserves_DmixKernel_DmixKernelIdeal
    ∧ algebraic_DmixKernelIdeal_DmixReferenceIdeal (hDmixKernelIdeal := hDmixKernelIdeal) (hDmixReferenceIdeal := hDmixReferenceIdeal)
    ∧ preserves_DwoutKernel_DwoutKernelIdeal
    ∧ algebraic_DwoutKernelIdeal_DwoutReferenceIdeal (hDwoutKernelIdeal := hDwoutKernelIdeal) (hDwoutReferenceIdeal := hDwoutReferenceIdeal)
    ∧ preserves_ScanKernel_ScanKernelIdeal
    ∧ algebraic_ScanKernelIdeal_ScanReferenceIdeal (hScanKernelIdeal := hScanKernelIdeal) (hScanReferenceIdeal := hScanReferenceIdeal)
    ∧ preserves_NormKernel_NormKernelIdeal
    ∧ algebraic_NormKernelIdeal_NormReferenceIdeal (hNormKernelIdeal := hNormKernelIdeal) (hNormReferenceIdeal := hNormReferenceIdeal)
    ∧ preserves_DnormKernel_DnormKernelIdeal
    ∧ algebraic_DnormKernelIdeal_DnormReferenceIdeal (hDnormKernelIdeal := hDnormKernelIdeal) (hDnormReferenceIdeal := hDnormReferenceIdeal)
    ∧ preserves_GateKernel_GateKernelIdeal
    ∧ algebraic_GateKernelIdeal_GateReferenceIdeal (hGateKernelIdeal := hGateKernelIdeal) (hGateReferenceIdeal := hGateReferenceIdeal)
    ∧ preserves_DconvKernel_DconvKernelIdeal
    ∧ algebraic_DconvKernelIdeal_DconvReferenceIdeal (hDconvKernelIdeal := hDconvKernelIdeal) (hDconvReferenceIdeal := hDconvReferenceIdeal)
-- ==== Kernel.lean ====
abbrev S2048x6528 : Shape := ⟨2, ![2048, 6528]⟩
abbrev S4x128 : Shape := ⟨2, ![4, 128]⟩
abbrev S4x128x128 : Shape := ⟨3, ![4, 128, 128]⟩
abbrev S2048x2048 : Shape := ⟨2, ![2048, 2048]⟩
abbrev S4x1x128 : Shape := ⟨3, ![4, 1, 128]⟩
abbrev S4x128x1 : Shape := ⟨3, ![4, 128, 1]⟩
abbrev S2048x512 : Shape := ⟨2, ![2048, 512]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S2048 : Shape := ⟨1, ![2048]⟩
abbrev S2048x1 : Shape := ⟨2, ![2048, 1]⟩
abbrev S16x128x128 : Shape := ⟨3, ![16, 128, 128]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S2048x6528, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S2048x2048, .f32⟩
  | .hbm, ⟨5, _⟩ => ⟨S4x1x128, .f32⟩
  | .hbm, ⟨6, _⟩ => ⟨S4x128x1, .f32⟩
  | .hbm, ⟨7, _⟩ => ⟨S2048x512, .bf16⟩
  | .hbm, ⟨8, _⟩ => ⟨S2048x512, .bf16⟩
  | .hbm, ⟨9, _⟩ => ⟨S4x1x128, .f32⟩
  | .hbm, ⟨10, _⟩ => ⟨S4x128x128, .f32⟩
  | .hbm, ⟨11, _⟩ => ⟨S4x128x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x1x128, .f32⟩
  | .local _ .vmem, ⟨17, _⟩ => ⟨S1x1x128, .f32⟩
  | .local _ .vmem, ⟨18, _⟩ => ⟨S1x128x128, .f32⟩
  | .local _ .vmem, ⟨19, _⟩ => ⟨S1x128x128, .f32⟩
  | .local _ .vmem, ⟨20, _⟩ => ⟨S1x128x1, .f32⟩
  | .local _ .vmem, ⟨21, _⟩ => ⟨S1x128x1, .f32⟩
  | _, _ => ⟨S2048x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x6528 : Shape := ⟨2, ![2048, 6528]⟩
abbrev S4x128 : Shape := ⟨2, ![4, 128]⟩
abbrev S4x128x128 : Shape := ⟨3, ![4, 128, 128]⟩
abbrev S2048x2048 : Shape := ⟨2, ![2048, 2048]⟩
abbrev S2048x512 : Shape := ⟨2, ![2048, 512]⟩
abbrev S1x2048x512 : Shape := ⟨3, ![1, 2048, 512]⟩
abbrev S_ : Shape := ⟨0, ![]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S1x1x4x128 : Shape := ⟨4, ![1, 1, 4, 128]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x4x128 : Shape := ⟨3, ![1, 4, 128]⟩
abbrev S2048x4 : Shape := ⟨2, ![2048, 4]⟩
abbrev S4x1x128 : Shape := ⟨3, ![4, 1, 128]⟩
abbrev S4x128x1 : Shape := ⟨3, ![4, 128, 1]⟩

abbrev nBuf : Space → Nat
  | .hbm => 195
  | .vmem => 0
  | .smem => 0
  | _ => 0

abbrev hbmTy0_0 (i : Nat) : BufTy := match i % 128 with
  | 0 => ⟨S2048x6528, .f32⟩
  | 1 => ⟨S4x128, .f32⟩
  | 2 => ⟨S4x128x128, .f32⟩
  | 3 => ⟨S4x128, .f32⟩
  | 4 => ⟨S2048x2048, .f32⟩
  | 5 => ⟨S2048x512, .f32⟩
  | 6 => ⟨S1x2048x512, .f32⟩
  | 7 => ⟨S2048x512, .f32⟩
  | 8 => ⟨S1x2048x512, .f32⟩
  | 9 => ⟨S2048x512, .f32⟩
  | 10 => ⟨S1x2048x512, .f32⟩
  | 11 => ⟨S1x2048x512, .f32⟩
  | 12 => ⟨S1x2048x512, .f32⟩
  | 13 => ⟨S1x2048x512, .f32⟩
  | 14 => ⟨S_, .f32⟩
  | 15 => ⟨S1x2048x512, .f32⟩
  | 16 => ⟨S1x2048x512, .f32⟩
  | 17 => ⟨S_, .f32⟩
  | 18 => ⟨S1x2048x512, .f32⟩
  | 19 => ⟨S1x2048x512, .f32⟩
  | 20 => ⟨S1x2048x512, .f32⟩
  | 21 => ⟨S_, .f32⟩
  | 22 => ⟨S1x2048x512, .f32⟩
  | 23 => ⟨S1x2048x512, .f32⟩
  | 24 => ⟨S1x2048x512, .f32⟩
  | 25 => ⟨S_, .f32⟩
  | 26 => ⟨S1x2048x512, .f32⟩
  | 27 => ⟨S1x2048x512, .f32⟩
  | 28 => ⟨S_, .f32⟩
  | 29 => ⟨S1x2048x512, .f32⟩
  | 30 => ⟨S1x2048x512, .f32⟩
  | 31 => ⟨S1x2048x512, .f32⟩
  | 32 => ⟨S_, .f32⟩
  | 33 => ⟨S1x2048x512, .f32⟩
  | 34 => ⟨S1x2048x512, .f32⟩
  | 35 => ⟨S_, .f32⟩
  | 36 => ⟨S1x2048x512, .f32⟩
  | 37 => ⟨S1x2048x512, .f32⟩
  | 38 => ⟨S1x2048x512, .f32⟩
  | 39 => ⟨S1x2048x512, .f32⟩
  | 40 => ⟨S1x2048x512, .f32⟩
  | 41 => ⟨S1x2048x512, .f32⟩
  | 42 => ⟨S_, .f32⟩
  | 43 => ⟨S1x2048x512, .f32⟩
  | 44 => ⟨S1x2048x512, .f32⟩
  | 45 => ⟨S_, .f32⟩
  | 46 => ⟨S1x2048x512, .f32⟩
  | 47 => ⟨S1x2048x512, .f32⟩
  | 48 => ⟨S1x2048x512, .f32⟩
  | 49 => ⟨S_, .f32⟩
  | 50 => ⟨S1x2048x512, .f32⟩
  | 51 => ⟨S1x2048x512, .f32⟩
  | 52 => ⟨S1x2048x512, .f32⟩
  | 53 => ⟨S_, .f32⟩
  | 54 => ⟨S1x2048x512, .f32⟩
  | 55 => ⟨S1x2048x512, .f32⟩
  | 56 => ⟨S_, .f32⟩
  | 57 => ⟨S1x2048x512, .f32⟩
  | 58 => ⟨S1x2048x512, .f32⟩
  | 59 => ⟨S1x2048x512, .f32⟩
  | 60 => ⟨S_, .f32⟩
  | 61 => ⟨S1x2048x512, .f32⟩
  | 62 => ⟨S1x2048x512, .f32⟩
  | 63 => ⟨S_, .f32⟩
  | 64 => ⟨S1x2048x512, .f32⟩
  | 65 => ⟨S1x2048x512, .f32⟩
  | 66 => ⟨S1x2048x512, .f32⟩
  | 67 => ⟨S1x2048x4x128, .f32⟩
  | 68 => ⟨S1x2048x4x128, .f32⟩
  | 69 => ⟨S_, .f32⟩
  | 70 => ⟨S1x2048x4, .f32⟩
  | 71 => ⟨S1x2048x4x1, .f32⟩
  | 72 => ⟨S_, .f32⟩
  | 73 => ⟨S1x2048x4x1, .f32⟩
  | 74 => ⟨S1x2048x4x1, .f32⟩
  | 75 => ⟨S_, .f32⟩
  | 76 => ⟨S1x2048x4x1, .f32⟩
  | 77 => ⟨S1x2048x4x1, .f32⟩
  | 78 => ⟨S1x2048x4x1, .f32⟩
  | 79 => ⟨S1x2048x4x1, .f32⟩
  | 80 => ⟨S_, .f32⟩
  | 81 => ⟨S1x2048x4x1, .f32⟩
  | 82 => ⟨S1x2048x4x1, .f32⟩
  | 83 => ⟨S1x2048x4x128, .f32⟩
  | 84 => ⟨S1x2048x4x128, .f32⟩
  | 85 => ⟨S1x1x4x128, .f32⟩
  | 86 => ⟨S1x2048x4x128, .f32⟩
  | 87 => ⟨S1x2048x4x128, .f32⟩
  | 88 => ⟨S1x16x128x4x128, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S1x128x128, .i1⟩
  | 101 => ⟨S_, .f32⟩
  | 102 => ⟨S4x128x128, .f32⟩
  | 103 => ⟨S4x128x128, .i1⟩
  | 104 => ⟨S4x128x128, .f32⟩
  | 105 => ⟨S_, .f32⟩
  | 106 => ⟨S4x128x128, .f32⟩
  | 107 => ⟨S4x1x16x128x128, .f32⟩
  | 108 => ⟨S1x16x128x4x128, .f32⟩
  | 109 => ⟨S128x4, .f32⟩
  | 110 => ⟨S1x1x128x4x1, .f32⟩
  | 111 => ⟨S1x16x128x4x128, .f32⟩
  | 112 => ⟨S1x16x128x4x128, .f32⟩
  | 113 => ⟨S1x2048x512, .f32⟩
  | 114 => ⟨S1x2048x512, .f32⟩
  | 115 => ⟨S1x2048x512, .f32⟩
  | 116 => ⟨S1x2048x512, .f32⟩
  | 117 => ⟨S1x16x128x4x128, .f32⟩
  | 118 => ⟨S_, .f32⟩
  | 119 => ⟨S1x128x4, .f32⟩
  | 120 => ⟨S1x1x128x4x1, .f32⟩
  | 121 => ⟨S_, .f32⟩
  | 122 => ⟨S128x4, .f32⟩
  | 123 => ⟨S4x128, .f32⟩
  | 124 => ⟨S4x1x16x128x128, .f32⟩
  | 125 => ⟨S4x128x128, .f32⟩
  | 126 => ⟨S4x1x16x128x128, .f32⟩
  | 127 => ⟨S1x16x128x4x128, .f32⟩
  | _ => ⟨S2048x6528, .f32⟩

abbrev hbmTy0_1 (i : Nat) : BufTy := match i % 128 with
  | 0 => ⟨S_, .f32⟩
  | 1 => ⟨S4x128x128, .f32⟩
  | 2 => ⟨S4x128x128, .f32⟩
  | 3 => ⟨S1x2048x4x128, .f32⟩
  | 4 => ⟨S1x2048x4x128, .f32⟩
  | 5 => ⟨S_, .f32⟩
  | 6 => ⟨S1x4x128, .f32⟩
  | 7 => ⟨S1x1x4x128, .f32⟩
  | 8 => ⟨S1x2048x4x128, .f32⟩
  | 9 => ⟨S1x2048x4x128, .f32⟩
  | 10 => ⟨S_, .f32⟩
  | 11 => ⟨S4x128, .f32⟩
  | 12 => ⟨S1x2048x4x128, .f32⟩
  | 13 => ⟨S_, .f32⟩
  | 14 => ⟨S1x2048x4, .f32⟩
  | 15 => ⟨S1x2048x4x1, .f32⟩
  | 16 => ⟨S1x2048x4x128, .f32⟩
  | 17 => ⟨S1x2048x4x128, .f32⟩
  | 18 => ⟨S1x2048x4x1, .f32⟩
  | 19 => ⟨S_, .f32⟩
  | 20 => ⟨S1x2048x4x1, .f32⟩
  | 21 => ⟨S1x2048x4x1, .f32⟩
  | 22 => ⟨S_, .f32⟩
  | 23 => ⟨S2048x4, .f32⟩
  | 24 => ⟨S1x2048x4, .f32⟩
  | 25 => ⟨S1x2048x4x128, .f32⟩
  | 26 => ⟨S1x2048x4x128, .f32⟩
  | 27 => ⟨S1x2048x4x128, .f32⟩
  | 28 => ⟨S1x2048x4x128, .f32⟩
  | 29 => ⟨S1x2048x4x128, .f32⟩
  | 30 => ⟨S1x2048x512, .f32⟩
  | 31 => ⟨S1x2048x512, .f32⟩
  | 32 => ⟨S1x2048x512, .f32⟩
  | 33 => ⟨S_, .f32⟩
  | 34 => ⟨S1x2048x512, .f32⟩
  | 35 => ⟨S1x2048x512, .f32⟩
  | 36 => ⟨S1x2048x512, .f32⟩
  | 37 => ⟨S_, .f32⟩
  | 38 => ⟨S1x2048x512, .f32⟩
  | 39 => ⟨S1x2048x512, .f32⟩
  | 40 => ⟨S1x2048x512, .f32⟩
  | 41 => ⟨S_, .f32⟩
  | 42 => ⟨S1x2048x512, .f32⟩
  | 43 => ⟨S1x2048x512, .f32⟩
  | 44 => ⟨S1x2048x512, .f32⟩
  | 45 => ⟨S1x2048x512, .f32⟩
  | 46 => ⟨S1x2048x512, .f32⟩
  | 47 => ⟨S1x2048x512, .f32⟩
  | 48 => ⟨S_, .f32⟩
  | 49 => ⟨S1x2048x512, .f32⟩
  | 50 => ⟨S1x2048x512, .f32⟩
  | 51 => ⟨S1x2048x512, .f32⟩
  | 52 => ⟨S_, .f32⟩
  | 53 => ⟨S1x2048x512, .f32⟩
  | 54 => ⟨S1x2048x512, .f32⟩
  | 55 => ⟨S1x2048x512, .f32⟩
  | 56 => ⟨S_, .f32⟩
  | 57 => ⟨S1x2048x512, .f32⟩
  | 58 => ⟨S1x2048x512, .f32⟩
  | 59 => ⟨S1x2048x512, .f32⟩
  | 60 => ⟨S1x2048x512, .f32⟩
  | 61 => ⟨S2048x512, .f32⟩
  | 62 => ⟨S2048x512, .bf16⟩
  | 63 => ⟨S2048x512, .f32⟩
  | 64 => ⟨S2048x512, .bf16⟩
  | 65 => ⟨S4x1x128, .f32⟩
  | 66 => ⟨S4x128x1, .f32⟩
  | _ => ⟨S2048x6528, .f32⟩

abbrev hbmTy (i : Nat) : BufTy := match i / 128 with
  | 0 => hbmTy0_0 i
  | 1 => hbmTy0_1 i
  | _ => ⟨S2048x6528, .f32⟩

abbrev bufTy : (tb : Table) → Fin (tcTables nBuf tb) → BufTy
  | .hbm, ⟨i, _⟩ => hbmTy i
  | _, _ => ⟨S2048x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c : Ref sig .tc := ⟨.hbm, 89, rfl⟩
abbrev main_v66 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_0 : Ref sig .tc := ⟨.hbm, 97, rfl⟩
abbrev main_call0_v5 : Ref sig .tc := ⟨.hbm, 98, rfl⟩
abbrev main_v67 : Ref sig .tc := ⟨.hbm, 99, rfl⟩
abbrev main_v68 : Ref sig .tc := ⟨.hbm, 100, rfl⟩
abbrev main_cst_17 : Ref sig .tc := ⟨.hbm, 101, rfl⟩
abbrev main_v69 : Ref sig .tc := ⟨.hbm, 102, rfl⟩
abbrev main_v70_1 : Ref sig .tc := ⟨.hbm, 103, rfl⟩
abbrev main_v70_0 : Ref sig .tc := ⟨.hbm, 104, rfl⟩
abbrev main_call1_cst : Ref sig .tc := ⟨.hbm, 105, rfl⟩
abbrev main_v70_2 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call2_cst : Ref sig .tc := ⟨.hbm, 128, rfl⟩
abbrev main_call2_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_20 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_cst_24 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_25 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_26 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_27 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_28 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_29 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_30 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩

abbrev nD : Nat := 1
abbrev τ : Topo := Topo.v7x

variable {F : FTy → Type} [FloatOps F]
-- ==== DactKernel.lean ====
abbrev S2048x2048 : Shape := ⟨2, ![2048, 2048]⟩
abbrev S1x5632x2048 : Shape := ⟨3, ![1, 5632, 2048]⟩
abbrev S2x2048x5632 : Shape := ⟨3, ![2, 2048, 5632]⟩
abbrev S512x2048 : Shape := ⟨2, ![512, 2048]⟩
abbrev S1x1408x2048 : Shape := ⟨3, ![1, 1408, 2048]⟩
abbrev S2x512x1408 : Shape := ⟨3, ![2, 512, 1408]⟩
abbrev S1408x2048 : Shape := ⟨2, ![1408, 2048]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2x2048x5632, .bf16⟩
  | .hbm, ⟨3, _⟩ => ⟨S2x2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DactReferenceIdeal.lean ====
abbrev S2048x2048 : Shape := ⟨2, ![2048, 2048]⟩
abbrev S1x5632x2048 : Shape := ⟨3, ![1, 5632, 2048]⟩
abbrev S2x2048x5632 : Shape := ⟨3, ![2, 2048, 5632]⟩
abbrev S1x2048x5632 : Shape := ⟨3, ![1, 2048, 5632]⟩
abbrev S5632x2048 : Shape := ⟨2, ![5632, 2048]⟩
abbrev S_ : Shape := ⟨0, ![]⟩
abbrev S1x2048x2048 : Shape := ⟨3, ![1, 2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2x2048x5632, .bf16⟩
  | .hbm, ⟨3, _⟩ => ⟨S1x2048x5632, .bf16⟩
  | .hbm, ⟨4, _⟩ => ⟨S1x2048x5632, .f32⟩
  | .hbm, ⟨5, _⟩ => ⟨S1x2048x5632, .bf16⟩
  | .hbm, ⟨6, _⟩ => ⟨S1x2048x5632, .f32⟩
  | .hbm, ⟨7, _⟩ => ⟨S5632x2048, .bf16⟩
  | .hbm, ⟨8, _⟩ => ⟨S5632x2048, .f32⟩
  | .hbm, ⟨9, _⟩ => ⟨S1x2048x5632, .f32⟩
  | .hbm, ⟨10, _⟩ => ⟨S1x2048x5632, .f32⟩
  | .hbm, ⟨11, _⟩ => ⟨S_, .f32⟩
  | .hbm, ⟨12, _⟩ => ⟨S1x2048x5632, .f32⟩
  | .hbm, ⟨13, _⟩ => ⟨S1x2048x5632, .f32⟩
  | .hbm, ⟨14, _⟩ => ⟨S_, .f32⟩
  | .hbm, ⟨15, _⟩ => ⟨S1x2048x5632, .f32⟩
  | .hbm, ⟨16, _⟩ => ⟨S1x2048x5632, .f32⟩
  | .hbm, ⟨17, _⟩ => ⟨S_, .f32⟩
  | .hbm, ⟨18, _⟩ => ⟨S1x2048x5632, .f32⟩
  | .hbm, ⟨19, _⟩ => ⟨S1x2048x5632, .f32⟩
  | .hbm, ⟨20, _⟩ => ⟨S1x2048x5632, .f32⟩
  | .hbm, ⟨21, _⟩ => ⟨S1x2048x5632, .f32⟩
  | .hbm, ⟨22, _⟩ => ⟨S1x2048x5632, .f32⟩
  | .hbm, ⟨23, _⟩ => ⟨S1x2048x2048, .f32⟩
  | .hbm, ⟨24, _⟩ => ⟨S1x2048x2048, .bf16⟩
  | .hbm, ⟨25, _⟩ => ⟨S1x2048x2048, .f32⟩
  | .hbm, ⟨26, _⟩ => ⟨S1x2048x5632, .f32⟩
  | .hbm, ⟨27, _⟩ => ⟨S1x2048x5632, .f32⟩
  | .hbm, ⟨28, _⟩ => ⟨S1x2048x5632, .f32⟩
  | .hbm, ⟨29, _⟩ => ⟨S1x2048x5632, .f32⟩
  | .hbm, ⟨30, _⟩ => ⟨S1x2048x5632, .f32⟩
  | .hbm, ⟨31, _⟩ => ⟨S1x2048x5632, .f32⟩
  | .hbm, ⟨32, _⟩ => ⟨S1x2048x5632, .f32⟩
  | .hbm, ⟨33, _⟩ => ⟨S2x2048x5632, .f32⟩
  | .hbm, ⟨34, _⟩ => ⟨S2x2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== DwguKernel.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli c2_i32_4 arg0
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwguReferenceIdeal.lean ====
abbrev S2048x2048 : Shape := ⟨2, ![2048, 2048]⟩
abbrev S2x2048x5632 : Shape := ⟨3, ![2, 2048, 5632]⟩
abbrev S1x2048x2048 : Shape := ⟨3, ![1, 2048, 2048]⟩
abbrev S_ : Shape := ⟨0, ![]⟩
abbrev S2048x11264 : Shape := ⟨2, ![2048, 11264]⟩
abbrev S1x2048x11264 : Shape := ⟨3, ![1, 2048, 11264]⟩
abbrev S1x2048x5632 : Shape := ⟨3, ![1, 2048, 5632]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S1x2048x2048, .bf16⟩
  | .hbm, ⟨3, _⟩ => ⟨S1x2048x2048, .f32⟩
  | .hbm, ⟨4, _⟩ => ⟨S_, .f32⟩
  | .hbm, ⟨5, _⟩ => ⟨S2048x11264, .f32⟩
  | .hbm, ⟨6, _⟩ => ⟨S1x2048x11264, .f32⟩
  | .hbm, ⟨7, _⟩ => ⟨S1x2048x5632, .f32⟩
  | .hbm, ⟨8, _⟩ => ⟨S1x2048x5632, .f32⟩
  | .hbm, ⟨9, _⟩ => ⟨S1x2048x5632, .bf16⟩
  | .hbm, ⟨10, _⟩ => ⟨S1x2048x5632, .f32⟩
  | .hbm, ⟨11, _⟩ => ⟨S1x2048x5632, .bf16⟩
  | .hbm, ⟨12, _⟩ => ⟨S1x2048x5632, .f32⟩
  | .hbm, ⟨13, _⟩ => ⟨S1x2048x11264, .f32⟩
  | .hbm, ⟨14, _⟩ => ⟨S11264x2048, .f32⟩
  | .hbm, ⟨15, _⟩ => ⟨S2048x11264, .f32⟩
  | .hbm, ⟨16, _⟩ => ⟨S2048x11264, .bf16⟩
  | .hbm, ⟨17, _⟩ => ⟨S2048x4x2816, .bf16⟩
  | .hbm, ⟨18, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Dh2Kernel.lean ====
abbrev S2x2048x5632 : Shape := ⟨3, ![2, 2048, 5632]⟩
abbrev S1x4x2048x2816 : Shape := ⟨4, ![1, 4, 2048, 2816]⟩
abbrev S2048x2048 : Shape := ⟨2, ![2048, 2048]⟩
abbrev S1x1024x1408 : Shape := ⟨3, ![1, 1024, 1408]⟩
abbrev S1x1x2048x1408 : Shape := ⟨4, ![1, 1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x5632, .bf16⟩
  | .hbm, ⟨1, _⟩ => ⟨S1x4x2048x2816, .bf16⟩
  | .hbm, ⟨2, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x2048, .f32⟩
  | .local _ .vmem, ⟨5, _⟩ => ⟨S1024x2048, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Dh2ReferenceIdeal.lean ====
abbrev S2x2048x5632 : Shape := ⟨3, ![2, 2048, 5632]⟩
abbrev S1x4x2048x2816 : Shape := ⟨4, ![1, 4, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S_ : Shape := ⟨0, ![]⟩
abbrev S1x2048x2048 : Shape := ⟨3, ![1, 2048, 2048]⟩
abbrev S1x2048x11264 : Shape := ⟨3, ![1, 2048, 11264]⟩
abbrev S1x2048x5632 : Shape := ⟨3, ![1, 2048, 5632]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S1x4x2048x2816, .bf16⟩
  | .hbm, ⟨2, _⟩ => ⟨S4x2048x2816, .bf16⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S_, .f32⟩
  | .hbm, ⟨7, _⟩ => ⟨S1x2048x2048, .f32⟩
  | .hbm, ⟨8, _⟩ => ⟨S1x2048x11264, .f32⟩
  | .hbm, ⟨9, _⟩ => ⟨S1x2048x5632, .f32⟩
  | .hbm, ⟨10, _⟩ => ⟨S1x2048x5632, .f32⟩
  | .hbm, ⟨11, _⟩ => ⟨S1x2048x5632, .bf16⟩
  | .hbm, ⟨12, _⟩ => ⟨S1x2048x5632, .f32⟩
  | .hbm, ⟨13, _⟩ => ⟨S1x2048x5632, .bf16⟩
  | .hbm, ⟨14, _⟩ => ⟨S1x2048x5632, .f32⟩
  | .hbm, ⟨15, _⟩ => ⟨S1x2048x11264, .f32⟩
  | .hbm, ⟨16, _⟩ => ⟨S1x2048x2048, .f32⟩
  | .hbm, ⟨17, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== GuKernel.lean ====
abbrev S2048x2048 : Shape := ⟨2, ![2048, 2048]⟩
abbrev S1x4x2048x2816 : Shape := ⟨4, ![1, 4, 2048, 2816]⟩
abbrev S2x2048x5632 : Shape := ⟨3, ![2, 2048, 5632]⟩
abbrev S2048x5632 : Shape := ⟨2, ![2048, 5632]⟩
abbrev S512x2048 : Shape := ⟨2, ![512, 2048]⟩
abbrev S1x1x2048x1408 : Shape := ⟨4, ![1, 1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S1x4x2048x2816, .bf16⟩
  | .hbm, ⟨2, _⟩ => ⟨S2x2048x5632, .bf16⟩
  | .hbm, ⟨3, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![c0_i32_11.toNat, v17.toNat, c0_i32_12.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GuReferenceIdeal.lean ====
abbrev S2048x2048 : Shape := ⟨2, ![2048, 2048]⟩
abbrev S1x4x2048x2816 : Shape := ⟨4, ![1, 4, 2048, 2816]⟩
abbrev S1x2048x2048 : Shape := ⟨3, ![1, 2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S1x2048x11264 : Shape := ⟨3, ![1, 2048, 11264]⟩
abbrev S1x2048x5632 : Shape := ⟨3, ![1, 2048, 5632]⟩
abbrev S2x2048x5632 : Shape := ⟨3, ![2, 2048, 5632]⟩
abbrev S_ : Shape := ⟨0, ![]⟩
abbrev S2048x5632 : Shape := ⟨2, ![2048, 5632]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x4x2048x2816, .bf16⟩
  | .hbm, ⟨2, _⟩ => ⟨S1x2048x2048, .bf16⟩
  | .hbm, ⟨3, _⟩ => ⟨S1x2048x2048, .f32⟩
  | .hbm, ⟨4, _⟩ => ⟨S4x2048x2816, .bf16⟩
  | .hbm, ⟨5, _⟩ => ⟨S2048x4x2816, .bf16⟩
  | .hbm, ⟨6, _⟩ => ⟨S2048x11264, .bf16⟩
  | .hbm, ⟨7, _⟩ => ⟨S2048x11264, .f32⟩
  | .hbm, ⟨8, _⟩ => ⟨S1x2048x11264, .f32⟩
  | .hbm, ⟨9, _⟩ => ⟨S1x2048x5632, .f32⟩
  | .hbm, ⟨10, _⟩ => ⟨S1x2048x5632, .f32⟩
  | .hbm, ⟨11, _⟩ => ⟨S2x2048x5632, .f32⟩
  | .hbm, ⟨12, _⟩ => ⟨S2x2048x5632, .bf16⟩
  | .hbm, ⟨13, _⟩ => ⟨S1x2048x5632, .f32⟩
  | .hbm, ⟨14, _⟩ => ⟨S1x2048x5632, .f32⟩
  | .hbm, ⟨15, _⟩ => ⟨S_, .f32⟩
  | .hbm, ⟨16, _⟩ => ⟨S1x2048x5632, .f32⟩
  | .hbm, ⟨17, _⟩ => ⟨S1x2048x5632, .f32⟩
  | .hbm, ⟨18, _⟩ => ⟨S_, .f32⟩
  | .hbm, ⟨19, _⟩ => ⟨S1x2048x5632, .f32⟩
  | .hbm, ⟨20, _⟩ => ⟨S1x2048x5632, .f32⟩
  | .hbm, ⟨21, _⟩ => ⟨S1x2048x5632, .f32⟩
  | .hbm, ⟨22, _⟩ => ⟨S1x2048x5632, .f32⟩
  | .hbm, ⟨23, _⟩ => ⟨S2048x5632, .f32⟩
  | .hbm, ⟨24, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== DwdownKernel.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwdownReferenceIdeal.lean ====
abbrev S2048x5632 : Shape := ⟨2, ![2048, 5632]⟩
abbrev S2048x2048 : Shape := ⟨2, ![2048, 2048]⟩
abbrev S1x2048x5632 : Shape := ⟨3, ![1, 2048, 5632]⟩
abbrev S_ : Shape := ⟨0, ![]⟩
abbrev S5632x2048 : Shape := ⟨2, ![5632, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x2048x5632, .bf16⟩
  | .hbm, ⟨3, _⟩ => ⟨S1x2048x5632, .f32⟩
  | .hbm, ⟨4, _⟩ => ⟨S_, .f32⟩
  | .hbm, ⟨5, _⟩ => ⟨S5632x2048, .f32⟩
  | .hbm, ⟨6, _⟩ => ⟨S1x2048x2048, .f32⟩
  | .hbm, ⟨7, _⟩ => ⟨S1x2048x2048, .bf16⟩
  | .hbm, ⟨8, _⟩ => ⟨S1x2048x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownKernel.lean ====
abbrev S2048x5632 : Shape := ⟨2, ![2048, 5632]⟩
abbrev S1x5632x2048 : Shape := ⟨3, ![1, 5632, 2048]⟩
abbrev S2048x2048 : Shape := ⟨2, ![2048, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S2048x5632 : Shape := ⟨2, ![2048, 5632]⟩
abbrev S1x5632x2048 : Shape := ⟨3, ![1, 5632, 2048]⟩
abbrev S2048x2048 : Shape := ⟨2, ![2048, 2048]⟩
abbrev S1x2048x5632 : Shape := ⟨3, ![1, 2048, 5632]⟩
abbrev S5632x2048 : Shape := ⟨2, ![5632, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .hbm, ⟨3, _⟩ => ⟨S1x2048x5632, .bf16⟩
  | .hbm, ⟨4, _⟩ => ⟨S1x2048x5632, .f32⟩
  | .hbm, ⟨5, _⟩ => ⟨S5632x2048, .bf16⟩
  | .hbm, ⟨6, _⟩ => ⟨S5632x2048, .f32⟩
  | .hbm, ⟨7, _⟩ => ⟨S1x2048x2048, .f32⟩
  | .hbm, ⟨8, _⟩ => ⟨S2048x2048, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjKernel.lean ====
abbrev S2048x2048 : Shape := ⟨2, ![2048, 2048]⟩
abbrev S1x2048x6528 : Shape := ⟨3, ![1, 2048, 6528]⟩
abbrev S2048x6528 : Shape := ⟨2, ![2048, 6528]⟩
abbrev S1024x2048 : Shape := ⟨2, ![1024, 2048]⟩
abbrev S1x2048x2176 : Shape := ⟨3, ![1, 2048, 2176]⟩
abbrev S1024x2176 : Shape := ⟨2, ![1024, 2176]⟩
abbrev S2048x2176 : Shape := ⟨2, ![2048, 2176]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x6528, .bf16⟩
  | .hbm, ⟨2, _⟩ => ⟨S2048x6528, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2176, .bf16⟩
  | .local _ .vmem, ⟨3, _⟩ => ⟨S1x2048x2176, .bf16⟩
  | .local _ .vmem, ⟨4, _⟩ => ⟨S1024x2176, .f32⟩
  | .local _ .vmem, ⟨5, _⟩ => ⟨S1024x2176, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2048x2048 : Shape := ⟨2, ![2048, 2048]⟩
abbrev S1x2048x6528 : Shape := ⟨3, ![1, 2048, 6528]⟩
abbrev S1x2048x2048 : Shape := ⟨3, ![1, 2048, 2048]⟩
abbrev S2048x6528 : Shape := ⟨2, ![2048, 6528]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x6528, .bf16⟩
  | .hbm, ⟨2, _⟩ => ⟨S1x2048x2048, .bf16⟩
  | .hbm, ⟨3, _⟩ => ⟨S1x2048x2048, .f32⟩
  | .hbm, ⟨4, _⟩ => ⟨S2048x6528, .bf16⟩
  | .hbm, ⟨5, _⟩ => ⟨S2048x6528, .f32⟩
  | .hbm, ⟨6, _⟩ => ⟨S1x2048x6528, .f32⟩
  | .hbm, ⟨7, _⟩ => ⟨S2048x6528, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Dh1Kernel.lean ====
abbrev S2048x6528 : Shape := ⟨2, ![2048, 6528]⟩
abbrev S1x2048x6528 : Shape := ⟨3, ![1, 2048, 6528]⟩
abbrev S2048x2048 : Shape := ⟨2, ![2048, 2048]⟩
abbrev S1024x2176 : Shape := ⟨2, ![1024, 2176]⟩
abbrev S1x2048x2176 : Shape := ⟨3, ![1, 2048, 2176]⟩
abbrev S1024x2048 : Shape := ⟨2, ![1024, 2048]⟩
abbrev S2048x2176 : Shape := ⟨2, ![2048, 2176]⟩

abbrev nBuf : Space → Nat
  | .hbm => 3
  | .vmem => 6
  | .smem => 0
  | _ => 0

abbrev bufTy : (tb : Table) → Fin (tcTables nBuf tb) → BufTy
  | .hbm, ⟨0, _⟩ => ⟨S2048x6528, .bf16⟩
  | .hbm, ⟨1, _⟩ => ⟨S1x2048x6528, .bf16⟩
  | .hbm, ⟨2, _⟩ => ⟨S2048x2048, .f32⟩
  | .local _ .vmem, ⟨0, _⟩ => ⟨S1024x2176, .bf16⟩
  | .local _ .vmem, ⟨1, _⟩ => ⟨S1024x2176, .bf16⟩
  | .local _ .vmem, ⟨2, _⟩ => ⟨S1x2048x2176, .bf16⟩
  | .local _ .vmem, ⟨3, _⟩ => ⟨S1x2048x2176, .bf16⟩
  | .local _ .vmem, ⟨4, _⟩ => ⟨S1024x2048, .f32⟩
  | .local _ .vmem, ⟨5, _⟩ => ⟨S1024x2048, .f32⟩
  | _, _ => ⟨S2048x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Dh1ReferenceIdeal.lean ====
abbrev S2048x6528 : Shape := ⟨2, ![2048, 6528]⟩
abbrev S1x2048x6528 : Shape := ⟨3, ![1, 2048, 6528]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x6528, .bf16⟩
  | .hbm, ⟨1, _⟩ => ⟨S1x2048x6528, .bf16⟩
  | .hbm, ⟨2, _⟩ => ⟨S2048x6528, .bf16⟩
  | .hbm, ⟨3, _⟩ => ⟨S2048x6528, .f32⟩
  | .hbm, ⟨4, _⟩ => ⟨S_, .f32⟩
  | .hbm, ⟨5, _⟩ => ⟨S1x2048x2048, .f32⟩
  | .hbm, ⟨6, _⟩ => ⟨S1x2048x6528, .f32⟩
  | .hbm, ⟨7, _⟩ => ⟨S1x2048x6528, .bf16⟩
  | .hbm, ⟨8, _⟩ => ⟨S1x2048x6528, .f32⟩
  | .hbm, ⟨9, _⟩ => ⟨S1x2048x2048, .f32⟩
  | .hbm, ⟨10, _⟩ => ⟨S2048x2048, .f32⟩
  | _, _ => ⟨S2048x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwinKernel.lean ====
abbrev S2048x2048 : Shape := ⟨2, ![2048, 2048]⟩
abbrev S2048x6528 : Shape := ⟨2, ![2048, 6528]⟩
abbrev S2048x1024 : Shape := ⟨2, ![2048, 1024]⟩
abbrev S2048x2176 : Shape := ⟨2, ![2048, 2176]⟩
abbrev S1024x2176 : Shape := ⟨2, ![1024, 2176]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6528, .bf16⟩
  | .hbm, ⟨2, _⟩ => ⟨S2048x6528, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2176, .bf16⟩
  | .local _ .vmem, ⟨3, _⟩ => ⟨S2048x2176, .bf16⟩
  | .local _ .vmem, ⟨4, _⟩ => ⟨S1024x2176, .bf16⟩
  | .local _ .vmem, ⟨5, _⟩ => ⟨S1024x2176, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwinReferenceIdeal.lean ====
abbrev S2048x2048 : Shape := ⟨2, ![2048, 2048]⟩
abbrev S2048x6528 : Shape := ⟨2, ![2048, 6528]⟩
abbrev S1x2048x2048 : Shape := ⟨3, ![1, 2048, 2048]⟩
abbrev S_ : Shape := ⟨0, ![]⟩
abbrev S1x2048x6528 : Shape := ⟨3, ![1, 2048, 6528]⟩
abbrev S6528x2048 : Shape := ⟨2, ![6528, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6528, .bf16⟩
  | .hbm, ⟨2, _⟩ => ⟨S1x2048x2048, .bf16⟩
  | .hbm, ⟨3, _⟩ => ⟨S1x2048x2048, .f32⟩
  | .hbm, ⟨4, _⟩ => ⟨S_, .f32⟩
  | .hbm, ⟨5, _⟩ => ⟨S2048x6528, .f32⟩
  | .hbm, ⟨6, _⟩ => ⟨S1x2048x6528, .f32⟩
  | .hbm, ⟨7, _⟩ => ⟨S1x2048x6528, .bf16⟩
  | .hbm, ⟨8, _⟩ => ⟨S1x2048x6528, .f32⟩
  | .hbm, ⟨9, _⟩ => ⟨S6528x2048, .f32⟩
  | .hbm, ⟨10, _⟩ => ⟨S2048x6528, .f32⟩
  | .hbm, ⟨11, _⟩ => ⟨S2048x6528, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutKernel.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S2048x2048 : Shape := ⟨2, ![2048, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S1x2048x2048, .bf16⟩
  | .hbm, ⟨4, _⟩ => ⟨S1x2048x2048, .f32⟩
  | .hbm, ⟨5, _⟩ => ⟨S2048x2048, .bf16⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DmixKernel.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DmixReferenceIdeal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S1x2048x2048, .f32⟩
  | .hbm, ⟨6, _⟩ => ⟨S1x2048x2048, .f32⟩
  | .hbm, ⟨7, _⟩ => ⟨S1x2048x2048, .bf16⟩
  | .hbm, ⟨8, _⟩ => ⟨S1x2048x2048, .f32⟩
  | .hbm, ⟨9, _⟩ => ⟨S1x2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwoutKernel.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoutReferenceIdeal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .hbm, ⟨3, _⟩ => ⟨S1x2048x2048, .f32⟩
  | .hbm, ⟨4, _⟩ => ⟨S_, .f32⟩
  | .hbm, ⟨5, _⟩ => ⟨S2048x2048, .f32⟩
  | .hbm, ⟨6, _⟩ => ⟨S1x2048x2048, .f32⟩
  | .hbm, ⟨7, _⟩ => ⟨S1x2048x2048, .bf16⟩
  | .hbm, ⟨8, _⟩ => ⟨S1x2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ScanKernel.lean ====
abbrev S2048x768 : Shape := ⟨2, ![2048, 768]⟩
abbrev S6x2048x128 : Shape := ⟨3, ![6, 2048, 128]⟩
abbrev S6x32x64x64 : Shape := ⟨4, ![6, 32, 64, 64]⟩
abbrev S128 : Shape := ⟨1, ![128]⟩
abbrev S32x6x128x128 : Shape := ⟨4, ![32, 6, 128, 128]⟩
abbrev S2048x2048 : Shape := ⟨2, ![2048, 2048]⟩
abbrev S1x128 : Shape := ⟨2, ![1, 128]⟩
abbrev S64x768 : Shape := ⟨2, ![64, 768]⟩
abbrev S6x64x128 : Shape := ⟨3, ![6, 64, 128]⟩
abbrev S6x1x64x64 : Shape := ⟨4, ![6, 1, 64, 64]⟩
abbrev S1x6x128x128 : Shape := ⟨4, ![1, 6, 128, 128]⟩
abbrev S64x128 : Shape := ⟨2, ![64, 128]⟩
abbrev S6x128x128 : Shape := ⟨3, ![6, 128, 128]⟩
abbrev S1x64x128 : Shape := ⟨3, ![1, 64, 128]⟩
abbrev S1x1x64x64 : Shape := ⟨4, ![1, 1, 64, 64]⟩
abbrev S64x64 : Shape := ⟨2, ![64, 64]⟩
abbrev S1x1x128x128 : Shape := ⟨4, ![1, 1, 128, 128]⟩
abbrev S128x128 : Shape := ⟨2, ![128, 128]⟩
abbrev S64 : Shape := ⟨1, ![64]⟩
abbrev S64x1 : Shape := ⟨2, ![64, 1]⟩
abbrev S1x128x128 : Shape := ⟨3, ![1, 128, 128]⟩

abbrev nBuf : Space → Nat
  | .hbm => 19
  | .vmem => 45
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S6x2048x128, .f32⟩
  | .hbm, ⟨5, _⟩ => ⟨S6x32x64x64, .f32⟩
  | .hbm, ⟨6, _⟩ => ⟨S2048x768, .f32⟩
  | .hbm, ⟨7, _⟩ => ⟨S128, .f32⟩
  | .hbm, ⟨8, _⟩ => ⟨S32x6x128x128, .f32⟩
  | .hbm, ⟨9, _⟩ => ⟨S2048x2048, .f32⟩
  | .hbm, ⟨10, _⟩ => ⟨S1x128, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .bf16⟩
  | .hbm, ⟨16, _⟩ => ⟨S6x2048x128, .f32⟩
  | .hbm, ⟨17, _⟩ => ⟨S6x32x64x64, .f32⟩
  | .hbm, ⟨18, _⟩ => ⟨S1x128, .f32⟩
  | .local _ .vmem, ⟨0, _⟩ => ⟨S64x768, .f32⟩
  | .local _ .vmem, ⟨1, _⟩ => ⟨S64x768, .f32⟩
  | .local _ .vmem, ⟨2, _⟩ => ⟨S64x768, .f32⟩
  | .local _ .vmem, ⟨3, _⟩ => ⟨S64x768, .f32⟩
  | .local _ .vmem, ⟨4, _⟩ => ⟨S64x768, .f32⟩
  | .local _ .vmem, ⟨5, _⟩ => ⟨S64x768, .f32⟩
  | .local _ .vmem, ⟨6, _⟩ => ⟨S64x768, .f32⟩
  | .local _ .vmem, ⟨7, _⟩ => ⟨S64x768, .f32⟩
  | .local _ .vmem, ⟨8, _⟩ => ⟨S6x64x128, .f32⟩
  | .local _ .vmem, ⟨9, _⟩ => ⟨S6x64x128, .f32⟩
  | .local _ .vmem, ⟨10, _⟩ => ⟨S6x1x64x64, .f32⟩
  | .local _ .vmem, ⟨11, _⟩ => ⟨S6x1x64x64, .f32⟩
  | .local _ .vmem, ⟨12, _⟩ => ⟨S64x768, .f32⟩
  | .local _ .vmem, ⟨13, _⟩ => ⟨S64x768, .f32⟩
  | .local _ .vmem, ⟨14, _⟩ => ⟨S1x128, .f32⟩
  | .local _ .vmem, ⟨15, _⟩ => ⟨S1x6x128x128, .f32⟩
  | .local _ .vmem, ⟨16, _⟩ => ⟨S1x6x128x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S64x128, .f32⟩
  | .local _ .vmem, ⟨27, _⟩ => ⟨S64x128, .f32⟩
  | .local _ .vmem, ⟨28, _⟩ => ⟨S64x128, .f32⟩
  | .local _ .vmem, ⟨29, _⟩ => ⟨S64x768, .f32⟩
  | .local _ .vmem, ⟨30, _⟩ => ⟨S64x768, .f32⟩
  | .local _ .vmem, ⟨31, _⟩ => ⟨S64x768, .f32⟩
  | .local _ .vmem, ⟨32, _⟩ => ⟨S64x768, .f32⟩
  | .local _ .vmem, ⟨33, _⟩ => ⟨S64x768, .f32⟩
  | .local _ .vmem, ⟨34, _⟩ => ⟨S64x768, .f32⟩
  | .local _ .vmem, ⟨35, _⟩ => ⟨S64x768, .f32⟩
  | .local _ .vmem, ⟨36, _⟩ => ⟨S64x768, .f32⟩
  | .local _ .vmem, ⟨37, _⟩ => ⟨S64x768, .bf16⟩
  | .local _ .vmem, ⟨38, _⟩ => ⟨S64x768, .bf16⟩
  | .local _ .vmem, ⟨39, _⟩ => ⟨S6x64x128, .f32⟩
  | .local _ .vmem, ⟨40, _⟩ => ⟨S6x64x128, .f32⟩
  | .local _ .vmem, ⟨41, _⟩ => ⟨S6x1x64x64, .f32⟩
  | .local _ .vmem, ⟨42, _⟩ => ⟨S6x1x64x64, .f32⟩
  | .local _ .vmem, ⟨43, _⟩ => ⟨S1x128, .f32⟩
  | .local _ .vmem, ⟨44, _⟩ => ⟨S6x128x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c7_i32 : BitVec 32 := 7#32
  let c0_i32 : BitVec 32 := 0#32
  ![v0.toNat, c7_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  ![v0.toNat, c8_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c9_i32 : BitVec 32 := 9#32
  let c0_i32 : BitVec 32 := 0#32
  ![v0.toNat, c9_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_21 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x6x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x768 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x768 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S6x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S6x1x64x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ScanReferenceIdeal.lean ====
abbrev S2048x768 : Shape := ⟨2, ![2048, 768]⟩
abbrev S6x2048x128 : Shape := ⟨3, ![6, 2048, 128]⟩
abbrev S6x32x64x64 : Shape := ⟨4, ![6, 32, 64, 64]⟩
abbrev S128 : Shape := ⟨1, ![128]⟩
abbrev S32x6x128x128 : Shape := ⟨4, ![32, 6, 128, 128]⟩
abbrev S2048x2048 : Shape := ⟨2, ![2048, 2048]⟩
abbrev S6x32x64x128 : Shape := ⟨4, ![6, 32, 64, 128]⟩
abbrev S32x6x64x128 : Shape := ⟨4, ![32, 6, 64, 128]⟩
abbrev S32x64x6x128 : Shape := ⟨4, ![32, 64, 6, 128]⟩
abbrev S32x6x64x64 : Shape := ⟨4, ![32, 6, 64, 64]⟩
abbrev S_ : Shape := ⟨0, ![]⟩
abbrev S6x128x128 : Shape := ⟨3, ![6, 128, 128]⟩
abbrev S1x6x128x128 : Shape := ⟨4, ![1, 6, 128, 128]⟩
abbrev S1x6x64x128 : Shape := ⟨4, ![1, 6, 64, 128]⟩
abbrev S6x64x128 : Shape := ⟨3, ![6, 64, 128]⟩
abbrev S1x6x64x64 : Shape := ⟨4, ![1, 6, 64, 64]⟩
abbrev S6x64x64 : Shape := ⟨3, ![6, 64, 64]⟩
abbrev S6x1x128 : Shape := ⟨3, ![6, 1, 128]⟩
abbrev S6x64 : Shape := ⟨2, ![6, 64]⟩
abbrev S6x64x1 : Shape := ⟨3, ![6, 64, 1]⟩
abbrev S1x1x128 : Shape := ⟨3, ![1, 1, 128]⟩
abbrev S6x128x64 : Shape := ⟨3, ![6, 128, 64]⟩
abbrev S6x128 : Shape := ⟨2, ![6, 128]⟩
abbrev S1x128 : Shape := ⟨2, ![1, 128]⟩

abbrev nBuf : Space → Nat
  | .hbm => 290
  | .vmem => 0
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S2048x768, .f32⟩
  | 4 => ⟨S6x2048x128, .f32⟩
  | 5 => ⟨S6x32x64x64, .f32⟩
  | 6 => ⟨S2048x768, .f32⟩
  | 7 => ⟨S128, .f32⟩
  | 8 => ⟨S32x6x128x128, .f32⟩
  | 9 => ⟨S2048x2048, .f32⟩
  | 10 => ⟨S2048x768, .f32⟩
  | 11 => ⟨S6x32x64x128, .f32⟩
  | 12 => ⟨S32x6x64x128, .f32⟩
  | 13 => ⟨S32x64x6x128, .f32⟩
  | 14 => ⟨S32x6x64x128, .f32⟩
  | 15 => ⟨S32x64x6x128, .f32⟩
  | 16 => ⟨S32x6x64x128, .f32⟩
  | 17 => ⟨S32x64x6x128, .f32⟩
  | 18 => ⟨S32x6x64x128, .f32⟩
  | 19 => ⟨S32x64x6x128, .f32⟩
  | 20 => ⟨S32x6x64x128, .f32⟩
  | 21 => ⟨S32x6x64x64, .f32⟩
  | 22 => ⟨S32x64x6x128, .f32⟩
  | 23 => ⟨S32x6x64x128, .f32⟩
  | 24 => ⟨S32x64x6x128, .f32⟩
  | 25 => ⟨S32x6x64x128, .f32⟩
  | 26 => ⟨S_, .f32⟩
  | 27 => ⟨S6x128x128, .f32⟩
  | 28 => ⟨S_, .f32⟩
  | 29 => ⟨S128, .f32⟩
  | 30 => ⟨S_, .f32⟩
  | 31 => ⟨S32x6x64x128, .f32⟩
  | 32 => ⟨S_, .f32⟩
  | 33 => ⟨S32x6x64x128, .f32⟩
  | 34 => ⟨S_, .f32⟩
  | 35 => ⟨S32x6x64x128, .f32⟩
  | 36 => ⟨S_, .f32⟩
  | 37 => ⟨S32x6x64x128, .f32⟩
  | 38 => ⟨S_, .f32⟩
  | 39 => ⟨S32x6x64x128, .f32⟩
  | 40 => ⟨S_, .f32⟩
  | 41 => ⟨S32x6x64x128, .f32⟩
  | 42 => ⟨S_, .f32⟩
  | 43 => ⟨S32x6x64x64, .f32⟩
  | 44 => ⟨S_, .i32⟩
  | 45 => ⟨S32x6x128x128, .f32⟩
  | 46 => ⟨S32x6x64x128, .f32⟩
  | 47 => ⟨S32x6x64x128, .f32⟩
  | 48 => ⟨S32x6x64x128, .f32⟩
  | 49 => ⟨S32x6x64x128, .f32⟩
  | 50 => ⟨S32x6x64x128, .f32⟩
  | 51 => ⟨S32x6x64x64, .f32⟩
  | 52 => ⟨S32x6x64x128, .f32⟩
  | 53 => ⟨S32x6x64x128, .f32⟩
  | 54 => ⟨S128, .f32⟩
  | 55 => ⟨S_, .i32⟩
  | 56 => ⟨S6x128x128, .f32⟩
  | 57 => ⟨S128, .f32⟩
  | 58 => ⟨S32x6x64x128, .f32⟩
  | 59 => ⟨S32x6x64x128, .f32⟩
  | 60 => ⟨S32x6x64x128, .f32⟩
  | 61 => ⟨S32x6x64x128, .f32⟩
  | 62 => ⟨S32x6x64x128, .f32⟩
  | 63 => ⟨S32x6x64x128, .f32⟩
  | 64 => ⟨S32x6x64x64, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x6x128x128, .f32⟩
  | 75 => ⟨S6x128x128, .f32⟩
  | 76 => ⟨S_, .i32⟩
  | 77 => ⟨S_, .i32⟩
  | 78 => ⟨S_, .i32⟩
  | 79 => ⟨S1x6x64x128, .f32⟩
  | 80 => ⟨S6x64x128, .f32⟩
  | 81 => ⟨S_, .i32⟩
  | 82 => ⟨S_, .i32⟩
  | 83 => ⟨S_, .i32⟩
  | 84 => ⟨S1x6x64x128, .f32⟩
  | 85 => ⟨S6x64x128, .f32⟩
  | 86 => ⟨S_, .i32⟩
  | 87 => ⟨S_, .i32⟩
  | 88 => ⟨S_, .i32⟩
  | 89 => ⟨S1x6x64x128, .f32⟩
  | 90 => ⟨S6x64x128, .f32⟩
  | 91 => ⟨S_, .i32⟩
  | 92 => ⟨S_, .i32⟩
  | 93 => ⟨S_, .i32⟩
  | 94 => ⟨S1x6x64x128, .f32⟩
  | 95 => ⟨S6x64x128, .f32⟩
  | 96 => ⟨S_, .i32⟩
  | 97 => ⟨S_, .i32⟩
  | 98 => ⟨S_, .i32⟩
  | 99 => ⟨S1x6x64x128, .f32⟩
  | 100 => ⟨S6x64x128, .f32⟩
  | 101 => ⟨S_, .i32⟩
  | 102 => ⟨S_, .i32⟩
  | 103 => ⟨S_, .i32⟩
  | 104 => ⟨S1x6x64x64, .f32⟩
  | 105 => ⟨S6x64x64, .f32⟩
  | 106 => ⟨S_, .i32⟩
  | 107 => ⟨S_, .i32⟩
  | 108 => ⟨S_, .i32⟩
  | 109 => ⟨S1x6x64x128, .f32⟩
  | 110 => ⟨S6x64x128, .f32⟩
  | 111 => ⟨S_, .i32⟩
  | 112 => ⟨S_, .i32⟩
  | 113 => ⟨S_, .i32⟩
  | 114 => ⟨S1x6x64x128, .f32⟩
  | 115 => ⟨S6x64x128, .f32⟩
  | 116 => ⟨S6x64x128, .f32⟩
  | 117 => ⟨S6x64x128, .f32⟩
  | 118 => ⟨S6x64x128, .f32⟩
  | 119 => ⟨S6x64x128, .f32⟩
  | 120 => ⟨S6x64x128, .f32⟩
  | 121 => ⟨S6x64x128, .f32⟩
  | 122 => ⟨S6x64x128, .f32⟩
  | 123 => ⟨S6x1x128, .f32⟩
  | 124 => ⟨S6x1x128, .f32⟩
  | 125 => ⟨S6x128x128, .f32⟩
  | 126 => ⟨S6x128x128, .f32⟩
  | 127 => ⟨S6x64x128, .f32⟩
  | _ => ⟨S2048x768, .f32⟩

abbrev hbmTy0_1 (i : Nat) : BufTy := match i % 128 with
  | 0 => ⟨S6x64x128, .f32⟩
  | 1 => ⟨S6x64x128, .f32⟩
  | 2 => ⟨S6x64x128, .f32⟩
  | 3 => ⟨S6x128x128, .f32⟩
  | 4 => ⟨S6x128x128, .f32⟩
  | 5 => ⟨S6x64x128, .f32⟩
  | 6 => ⟨S_, .f32⟩
  | 7 => ⟨S6x64, .f32⟩
  | 8 => ⟨S6x64x1, .f32⟩
  | 9 => ⟨S_, .f32⟩
  | 10 => ⟨S6x64x1, .f32⟩
  | 11 => ⟨S6x64x1, .f32⟩
  | 12 => ⟨S_, .f32⟩
  | 13 => ⟨S6x64x1, .f32⟩
  | 14 => ⟨S6x64x1, .f32⟩
  | 15 => ⟨S6x64x1, .f32⟩
  | 16 => ⟨S6x64x1, .f32⟩
  | 17 => ⟨S_, .f32⟩
  | 18 => ⟨S6x64x1, .f32⟩
  | 19 => ⟨S6x64x1, .f32⟩
  | 20 => ⟨S6x64x128, .f32⟩
  | 21 => ⟨S6x64x128, .f32⟩
  | 22 => ⟨S1x1x128, .f32⟩
  | 23 => ⟨S6x64x128, .f32⟩
  | 24 => ⟨S6x64x128, .f32⟩
  | 25 => ⟨S6x64x128, .f32⟩
  | 26 => ⟨S6x64x128, .f32⟩
  | 27 => ⟨S_, .f32⟩
  | 28 => ⟨S6x64x128, .f32⟩
  | 29 => ⟨S6x64x128, .f32⟩
  | 30 => ⟨S_, .f32⟩
  | 31 => ⟨S6x64x128, .f32⟩
  | 32 => ⟨S6x64x128, .f32⟩
  | 33 => ⟨S_, .f32⟩
  | 34 => ⟨S6x64x128, .f32⟩
  | 35 => ⟨S6x64x128, .f32⟩
  | 36 => ⟨S6x64x128, .f32⟩
  | 37 => ⟨S6x64x128, .f32⟩
  | 38 => ⟨S6x64x128, .f32⟩
  | 39 => ⟨S6x64x128, .f32⟩
  | 40 => ⟨S6x64x128, .f32⟩
  | 41 => ⟨S6x64x128, .f32⟩
  | 42 => ⟨S6x64x128, .f32⟩
  | 43 => ⟨S6x64x128, .f32⟩
  | 44 => ⟨S6x64x128, .f32⟩
  | 45 => ⟨S6x64x128, .f32⟩
  | 46 => ⟨S_, .f32⟩
  | 47 => ⟨S128, .f32⟩
  | 48 => ⟨S1x1x128, .f32⟩
  | 49 => ⟨S6x64x128, .f32⟩
  | 50 => ⟨S6x64x128, .f32⟩
  | 51 => ⟨S_, .f32⟩
  | 52 => ⟨S128, .f32⟩
  | 53 => ⟨S6x64x128, .f32⟩
  | 54 => ⟨S_, .f32⟩
  | 55 => ⟨S6x64, .f32⟩
  | 56 => ⟨S6x64x1, .f32⟩
  | 57 => ⟨S6x64x128, .f32⟩
  | 58 => ⟨S6x64x128, .f32⟩
  | 59 => ⟨S6x64x1, .f32⟩
  | 60 => ⟨S_, .f32⟩
  | 61 => ⟨S6x64x1, .f32⟩
  | 62 => ⟨S6x64x1, .f32⟩
  | 63 => ⟨S_, .f32⟩
  | 64 => ⟨S6x64, .f32⟩
  | 65 => ⟨S6x64x128, .f32⟩
  | 66 => ⟨S6x64x128, .f32⟩
  | 67 => ⟨S6x64x128, .f32⟩
  | 68 => ⟨S6x64x128, .f32⟩
  | 69 => ⟨S6x64x128, .f32⟩
  | 70 => ⟨S6x128x64, .f32⟩
  | 71 => ⟨S6x64x128, .f32⟩
  | 72 => ⟨S6x128x64, .f32⟩
  | 73 => ⟨S6x64x128, .f32⟩
  | 74 => ⟨S6x64x128, .f32⟩
  | 75 => ⟨S6x64x128, .f32⟩
  | 76 => ⟨S6x64x128, .f32⟩
  | 77 => ⟨S_, .f32⟩
  | 78 => ⟨S6x128, .f32⟩
  | 79 => ⟨S6x1x128, .f32⟩
  | 80 => ⟨S6x64x128, .f32⟩
  | 81 => ⟨S6x128x128, .f32⟩
  | 82 => ⟨S_, .f32⟩
  | 83 => ⟨S6x128, .f32⟩
  | 84 => ⟨S6x1x128, .f32⟩
  | 85 => ⟨S6x128x128, .f32⟩
  | 86 => ⟨S6x128x128, .f32⟩
  | 87 => ⟨S6x1x128, .f32⟩
  | 88 => ⟨S6x1x128, .f32⟩
  | 89 => ⟨S_, .f32⟩
  | 90 => ⟨S6x64x128, .f32⟩
  | 91 => ⟨S6x64x128, .f32⟩
  | 92 => ⟨S6x128x64, .f32⟩
  | 93 => ⟨S6x64x128, .f32⟩
  | 94 => ⟨S6x64x128, .f32⟩
  | 95 => ⟨S6x64x64, .f32⟩
  | 96 => ⟨S6x128x128, .f32⟩
  | 97 => ⟨S6x128x128, .f32⟩
  | 98 => ⟨S6x128x128, .f32⟩
  | 99 => ⟨S6x64x128, .f32⟩
  | 100 => ⟨S6x64x128, .f32⟩
  | 101 => ⟨S6x64x128, .f32⟩
  | 102 => ⟨S6x64x128, .f32⟩
  | 103 => ⟨S6x64x128, .f32⟩
  | 104 => ⟨S6x64x128, .f32⟩
  | 105 => ⟨S6x128x128, .f32⟩
  | 106 => ⟨S6x128x128, .f32⟩
  | 107 => ⟨S6x128x128, .f32⟩
  | 108 => ⟨S6x64x128, .f32⟩
  | 109 => ⟨S128, .f32⟩
  | 110 => ⟨S1x6x64x128, .f32⟩
  | 111 => ⟨S_, .i32⟩
  | 112 => ⟨S_, .i32⟩
  | 113 => ⟨S_, .i32⟩
  | 114 => ⟨S32x6x64x128, .f32⟩
  | 115 => ⟨S1x6x64x128, .f32⟩
  | 116 => ⟨S_, .i32⟩
  | 117 => ⟨S_, .i32⟩
  | 118 => ⟨S_, .i32⟩
  | 119 => ⟨S32x6x64x128, .f32⟩
  | 120 => ⟨S1x6x64x128, .f32⟩
  | 121 => ⟨S_, .i32⟩
  | 122 => ⟨S_, .i32⟩
  | 123 => ⟨S_, .i32⟩
  | 124 => ⟨S32x6x64x128, .f32⟩
  | 125 => ⟨S1x6x64x128, .f32⟩
  | 126 => ⟨S_, .i32⟩
  | 127 => ⟨S_, .i32⟩
  | _ => ⟨S2048x768, .f32⟩

abbrev hbmTy0_2 (i : Nat) : BufTy := match i % 128 with
  | 0 => ⟨S_, .i32⟩
  | 1 => ⟨S32x6x64x128, .f32⟩
  | 2 => ⟨S1x6x64x128, .f32⟩
  | 3 => ⟨S_, .i32⟩
  | 4 => ⟨S_, .i32⟩
  | 5 => ⟨S_, .i32⟩
  | 6 => ⟨S32x6x64x128, .f32⟩
  | 7 => ⟨S1x6x64x128, .f32⟩
  | 8 => ⟨S_, .i32⟩
  | 9 => ⟨S_, .i32⟩
  | 10 => ⟨S_, .i32⟩
  | 11 => ⟨S32x6x64x128, .f32⟩
  | 12 => ⟨S1x6x64x64, .f32⟩
  | 13 => ⟨S_, .i32⟩
  | 14 => ⟨S_, .i32⟩
  | 15 => ⟨S_, .i32⟩
  | 16 => ⟨S32x6x64x64, .f32⟩
  | 17 => ⟨S_, .i32⟩
  | 18 => ⟨S_, .i32⟩
  | 19 => ⟨S32x64x6x128, .f32⟩
  | 20 => ⟨S2048x768, .f32⟩
  | 21 => ⟨S32x64x6x128, .f32⟩
  | 22 => ⟨S2048x768, .f32⟩
  | 23 => ⟨S32x64x6x128, .f32⟩
  | 24 => ⟨S2048x768, .f32⟩
  | 25 => ⟨S32x64x6x128, .f32⟩
  | 26 => ⟨S2048x768, .f32⟩
  | 27 => ⟨S32x64x6x128, .f32⟩
  | 28 => ⟨S2048x768, .f32⟩
  | 29 => ⟨S2048x768, .bf16⟩
  | 30 => ⟨S6x32x64x128, .f32⟩
  | 31 => ⟨S6x2048x128, .f32⟩
  | 32 => ⟨S6x32x64x64, .f32⟩
  | 33 => ⟨S1x128, .f32⟩
  | _ => ⟨S2048x768, .f32⟩

abbrev hbmTy (i : Nat) : BufTy := match i / 128 with
  | 0 => hbmTy0_0 i
  | 1 => hbmTy0_1 i
  | 2 => hbmTy0_2 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_c : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev main_v25_3 : Ref sig .tc := ⟨.hbm, 48, rfl⟩
abbrev main_v25_4 : Ref sig .tc := ⟨.hbm, 49, rfl⟩
abbrev main_v25_5 : Ref sig .tc := ⟨.hbm, 50, rfl⟩
abbrev main_v25_6 : Ref sig .tc := ⟨.hbm, 51, rfl⟩
abbrev main_v25_7 : Ref sig .tc := ⟨.hbm, 52, rfl⟩
abbrev main_v25_8 : Ref sig .tc := ⟨.hbm, 53, rfl⟩
abbrev main_v25_9 : Ref sig .tc := ⟨.hbm, 54, rfl⟩
abbrev main_v25_10 : Ref sig .tc := ⟨.hbm, 55, rfl⟩
abbrev main_v25_11 : Ref sig .tc := ⟨.hbm, 56, rfl⟩
abbrev main_v25_12 : Ref sig .tc := ⟨.hbm, 57, rfl⟩
abbrev main_v25_13 : Ref sig .tc := ⟨.hbm, 58, rfl⟩
abbrev main_v25_14 : Ref sig .tc := ⟨.hbm, 59, rfl⟩
abbrev main_v25_15 : Ref sig .tc := ⟨.hbm, 60, rfl⟩
abbrev main_v25_16 : Ref sig .tc := ⟨.hbm, 61, rfl⟩
abbrev main_v25_17 : Ref sig .tc := ⟨.hbm, 62, rfl⟩
abbrev main_v25_18 : Ref sig .tc := ⟨.hbm, 63, rfl⟩
abbrev main_v25_19 : Ref sig .tc := ⟨.hbm, 64, rfl⟩
abbrev main_while0c_c_27 : Ref sig .tc := ⟨.hbm, 65, rfl⟩
abbrev main_while0c_v41 : Ref sig .tc := ⟨.hbm, 66, rfl⟩
abbrev main_while0b_c_27 : Ref sig .tc := ⟨.hbm, 67, rfl⟩
abbrev main_while0b_v41 : Ref sig .tc := ⟨.hbm, 68, rfl⟩
abbrev main_while0b_c_28 : Ref sig .tc := ⟨.hbm, 69, rfl⟩
abbrev main_while0b_v42 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_v0 : Ref sig .tc := ⟨.hbm, 74, rfl⟩
abbrev main_while0b_v43 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_call1_c_1 : Ref sig .tc := ⟨.hbm, 78, rfl⟩
abbrev main_while0b_call1_v0 : Ref sig .tc := ⟨.hbm, 79, rfl⟩
abbrev main_while0b_v44 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_v0 : Ref sig .tc := ⟨.hbm, 84, rfl⟩
abbrev main_while0b_v45 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_v0 : Ref sig .tc := ⟨.hbm, 89, rfl⟩
abbrev main_while0b_v46 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_v0 : Ref sig .tc := ⟨.hbm, 94, rfl⟩
abbrev main_while0b_v47 : Ref sig .tc := ⟨.hbm, 95, rfl⟩
abbrev main_while0b_call5_c : Ref sig .tc := ⟨.hbm, 96, rfl⟩
abbrev main_while0b_call5_c_0 : Ref sig .tc := ⟨.hbm, 97, rfl⟩
abbrev main_while0b_call5_c_1 : Ref sig .tc := ⟨.hbm, 98, rfl⟩
abbrev main_while0b_call5_v0 : Ref sig .tc := ⟨.hbm, 99, rfl⟩
abbrev main_while0b_v48 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_v0 : Ref sig .tc := ⟨.hbm, 104, rfl⟩
abbrev main_while0b_v49 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_v0 : Ref sig .tc := ⟨.hbm, 109, rfl⟩
abbrev main_while0b_v50 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_v0 : Ref sig .tc := ⟨.hbm, 114, rfl⟩
abbrev main_while0b_v51 : Ref sig .tc := ⟨.hbm, 115, rfl⟩
abbrev main_while0b_v52 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_v61 : Ref sig .tc := ⟨.hbm, 125, rfl⟩
abbrev main_while0b_v62 : Ref sig .tc := ⟨.hbm, 126, rfl⟩
abbrev main_while0b_v63 : Ref sig .tc := ⟨.hbm, 127, rfl⟩
abbrev main_while0b_v64 : Ref sig .tc := ⟨.hbm, 128, rfl⟩
abbrev main_while0b_v65 : Ref sig .tc := ⟨.hbm, 129, rfl⟩
abbrev main_while0b_v66 : Ref sig .tc := ⟨.hbm, 130, rfl⟩
abbrev main_while0b_v67 : Ref sig .tc := ⟨.hbm, 131, rfl⟩
abbrev main_while0b_v68 : Ref sig .tc := ⟨.hbm, 132, rfl⟩
abbrev main_while0b_v69 : Ref sig .tc := ⟨.hbm, 133, rfl⟩
abbrev main_while0b_cst_29 : Ref sig .tc := ⟨.hbm, 134, rfl⟩
abbrev main_while0b_v70 : Ref sig .tc := ⟨.hbm, 135, rfl⟩
abbrev main_while0b_v71 : Ref sig .tc := ⟨.hbm, 136, rfl⟩
abbrev main_while0b_cst_30 : Ref sig .tc := ⟨.hbm, 137, rfl⟩
abbrev main_while0b_v72 : Ref sig .tc := ⟨.hbm, 138, rfl⟩
abbrev main_while0b_v73 : Ref sig .tc := ⟨.hbm, 139, rfl⟩
abbrev main_while0b_cst_31 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_v77 : Ref sig .tc := ⟨.hbm, 144, rfl⟩
abbrev main_while0b_cst_32 : Ref sig .tc := ⟨.hbm, 145, rfl⟩
abbrev main_while0b_v78 : Ref sig .tc := ⟨.hbm, 146, rfl⟩
abbrev main_while0b_v79 : Ref sig .tc := ⟨.hbm, 147, rfl⟩
abbrev main_while0b_v80 : Ref sig .tc := ⟨.hbm, 148, rfl⟩
abbrev main_while0b_v81 : Ref sig .tc := ⟨.hbm, 149, rfl⟩
abbrev main_while0b_v82 : Ref sig .tc := ⟨.hbm, 150, rfl⟩
abbrev main_while0b_v83 : Ref sig .tc := ⟨.hbm, 151, rfl⟩
abbrev main_while0b_v84 : Ref sig .tc := ⟨.hbm, 152, rfl⟩
abbrev main_while0b_call9_v0 : Ref sig .tc := ⟨.hbm, 153, rfl⟩
abbrev main_while0b_call9_v1 : Ref sig .tc := ⟨.hbm, 154, rfl⟩
abbrev main_while0b_call9_cst : Ref sig .tc := ⟨.hbm, 155, rfl⟩
abbrev main_while0b_call9_v2 : Ref sig .tc := ⟨.hbm, 156, rfl⟩
abbrev main_while0b_call9_v3 : Ref sig .tc := ⟨.hbm, 157, rfl⟩
abbrev main_while0b_call9_cst_0 : Ref sig .tc := ⟨.hbm, 158, rfl⟩
abbrev main_while0b_call9_v4 : Ref sig .tc := ⟨.hbm, 159, rfl⟩
abbrev main_while0b_v85_2 : Ref sig .tc := ⟨.hbm, 160, rfl⟩
abbrev main_while0b_call9_cst_1 : Ref sig .tc := ⟨.hbm, 161, rfl⟩
abbrev main_while0b_call9_v6 : Ref sig .tc := ⟨.hbm, 162, rfl⟩
abbrev main_while0b_call9_v7 : Ref sig .tc := ⟨.hbm, 163, rfl⟩
abbrev main_while0b_v85_1 : Ref sig .tc := ⟨.hbm, 164, rfl⟩
abbrev main_while0b_v85_0 : Ref sig .tc := ⟨.hbm, 165, rfl⟩
abbrev main_while0b_v86 : Ref sig .tc := ⟨.hbm, 166, rfl⟩
abbrev main_while0b_v87 : Ref sig .tc := ⟨.hbm, 167, rfl⟩
abbrev main_while0b_v88 : Ref sig .tc := ⟨.hbm, 168, rfl⟩
abbrev main_while0b_call10_v0 : Ref sig .tc := ⟨.hbm, 169, rfl⟩
abbrev main_while0b_call10_v1 : Ref sig .tc := ⟨.hbm, 170, rfl⟩
abbrev main_while0b_call10_v2 : Ref sig .tc := ⟨.hbm, 171, rfl⟩
abbrev main_while0b_v89 : Ref sig .tc := ⟨.hbm, 172, rfl⟩
abbrev main_while0b_v90 : Ref sig .tc := ⟨.hbm, 173, rfl⟩
abbrev main_while0b_cst_33 : Ref sig .tc := ⟨.hbm, 174, rfl⟩
abbrev main_while0b_v91 : Ref sig .tc := ⟨.hbm, 175, rfl⟩
abbrev main_while0b_v92 : Ref sig .tc := ⟨.hbm, 176, rfl⟩
abbrev main_while0b_v93 : Ref sig .tc := ⟨.hbm, 177, rfl⟩
abbrev main_while0b_v94 : Ref sig .tc := ⟨.hbm, 178, rfl⟩
abbrev main_while0b_cst_34 : Ref sig .tc := ⟨.hbm, 179, rfl⟩
abbrev main_while0b_v95 : Ref sig .tc := ⟨.hbm, 180, rfl⟩
abbrev main_while0b_v96 : Ref sig .tc := ⟨.hbm, 181, rfl⟩
abbrev main_while0b_cst_35 : Ref sig .tc := ⟨.hbm, 182, rfl⟩
abbrev main_while0b_v97 : Ref sig .tc := ⟨.hbm, 183, rfl⟩
abbrev main_while0b_v98 : Ref sig .tc := ⟨.hbm, 184, rfl⟩
abbrev main_while0b_v99 : Ref sig .tc := ⟨.hbm, 185, rfl⟩
abbrev main_while0b_v100 : Ref sig .tc := ⟨.hbm, 186, rfl⟩
abbrev main_while0b_v101 : Ref sig .tc := ⟨.hbm, 187, rfl⟩
abbrev main_while0b_cst_36 : Ref sig .tc := ⟨.hbm, 188, rfl⟩
abbrev main_while0b_v102 : Ref sig .tc := ⟨.hbm, 189, rfl⟩
abbrev main_while0b_v103 : Ref sig .tc := ⟨.hbm, 190, rfl⟩
abbrev main_while0b_cst_37 : Ref sig .tc := ⟨.hbm, 191, rfl⟩
abbrev main_while0b_v104 : Ref sig .tc := ⟨.hbm, 192, rfl⟩
abbrev main_while0b_v105 : Ref sig .tc := ⟨.hbm, 193, rfl⟩
abbrev main_while0b_v106 : Ref sig .tc := ⟨.hbm, 194, rfl⟩
abbrev main_while0b_v107 : Ref sig .tc := ⟨.hbm, 195, rfl⟩
abbrev main_while0b_v108 : Ref sig .tc := ⟨.hbm, 196, rfl⟩
abbrev main_while0b_v109 : Ref sig .tc := ⟨.hbm, 197, rfl⟩
abbrev main_while0b_v110 : Ref sig .tc := ⟨.hbm, 198, rfl⟩
abbrev main_while0b_v111 : Ref sig .tc := ⟨.hbm, 199, rfl⟩
abbrev main_while0b_v112 : Ref sig .tc := ⟨.hbm, 200, rfl⟩
abbrev main_while0b_v113 : Ref sig .tc := ⟨.hbm, 201, rfl⟩
abbrev main_while0b_v114 : Ref sig .tc := ⟨.hbm, 202, rfl⟩
abbrev main_while0b_v115 : Ref sig .tc := ⟨.hbm, 203, rfl⟩
abbrev main_while0b_v116 : Ref sig .tc := ⟨.hbm, 204, rfl⟩
abbrev main_while0b_cst_38 : Ref sig .tc := ⟨.hbm, 205, rfl⟩
abbrev main_while0b_v117 : Ref sig .tc := ⟨.hbm, 206, rfl⟩
abbrev main_while0b_v118 : Ref sig .tc := ⟨.hbm, 207, rfl⟩
abbrev main_while0b_v119 : Ref sig .tc := ⟨.hbm, 208, rfl⟩
abbrev main_while0b_v120 : Ref sig .tc := ⟨.hbm, 209, rfl⟩
abbrev main_while0b_cst_39 : Ref sig .tc := ⟨.hbm, 210, rfl⟩
abbrev main_while0b_v121 : Ref sig .tc := ⟨.hbm, 211, rfl⟩
abbrev main_while0b_v122 : Ref sig .tc := ⟨.hbm, 212, rfl⟩
abbrev main_while0b_v123 : Ref sig .tc := ⟨.hbm, 213, rfl⟩
abbrev main_while0b_v124 : Ref sig .tc := ⟨.hbm, 214, rfl⟩
abbrev main_while0b_v125 : Ref sig .tc := ⟨.hbm, 215, rfl⟩
abbrev main_while0b_v126 : Ref sig .tc := ⟨.hbm, 216, rfl⟩
abbrev main_while0b_cst_40 : Ref sig .tc := ⟨.hbm, 217, rfl⟩
abbrev main_while0b_v127 : Ref sig .tc := ⟨.hbm, 218, rfl⟩
abbrev main_while0b_v128 : Ref sig .tc := ⟨.hbm, 219, rfl⟩
abbrev main_while0b_v129 : Ref sig .tc := ⟨.hbm, 220, rfl⟩
abbrev main_while0b_v130 : Ref sig .tc := ⟨.hbm, 221, rfl⟩
abbrev main_while0b_v131 : Ref sig .tc := ⟨.hbm, 222, rfl⟩
abbrev main_while0b_v132 : Ref sig .tc := ⟨.hbm, 223, rfl⟩
abbrev main_while0b_v133 : Ref sig .tc := ⟨.hbm, 224, rfl⟩
abbrev main_while0b_v134 : Ref sig .tc := ⟨.hbm, 225, rfl⟩
abbrev main_while0b_v135 : Ref sig .tc := ⟨.hbm, 226, rfl⟩
abbrev main_while0b_v136 : Ref sig .tc := ⟨.hbm, 227, rfl⟩
abbrev main_while0b_v137 : Ref sig .tc := ⟨.hbm, 228, rfl⟩
abbrev main_while0b_v138 : Ref sig .tc := ⟨.hbm, 229, rfl⟩
abbrev main_while0b_v139 : Ref sig .tc := ⟨.hbm, 230, rfl⟩
abbrev main_while0b_v140 : Ref sig .tc := ⟨.hbm, 231, rfl⟩
abbrev main_while0b_v141 : Ref sig .tc := ⟨.hbm, 232, rfl⟩
abbrev main_while0b_v142 : Ref sig .tc := ⟨.hbm, 233, rfl⟩
abbrev main_while0b_v143 : Ref sig .tc := ⟨.hbm, 234, rfl⟩
abbrev main_while0b_v144 : Ref sig .tc := ⟨.hbm, 235, rfl⟩
abbrev main_while0b_v145 : Ref sig .tc := ⟨.hbm, 236, rfl⟩
abbrev main_while0b_v146 : Ref sig .tc := ⟨.hbm, 237, rfl⟩
abbrev main_while0b_call11_v0 : Ref sig .tc := ⟨.hbm, 238, rfl⟩
abbrev main_while0b_call11_c : Ref sig .tc := ⟨.hbm, 239, rfl⟩
abbrev main_while0b_call11_c_0 : Ref sig .tc := ⟨.hbm, 240, rfl⟩
abbrev main_while0b_call11_c_1 : Ref sig .tc := ⟨.hbm, 241, rfl⟩
abbrev main_while0b_v147 : Ref sig .tc := ⟨.hbm, 242, rfl⟩
abbrev main_while0b_call12_v0 : Ref sig .tc := ⟨.hbm, 243, rfl⟩
abbrev main_while0b_call12_c : Ref sig .tc := ⟨.hbm, 244, rfl⟩
abbrev main_while0b_call12_c_0 : Ref sig .tc := ⟨.hbm, 245, rfl⟩
abbrev main_while0b_call12_c_1 : Ref sig .tc := ⟨.hbm, 246, rfl⟩
abbrev main_while0b_v148 : Ref sig .tc := ⟨.hbm, 247, rfl⟩
abbrev main_while0b_call13_v0 : Ref sig .tc := ⟨.hbm, 248, rfl⟩
abbrev main_while0b_call13_c : Ref sig .tc := ⟨.hbm, 249, rfl⟩
abbrev main_while0b_call13_c_0 : Ref sig .tc := ⟨.hbm, 250, rfl⟩
abbrev main_while0b_call13_c_1 : Ref sig .tc := ⟨.hbm, 251, rfl⟩
abbrev main_while0b_v149 : Ref sig .tc := ⟨.hbm, 252, rfl⟩
abbrev main_while0b_call14_v0 : Ref sig .tc := ⟨.hbm, 253, rfl⟩
abbrev main_while0b_call14_c : Ref sig .tc := ⟨.hbm, 254, rfl⟩
abbrev main_while0b_call14_c_0 : Ref sig .tc := ⟨.hbm, 255, rfl⟩
abbrev main_while0b_call14_c_1 : Ref sig .tc := ⟨.hbm, 256, rfl⟩
abbrev main_while0b_v150 : Ref sig .tc := ⟨.hbm, 257, rfl⟩
abbrev main_while0b_call15_v0 : Ref sig .tc := ⟨.hbm, 258, rfl⟩
abbrev main_while0b_call15_c : Ref sig .tc := ⟨.hbm, 259, rfl⟩
abbrev main_while0b_call15_c_0 : Ref sig .tc := ⟨.hbm, 260, rfl⟩
abbrev main_while0b_call15_c_1 : Ref sig .tc := ⟨.hbm, 261, rfl⟩
abbrev main_while0b_v151 : Ref sig .tc := ⟨.hbm, 262, rfl⟩
abbrev main_while0b_call16_v0 : Ref sig .tc := ⟨.hbm, 263, rfl⟩
abbrev main_while0b_call16_c : Ref sig .tc := ⟨.hbm, 264, rfl⟩
abbrev main_while0b_call16_c_0 : Ref sig .tc := ⟨.hbm, 265, rfl⟩
abbrev main_while0b_call16_c_1 : Ref sig .tc := ⟨.hbm, 266, rfl⟩
abbrev main_while0b_v152 : Ref sig .tc := ⟨.hbm, 267, rfl⟩
abbrev main_while0b_call17_v0 : Ref sig .tc := ⟨.hbm, 268, rfl⟩
abbrev main_while0b_call17_c : Ref sig .tc := ⟨.hbm, 269, rfl⟩
abbrev main_while0b_call17_c_0 : Ref sig .tc := ⟨.hbm, 270, rfl⟩
abbrev main_while0b_call17_c_1 : Ref sig .tc := ⟨.hbm, 271, rfl⟩
abbrev main_while0b_v153 : Ref sig .tc := ⟨.hbm, 272, rfl⟩
abbrev main_while0b_c_41 : Ref sig .tc := ⟨.hbm, 273, rfl⟩
abbrev main_while0b_v154 : Ref sig .tc := ⟨.hbm, 274, rfl⟩
abbrev main_v26 : Ref sig .tc := ⟨.hbm, 275, rfl⟩
abbrev main_v27 : Ref sig .tc := ⟨.hbm, 276, rfl⟩
abbrev main_v28 : Ref sig .tc := ⟨.hbm, 277, rfl⟩
abbrev main_v29 : Ref sig .tc := ⟨.hbm, 278, rfl⟩
abbrev main_v30 : Ref sig .tc := ⟨.hbm, 279, rfl⟩
abbrev main_v31 : Ref sig .tc := ⟨.hbm, 280, rfl⟩
abbrev main_v32 : Ref sig .tc := ⟨.hbm, 281, rfl⟩
abbrev main_v33 : Ref sig .tc := ⟨.hbm, 282, rfl⟩
abbrev main_v34 : Ref sig .tc := ⟨.hbm, 283, rfl⟩
abbrev main_v35 : Ref sig .tc := ⟨.hbm, 284, rfl⟩
abbrev main_v36 : Ref sig .tc := ⟨.hbm, 285, rfl⟩
abbrev main_v37 : Ref sig .tc := ⟨.hbm, 286, rfl⟩
abbrev main_v38 : Ref sig .tc := ⟨.hbm, 287, rfl⟩
abbrev main_v39 : Ref sig .tc := ⟨.hbm, 288, rfl⟩
abbrev main_v40 : Ref sig .tc := ⟨.hbm, 289, rfl⟩

abbrev nD : Nat := 1
abbrev τ : Topo := Topo.v7x

variable {F : FTy → Type} [FloatOps F]

abbrev main_while0_count : Scf.Loop 32 := ⟨0#32, 32#32, 1#32⟩
-- ==== NormKernel.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DnormKernel.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormReferenceIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GateKernel.lean ====
abbrev S2048x6528 : Shape := ⟨2, ![2048, 6528]⟩
abbrev S4x128 : Shape := ⟨2, ![4, 128]⟩
abbrev S4x128x128 : Shape := ⟨3, ![4, 128, 128]⟩
abbrev S4x1x128 : Shape := ⟨3, ![4, 1, 128]⟩
abbrev S4x128x1 : Shape := ⟨3, ![4, 128, 1]⟩
abbrev S2048x512 : Shape := ⟨2, ![2048, 512]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S2048 : Shape := ⟨1, ![2048]⟩
abbrev S2048x1 : Shape := ⟨2, ![2048, 1]⟩
abbrev S16x128x128 : Shape := ⟨3, ![16, 128, 128]⟩

abbrev nBuf : Space → Nat
  | .hbm => 7
  | .vmem => 12
  | .smem => 0
  | _ => 0

abbrev bufTy : (tb : Table) → Fin (tcTables nBuf tb) → BufTy
  | .hbm, ⟨0, _⟩ => ⟨S2048x6528, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S4x1x128, .f32⟩
  | .hbm, ⟨5, _⟩ => ⟨S4x128x1, .f32⟩
  | .hbm, ⟨6, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S2048x128, .bf16⟩
  | .local _ .vmem, ⟨11, _⟩ => ⟨S2048x128, .bf16⟩
  | _, _ => ⟨S2048x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateReferenceIdeal.lean ====
abbrev S2048x6528 : Shape := ⟨2, ![2048, 6528]⟩
abbrev S4x128 : Shape := ⟨2, ![4, 128]⟩
abbrev S4x128x128 : Shape := ⟨3, ![4, 128, 128]⟩
abbrev S2048x512 : Shape := ⟨2, ![2048, 512]⟩
abbrev S1x2048x512 : Shape := ⟨3, ![1, 2048, 512]⟩
abbrev S_ : Shape := ⟨0, ![]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S1x1x4x128 : Shape := ⟨4, ![1, 1, 4, 128]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S1x1x128x4x1 : Shape := ⟨5, ![1, 1, 128, 4, 1]⟩

abbrev nBuf : Space → Nat
  | .hbm => 86
  | .vmem => 0
  | .smem => 0
  | _ => 0

abbrev bufTy : (tb : Table) → Fin (tcTables nBuf tb) → BufTy
  | .hbm, ⟨0, _⟩ => ⟨S2048x6528, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S2048x512, .f32⟩
  | .hbm, ⟨5, _⟩ => ⟨S1x2048x512, .f32⟩
  | .hbm, ⟨6, _⟩ => ⟨S2048x512, .f32⟩
  | .hbm, ⟨7, _⟩ => ⟨S1x2048x512, .f32⟩
  | .hbm, ⟨8, _⟩ => ⟨S1x2048x512, .f32⟩
  | .hbm, ⟨9, _⟩ => ⟨S1x2048x512, .f32⟩
  | .hbm, ⟨10, _⟩ => ⟨S_, .f32⟩
  | .hbm, ⟨11, _⟩ => ⟨S1x2048x512, .f32⟩
  | .hbm, ⟨12, _⟩ => ⟨S1x2048x512, .f32⟩
  | .hbm, ⟨13, _⟩ => ⟨S1x2048x512, .f32⟩
  | .hbm, ⟨14, _⟩ => ⟨S_, .f32⟩
  | .hbm, ⟨15, _⟩ => ⟨S1x2048x512, .f32⟩
  | .hbm, ⟨16, _⟩ => ⟨S1x2048x512, .f32⟩
  | .hbm, ⟨17, _⟩ => ⟨S1x2048x512, .f32⟩
  | .hbm, ⟨18, _⟩ => ⟨S_, .f32⟩
  | .hbm, ⟨19, _⟩ => ⟨S1x2048x512, .f32⟩
  | .hbm, ⟨20, _⟩ => ⟨S1x2048x512, .f32⟩
  | .hbm, ⟨21, _⟩ => ⟨S_, .f32⟩
  | .hbm, ⟨22, _⟩ => ⟨S1x2048x512, .f32⟩
  | .hbm, ⟨23, _⟩ => ⟨S1x2048x512, .f32⟩
  | .hbm, ⟨24, _⟩ => ⟨S1x2048x512, .f32⟩
  | .hbm, ⟨25, _⟩ => ⟨S1x2048x512, .f32⟩
  | .hbm, ⟨26, _⟩ => ⟨S1x2048x512, .f32⟩
  | .hbm, ⟨27, _⟩ => ⟨S_, .f32⟩
  | .hbm, ⟨28, _⟩ => ⟨S1x2048x512, .f32⟩
  | .hbm, ⟨29, _⟩ => ⟨S1x2048x512, .f32⟩
  | .hbm, ⟨30, _⟩ => ⟨S1x2048x512, .f32⟩
  | .hbm, ⟨31, _⟩ => ⟨S_, .f32⟩
  | .hbm, ⟨32, _⟩ => ⟨S1x2048x512, .f32⟩
  | .hbm, ⟨33, _⟩ => ⟨S1x2048x512, .f32⟩
  | .hbm, ⟨34, _⟩ => ⟨S1x2048x512, .f32⟩
  | .hbm, ⟨35, _⟩ => ⟨S_, .f32⟩
  | .hbm, ⟨36, _⟩ => ⟨S1x2048x512, .f32⟩
  | .hbm, ⟨37, _⟩ => ⟨S1x2048x512, .f32⟩
  | .hbm, ⟨38, _⟩ => ⟨S_, .f32⟩
  | .hbm, ⟨39, _⟩ => ⟨S1x2048x512, .f32⟩
  | .hbm, ⟨40, _⟩ => ⟨S1x2048x512, .f32⟩
  | .hbm, ⟨41, _⟩ => ⟨S1x2048x512, .f32⟩
  | .hbm, ⟨42, _⟩ => ⟨S1x2048x4x128, .f32⟩
  | .hbm, ⟨43, _⟩ => ⟨S1x2048x4x128, .f32⟩
  | .hbm, ⟨44, _⟩ => ⟨S_, .f32⟩
  | .hbm, ⟨45, _⟩ => ⟨S1x2048x4, .f32⟩
  | .hbm, ⟨46, _⟩ => ⟨S1x2048x4x1, .f32⟩
  | .hbm, ⟨47, _⟩ => ⟨S_, .f32⟩
  | .hbm, ⟨48, _⟩ => ⟨S1x2048x4x1, .f32⟩
  | .hbm, ⟨49, _⟩ => ⟨S1x2048x4x1, .f32⟩
  | .hbm, ⟨50, _⟩ => ⟨S_, .f32⟩
  | .hbm, ⟨51, _⟩ => ⟨S1x2048x4x1, .f32⟩
  | .hbm, ⟨52, _⟩ => ⟨S1x2048x4x1, .f32⟩
  | .hbm, ⟨53, _⟩ => ⟨S1x2048x4x1, .f32⟩
  | .hbm, ⟨54, _⟩ => ⟨S1x2048x4x128, .f32⟩
  | .hbm, ⟨55, _⟩ => ⟨S1x2048x4x128, .f32⟩
  | .hbm, ⟨56, _⟩ => ⟨S1x1x4x128, .f32⟩
  | .hbm, ⟨57, _⟩ => ⟨S1x2048x4x128, .f32⟩
  | .hbm, ⟨58, _⟩ => ⟨S1x2048x4x128, .f32⟩
  | .hbm, ⟨59, _⟩ => ⟨S1x16x128x4x128, .f32⟩
  | .hbm, ⟨60, _⟩ => ⟨S_, .i1⟩
  | .hbm, ⟨61, _⟩ => ⟨S128x128, .i1⟩
  | .hbm, ⟨62, _⟩ => ⟨S128x128, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S_, .i1⟩
  | .hbm, ⟨69, _⟩ => ⟨S128x128, .i1⟩
  | .hbm, ⟨70, _⟩ => ⟨S128x128, .i1⟩
  | .hbm, ⟨71, _⟩ => ⟨S1x128x128, .i1⟩
  | .hbm, ⟨72, _⟩ => ⟨S_, .f32⟩
  | .hbm, ⟨73, _⟩ => ⟨S4x128x128, .f32⟩
  | .hbm, ⟨74, _⟩ => ⟨S4x128x128, .i1⟩
  | .hbm, ⟨75, _⟩ => ⟨S4x128x128, .f32⟩
  | .hbm, ⟨76, _⟩ => ⟨S4x1x16x128x128, .f32⟩
  | .hbm, ⟨77, _⟩ => ⟨S1x16x128x4x128, .f32⟩
  | .hbm, ⟨78, _⟩ => ⟨S128x4, .f32⟩
  | .hbm, ⟨79, _⟩ => ⟨S1x1x128x4x1, .f32⟩
  | .hbm, ⟨80, _⟩ => ⟨S1x16x128x4x128, .f32⟩
  | .hbm, ⟨81, _⟩ => ⟨S1x16x128x4x128, .f32⟩
  | .hbm, ⟨82, _⟩ => ⟨S1x2048x512, .f32⟩
  | .hbm, ⟨83, _⟩ => ⟨S1x2048x512, .f32⟩
  | .hbm, ⟨84, _⟩ => ⟨S2048x512, .f32⟩
  | .hbm, ⟨85, _⟩ => ⟨S2048x512, .bf16⟩
  | _, _ => ⟨S2048x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_v45 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== DconvKernel.lean ====
abbrev S2048x6528 : Shape := ⟨2, ![2048, 6528]⟩
abbrev S4x2304 : Shape := ⟨2, ![4, 2304]⟩
abbrev S2048x768 : Shape := ⟨2, ![2048, 768]⟩
abbrev S4x768 : Shape := ⟨2, ![4, 768]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S2048x6528, .f32⟩
  | .hbm, ⟨1, _⟩ => ⟨S4x2304, .f32⟩
  | .hbm, ⟨2, _⟩ => ⟨S2048x768, .f32⟩
  | .hbm, ⟨3, _⟩ => ⟨S2048x768, .bf16⟩
  | .hbm, ⟨4, _⟩ => ⟨S4x768, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2048x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DconvReferenceIdeal.lean ====
abbrev S2048x6528 : Shape := ⟨2, ![2048, 6528]⟩
abbrev S4x2304 : Shape := ⟨2, ![4, 2304]⟩
abbrev S2048x768 : Shape := ⟨2, ![2048, 768]⟩
abbrev S1x2048x768 : Shape := ⟨3, ![1, 2048, 768]⟩
abbrev S4x768 : Shape := ⟨2, ![4, 768]⟩
abbrev S_ : Shape := ⟨0, ![]⟩
abbrev S1x3x768 : Shape := ⟨3, ![1, 3, 768]⟩
abbrev S1x2051x768 : Shape := ⟨3, ![1, 2051, 768]⟩
abbrev S1x768 : Shape := ⟨2, ![1, 768]⟩
abbrev S768 : Shape := ⟨1, ![768]⟩
abbrev S1x1x768 : Shape := ⟨3, ![1, 1, 768]⟩

abbrev nBuf : Space → Nat
  | .hbm => 121
  | .vmem => 0
  | .smem => 0
  | _ => 0

abbrev bufTy : (tb : Table) → Fin (tcTables nBuf tb) → BufTy
  | .hbm, ⟨0, _⟩ => ⟨S2048x6528, .f32⟩
  | .hbm, ⟨1, _⟩ => ⟨S4x2304, .f32⟩
  | .hbm, ⟨2, _⟩ => ⟨S2048x768, .f32⟩
  | .hbm, ⟨3, _⟩ => ⟨S2048x768, .f32⟩
  | .hbm, ⟨4, _⟩ => ⟨S1x2048x768, .f32⟩
  | .hbm, ⟨5, _⟩ => ⟨S4x768, .f32⟩
  | .hbm, ⟨6, _⟩ => ⟨S_, .f32⟩
  | .hbm, ⟨7, _⟩ => ⟨S1x3x768, .f32⟩
  | .hbm, ⟨8, _⟩ => ⟨S1x2051x768, .f32⟩
  | .hbm, ⟨9, _⟩ => ⟨S_, .f32⟩
  | .hbm, ⟨10, _⟩ => ⟨S1x3x768, .f32⟩
  | .hbm, ⟨11, _⟩ => ⟨S1x2048x768, .f32⟩
  | .hbm, ⟨12, _⟩ => ⟨S1x768, .f32⟩
  | .hbm, ⟨13, _⟩ => ⟨S768, .f32⟩
  | .hbm, ⟨14, _⟩ => ⟨S1x1x768, .f32⟩
  | .hbm, ⟨15, _⟩ => ⟨S1x2048x768, .f32⟩
  | .hbm, ⟨16, _⟩ => ⟨S1x2048x768, .f32⟩
  | .hbm, ⟨17, _⟩ => ⟨S_, .f32⟩
  | .hbm, ⟨18, _⟩ => ⟨S1x2048x768, .f32⟩
  | .hbm, ⟨19, _⟩ => ⟨S1x2048x768, .f32⟩
  | .hbm, ⟨20, _⟩ => ⟨S1x2048x768, .f32⟩
  | .hbm, ⟨21, _⟩ => ⟨S1x768, .f32⟩
  | .hbm, ⟨22, _⟩ => ⟨S768, .f32⟩
  | .hbm, ⟨23, _⟩ => ⟨S1x1x768, .f32⟩
  | .hbm, ⟨24, _⟩ => ⟨S1x2048x768, .f32⟩
  | .hbm, ⟨25, _⟩ => ⟨S1x2048x768, .f32⟩
  | .hbm, ⟨26, _⟩ => ⟨S1x2048x768, .f32⟩
  | .hbm, ⟨27, _⟩ => ⟨S1x2048x768, .f32⟩
  | .hbm, ⟨28, _⟩ => ⟨S1x768, .f32⟩
  | .hbm, ⟨29, _⟩ => ⟨S768, .f32⟩
  | .hbm, ⟨30, _⟩ => ⟨S1x1x768, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S1x2048x768, .f32⟩
  | .hbm, ⟨35, _⟩ => ⟨S1x768, .f32⟩
  | .hbm, ⟨36, _⟩ => ⟨S768, .f32⟩
  | .hbm, ⟨37, _⟩ => ⟨S1x1x768, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S1x2048x768, .f32⟩
  | .hbm, ⟨42, _⟩ => ⟨S1x2048x768, .f32⟩
  | .hbm, ⟨43, _⟩ => ⟨S_, .f32⟩
  | .hbm, ⟨44, _⟩ => ⟨S1x2048x768, .f32⟩
  | .hbm, ⟨45, _⟩ => ⟨S1x2048x768, .f32⟩
  | .hbm, ⟨46, _⟩ => ⟨S_, .f32⟩
  | .hbm, ⟨47, _⟩ => ⟨S1x2048x768, .f32⟩
  | .hbm, ⟨48, _⟩ => ⟨S1x2048x768, .f32⟩
  | .hbm, ⟨49, _⟩ => ⟨S_, .f32⟩
  | .hbm, ⟨50, _⟩ => ⟨S1x2048x768, .f32⟩
  | .hbm, ⟨51, _⟩ => ⟨S1x2048x768, .f32⟩
  | .hbm, ⟨52, _⟩ => ⟨S1x2048x768, .f32⟩
  | .hbm, ⟨53, _⟩ => ⟨S1x2048x768, .f32⟩
  | .hbm, ⟨54, _⟩ => ⟨S1x2048x768, .f32⟩
  | .hbm, ⟨55, _⟩ => ⟨S1x2048x768, .f32⟩
  | .hbm, ⟨56, _⟩ => ⟨S1x2048x768, .f32⟩
  | .hbm, ⟨57, _⟩ => ⟨S1x2048x768, .f32⟩
  | .hbm, ⟨58, _⟩ => ⟨S1x2048x768, .f32⟩
  | .hbm, ⟨59, _⟩ => ⟨S1x2048x768, .f32⟩
  | .hbm, ⟨60, _⟩ => ⟨S_, .f32⟩
  | .hbm, ⟨61, _⟩ => ⟨S1x768, .f32⟩
  | .hbm, ⟨62, _⟩ => ⟨S1x1x768, .f32⟩
  | .hbm, ⟨63, _⟩ => ⟨S1x2048x768, .f32⟩
  | .hbm, ⟨64, _⟩ => ⟨S1x2048x768, .f32⟩
  | .hbm, ⟨65, _⟩ => ⟨S_, .f32⟩
  | .hbm, ⟨66, _⟩ => ⟨S768, .f32⟩
  | .hbm, ⟨67, _⟩ => ⟨S1x768, .f32⟩
  | .hbm, ⟨68, _⟩ => ⟨S_, .f32⟩
  | .hbm, ⟨69, _⟩ => ⟨S4x768, .f32⟩
  | .hbm, ⟨70, _⟩ => ⟨S_, .f32⟩
  | .hbm, ⟨71, _⟩ => ⟨S1x2051x768, .f32⟩
  | .hbm, ⟨72, _⟩ => ⟨S1x2048x768, .f32⟩
  | .hbm, ⟨73, _⟩ => ⟨S_, .f32⟩
  | .hbm, ⟨74, _⟩ => ⟨S1x768, .f32⟩
  | .hbm, ⟨75, _⟩ => ⟨S1x1x768, .f32⟩
  | .hbm, ⟨76, _⟩ => ⟨S1x2048x768, .f32⟩
  | .hbm, ⟨77, _⟩ => ⟨S1x2048x768, .f32⟩
  | .hbm, ⟨78, _⟩ => ⟨S_, .f32⟩
  | .hbm, ⟨79, _⟩ => ⟨S768, .f32⟩
  | .hbm, ⟨80, _⟩ => ⟨S1x768, .f32⟩
  | .hbm, ⟨81, _⟩ => ⟨S_, .f32⟩
  | .hbm, ⟨82, _⟩ => ⟨S4x768, .f32⟩
  | .hbm, ⟨83, _⟩ => ⟨S4x768, .f32⟩
  | .hbm, ⟨84, _⟩ => ⟨S_, .f32⟩
  | .hbm, ⟨85, _⟩ => ⟨S1x2051x768, .f32⟩
  | .hbm, ⟨86, _⟩ => ⟨S1x2051x768, .f32⟩
  | .hbm, ⟨87, _⟩ => ⟨S1x2048x768, .f32⟩
  | .hbm, ⟨88, _⟩ => ⟨S_, .f32⟩
  | .hbm, ⟨89, _⟩ => ⟨S1x768, .f32⟩
  | .hbm, ⟨90, _⟩ => ⟨S1x1x768, .f32⟩
  | .hbm, ⟨91, _⟩ => ⟨S1x2048x768, .f32⟩
  | .hbm, ⟨92, _⟩ => ⟨S1x2048x768, .f32⟩
  | .hbm, ⟨93, _⟩ => ⟨S_, .f32⟩
  | .hbm, ⟨94, _⟩ => ⟨S768, .f32⟩
  | .hbm, ⟨95, _⟩ => ⟨S1x768, .f32⟩
  | .hbm, ⟨96, _⟩ => ⟨S_, .f32⟩
  | .hbm, ⟨97, _⟩ => ⟨S4x768, .f32⟩
  | .hbm, ⟨98, _⟩ => ⟨S4x768, .f32⟩
  | .hbm, ⟨99, _⟩ => ⟨S_, .f32⟩
  | .hbm, ⟨100, _⟩ => ⟨S1x2051x768, .f32⟩
  | .hbm, ⟨101, _⟩ => ⟨S1x2051x768, .f32⟩
  | .hbm, ⟨102, _⟩ => ⟨S1x2048x768, .f32⟩
  | .hbm, ⟨103, _⟩ => ⟨S_, .f32⟩
  | .hbm, ⟨104, _⟩ => ⟨S1x768, .f32⟩
  | .hbm, ⟨105, _⟩ => ⟨S1x1x768, .f32⟩
  | .hbm, ⟨106, _⟩ => ⟨S1x2048x768, .f32⟩
  | .hbm, ⟨107, _⟩ => ⟨S1x2048x768, .f32⟩
  | .hbm, ⟨108, _⟩ => ⟨S_, .f32⟩
  | .hbm, ⟨109, _⟩ => ⟨S768, .f32⟩
  | .hbm, ⟨110, _⟩ => ⟨S1x768, .f32⟩
  | .hbm, ⟨111, _⟩ => ⟨S_, .f32⟩
  | .hbm, ⟨112, _⟩ => ⟨S4x768, .f32⟩
  | .hbm, ⟨113, _⟩ => ⟨S4x768, .f32⟩
  | .hbm, ⟨114, _⟩ => ⟨S_, .f32⟩
  | .hbm, ⟨115, _⟩ => ⟨S1x2051x768, .f32⟩
  | .hbm, ⟨116, _⟩ => ⟨S1x2051x768, .f32⟩
  | .hbm, ⟨117, _⟩ => ⟨S1x3x768, .f32⟩
  | .hbm, ⟨118, _⟩ => ⟨S1x2048x768, .f32⟩
  | .hbm, ⟨119, _⟩ => ⟨S2048x768, .f32⟩
  | .hbm, ⟨120, _⟩ => ⟨S2048x768, .bf16⟩
  | _, _ => ⟨S2048x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_v36 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Proof.SguSpec.lean ====
module

public import Idealize.ShloMosaic.Lib.Pointwise

@[expose] public section

set_option maxRecDepth 16384

noncomputable section

open scoped BigOperators

namespace Cert.Sgu

open Idealize.ShloMosaic

/-- A number of the programs as the extended real its 32-bit word denotes. -/
abbrev lit (w : BitVec 32) : EReal := Ideal.ofBits .f32 w

/-- The hyperbolic tangent inside the gating's activation, at one number. -/
def th (x : EReal) : EReal := Ideal.tanh (lit 0x3F4C422A#32 * (x + lit 0x3D372713#32 * (x * x * x)))

/-- The activation at one number. -/
def gl (x : EReal) : EReal := x * (lit 0x3F000000#32 * (1 + th x))

/-- The activation's gradient at `x`, times the incoming gradient `d`, in the reference's order. -/
def gd (x d : EReal) : EReal :=
  d * (lit 0x3F000000#32 * (1 + th x))
    + lit 0x3F4C422A#32 * (lit 0x3F000000#32 * (x * d) * ((1 + th x) * (1 - th x)))
    + lit 0x3D372713#32
        * (lit 0x3F4C422A#32 * (lit 0x3F000000#32 * (x * d) * ((1 + th x) * (1 - th x))))
        * (lit 0x40400000#32 * (x * x))

/-- The word of `3.0` denotes three. -/
theorem lit_three : lit 0x40400000#32 = 3 := by
  simp [lit, Ideal.ofBits, Ideal.ieee]
  rw [← EReal.coe_mul]
  norm_num
  rfl

/-- Three times an extended real is its sum with itself twice, at the infinities too. -/
theorem three_mul (a : EReal) : 3 * a = a + a + a := by
  have h3 : (3 : EReal) = ((3 : ℝ) : EReal) := rfl
  induction a using EReal.rec with
  | bot => rw [h3, EReal.coe_mul_bot_of_pos (by norm_num)]; rfl
  | top => rw [h3, EReal.coe_mul_top_of_pos (by norm_num)]; rfl
  | coe r => rw [h3, ← EReal.coe_mul, ← EReal.coe_add, ← EReal.coe_add]; congr 1; ring

/-- The activation as the kernel associates it. -/
theorem gl_alt (x : EReal) : lit 0x3F000000#32 * x * (1 + th x) = gl x := by
  unfold gl; rw [mul_comm (lit 0x3F000000#32) x, mul_assoc]

/-- The activation's gradient as the kernel sums it: the cube's derivative as three equal terms. -/
theorem gd_alt (x d s k h p q : EReal)
    (hs : s = lit 0x3F4C422A#32 * (h * x * d * (p * q))) (hk : k = lit 0x3D372713#32 * s) (hh : h = lit 0x3F000000#32)
    (hp : p = 1 + th x) (hq : q = 1 - th x) :
    s + x * x * k + x * (k * x) + k * x * x + h * (d * p) = gd x d := by
  have e : k * (lit 0x40400000#32 * (x * x)) = x * x * k + x * (k * x) + k * x * x := by
    rw [lit_three, show k * (3 * (x * x)) = 3 * (k * x * x) by ac_rfl, three_mul]
    rw [show x * x * k = k * x * x by ac_rfl, show x * (k * x) = k * x * x by ac_rfl]
  have e2 : gd x d = d * (h * p) + s + k * (lit 0x40400000#32 * (x * x)) := by
    unfold gd
    rw [hk, hs, hh, hp, hq]
    rw [mul_assoc (lit 0x3F000000#32) x d]
  rw [e2, e, show d * (h * p) = h * (d * p) by ac_rfl]
  ac_rfl

/-! ## One group of 128 columns: the five gradients in closed form -/

/-- What the gating of one group of columns reads: its two inputs, the incoming gradient, the normalisation's gains,
    the mixing matrix and its offsets. -/
structure Grp where
  u : Fin 2048 → Fin 128 → EReal
  v : Fin 2048 → Fin 128 → EReal
  dy : Fin 2048 → Fin 128 → EReal
  sg : Fin 128 → EReal
  w : Fin 128 → Fin 128 → EReal
  b : Fin 128 → EReal

/-- Row `i` of chunk `c`. -/
abbrev row (c : Fin 16) (i : Fin 128) : Fin 2048 := ⟨c.val * 128 + i.val, by omega⟩
/-- Row `i` of the chunk that row `r` lies in. -/
abbrev inChunk (r : Fin 2048) (i : Fin 128) : Fin 2048 := ⟨r.val / 128 * 128 + i.val, by omega⟩
/-- The place of row `r` in its chunk. -/
abbrev pos (r : Fin 2048) : Fin 128 := ⟨r.val % 128, by omega⟩
/-- Whether position `j` is not after position `i`, as a bit. -/
abbrev tri (i j : Fin 128) : BitVec 1 := IntOp.cmpi CmpIPredicate.sge (BitVec.ofNat 32 i.val) (BitVec.ofNat 32 j.val)

namespace Grp
variable (x : Grp)

/-- The activated second input. -/
def G (r : Fin 2048) (d : Fin 128) : EReal := gl (x.v r d)
/-- Its mean square over a row, with the small constant added. -/
def ms (r : Fin 2048) : EReal := Ideal.div (∑ d : Fin 128, x.G r d * x.G r d) (lit 0x43000000#32) + lit 0x358637BD#32
/-- The reciprocal root of that. -/
def rs (r : Fin 2048) : EReal := Ideal.rsqrt (x.ms r)
/-- The normalised input. -/
def xn (r : Fin 2048) (d : Fin 128) : EReal := x.G r d * x.rs r
/-- The normalised input with its gains. -/
def vn (r : Fin 2048) (d : Fin 128) : EReal := x.xn r d * x.sg d
/-- The gradient of the mixed value. -/
def dz (r : Fin 2048) (d : Fin 128) : EReal := gl (x.u r d) * x.dy r d
/-- The mixing matrix with what looks ahead removed. -/
def wm (i j : Fin 128) : EReal := Scalar.select (tri i j) (x.w i j) 0
/-- The mixed value. -/
def z (r : Fin 2048) (d : Fin 128) : EReal := ∑ j : Fin 128, x.wm (pos r) j * x.vn (inChunk r j) d + x.b (pos r)
/-- The gradient of the first input. -/
def du (r : Fin 2048) (d : Fin 128) : EReal := gd (x.u r d) (x.dy r d * x.z r d)
/-- The gradient of the normalised input with its gains. -/
def dvn (r : Fin 2048) (d : Fin 128) : EReal := ∑ i : Fin 128, x.wm i (pos r) * x.dz (inChunk r i) d
/-- The gradient of the normalised input. -/
def dxn (r : Fin 2048) (d : Fin 128) : EReal := x.dvn r d * x.sg d
/-- The gradient of a row's mean square, divided by the row's length. -/
def q (r : Fin 2048) : EReal :=
  Ideal.div ((∑ d : Fin 128, x.G r d * x.dxn r d) * (lit 0xBF000000#32 * Ideal.div (x.rs r) (x.ms r))) (lit 0x43000000#32)
/-- The gradient of the activated second input. -/
def dG (r : Fin 2048) (d : Fin 128) : EReal := x.dxn r d * x.rs r + x.G r d * x.q r + x.q r * x.G r d
/-- The gradient of the second input. -/
def dv (r : Fin 2048) (d : Fin 128) : EReal := gd (x.v r d) (x.dG r d)
/-- The gradient of the gains. -/
def dsg (d : Fin 128) : EReal := ∑ r : Fin 2048, x.xn r d * x.dvn r d
/-- The gradient of the mixing matrix. -/
def dw (i j : Fin 128) : EReal :=
  Scalar.select (tri i j) (∑ c : Fin 16, ∑ d : Fin 128, x.dz (row c i) d * x.vn (row c j) d) 0
/-- The gradient of the offsets. -/
def db (i : Fin 128) : EReal := ∑ c : Fin 16, ∑ d : Fin 128, x.dz (row c i) d

end Grp

end Cert.Sgu
-- ==== Proof.SguKernel.lean ====
module

public import proofs.«01_k».proof.Proof.SguSpec
public import proofs.«01_k».proof.Proof.Gen.KernelIdeal.Frame

@[expose] public section

set_option maxRecDepth 16384

noncomputable section

open scoped BigOperators

namespace Cert.Sgu.K

open Idealize.ShloMosaic Cert.KernelIdeal Cert.KernelIdeal.Gen

variable [Cert.KernelIdeal.Facts]

/-- A sum over the first and last of three axes, read along them. -/
theorem reduceAdd_a02 {n0 n1 n2 : Nat} (h : (⟨3, ![n0, n1, n2]⟩ : Shape).Reduces [0, 2] ⟨1, ![n1]⟩)
    (v : (⟨3, ![n0, n1, n2]⟩ : Shape).Idx → EReal) (i : Fin n1) :
    Ideal.reduceAdd h v (ix1 i) = ∑ a : Fin n0, ∑ b : Fin n2, v (ix3 a i b) := by
  unfold Ideal.reduceAdd
  refine (Finset.sum_filter_eq_sum_of_fiber _ (fun k : Fin n0 × Fin n2 => (ix3 k.1 i k.2 : (⟨3, ![n0, n1, n2]⟩ : Shape).Idx))
    (fun _ _ e => Prod.ext (congrFun e 0) (congrFun e 2)) (fun y => ?_) v).trans ?_
  · constructor
    · intro e
      refine ⟨(y 0, y 2), ?_⟩
      funext a; apply Fin.ext
      match a with
      | ⟨0, _⟩ => rfl
      | ⟨1, _⟩ => exact (congrArg Fin.val (congrFun e 0)).symm
      | ⟨2, _⟩ => rfl
    · rintro ⟨k, rfl⟩
      funext b
      apply Fin.ext
      match b with
      | ⟨0, _⟩ => rfl
  · simp only [Fintype.sum_prod_type]

/-- The group a grid point works on, from the blocks it reads. -/
def grp (u v : FVec Ideal S2048x128 .f32) (sg : FVec Ideal S1x1x128 .f32) (w : FVec Ideal S1x128x128 .f32)
    (b : FVec Ideal S1x128x1 .f32) (dy : FVec Ideal S2048x128 .f32) : Grp where
  u r d := u (ix2 r d)
  v r d := v (ix2 r d)
  dy r d := dy (ix2 r d)
  sg d := sg (ix3 0 0 d)
  w i j := w (ix3 0 i j)
  b i := b (ix3 0 i 0)

variable (u v dy : FVec Ideal S2048x128 .f32) (sg : FVec Ideal S1x1x128 .f32) (w : FVec Ideal S1x128x128 .f32)
    (b : FVec Ideal S1x128x1 .f32)

/-- The activated second input. -/
theorem pay20 (r : Fin 2048) (d : Fin 128) :
    (k0_pay20 (F := Ideal) (k0_pay15 v) (k0_pay17 v) (ix2 r d) : EReal) = (grp u v sg w b dy).G r d := by
  unfold Grp.G; rw [← gl_alt]
  unfold_payloads
  pointwise
  rfl

/-- The reciprocal root of its mean square. -/
theorem pay22 (r : Fin 2048) :
    (k0_pay22 (F := Ideal) (k0_pay15 v) (k0_pay17 v) (ix2 r 0) : EReal) = (grp u v sg w b dy).rs r := by
  unfold Grp.rs Grp.ms
  simp only [← pay20]
  unfold k0_pay22 k0_pay21
  pointwise
  try rfl

/-- The derivative of that root. -/
theorem pay23 (r : Fin 2048) :
    (k0_pay23 (F := Ideal) (k0_pay15 v) (k0_pay17 v) (ix2 r 0) : EReal)
      = lit 0xBF000000#32 * Ideal.div ((grp u v sg w b dy).rs r) ((grp u v sg w b dy).ms r) := by
  rw [← pay22]
  unfold Grp.ms
  simp only [← pay20]
  unfold k0_pay23 k0_pay21
  pointwise
  try rfl

/-- The normalised input. -/
theorem pay24 (r : Fin 2048) (d : Fin 128) :
    (k0_pay24 (F := Ideal) (k0_pay15 v) (k0_pay17 v) (ix2 r d) : EReal) = (grp u v sg w b dy).xn r d := by
  unfold Grp.xn; rw [← pay20, ← pay22]
  unfold k0_pay24
  pointwise

/-- The gains, read from their block. -/
theorem pay6 (d : Fin 128) : (k0_pay6 (F := Ideal) sg (ix2 0 d) : EReal) = (grp u v sg w b dy).sg d := by
  unfold_payloads
  pointwise
  try rfl

/-- The normalised input with its gains, by chunks. -/
theorem pay27 (c : Fin 16) (j d : Fin 128) :
    (k0_pay27 (F := Ideal) (k0_pay6 sg) (k0_pay15 v) (k0_pay17 v) (ix3 c j d) : EReal) = (grp u v sg w b dy).vn (row c j) d := by
  unfold Grp.vn; rw [← pay24, ← pay6 u v dy sg w b]
  unfold k0_pay27
  pointwise
  try rfl

/-- The mixing matrix without what looks ahead, for every chunk. -/
theorem pay26 (c : Fin 16) (i j : Fin 128) :
    (k0_pay26 (F := Ideal) (k0_pay7 w) (ix3 c i j) : EReal) = (grp u v sg w b dy).wm i j := by
  unfold Grp.wm
  unfold_payloads
  pointwise
  try rfl

/-- The activated first input. -/
theorem pay14 (r : Fin 2048) (d : Fin 128) :
    (k0_pay14 (F := Ideal) u (ix2 r d) : EReal) = gl (u (ix2 r d)) := by
  rw [← gl_alt]
  unfold_payloads
  pointwise
  rfl

/-- The gradient of the mixed value, by chunks. -/
theorem pay29 (c : Fin 16) (i d : Fin 128) :
    (k0_pay29 (F := Ideal) (k0_pay14 u) dy (ix3 c i d) : EReal) = (grp u v sg w b dy).dz (row c i) d := by
  show _ = gl (u (ix2 (row c i) d)) * dy (ix2 (row c i) d)
  rw [← pay14]
  unfold k0_pay29
  pointwise
  try rfl

/-- The gradient arriving at the activated first input. -/
theorem pay28 (r : Fin 2048) (d : Fin 128) :
    (k0_pay28 (F := Ideal) (k0_pay6 sg) (k0_pay7 w) (k0_pay8 b) (k0_pay15 v) (k0_pay17 v) dy (ix2 r d) : EReal)
      = dy (ix2 r d) * (grp u v sg w b dy).z r d := by
  unfold Grp.z
  unfold k0_pay28 k0_pay8
  pointwise
  simp only [pay26 u v dy sg w b, pay27 u v dy sg w b]
  try rfl

/-- The gradient of the normalised input with its gains. -/
theorem pay32 (r : Fin 2048) (d : Fin 128) :
    (k0_pay32 (F := Ideal) (k0_pay26 (k0_pay7 w)) (k0_pay29 (k0_pay14 u) dy) (ix2 r d) : EReal)
      = (grp u v sg w b dy).dvn r d := by
  unfold Grp.dvn
  unfold k0_pay32
  pointwise
  simp only [pay26 u v dy sg w b, pay29 u v dy sg w b]
  try rfl

/-- The gradient of the gains. -/
theorem out8 (d : Fin 128) :
    (k0_pay3 (F := Ideal) (k0_pay34 (k0_pay24 (k0_pay15 v) (k0_pay17 v)) (k0_pay26 (k0_pay7 w)) (k0_pay29 (k0_pay14 u) dy)) (ix3 0 0 d) : EReal)
      = (grp u v sg w b dy).dsg d := by
  unfold Grp.dsg
  unfold k0_pay3 k0_pay34
  pointwise
  simp only [pay24 u v dy sg w b, pay32 u v dy sg w b]
  try rfl

/-- The gradient of the mixing matrix. -/
theorem out9 (i j : Fin 128) :
    (k0_pay4 (F := Ideal) (k0_pay33 k0_pay25 (k0_pay27 (k0_pay6 sg) (k0_pay15 v) (k0_pay17 v)) (k0_pay31 (k0_pay14 u) dy)) (ix3 0 i j) : EReal)
      = (grp u v sg w b dy).dw i j := by
  unfold Grp.dw
  unfold k0_pay4 k0_pay33 k0_pay31 k0_pay25
  pointwise
  simp only [pay27 u v dy sg w b, pay29 u v dy sg w b, Fin.sum_univ_one]
  try rfl

/-- The gradient of the offsets. -/
theorem out10 (i : Fin 128) :
    (k0_pay5 (F := Ideal) (k0_pay30 (k0_pay14 u) dy) (ix3 0 i 0) : EReal)
      = (grp u v sg w b dy).db i := by
  unfold Grp.db
  unfold k0_pay5 k0_pay30
  pointwise
  simp only [reduceAdd_a02]
  pointwise
  simp only [reduceAdd_a02, pay29 u v dy sg w b, Fin.sum_univ_one]
  try rfl

/-- The gradient of the second input. -/
theorem out7 (r : Fin 2048) (d : Fin 128) :
    (k0_pay2 (F := Ideal) (k0_pay35 v (k0_pay6 sg) (k0_pay15 v) (k0_pay16 v) (k0_pay18 (k0_pay17 v) (Scalar.ofBits .f32 0x3F800000#32))
      (k0_pay19 (k0_pay17 v)) (k0_pay20 (k0_pay15 v) (k0_pay17 v)) (k0_pay22 (k0_pay15 v) (k0_pay17 v))
      (k0_pay23 (k0_pay15 v) (k0_pay17 v)) (k0_pay26 (k0_pay7 w)) (k0_pay29 (k0_pay14 u) dy)) (ix2 r d) : EReal)
      = (grp u v sg w b dy).dv r d := by
  have e15 : (k0_pay15 (F := Ideal) v (ix2 r d) : EReal) = lit 0x3F000000#32 * v (ix2 r d) := by
    unfold_payloads; pointwise; try rfl
  have e16 : (k0_pay16 (F := Ideal) v (ix2 r d) : EReal) = v (ix2 r d) * v (ix2 r d) := by
    unfold_payloads; pointwise; try rfl
  have e18 : (k0_pay18 (F := Ideal) (k0_pay17 v) 1 (ix2 r d) : EReal) = (1 + th (v (ix2 r d))) * (1 - th (v (ix2 r d))) := by
    unfold_payloads; pointwise; try rfl
  have e19 : (k0_pay19 (F := Ideal) (k0_pay17 v) (ix2 r d) : EReal) = 1 + th (v (ix2 r d)) := by
    unfold_payloads; pointwise; try rfl
  unfold k0_pay2 k0_pay35
  pointwise
  simp only [Fin.sum_univ_one, Fin.isValue, e15, e16, e18, e19, pay20 u v dy sg w b, pay22 u v dy sg w b, pay23 u v dy sg w b,
    pay32 u v dy sg w b, pay6 u v dy sg w b]
  exact gd_alt _ _ _ _ _ _ _ rfl rfl rfl rfl rfl

/-- The gradient of the first input. -/
theorem out6 (r : Fin 2048) (d : Fin 128) :
    (k0_pay1 (F := Ideal) u (k0_pay9 u) (k0_pay10 u) (k0_pay12 u) (k0_pay13 u)
      (k0_pay28 (k0_pay6 sg) (k0_pay7 w) (k0_pay8 b) (k0_pay15 v) (k0_pay17 v) dy) (ix2 r d) : EReal)
      = (grp u v sg w b dy).du r d := by
  have e9 : (k0_pay9 (F := Ideal) u (ix2 r d) : EReal) = lit 0x3F000000#32 * u (ix2 r d) := by
    unfold_payloads; pointwise; try rfl
  have e10 : (k0_pay10 (F := Ideal) u (ix2 r d) : EReal) = u (ix2 r d) * u (ix2 r d) := by
    unfold_payloads; pointwise; try rfl
  have e12 : (k0_pay12 (F := Ideal) u (ix2 r d) : EReal) = (1 + th (u (ix2 r d))) * (1 - th (u (ix2 r d))) := by
    unfold_payloads; pointwise; try rfl
  have e13 : (k0_pay13 (F := Ideal) u (ix2 r d) : EReal) = 1 + th (u (ix2 r d)) := by
    unfold_payloads; pointwise; try rfl
  unfold k0_pay1
  pointwise
  simp only [e9, e10, e12, e13, pay28 u v dy sg w b]
  exact gd_alt _ _ _ _ _ _ _ rfl rfl rfl rfl rfl

end Cert.Sgu.K
-- ==== Proof.SguReference.lean ====
module

public import proofs.«01_k».proof.Proof.SguSpec
public import proofs.«01_k».proof.Proof.Gen.ReferenceIdeal.Read

@[expose] public section

set_option maxRecDepth 16384

noncomputable section

open scoped BigOperators

namespace Cert.Sgu.R

open Idealize.ShloMosaic Cert.ReferenceIdeal Cert.ReferenceIdeal.Gen Cert.ReferenceIdeal.Read

/-- The host's sum over the second and last of five axes, read along them. -/
theorem hostReduceAdd_a14 {n0 n1 n2 n3 n4 : Nat} (h : (⟨5, ![n0, n1, n2, n3, n4]⟩ : Shape).ReducesTo [1, 4] ⟨3, ![n0, n2, n3]⟩)
    (v : (⟨5, ![n0, n1, n2, n3, n4]⟩ : Shape).Idx → EReal) (z : EReal) (a : Fin n0) (i : Fin n2) (g : Fin n3) :
    Ideal.hostReduceAdd h v z (ix3 a i g) = z + ∑ c : Fin n1, ∑ d : Fin n4, v (ix5 a c i g d) := by
  unfold Ideal.hostReduceAdd
  refine congrArg (z + ·) ?_
  refine (Finset.sum_filter_eq_sum_of_fiber _ (fun k : Fin n1 × Fin n4 => (ix5 a k.1 i g k.2 : (⟨5, ![n0, n1, n2, n3, n4]⟩ : Shape).Idx))
    (fun _ _ e => Prod.ext (congrFun e 1) (congrFun e 4)) (fun y => ?_) v).trans ?_
  · constructor
    · intro e
      refine ⟨(y 1, y 4), ?_⟩
      funext a; apply Fin.ext
      match a with
      | ⟨0, _⟩ => exact (congrArg Fin.val (congrFun e 0)).symm
      | ⟨1, _⟩ => rfl
      | ⟨2, _⟩ => exact (congrArg Fin.val (congrFun e 1)).symm
      | ⟨3, _⟩ => exact (congrArg Fin.val (congrFun e 2)).symm
      | ⟨4, _⟩ => rfl
    · rintro ⟨k, rfl⟩
      funext b
      apply Fin.ext
      match b with
      | ⟨0, _⟩ => rfl
      | ⟨1, _⟩ => rfl
      | ⟨2, _⟩ => rfl
  · simp only [Fintype.sum_prod_type]

/-- The host's sum over the first, second and last of five axes when those have one element each. -/
theorem hostReduceAdd_u014 {n2 n3 : Nat} (h : (⟨5, ![1, 1, n2, n3, 1]⟩ : Shape).ReducesTo [0, 1, 4] ⟨2, ![n2, n3]⟩)
    (v : (⟨5, ![1, 1, n2, n3, 1]⟩ : Shape).Idx → EReal) (z : EReal) (i : Fin n2) (g : Fin n3) :
    Ideal.hostReduceAdd h v z (ix2 i g) = z + v (ix5 0 0 i g 0) := by
  unfold Ideal.hostReduceAdd
  refine congrArg (z + ·) ?_
  refine (Finset.sum_filter_eq_sum_of_fiber _ (fun _ : Fin 1 => (ix5 0 0 i g 0 : (⟨5, ![1, 1, n2, n3, 1]⟩ : Shape).Idx))
    (fun _ _ _ => Subsingleton.elim _ _) (fun y => ?_) v).trans ?_
  · constructor
    · intro e
      refine ⟨0, ?_⟩
      funext a; apply Fin.ext
      match a with
      | ⟨0, _⟩ => exact (congrArg Fin.val (Fin.fin_one_eq_zero (y 0))).symm
      | ⟨1, _⟩ => exact (congrArg Fin.val (Fin.fin_one_eq_zero (y 1))).symm
      | ⟨2, _⟩ => exact (congrArg Fin.val (congrFun e 0)).symm
      | ⟨3, _⟩ => exact (congrArg Fin.val (congrFun e 1)).symm
      | ⟨4, _⟩ => exact (congrArg Fin.val (Fin.fin_one_eq_zero (y 4))).symm
    · rintro ⟨k, rfl⟩
      funext b
      apply Fin.ext
      match b with
      | ⟨0, _⟩ => rfl
      | ⟨1, _⟩ => rfl
  · simp only [Fin.sum_univ_one]

/-- The host's sum over the first and last of four axes when those have one element each. -/
theorem hostReduceAdd_u03 {n1 n2 : Nat} (h : (⟨4, ![1, n1, n2, 1]⟩ : Shape).ReducesTo [0, 3] ⟨2, ![n1, n2]⟩)
    (v : (⟨4, ![1, n1, n2, 1]⟩ : Shape).Idx → EReal) (z : EReal) (i : Fin n1) (g : Fin n2) :
    Ideal.hostReduceAdd h v z (ix2 i g) = z + v (ix4 0 i g 0) := by
  unfold Ideal.hostReduceAdd
  refine congrArg (z + ·) ?_
  refine (Finset.sum_filter_eq_sum_of_fiber _ (fun _ : Fin 1 => (ix4 0 i g 0 : (⟨4, ![1, n1, n2, 1]⟩ : Shape).Idx))
    (fun _ _ _ => Subsingleton.elim _ _) (fun y => ?_) v).trans ?_
  · constructor
    · intro e
      refine ⟨0, ?_⟩
      funext a; apply Fin.ext
      match a with
      | ⟨0, _⟩ => exact (congrArg Fin.val (Fin.fin_one_eq_zero (y 0))).symm
      | ⟨1, _⟩ => exact (congrArg Fin.val (congrFun e 0)).symm
      | ⟨2, _⟩ => exact (congrArg Fin.val (congrFun e 1)).symm
      | ⟨3, _⟩ => exact (congrArg Fin.val (Fin.fin_one_eq_zero (y 3))).symm
    · rintro ⟨k, rfl⟩
      funext b
      apply Fin.ext
      match b with
      | ⟨0, _⟩ => rfl
      | ⟨1, _⟩ => rfl
  · simp only [Fin.sum_univ_one]

/-- The host's sum over the first two of four axes when those have one element each. -/
theorem hostReduceAdd_u01 {n2 n3 : Nat} (h : (⟨4, ![1, 1, n2, n3]⟩ : Shape).ReducesTo [0, 1] ⟨2, ![n2, n3]⟩)
    (v : (⟨4, ![1, 1, n2, n3]⟩ : Shape).Idx → EReal) (z : EReal) (i : Fin n2) (g : Fin n3) :
    Ideal.hostReduceAdd h v z (ix2 i g) = z + v (ix4 0 0 i g) := by
  unfold Ideal.hostReduceAdd
  refine congrArg (z + ·) ?_
  refine (Finset.sum_filter_eq_sum_of_fiber _ (fun _ : Fin 1 => (ix4 0 0 i g : (⟨4, ![1, 1, n2, n3]⟩ : Shape).Idx))
    (fun _ _ _ => Subsingleton.elim _ _) (fun y => ?_) v).trans ?_
  · constructor
    · intro e
      refine ⟨0, ?_⟩
      funext a; apply Fin.ext
      match a with
      | ⟨0, _⟩ => exact (congrArg Fin.val (Fin.fin_one_eq_zero (y 0))).symm
      | ⟨1, _⟩ => exact (congrArg Fin.val (Fin.fin_one_eq_zero (y 1))).symm
      | ⟨2, _⟩ => exact (congrArg Fin.val (congrFun e 0)).symm
      | ⟨3, _⟩ => exact (congrArg Fin.val (congrFun e 1)).symm
    · rintro ⟨k, rfl⟩
      funext b
      apply Fin.ext
      match b with
      | ⟨0, _⟩ => rfl
      | ⟨1, _⟩ => rfl
  · simp only [Fin.sum_univ_one]

/-- The contraction over chunks and columns at once: its index with the given coordinates. -/
def cidx (c : Fin 16) (d : Fin 128) : dot_S4x1x16x128x128_S1x16x128x4x128_S4x128x128_123_014_4_2_0_3.contr.Idx := fun p =>
  match p with
  | ⟨0, _⟩ => (0 : Fin 1)
  | ⟨1, _⟩ => c
  | ⟨2, _⟩ => d

/-- That contraction's sum as the double sum over chunks and columns. -/
theorem dot_sum (l : S4x1x16x128x128.Idx → EReal) (r : S1x16x128x4x128.Idx → EReal) (g : Fin 4) (i j : Fin 128) :
    Ideal.matmul dot_S4x1x16x128x128_S1x16x128x4x128_S4x128x128_123_014_4_2_0_3 l r (fun _ => 0) (ix3 g i j)
      = ∑ c : Fin 16, ∑ d : Fin 128, l (ix5 g 0 c d i) * r (ix5 0 c j g d) := by
  have e : ∀ f : dot_S4x1x16x128x128_S1x16x128x4x128_S4x128x128_123_014_4_2_0_3.contr.Idx → EReal,
      ∑ k, f k = ∑ c : Fin 16, ∑ d : Fin 128, f (cidx c d) := by
    intro f
    rw [← Fintype.sum_prod_type (fun x : Fin 16 × Fin 128 => f (cidx x.1 x.2))]
    refine (Fintype.sum_bijective (fun x : Fin 16 × Fin 128 => cidx x.1 x.2) ⟨?_, ?_⟩ _ _ fun _ => rfl).symm
    · intro x y h
      exact Prod.ext (congrFun h ⟨1, by decide⟩) (congrFun h ⟨2, by decide⟩)
    · intro y
      refine ⟨(y ⟨1, by decide⟩, y ⟨2, by decide⟩), ?_⟩
      funext p
      match p with
      | ⟨0, _⟩ => exact (Fin.fin_one_eq_zero (y ⟨0, by decide⟩)).symm
      | ⟨1, _⟩ => rfl
      | ⟨2, _⟩ => rfl
  unfold Ideal.matmul
  rw [e, zero_add]
  refine Finset.sum_congr rfl fun c _ => Finset.sum_congr rfl fun d _ => ?_
  congr 2
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl

variable (x0 : FVec Ideal S2048x6528 .f32) (x1 : FVec Ideal S4x128 .f32) (x2 : FVec Ideal S4x128x128 .f32)
    (x3 : FVec Ideal S4x128 .f32) (x4 : FVec Ideal S2048x2048 .f32)

/-- Group `g` of the arguments. -/
def grp (g : Fin 4) : Grp where
  u r d := x0 (ix2 r ⟨g.val * 128 + d.val, by omega⟩)
  v r d := x0 (ix2 r ⟨512 + (g.val * 128 + d.val), by omega⟩)
  dy r d := x4 (ix2 r ⟨g.val * 128 + d.val, by omega⟩)
  sg d := x1 (ix2 g d)
  w i j := x2 (ix3 g i j)
  b i := x3 (ix2 g i)

/-- The activated second input. -/
theorem v47 (r : Fin 2048) (c : Fin 512) :
    (val_main_v47 (F := Ideal) x0 (ix3 0 r c) : EReal) = gl (x0 (ix2 r ⟨512 + c.val, by omega⟩)) := by
  pointwise [val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v2, val_main_v3, val_main_cst_6, val_main_cst_7, val_main_cst_8, val_main_cst_9, val_main_cst_10, val_main_cst_11, val_main_cst_12]
  try rfl

/-- The activated first input. -/
theorem v26 (r : Fin 2048) (c : Fin 512) :
    (val_main_v26 (F := Ideal) x0 (ix3 0 r c) : EReal) = gl (x0 (ix2 r ⟨c.val, by omega⟩)) := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v0, val_main_v1, val_main_cst, val_main_cst_0, val_main_cst_1, val_main_cst_2, val_main_cst_3, val_main_cst_4, val_main_cst_5]
  try rfl

/-- The activated second input, by groups. -/
theorem v48 (r : Fin 2048) (g : Fin 4) (d : Fin 128) :
    (val_main_v48 (F := Ideal) x0 (ix4 0 r g d) : EReal) = (grp x0 x1 x2 x3 x4 g).G r d := by
  unfold val_main_v48
  pointwise []
  rw [v47]
  try rfl

/-- Its mean square. -/
theorem v55 (r : Fin 2048) (g : Fin 4) :
    (val_main_v55 (F := Ideal) x0 (ix4 0 r g 0) : EReal) = (grp x0 x1 x2 x3 x4 g).ms r := by
  unfold Grp.ms
  simp only [← v48]
  pointwise [val_main_v55, val_main_v54, val_main_v53, val_main_v52, val_main_v51, val_main_v50, val_main_v49, val_main_cst_13, val_main_cst_14, val_main_cst_15]
  try rfl

/-- The reciprocal root. -/
theorem v56 (r : Fin 2048) (g : Fin 4) :
    (val_main_v56 (F := Ideal) x0 (ix4 0 r g 0) : EReal) = (grp x0 x1 x2 x3 x4 g).rs r := by
  unfold Grp.rs
  rw [← v55]
  pointwise [val_main_v56]
  try rfl

/-- Its derivative. -/
theorem v59 (r : Fin 2048) (g : Fin 4) :
    (val_main_v59 (F := Ideal) x0 (ix4 0 r g 0) : EReal) = lit 0xBF000000#32 * Ideal.div ((grp x0 x1 x2 x3 x4 g).rs r) ((grp x0 x1 x2 x3 x4 g).ms r) := by
  rw [← v55, ← v56]
  pointwise [val_main_v57, val_main_v58, val_main_v59, val_main_cst_16]
  try rfl

/-- The normalised input. -/
theorem v61 (r : Fin 2048) (g : Fin 4) (d : Fin 128) :
    (val_main_v61 (F := Ideal) x0 (ix4 0 r g d) : EReal) = (grp x0 x1 x2 x3 x4 g).xn r d := by
  unfold Grp.xn
  rw [← v48, ← v56]
  pointwise [val_main_v60, val_main_v61]
  try rfl

/-- The normalised input with its gains. -/
theorem v64 (r : Fin 2048) (g : Fin 4) (d : Fin 128) :
    (val_main_v64 (F := Ideal) x0 x1 (ix4 0 r g d) : EReal) = (grp x0 x1 x2 x3 x4 g).vn r d := by
  unfold Grp.vn
  rw [← v61]
  pointwise [val_main_v62, val_main_v63, val_main_v64]
  try rfl

/-- The same, by chunks. -/
theorem v65 (c : Fin 16) (j : Fin 128) (g : Fin 4) (d : Fin 128) :
    (val_main_v65 (F := Ideal) x0 x1 (ix5 0 c j g d) : EReal) = (grp x0 x1 x2 x3 x4 g).vn (row c j) d := by
  rw [← v64]
  unfold val_main_v65
  pointwise []
  try rfl

/-- A bit chosen by a bit is that bit. -/
theorem select_bit (p : BitVec 1) : (Scalar.select p 1#1 0#1 : BitVec 1) = p := by
  revert p; decide

/-- The triangle of the mask. -/
theorem v70_1 (g : Fin 4) (i j : Fin 128) : val_main_v70_1 (F := Ideal) (ix3 g i j) = tri i j := by
  pointwise [val_main_v70_1, val_main_v68, val_main_v67, val_main_v66, val_main_c, val_main_call0_v0, val_main_call0_v1, val_main_call0_v2, val_main_call0_v3, val_main_call0_v4, val_main_call0_v5, val_main_call0_c, val_main_call0_c_0]
  rw [select_bit]
  simp [IntOp.addi]

/-- The mixing matrix without what looks ahead. -/
theorem v70_0 (g : Fin 4) (i j : Fin 128) :
    (val_main_v70_0 (F := Ideal) x2 (ix3 g i j) : EReal) = (grp x0 x1 x2 x3 x4 g).wm i j := by
  unfold Grp.wm
  rw [← v70_1 g]
  pointwise [val_main_v70_0, val_main_v69, val_main_cst_17]
  try rfl

/-- The gradient of the mixed value. -/
theorem v79 (r : Fin 2048) (c : Fin 512) :
    (val_main_v79 (F := Ideal) x0 x4 (ix3 0 r c) : EReal) = gl (x0 (ix2 r ⟨c.val, by omega⟩)) * x4 (ix2 r ⟨c.val, by omega⟩) := by
  rw [← v26]
  pointwise [val_main_v79, val_main_v5, val_main_v4]
  try rfl

/-- The same, by chunks and groups. -/
theorem v81 (c : Fin 16) (i : Fin 128) (g : Fin 4) (d : Fin 128) :
    (val_main_v81 (F := Ideal) x0 x4 (ix5 0 c i g d) : EReal) = (grp x0 x1 x2 x3 x4 g).dz (row c i) d := by
  unfold val_main_v81
  pointwise []
  rw [v79]
  try rfl

/-- The mixed value. -/
theorem v77 (r : Fin 2048) (c : Fin 512) :
    (val_main_v77 (F := Ideal) x0 x1 x2 x3 (ix3 0 r c) : EReal) = (grp x0 x1 x2 x3 x4 ⟨c.val / 128, by omega⟩).z r ⟨c.val % 128, by omega⟩ := by
  unfold Grp.z
  pointwise [val_main_v71, val_main_v72, val_main_v73, val_main_v74, val_main_v75, val_main_v76, val_main_v77]
  simp only [v65 x0 x1 x2 x3 x4, v70_0 x0 x1 x2 x3 x4]
  exact congrArg (· + _) (Finset.sum_congr rfl fun _ _ => mul_comm _ _)

/-- The gradient of the normalised input with its gains. -/
theorem v91 (r : Fin 2048) (g : Fin 4) (d : Fin 128) :
    (val_main_v91 (F := Ideal) x0 x2 x4 (ix4 0 r g d) : EReal) = (grp x0 x1 x2 x3 x4 g).dvn r d := by
  unfold Grp.dvn
  pointwise [val_main_v86, val_main_v88, val_main_v89, val_main_v91]
  simp only [v81 x0 x1 x2 x3 x4, v70_0 x0 x1 x2 x3 x4]
  exact Finset.sum_congr rfl fun _ _ => mul_comm _ _

/-- The gradient of the normalised input. -/
theorem v96 (r : Fin 2048) (g : Fin 4) (d : Fin 128) :
    (val_main_v96 (F := Ideal) x0 x1 x2 x4 (ix4 0 r g d) : EReal) = (grp x0 x1 x2 x3 x4 g).dxn r d := by
  unfold Grp.dxn
  rw [← v91]
  pointwise [val_main_v96, val_main_v95, val_main_v62]
  try rfl

/-- The gradient of the mean square, divided by the row's length. -/
theorem v106 (r : Fin 2048) (g : Fin 4) :
    (val_main_v106 (F := Ideal) x0 x1 x2 x4 (ix2 r g) : EReal) = (grp x0 x1 x2 x3 x4 g).q r := by
  unfold Grp.q
  rw [← v59]
  simp only [← v48, ← v96]
  pointwise [val_main_v106, val_main_v105, val_main_v104, val_main_v103, val_main_v100, val_main_v99, val_main_v98, val_main_cst_22, val_main_cst_23, val_main_cst_24]
  simp only [hostReduceAdd_u03]
  pointwise
  try rfl

/-- The gradient of the activated second input. -/
theorem v112 (r : Fin 2048) (g : Fin 4) (d : Fin 128) :
    (val_main_v112 (F := Ideal) x0 x1 x2 x4 (ix4 0 r g d) : EReal) = (grp x0 x1 x2 x3 x4 g).dG r d := by
  unfold Grp.dG
  rw [← v96, ← v56, ← v48, ← v106]
  pointwise [val_main_v112, val_main_v111, val_main_v110, val_main_v109, val_main_v108, val_main_v107, val_main_v102, val_main_v101]
  try rfl

/-- The two columns a number below 512 splits into give it back. -/
theorem col (c : Fin 512) : c.val / 128 * 128 + c.val % 128 = c.val := by omega

/-- The gradient of the second input. -/
theorem v141 (r : Fin 2048) (c : Fin 512) :
    (val_main_v141 (F := Ideal) x0 x1 x2 x4 (ix2 r c) : EReal) = (grp x0 x1 x2 x3 x4 ⟨c.val / 128, by omega⟩).dv r ⟨c.val % 128, by omega⟩ := by
  unfold Grp.dv
  rw [← v112]
  pointwise [val_main_v114, val_main_v115, val_main_v116, val_main_v117, val_main_v118, val_main_v119, val_main_v120, val_main_v121, val_main_v122, val_main_v123, val_main_v124, val_main_v125, val_main_v140, val_main_v141, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v2, val_main_v3, val_main_cst_6, val_main_cst_7, val_main_cst_8, val_main_cst_9, val_main_cst_10, val_main_cst_11, val_main_cst_12, val_main_cst_25, val_main_cst_26, val_main_cst_27, val_main_cst_28, val_main_v113]
  simp only [grp, col]
  rfl

/-- The gradient of the first input. -/
theorem v139 (r : Fin 2048) (c : Fin 512) :
    (val_main_v139 (F := Ideal) x0 x1 x2 x3 x4 (ix2 r c) : EReal) = (grp x0 x1 x2 x3 x4 ⟨c.val / 128, by omega⟩).du r ⟨c.val % 128, by omega⟩ := by
  unfold Grp.du
  rw [← v77]
  pointwise [val_main_v126, val_main_v127, val_main_v128, val_main_v129, val_main_v130, val_main_v131, val_main_v132, val_main_v133, val_main_v134, val_main_v135, val_main_v136, val_main_v137, val_main_v138, val_main_v139, val_main_v80, val_main_v5, val_main_v4, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v0, val_main_v1, val_main_cst, val_main_cst_0, val_main_cst_1, val_main_cst_2, val_main_cst_3, val_main_cst_4, val_main_cst_5, val_main_cst_28, val_main_cst_29, val_main_cst_30]
  simp only [grp, col]
  rfl

/-- The gradient of the gains. -/
theorem v142 (g : Fin 4) (d : Fin 128) :
    (val_main_v142 (F := Ideal) x0 x2 x4 (ix3 g 0 d) : EReal) = (grp x0 x1 x2 x3 x4 g).dsg d := by
  unfold Grp.dsg
  simp only [← v61, ← v91]
  pointwise [val_main_v142, val_main_v97, val_main_v94, val_main_v93, val_main_v92, val_main_cst_20, val_main_cst_21]
  rw [hostReduceAdd_u01, zero_add]
  pointwise

/-- The gradient of the mixing matrix. -/
theorem v90 (g : Fin 4) (i j : Fin 128) :
    (val_main_v90 (F := Ideal) x0 x1 x4 (ix3 g i j) : EReal) = (grp x0 x1 x2 x3 x4 g).dw i j := by
  unfold Grp.dw
  rw [← v70_1 g]
  simp only [← v81, ← v65]
  pointwise [val_main_v90, val_main_v87, val_main_v86, val_main_call2_v0, val_main_call2_cst]
  rw [dot_sum]
  pointwise
  try rfl

/-- The gradient of the offsets. -/
theorem v143 (g : Fin 4) (i : Fin 128) :
    (val_main_v143 (F := Ideal) x0 x4 (ix3 g i 0) : EReal) = (grp x0 x1 x2 x3 x4 g).db i := by
  unfold Grp.db
  simp only [← v81]
  pointwise [val_main_v143, val_main_v85, val_main_v84, val_main_v83, val_main_v82, val_main_cst_18, val_main_cst_19]
  simp only [hostReduceAdd_u014]
  pointwise
  simp only [hostReduceAdd_a14, zero_add]

end Cert.Sgu.R
-- ==== Proof.SguValue.lean ====
module

public import proofs.«01_k».proof.Defs
public import proofs.«01_k».proof.Proof.SguKernel
public import proofs.«01_k».proof.Proof.SguReference
public import proofs.«01_k».proof.Proof.Gen.KernelIdeal.Value
public import proofs.«01_k».proof.Proof.Gen.ReferenceIdeal.Run
public import Idealize.ShloMosaic.Lib.Pipeline.Value

/-! The arrays the kernel of the gating's backward pass leaves, assembled from its four blocks, and the claim. -/

@[expose] public section

set_option maxRecDepth 16384

noncomputable section

namespace Cert.Sgu.V

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- The five arguments. -/
abbrev X0 : S2048x6528.Idx → EReal := m ((c : Thread nD τ).loc main_arg0)
@[inherit_doc X0] abbrev X1 : S4x128.Idx → EReal := m ((c : Thread nD τ).loc main_arg1)
@[inherit_doc X0] abbrev X2 : S4x128x128.Idx → EReal := m ((c : Thread nD τ).loc main_arg2)
@[inherit_doc X0] abbrev X3 : S4x128.Idx → EReal := m ((c : Thread nD τ).loc main_arg3)
@[inherit_doc X0] abbrev X4 : S2048x2048.Idx → EReal := m ((c : Thread nD τ).loc main_arg4)

/-- The group a grid point works on. -/
def gp (t : Fin cfg0.N) : Fin 4 := ⟨t.val, N_0 ▸ t.isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The normalisation's weights as the host hands them to the kernel: a unit axis inserted. -/
theorem V_v0 (g : Fin 4) (d : Fin 128) : (V m c main_v0 : S4x1x128.Idx → EReal) (ix3 g 0 d) = X1 m c (ix2 g d) := by
  show (broadcastInDim S4x1x128 ![0, 2] bcast_S4x128_S4x1x128_0_2 (X1 m c) : S4x1x128.Idx → EReal) (ix3 g 0 d) = _
  pointwise

/-- The biases as the host hands them to the kernel: a unit axis appended. -/
theorem V_v1 (g : Fin 4) (i : Fin 128) : (V m c main_v1 : S4x128x1.Idx → EReal) (ix3 g i 0) = X3 m c (ix2 g i) := by
  show (broadcastInDim S4x128x1 ![0, 1] bcast_S4x128_S4x128x1_0_1 (X3 m c) : S4x128x1.Idx → EReal) (ix3 g i 0) = _
  pointwise

/-- Window 0 at a point: all rows, column block the point's. -/
theorem idx0 : ∀ t : Fin grid0.N, win0_0.index t 0 = 0 ∧ win0_0.index t 1 = t.val := by decide +kernel

/-- Window 1 at a point: all rows, column block four past the point's. -/
theorem idx1 : ∀ t : Fin grid0.N, win0_1.index t 0 = 0 ∧ win0_1.index t 1 = 4 + t.val := by decide +kernel

/-- Window 2 at a point: the point's slice of the first axis. -/
theorem idx2 : ∀ t : Fin grid0.N, win0_2.index t 0 = t.val ∧ win0_2.index t 1 = 0 ∧ win0_2.index t 2 = 0 := by decide +kernel

/-- Window 3 at a point: the point's slice of the first axis. -/
theorem idx3 : ∀ t : Fin grid0.N, win0_3.index t 0 = t.val ∧ win0_3.index t 1 = 0 ∧ win0_3.index t 2 = 0 := by decide +kernel

/-- Window 4 at a point: the point's slice of the first axis. -/
theorem idx4 : ∀ t : Fin grid0.N, win0_4.index t 0 = t.val ∧ win0_4.index t 1 = 0 ∧ win0_4.index t 2 = 0 := by decide +kernel

/-- Window 5 at a point: all rows, column block the point's. -/
theorem idx5 : ∀ t : Fin grid0.N, win0_5.index t 0 = 0 ∧ win0_5.index t 1 = t.val := by decide +kernel

/-- Window 6 at a point: all rows, column block the point's. -/
theorem idx6 : ∀ t : Fin grid0.N, win0_6.index t 0 = 0 ∧ win0_6.index t 1 = t.val := by decide +kernel

/-- Window 7 at a point: all rows, column block the point's. -/
theorem idx7 : ∀ t : Fin grid0.N, win0_7.index t 0 = 0 ∧ win0_7.index t 1 = t.val := by decide +kernel

/-- Window 8 at a point: the point's slice of the first axis. -/
theorem idx8 : ∀ t : Fin grid0.N, win0_8.index t 0 = t.val ∧ win0_8.index t 1 = 0 ∧ win0_8.index t 2 = 0 := by decide +kernel

/-- Window 9 at a point: the point's slice of the first axis. -/
theorem idx9 : ∀ t : Fin grid0.N, win0_9.index t 0 = t.val ∧ win0_9.index t 1 = 0 ∧ win0_9.index t 2 = 0 := by decide +kernel

/-- Window 10 at a point: the point's slice of the first axis. -/
theorem idx10 : ∀ t : Fin grid0.N, win0_10.index t 0 = t.val ∧ win0_10.index t 1 = 0 ∧ win0_10.index t 2 = 0 := by decide +kernel

/-- Where an element of window 0's block lies in its array. -/
theorem emb0 (t : Fin cfg0.N) (r : Fin 2048) (d : Fin 128) :
    ((win0_0.rect t).emb (ix2 r d) : (⟨2, ![2048, 6528]⟩ : Shape).Idx) = (ix2 r ⟨(gp t).val * 128 + d.val, by omega⟩ : (⟨2, ![2048, 6528]⟩ : Shape).Idx) := by
  funext a; apply Fin.ext
  match a with
  | ⟨0, _⟩ => exact Pipeline.Window.rect_emb_val_of_index_zero win0_0 t _ (idx0 t).1 _
  | ⟨1, _⟩ => exact (Pipeline.Window.rect_emb_val win0_0 t _ _).trans (congrArg (· * 128 + d.val) (idx0 t).2)

/-- Where an element of window 1's block lies in its array. -/
theorem emb1 (t : Fin cfg0.N) (r : Fin 2048) (d : Fin 128) :
    ((win0_1.rect t).emb (ix2 r d) : (⟨2, ![2048, 6528]⟩ : Shape).Idx) = (ix2 r ⟨512 + ((gp t).val * 128 + d.val), by omega⟩ : (⟨2, ![2048, 6528]⟩ : Shape).Idx) := by
  funext a; apply Fin.ext
  match a with
  | ⟨0, _⟩ => exact Pipeline.Window.rect_emb_val_of_index_zero win0_1 t _ (idx1 t).1 _
  | ⟨1, _⟩ =>
    refine (Pipeline.Window.rect_emb_val win0_1 t _ _).trans ?_
    show win0_1.index t 1 * 128 + d.val = 512 + (t.val * 128 + d.val)
    rw [(idx1 t).2]; omega

/-- Where an element of window 2's block lies in its array. -/
theorem emb2 (t : Fin cfg0.N) (i : Fin 1) (j : Fin 128) :
    ((win0_2.rect t).emb (ix3 0 i j) : (⟨3, ![4, 1, 128]⟩ : Shape).Idx) = (ix3 (gp t) i j : (⟨3, ![4, 1, 128]⟩ : Shape).Idx) := by
  funext a; apply Fin.ext
  match a with
  | ⟨0, _⟩ =>
    refine (Pipeline.Window.rect_emb_val win0_2 t _ _).trans ?_
    show win0_2.index t 0 * 1 + 0 = t.val
    rw [(idx2 t).1]; omega
  | ⟨1, _⟩ => exact Pipeline.Window.rect_emb_val_of_index_zero win0_2 t _ (idx2 t).2.1 _
  | ⟨2, _⟩ => exact Pipeline.Window.rect_emb_val_of_index_zero win0_2 t _ (idx2 t).2.2 _

/-- Where an element of window 3's block lies in its array. -/
theorem emb3 (t : Fin cfg0.N) (i : Fin 128) (j : Fin 128) :
    ((win0_3.rect t).emb (ix3 0 i j) : (⟨3, ![4, 128, 128]⟩ : Shape).Idx) = (ix3 (gp t) i j : (⟨3, ![4, 128, 128]⟩ : Shape).Idx) := by
  funext a; apply Fin.ext
  match a with
  | ⟨0, _⟩ =>
    refine (Pipeline.Window.rect_emb_val win0_3 t _ _).trans ?_
    show win0_3.index t 0 * 1 + 0 = t.val
    rw [(idx3 t).1]; omega
  | ⟨1, _⟩ => exact Pipeline.Window.rect_emb_val_of_index_zero win0_3 t _ (idx3 t).2.1 _
  | ⟨2, _⟩ => exact Pipeline.Window.rect_emb_val_of_index_zero win0_3 t _ (idx3 t).2.2 _

/-- Where an element of window 4's block lies in its array. -/
theorem emb4 (t : Fin cfg0.N) (i : Fin 128) (j : Fin 1) :
    ((win0_4.rect t).emb (ix3 0 i j) : (⟨3, ![4, 128, 1]⟩ : Shape).Idx) = (ix3 (gp t) i j : (⟨3, ![4, 128, 1]⟩ : Shape).Idx) := by
  funext a; apply Fin.ext
  match a with
  | ⟨0, _⟩ =>
    refine (Pipeline.Window.rect_emb_val win0_4 t _ _).trans ?_
    show win0_4.index t 0 * 1 + 0 = t.val
    rw [(idx4 t).1]; omega
  | ⟨1, _⟩ => exact Pipeline.Window.rect_emb_val_of_index_zero win0_4 t _ (idx4 t).2.1 _
  | ⟨2, _⟩ => exact Pipeline.Window.rect_emb_val_of_index_zero win0_4 t _ (idx4 t).2.2 _

/-- Where an element of window 5's block lies in its array. -/
theorem emb5 (t : Fin cfg0.N) (r : Fin 2048) (d : Fin 128) :
    ((win0_5.rect t).emb (ix2 r d) : (⟨2, ![2048, 2048]⟩ : Shape).Idx) = (ix2 r ⟨(gp t).val * 128 + d.val, by omega⟩ : (⟨2, ![2048, 2048]⟩ : Shape).Idx) := by
  funext a; apply Fin.ext
  match a with
  | ⟨0, _⟩ => exact Pipeline.Window.rect_emb_val_of_index_zero win0_5 t _ (idx5 t).1 _
  | ⟨1, _⟩ => exact (Pipeline.Window.rect_emb_val win0_5 t _ _).trans (congrArg (· * 128 + d.val) (idx5 t).2)

/-- Where an element of window 6's block lies in its array. -/
theorem emb6 (t : Fin cfg0.N) (r : Fin 2048) (d : Fin 128) :
    ((win0_6.rect t).emb (ix2 r d) : (⟨2, ![2048, 512]⟩ : Shape).Idx) = (ix2 r ⟨(gp t).val * 128 + d.val, by omega⟩ : (⟨2, ![2048, 512]⟩ : Shape).Idx) := by
  funext a; apply Fin.ext
  match a with
  | ⟨0, _⟩ => exact Pipeline.Window.rect_emb_val_of_index_zero win0_6 t _ (idx6 t).1 _
  | ⟨1, _⟩ => exact (Pipeline.Window.rect_emb_val win0_6 t _ _).trans (congrArg (· * 128 + d.val) (idx6 t).2)

/-- Where an element of window 7's block lies in its array. -/
theorem emb7 (t : Fin cfg0.N) (r : Fin 2048) (d : Fin 128) :
    ((win0_7.rect t).emb (ix2 r d) : (⟨2, ![2048, 512]⟩ : Shape).Idx) = (ix2 r ⟨(gp t).val * 128 + d.val, by omega⟩ : (⟨2, ![2048, 512]⟩ : Shape).Idx) := by
  funext a; apply Fin.ext
  match a with
  | ⟨0, _⟩ => exact Pipeline.Window.rect_emb_val_of_index_zero win0_7 t _ (idx7 t).1 _
  | ⟨1, _⟩ => exact (Pipeline.Window.rect_emb_val win0_7 t _ _).trans (congrArg (· * 128 + d.val) (idx7 t).2)

/-- Where an element of window 8's block lies in its array. -/
theorem emb8 (t : Fin cfg0.N) (i : Fin 1) (j : Fin 128) :
    ((win0_8.rect t).emb (ix3 0 i j) : (⟨3, ![4, 1, 128]⟩ : Shape).Idx) = (ix3 (gp t) i j : (⟨3, ![4, 1, 128]⟩ : Shape).Idx) := by
  funext a; apply Fin.ext
  match a with
  | ⟨0, _⟩ =>
    refine (Pipeline.Window.rect_emb_val win0_8 t _ _).trans ?_
    show win0_8.index t 0 * 1 + 0 = t.val
    rw [(idx8 t).1]; omega
  | ⟨1, _⟩ => exact Pipeline.Window.rect_emb_val_of_index_zero win0_8 t _ (idx8 t).2.1 _
  | ⟨2, _⟩ => exact Pipeline.Window.rect_emb_val_of_index_zero win0_8 t _ (idx8 t).2.2 _

/-- Where an element of window 9's block lies in its array. -/
theorem emb9 (t : Fin cfg0.N) (i : Fin 128) (j : Fin 128) :
    ((win0_9.rect t).emb (ix3 0 i j) : (⟨3, ![4, 128, 128]⟩ : Shape).Idx) = (ix3 (gp t) i j : (⟨3, ![4, 128, 128]⟩ : Shape).Idx) := by
  funext a; apply Fin.ext
  match a with
  | ⟨0, _⟩ =>
    refine (Pipeline.Window.rect_emb_val win0_9 t _ _).trans ?_
    show win0_9.index t 0 * 1 + 0 = t.val
    rw [(idx9 t).1]; omega
  | ⟨1, _⟩ => exact Pipeline.Window.rect_emb_val_of_index_zero win0_9 t _ (idx9 t).2.1 _
  | ⟨2, _⟩ => exact Pipeline.Window.rect_emb_val_of_index_zero win0_9 t _ (idx9 t).2.2 _

/-- Where an element of window 10's block lies in its array. -/
theorem emb10 (t : Fin cfg0.N) (i : Fin 128) (j : Fin 1) :
    ((win0_10.rect t).emb (ix3 0 i j) : (⟨3, ![4, 128, 1]⟩ : Shape).Idx) = (ix3 (gp t) i j : (⟨3, ![4, 128, 1]⟩ : Shape).Idx) := by
  funext a; apply Fin.ext
  match a with
  | ⟨0, _⟩ =>
    refine (Pipeline.Window.rect_emb_val win0_10 t _ _).trans ?_
    show win0_10.index t 0 * 1 + 0 = t.val
    rw [(idx10 t).1]; omega
  | ⟨1, _⟩ => exact Pipeline.Window.rect_emb_val_of_index_zero win0_10 t _ (idx10 t).2.1 _
  | ⟨2, _⟩ => exact Pipeline.Window.rect_emb_val_of_index_zero win0_10 t _ (idx10 t).2.2 _

/-- The blocks the kernel reads at a point are the columns, slices and weights of the point's group. -/
theorem grp_eq (t : Fin cfg0.N) :
    Cert.Sgu.K.grp (iblk m c 0 t) (iblk m c 1 t) (iblk m c 2 t) (iblk m c 3 t) (iblk m c 4 t) (iblk m c 5 t)
      = Cert.Sgu.R.grp (X0 m c) (X1 m c) (X2 m c) (X3 m c) (X4 m c) (gp t) := by
  unfold Cert.Sgu.K.grp Cert.Sgu.R.grp
  congr 1
  · funext r d
    show (V m c main_arg0 : S2048x6528.Idx → EReal) ((win0_0.rect t).emb (ix2 r d)) = _
    rw [V_main_arg0, emb0]
  · funext r d
    show (V m c main_arg0 : S2048x6528.Idx → EReal) ((win0_1.rect t).emb (ix2 r d)) = _
    rw [V_main_arg0, emb1]
  · funext r d
    show (V m c main_arg4 : S2048x2048.Idx → EReal) ((win0_5.rect t).emb (ix2 r d)) = _
    rw [V_main_arg4, emb5]
  · funext d
    show (V m c main_v0 : S4x1x128.Idx → EReal) ((win0_2.rect t).emb (ix3 0 0 d)) = _
    rw [emb2]; exact V_v0 m c _ d
  · funext i j
    show (V m c main_arg2 : S4x128x128.Idx → EReal) ((win0_3.rect t).emb (ix3 0 i j)) = _
    rw [V_main_arg2, emb3]
  · funext i
    show (V m c main_v1 : S4x128x1.Idx → EReal) ((win0_4.rect t).emb (ix3 0 i 0)) = _
    rw [emb4]; exact V_v1 m c _ i

theorem div_col (g d : Nat) (h : d < 128) : (g * 128 + d) / 128 = g := by omega
theorem mod_col (g d : Nat) (h : d < 128) : (g * 128 + d) % 128 = d := by omega

theorem l0 (X : Vec Ideal S2048x128 .f32) : View.ld X r0_0 = X := View.ld_unit_zero hz2 _ X
theorem l1 (X : Vec Ideal S1x1x128 .f32) : View.ld X r0_1 = X := View.ld_unit_zero hz3 _ X
theorem l2 (X : Vec Ideal S1x128x128 .f32) : View.ld X r0_2 = X := View.ld_unit_zero hz3 _ X
theorem l3 (X : Vec Ideal S1x128x1 .f32) : View.ld X r0_3 = X := View.ld_unit_zero hz3 _ X

/-- The gradient of the gate's input, as the reference writes it. -/
def G6 : S2048x512.Idx → EReal := Cert.ReferenceIdeal.Read.val_main_v139 (F := Ideal) (X0 m c) (X1 m c) (X2 m c) (X3 m c) (X4 m c)

/-- What the body stores through window 6, read at an index. -/
theorem o6 (u v dy : FVec Ideal S2048x128 .f32) (sg : FVec Ideal S1x1x128 .f32) (w : FVec Ideal S1x128x128 .f32) (b : FVec Ideal S1x128x1 .f32) (r : Fin 2048) (d : Fin 128) :
    (out0_6 (F := Ideal) u v sg w b dy (ix2 r d) : EReal) = (Cert.Sgu.K.grp u v sg w b dy).du r d := by
  unfold_out out0_6
  rw [View.canon_unit_zero hz2]
  simp only [l0, l1, l2, l3]
  exact Cert.Sgu.K.out6 u v dy sg w b r d

/-- The gradient of the gate's input: what a point writes back is its block of the reference's array. -/
theorem flushed_eq6 (t : Fin cfg0.N) :
    (dats m 0 c).flushed 6 t = ((cfg0.win 6).blk t).view.read (Elt Ideal) (G6 m c) := by
  rw [Value.flushed6]
  funext y
  obtain ⟨r, d, rfl⟩ : ∃ (r : Fin 2048) (d : Fin 128), y = ix2 r d := ⟨y 0, y 1, eq_ix2 y⟩
  refine (o6 (iblk m c 0 t) (iblk m c 1 t) (iblk m c 5 t) (iblk m c 2 t) (iblk m c 3 t) (iblk m c 4 t) r d).trans ?_
  rw [grp_eq]
  show _ = G6 m c ((win0_6.rect t).emb (ix2 r d))
  rw [emb6]
  refine Eq.trans ?_ (Cert.Sgu.R.v139 (X0 m c) (X1 m c) (X2 m c) (X3 m c) (X4 m c) r _).symm
  simp only [div_col _ _ d.isLt, mod_col _ _ d.isLt, Fin.eta]

/-- The blocks of window 6 fill its array. -/
theorem cover6 (i : S2048x512.Idx) : ∃ t : Fin cfg0.N, (cfg0.win 6).flush t = true ∧ i ∈ ((cfg0.win 6).blk t).view.set := by
  obtain ⟨r, q, rfl⟩ : ∃ (r : Fin 2048) (q : Fin 512), i = ix2 r q := ⟨i 0, i 1, eq_ix2 i⟩
  have hN : cfg0.N = 4 := N_0
  let t : Fin cfg0.N := ⟨q.val / 128, by omega⟩
  refine ⟨t, flush0_6 _, ?_⟩
  have e : ((win0_6.rect t).emb (ix2 r ⟨q.val % 128, Nat.mod_lt _ (by decide)⟩) : S2048x512.Idx) = ix2 r q := by
    refine (emb6 t r ⟨q.val % 128, Nat.mod_lt _ (by decide)⟩).trans ?_
    refine congrArg (ix2 r) (Fin.ext ?_)
    show q.val / 128 * 128 + q.val % 128 = q.val
    omega
  exact e ▸ View.emb_mem_set ((cfg0.win 6).blk t).view (ix2 r ⟨q.val % 128, Nat.mod_lt _ (by decide)⟩)

/-- The gradient of the gate's input, the whole array after the run. -/
theorem final6 : (dats m 0 c).arrAt 6 cfg0.N = G6 m c :=
  (dats m 0 c).arrAt_eq_of_cover 6 (G6 m c) (fun t _ => flushed_eq6 m c t) cover6

/-- The gradient of the value's input, as the reference writes it. -/
def G7 : S2048x512.Idx → EReal := Cert.ReferenceIdeal.Read.val_main_v141 (F := Ideal) (X0 m c) (X1 m c) (X2 m c) (X4 m c)

/-- What the body stores through window 7, read at an index. -/
theorem o7 (u v dy : FVec Ideal S2048x128 .f32) (sg : FVec Ideal S1x1x128 .f32) (w : FVec Ideal S1x128x128 .f32) (b : FVec Ideal S1x128x1 .f32) (r : Fin 2048) (d : Fin 128) :
    (out0_7 (F := Ideal) u v sg w b dy (ix2 r d) : EReal) = (Cert.Sgu.K.grp u v sg w b dy).dv r d := by
  unfold_out out0_7
  rw [View.canon_unit_zero hz2]
  simp only [l0, l1, l2, l3]
  exact Cert.Sgu.K.out7 u v dy sg w b r d

/-- The gradient of the value's input: what a point writes back is its block of the reference's array. -/
theorem flushed_eq7 (t : Fin cfg0.N) :
    (dats m 0 c).flushed 7 t = ((cfg0.win 7).blk t).view.read (Elt Ideal) (G7 m c) := by
  rw [Value.flushed7]
  funext y
  obtain ⟨r, d, rfl⟩ : ∃ (r : Fin 2048) (d : Fin 128), y = ix2 r d := ⟨y 0, y 1, eq_ix2 y⟩
  refine (o7 (iblk m c 0 t) (iblk m c 1 t) (iblk m c 5 t) (iblk m c 2 t) (iblk m c 3 t) (iblk m c 4 t) r d).trans ?_
  rw [grp_eq]
  show _ = G7 m c ((win0_7.rect t).emb (ix2 r d))
  rw [emb7]
  refine Eq.trans ?_ (Cert.Sgu.R.v141 (X0 m c) (X1 m c) (X2 m c) (X3 m c) (X4 m c) r _).symm
  simp only [div_col _ _ d.isLt, mod_col _ _ d.isLt, Fin.eta]

/-- The blocks of window 7 fill its array. -/
theorem cover7 (i : S2048x512.Idx) : ∃ t : Fin cfg0.N, (cfg0.win 7).flush t = true ∧ i ∈ ((cfg0.win 7).blk t).view.set := by
  obtain ⟨r, q, rfl⟩ : ∃ (r : Fin 2048) (q : Fin 512), i = ix2 r q := ⟨i 0, i 1, eq_ix2 i⟩
  have hN : cfg0.N = 4 := N_0
  let t : Fin cfg0.N := ⟨q.val / 128, by omega⟩
  refine ⟨t, flush0_7 _, ?_⟩
  have e : ((win0_7.rect t).emb (ix2 r ⟨q.val % 128, Nat.mod_lt _ (by decide)⟩) : S2048x512.Idx) = ix2 r q := by
    refine (emb7 t r ⟨q.val % 128, Nat.mod_lt _ (by decide)⟩).trans ?_
    refine congrArg (ix2 r) (Fin.ext ?_)
    show q.val / 128 * 128 + q.val % 128 = q.val
    omega
  exact e ▸ View.emb_mem_set ((cfg0.win 7).blk t).view (ix2 r ⟨q.val % 128, Nat.mod_lt _ (by decide)⟩)

/-- The gradient of the value's input, the whole array after the run. -/
theorem final7 : (dats m 0 c).arrAt 7 cfg0.N = G7 m c :=
  (dats m 0 c).arrAt_eq_of_cover 7 (G7 m c) (fun t _ => flushed_eq7 m c t) cover7

/-- The gradient of the normalisation's weights, as the reference writes it. -/
def G8 : S4x1x128.Idx → EReal := Cert.ReferenceIdeal.Read.val_main_v142 (F := Ideal) (X0 m c) (X2 m c) (X4 m c)

/-- What the body stores through window 8, read at an index. -/
theorem o8 (u v dy : FVec Ideal S2048x128 .f32) (sg : FVec Ideal S1x1x128 .f32) (w : FVec Ideal S1x128x128 .f32) (b : FVec Ideal S1x128x1 .f32) (d : Fin 128) :
    (out0_8 (F := Ideal) u v sg w b dy (ix3 0 0 d) : EReal) = (Cert.Sgu.K.grp u v sg w b dy).dsg d := by
  unfold_out out0_8
  rw [View.canon_unit_zero hz3]
  simp only [l0, l1, l2, l3]
  exact Cert.Sgu.K.out8 u v dy sg w b d

/-- The gradient of the normalisation's weights: what a point writes back is its block of the reference's array. -/
theorem flushed_eq8 (t : Fin cfg0.N) :
    (dats m 0 c).flushed 8 t = ((cfg0.win 8).blk t).view.read (Elt Ideal) (G8 m c) := by
  rw [Value.flushed8]
  funext y
  obtain ⟨d, rfl⟩ : ∃ d : Fin 128, y = ix3 0 0 d := ⟨y 2, by refine (eq_ix3 y).trans ?_; congr 1 <;> exact Subsingleton.elim _ _⟩
  refine (o8 (iblk m c 0 t) (iblk m c 1 t) (iblk m c 5 t) (iblk m c 2 t) (iblk m c 3 t) (iblk m c 4 t) d).trans ?_
  rw [grp_eq]
  show _ = G8 m c ((win0_8.rect t).emb (ix3 0 0 d))
  rw [emb8]
  exact (Cert.Sgu.R.v142 (X0 m c) (X1 m c) (X2 m c) (X3 m c) (X4 m c) (gp t) d).symm

/-- The blocks of window 8 fill its array. -/
theorem cover8 (i : S4x1x128.Idx) : ∃ t : Fin cfg0.N, (cfg0.win 8).flush t = true ∧ i ∈ ((cfg0.win 8).blk t).view.set := by
  obtain ⟨g, j, k, rfl⟩ : ∃ (g : Fin 4) (j : Fin 1) (k : Fin 128), i = ix3 g j k := ⟨i 0, i 1, i 2, eq_ix3 i⟩
  have hN : cfg0.N = 4 := N_0
  let t : Fin cfg0.N := ⟨g.val, by omega⟩
  refine ⟨t, flush0_8 _, ?_⟩
  have e : ((win0_8.rect t).emb (ix3 0 j k) : S4x1x128.Idx) = ix3 g j k := by
    refine (emb8 t j k).trans ?_
    rfl
  exact e ▸ View.emb_mem_set ((cfg0.win 8).blk t).view (ix3 0 j k)

/-- The gradient of the normalisation's weights, the whole array after the run. -/
theorem final8 : (dats m 0 c).arrAt 8 cfg0.N = G8 m c :=
  (dats m 0 c).arrAt_eq_of_cover 8 (G8 m c) (fun t _ => flushed_eq8 m c t) cover8

/-- The gradient of the mixing matrices, as the reference writes it. -/
def G9 : S4x128x128.Idx → EReal := Cert.ReferenceIdeal.Read.val_main_v90 (F := Ideal) (X0 m c) (X1 m c) (X4 m c)

/-- What the body stores through window 9, read at an index. -/
theorem o9 (u v dy : FVec Ideal S2048x128 .f32) (sg : FVec Ideal S1x1x128 .f32) (w : FVec Ideal S1x128x128 .f32) (b : FVec Ideal S1x128x1 .f32) (i j : Fin 128) :
    (out0_9 (F := Ideal) u v sg w b dy (ix3 0 i j) : EReal) = (Cert.Sgu.K.grp u v sg w b dy).dw i j := by
  unfold_out out0_9
  rw [View.canon_unit_zero hz3]
  simp only [l0, l1, l2, l3]
  exact Cert.Sgu.K.out9 u v dy sg w b i j

/-- The gradient of the mixing matrices: what a point writes back is its block of the reference's array. -/
theorem flushed_eq9 (t : Fin cfg0.N) :
    (dats m 0 c).flushed 9 t = ((cfg0.win 9).blk t).view.read (Elt Ideal) (G9 m c) := by
  rw [Value.flushed9]
  funext y
  obtain ⟨i, j, rfl⟩ : ∃ i j : Fin 128, y = ix3 0 i j := ⟨y 1, y 2, by refine (eq_ix3 y).trans ?_; congr 1; exact Subsingleton.elim _ _⟩
  refine (o9 (iblk m c 0 t) (iblk m c 1 t) (iblk m c 5 t) (iblk m c 2 t) (iblk m c 3 t) (iblk m c 4 t) i j).trans ?_
  rw [grp_eq]
  show _ = G9 m c ((win0_9.rect t).emb (ix3 0 i j))
  rw [emb9]
  exact (Cert.Sgu.R.v90 (X0 m c) (X1 m c) (X2 m c) (X3 m c) (X4 m c) (gp t) i j).symm

/-- The blocks of window 9 fill its array. -/
theorem cover9 (i : S4x128x128.Idx) : ∃ t : Fin cfg0.N, (cfg0.win 9).flush t = true ∧ i ∈ ((cfg0.win 9).blk t).view.set := by
  obtain ⟨g, j, k, rfl⟩ : ∃ (g : Fin 4) (j : Fin 128) (k : Fin 128), i = ix3 g j k := ⟨i 0, i 1, i 2, eq_ix3 i⟩
  have hN : cfg0.N = 4 := N_0
  let t : Fin cfg0.N := ⟨g.val, by omega⟩
  refine ⟨t, flush0_9 _, ?_⟩
  have e : ((win0_9.rect t).emb (ix3 0 j k) : S4x128x128.Idx) = ix3 g j k := by
    refine (emb9 t j k).trans ?_
    rfl
  exact e ▸ View.emb_mem_set ((cfg0.win 9).blk t).view (ix3 0 j k)

/-- The gradient of the mixing matrices, the whole array after the run. -/
theorem final9 : (dats m 0 c).arrAt 9 cfg0.N = G9 m c :=
  (dats m 0 c).arrAt_eq_of_cover 9 (G9 m c) (fun t _ => flushed_eq9 m c t) cover9

/-- The gradient of the biases, as the reference writes it. -/
def G10 : S4x128x1.Idx → EReal := Cert.ReferenceIdeal.Read.val_main_v143 (F := Ideal) (X0 m c) (X4 m c)

/-- What the body stores through window 10, read at an index. -/
theorem o10 (u v dy : FVec Ideal S2048x128 .f32) (sg : FVec Ideal S1x1x128 .f32) (w : FVec Ideal S1x128x128 .f32) (b : FVec Ideal S1x128x1 .f32) (i : Fin 128) :
    (out0_10 (F := Ideal) u v sg w b dy (ix3 0 i 0) : EReal) = (Cert.Sgu.K.grp u v sg w b dy).db i := by
  unfold_out out0_10
  rw [View.canon_unit_zero hz3]
  simp only [l0, l1, l2, l3]
  exact Cert.Sgu.K.out10 u v dy sg w b i

/-- The gradient of the biases: what a point writes back is its block of the reference's array. -/
theorem flushed_eq10 (t : Fin cfg0.N) :
    (dats m 0 c).flushed 10 t = ((cfg0.win 10).blk t).view.read (Elt Ideal) (G10 m c) := by
  rw [Value.flushed10]
  funext y
  obtain ⟨i, rfl⟩ : ∃ i : Fin 128, y = ix3 0 i 0 := ⟨y 1, by refine (eq_ix3 y).trans ?_; congr 1 <;> exact Subsingleton.elim _ _⟩
  refine (o10 (iblk m c 0 t) (iblk m c 1 t) (iblk m c 5 t) (iblk m c 2 t) (iblk m c 3 t) (iblk m c 4 t) i).trans ?_
  rw [grp_eq]
  show _ = G10 m c ((win0_10.rect t).emb (ix3 0 i 0))
  rw [emb10]
  exact (Cert.Sgu.R.v143 (X0 m c) (X1 m c) (X2 m c) (X3 m c) (X4 m c) (gp t) i).symm

/-- The blocks of window 10 fill its array. -/
theorem cover10 (i : S4x128x1.Idx) : ∃ t : Fin cfg0.N, (cfg0.win 10).flush t = true ∧ i ∈ ((cfg0.win 10).blk t).view.set := by
  obtain ⟨g, j, k, rfl⟩ : ∃ (g : Fin 4) (j : Fin 128) (k : Fin 1), i = ix3 g j k := ⟨i 0, i 1, i 2, eq_ix3 i⟩
  have hN : cfg0.N = 4 := N_0
  let t : Fin cfg0.N := ⟨g.val, by omega⟩
  refine ⟨t, flush0_10 _, ?_⟩
  have e : ((win0_10.rect t).emb (ix3 0 j k) : S4x128x1.Idx) = ix3 g j k := by
    refine (emb10 t j k).trans ?_
    rfl
  exact e ▸ View.emb_mem_set ((cfg0.win 10).blk t).view (ix3 0 j k)

/-- The gradient of the biases, the whole array after the run. -/
theorem final10 : (dats m 0 c).arrAt 10 cfg0.N = G10 m c :=
  (dats m 0 c).arrAt_eq_of_cover 10 (G10 m c) (fun t _ => flushed_eq10 m c t) cover10

end Cert.Sgu.V

namespace Cert.Sgu

open Idealize.ShloMosaic Idealize.ShloMosaic.TcCoe Idealize.SL.Sem
open Cert.Sgu.V

/-- The kernel and the reference leave the same five gradients. -/
theorem algebraic : Cert.algebraic_KernelIdeal_ReferenceIdeal := by
  intro m ρ m' ρ' _ hagree
  refine ⟨fun c => G6 m c, fun c => G7 m c, fun c => G8 m c, fun c => G9 m c, fun c => G10 m c, ?_, ?_⟩
  · refine (θ_run Cert.KernelIdeal.defs _ _).mono (fun r h c => ?_) (Cert.KernelIdeal.Value.run_blocks (F := Ideal) m ρ)
    obtain ⟨h6, h7, h8, h9, h10, ha⟩ := h c
    exact ⟨h6.trans (final6 m c), h7.trans (final7 m c), h8.trans (final8 m c), h9.trans (final9 m c),
      h10.trans (final10 m c), ha⟩
  · refine (θ_run Cert.ReferenceIdeal.defs _ _).mono (fun r h c => ?_) (Cert.ReferenceIdeal.Value.run (F := Ideal) m' ρ')
    obtain ⟨h6, h7, h8, h9, h10, ha⟩ := h c
    obtain ⟨a0, a1, a2, a3, a4⟩ := hagree c
    refine ⟨h6.trans ((Cert.ReferenceIdeal.Read.val_main_v139_eq _).trans ?_),
      h7.trans ((Cert.ReferenceIdeal.Read.val_main_v141_eq _).trans ?_),
      h8.trans ((Cert.ReferenceIdeal.Read.val_main_v142_eq _).trans ?_),
      h9.trans ((Cert.ReferenceIdeal.Read.val_main_v90_eq _).trans ?_),
      h10.trans ((Cert.ReferenceIdeal.Read.val_main_v143_eq _).trans ?_), ha⟩
    · show Cert.ReferenceIdeal.Read.val_main_v139 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) = _
      rw [a0, a1, a2, a3, a4]; rfl
    · show Cert.ReferenceIdeal.Read.val_main_v141 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg4)) = _
      rw [a0, a1, a2, a4]; rfl
    · show Cert.ReferenceIdeal.Read.val_main_v142 (F := Ideal) (m' ((c.tc : Thread _ _).loc Cert.ReferenceIdeal.main_arg0)) (m' ((c.tc : Thread _ _).loc Cert.ReferenceIdeal.main_arg2)) (m' ((c.tc : Thread _ _).loc Cert.ReferenceIdeal.main_arg4)) = _
      rw [a0, a2, a4]; rfl
    · show Cert.ReferenceIdeal.Read.val_main_v90 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg4)) = _
      rw [a0, a1, a4]; rfl
    · show Cert.ReferenceIdeal.Read.val_main_v143 (F := Ideal) (m' ((c.tc : Thread _ _).loc Cert.ReferenceIdeal.main_arg0)) (m' ((c.tc : Thread _ _).loc Cert.ReferenceIdeal.main_arg4)) = _
      rw [a0, a4]; rfl

end Cert.Sgu
-- ==== Proof.Swiglu.lean ====
module

public import Idealize.ShloMosaic.Lib.Pointwise
public import Idealize.ShloMosaic.Lib.Pipeline.Value
public import Mathlib.Tactic.FieldSimp

/-! The gated activation of the feed-forward block and its gradient over the extended reals: the form the kernel computes
    and the form the reference computes are the same function, at the infinities too. -/

@[expose] public section

noncomputable section

namespace Cert.Swiglu

open Idealize.ShloMosaic

/-- The gate's sigmoid. -/
def sig (g : EReal) : EReal := Ideal.div 1 (1 + Ideal.exp (-g))

/-- The gated activation: gate times its sigmoid times the other factor. -/
def act (g u : EReal) : EReal := g * sig g * u

/-- The gradient that reaches the gate, as the reference computes it. -/
def dgate (D g u : EReal) : EReal := D * u * sig g + g * (D * u) * (sig g * (1 - sig g))

/-- The gradient that reaches the other factor. -/
def dup (D g : EReal) : EReal := g * sig g * D

/-- The derivative of the sigmoid in the kernel's form, the exponential over the squared denominator, is the
    reference's, the sigmoid times one less the sigmoid. -/
theorem dsig (g : EReal) :
    Ideal.div 1 ((1 + Ideal.exp (-g)) * (1 + Ideal.exp (-g))) * Ideal.exp (-g) = sig g * (1 - sig g) := by
  unfold sig
  induction g with
  | bot =>
    have h : (1 : EReal) + ⊤ = ⊤ := by
      rw [add_comm]; exact EReal.top_add_of_ne_bot (by decide)
    rw [EReal.neg_bot, Ideal.exp_top, h, EReal.top_mul_top]
    simp [Ideal.div]
  | top =>
    rw [EReal.neg_top, Ideal.exp_bot, mul_zero, add_zero]
    have h1 : Ideal.div 1 1 = 1 := by
      have h := Ideal.div_coe (y := 1) one_ne_zero 1
      rw [one_div, inv_one, EReal.coe_one, mul_one] at h
      exact h
    rw [h1]
    have h2 : (1 : EReal) - 1 = 0 := by
      rw [← EReal.coe_one, ← EReal.coe_sub, sub_self, EReal.coe_zero]
    rw [h2, mul_zero]
  | coe r =>
    have hp : (0 : ℝ) < 1 + Real.exp (-r) := add_pos one_pos (Real.exp_pos _)
    rw [← EReal.coe_neg, Ideal.exp_coe, ← EReal.coe_one, ← EReal.coe_add, ← EReal.coe_mul,
      Ideal.div_coe (mul_pos hp hp).ne', Ideal.div_coe hp.ne', ← EReal.coe_mul, ← EReal.coe_mul, ← EReal.coe_mul,
      ← EReal.coe_sub, ← EReal.coe_mul]
    refine congrArg _ ?_
    field_simp
    ring

/-- The gate's gradient in the kernel's form is the reference's. -/
theorem dgate_eq (D g u : EReal) :
    D * u * Ideal.div 1 (1 + Ideal.exp (0 - g))
      + (0 - (0 - g * (D * u) * Ideal.div 1 ((1 + Ideal.exp (0 - g)) * (1 + Ideal.exp (0 - g))) * 1) * Ideal.exp (0 - g))
      = dgate D g u := by
  unfold dgate
  rw [zero_sub, zero_sub, zero_sub, mul_one, EReal.neg_mul, neg_neg, mul_assoc (g * (D * u)), dsig]
  rfl

/-- Equal factors give equal gate gradients. -/
theorem dgate_congr {D D' g g' u u' : EReal} (hD : D = D') (hg : g = g') (hu : u = u') : dgate D g u = dgate D' g' u' := by
  rw [hD, hg, hu]

/-- Indices with equal coordinates are equal. -/
theorem ix3_congr {n0 n1 n2 : Nat} {a a' : Fin n0} {b b' : Fin n1} {c c' : Fin n2} (ha : a.val = a'.val) (hb : b.val = b'.val)
    (hc : c.val = c'.val) : (ix3 a b c : (⟨3, ![n0, n1, n2]⟩ : Shape).Idx) = ix3 a' b' c' := by
  rw [Fin.ext ha, Fin.ext hb, Fin.ext hc]

@[inherit_doc ix3_congr]
theorem ix4_congr {n0 n1 n2 n3 : Nat} {a a' : Fin n0} {b b' : Fin n1} {c c' : Fin n2} {d d' : Fin n3} (ha : a.val = a'.val)
    (hb : b.val = b'.val) (hc : c.val = c'.val) (hd : d.val = d'.val) :
    (ix4 a b c d : (⟨4, ![n0, n1, n2, n3]⟩ : Shape).Idx) = ix4 a' b' c' d' := by
  rw [Fin.ext ha, Fin.ext hb, Fin.ext hc, Fin.ext hd]

end Cert.Swiglu
-- ==== Proof.DactValue.lean ====
module

public import proofs.«01_k».proof.Defs
public import proofs.«01_k».proof.Proof.Gen.DactKernelIdeal.Value
public import proofs.«01_k».proof.Proof.Gen.DactReferenceIdeal.Run
public import proofs.«01_k».proof.Proof.Gen.DactReferenceIdeal.Read
public import Idealize.ShloMosaic.Lib.Pointwise
public import Idealize.ShloMosaic.Lib.Pipeline.Value
public import proofs.«01_k».proof.Proof.Swiglu
public import Idealize.ShloMosaic.Lib.Pipeline.ValueKit.Tiles

/-! The gradient through the feed-forward block's down product and gated activation: the blocks of the kernel make up the reference's array. -/

@[expose] public section

set_option maxRecDepth 16384

noncomputable section

namespace Cert.Dact.R

open Idealize.ShloMosaic
open Cert.DactReferenceIdeal Cert.DactReferenceIdeal.Gen Cert.DactReferenceIdeal.Read

/-- The gradient that reaches the activation: the upstream gradient through the down product. -/
def dact (x : S2048x2048.Idx → EReal) (w : S1x5632x2048.Idx → EReal) (p : Fin 2048) (j : Fin 5632) : EReal :=
  ∑ k : Fin 2048, x (ix2 p k) * w (ix3 0 j k)

/-- The reference's gradient that reaches the activation. -/
theorem v11_apply (x : S2048x2048.Idx → EReal) (w : S1x5632x2048.Idx → EReal) (p : Fin 2048) (j : Fin 5632) :
    (val_main_v11 (F := Ideal) x w (ix3 0 p j) : EReal) = dact x w p j := by
  unfold dact
  unfold val_main_v11 val_main_v10 val_main_v9 val_main_v5 val_main_v4
  pointwise

/-- The reference's gradient of the gate. -/
theorem ref_gate (x : S2048x2048.Idx → EReal) (w : S1x5632x2048.Idx → EReal) (gu : S2x2048x5632.Idx → EReal) (p : Fin 2048) (j : Fin 5632) :
    (val_main_v16 (F := Ideal) x w gu (ix3 0 p j) : EReal)
      = Cert.Swiglu.dgate (dact x w p j) (gu (ix3 0 p j)) (gu (ix3 1 p j)) := by
  have e : (val_main_v16 (F := Ideal) x w gu (ix3 0 p j) : EReal) = val_main_v14 (F := Ideal) x w gu (ix3 0 p j) := by
    show (val_main_v15 (F := Ideal) x w gu (ix3 0 p j) : EReal) = _
    unfold val_main_v15
    refine (concatenate_pair_apply_left (s₁ := S1x2048x5632) (s₂ := S1x2048x5632) _ _ _ _ (ix3 0 p j : S2x2048x5632.Idx) rfl (ix3 0 p j : S1x2048x5632.Idx) (fun b => ?_)).trans ?_
    · match b with
      | ⟨0, _⟩ => rfl
      | ⟨1, _⟩ => rfl
      | ⟨2, _⟩ => rfl
    · rfl
  rw [e]
  rw [← v11_apply]
  unfold Cert.Swiglu.dgate Cert.Swiglu.sig
  unfold val_main_v14 val_main_call1_v1 val_main_call1_v2 val_main_call1_v0 val_main_v13 val_main_v6_1 val_main_call0_v7 val_main_v6_2 val_main_call0_v6 val_main_call0_cst_1 val_main_call0_v4 val_main_call0_cst_0 val_main_call0_v3 val_main_call0_v2 val_main_call0_cst val_main_call0_v1 val_main_call0_v0 val_main_v3 val_main_v2 val_main_v1 val_main_v0
  generalize val_main_v11 (F := Ideal) x w = D
  pointwise

/-- The reference's gradient of the other factor. -/
theorem ref_up (x : S2048x2048.Idx → EReal) (w : S1x5632x2048.Idx → EReal) (gu : S2x2048x5632.Idx → EReal) (p : Fin 2048) (j : Fin 5632) :
    (val_main_v16 (F := Ideal) x w gu (ix3 1 p j) : EReal) = Cert.Swiglu.dup (dact x w p j) (gu (ix3 0 p j)) := by
  have e : (val_main_v16 (F := Ideal) x w gu (ix3 1 p j) : EReal) = val_main_v12 (F := Ideal) x w gu (ix3 0 p j) := by
    show (val_main_v15 (F := Ideal) x w gu (ix3 1 p j) : EReal) = _
    unfold val_main_v15
    refine (concatenate_pair_apply_right (s₁ := S1x2048x5632) (s₂ := S1x2048x5632) _ _ _ _ (ix3 1 p j : S2x2048x5632.Idx) rfl rfl (ix3 0 p j : S1x2048x5632.Idx) (fun b hb => ?_) rfl).trans ?_
    · match b with
      | ⟨0, _⟩ => exact absurd rfl hb
      | ⟨1, _⟩ => rfl
      | ⟨2, _⟩ => rfl
    · rfl
  rw [e]
  rw [← v11_apply]
  unfold Cert.Swiglu.dup Cert.Swiglu.sig
  unfold val_main_v12 val_main_v6_0 val_main_v6_2 val_main_call0_v4 val_main_call0_cst_0 val_main_call0_v3 val_main_call0_v2 val_main_call0_cst val_main_call0_v1 val_main_call0_v0 val_main_v1 val_main_v0
  generalize val_main_v11 (F := Ideal) x w = D
  pointwise

end Cert.Dact.R

namespace Cert.Dact.V

open Idealize.ShloMosaic Idealize.ShloMosaic.TcCoe Idealize.SL.Sem
open Idealize.ShloMosaic.Pipeline (Dat)
open Cert.DactKernelIdeal Cert.DactKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S1x5632x2048.Idx → EReal := m ((c : Thread nD τ).loc main_arg1)
@[inherit_doc X0] abbrev X2 : S2x2048x5632.Idx → EReal := m ((c : Thread nD τ).loc main_arg2)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 16 points. -/
theorem tN (t : Fin cfg0.N) : t.val < 16 := N_0 ▸ t.isLt

/-- The block window 0 names at a point. -/
theorem idx0 : ∀ t : Fin grid0.N, win0_0.index t 0 = t.val % 4 ∧ win0_0.index t 1 = 0 := by decide +kernel

/-- Where an element of window 0's block lies in its array. -/
theorem emb0 (t : Fin cfg0.N) (y0 : Fin 512) (y1 : Fin 2048) :
    ((win0_0.rect t).emb (ix2 y0 y1) : (⟨2, ![2048, 2048]⟩ : Shape).Idx) = ((ix2 ⟨t.val % 4 * 512 + y0.val, by have := tN t; have := y0.isLt; omega⟩ y1) : (⟨2, ![2048, 2048]⟩ : Shape).Idx) := by
  funext a; apply Fin.ext
  match a with
  | ⟨0, _⟩ => exact (Pipeline.Window.rect_emb_val win0_0 t _ _).trans (congrArg (· * 512 + y0.val) (idx0 t).1)
  | ⟨1, _⟩ => exact Pipeline.Window.rect_emb_val_of_index_zero win0_0 t _ (idx0 t).2 _

/-- Window 0's block at a point, read from the argument. -/
theorem blk0 (t : Fin cfg0.N) (y0 : Fin 512) (y1 : Fin 2048) :
    (iblk m c 0 t : S512x2048.Idx → EReal) (ix2 y0 y1) = X0 m c (ix2 ⟨t.val % 4 * 512 + y0.val, by have := tN t; have := y0.isLt; omega⟩ y1) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = 0 ∧ win0_1.index t 1 = t.val / 4 ∧ win0_1.index t 2 = 0 := by decide +kernel

/-- Where an element of window 1's block lies in its array. -/
theorem emb1 (t : Fin cfg0.N) (y0 : Fin 1) (y1 : Fin 1408) (y2 : Fin 2048) :
    ((win0_1.rect t).emb (ix3 y0 y1 y2) : (⟨3, ![1, 5632, 2048]⟩ : Shape).Idx) = ((ix3 y0 ⟨t.val / 4 * 1408 + y1.val, by have := tN t; have := y1.isLt; omega⟩ y2) : (⟨3, ![1, 5632, 2048]⟩ : Shape).Idx) := by
  funext a; apply Fin.ext
  match a with
  | ⟨0, _⟩ => exact Pipeline.Window.rect_emb_val_of_index_zero win0_1 t _ (idx1 t).1 _
  | ⟨1, _⟩ => exact (Pipeline.Window.rect_emb_val win0_1 t _ _).trans (congrArg (· * 1408 + y1.val) (idx1 t).2.1)
  | ⟨2, _⟩ => exact Pipeline.Window.rect_emb_val_of_index_zero win0_1 t _ (idx1 t).2.2 _

/-- Window 1's block at a point, read from the argument. -/
theorem blk1 (t : Fin cfg0.N) (y0 : Fin 1) (y1 : Fin 1408) (y2 : Fin 2048) :
    (iblk m c 1 t : S1x1408x2048.Idx → EReal) (ix3 y0 y1 y2) = X1 m c (ix3 y0 ⟨t.val / 4 * 1408 + y1.val, by have := tN t; have := y1.isLt; omega⟩ y2) := by
  show (V m c main_arg1 : S1x5632x2048.Idx → EReal) ((win0_1.rect t).emb (ix3 y0 y1 y2)) = _
  rw [V_main_arg1, emb1]

/-- The block window 2 names at a point. -/
theorem idx2 : ∀ t : Fin grid0.N, win0_2.index t 0 = 0 ∧ win0_2.index t 1 = t.val % 4 ∧ win0_2.index t 2 = t.val / 4 := by decide +kernel

/-- Where an element of window 2's block lies in its array. -/
theorem emb2 (t : Fin cfg0.N) (y0 : Fin 2) (y1 : Fin 512) (y2 : Fin 1408) :
    ((win0_2.rect t).emb (ix3 y0 y1 y2) : (⟨3, ![2, 2048, 5632]⟩ : Shape).Idx) = ((ix3 y0 ⟨t.val % 4 * 512 + y1.val, by have := tN t; have := y1.isLt; omega⟩ ⟨t.val / 4 * 1408 + y2.val, by have := tN t; have := y2.isLt; omega⟩) : (⟨3, ![2, 2048, 5632]⟩ : Shape).Idx) := by
  funext a; apply Fin.ext
  match a with
  | ⟨0, _⟩ => exact Pipeline.Window.rect_emb_val_of_index_zero win0_2 t _ (idx2 t).1 _
  | ⟨1, _⟩ => exact (Pipeline.Window.rect_emb_val win0_2 t _ _).trans (congrArg (· * 512 + y1.val) (idx2 t).2.1)
  | ⟨2, _⟩ => exact (Pipeline.Window.rect_emb_val win0_2 t _ _).trans (congrArg (· * 1408 + y2.val) (idx2 t).2.2)

/-- Window 2's block at a point, read from the argument. -/
theorem blk2 (t : Fin cfg0.N) (y0 : Fin 2) (y1 : Fin 512) (y2 : Fin 1408) :
    (iblk m c 2 t : S2x512x1408.Idx → EReal) (ix3 y0 y1 y2) = X2 m c (ix3 y0 ⟨t.val % 4 * 512 + y1.val, by have := tN t; have := y1.isLt; omega⟩ ⟨t.val / 4 * 1408 + y2.val, by have := tN t; have := y2.isLt; omega⟩) := by
  show (V m c main_arg2 : S2x2048x5632.Idx → EReal) ((win0_2.rect t).emb (ix3 y0 y1 y2)) = _
  rw [V_main_arg2, emb2]

/-- The block window 3 names at a point. -/
theorem idx3 : ∀ t : Fin grid0.N, win0_3.index t 0 = 0 ∧ win0_3.index t 1 = t.val % 4 ∧ win0_3.index t 2 = t.val / 4 := by decide +kernel

/-- Where an element of window 3's block lies in its array. -/
theorem emb3 (t : Fin cfg0.N) (y0 : Fin 2) (y1 : Fin 512) (y2 : Fin 1408) :
    ((win0_3.rect t).emb (ix3 y0 y1 y2) : (⟨3, ![2, 2048, 5632]⟩ : Shape).Idx) = ((ix3 y0 ⟨t.val % 4 * 512 + y1.val, by have := tN t; have := y1.isLt; omega⟩ ⟨t.val / 4 * 1408 + y2.val, by have := tN t; have := y2.isLt; omega⟩) : (⟨3, ![2, 2048, 5632]⟩ : Shape).Idx) := by
  funext a; apply Fin.ext
  match a with
  | ⟨0, _⟩ => exact Pipeline.Window.rect_emb_val_of_index_zero win0_3 t _ (idx3 t).1 _
  | ⟨1, _⟩ => exact (Pipeline.Window.rect_emb_val win0_3 t _ _).trans (congrArg (· * 512 + y1.val) (idx3 t).2.1)
  | ⟨2, _⟩ => exact (Pipeline.Window.rect_emb_val win0_3 t _ _).trans (congrArg (· * 1408 + y2.val) (idx3 t).2.2)

/-- A load of a whole block reads the block. -/
theorem l0 (X : Vec Ideal S512x2048 .bf16) : View.ld X r0_0 = X := View.ld_unit_zero hz2 _ X

/-- A load of a whole block reads the block. -/
theorem l1 (X : Vec Ideal S1x1408x2048 .bf16) : View.ld X r0_1 = X := View.ld_unit_zero hz3 _ X

/-- Two stores, one in each slice of the first axis, read back: the first slice. -/
theorem two0 (Q Q' : Vec Ideal S1x512x1408 .bf16) (r : Fin 512) (d : Fin 1408) :
    (View.canon [⟨r0_3, Q'⟩, ⟨r0_2, Q⟩] (ix3 0 r d : S2x512x1408.Idx) : EReal) = Q (ix3 0 r d) := by
  refine View.canon_eq_of_allAt _ _ _ ⟨_, List.mem_cons_of_mem _ (List.mem_singleton.mpr rfl), ?_⟩ ?_
  · refine (Rect.mem_set_unit (inb := by decide)).mpr fun a => ?_
    match a with
    | ⟨0, _⟩ => exact ⟨Nat.le_refl 0, Nat.lt_succ_self 0⟩
    | ⟨1, _⟩ => exact ⟨Nat.zero_le _, by show r.val < 0 + 512; omega⟩
    | ⟨2, _⟩ => exact ⟨Nat.zero_le _, by show d.val < 0 + 1408; omega⟩
  · refine View.allAt_cons_unit _ _ _ _ _ (fun x hx => ?_) (View.allAt_cons_unit _ _ _ _ _ (fun x hx => congrArg Q ?_) (View.allAt_nil _ _))
    · have h : (0 : Nat) = 1 + (x 0 : Nat) := hx 0
      omega
    · funext a; apply Fin.ext
      match a with
      | ⟨0, _⟩ => have h : (0 : Nat) = 0 + (x 0 : Nat) := hx 0
                  show (x 0 : Nat) = 0; omega
      | ⟨1, _⟩ => have h : r.val = 0 + (x 1 : Nat) := hx 1
                  show (x 1 : Nat) = r.val; omega
      | ⟨2, _⟩ => have h : d.val = 0 + (x 2 : Nat) := hx 2
                  show (x 2 : Nat) = d.val; omega

/-- Two stores, one in each slice of the first axis, read back: the second slice. -/
theorem two1 (Q Q' : Vec Ideal S1x512x1408 .bf16) (r : Fin 512) (d : Fin 1408) :
    (View.canon [⟨r0_3, Q'⟩, ⟨r0_2, Q⟩] (ix3 1 r d : S2x512x1408.Idx) : EReal) = Q' (ix3 0 r d) := by
  refine View.canon_eq_of_allAt _ _ _ ⟨_, List.mem_cons_self, ?_⟩ ?_
  · refine (Rect.mem_set_unit (inb := by decide)).mpr fun a => ?_
    match a with
    | ⟨0, _⟩ => exact ⟨Nat.le_refl 1, Nat.lt_succ_self 1⟩
    | ⟨1, _⟩ => exact ⟨Nat.zero_le _, by show r.val < 0 + 512; omega⟩
    | ⟨2, _⟩ => exact ⟨Nat.zero_le _, by show d.val < 0 + 1408; omega⟩
  · refine View.allAt_cons_unit _ _ _ _ _ (fun x hx => congrArg Q' ?_) (View.allAt_cons_unit _ _ _ _ _ (fun x hx => ?_) (View.allAt_nil _ _))
    · funext a; apply Fin.ext
      match a with
      | ⟨0, _⟩ => have h : (1 : Nat) = 1 + (x 0 : Nat) := hx 0
                  show (x 0 : Nat) = 0; omega
      | ⟨1, _⟩ => have h : r.val = 0 + (x 1 : Nat) := hx 1
                  show (x 1 : Nat) = r.val; omega
      | ⟨2, _⟩ => have h : d.val = 0 + (x 2 : Nat) := hx 2
                  show (x 2 : Nat) = d.val; omega
    · have h : (1 : Nat) = 0 + (x 0 : Nat) := hx 0
      have h0 : (x 0 : Nat) < 1 := (x 0).isLt
      omega

/-- A load of the first slice. -/
theorem l2 (X : Vec Ideal S2x512x1408 .bf16) (r : Fin 512) (d : Fin 1408) :
    (View.ld X r0_2 (ix3 0 r d : S1x512x1408.Idx) : EReal) = X (ix3 0 r d) := by
  refine View.ld_unit_apply_of X _ _ _ _ _ fun a => ?_
  match a with
  | ⟨0, _⟩ => rfl
  | ⟨1, _⟩ => show r.val = 0 + r.val; omega
  | ⟨2, _⟩ => show d.val = 0 + d.val; omega

/-- A load of the second slice. -/
theorem l3 (X : Vec Ideal S2x512x1408 .bf16) (r : Fin 512) (d : Fin 1408) :
    (View.ld X r0_3 (ix3 0 r d : S1x512x1408.Idx) : EReal) = X (ix3 1 r d) := by
  refine View.ld_unit_apply_of X _ _ _ _ _ fun a => ?_
  match a with
  | ⟨0, _⟩ => rfl
  | ⟨1, _⟩ => show r.val = 0 + r.val; omega
  | ⟨2, _⟩ => show d.val = 0 + d.val; omega

/-- The body's product at an element. -/
theorem prod_apply (x0 : Vec Ideal S512x2048 .bf16) (x1 : Vec Ideal S1x1408x2048 .bf16) (r : Fin 512) (d : Fin 1408) :
    (k0_pay3 (F := Ideal) x0 x1 (ix2 r d) : EReal) = ∑ k : Fin 2048, x0 (ix2 r k) * x1 (ix3 0 d k) := by
  unfold k0_pay3
  pointwise

/-- The gate's gradient as the body computes it. -/
theorem pay_gate (x0 : Vec Ideal S512x2048 .bf16) (x1 : Vec Ideal S1x1408x2048 .bf16) (g u : Vec Ideal S1x512x1408 .bf16) (r : Fin 512) (d : Fin 1408) :
    (k0_pay1 (F := Ideal) (k0_pay9 x0 x1 g u) (ix3 0 r d) : EReal)
      = Cert.Swiglu.dgate (∑ k : Fin 2048, x0 (ix2 r k) * x1 (ix3 0 d k)) (g (ix3 0 r d)) (u (ix3 0 r d)) := by
  rw [← prod_apply, ← Cert.Swiglu.dgate_eq]
  unfold k0_pay1 k0_pay9 k0_pay7 k0_pay6 k0_pay5 k0_pay4
  generalize k0_pay3 x0 x1 = D
  pointwise

/-- The other factor's gradient as the body computes it. -/
theorem pay_up (x0 : Vec Ideal S512x2048 .bf16) (x1 : Vec Ideal S1x1408x2048 .bf16) (g : Vec Ideal S1x512x1408 .bf16) (r : Fin 512) (d : Fin 1408) :
    (k0_pay2 (F := Ideal) (k0_pay8 x0 x1 g) (ix3 0 r d) : EReal)
      = Cert.Swiglu.dup (∑ k : Fin 2048, x0 (ix2 r k) * x1 (ix3 0 d k)) (g (ix3 0 r d)) := by
  rw [← prod_apply]
  unfold Cert.Swiglu.dup Cert.Swiglu.sig
  rw [← zero_sub (g (ix3 0 r d) : EReal)]
  unfold k0_pay2 k0_pay8 k0_pay7 k0_pay6 k0_pay5 k0_pay4
  generalize k0_pay3 x0 x1 = D
  pointwise

/-- What the body leaves in its output block, the gate's slice. -/
theorem out_gate (x0 : Vec Ideal S512x2048 .bf16) (x1 : Vec Ideal S1x1408x2048 .bf16) (x2 : Vec Ideal S2x512x1408 .bf16) (r : Fin 512) (d : Fin 1408) :
    (out0_3 (F := Ideal) x0 x1 x2 (ix3 0 r d) : EReal)
      = Cert.Swiglu.dgate (∑ k : Fin 2048, x0 (ix2 r k) * x1 (ix3 0 d k)) (x2 (ix3 0 r d)) (x2 (ix3 1 r d)) := by
  unfold out0_3
  refine (two0 _ _ r d).trans ?_
  rw [l0, l1]
  refine (pay_gate x0 x1 _ _ r d).trans ?_
  exact Cert.Swiglu.dgate_congr rfl (l2 x2 r d) (l3 x2 r d)

/-- What the body leaves in its output block, the other factor's slice. -/
theorem out_up (x0 : Vec Ideal S512x2048 .bf16) (x1 : Vec Ideal S1x1408x2048 .bf16) (x2 : Vec Ideal S2x512x1408 .bf16) (r : Fin 512) (d : Fin 1408) :
    (out0_3 (F := Ideal) x0 x1 x2 (ix3 1 r d) : EReal)
      = Cert.Swiglu.dup (∑ k : Fin 2048, x0 (ix2 r k) * x1 (ix3 0 d k)) (x2 (ix3 0 r d)) := by
  unfold out0_3
  refine (two1 _ _ r d).trans ?_
  rw [l0, l1]
  refine (pay_up x0 x1 _ r d).trans ?_
  exact congrArg _ (l2 x2 r d)

/-- The block of argument window 0 at a point. -/
def b0 (t : Fin cfg0.N) : S512x2048.Idx → EReal := iblk m c 0 t

/-- The block of argument window 1 at a point. -/
def b1 (t : Fin cfg0.N) : S1x1408x2048.Idx → EReal := iblk m c 1 t

/-- The array the reference leaves, over the kernel's arguments. -/
def G : S2x2048x5632.Idx → EReal := Cert.DactReferenceIdeal.Read.val_main_v16 (F := Ideal) (X0 m c) (X1 m c) (X2 m c)

/-- The block a point leaves is that point's block of the reference's array. -/
theorem flushed_eq (t : Fin cfg0.N) :
    (dats m 0 c).flushed 3 t = ((cfg0.win 3).blk t).view.read (Elt Ideal) (G m c) := by
  rw [Value.flushed3]
  funext y
  obtain ⟨y0, y1, y2, rfl⟩ : ∃ (y0 : Fin 2) (y1 : Fin 512) (y2 : Fin 1408), y = (ix3 y0 y1 y2) := ⟨y 0, y 1, y 2, eq_ix3 y⟩
  have hs : ∀ (r : Fin 512) (d : Fin 1408),
      (∑ k : Fin 2048, b0 m c t (ix2 r k) * b1 m c t (ix3 0 d k))
        = R.dact (X0 m c) (X1 m c) ⟨t.val % 4 * 512 + r.val, by have := tN t; omega⟩ ⟨t.val / 4 * 1408 + d.val, by have := tN t; omega⟩ :=
    fun r d => Finset.sum_congr rfl fun k _ => congrArg₂ (· * ·) (blk0 m c t r k) (blk1 m c t 0 d k)
  obtain rfl | rfl : y0 = 0 ∨ y0 = 1 := by omega
  · refine (out_gate (iblk m c 0 t) (iblk m c 1 t) (iblk m c 2 t) y1 y2).trans ?_
    show _ = G m c ((win0_3.rect t).emb (ix3 0 y1 y2))
    rw [emb3]
    refine Eq.trans ?_ (R.ref_gate (X0 m c) (X1 m c) (X2 m c) _ _).symm
    exact Cert.Swiglu.dgate_congr (hs y1 y2) (blk2 m c t 0 y1 y2) (blk2 m c t 1 y1 y2)
  · refine (out_up (iblk m c 0 t) (iblk m c 1 t) (iblk m c 2 t) y1 y2).trans ?_
    show _ = G m c ((win0_3.rect t).emb (ix3 1 y1 y2))
    rw [emb3]
    refine Eq.trans ?_ (R.ref_up (X0 m c) (X1 m c) (X2 m c) _ _).symm
    exact congrArg₂ Cert.Swiglu.dup (hs y1 y2) (blk2 m c t 0 y1 y2)

/-- Every element of the array lies in some point's block. -/
theorem cover (i : S2x2048x5632.Idx) : ∃ t : Fin cfg0.N, (cfg0.win 3).flush t = true ∧ i ∈ ((cfg0.win 3).blk t).view.set := by
  obtain ⟨q0, q1, q2, rfl⟩ : ∃ (q0 : Fin 2) (q1 : Fin 2048) (q2 : Fin 5632), i = (ix3 q0 q1 q2) := ⟨i 0, i 1, i 2, eq_ix3 i⟩
  have hN : cfg0.N = 16 := N_0
  have h0 := q0.isLt
  have h1 := q1.isLt
  have h2 := q2.isLt
  let t : Fin cfg0.N := ⟨q2.val / 1408 * 4 + q1.val / 512, by omega⟩
  refine ⟨t, flush0_3 _, ?_⟩
  have e : ((win0_3.rect t).emb (ix3 (q0 : Fin 2) (⟨q1.val % 512, by omega⟩ : Fin 512) (⟨q2.val % 1408, by omega⟩ : Fin 1408)) : S2x2048x5632.Idx) = (ix3 q0 q1 q2) := by
    refine (emb3 t q0 ⟨q1.val % 512, by omega⟩ ⟨q2.val % 1408, by omega⟩).trans ?_
    funext a; apply Fin.ext
    match a with
    | ⟨0, _⟩ => rfl
    | ⟨1, _⟩ => show ((q2.val / 1408 * 4 + q1.val / 512) % 4) * 512 + q1.val % 512 = q1.val; omega
    | ⟨2, _⟩ => show ((q2.val / 1408 * 4 + q1.val / 512) / 4) * 1408 + q2.val % 1408 = q2.val; omega
  exact e ▸ View.emb_mem_set ((cfg0.win 3).blk t).view (ix3 (q0 : Fin 2) (⟨q1.val % 512, by omega⟩ : Fin 512) (⟨q2.val % 1408, by omega⟩ : Fin 1408))

/-- The array the kernel leaves. -/
theorem final : (dats m 0 c).arrAt 3 cfg0.N = G m c :=
  (dats m 0 c).arrAt_eq_of_cover 3 (G m c) (fun t _ => flushed_eq m c t) cover

end Cert.Dact.V

namespace Cert.Dact

open Idealize.ShloMosaic Idealize.ShloMosaic.TcCoe Idealize.SL.Sem

/-- Over the real numbers with infinities, the kernel and its reference leave the same arrays. -/
theorem algebraic : Cert.algebraic_DactKernelIdeal_DactReferenceIdeal := by
  intro m ρ m' ρ' _ hagree
  refine ⟨fun c => V.G m c, ?_, ?_⟩
  · exact (θ_run Cert.DactKernelIdeal.defs _ _).mono (fun r h c => ⟨(h c).1.trans (V.final m c), (h c).2⟩)
      (Cert.DactKernelIdeal.Value.run_blocks (F := Ideal) m ρ)
  · refine (θ_run Cert.DactReferenceIdeal.defs _ _).mono (fun r h c => ?_) (Cert.DactReferenceIdeal.Value.run (F := Ideal) m' ρ')
    obtain ⟨a0, a1, a2⟩ := hagree c
    refine ⟨(h c).1.trans ((Cert.DactReferenceIdeal.Read.val_main_v16_eq (m' ((c.tc : Thread _ _).loc Cert.DactReferenceIdeal.main_arg0)) (m' ((c.tc : Thread _ _).loc Cert.DactReferenceIdeal.main_arg1)) (m' ((c.tc : Thread _ _).loc Cert.DactReferenceIdeal.main_arg2))).trans ?_), (h c).2⟩
    · show Cert.DactReferenceIdeal.Read.val_main_v16 (F := Ideal) (m' ((c.tc : Thread _ _).loc Cert.DactReferenceIdeal.main_arg0)) (m' ((c.tc : Thread _ _).loc Cert.DactReferenceIdeal.main_arg1)) (m' ((c.tc : Thread _ _).loc Cert.DactReferenceIdeal.main_arg2)) = _
      rw [a0, a1, a2]
      rfl

end Cert.Dact
-- ==== Proof.DwguValue.lean ====
module

public import proofs.«01_k».proof.Defs
public import proofs.«01_k».proof.Proof.Gen.DwguKernelIdeal.Value
public import proofs.«01_k».proof.Proof.Gen.DwguReferenceIdeal.Run
public import proofs.«01_k».proof.Proof.Gen.DwguReferenceIdeal.Read
public import Idealize.ShloMosaic.Lib.Pointwise
public import Idealize.ShloMosaic.Lib.Pipeline.Value
public import proofs.«01_k».proof.Proof.Swiglu
public import Idealize.ShloMosaic.Lib.Pipeline.ValueKit.Tiles

/-! The weight gradient of the feed-forward block's gate and up product: the blocks of the kernel make up the reference's array. -/

@[expose] public section

set_option maxRecDepth 16384

noncomputable section

namespace Cert.Dwgu.R

open Idealize.ShloMosaic
open Cert.DwguReferenceIdeal Cert.DwguReferenceIdeal.Gen Cert.DwguReferenceIdeal.Read

/-- The contraction over a unit axis and the rows at once: its index at row `k`. -/
def cidx (k : Fin 2048) : dot_S1x2048x11264_S1x2048x2048_S11264x2048_01_01_2_2_n_n.contr.Idx := fun p =>
  match p with
  | ⟨0, _⟩ => (0 : Fin 1)
  | ⟨1, _⟩ => k

/-- That contraction's sum as the sum over the rows. -/
theorem dot_sum (l : FVec Ideal S1x2048x11264 .f32) (r : FVec Ideal S1x2048x2048 .f32) (i : Fin 11264) (j : Fin 2048) :
    (Host.dotGeneral dot_S1x2048x11264_S1x2048x2048_S11264x2048_01_01_2_2_n_n none l r (ix2 i j) : EReal) = ∑ k : Fin 2048, l (ix3 0 k i) * r (ix3 0 k j) := by
  have e : ∀ f : dot_S1x2048x11264_S1x2048x2048_S11264x2048_01_01_2_2_n_n.contr.Idx → EReal, ∑ k, f k = ∑ k : Fin 2048, f (cidx k) := by
    intro f
    refine (Fintype.sum_bijective cidx ⟨?_, ?_⟩ _ _ fun _ => rfl).symm
    · intro x y h
      exact congrFun h ⟨1, by decide⟩
    · intro y
      refine ⟨y ⟨1, by decide⟩, ?_⟩
      funext p
      match p with
      | ⟨0, _⟩ => exact (Fin.fin_one_eq_zero (y ⟨0, by decide⟩)).symm
      | ⟨1, _⟩ => rfl
  simp only [Host.dotGeneral]
  rw [Ideal.dotGeneral_apply, e]
  refine Finset.sum_congr rfl fun k _ => ?_
  congr 2
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-- The two upstream gradients side by side, read at a column. -/
theorem cat_apply (d : S2x2048x5632.Idx → EReal) (k : Fin 2048) (f : Fin 11264) :
    (val_main_v10 (F := Ideal) d (ix3 0 k f) : EReal) = d (ix3 ⟨f.val / 5632, by omega⟩ k ⟨f.val % 5632, by omega⟩) := by
  unfold val_main_v10
  by_cases h : f.val < 5632
  · refine (concatenate_pair_apply_left (s₁ := S1x2048x5632) (s₂ := S1x2048x5632) _ _ _ _ (ix3 0 k f : S1x2048x11264.Idx) rfl (ix3 0 k ⟨f.val, h⟩ : S1x2048x5632.Idx) (fun b => ?_)).trans ?_
    · match b with
      | ⟨0, _⟩ => rfl
      | ⟨1, _⟩ => rfl
      | ⟨2, _⟩ => rfl
    · refine Eq.trans (b := d (ix3 0 k ⟨f.val, h⟩)) ?_ (congrArg d (Cert.Swiglu.ix3_congr ?_ rfl ?_))
      · unfold val_main_v7 val_main_v6
        pointwise
      · show 0 = f.val / 5632; omega
      · show f.val = f.val % 5632; omega
  · obtain ⟨e, he, hf⟩ : ∃ e, e + 5632 = f.val ∧ e < 5632 := ⟨f.val - 5632, by omega, by omega⟩
    refine (concatenate_pair_apply_right (s₁ := S1x2048x5632) (s₂ := S1x2048x5632) _ _ _ _ (ix3 0 k f : S1x2048x11264.Idx) rfl rfl (ix3 0 k ⟨e, hf⟩ : S1x2048x5632.Idx) (fun b hb => ?_) ?_).trans ?_
    · match b with
      | ⟨0, _⟩ => rfl
      | ⟨1, _⟩ => rfl
      | ⟨2, _⟩ => exact absurd rfl hb
    · exact he
    · refine Eq.trans (b := d (ix3 1 k ⟨e, hf⟩)) ?_ (congrArg d (Cert.Swiglu.ix3_congr ?_ rfl ?_))
      · unfold val_main_v9 val_main_v8
        pointwise
      · show 1 = f.val / 5632; omega
      · show e = f.val % 5632; omega

/-- The reference's weight gradient: at a chip's shard, row `p` and column `q`, the sum over the tokens of the
    activation times the upstream gradient at the column the shard's column is of the whole. -/
theorem ref_apply (a : S2048x2048.Idx → EReal) (d : S2x2048x5632.Idx → EReal) (s : Fin 4) (p : Fin 2048) (q : Fin 2816) :
    (val_main_v15 (F := Ideal) a d (ix3 s p q) : EReal)
      = ∑ k : Fin 2048, a (ix2 k p) * d (ix3 ⟨(s.val * 2816 + q.val) / 5632, by omega⟩ k ⟨(s.val * 2816 + q.val) % 5632, by omega⟩) := by
  have e : (val_main_v15 (F := Ideal) a d (ix3 s p q) : EReal)
      = val_main_v11 (F := Ideal) a d (ix2 ⟨s.val * 2816 + q.val, by omega⟩ p) := by
    rw [val_main_v15_apply, val_main_v14_apply, val_main_v13_apply, val_main_v12_apply]
    refine congrArg (val_main_v11 (F := Ideal) a d) ?_
    funext b; apply Fin.ext
    match b with
    | ⟨0, _⟩ => show ((p.val * 4 + s.val) * 2816 + q.val) % 11264 = s.val * 2816 + q.val; omega
    | ⟨1, _⟩ => show ((p.val * 4 + s.val) * 2816 + q.val) / 11264 = p.val; omega
  rw [e]
  unfold val_main_v11
  rw [dot_sum]
  refine Finset.sum_congr rfl fun k _ => ?_
  have e1 : (val_main_v1 (F := Ideal) a (ix3 0 k p) : EReal) = a (ix2 k p) := by
    unfold val_main_v1 val_main_v0
    pointwise
  rw [cat_apply, e1, mul_comm]

end Cert.Dwgu.R

namespace Cert.Dwgu.V

open Idealize.ShloMosaic Idealize.ShloMosaic.TcCoe Idealize.SL.Sem
open Idealize.ShloMosaic.Pipeline (Dat)
open Cert.DwguKernelIdeal Cert.DwguKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S2x2048x5632.Idx → EReal := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 16 points. -/
theorem tN (t : Fin cfg0.N) : t.val < 16 := N_0 ▸ t.isLt

/-- The block window 0 names at a point. -/
theorem idx0 : ∀ t : Fin grid0.N, win0_0.index t 0 = 0 ∧ win0_0.index t 1 = t.val % 2 := by decide +kernel

/-- Where an element of window 0's block lies in its array. -/
theorem emb0 (t : Fin cfg0.N) (y0 : Fin 2048) (y1 : Fin 1024) :
    ((win0_0.rect t).emb (ix2 y0 y1) : (⟨2, ![2048, 2048]⟩ : Shape).Idx) = ((ix2 y0 ⟨t.val % 2 * 1024 + y1.val, by have := tN t; have := y1.isLt; omega⟩) : (⟨2, ![2048, 2048]⟩ : Shape).Idx) := by
  funext a; apply Fin.ext
  match a with
  | ⟨0, _⟩ => exact Pipeline.Window.rect_emb_val_of_index_zero win0_0 t _ (idx0 t).1 _
  | ⟨1, _⟩ => exact (Pipeline.Window.rect_emb_val win0_0 t _ _).trans (congrArg (· * 1024 + y1.val) (idx0 t).2)

/-- Window 0's block at a point, read from the argument. -/
theorem blk0 (t : Fin cfg0.N) (y0 : Fin 2048) (y1 : Fin 1024) :
    (iblk m c 0 t : S2048x1024.Idx → EReal) (ix2 y0 y1) = X0 m c (ix2 y0 ⟨t.val % 2 * 1024 + y1.val, by have := tN t; have := y1.isLt; omega⟩) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = t.val / 2 / 4 ∧ win0_1.index t 1 = 0 ∧ win0_1.index t 2 = t.val / 2 % 4 := by decide +kernel

/-- Where an element of window 1's block lies in its array. -/
theorem emb1 (t : Fin cfg0.N) (y0 : Fin 1) (y1 : Fin 2048) (y2 : Fin 1408) :
    ((win0_1.rect t).emb (ix3 y0 y1 y2) : (⟨3, ![2, 2048, 5632]⟩ : Shape).Idx) = ((ix3 ⟨t.val / 2 / 4, by have := tN t; have := y0.isLt; omega⟩ y1 ⟨t.val / 2 % 4 * 1408 + y2.val, by have := tN t; have := y2.isLt; omega⟩) : (⟨3, ![2, 2048, 5632]⟩ : Shape).Idx) := by
  funext a; apply Fin.ext
  match a with
  | ⟨0, _⟩ =>
    refine (Pipeline.Window.rect_emb_val win0_1 t _ _).trans ?_
    show win0_1.index t 0 * 1 + y0.val = t.val / 2 / 4
    rw [(idx1 t).1]; have := y0.isLt; omega
  | ⟨1, _⟩ => exact Pipeline.Window.rect_emb_val_of_index_zero win0_1 t _ (idx1 t).2.1 _
  | ⟨2, _⟩ => exact (Pipeline.Window.rect_emb_val win0_1 t _ _).trans (congrArg (· * 1408 + y2.val) (idx1 t).2.2)

/-- Window 1's block at a point, read from the argument. -/
theorem blk1 (t : Fin cfg0.N) (y0 : Fin 1) (y1 : Fin 2048) (y2 : Fin 1408) :
    (iblk m c 1 t : S1x2048x1408.Idx → EReal) (ix3 y0 y1 y2) = X1 m c (ix3 ⟨t.val / 2 / 4, by have := tN t; have := y0.isLt; omega⟩ y1 ⟨t.val / 2 % 4 * 1408 + y2.val, by have := tN t; have := y2.isLt; omega⟩) := by
  show (V m c main_arg1 : S2x2048x5632.Idx → EReal) ((win0_1.rect t).emb (ix3 y0 y1 y2)) = _
  rw [V_main_arg1, emb1]

/-- The block window 2 names at a point. -/
theorem idx2 : ∀ t : Fin grid0.N, win0_2.index t 0 = t.val / 4 ∧ win0_2.index t 1 = t.val % 2 ∧ win0_2.index t 2 = t.val / 2 % 2 := by decide +kernel

/-- Where an element of window 2's block lies in its array. -/
theorem emb2 (t : Fin cfg0.N) (y0 : Fin 1) (y1 : Fin 1024) (y2 : Fin 1408) :
    ((win0_2.rect t).emb (ix3 y0 y1 y2) : (⟨3, ![4, 2048, 2816]⟩ : Shape).Idx) = ((ix3 ⟨t.val / 4, by have := tN t; have := y0.isLt; omega⟩ ⟨t.val % 2 * 1024 + y1.val, by have := tN t; have := y1.isLt; omega⟩ ⟨t.val / 2 % 2 * 1408 + y2.val, by have := tN t; have := y2.isLt; omega⟩) : (⟨3, ![4, 2048, 2816]⟩ : Shape).Idx) := by
  funext a; apply Fin.ext
  match a with
  | ⟨0, _⟩ =>
    refine (Pipeline.Window.rect_emb_val win0_2 t _ _).trans ?_
    show win0_2.index t 0 * 1 + y0.val = t.val / 4
    rw [(idx2 t).1]; have := y0.isLt; omega
  | ⟨1, _⟩ => exact (Pipeline.Window.rect_emb_val win0_2 t _ _).trans (congrArg (· * 1024 + y1.val) (idx2 t).2.1)
  | ⟨2, _⟩ => exact (Pipeline.Window.rect_emb_val win0_2 t _ _).trans (congrArg (· * 1408 + y2.val) (idx2 t).2.2)

/-- A load of a whole block reads the block. -/
theorem l0 (X : Vec Ideal S2048x1024 .bf16) : View.ld X r0_0 = X := View.ld_unit_zero hz2 _ X

/-- A load of a whole block reads the block. -/
theorem l1 (X : Vec Ideal S1x2048x1408 .bf16) : View.ld X r0_1 = X := View.ld_unit_zero hz3 _ X

/-- What the body leaves in its output block, read at an element. -/
theorem out_apply (x0 : Vec Ideal S2048x1024 .bf16) (x1 : Vec Ideal S1x2048x1408 .bf16) (r : Fin 1024) (d : Fin 1408) :
    (out0_2 (F := Ideal) x0 x1 (ix3 0 r d) : EReal) = ∑ k : Fin 2048, x0 (ix2 k r) * x1 (ix3 0 k d) := by
  unfold out0_2
  rw [View.canon_unit_zero hz3]
  simp only [l0, l1]
  unfold k0_pay1
  pointwise

/-- The array the reference leaves, over the kernel's arguments. -/
def G : S4x2048x2816.Idx → EReal := Cert.DwguReferenceIdeal.Read.val_main_v15 (F := Ideal) (X0 m c) (X1 m c)

/-- The block a point leaves is that point's block of the reference's array. -/
theorem flushed_eq (t : Fin cfg0.N) :
    (dats m 0 c).flushed 2 t = ((cfg0.win 2).blk t).view.read (Elt Ideal) (G m c) := by
  rw [Value.flushed2]
  funext y
  obtain ⟨y0, y1, y2, rfl⟩ : ∃ (y0 : Fin 1) (y1 : Fin 1024) (y2 : Fin 1408), y = (ix3 y0 y1 y2) := ⟨y 0, y 1, y 2, eq_ix3 y⟩
  obtain rfl : y0 = 0 := Fin.fin_one_eq_zero y0
  refine (out_apply (iblk m c 0 t) (iblk m c 1 t) y1 y2).trans ?_
  show _ = G m c ((win0_2.rect t).emb (ix3 0 y1 y2))
  rw [emb2]
  refine Eq.trans ?_ (R.ref_apply (X0 m c) (X1 m c) _ _ _).symm
  have ht := tN t
  refine Finset.sum_congr rfl fun k _ => congrArg₂ (· * ·) (blk0 m c t k y1) ((blk1 m c t 0 k y2).trans (congrArg (X1 m c) (Cert.Swiglu.ix3_congr ?_ rfl ?_)))
  · show t.val / 2 / 4 = (t.val / 4 * 2816 + (t.val / 2 % 2 * 1408 + y2.val)) / 5632; omega
  · show t.val / 2 % 4 * 1408 + y2.val = (t.val / 4 * 2816 + (t.val / 2 % 2 * 1408 + y2.val)) % 5632; omega

/-- Every element of the array lies in some point's block. -/
theorem cover (i : S4x2048x2816.Idx) : ∃ t : Fin cfg0.N, (cfg0.win 2).flush t = true ∧ i ∈ ((cfg0.win 2).blk t).view.set := by
  obtain ⟨q0, q1, q2, rfl⟩ : ∃ (q0 : Fin 4) (q1 : Fin 2048) (q2 : Fin 2816), i = (ix3 q0 q1 q2) := ⟨i 0, i 1, i 2, eq_ix3 i⟩
  have hN : cfg0.N = 16 := N_0
  have h0 := q0.isLt
  have h1 := q1.isLt
  have h2 := q2.isLt
  let t : Fin cfg0.N := ⟨(q0.val * 2 + q2.val / 1408) * 2 + q1.val / 1024, by omega⟩
  refine ⟨t, flush0_2 _, ?_⟩
  have e : ((win0_2.rect t).emb (ix3 (⟨0, by omega⟩ : Fin 1) (⟨q1.val % 1024, by omega⟩ : Fin 1024) (⟨q2.val % 1408, by omega⟩ : Fin 1408)) : S4x2048x2816.Idx) = (ix3 q0 q1 q2) := by
    refine (emb2 t ⟨0, by omega⟩ ⟨q1.val % 1024, by omega⟩ ⟨q2.val % 1408, by omega⟩).trans ?_
    funext a; apply Fin.ext
    match a with
    | ⟨0, _⟩ => show ((q0.val * 2 + q2.val / 1408) * 2 + q1.val / 1024) / 4 = q0.val; omega
    | ⟨1, _⟩ => show (((q0.val * 2 + q2.val / 1408) * 2 + q1.val / 1024) % 2) * 1024 + q1.val % 1024 = q1.val; omega
    | ⟨2, _⟩ => show (((q0.val * 2 + q2.val / 1408) * 2 + q1.val / 1024) / 2 % 2) * 1408 + q2.val % 1408 = q2.val; omega
  exact e ▸ View.emb_mem_set ((cfg0.win 2).blk t).view (ix3 (⟨0, by omega⟩ : Fin 1) (⟨q1.val % 1024, by omega⟩ : Fin 1024) (⟨q2.val % 1408, by omega⟩ : Fin 1408))

/-- The array the kernel leaves. -/
theorem final : (dats m 0 c).arrAt 2 cfg0.N = G m c :=
  (dats m 0 c).arrAt_eq_of_cover 2 (G m c) (fun t _ => flushed_eq m c t) cover

end Cert.Dwgu.V

namespace Cert.Dwgu

open Idealize.ShloMosaic Idealize.ShloMosaic.TcCoe Idealize.SL.Sem

/-- Over the real numbers with infinities, the kernel and its reference leave the same arrays. -/
theorem algebraic : Cert.algebraic_DwguKernelIdeal_DwguReferenceIdeal := by
  intro m ρ m' ρ' _ hagree
  refine ⟨fun c => V.G m c, ?_, ?_⟩
  · exact (θ_run Cert.DwguKernelIdeal.defs _ _).mono (fun r h c => ⟨(h c).1.trans (V.final m c), (h c).2⟩)
      (Cert.DwguKernelIdeal.Value.run_blocks (F := Ideal) m ρ)
  · refine (θ_run Cert.DwguReferenceIdeal.defs _ _).mono (fun r h c => ?_) (Cert.DwguReferenceIdeal.Value.run (F := Ideal) m' ρ')
    obtain ⟨a0, a1⟩ := hagree c
    refine ⟨(h c).1.trans ((Cert.DwguReferenceIdeal.Read.val_main_v15_eq (m' ((c.tc : Thread _ _).loc Cert.DwguReferenceIdeal.main_arg0)) (m' ((c.tc : Thread _ _).loc Cert.DwguReferenceIdeal.main_arg1))).trans ?_), (h c).2⟩
    · show Cert.DwguReferenceIdeal.Read.val_main_v15 (F := Ideal) (m' ((c.tc : Thread _ _).loc Cert.DwguReferenceIdeal.main_arg0)) (m' ((c.tc : Thread _ _).loc Cert.DwguReferenceIdeal.main_arg1)) = _
      rw [a0, a1]
      rfl

end Cert.Dwgu
-- ==== Proof.Dh2Value.lean ====
module

public import proofs.«01_k».proof.Defs
public import proofs.«01_k».proof.Proof.Gen.Dh2KernelIdeal.Value
public import proofs.«01_k».proof.Proof.Gen.Dh2ReferenceIdeal.Run
public import proofs.«01_k».proof.Proof.Gen.Dh2ReferenceIdeal.Read
public import Idealize.ShloMosaic.Lib.Pointwise
public import Idealize.ShloMosaic.Lib.Pipeline.Value
public import proofs.«01_k».proof.Proof.Swiglu
public import Idealize.ShloMosaic.Lib.Tactic

/-! The gradient through the feed-forward block's gate and up product: the sums the kernel accumulates over its grid make up the reference's array. -/

@[expose] public section

set_option maxRecDepth 16384

noncomputable section

namespace Cert.Dh2.R

open Idealize.ShloMosaic
open Cert.Dh2ReferenceIdeal Cert.Dh2ReferenceIdeal.Gen Cert.Dh2ReferenceIdeal.Read

/-- The summand of the reference's product at row `p` and column `d`, over a column `f` of the whole. -/
def T (D : S2x2048x5632.Idx → EReal) (W : S1x4x2048x2816.Idx → EReal) (p : ℕ) (d : Fin 2048) (f : ℕ) : EReal :=
  D (ix3 ⟨f / 5632 % 2, by omega⟩ ⟨p % 2048, by omega⟩ ⟨f % 5632, by omega⟩)
    * W (ix4 0 ⟨f / 2816 % 4, by omega⟩ d ⟨f % 2816, by omega⟩)

/-- The two upstream gradients side by side, read at a column. -/
theorem cat_apply (d : S2x2048x5632.Idx → EReal) (k : Fin 2048) (f : Fin 11264) :
    (val_main_v12 (F := Ideal) d (ix3 0 k f) : EReal) = d (ix3 ⟨f.val / 5632, by omega⟩ k ⟨f.val % 5632, by omega⟩) := by
  unfold val_main_v12
  by_cases h : f.val < 5632
  · refine (concatenate_pair_apply_left (s₁ := S1x2048x5632) (s₂ := S1x2048x5632) _ _ _ _ (ix3 0 k f : S1x2048x11264.Idx) rfl (ix3 0 k ⟨f.val, h⟩ : S1x2048x5632.Idx) (fun b => ?_)).trans ?_
    · match b with
      | ⟨0, _⟩ => rfl
      | ⟨1, _⟩ => rfl
      | ⟨2, _⟩ => rfl
    · refine Eq.trans (b := d (ix3 0 k ⟨f.val, h⟩)) ?_ (congrArg d (Cert.Swiglu.ix3_congr ?_ rfl ?_))
      · unfold val_main_v9 val_main_v8
        pointwise
      · show 0 = f.val / 5632; omega
      · show f.val = f.val % 5632; omega
  · obtain ⟨e, he, hf⟩ : ∃ e, e + 5632 = f.val ∧ e < 5632 := ⟨f.val - 5632, by omega, by omega⟩
    refine (concatenate_pair_apply_right (s₁ := S1x2048x5632) (s₂ := S1x2048x5632) _ _ _ _ (ix3 0 k f : S1x2048x11264.Idx) rfl rfl (ix3 0 k ⟨e, hf⟩ : S1x2048x5632.Idx) (fun b hb => ?_) ?_).trans ?_
    · match b with
      | ⟨0, _⟩ => rfl
      | ⟨1, _⟩ => rfl
      | ⟨2, _⟩ => exact absurd rfl hb
    · exact he
    · refine Eq.trans (b := d (ix3 1 k ⟨e, hf⟩)) ?_ (congrArg d (Cert.Swiglu.ix3_congr ?_ rfl ?_))
      · unfold val_main_v11 val_main_v10
        pointwise
      · show 1 = f.val / 5632; omega
      · show e = f.val % 5632; omega

/-- The shards of the weight side by side, read at a column of the whole. -/
theorem w_apply (w : S1x4x2048x2816.Idx → EReal) (k : Fin 2048) (f : Fin 11264) :
    (val_main_v3 (F := Ideal) w (ix2 k f) : EReal) = w (ix4 0 ⟨f.val / 2816, by omega⟩ k ⟨f.val % 2816, by omega⟩) := by
  show (val_main_v2 (F := Ideal) w _ : EReal) = _
  rw [val_main_v2_apply, val_main_v1_apply, val_main_v0_apply]
  refine congrArg w ?_
  funext a; apply Fin.ext
  have h0 : (k.val * 11264 + f.val) / 11264 = k.val := by omega
  have h1 : (k.val * 11264 + f.val) / 2816 % 4 = f.val / 2816 := by omega
  have h2 : (k.val * 11264 + f.val) % 2816 = f.val % 2816 := by omega
  match a with
  | ⟨0, _⟩ => rfl
  | ⟨1, _⟩ =>
    show (((k.val * 11264 + f.val) / 2816 % 4 * 2048 + (k.val * 11264 + f.val) / 11264) * 2816 + (k.val * 11264 + f.val) % 2816) / 5767168 % 4 = f.val / 2816
    rw [h0, h1, h2]; omega
  | ⟨2, _⟩ =>
    show (((k.val * 11264 + f.val) / 2816 % 4 * 2048 + (k.val * 11264 + f.val) / 11264) * 2816 + (k.val * 11264 + f.val) % 2816) / 2816 % 2048 = k.val
    rw [h0, h1, h2]; omega
  | ⟨3, _⟩ =>
    show (((k.val * 11264 + f.val) / 2816 % 4 * 2048 + (k.val * 11264 + f.val) / 11264) * 2816 + (k.val * 11264 + f.val) % 2816) % 2816 = f.val % 2816
    rw [h0, h1, h2]; omega

/-- The reference's product: the sum of the summands over the columns. -/
theorem ref_apply (D : S2x2048x5632.Idx → EReal) (W : S1x4x2048x2816.Idx → EReal) (p d : Fin 2048) :
    (val_main_v14 (F := Ideal) D W (ix2 p d) : EReal) = ∑ f ∈ Finset.range 11264, T D W p.val d f := by
  rw [val_main_v14_apply, val_main_v13_apply, Finset.sum_range]
  refine Finset.sum_congr rfl fun f _ => congrArg₂ (· * ·) ?_ ?_
  · refine Eq.trans (congrArg (val_main_v12 (F := Ideal) D) ?_) ((cat_apply D p f).trans (congrArg D (Cert.Swiglu.ix3_congr ?_ ?_ rfl)))
    · funext a; apply Fin.ext
      match a with
      | ⟨0, _⟩ => rfl
      | ⟨1, _⟩ => show (p.val * 2048 + d.val) / 2048 % 2048 = p.val; omega
      | ⟨2, _⟩ => rfl
    · show f.val / 5632 = f.val / 5632 % 2; omega
    · show p.val = p.val % 2048; omega
  · refine Eq.trans (congrArg (val_main_v3 (F := Ideal) W) ?_) ((w_apply W d f).trans (congrArg W (Cert.Swiglu.ix4_congr rfl ?_ rfl rfl)))
    · funext a; apply Fin.ext
      match a with
      | ⟨0, _⟩ => show (p.val * 2048 + d.val) % 2048 = d.val; omega
      | ⟨1, _⟩ => rfl
    · show f.val / 2816 = f.val / 2816 % 4; omega

end Cert.Dh2.R

namespace Cert.Dh2.V

open Idealize.ShloMosaic Idealize.ShloMosaic.TcCoe Idealize.SL.Sem
open Idealize.ShloMosaic.Pipeline (Dat)
open Cert.Dh2KernelIdeal Cert.Dh2KernelIdeal.Gen

variable (m : (ℓ : Loc nD τ sig) → Buf (Elt Ideal) ℓ) (ρ : Dev nD → PrngReg) (c : Dev nD)

/-- The arguments. -/ abbrev X0 : S2x2048x5632.Idx → EReal := m ((c : Thread nD τ).loc main_arg0)
@[inherit_doc X0] abbrev X1 : S1x4x2048x2816.Idx → EReal := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The grid has 16 points. -/
theorem tN (t : Fin cfg0.N) : t.val < 16 := N_0 ▸ t.isLt

/-- The block window 0 names at a point. -/
theorem idx0 : ∀ t : Fin grid0.N, win0_0.index t 0 = t.val % 8 / 4 ∧ win0_0.index t 1 = t.val / 8 ∧ win0_0.index t 2 = t.val % 4 := by decide +kernel

/-- Where an element of window 0's block lies in its array. -/
theorem emb0 (t : Fin cfg0.N) (y0 : Fin 1) (y1 : Fin 1024) (y2 : Fin 1408) :
    ((win0_0.rect t).emb (ix3 y0 y1 y2) : (⟨3, ![2, 2048, 5632]⟩ : Shape).Idx) = ((ix3 ⟨t.val % 8 / 4, by have := tN t; have := y0.isLt; omega⟩ ⟨t.val / 8 * 1024 + y1.val, by have := tN t; have := y1.isLt; omega⟩ ⟨t.val % 4 * 1408 + y2.val, by have := tN t; have := y2.isLt; omega⟩) : (⟨3, ![2, 2048, 5632]⟩ : Shape).Idx) := by
  funext a; apply Fin.ext
  match a with
  | ⟨0, _⟩ =>
    refine (Pipeline.Window.rect_emb_val win0_0 t _ _).trans ?_
    show win0_0.index t 0 * 1 + y0.val = t.val % 8 / 4
    rw [(idx0 t).1]; have := y0.isLt; omega
  | ⟨1, _⟩ => exact (Pipeline.Window.rect_emb_val win0_0 t _ _).trans (congrArg (· * 1024 + y1.val) (idx0 t).2.1)
  | ⟨2, _⟩ => exact (Pipeline.Window.rect_emb_val win0_0 t _ _).trans (congrArg (· * 1408 + y2.val) (idx0 t).2.2)

/-- Window 0's block at a point, read from the argument. -/
theorem blk0 (t : Fin cfg0.N) (y0 : Fin 1) (y1 : Fin 1024) (y2 : Fin 1408) :
    (iblk m c 0 t : S1x1024x1408.Idx → EReal) (ix3 y0 y1 y2) = X0 m c (ix3 ⟨t.val % 8 / 4, by have := tN t; have := y0.isLt; omega⟩ ⟨t.val / 8 * 1024 + y1.val, by have := tN t; have := y1.isLt; omega⟩ ⟨t.val % 4 * 1408 + y2.val, by have := tN t; have := y2.isLt; omega⟩) := by
  show (V m c main_arg0 : S2x2048x5632.Idx → EReal) ((win0_0.rect t).emb (ix3 y0 y1 y2)) = _
  rw [V_main_arg0, emb0]

/-- The block window 1 names at a point. -/
theorem idx1 : ∀ t : Fin grid0.N, win0_1.index t 0 = 0 ∧ win0_1.index t 1 = t.val % 8 / 2 ∧ win0_1.index t 2 = 0 ∧ win0_1.index t 3 = t.val % 2 := by decide +kernel

/-- Where an element of window 1's block lies in its array. -/
theorem emb1 (t : Fin cfg0.N) (y0 : Fin 1) (y1 : Fin 1) (y2 : Fin 2048) (y3 : Fin 1408) :
    ((win0_1.rect t).emb (ix4 y0 y1 y2 y3) : (⟨4, ![1, 4, 2048, 2816]⟩ : Shape).Idx) = ((ix4 y0 ⟨t.val % 8 / 2, by have := tN t; have := y1.isLt; omega⟩ y2 ⟨t.val % 2 * 1408 + y3.val, by have := tN t; have := y3.isLt; omega⟩) : (⟨4, ![1, 4, 2048, 2816]⟩ : Shape).Idx) := by
  funext a; apply Fin.ext
  match a with
  | ⟨0, _⟩ => exact Pipeline.Window.rect_emb_val_of_index_zero win0_1 t _ (idx1 t).1 _
  | ⟨1, _⟩ =>
    refine (Pipeline.Window.rect_emb_val win0_1 t _ _).trans ?_
    show win0_1.index t 1 * 1 + y1.val = t.val % 8 / 2
    rw [(idx1 t).2.1]; have := y1.isLt; omega
  | ⟨2, _⟩ => exact Pipeline.Window.rect_emb_val_of_index_zero win0_1 t _ (idx1 t).2.2.1 _
  | ⟨3, _⟩ => exact (Pipeline.Window.rect_emb_val win0_1 t _ _).trans (congrArg (· * 1408 + y3.val) (idx1 t).2.2.2)

/-- Window 1's block at a point, read from the argument. -/
theorem blk1 (t : Fin cfg0.N) (y0 : Fin 1) (y1 : Fin 1) (y2 : Fin 2048) (y3 : Fin 1408) :
    (iblk m c 1 t : S1x1x2048x1408.Idx → EReal) (ix4 y0 y1 y2 y3) = X1 m c (ix4 y0 ⟨t.val % 8 / 2, by have := tN t; have := y1.isLt; omega⟩ y2 ⟨t.val % 2 * 1408 + y3.val, by have := tN t; have := y3.isLt; omega⟩) := by
  show (V m c main_arg1 : S1x4x2048x2816.Idx → EReal) ((win0_1.rect t).emb (ix4 y0 y1 y2 y3)) = _
  rw [V_main_arg1, emb1]

/-- The block window 2 names at a point. -/
theorem idx2 : ∀ t : Fin grid0.N, win0_2.index t 0 = t.val / 8 ∧ win0_2.index t 1 = 0 := by decide +kernel

/-- Where an element of window 2's block lies in its array. -/
theorem emb2 (t : Fin cfg0.N) (y0 : Fin 1024) (y1 : Fin 2048) :
    ((win0_2.rect t).emb (ix2 y0 y1) : (⟨2, ![2048, 2048]⟩ : Shape).Idx) = ((ix2 ⟨t.val / 8 * 1024 + y0.val, by have := tN t; have := y0.isLt; omega⟩ y1) : (⟨2, ![2048, 2048]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact Pipeline.Window.rect_emb_val_of_index_zero win0_2 t _ (idx2 t).2 _

/-- The buffers a body's case reads and writes. -/
theorem out_A (c : Dev nD) (i : grid0.Coords) (a2 : Memref sig .tc .vmem S1x1024x1408 .bf16) (h2 : a2.IsWhole)
    (a3 : Memref sig .tc .vmem S1x1x2048x1408 .bf16) (h3 : a3.IsWhole) (a4 : Memref sig .tc .vmem S1024x2048 .f32) (h4 : a4.IsWhole)
    (hc0 : cond0_0 i) (hc1 : ¬cond0_1 i) (x0 : Vec Ideal S1x1024x1408 .bf16) (x1 : Vec Ideal S1x1x2048x1408 .bf16) :
    out0_A_2 c i a2 h2 a3 h3 a4 h4 hc0 hc1 x0 x1 = k0_pay1 x0 x1 := by
  unfold out0_A_2
  rw [View.read_writes_eq_canon _ _ _ (cover0_A_2 c i a2 h2 a3 h3 a4 h4 hc0 hc1 x0 x1)]
  unfold kernelRun0_A
  dsimp only
  rw [View.canon_unit_zero hz2]
  simp only [View.readAt_eq_ld, h2.read_unread, h3.read_unread, View.ld_unit_zero (S := S1x1024x1408) hz3, View.ld_unit_zero (S := S1x1x2048x1408) hz4]

/-- A point that is not the first of its period adds its product to what the point before left. -/
theorem out_B (c : Dev nD) (i : grid0.Coords) (a2 : Memref sig .tc .vmem S1x1024x1408 .bf16) (h2 : a2.IsWhole)
    (a3 : Memref sig .tc .vmem S1x1x2048x1408 .bf16) (h3 : a3.IsWhole) (a4 : Memref sig .tc .vmem S1024x2048 .f32) (h4 : a4.IsWhole)
    (hc0 : ¬cond0_0 i) (hc1 : cond0_1 i) (x0 : Vec Ideal S1x1024x1408 .bf16) (x1 : Vec Ideal S1x1x2048x1408 .bf16) (xo : Vec Ideal S1024x2048 .f32) :
    out0_B_2 c i a2 h2 a3 h3 a4 h4 hc0 hc1 x0 x1 xo = k0_pay2 x0 x1 xo := by
  unfold out0_B_2
  rw [View.read_writes_eq_canon _ _ _ (cover0_B_2 c i a2 h2 a3 h3 a4 h4 hc0 hc1 x0 x1 xo)]
  unfold kernelRun0_B
  dsimp only
  rw [View.canon_unit_zero hz2]
  simp only [View.readAt_eq_ld, h2.read_unread, h3.read_unread, h4.read_unread, View.ld_unit_zero (S := S1x1024x1408) hz3, View.ld_unit_zero (S := S1x1x2048x1408) hz4, View.ld_unit_zero (S := S1024x2048) hz2]

/-- The body's product at an element. -/
theorem pay1_apply (x0 : Vec Ideal S1x1024x1408 .bf16) (x1 : Vec Ideal S1x1x2048x1408 .bf16) (r : Fin 1024) (d : Fin 2048) :
    (k0_pay1 (F := Ideal) x0 x1 (ix2 r d) : EReal) = ∑ k : Fin 1408, x0 (ix3 0 r k) * x1 (ix4 0 0 d k) := by
  unfold k0_pay1
  pointwise

/-- What a point that adds leaves at an element. -/
theorem pay2_apply (x0 : Vec Ideal S1x1024x1408 .bf16) (x1 : Vec Ideal S1x1x2048x1408 .bf16) (xo : Vec Ideal S1024x2048 .f32) (r : Fin 1024) (d : Fin 2048) :
    (k0_pay2 (F := Ideal) x0 x1 xo (ix2 r d) : EReal) = xo (ix2 r d) + k0_pay1 (F := Ideal) x0 x1 (ix2 r d) := by
  unfold k0_pay2
  generalize k0_pay1 x0 x1 = D
  pointwise

/-- The product of a point's blocks: its part of the reference's sum. -/
theorem tile (t : Fin cfg0.N) (r : Fin 1024) (d : Fin 2048) :
    (k0_pay1 (F := Ideal) (iblk m c 0 t) (iblk m c 1 t) (ix2 r d) : EReal)
      = ∑ k ∈ Finset.range 1408, R.T (X0 m c) (X1 m c) (t.val / 8 * 1024 + r.val) d (t.val % 8 * 1408 + k) := by
  have ht := tN t
  refine (pay1_apply (iblk m c 0 t) (iblk m c 1 t) r d).trans ?_
  rw [Finset.sum_range]
  refine Finset.sum_congr rfl fun k _ => congrArg₂ (· * ·) ((blk0 m c t 0 r k).trans (congrArg (X0 m c) (Cert.Swiglu.ix3_congr ?_ ?_ ?_))) ((blk1 m c t 0 0 d k).trans (congrArg (X1 m c) (Cert.Swiglu.ix4_congr rfl ?_ rfl ?_)))
  · show t.val % 8 / 4 = (t.val % 8 * 1408 + k.val) / 5632 % 2; omega
  · show t.val / 8 * 1024 + r.val = (t.val / 8 * 1024 + r.val) % 2048; omega
  · show t.val % 4 * 1408 + k.val = (t.val % 8 * 1408 + k.val) % 5632; omega
  · show t.val % 8 / 2 = (t.val % 8 * 1408 + k.val) / 2816 % 4; omega
  · show t.val % 2 * 1408 + k.val = (t.val % 8 * 1408 + k.val) % 2816; omega

/-- What the output's buffer holds after a point: the reference's sum over the columns the point's period has reached. -/
theorem outs_eq : ∀ (n : ℕ) (h : n < cfg0.N) (r : Fin 1024) (d : Fin 2048),
    (outsAt0 m c n h (ix2 r d) : EReal)
      = ∑ f ∈ Finset.range (n % 8 * 1408 + 1408), R.T (X0 m c) (X1 m c) (n / 8 * 1024 + r.val) d f
  | 0, h, r, d => by
    have e := (outsAt0_A m c ⟨0, h⟩ rfl (by show ¬1 ≤ 0 % 8; omega)).trans (out_A ..)
    refine (congrFun e (ix2 r d)).trans ((tile m c ⟨0, h⟩ r d).trans ?_)
    simp
  | n + 1, h, r, d => by
    by_cases h0 : (n + 1) % 8 = 0
    · have e := (outsAt0_A m c ⟨n + 1, h⟩ h0 (by show ¬1 ≤ (n + 1) % 8; omega)).trans (out_A ..)
      refine (congrFun e (ix2 r d)).trans ((tile m c ⟨n + 1, h⟩ r d).trans ?_)
      show ∑ k ∈ Finset.range 1408, R.T (X0 m c) (X1 m c) ((n + 1) / 8 * 1024 + r.val) d ((n + 1) % 8 * 1408 + k) = _
      rw [h0]
      simp only [Nat.zero_mul, Nat.zero_add]
    · have e := (outsAt0_B m c ⟨n + 1, h⟩ h0 (by show 1 ≤ (n + 1) % 8; omega)).trans (out_B ..)
      refine (congrFun e (ix2 r d)).trans ((pay2_apply _ _ _ r d).trans ?_)
      refine (congrArg₂ (· + ·) (outs_eq n (Nat.lt_of_succ_lt h) r d) (tile m c ⟨n + 1, h⟩ r d)).trans ?_
      show ∑ f ∈ Finset.range (n % 8 * 1408 + 1408), R.T (X0 m c) (X1 m c) (n / 8 * 1024 + r.val) d f
          + ∑ k ∈ Finset.range 1408, R.T (X0 m c) (X1 m c) ((n + 1) / 8 * 1024 + r.val) d ((n + 1) % 8 * 1408 + k) = _
      rw [show n % 8 * 1408 + 1408 = (n + 1) % 8 * 1408 by omega, show n / 8 = (n + 1) / 8 by omega]
      exact (Finset.sum_range_add _ _ _).symm

/-- The array the reference leaves, over the kernel's arguments. -/
def G : S2048x2048.Idx → EReal := Cert.Dh2ReferenceIdeal.Read.val_main_v14 (F := Ideal) (X0 m c) (X1 m c)

/-- The block a point leaves is that point's block of the reference's array. -/
theorem flushed_eq (t : Fin cfg0.N) (hf : t.val % 8 = 7) :
    (dats m 0 c).flushed 2 t = ((cfg0.win 2).blk t).view.read (Elt Ideal) (G m c) := by
  rw [Value.flushed2]
  funext y
  obtain ⟨y0, y1, rfl⟩ : ∃ (y0 : Fin 1024) (y1 : Fin 2048), y = (ix2 y0 y1) := ⟨y 0, y 1, eq_ix2 y⟩
  refine (outs_eq m c t.val t.isLt y0 y1).trans ?_
  show _ = G m c ((win0_2.rect t).emb (ix2 y0 y1))
  rw [emb2]
  refine Eq.trans ?_ (R.ref_apply (X0 m c) (X1 m c) _ _).symm
  rw [hf]

/-- Every element of the array lies in some point's block. -/
theorem cover (i : S2048x2048.Idx) : ∃ t : Fin cfg0.N, (cfg0.win 2).flush t = true ∧ i ∈ ((cfg0.win 2).blk t).view.set := by
  obtain ⟨q0, q1, rfl⟩ : ∃ (q0 : Fin 2048) (q1 : Fin 2048), i = (ix2 q0 q1) := ⟨i 0, i 1, eq_ix2 i⟩
  have hN : cfg0.N = 16 := N_0
  have h0 := q0.isLt
  have h1 := q1.isLt
  let t : Fin cfg0.N := ⟨q0.val / 1024 * 8 + 7, by omega⟩
  refine ⟨t, (flush0_2 t).mpr (by show (q0.val / 1024 * 8 + 7) % 8 = 7; omega), ?_⟩
  have e : ((win0_2.rect t).emb (ix2 (⟨q0.val % 1024, by omega⟩ : Fin 1024) (q1 : Fin 2048)) : S2048x2048.Idx) = (ix2 q0 q1) := by
    refine (emb2 t ⟨q0.val % 1024, by omega⟩ q1).trans ?_
    funext a; apply Fin.ext
    match a with
    | ⟨0, _⟩ => show ((q0.val / 1024 * 8 + 7) / 8) * 1024 + q0.val % 1024 = q0.val; omega
    | ⟨1, _⟩ => rfl
  exact e ▸ View.emb_mem_set ((cfg0.win 2).blk t).view (ix2 (⟨q0.val % 1024, by omega⟩ : Fin 1024) (q1 : Fin 2048))

/-- The array the kernel leaves. -/
theorem final : (dats m 0 c).arrAt 2 cfg0.N = G m c :=
  (dats m 0 c).arrAt_eq_of_cover 2 (G m c) (fun t h => flushed_eq m c t ((flush0_2 t).mp h)) cover

end Cert.Dh2.V

namespace Cert.Dh2

open Idealize.ShloMosaic Idealize.ShloMosaic.TcCoe Idealize.SL.Sem

/-- Over the real numbers with infinities, the kernel and its reference leave the same arrays. -/
theorem algebraic : Cert.algebraic_Dh2KernelIdeal_Dh2ReferenceIdeal := by
  intro m ρ m' ρ' _ hagree
  refine ⟨fun c => V.G m c, ?_, ?_⟩
  · exact (θ_run Cert.Dh2KernelIdeal.defs _ _).mono (fun r h c => ⟨(h c).1.trans (V.final m c), (h c).2⟩)
      (Cert.Dh2KernelIdeal.Value.run_blocks (F := Ideal) m ρ)
  · refine (θ_run Cert.Dh2ReferenceIdeal.defs _ _).mono (fun r h c => ?_) (Cert.Dh2ReferenceIdeal.Value.run (F := Ideal) m' ρ')
    obtain ⟨a0, a1⟩ := hagree c
    refine ⟨(h c).1.trans ((Cert.Dh2ReferenceIdeal.Read.val_main_v14_eq (m' ((c.tc : Thread _ _).loc Cert.Dh2ReferenceIdeal.main_arg0)) (m' ((c.tc : Thread _ _).loc Cert.Dh2ReferenceIdeal.main_arg1))).trans ?_), (h c).2⟩
    · show Cert.Dh2ReferenceIdeal.Read.val_main_v14 (F := Ideal) (m' ((c.tc : Thread _ _).loc Cert.Dh2ReferenceIdeal.main_arg0)) (m' ((c.tc : Thread _ _).loc Cert.Dh2ReferenceIdeal.main_arg1)) = _
      rw [a0, a1]
      rfl

end Cert.Dh2
-- ==== Proof.GuValue.lean ====
module

public import proofs.«01_k».proof.Defs
public import proofs.«01_k».proof.Proof.Gen.GuKernelIdeal.Value
public import proofs.«01_k».proof.Proof.Gen.GuReferenceIdeal.Run
public import proofs.«01_k».proof.Proof.Gen.GuReferenceIdeal.Read
public import Idealize.ShloMosaic.Lib.Pointwise
public import Idealize.ShloMosaic.Lib.Pipeline.Value
public import proofs.«01_k».proof.Proof.Swiglu
public import Idealize.ShloMosaic.Lib.Pipeline.ValueKit.Tiles

/-! The feed-forward block's gate and up product with the gated activation: the blocks of the kernel make up the reference's arrays. -/

@[expose] public section

set_option maxRecDepth 16384

noncomputable section

namespace Cert.Gu.R

open Idealize.ShloMosaic
open Cert.GuReferenceIdeal Cert.GuReferenceIdeal.Gen Cert.GuReferenceIdeal.Read

/-- The product at a column of the whole: the column's shard, and its column in the shard. -/
def prod (h : S2048x2048.Idx → EReal) (w : S1x4x2048x2816.Idx → EReal) (p : Fin 2048) (f : Fin 11264) : EReal :=
  ∑ k : Fin 2048, h (ix2 p k) * w (ix4 0 ⟨f.val / 2816, by omega⟩ k ⟨f.val % 2816, by omega⟩)

/-- The reference's product. -/
theorem v6_apply (h : S2048x2048.Idx → EReal) (w : S1x4x2048x2816.Idx → EReal) (p : Fin 2048) (f : Fin 11264) :
    (val_main_v6 (F := Ideal) h w (ix3 0 p f) : EReal) = prod h w p f := by
  rw [val_main_v6_apply]
  refine Finset.sum_congr rfl fun k _ => congrArg₂ (· * ·) ?_ ?_
  · show (val_main_v0 (F := Ideal) h _ : EReal) = _
    rw [val_main_v0_apply]
    refine congrArg h ?_
    funext a; apply Fin.ext
    match a with
    | ⟨0, _⟩ => rfl
    | ⟨1, _⟩ => rfl
  · show (val_main_v4 (F := Ideal) w _ : EReal) = _
    rw [val_main_v4_apply, val_main_v3_apply, val_main_v2_apply]
    refine congrArg w ?_
    funext a; apply Fin.ext
    have h0 : (k.val * 11264 + f.val) / 11264 = k.val := by omega
    have h1 : (k.val * 11264 + f.val) / 2816 % 4 = f.val / 2816 := by omega
    have h2 : (k.val * 11264 + f.val) % 2816 = f.val % 2816 := by omega
    match a with
    | ⟨0, _⟩ => rfl
    | ⟨1, _⟩ =>
      show (((k.val * 11264 + f.val) / 2816 % 4 * 2048 + (k.val * 11264 + f.val) / 11264) * 2816 + (k.val * 11264 + f.val) % 2816) / 5767168 % 4 = f.val / 2816
      rw [h0, h1, h2]; omega
    | ⟨2, _⟩ =>
      show (((k.val * 11264 + f.val) / 2816 % 4 * 2048 + (k.val * 11264 + f.val) / 11264) * 2816 + (k.val * 11264 + f.val) % 2816) / 2816 % 2048 = k.val
      rw [h0, h1, h2]; omega
    | ⟨3, _⟩ =>
      show (((k.val * 11264 + f.val) / 2816 % 4 * 2048 + (k.val * 11264 + f.val) / 11264) * 2816 + (k.val * 11264 + f.val) % 2816) % 2816 = f.val % 2816
      rw [h0, h1, h2]; omega

/-- The reference's first result, the gate's half. -/
theorem ref_gate (h : S2048x2048.Idx → EReal) (w : S1x4x2048x2816.Idx → EReal) (p : Fin 2048) (j : Fin 5632) :
    (val_main_v10 (F := Ideal) h w (ix3 0 p j) : EReal) = prod h w p ⟨j.val, by omega⟩ := by
  have e : (val_main_v10 (F := Ideal) h w (ix3 0 p j) : EReal) = val_main_v7 (F := Ideal) h w (ix3 0 p j) := by
    show (val_main_v9 (F := Ideal) h w (ix3 0 p j) : EReal) = _
    unfold val_main_v9
    refine (concatenate_pair_apply_left (s₁ := S1x2048x5632) (s₂ := S1x2048x5632) _ _ _ _ (ix3 0 p j : S2x2048x5632.Idx) rfl (ix3 0 p j : S1x2048x5632.Idx) (fun b => ?_)).trans ?_
    · match b with
      | ⟨0, _⟩ => rfl
      | ⟨1, _⟩ => rfl
      | ⟨2, _⟩ => rfl
    · rfl
  rw [e, val_main_v7_apply]
  refine Eq.trans (congrArg (val_main_v6 (F := Ideal) h w) ?_) (v6_apply h w p ⟨j.val, by omega⟩)
  funext a; apply Fin.ext
  match a with
  | ⟨0, _⟩ => rfl
  | ⟨1, _⟩ => rfl
  | ⟨2, _⟩ => rfl

/-- The reference's first result, the other factor's half. -/
theorem ref_up (h : S2048x2048.Idx → EReal) (w : S1x4x2048x2816.Idx → EReal) (p : Fin 2048) (j : Fin 5632) :
    (val_main_v10 (F := Ideal) h w (ix3 1 p j) : EReal) = prod h w p ⟨5632 + j.val, by omega⟩ := by
  have e : (val_main_v10 (F := Ideal) h w (ix3 1 p j) : EReal) = val_main_v8 (F := Ideal) h w (ix3 0 p j) := by
    show (val_main_v9 (F := Ideal) h w (ix3 1 p j) : EReal) = _
    unfold val_main_v9
    refine (concatenate_pair_apply_right (s₁ := S1x2048x5632) (s₂ := S1x2048x5632) _ _ _ _ (ix3 1 p j : S2x2048x5632.Idx) rfl rfl (ix3 0 p j : S1x2048x5632.Idx) (fun b hb => ?_) rfl).trans ?_
    · match b with
      | ⟨0, _⟩ => exact absurd rfl hb
      | ⟨1, _⟩ => rfl
      | ⟨2, _⟩ => rfl
    · rfl
  rw [e, val_main_v8_apply]
  refine Eq.trans (congrArg (val_main_v6 (F := Ideal) h w) ?_) (v6_apply h w p ⟨5632 + j.val, by omega⟩)
  funext a; apply Fin.ext
  match a with
  | ⟨0, _⟩ => rfl
  | ⟨1, _⟩ => rfl
  | ⟨2, _⟩ => rfl

/-- The reference's second result, the gated activation. -/
theorem ref_act (h : S2048x2048.Idx → EReal) (w : S1x4x2048x2816.Idx → EReal) (p : Fin 2048) (j : Fin 5632) :
    (val_main_v14 (F := Ideal) h w (ix2 p j) : EReal)
      = Cert.Swiglu.act (prod h w p ⟨j.val, by omega⟩) (prod h w p ⟨5632 + j.val, by omega⟩) := by
  have e7 : (val_main_v7 (F := Ideal) h w (ix3 0 p j) : EReal) = prod h w p ⟨j.val, by omega⟩ := by
    rw [val_main_v7_apply]
    refine Eq.trans (congrArg (val_main_v6 (F := Ideal) h w) ?_) (v6_apply h w p ⟨j.val, by omega⟩)
    funext a; apply Fin.ext
    match a with
    | ⟨0, _⟩ => rfl
    | ⟨1, _⟩ => rfl
    | ⟨2, _⟩ => rfl
  have e8 : (val_main_v8 (F := Ideal) h w (ix3 0 p j) : EReal) = prod h w p ⟨5632 + j.val, by omega⟩ := by
    rw [val_main_v8_apply]
    refine Eq.trans (congrArg (val_main_v6 (F := Ideal) h w) ?_) (v6_apply h w p ⟨5632 + j.val, by omega⟩)
    funext a; apply Fin.ext
    match a with
    | ⟨0, _⟩ => rfl
    | ⟨1, _⟩ => rfl
    | ⟨2, _⟩ => rfl
  rw [← e7, ← e8]
  unfold Cert.Swiglu.act Cert.Swiglu.sig
  unfold val_main_v14 val_main_v13 val_main_v12 val_main_v11 val_main_call0_v5 val_main_call0_v4 val_main_call0_cst_0 val_main_call0_v3 val_main_call0_v2 val_main_call0_cst val_main_call0_v1 val_main_call0_v0
  generalize val_main_v7 (F := Ideal) h w = g
  generalize val_main_v8 (F := Ideal) h w = u
  pointwise

end Cert.Gu.R

namespace Cert.Gu.V

open Idealize.ShloMosaic Idealize.ShloMosaic.TcCoe Idealize.SL.Sem
open Idealize.ShloMosaic.Pipeline (Dat)
open Cert.GuKernelIdeal Cert.GuKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S1x4x2048x2816.Idx → EReal := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The grid has 16 points. -/
theorem tN (t : Fin cfg0.N) : t.val < 16 := N_0 ▸ t.isLt

/-- The block window 0 names at a point. -/
theorem idx0 : ∀ t : Fin grid0.N, win0_0.index t 0 = t.val % 4 ∧ win0_0.index t 1 = 0 := by decide +kernel

/-- Where an element of window 0's block lies in its array. -/
theorem emb0 (t : Fin cfg0.N) (y0 : Fin 512) (y1 : Fin 2048) :
    ((win0_0.rect t).emb (ix2 y0 y1) : (⟨2, ![2048, 2048]⟩ : Shape).Idx) = ((ix2 ⟨t.val % 4 * 512 + y0.val, by have := tN t; have := y0.isLt; omega⟩ y1) : (⟨2, ![2048, 2048]⟩ : Shape).Idx) := by
  funext a; apply Fin.ext
  match a with
  | ⟨0, _⟩ => exact (Pipeline.Window.rect_emb_val win0_0 t _ _).trans (congrArg (· * 512 + y0.val) (idx0 t).1)
  | ⟨1, _⟩ => exact Pipeline.Window.rect_emb_val_of_index_zero win0_0 t _ (idx0 t).2 _

/-- Window 0's block at a point, read from the argument. -/
theorem blk0 (t : Fin cfg0.N) (y0 : Fin 512) (y1 : Fin 2048) :
    (iblk m c 0 t : S512x2048.Idx → EReal) (ix2 y0 y1) = X0 m c (ix2 ⟨t.val % 4 * 512 + y0.val, by have := tN t; have := y0.isLt; omega⟩ y1) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = 0 ∧ win0_1.index t 1 = t.val / 8 ∧ win0_1.index t 2 = 0 ∧ win0_1.index t 3 = t.val / 4 % 2 := by decide +kernel

/-- Where an element of window 1's block lies in its array. -/
theorem emb1 (t : Fin cfg0.N) (y0 : Fin 1) (y1 : Fin 1) (y2 : Fin 2048) (y3 : Fin 1408) :
    ((win0_1.rect t).emb (ix4 y0 y1 y2 y3) : (⟨4, ![1, 4, 2048, 2816]⟩ : Shape).Idx) = ((ix4 y0 ⟨t.val / 8, by have := tN t; have := y1.isLt; omega⟩ y2 ⟨t.val / 4 % 2 * 1408 + y3.val, by have := tN t; have := y3.isLt; omega⟩) : (⟨4, ![1, 4, 2048, 2816]⟩ : Shape).Idx) := by
  funext a; apply Fin.ext
  match a with
  | ⟨0, _⟩ => exact Pipeline.Window.rect_emb_val_of_index_zero win0_1 t _ (idx1 t).1 _
  | ⟨1, _⟩ =>
    refine (Pipeline.Window.rect_emb_val win0_1 t _ _).trans ?_
    show win0_1.index t 1 * 1 + y1.val = t.val / 8
    rw [(idx1 t).2.1]; have := y1.isLt; omega
  | ⟨2, _⟩ => exact Pipeline.Window.rect_emb_val_of_index_zero win0_1 t _ (idx1 t).2.2.1 _
  | ⟨3, _⟩ => exact (Pipeline.Window.rect_emb_val win0_1 t _ _).trans (congrArg (· * 1408 + y3.val) (idx1 t).2.2.2)

/-- Window 1's block at a point, read from the argument. -/
theorem blk1 (t : Fin cfg0.N) (y0 : Fin 1) (y1 : Fin 1) (y2 : Fin 2048) (y3 : Fin 1408) :
    (iblk m c 1 t : S1x1x2048x1408.Idx → EReal) (ix4 y0 y1 y2 y3) = X1 m c (ix4 y0 ⟨t.val / 8, by have := tN t; have := y1.isLt; omega⟩ y2 ⟨t.val / 4 % 2 * 1408 + y3.val, by have := tN t; have := y3.isLt; omega⟩) := by
  show (V m c main_arg1 : S1x4x2048x2816.Idx → EReal) ((win0_1.rect t).emb (ix4 y0 y1 y2 y3)) = _
  rw [V_main_arg1, emb1]

/-- The block window 2 names at a point. -/
theorem idx2 : ∀ t : Fin grid0.N, win0_2.index t 0 = 0 ∧ win0_2.index t 1 = 2 + t.val / 8 ∧ win0_2.index t 2 = 0 ∧ win0_2.index t 3 = t.val / 4 % 2 := by decide +kernel

/-- Where an element of window 2's block lies in its array. -/
theorem emb2 (t : Fin cfg0.N) (y0 : Fin 1) (y1 : Fin 1) (y2 : Fin 2048) (y3 : Fin 1408) :
    ((win0_2.rect t).emb (ix4 y0 y1 y2 y3) : (⟨4, ![1, 4, 2048, 2816]⟩ : Shape).Idx) = ((ix4 y0 ⟨2 + t.val / 8, by have := tN t; have := y1.isLt; omega⟩ y2 ⟨t.val / 4 % 2 * 1408 + y3.val, by have := tN t; have := y3.isLt; omega⟩) : (⟨4, ![1, 4, 2048, 2816]⟩ : Shape).Idx) := by
  funext a; apply Fin.ext
  match a with
  | ⟨0, _⟩ => exact Pipeline.Window.rect_emb_val_of_index_zero win0_2 t _ (idx2 t).1 _
  | ⟨1, _⟩ =>
    refine (Pipeline.Window.rect_emb_val win0_2 t _ _).trans ?_
    show win0_2.index t 1 * 1 + y1.val = 2 + t.val / 8
    rw [(idx2 t).2.1]; have := y1.isLt; omega
  | ⟨2, _⟩ => exact Pipeline.Window.rect_emb_val_of_index_zero win0_2 t _ (idx2 t).2.2.1 _
  | ⟨3, _⟩ => exact (Pipeline.Window.rect_emb_val win0_2 t _ _).trans (congrArg (· * 1408 + y3.val) (idx2 t).2.2.2)

/-- Window 2's block at a point, read from the argument. -/
theorem blk2 (t : Fin cfg0.N) (y0 : Fin 1) (y1 : Fin 1) (y2 : Fin 2048) (y3 : Fin 1408) :
    (iblk m c 2 t : S1x1x2048x1408.Idx → EReal) (ix4 y0 y1 y2 y3) = X1 m c (ix4 y0 ⟨2 + t.val / 8, by have := tN t; have := y1.isLt; omega⟩ y2 ⟨t.val / 4 % 2 * 1408 + y3.val, by have := tN t; have := y3.isLt; omega⟩) := by
  show (V m c main_arg1 : S1x4x2048x2816.Idx → EReal) ((win0_2.rect t).emb (ix4 y0 y1 y2 y3)) = _
  rw [V_main_arg1, emb2]

/-- The block window 3 names at a point. -/
theorem idx3 : ∀ t : Fin grid0.N, win0_3.index t 0 = 0 ∧ win0_3.index t 1 = t.val % 4 ∧ win0_3.index t 2 = t.val / 4 := by decide +kernel

/-- Where an element of window 3's block lies in its array. -/
theorem emb3 (t : Fin cfg0.N) (y0 : Fin 2) (y1 : Fin 512) (y2 : Fin 1408) :
    ((win0_3.rect t).emb (ix3 y0 y1 y2) : (⟨3, ![2, 2048, 5632]⟩ : Shape).Idx) = ((ix3 y0 ⟨t.val % 4 * 512 + y1.val, by have := tN t; have := y1.isLt; omega⟩ ⟨t.val / 4 * 1408 + y2.val, by have := tN t; have := y2.isLt; omega⟩) : (⟨3, ![2, 2048, 5632]⟩ : Shape).Idx) := by
  funext a; apply Fin.ext
  match a with
  | ⟨0, _⟩ => exact Pipeline.Window.rect_emb_val_of_index_zero win0_3 t _ (idx3 t).1 _
  | ⟨1, _⟩ => exact (Pipeline.Window.rect_emb_val win0_3 t _ _).trans (congrArg (· * 512 + y1.val) (idx3 t).2.1)
  | ⟨2, _⟩ => exact (Pipeline.Window.rect_emb_val win0_3 t _ _).trans (congrArg (· * 1408 + y2.val) (idx3 t).2.2)

/-- The block window 4 names at a point. -/
theorem idx4 : ∀ t : Fin grid0.N, win0_4.index t 0 = t.val % 4 ∧ win0_4.index t 1 = t.val / 4 := by decide +kernel

/-- Where an element of window 4's block lies in its array. -/
theorem emb4 (t : Fin cfg0.N) (y0 : Fin 512) (y1 : Fin 1408) :
    ((win0_4.rect t).emb (ix2 y0 y1) : (⟨2, ![2048, 5632]⟩ : Shape).Idx) = ((ix2 ⟨t.val % 4 * 512 + y0.val, by have := tN t; have := y0.isLt; omega⟩ ⟨t.val / 4 * 1408 + y1.val, by have := tN t; have := y1.isLt; omega⟩) : (⟨2, ![2048, 5632]⟩ : Shape).Idx) := by
  funext a; apply Fin.ext
  match a with
  | ⟨0, _⟩ => exact (Pipeline.Window.rect_emb_val win0_4 t _ _).trans (congrArg (· * 512 + y0.val) (idx4 t).1)
  | ⟨1, _⟩ => exact (Pipeline.Window.rect_emb_val win0_4 t _ _).trans (congrArg (· * 1408 + y1.val) (idx4 t).2)

/-- A load of a whole block reads the block. -/
theorem l0 (X : Vec Ideal S512x2048 .bf16) : View.ld X r0_0 = X := View.ld_unit_zero hz2 _ X

/-- A load of a whole block reads the block. -/
theorem l1 (X : Vec Ideal S1x1x2048x1408 .bf16) : View.ld X r0_1 = X := View.ld_unit_zero hz4 _ X

/-- Two stores, one in each slice of the first axis, read back: the first slice. -/
theorem two0 (Q Q' : Vec Ideal S1x512x1408 .bf16) (r : Fin 512) (d : Fin 1408) :
    (View.canon [⟨r0_3, Q'⟩, ⟨r0_2, Q⟩] (ix3 0 r d : S2x512x1408.Idx) : EReal) = Q (ix3 0 r d) := by
  refine View.canon_eq_of_allAt _ _ _ ⟨_, List.mem_cons_of_mem _ (List.mem_singleton.mpr rfl), ?_⟩ ?_
  · refine (Rect.mem_set_unit (inb := by decide)).mpr fun a => ?_
    match a with
    | ⟨0, _⟩ => exact ⟨Nat.le_refl 0, Nat.lt_succ_self 0⟩
    | ⟨1, _⟩ => exact ⟨Nat.zero_le _, by show r.val < 0 + 512; omega⟩
    | ⟨2, _⟩ => exact ⟨Nat.zero_le _, by show d.val < 0 + 1408; omega⟩
  · refine View.allAt_cons_unit _ _ _ _ _ (fun x hx => ?_) (View.allAt_cons_unit _ _ _ _ _ (fun x hx => congrArg Q ?_) (View.allAt_nil _ _))
    · have h : (0 : Nat) = 1 + (x 0 : Nat) := hx 0
      omega
    · funext a; apply Fin.ext
      match a with
      | ⟨0, _⟩ => have h : (0 : Nat) = 0 + (x 0 : Nat) := hx 0
                  show (x 0 : Nat) = 0; omega
      | ⟨1, _⟩ => have h : r.val = 0 + (x 1 : Nat) := hx 1
                  show (x 1 : Nat) = r.val; omega
      | ⟨2, _⟩ => have h : d.val = 0 + (x 2 : Nat) := hx 2
                  show (x 2 : Nat) = d.val; omega

/-- Two stores, one in each slice of the first axis, read back: the second slice. -/
theorem two1 (Q Q' : Vec Ideal S1x512x1408 .bf16) (r : Fin 512) (d : Fin 1408) :
    (View.canon [⟨r0_3, Q'⟩, ⟨r0_2, Q⟩] (ix3 1 r d : S2x512x1408.Idx) : EReal) = Q' (ix3 0 r d) := by
  refine View.canon_eq_of_allAt _ _ _ ⟨_, List.mem_cons_self, ?_⟩ ?_
  · refine (Rect.mem_set_unit (inb := by decide)).mpr fun a => ?_
    match a with
    | ⟨0, _⟩ => exact ⟨Nat.le_refl 1, Nat.lt_succ_self 1⟩
    | ⟨1, _⟩ => exact ⟨Nat.zero_le _, by show r.val < 0 + 512; omega⟩
    | ⟨2, _⟩ => exact ⟨Nat.zero_le _, by show d.val < 0 + 1408; omega⟩
  · refine View.allAt_cons_unit _ _ _ _ _ (fun x hx => congrArg Q' ?_) (View.allAt_cons_unit _ _ _ _ _ (fun x hx => ?_) (View.allAt_nil _ _))
    · funext a; apply Fin.ext
      match a with
      | ⟨0, _⟩ => have h : (1 : Nat) = 1 + (x 0 : Nat) := hx 0
                  show (x 0 : Nat) = 0; omega
      | ⟨1, _⟩ => have h : r.val = 0 + (x 1 : Nat) := hx 1
                  show (x 1 : Nat) = r.val; omega
      | ⟨2, _⟩ => have h : d.val = 0 + (x 2 : Nat) := hx 2
                  show (x 2 : Nat) = d.val; omega
    · have h : (1 : Nat) = 0 + (x 0 : Nat) := hx 0
      have h0 : (x 0 : Nat) < 1 := (x 0).isLt
      omega

/-- The body's products at an element. -/
theorem pay1_apply (x0 : Vec Ideal S512x2048 .bf16) (x1 : Vec Ideal S1x1x2048x1408 .bf16) (r : Fin 512) (d : Fin 1408) :
    (k0_pay1 (F := Ideal) x0 x1 (ix2 r d) : EReal) = ∑ k : Fin 2048, x0 (ix2 r k) * x1 (ix4 0 0 k d) := by
  unfold k0_pay1
  pointwise

@[inherit_doc pay1_apply]
theorem pay2_apply (x0 : Vec Ideal S512x2048 .bf16) (x1 : Vec Ideal S1x1x2048x1408 .bf16) (r : Fin 512) (d : Fin 1408) :
    (k0_pay2 (F := Ideal) x0 x1 (ix2 r d) : EReal) = ∑ k : Fin 2048, x0 (ix2 r k) * x1 (ix4 0 0 k d) := by
  unfold k0_pay2
  pointwise

/-- What the body leaves in its first output block, the gate's slice. -/
theorem out_gate (x0 : Vec Ideal S512x2048 .bf16) (x1 x2 : Vec Ideal S1x1x2048x1408 .bf16) (r : Fin 512) (d : Fin 1408) :
    (out0_3 (F := Ideal) x0 x1 x2 (ix3 0 r d) : EReal) = ∑ k : Fin 2048, x0 (ix2 r k) * x1 (ix4 0 0 k d) := by
  unfold out0_3
  refine (two0 _ _ r d).trans ?_
  rw [l0, l1, ← pay1_apply]
  unfold k0_pay3
  generalize k0_pay1 x0 x1 = D
  pointwise

/-- What the body leaves in its first output block, the other factor's slice. -/
theorem out_up (x0 : Vec Ideal S512x2048 .bf16) (x1 x2 : Vec Ideal S1x1x2048x1408 .bf16) (r : Fin 512) (d : Fin 1408) :
    (out0_3 (F := Ideal) x0 x1 x2 (ix3 1 r d) : EReal) = ∑ k : Fin 2048, x0 (ix2 r k) * x2 (ix4 0 0 k d) := by
  unfold out0_3
  refine (two1 _ _ r d).trans ?_
  rw [l0, l1, ← pay2_apply]
  unfold k0_pay4
  generalize k0_pay2 x0 x2 = D
  pointwise

/-- What the body leaves in its second output block, the gated activation. -/
theorem out_act (x0 : Vec Ideal S512x2048 .bf16) (x1 x2 : Vec Ideal S1x1x2048x1408 .bf16) (r : Fin 512) (d : Fin 1408) :
    (out0_4 (F := Ideal) x0 x1 x2 (ix2 r d) : EReal)
      = Cert.Swiglu.act (∑ k : Fin 2048, x0 (ix2 r k) * x1 (ix4 0 0 k d)) (∑ k : Fin 2048, x0 (ix2 r k) * x2 (ix4 0 0 k d)) := by
  unfold out0_4
  rw [View.canon_unit_zero hz2, l0, l1, l1, ← pay1_apply, ← pay2_apply]
  unfold Cert.Swiglu.act Cert.Swiglu.sig
  rw [← zero_sub (k0_pay1 (F := Ideal) x0 x1 (ix2 r d) : EReal)]
  unfold k0_pay5
  generalize k0_pay1 x0 x1 = D
  generalize k0_pay2 x0 x2 = E
  pointwise

/-- The block of argument window 0 at a point. -/
def b0 (t : Fin cfg0.N) : S512x2048.Idx → EReal := iblk m c 0 t

/-- The block of argument window 1 at a point. -/
def b1 (t : Fin cfg0.N) : S1x1x2048x1408.Idx → EReal := iblk m c 1 t

/-- The block of argument window 2 at a point. -/
def b2 (t : Fin cfg0.N) : S1x1x2048x1408.Idx → EReal := iblk m c 2 t

/-- The gate's product of a point's blocks is the reference's product at the point's rows and columns. -/
theorem sum_gate (t : Fin cfg0.N) (r : Fin 512) (d : Fin 1408) :
    (∑ k : Fin 2048, b0 m c t (ix2 r k) * b1 m c t (ix4 0 0 k d))
      = R.prod (X0 m c) (X1 m c) ⟨t.val % 4 * 512 + r.val, by have := tN t; omega⟩ ⟨t.val / 4 * 1408 + d.val, by have := tN t; omega⟩ := by
  have ht := tN t
  refine Finset.sum_congr rfl fun k _ => congrArg₂ (· * ·) (blk0 m c t r k) ((blk1 m c t 0 0 k d).trans (congrArg (X1 m c) (Cert.Swiglu.ix4_congr rfl ?_ rfl ?_)))
  · show t.val / 8 = (t.val / 4 * 1408 + d.val) / 2816; omega
  · show t.val / 4 % 2 * 1408 + d.val = (t.val / 4 * 1408 + d.val) % 2816; omega

/-- The other factor's product of a point's blocks is the reference's product at the point's rows and columns. -/
theorem sum_up (t : Fin cfg0.N) (r : Fin 512) (d : Fin 1408) :
    (∑ k : Fin 2048, b0 m c t (ix2 r k) * b2 m c t (ix4 0 0 k d))
      = R.prod (X0 m c) (X1 m c) ⟨t.val % 4 * 512 + r.val, by have := tN t; omega⟩ ⟨5632 + (t.val / 4 * 1408 + d.val), by have := tN t; omega⟩ := by
  have ht := tN t
  refine Finset.sum_congr rfl fun k _ => congrArg₂ (· * ·) (blk0 m c t r k) ((blk2 m c t 0 0 k d).trans (congrArg (X1 m c) (Cert.Swiglu.ix4_congr rfl ?_ rfl ?_)))
  · show 2 + t.val / 8 = (5632 + (t.val / 4 * 1408 + d.val)) / 2816; omega
  · show t.val / 4 % 2 * 1408 + d.val = (5632 + (t.val / 4 * 1408 + d.val)) % 2816; omega

/-- The array the reference leaves, over the kernel's arguments. -/
def G3 : S2x2048x5632.Idx → EReal := Cert.GuReferenceIdeal.Read.val_main_v10 (F := Ideal) (X0 m c) (X1 m c)

/-- The block a point leaves is that point's block of the reference's array. -/
theorem flushed_eq3 (t : Fin cfg0.N) :
    (dats m 0 c).flushed 3 t = ((cfg0.win 3).blk t).view.read (Elt Ideal) (G3 m c) := by
  rw [Value.flushed3]
  funext y
  obtain ⟨y0, y1, y2, rfl⟩ : ∃ (y0 : Fin 2) (y1 : Fin 512) (y2 : Fin 1408), y = (ix3 y0 y1 y2) := ⟨y 0, y 1, y 2, eq_ix3 y⟩
  obtain rfl | rfl : y0 = 0 ∨ y0 = 1 := by omega
  · refine (out_gate (iblk m c 0 t) (iblk m c 1 t) (iblk m c 2 t) y1 y2).trans ?_
    show _ = G3 m c ((win0_3.rect t).emb (ix3 0 y1 y2))
    rw [emb3]
    refine Eq.trans ?_ (R.ref_gate (X0 m c) (X1 m c) _ _).symm
    exact sum_gate m c t y1 y2
  · refine (out_up (iblk m c 0 t) (iblk m c 1 t) (iblk m c 2 t) y1 y2).trans ?_
    show _ = G3 m c ((win0_3.rect t).emb (ix3 1 y1 y2))
    rw [emb3]
    refine Eq.trans ?_ (R.ref_up (X0 m c) (X1 m c) _ _).symm
    exact sum_up m c t y1 y2

/-- Every element of the array lies in some point's block. -/
theorem cover3 (i : S2x2048x5632.Idx) : ∃ t : Fin cfg0.N, (cfg0.win 3).flush t = true ∧ i ∈ ((cfg0.win 3).blk t).view.set := by
  obtain ⟨q0, q1, q2, rfl⟩ : ∃ (q0 : Fin 2) (q1 : Fin 2048) (q2 : Fin 5632), i = (ix3 q0 q1 q2) := ⟨i 0, i 1, i 2, eq_ix3 i⟩
  have hN : cfg0.N = 16 := N_0
  have h0 := q0.isLt
  have h1 := q1.isLt
  have h2 := q2.isLt
  let t : Fin cfg0.N := ⟨q2.val / 1408 * 4 + q1.val / 512, by omega⟩
  refine ⟨t, flush0_3 _, ?_⟩
  have e : ((win0_3.rect t).emb (ix3 (q0 : Fin 2) (⟨q1.val % 512, by omega⟩ : Fin 512) (⟨q2.val % 1408, by omega⟩ : Fin 1408)) : S2x2048x5632.Idx) = (ix3 q0 q1 q2) := by
    refine (emb3 t q0 ⟨q1.val % 512, by omega⟩ ⟨q2.val % 1408, by omega⟩).trans ?_
    funext a; apply Fin.ext
    match a with
    | ⟨0, _⟩ => rfl
    | ⟨1, _⟩ => show ((q2.val / 1408 * 4 + q1.val / 512) % 4) * 512 + q1.val % 512 = q1.val; omega
    | ⟨2, _⟩ => show ((q2.val / 1408 * 4 + q1.val / 512) / 4) * 1408 + q2.val % 1408 = q2.val; omega
  exact e ▸ View.emb_mem_set ((cfg0.win 3).blk t).view (ix3 (q0 : Fin 2) (⟨q1.val % 512, by omega⟩ : Fin 512) (⟨q2.val % 1408, by omega⟩ : Fin 1408))

/-- The array the kernel leaves. -/
theorem final3 : (dats m 0 c).arrAt 3 cfg0.N = G3 m c :=
  (dats m 0 c).arrAt_eq_of_cover 3 (G3 m c) (fun t _ => flushed_eq3 m c t) cover3

/-- The array the reference leaves, over the kernel's arguments. -/
def G4 : S2048x5632.Idx → EReal := Cert.GuReferenceIdeal.Read.val_main_v14 (F := Ideal) (X0 m c) (X1 m c)

/-- The block a point leaves is that point's block of the reference's array. -/
theorem flushed_eq4 (t : Fin cfg0.N) :
    (dats m 0 c).flushed 4 t = ((cfg0.win 4).blk t).view.read (Elt Ideal) (G4 m c) := by
  rw [Value.flushed4]
  funext y
  obtain ⟨y0, y1, rfl⟩ : ∃ (y0 : Fin 512) (y1 : Fin 1408), y = (ix2 y0 y1) := ⟨y 0, y 1, eq_ix2 y⟩
  refine (out_act (iblk m c 0 t) (iblk m c 1 t) (iblk m c 2 t) y0 y1).trans ?_
  show _ = G4 m c ((win0_4.rect t).emb (ix2 y0 y1))
  rw [emb4]
  refine Eq.trans ?_ (R.ref_act (X0 m c) (X1 m c) _ _).symm
  exact congrArg₂ Cert.Swiglu.act (sum_gate m c t y0 y1) (sum_up m c t y0 y1)

/-- Every element of the array lies in some point's block. -/
theorem cover4 (i : S2048x5632.Idx) : ∃ t : Fin cfg0.N, (cfg0.win 4).flush t = true ∧ i ∈ ((cfg0.win 4).blk t).view.set := by
  obtain ⟨q0, q1, rfl⟩ : ∃ (q0 : Fin 2048) (q1 : Fin 5632), i = (ix2 q0 q1) := ⟨i 0, i 1, eq_ix2 i⟩
  have hN : cfg0.N = 16 := N_0
  have h0 := q0.isLt
  have h1 := q1.isLt
  let t : Fin cfg0.N := ⟨q1.val / 1408 * 4 + q0.val / 512, by omega⟩
  refine ⟨t, flush0_4 _, ?_⟩
  have e : ((win0_4.rect t).emb (ix2 (⟨q0.val % 512, by omega⟩ : Fin 512) (⟨q1.val % 1408, by omega⟩ : Fin 1408)) : S2048x5632.Idx) = (ix2 q0 q1) := by
    refine (emb4 t ⟨q0.val % 512, by omega⟩ ⟨q1.val % 1408, by omega⟩).trans ?_
    funext a; apply Fin.ext
    match a with
    | ⟨0, _⟩ => show ((q1.val / 1408 * 4 + q0.val / 512) % 4) * 512 + q0.val % 512 = q0.val; omega
    | ⟨1, _⟩ => show ((q1.val / 1408 * 4 + q0.val / 512) / 4) * 1408 + q1.val % 1408 = q1.val; omega
  exact e ▸ View.emb_mem_set ((cfg0.win 4).blk t).view (ix2 (⟨q0.val % 512, by omega⟩ : Fin 512) (⟨q1.val % 1408, by omega⟩ : Fin 1408))

/-- The array the kernel leaves. -/
theorem final4 : (dats m 0 c).arrAt 4 cfg0.N = G4 m c :=
  (dats m 0 c).arrAt_eq_of_cover 4 (G4 m c) (fun t _ => flushed_eq4 m c t) cover4

end Cert.Gu.V

namespace Cert.Gu

open Idealize.ShloMosaic Idealize.ShloMosaic.TcCoe Idealize.SL.Sem

/-- Over the real numbers with infinities, the kernel and its reference leave the same arrays. -/
theorem algebraic : Cert.algebraic_GuKernelIdeal_GuReferenceIdeal := by
  intro m ρ m' ρ' _ hagree
  refine ⟨fun c => V.G3 m c, fun c => V.G4 m c, ?_, ?_⟩
  · exact (θ_run Cert.GuKernelIdeal.defs _ _).mono (fun r h c => ⟨(h c).1.trans (V.final3 m c),
      (h c).2.1.trans (V.final4 m c), (h c).2.2⟩)
      (Cert.GuKernelIdeal.Value.run_blocks (F := Ideal) m ρ)
  · refine (θ_run Cert.GuReferenceIdeal.defs _ _).mono (fun r h c => ?_) (Cert.GuReferenceIdeal.Value.run (F := Ideal) m' ρ')
    obtain ⟨a0, a1⟩ := hagree c
    refine ⟨(h c).1.trans ((Cert.GuReferenceIdeal.Read.val_main_v10_eq (m' ((c.tc : Thread _ _).loc Cert.GuReferenceIdeal.main_arg0)) (m' ((c.tc : Thread _ _).loc Cert.GuReferenceIdeal.main_arg1))).trans ?_), (h c).2.1.trans ((Cert.GuReferenceIdeal.Read.val_main_v14_eq (m' ((c.tc : Thread _ _).loc Cert.GuReferenceIdeal.main_arg0)) (m' ((c.tc : Thread _ _).loc Cert.GuReferenceIdeal.main_arg1))).trans ?_), (h c).2.2⟩
    · show Cert.GuReferenceIdeal.Read.val_main_v10 (F := Ideal) (m' ((c.tc : Thread _ _).loc Cert.GuReferenceIdeal.main_arg0)) (m' ((c.tc : Thread _ _).loc Cert.GuReferenceIdeal.main_arg1)) = _
      rw [a0, a1]
      rfl
    · show Cert.GuReferenceIdeal.Read.val_main_v14 (F := Ideal) (m' ((c.tc : Thread _ _).loc Cert.GuReferenceIdeal.main_arg0)) (m' ((c.tc : Thread _ _).loc Cert.GuReferenceIdeal.main_arg1)) = _
      rw [a0, a1]
      rfl

end Cert.Gu
-- ==== Proof.DwdownValue.lean ====
module

public import proofs.«01_k».proof.Defs
public import proofs.«01_k».proof.Proof.Gen.DwdownKernelIdeal.Value
public import proofs.«01_k».proof.Proof.Gen.DwdownReferenceIdeal.Run
public import proofs.«01_k».proof.Proof.Gen.DwdownReferenceIdeal.Read
public import Idealize.ShloMosaic.Lib.Pointwise
public import Idealize.ShloMosaic.Lib.Pipeline.Value

/-! The weight gradient of the feed-forward block's down product: the blocks of the kernel make up the reference's array. -/

@[expose] public section

set_option maxRecDepth 16384

noncomputable section

namespace Cert.Dwdown.R

open Idealize.ShloMosaic
open Cert.DwdownReferenceIdeal Cert.DwdownReferenceIdeal.Gen Cert.DwdownReferenceIdeal.Read

/-- The contraction over a unit axis and the rows at once: its index at row `k`. -/
def cidx (k : Fin 2048) : dot_S1x2048x2048_S1x2048x5632_S2048x5632_01_01_2_2_n_n.contr.Idx := fun p =>
  match p with
  | ⟨0, _⟩ => (0 : Fin 1)
  | ⟨1, _⟩ => k

/-- That contraction's sum as the sum over the rows. -/
theorem dot_sum (l : FVec Ideal S1x2048x2048 .f32) (r : FVec Ideal S1x2048x5632 .f32) (i : Fin 2048) (j : Fin 5632) :
    (Host.dotGeneral dot_S1x2048x2048_S1x2048x5632_S2048x5632_01_01_2_2_n_n none l r (ix2 i j) : EReal) = ∑ k : Fin 2048, l (ix3 0 k i) * r (ix3 0 k j) := by
  have e : ∀ f : dot_S1x2048x2048_S1x2048x5632_S2048x5632_01_01_2_2_n_n.contr.Idx → EReal, ∑ k, f k = ∑ k : Fin 2048, f (cidx k) := by
    intro f
    refine (Fintype.sum_bijective cidx ⟨?_, ?_⟩ _ _ fun _ => rfl).symm
    · intro x y h
      exact congrFun h ⟨1, by decide⟩
    · intro y
      refine ⟨y ⟨1, by decide⟩, ?_⟩
      funext p
      match p with
      | ⟨0, _⟩ => exact (Fin.fin_one_eq_zero (y ⟨0, by decide⟩)).symm
      | ⟨1, _⟩ => rfl
  simp only [Host.dotGeneral]
  rw [Ideal.dotGeneral_apply, e]
  refine Finset.sum_congr rfl fun k _ => ?_
  congr 2
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-- The reference's weight gradient: at row `p` and column `q` the sum over the tokens of the activation times the
    upstream gradient. -/
theorem ref_apply (a : S2048x5632.Idx → EReal) (d : S2048x2048.Idx → EReal) (p : Fin 5632) (q : Fin 2048) :
    (val_main_v8 (F := Ideal) a d (ix2 p q) : EReal) = ∑ k : Fin 2048, a (ix2 k p) * d (ix2 k q) := by
  have e : (val_main_v8 (F := Ideal) a d (ix2 p q) : EReal) = val_main_v6 (F := Ideal) a d (ix2 q p) := by
    unfold val_main_v8 val_main_v7
    generalize val_main_v6 (F := Ideal) a d = y
    pointwise
  rw [e]
  unfold val_main_v6
  rw [dot_sum]
  refine Finset.sum_congr rfl fun k _ => ?_
  have e0 : (val_main_v5 (F := Ideal) d (ix3 0 k q) : EReal) = d (ix2 k q) := by
    unfold val_main_v5 val_main_v4
    pointwise
  have e1 : (val_main_v1 (F := Ideal) a (ix3 0 k p) : EReal) = a (ix2 k p) := by
    unfold val_main_v1 val_main_v0
    pointwise
  rw [e0, e1, mul_comm]

end Cert.Dwdown.R

namespace Cert.Dwdown.V

open Idealize.ShloMosaic Idealize.ShloMosaic.TcCoe Idealize.SL.Sem
open Idealize.ShloMosaic.Pipeline (Dat)
open Cert.DwdownKernelIdeal Cert.DwdownKernelIdeal.Gen

variable (m : (ℓ : Loc nD τ sig) → Buf (Elt Ideal) ℓ) (ρ : Dev nD → PrngReg) (c : Dev nD)

/-- The arguments. -/ abbrev X0 : S2048x5632.Idx → EReal := m ((c : Thread nD τ).loc main_arg0)
@[inherit_doc X0] abbrev X1 : S2048x2048.Idx → EReal := m ((c : Thread nD τ).loc main_arg1)

theorem hz2 : (![0, 0] : Fin 2 → Nat) = fun _ => 0 := funext fun a => by fin_cases a <;> rfl

/-- The grid has 16 points. -/
theorem tN (t : Fin cfg0.N) : t.val < 16 := N_0 ▸ t.isLt

/-- The block window 0 names at a point. -/
theorem idx0 : ∀ t : Fin grid0.N, win0_0.index t 0 = 0 ∧ win0_0.index t 1 = t.val % 4 := by decide +kernel

/-- Where an element of window 0's block lies in its array. -/
theorem emb0 (t : Fin cfg0.N) (y0 : Fin 2048) (y1 : Fin 1408) :
    ((win0_0.rect t).emb (ix2 y0 y1) : (⟨2, ![2048, 5632]⟩ : Shape).Idx) = ((ix2 y0 ⟨t.val % 4 * 1408 + y1.val, by have := tN t; have := y1.isLt; omega⟩) : (⟨2, ![2048, 5632]⟩ : Shape).Idx) := by
  funext a; apply Fin.ext
  match a with
  | ⟨0, _⟩ => exact Pipeline.Window.rect_emb_val_of_index_zero win0_0 t _ (idx0 t).1 _
  | ⟨1, _⟩ => exact (Pipeline.Window.rect_emb_val win0_0 t _ _).trans (congrArg (· * 1408 + y1.val) (idx0 t).2)

/-- Window 0's block at a point, read from the argument. -/
theorem blk0 (t : Fin cfg0.N) (y0 : Fin 2048) (y1 : Fin 1408) :
    (iblk m c 0 t : S2048x1408.Idx → EReal) (ix2 y0 y1) = X0 m c (ix2 y0 ⟨t.val % 4 * 1408 + y1.val, by have := tN t; have := y1.isLt; omega⟩) := by
  show (V m c main_arg0 : S2048x5632.Idx → EReal) ((win0_0.rect t).emb (ix2 y0 y1)) = _
  rw [V_main_arg0, emb0]

/-- The block window 1 names at a point. -/
theorem idx1 : ∀ t : Fin grid0.N, win0_1.index t 0 = 0 ∧ win0_1.index t 1 = t.val / 4 := by decide +kernel

/-- Where an element of window 1's block lies in its array. -/
theorem emb1 (t : Fin cfg0.N) (y0 : Fin 2048) (y1 : Fin 512) :
    ((win0_1.rect t).emb (ix2 y0 y1) : (⟨2, ![2048, 2048]⟩ : Shape).Idx) = ((ix2 y0 ⟨t.val / 4 * 512 + y1.val, by have := tN t; have := y1.isLt; omega⟩) : (⟨2, ![2048, 2048]⟩ : Shape).Idx) := by
  funext a; apply Fin.ext
  match a with
  | ⟨0, _⟩ => exact Pipeline.Window.rect_emb_val_of_index_zero win0_1 t _ (idx1 t).1 _
  | ⟨1, _⟩ => exact (Pipeline.Window.rect_emb_val win0_1 t _ _).trans (congrArg (· * 512 + y1.val) (idx1 t).2)

/-- Window 1's block at a point, read from the argument. -/
theorem blk1 (t : Fin cfg0.N) (y0 : Fin 2048) (y1 : Fin 512) :
    (iblk m c 1 t : S2048x512.Idx → EReal) (ix2 y0 y1) = X1 m c (ix2 y0 ⟨t.val / 4 * 512 + y1.val, by have := tN t; have := y1.isLt; omega⟩) := by
  show (V m c main_arg1 : S2048x2048.Idx → EReal) ((win0_1.rect t).emb (ix2 y0 y1)) = _
  rw [V_main_arg1, emb1]

/-- The block window 2 names at a point. -/
theorem idx2 : ∀ t : Fin grid0.N, win0_2.index t 0 = t.val % 4 ∧ win0_2.index t 1 = t.val / 4 := by decide +kernel

/-- Where an element of window 2's block lies in its array. -/
theorem emb2 (t : Fin cfg0.N) (y0 : Fin 1408) (y1 : Fin 512) :
    ((win0_2.rect t).emb (ix2 y0 y1) : (⟨2, ![5632, 2048]⟩ : Shape).Idx) = ((ix2 ⟨t.val % 4 * 1408 + y0.val, by have := tN t; have := y0.isLt; omega⟩ ⟨t.val / 4 * 512 + y1.val, by have := tN t; have := y1.isLt; omega⟩) : (⟨2, ![5632, 2048]⟩ : Shape).Idx) := by
  funext a; apply Fin.ext
  match a with
  | ⟨0, _⟩ => exact (Pipeline.Window.rect_emb_val win0_2 t _ _).trans (congrArg (· * 1408 + y0.val) (idx2 t).1)
  | ⟨1, _⟩ => exact (Pipeline.Window.rect_emb_val win0_2 t _ _).trans (congrArg (· * 512 + y1.val) (idx2 t).2)

/-- A load of a whole block reads the block. -/
theorem l0 (X : Vec Ideal S2048x1408 .bf16) : View.ld X r0_0 = X := View.ld_unit_zero hz2 _ X

/-- A load of a whole block reads the block. -/
theorem l1 (X : Vec Ideal S2048x512 .bf16) : View.ld X r0_1 = X := View.ld_unit_zero hz2 _ X

/-- What the body leaves in its output block, read at an element. -/
theorem out_apply (x0 : Vec Ideal S2048x1408 .bf16) (x1 : Vec Ideal S2048x512 .bf16) (r : Fin 1408) (d : Fin 512) :
    (out0_2 (F := Ideal) x0 x1 (ix2 r d) : EReal) = ∑ k : Fin 2048, x0 (ix2 k r) * x1 (ix2 k d) := by
  unfold out0_2
  rw [View.canon_unit_zero hz2]
  simp only [l0, l1]
  unfold k0_pay1
  pointwise

/-- The array the reference leaves, over the kernel's arguments. -/
def G : S5632x2048.Idx → EReal := Cert.DwdownReferenceIdeal.Read.val_main_v8 (F := Ideal) (X0 m c) (X1 m c)

/-- The block a point leaves is that point's block of the reference's array. -/
theorem flushed_eq (t : Fin cfg0.N) :
    (dats m 0 c).flushed 2 t = ((cfg0.win 2).blk t).view.read (Elt Ideal) (G m c) := by
  rw [Value.flushed2]
  funext y
  obtain ⟨y0, y1, rfl⟩ : ∃ (y0 : Fin 1408) (y1 : Fin 512), y = (ix2 y0 y1) := ⟨y 0, y 1, eq_ix2 y⟩
  refine (out_apply (iblk m c 0 t) (iblk m c 1 t) y0 y1).trans ?_
  show _ = G m c ((win0_2.rect t).emb (ix2 y0 y1))
  rw [emb2]
  refine Eq.trans ?_ (R.ref_apply (X0 m c) (X1 m c) _ _).symm
  exact Finset.sum_congr rfl fun k _ => congrArg₂ (· * ·) (blk0 m c t k y0) (blk1 m c t k y1)

/-- Every element of the array lies in some point's block. -/
theorem cover (i : S5632x2048.Idx) : ∃ t : Fin cfg0.N, (cfg0.win 2).flush t = true ∧ i ∈ ((cfg0.win 2).blk t).view.set := by
  obtain ⟨q0, q1, rfl⟩ : ∃ (q0 : Fin 5632) (q1 : Fin 2048), i = (ix2 q0 q1) := ⟨i 0, i 1, eq_ix2 i⟩
  have hN : cfg0.N = 16 := N_0
  have h0 := q0.isLt
  have h1 := q1.isLt
  let t : Fin cfg0.N := ⟨q1.val / 512 * 4 + q0.val / 1408, by omega⟩
  refine ⟨t, flush0_2 _, ?_⟩
  have e : ((win0_2.rect t).emb (ix2 (⟨q0.val % 1408, by omega⟩ : Fin 1408) (⟨q1.val % 512, by omega⟩ : Fin 512)) : S5632x2048.Idx) = (ix2 q0 q1) := by
    refine (emb2 t ⟨q0.val % 1408, by omega⟩ ⟨q1.val % 512, by omega⟩).trans ?_
    funext a; apply Fin.ext
    match a with
    | ⟨0, _⟩ => show ((q1.val / 512 * 4 + q0.val / 1408) % 4) * 1408 + q0.val % 1408 = q0.val; omega
    | ⟨1, _⟩ => show ((q1.val / 512 * 4 + q0.val / 1408) / 4) * 512 + q1.val % 512 = q1.val; omega
  exact e ▸ View.emb_mem_set ((cfg0.win 2).blk t).view (ix2 (⟨q0.val % 1408, by omega⟩ : Fin 1408) (⟨q1.val % 512, by omega⟩ : Fin 512))

/-- The array the kernel leaves. -/
theorem final : (dats m 0 c).arrAt 2 cfg0.N = G m c :=
  (dats m 0 c).arrAt_eq_of_cover 2 (G m c) (fun t _ => flushed_eq m c t) cover

end Cert.Dwdown.V

namespace Cert.Dwdown

open Idealize.ShloMosaic Idealize.ShloMosaic.TcCoe Idealize.SL.Sem

/-- Over the real numbers with infinities, the kernel and its reference leave the same arrays. -/
theorem algebraic : Cert.algebraic_DwdownKernelIdeal_DwdownReferenceIdeal := by
  intro m ρ m' ρ' _ hagree
  refine ⟨fun c => V.G m c, ?_, ?_⟩
  · exact (θ_run Cert.DwdownKernelIdeal.defs _ _).mono (fun r h c => ⟨(h c).1.trans (V.final m c), (h c).2⟩)
      (Cert.DwdownKernelIdeal.Value.run_blocks (F := Ideal) m ρ)
  · refine (θ_run Cert.DwdownReferenceIdeal.defs _ _).mono (fun r h c => ?_) (Cert.DwdownReferenceIdeal.Value.run (F := Ideal) m' ρ')
    obtain ⟨a0, a1⟩ := hagree c
    refine ⟨(h c).1.trans ((Cert.DwdownReferenceIdeal.Read.val_main_v8_eq (m' ((c.tc : Thread _ _).loc Cert.DwdownReferenceIdeal.main_arg0)) (m' ((c.tc : Thread _ _).loc Cert.DwdownReferenceIdeal.main_arg1))).trans ?_), (h c).2⟩
    · show Cert.DwdownReferenceIdeal.Read.val_main_v8 (F := Ideal) (m' ((c.tc : Thread _ _).loc Cert.DwdownReferenceIdeal.main_arg0)) (m' ((c.tc : Thread _ _).loc Cert.DwdownReferenceIdeal.main_arg1)) = _
      rw [a0, a1]
      rfl

end Cert.Dwdown
-- ==== Proof.DownValue.lean ====
module

public import proofs.«01_k».proof.Defs
public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Pointwise
public import Idealize.ShloMosaic.Lib.Pipeline.Value

/-! The feed-forward block's down product with its residual: the blocks of the kernel make up the reference's array. -/

@[expose] public section

set_option maxRecDepth 16384

noncomputable section

namespace Cert.Down.R

open Idealize.ShloMosaic
open Cert.DownReferenceIdeal Cert.DownReferenceIdeal.Gen Cert.DownReferenceIdeal.Read

/-- The reference's product at row `p` and column `q`, with the residual. -/
theorem ref_apply (a : S2048x5632.Idx → EReal) (w : S1x5632x2048.Idx → EReal) (x : S2048x2048.Idx → EReal) (p : Fin 2048) (q : Fin 2048) :
    (val_main_v6 (F := Ideal) a w x (ix2 p q) : EReal) = x (ix2 p q) + ∑ k : Fin 5632, a (ix2 p k) * w (ix3 0 k q) := by
  rw [← val_main_v6_eq]
  pointwise

end Cert.Down.R

namespace Cert.Down.V

open Idealize.ShloMosaic Idealize.ShloMosaic.TcCoe Idealize.SL.Sem
open Idealize.ShloMosaic.Pipeline (Dat)
open Cert.DownKernelIdeal Cert.DownKernelIdeal.Gen

variable (m : (ℓ : Loc nD τ sig) → Buf (Elt Ideal) ℓ) (ρ : Dev nD → PrngReg) (c : Dev nD)

/-- The arguments. -/ abbrev X0 : S2048x5632.Idx → EReal := m ((c : Thread nD τ).loc main_arg0)
@[inherit_doc X0] abbrev X1 : S1x5632x2048.Idx → EReal := m ((c : Thread nD τ).loc main_arg1)
@[inherit_doc X0] abbrev X2 : S2048x2048.Idx → EReal := m ((c : Thread nD τ).loc main_arg2)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 8 points. -/
theorem tN (t : Fin cfg0.N) : t.val < 8 := N_0 ▸ t.isLt

/-- The block window 0 names at a point. -/
theorem idx0 : ∀ t : Fin grid0.N, win0_0.index t 0 = t.val % 2 ∧ win0_0.index t 1 = 0 := by decide +kernel

/-- Where an element of window 0's block lies in its array. -/
theorem emb0 (t : Fin cfg0.N) (y0 : Fin 1024) (y1 : Fin 5632) :
    ((win0_0.rect t).emb (ix2 y0 y1) : (⟨2, ![2048, 5632]⟩ : Shape).Idx) = ((ix2 ⟨t.val % 2 * 1024 + y0.val, by have := tN t; have := y0.isLt; omega⟩ y1) : (⟨2, ![2048, 5632]⟩ : Shape).Idx) := by
  funext a; apply Fin.ext
  match a with
  | ⟨0, _⟩ => exact (Pipeline.Window.rect_emb_val win0_0 t _ _).trans (congrArg (· * 1024 + y0.val) (idx0 t).1)
  | ⟨1, _⟩ => exact Pipeline.Window.rect_emb_val_of_index_zero win0_0 t _ (idx0 t).2 _

/-- Window 0's block at a point, read from the argument. -/
theorem blk0 (t : Fin cfg0.N) (y0 : Fin 1024) (y1 : Fin 5632) :
    (iblk m c 0 t : S1024x5632.Idx → EReal) (ix2 y0 y1) = X0 m c (ix2 ⟨t.val % 2 * 1024 + y0.val, by have := tN t; have := y0.isLt; omega⟩ y1) := by
  show (V m c main_arg0 : S2048x5632.Idx → EReal) ((win0_0.rect t).emb (ix2 y0 y1)) = _
  rw [V_main_arg0, emb0]

/-- The block window 1 names at a point. -/
theorem idx1 : ∀ t : Fin grid0.N, win0_1.index t 0 = 0 ∧ win0_1.index t 1 = 0 ∧ win0_1.index t 2 = t.val / 2 := by decide +kernel

/-- Where an element of window 1's block lies in its array. -/
theorem emb1 (t : Fin cfg0.N) (y0 : Fin 1) (y1 : Fin 5632) (y2 : Fin 512) :
    ((win0_1.rect t).emb (ix3 y0 y1 y2) : (⟨3, ![1, 5632, 2048]⟩ : Shape).Idx) = ((ix3 y0 y1 ⟨t.val / 2 * 512 + y2.val, by have := tN t; have := y2.isLt; omega⟩) : (⟨3, ![1, 5632, 2048]⟩ : Shape).Idx) := by
  funext a; apply Fin.ext
  match a with
  | ⟨0, _⟩ => exact Pipeline.Window.rect_emb_val_of_index_zero win0_1 t _ (idx1 t).1 _
  | ⟨1, _⟩ => exact Pipeline.Window.rect_emb_val_of_index_zero win0_1 t _ (idx1 t).2.1 _
  | ⟨2, _⟩ => exact (Pipeline.Window.rect_emb_val win0_1 t _ _).trans (congrArg (· * 512 + y2.val) (idx1 t).2.2)

/-- Window 1's block at a point, read from the argument. -/
theorem blk1 (t : Fin cfg0.N) (y0 : Fin 1) (y1 : Fin 5632) (y2 : Fin 512) :
    (iblk m c 1 t : S1x5632x512.Idx → EReal) (ix3 y0 y1 y2) = X1 m c (ix3 y0 y1 ⟨t.val / 2 * 512 + y2.val, by have := tN t; have := y2.isLt; omega⟩) := by
  show (V m c main_arg1 : S1x5632x2048.Idx → EReal) ((win0_1.rect t).emb (ix3 y0 y1 y2)) = _
  rw [V_main_arg1, emb1]

/-- The block window 2 names at a point. -/
theorem idx2 : ∀ t : Fin grid0.N, win0_2.index t 0 = t.val % 2 ∧ win0_2.index t 1 = t.val / 2 := by decide +kernel

/-- Where an element of window 2's block lies in its array. -/
theorem emb2 (t : Fin cfg0.N) (y0 : Fin 1024) (y1 : Fin 512) :
    ((win0_2.rect t).emb (ix2 y0 y1) : (⟨2, ![2048, 2048]⟩ : Shape).Idx) = ((ix2 ⟨t.val % 2 * 1024 + y0.val, by have := tN t; have := y0.isLt; omega⟩ ⟨t.val / 2 * 512 + y1.val, by have := tN t; have := y1.isLt; omega⟩) : (⟨2, ![2048, 2048]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact (Pipeline.Window.rect_emb_val win0_2 t _ _).trans (congrArg (· * 512 + y1.val) (idx2 t).2)

/-- Window 2's block at a point, read from the argument. -/
theorem blk2 (t : Fin cfg0.N) (y0 : Fin 1024) (y1 : Fin 512) :
    (iblk m c 2 t : S1024x512.Idx → EReal) (ix2 y0 y1) = X2 m c (ix2 ⟨t.val % 2 * 1024 + y0.val, by have := tN t; have := y0.isLt; omega⟩ ⟨t.val / 2 * 512 + y1.val, by have := tN t; have := y1.isLt; omega⟩) := by
  show (V m c main_arg2 : S2048x2048.Idx → EReal) ((win0_2.rect t).emb (ix2 y0 y1)) = _
  rw [V_main_arg2, emb2]

/-- The block window 3 names at a point. -/
theorem idx3 : ∀ t : Fin grid0.N, win0_3.index t 0 = t.val % 2 ∧ win0_3.index t 1 = t.val / 2 := by decide +kernel

/-- Where an element of window 3's block lies in its array. -/
theorem emb3 (t : Fin cfg0.N) (y0 : Fin 1024) (y1 : Fin 512) :
    ((win0_3.rect t).emb (ix2 y0 y1) : (⟨2, ![2048, 2048]⟩ : Shape).Idx) = ((ix2 ⟨t.val % 2 * 1024 + y0.val, by have := tN t; have := y0.isLt; omega⟩ ⟨t.val / 2 * 512 + y1.val, by have := tN t; have := y1.isLt; omega⟩) : (⟨2, ![2048, 2048]⟩ : Shape).Idx) := by
  funext a; apply Fin.ext
  match a with
  | ⟨0, _⟩ => exact (Pipeline.Window.rect_emb_val win0_3 t _ _).trans (congrArg (· * 1024 + y0.val) (idx3 t).1)
  | ⟨1, _⟩ => exact (Pipeline.Window.rect_emb_val win0_3 t _ _).trans (congrArg (· * 512 + y1.val) (idx3 t).2)

/-- A load of a whole block reads the block. -/
theorem l0 (X : Vec Ideal S1024x5632 .bf16) : View.ld X r0_0 = X := View.ld_unit_zero hz2 _ X

/-- A load of a whole block reads the block. -/
theorem l1 (X : Vec Ideal S1x5632x512 .bf16) : View.ld X r0_1 = X := View.ld_unit_zero hz3 _ X

/-- A load of a whole block reads the block. -/
theorem l2 (X : Vec Ideal S1024x512 .f32) : View.ld X r0_2 = X := View.ld_unit_zero hz2 _ X

/-- What the body leaves in its output block, read at an element. -/
theorem out_apply (x0 : Vec Ideal S1024x5632 .bf16) (x1 : Vec Ideal S1x5632x512 .bf16) (x2 : Vec Ideal S1024x512 .f32) (r : Fin 1024) (d : Fin 512) :
    (out0_3 (F := Ideal) x0 x1 x2 (ix2 r d) : EReal) = (∑ k : Fin 5632, x0 (ix2 r k) * x1 (ix3 0 k d)) + x2 (ix2 r d) := by
  unfold out0_3
  rw [View.canon_unit_zero hz2]
  simp only [l0, l1, l2]
  unfold k0_pay1
  pointwise

/-- The array the reference leaves, over the kernel's arguments. -/
def G : S2048x2048.Idx → EReal := Cert.DownReferenceIdeal.Read.val_main_v6 (F := Ideal) (X0 m c) (X1 m c) (X2 m c)

/-- The block a point leaves is that point's block of the reference's array. -/
theorem flushed_eq (t : Fin cfg0.N) :
    (dats m 0 c).flushed 3 t = ((cfg0.win 3).blk t).view.read (Elt Ideal) (G m c) := by
  rw [Value.flushed3]
  funext y
  obtain ⟨y0, y1, rfl⟩ : ∃ (y0 : Fin 1024) (y1 : Fin 512), y = (ix2 y0 y1) := ⟨y 0, y 1, eq_ix2 y⟩
  refine (out_apply (iblk m c 0 t) (iblk m c 1 t) (iblk m c 2 t) y0 y1).trans ?_
  show _ = G m c ((win0_3.rect t).emb (ix2 y0 y1))
  rw [emb3]
  refine Eq.trans ?_ (R.ref_apply (X0 m c) (X1 m c) (X2 m c) _ _).symm
  refine (add_comm _ _).trans (congrArg₂ (· + ·) (blk2 m c t y0 y1) ?_)
  exact Finset.sum_congr rfl fun k _ => congrArg₂ (· * ·) (blk0 m c t y0 k) (blk1 m c t 0 k y1)

/-- Every element of the array lies in some point's block. -/
theorem cover (i : S2048x2048.Idx) : ∃ t : Fin cfg0.N, (cfg0.win 3).flush t = true ∧ i ∈ ((cfg0.win 3).blk t).view.set := by
  obtain ⟨q0, q1, rfl⟩ : ∃ (q0 : Fin 2048) (q1 : Fin 2048), i = (ix2 q0 q1) := ⟨i 0, i 1, eq_ix2 i⟩
  have hN : cfg0.N = 8 := N_0
  have h0 := q0.isLt
  have h1 := q1.isLt
  let t : Fin cfg0.N := ⟨q1.val / 512 * 2 + q0.val / 1024, by omega⟩
  refine ⟨t, flush0_3 _, ?_⟩
  have e : ((win0_3.rect t).emb (ix2 (⟨q0.val % 1024, by omega⟩ : Fin 1024) (⟨q1.val % 512, by omega⟩ : Fin 512)) : S2048x2048.Idx) = (ix2 q0 q1) := by
    refine (emb3 t ⟨q0.val % 1024, by omega⟩ ⟨q1.val % 512, by omega⟩).trans ?_
    funext a; apply Fin.ext
    match a with
    | ⟨0, _⟩ => show ((q1.val / 512 * 2 + q0.val / 1024) % 2) * 1024 + q0.val % 1024 = q0.val; omega
    | ⟨1, _⟩ => show ((q1.val / 512 * 2 + q0.val / 1024) / 2) * 512 + q1.val % 512 = q1.val; omega
  exact e ▸ View.emb_mem_set ((cfg0.win 3).blk t).view (ix2 (⟨q0.val % 1024, by omega⟩ : Fin 1024) (⟨q1.val % 512, by omega⟩ : Fin 512))

/-- The array the kernel leaves. -/
theorem final : (dats m 0 c).arrAt 3 cfg0.N = G m c :=
  (dats m 0 c).arrAt_eq_of_cover 3 (G m c) (fun t _ => flushed_eq m c t) cover

end Cert.Down.V

namespace Cert.Down

open Idealize.ShloMosaic Idealize.ShloMosaic.TcCoe Idealize.SL.Sem

/-- Over the real numbers with infinities, the kernel and its reference leave the same arrays. -/
theorem algebraic : Cert.algebraic_DownKernelIdeal_DownReferenceIdeal := by
  intro m ρ m' ρ' _ hagree
  refine ⟨fun c => V.G m c, ?_, ?_⟩
  · exact (θ_run Cert.DownKernelIdeal.defs _ _).mono (fun r h c => ⟨(h c).1.trans (V.final m c), (h c).2⟩)
      (Cert.DownKernelIdeal.Value.run_blocks (F := Ideal) m ρ)
  · refine (θ_run Cert.DownReferenceIdeal.defs _ _).mono (fun r h c => ?_) (Cert.DownReferenceIdeal.Value.run (F := Ideal) m' ρ')
    obtain ⟨a0, a1, a2⟩ := hagree c
    refine ⟨(h c).1.trans ((Cert.DownReferenceIdeal.Read.val_main_v6_eq (m' ((c.tc : Thread _ _).loc Cert.DownReferenceIdeal.main_arg0)) (m' ((c.tc : Thread _ _).loc Cert.DownReferenceIdeal.main_arg1)) (m' ((c.tc : Thread _ _).loc Cert.DownReferenceIdeal.main_arg2))).trans ?_), (h c).2⟩
    · show Cert.DownReferenceIdeal.Read.val_main_v6 (F := Ideal) (m' ((c.tc : Thread _ _).loc Cert.DownReferenceIdeal.main_arg0)) (m' ((c.tc : Thread _ _).loc Cert.DownReferenceIdeal.main_arg1)) (m' ((c.tc : Thread _ _).loc Cert.DownReferenceIdeal.main_arg2)) = _
      rw [a0, a1, a2]
      rfl

end Cert.Down
-- ==== Proof.ProjValue.lean ====
module

public import proofs.«01_k».proof.Defs
public import proofs.«01_k».proof.Proof.Gen.ProjKernelIdeal.Value
public import proofs.«01_k».proof.Proof.Gen.ProjReferenceIdeal.Run
public import proofs.«01_k».proof.Proof.Gen.ProjReferenceIdeal.Read
public import Idealize.ShloMosaic.Lib.Pointwise
public import Idealize.ShloMosaic.Lib.Pipeline.Value

/-! The input projection: the blocks of the kernel make up the reference's array. -/

@[expose] public section

set_option maxRecDepth 16384

noncomputable section

namespace Cert.Proj.R

open Idealize.ShloMosaic
open Cert.ProjReferenceIdeal Cert.ProjReferenceIdeal.Gen Cert.ProjReferenceIdeal.Read

/-- The reference's product at row `p` and column `q`. -/
theorem ref_apply (a : S2048x2048.Idx → EReal) (w : S1x2048x6528.Idx → EReal) (p : Fin 2048) (q : Fin 6528) :
    (val_main_v5 (F := Ideal) a w (ix2 p q) : EReal) = ∑ k : Fin 2048, a (ix2 p k) * w (ix3 0 k q) := by
  rw [← val_main_v5_eq]
  pointwise

end Cert.Proj.R

namespace Cert.Proj.V

open Idealize.ShloMosaic Idealize.ShloMosaic.TcCoe Idealize.SL.Sem
open Idealize.ShloMosaic.Pipeline (Dat)
open Cert.ProjKernelIdeal Cert.ProjKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S1x2048x6528.Idx → EReal := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 6 points. -/
theorem tN (t : Fin cfg0.N) : t.val < 6 := N_0 ▸ t.isLt

/-- The block window 0 names at a point. -/
theorem idx0 : ∀ t : Fin grid0.N, win0_0.index t 0 = t.val % 2 ∧ win0_0.index t 1 = 0 := by decide +kernel

/-- Where an element of window 0's block lies in its array. -/
theorem emb0 (t : Fin cfg0.N) (y0 : Fin 1024) (y1 : Fin 2048) :
    ((win0_0.rect t).emb (ix2 y0 y1) : (⟨2, ![2048, 2048]⟩ : Shape).Idx) = ((ix2 ⟨t.val % 2 * 1024 + y0.val, by have := tN t; have := y0.isLt; omega⟩ y1) : (⟨2, ![2048, 2048]⟩ : Shape).Idx) := by
  funext a; apply Fin.ext
  match a with
  | ⟨0, _⟩ => exact (Pipeline.Window.rect_emb_val win0_0 t _ _).trans (congrArg (· * 1024 + y0.val) (idx0 t).1)
  | ⟨1, _⟩ => exact Pipeline.Window.rect_emb_val_of_index_zero win0_0 t _ (idx0 t).2 _

/-- Window 0's block at a point, read from the argument. -/
theorem blk0 (t : Fin cfg0.N) (y0 : Fin 1024) (y1 : Fin 2048) :
    (iblk m c 0 t : S1024x2048.Idx → EReal) (ix2 y0 y1) = X0 m c (ix2 ⟨t.val % 2 * 1024 + y0.val, by have := tN t; have := y0.isLt; omega⟩ y1) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = 0 ∧ win0_1.index t 1 = 0 ∧ win0_1.index t 2 = t.val / 2 := by decide +kernel

/-- Where an element of window 1's block lies in its array. -/
theorem emb1 (t : Fin cfg0.N) (y0 : Fin 1) (y1 : Fin 2048) (y2 : Fin 2176) :
    ((win0_1.rect t).emb (ix3 y0 y1 y2) : (⟨3, ![1, 2048, 6528]⟩ : Shape).Idx) = ((ix3 y0 y1 ⟨t.val / 2 * 2176 + y2.val, by have := tN t; have := y2.isLt; omega⟩) : (⟨3, ![1, 2048, 6528]⟩ : Shape).Idx) := by
  funext a; apply Fin.ext
  match a with
  | ⟨0, _⟩ => exact Pipeline.Window.rect_emb_val_of_index_zero win0_1 t _ (idx1 t).1 _
  | ⟨1, _⟩ => exact Pipeline.Window.rect_emb_val_of_index_zero win0_1 t _ (idx1 t).2.1 _
  | ⟨2, _⟩ => exact (Pipeline.Window.rect_emb_val win0_1 t _ _).trans (congrArg (· * 2176 + y2.val) (idx1 t).2.2)

/-- Window 1's block at a point, read from the argument. -/
theorem blk1 (t : Fin cfg0.N) (y0 : Fin 1) (y1 : Fin 2048) (y2 : Fin 2176) :
    (iblk m c 1 t : S1x2048x2176.Idx → EReal) (ix3 y0 y1 y2) = X1 m c (ix3 y0 y1 ⟨t.val / 2 * 2176 + y2.val, by have := tN t; have := y2.isLt; omega⟩) := by
  show (V m c main_arg1 : S1x2048x6528.Idx → EReal) ((win0_1.rect t).emb (ix3 y0 y1 y2)) = _
  rw [V_main_arg1, emb1]

/-- The block window 2 names at a point. -/
theorem idx2 : ∀ t : Fin grid0.N, win0_2.index t 0 = t.val % 2 ∧ win0_2.index t 1 = t.val / 2 := by decide +kernel

/-- Where an element of window 2's block lies in its array. -/
theorem emb2 (t : Fin cfg0.N) (y0 : Fin 1024) (y1 : Fin 2176) :
    ((win0_2.rect t).emb (ix2 y0 y1) : (⟨2, ![2048, 6528]⟩ : Shape).Idx) = ((ix2 ⟨t.val % 2 * 1024 + y0.val, by have := tN t; have := y0.isLt; omega⟩ ⟨t.val / 2 * 2176 + y1.val, by have := tN t; have := y1.isLt; omega⟩) : (⟨2, ![2048, 6528]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact (Pipeline.Window.rect_emb_val win0_2 t _ _).trans (congrArg (· * 2176 + y1.val) (idx2 t).2)

/-- A load of a whole block reads the block. -/
theorem l0 (X : Vec Ideal S1024x2048 .bf16) : View.ld X r0_0 = X := View.ld_unit_zero hz2 _ X

/-- A load of a whole block reads the block. -/
theorem l1 (X : Vec Ideal S1x2048x2176 .bf16) : View.ld X r0_1 = X := View.ld_unit_zero hz3 _ X

/-- What the body leaves in its output block, read at an element. -/
theorem out_apply (x0 : Vec Ideal S1024x2048 .bf16) (x1 : Vec Ideal S1x2048x2176 .bf16) (r : Fin 1024) (d : Fin 2176) :
    (out0_2 (F := Ideal) x0 x1 (ix2 r d) : EReal) = ∑ k : Fin 2048, x0 (ix2 r k) * x1 (ix3 0 k d) := by
  unfold out0_2
  rw [View.canon_unit_zero hz2]
  simp only [l0, l1]
  unfold k0_pay1
  pointwise

/-- The array the reference leaves, over the kernel's arguments. -/
def G : S2048x6528.Idx → EReal := Cert.ProjReferenceIdeal.Read.val_main_v5 (F := Ideal) (X0 m c) (X1 m c)

/-- The block a point leaves is that point's block of the reference's array. -/
theorem flushed_eq (t : Fin cfg0.N) :
    (dats m 0 c).flushed 2 t = ((cfg0.win 2).blk t).view.read (Elt Ideal) (G m c) := by
  rw [Value.flushed2]
  funext y
  obtain ⟨y0, y1, rfl⟩ : ∃ (y0 : Fin 1024) (y1 : Fin 2176), y = (ix2 y0 y1) := ⟨y 0, y 1, eq_ix2 y⟩
  refine (out_apply (iblk m c 0 t) (iblk m c 1 t) y0 y1).trans ?_
  show _ = G m c ((win0_2.rect t).emb (ix2 y0 y1))
  rw [emb2]
  refine Eq.trans ?_ (R.ref_apply (X0 m c) (X1 m c) _ _).symm
  exact Finset.sum_congr rfl fun k _ => congrArg₂ (· * ·) (blk0 m c t y0 k) (blk1 m c t 0 k y1)

/-- Every element of the array lies in some point's block. -/
theorem cover (i : S2048x6528.Idx) : ∃ t : Fin cfg0.N, (cfg0.win 2).flush t = true ∧ i ∈ ((cfg0.win 2).blk t).view.set := by
  obtain ⟨q0, q1, rfl⟩ : ∃ (q0 : Fin 2048) (q1 : Fin 6528), i = (ix2 q0 q1) := ⟨i 0, i 1, eq_ix2 i⟩
  have hN : cfg0.N = 6 := N_0
  have h0 := q0.isLt
  have h1 := q1.isLt
  let t : Fin cfg0.N := ⟨q1.val / 2176 * 2 + q0.val / 1024, by omega⟩
  refine ⟨t, flush0_2 _, ?_⟩
  have e : ((win0_2.rect t).emb (ix2 (⟨q0.val % 1024, by omega⟩ : Fin 1024) (⟨q1.val % 2176, by omega⟩ : Fin 2176)) : S2048x6528.Idx) = (ix2 q0 q1) := by
    refine (emb2 t ⟨q0.val % 1024, by omega⟩ ⟨q1.val % 2176, by omega⟩).trans ?_
    funext a; apply Fin.ext
    match a with
    | ⟨0, _⟩ => show ((q1.val / 2176 * 2 + q0.val / 1024) % 2) * 1024 + q0.val % 1024 = q0.val; omega
    | ⟨1, _⟩ => show ((q1.val / 2176 * 2 + q0.val / 1024) / 2) * 2176 + q1.val % 2176 = q1.val; omega
  exact e ▸ View.emb_mem_set ((cfg0.win 2).blk t).view (ix2 (⟨q0.val % 1024, by omega⟩ : Fin 1024) (⟨q1.val % 2176, by omega⟩ : Fin 2176))

/-- The array the kernel leaves. -/
theorem final : (dats m 0 c).arrAt 2 cfg0.N = G m c :=
  (dats m 0 c).arrAt_eq_of_cover 2 (G m c) (fun t _ => flushed_eq m c t) cover

end Cert.Proj.V

namespace Cert.Proj

open Idealize.ShloMosaic Idealize.ShloMosaic.TcCoe Idealize.SL.Sem

/-- Over the real numbers with infinities, the kernel and its reference leave the same arrays. -/
theorem algebraic : Cert.algebraic_ProjKernelIdeal_ProjReferenceIdeal := by
  intro m ρ m' ρ' _ hagree
  refine ⟨fun c => V.G m c, ?_, ?_⟩
  · exact (θ_run Cert.ProjKernelIdeal.defs _ _).mono (fun r h c => ⟨(h c).1.trans (V.final m c), (h c).2⟩)
      (Cert.ProjKernelIdeal.Value.run_blocks (F := Ideal) m ρ)
  · refine (θ_run Cert.ProjReferenceIdeal.defs _ _).mono (fun r h c => ?_) (Cert.ProjReferenceIdeal.Value.run (F := Ideal) m' ρ')
    obtain ⟨a0, a1⟩ := hagree c
    refine ⟨(h c).1.trans ((Cert.ProjReferenceIdeal.Read.val_main_v5_eq (m' ((c.tc : Thread _ _).loc Cert.ProjReferenceIdeal.main_arg0)) (m' ((c.tc : Thread _ _).loc Cert.ProjReferenceIdeal.main_arg1))).trans ?_), (h c).2⟩
    · show Cert.ProjReferenceIdeal.Read.val_main_v5 (F := Ideal) (m' ((c.tc : Thread _ _).loc Cert.ProjReferenceIdeal.main_arg0)) (m' ((c.tc : Thread _ _).loc Cert.ProjReferenceIdeal.main_arg1)) = _
      rw [a0, a1]
      rfl

end Cert.Proj
-- ==== Proof.Dh1Value.lean ====
module

public import proofs.«01_k».proof.Defs
public import proofs.«01_k».proof.Proof.Gen.Dh1KernelIdeal.Value
public import proofs.«01_k».proof.Proof.Gen.Dh1ReferenceIdeal.Run
public import proofs.«01_k».proof.Proof.Gen.Dh1ReferenceIdeal.Read
public import Idealize.ShloMosaic.Lib.Pointwise
public import Idealize.ShloMosaic.Lib.Pipeline.Value
public import proofs.«01_k».proof.Proof.Swiglu
public import Idealize.ShloMosaic.Lib.Tactic

/-! The gradient through the fused input projection: the sums the kernel accumulates over its grid make up the reference's array. -/

@[expose] public section

set_option maxRecDepth 16384

noncomputable section

namespace Cert.Dh1.R

open Idealize.ShloMosaic
open Cert.Dh1ReferenceIdeal Cert.Dh1ReferenceIdeal.Gen Cert.Dh1ReferenceIdeal.Read

/-- The summand of the reference's product at row `p` and column `d`, over a column `f`. -/
def T (D : S2048x6528.Idx → EReal) (W : S1x2048x6528.Idx → EReal) (p : ℕ) (d : Fin 2048) (f : ℕ) : EReal :=
  D (ix2 ⟨p % 2048, by omega⟩ ⟨f % 6528, by omega⟩) * W (ix3 0 d ⟨f % 6528, by omega⟩)

/-- The reference's product: the sum of the summands over the columns. -/
theorem ref_apply (D : S2048x6528.Idx → EReal) (W : S1x2048x6528.Idx → EReal) (p d : Fin 2048) :
    (val_main_v7 (F := Ideal) D W (ix2 p d) : EReal) = ∑ f ∈ Finset.range 6528, T D W p.val d f := by
  have e : (val_main_v7 (F := Ideal) D W (ix2 p d) : EReal) = ∑ f : Fin 6528, D (ix2 p f) * W (ix3 0 d f) := by
    rw [← val_main_v7_eq]
    pointwise
  rw [e, Finset.sum_range]
  refine Finset.sum_congr rfl fun f _ => congrArg₂ (· * ·) (congrArg D ?_) (congrArg W (Cert.Swiglu.ix3_congr rfl rfl ?_))
  · funext a; apply Fin.ext
    match a with
    | ⟨0, _⟩ => show p.val = p.val % 2048; omega
    | ⟨1, _⟩ => show f.val = f.val % 6528; omega
  · show f.val = f.val % 6528; omega

end Cert.Dh1.R

namespace Cert.Dh1.V

open Idealize.ShloMosaic Idealize.ShloMosaic.TcCoe Idealize.SL.Sem
open Idealize.ShloMosaic.Pipeline (Dat)
open Cert.Dh1KernelIdeal Cert.Dh1KernelIdeal.Gen

variable (m : (ℓ : Loc nD τ sig) → Buf (Elt Ideal) ℓ) (ρ : Dev nD → PrngReg) (c : Dev nD)

/-- The arguments. -/ abbrev X0 : S2048x6528.Idx → EReal := m ((c : Thread nD τ).loc main_arg0)
@[inherit_doc X0] abbrev X1 : S1x2048x6528.Idx → EReal := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 6 points. -/
theorem tN (t : Fin cfg0.N) : t.val < 6 := N_0 ▸ t.isLt

/-- The block window 0 names at a point. -/
theorem idx0 : ∀ t : Fin grid0.N, win0_0.index t 0 = t.val / 3 ∧ win0_0.index t 1 = t.val % 3 := by decide +kernel

/-- Where an element of window 0's block lies in its array. -/
theorem emb0 (t : Fin cfg0.N) (y0 : Fin 1024) (y1 : Fin 2176) :
    ((win0_0.rect t).emb (ix2 y0 y1) : (⟨2, ![2048, 6528]⟩ : Shape).Idx) = ((ix2 ⟨t.val / 3 * 1024 + y0.val, by have := tN t; have := y0.isLt; omega⟩ ⟨t.val % 3 * 2176 + y1.val, by have := tN t; have := y1.isLt; omega⟩) : (⟨2, ![2048, 6528]⟩ : Shape).Idx) := by
  funext a; apply Fin.ext
  match a with
  | ⟨0, _⟩ => exact (Pipeline.Window.rect_emb_val win0_0 t _ _).trans (congrArg (· * 1024 + y0.val) (idx0 t).1)
  | ⟨1, _⟩ => exact (Pipeline.Window.rect_emb_val win0_0 t _ _).trans (congrArg (· * 2176 + y1.val) (idx0 t).2)

/-- Window 0's block at a point, read from the argument. -/
theorem blk0 (t : Fin cfg0.N) (y0 : Fin 1024) (y1 : Fin 2176) :
    (iblk m c 0 t : S1024x2176.Idx → EReal) (ix2 y0 y1) = X0 m c (ix2 ⟨t.val / 3 * 1024 + y0.val, by have := tN t; have := y0.isLt; omega⟩ ⟨t.val % 3 * 2176 + y1.val, by have := tN t; have := y1.isLt; omega⟩) := by
  show (V m c main_arg0 : S2048x6528.Idx → EReal) ((win0_0.rect t).emb (ix2 y0 y1)) = _
  rw [V_main_arg0, emb0]

/-- The block window 1 names at a point. -/
theorem idx1 : ∀ t : Fin grid0.N, win0_1.index t 0 = 0 ∧ win0_1.index t 1 = 0 ∧ win0_1.index t 2 = t.val % 3 := by decide +kernel

/-- Where an element of window 1's block lies in its array. -/
theorem emb1 (t : Fin cfg0.N) (y0 : Fin 1) (y1 : Fin 2048) (y2 : Fin 2176) :
    ((win0_1.rect t).emb (ix3 y0 y1 y2) : (⟨3, ![1, 2048, 6528]⟩ : Shape).Idx) = ((ix3 y0 y1 ⟨t.val % 3 * 2176 + y2.val, by have := tN t; have := y2.isLt; omega⟩) : (⟨3, ![1, 2048, 6528]⟩ : Shape).Idx) := by
  funext a; apply Fin.ext
  match a with
  | ⟨0, _⟩ => exact Pipeline.Window.rect_emb_val_of_index_zero win0_1 t _ (idx1 t).1 _
  | ⟨1, _⟩ => exact Pipeline.Window.rect_emb_val_of_index_zero win0_1 t _ (idx1 t).2.1 _
  | ⟨2, _⟩ => exact (Pipeline.Window.rect_emb_val win0_1 t _ _).trans (congrArg (· * 2176 + y2.val) (idx1 t).2.2)

/-- Window 1's block at a point, read from the argument. -/
theorem blk1 (t : Fin cfg0.N) (y0 : Fin 1) (y1 : Fin 2048) (y2 : Fin 2176) :
    (iblk m c 1 t : S1x2048x2176.Idx → EReal) (ix3 y0 y1 y2) = X1 m c (ix3 y0 y1 ⟨t.val % 3 * 2176 + y2.val, by have := tN t; have := y2.isLt; omega⟩) := by
  show (V m c main_arg1 : S1x2048x6528.Idx → EReal) ((win0_1.rect t).emb (ix3 y0 y1 y2)) = _
  rw [V_main_arg1, emb1]

/-- The block window 2 names at a point. -/
theorem idx2 : ∀ t : Fin grid0.N, win0_2.index t 0 = t.val / 3 ∧ win0_2.index t 1 = 0 := by decide +kernel

/-- Where an element of window 2's block lies in its array. -/
theorem emb2 (t : Fin cfg0.N) (y0 : Fin 1024) (y1 : Fin 2048) :
    ((win0_2.rect t).emb (ix2 y0 y1) : (⟨2, ![2048, 2048]⟩ : Shape).Idx) = ((ix2 ⟨t.val / 3 * 1024 + y0.val, by have := tN t; have := y0.isLt; omega⟩ y1) : (⟨2, ![2048, 2048]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact Pipeline.Window.rect_emb_val_of_index_zero win0_2 t _ (idx2 t).2 _

/-- The buffers a body's case reads and writes. -/
theorem out_A (c : Dev nD) (i : grid0.Coords) (a2 : Memref sig .tc .vmem S1024x2176 .bf16) (h2 : a2.IsWhole)
    (a3 : Memref sig .tc .vmem S1x2048x2176 .bf16) (h3 : a3.IsWhole) (a4 : Memref sig .tc .vmem S1024x2048 .f32) (h4 : a4.IsWhole)
    (hc0 : cond0_0 i) (hc1 : ¬cond0_1 i) (x0 : Vec Ideal S1024x2176 .bf16) (x1 : Vec Ideal S1x2048x2176 .bf16) :
    out0_A_2 c i a2 h2 a3 h3 a4 h4 hc0 hc1 x0 x1 = k0_pay1 x0 x1 := by
  unfold out0_A_2
  rw [View.read_writes_eq_canon _ _ _ (cover0_A_2 c i a2 h2 a3 h3 a4 h4 hc0 hc1 x0 x1)]
  unfold kernelRun0_A
  dsimp only
  rw [View.canon_unit_zero hz2]
  simp only [View.readAt_eq_ld, h2.read_unread, h3.read_unread, View.ld_unit_zero (S := S1024x2176) hz2, View.ld_unit_zero (S := S1x2048x2176) hz3]

/-- A point that is not the first of its period adds its product to what the point before left. -/
theorem out_B (c : Dev nD) (i : grid0.Coords) (a2 : Memref sig .tc .vmem S1024x2176 .bf16) (h2 : a2.IsWhole)
    (a3 : Memref sig .tc .vmem S1x2048x2176 .bf16) (h3 : a3.IsWhole) (a4 : Memref sig .tc .vmem S1024x2048 .f32) (h4 : a4.IsWhole)
    (hc0 : ¬cond0_0 i) (hc1 : cond0_1 i) (x0 : Vec Ideal S1024x2176 .bf16) (x1 : Vec Ideal S1x2048x2176 .bf16) (xo : Vec Ideal S1024x2048 .f32) :
    out0_B_2 c i a2 h2 a3 h3 a4 h4 hc0 hc1 x0 x1 xo = k0_pay2 x0 x1 xo := by
  unfold out0_B_2
  rw [View.read_writes_eq_canon _ _ _ (cover0_B_2 c i a2 h2 a3 h3 a4 h4 hc0 hc1 x0 x1 xo)]
  unfold kernelRun0_B
  dsimp only
  rw [View.canon_unit_zero hz2]
  simp only [View.readAt_eq_ld, h2.read_unread, h3.read_unread, h4.read_unread, View.ld_unit_zero (S := S1024x2176) hz2, View.ld_unit_zero (S := S1x2048x2176) hz3, View.ld_unit_zero (S := S1024x2048) hz2]

/-- The body's product at an element. -/
theorem pay1_apply (x0 : Vec Ideal S1024x2176 .bf16) (x1 : Vec Ideal S1x2048x2176 .bf16) (r : Fin 1024) (d : Fin 2048) :
    (k0_pay1 (F := Ideal) x0 x1 (ix2 r d) : EReal) = ∑ k : Fin 2176, x0 (ix2 r k) * x1 (ix3 0 d k) := by
  unfold k0_pay1
  pointwise

/-- What a point that adds leaves at an element. -/
theorem pay2_apply (x0 : Vec Ideal S1024x2176 .bf16) (x1 : Vec Ideal S1x2048x2176 .bf16) (xo : Vec Ideal S1024x2048 .f32) (r : Fin 1024) (d : Fin 2048) :
    (k0_pay2 (F := Ideal) x0 x1 xo (ix2 r d) : EReal) = xo (ix2 r d) + k0_pay1 (F := Ideal) x0 x1 (ix2 r d) := by
  unfold k0_pay2
  generalize k0_pay1 x0 x1 = D
  pointwise

/-- The product of a point's blocks: its part of the reference's sum. -/
theorem tile (t : Fin cfg0.N) (r : Fin 1024) (d : Fin 2048) :
    (k0_pay1 (F := Ideal) (iblk m c 0 t) (iblk m c 1 t) (ix2 r d) : EReal)
      = ∑ k ∈ Finset.range 2176, R.T (X0 m c) (X1 m c) (t.val / 3 * 1024 + r.val) d (t.val % 3 * 2176 + k) := by
  have ht := tN t
  refine (pay1_apply (iblk m c 0 t) (iblk m c 1 t) r d).trans ?_
  rw [Finset.sum_range]
  refine Finset.sum_congr rfl fun k _ => congrArg₂ (· * ·) ((blk0 m c t r k).trans (congrArg (X0 m c) ?_)) ((blk1 m c t 0 d k).trans (congrArg (X1 m c) (Cert.Swiglu.ix3_congr rfl rfl ?_)))
  · funext a; apply Fin.ext
    match a with
    | ⟨0, _⟩ => show t.val / 3 * 1024 + r.val = (t.val / 3 * 1024 + r.val) % 2048; omega
    | ⟨1, _⟩ => show t.val % 3 * 2176 + k.val = (t.val % 3 * 2176 + k.val) % 6528; omega
  · show t.val % 3 * 2176 + k.val = (t.val % 3 * 2176 + k.val) % 6528; omega

/-- What the output's buffer holds after a point: the reference's sum over the columns the point's period has reached. -/
theorem outs_eq : ∀ (n : ℕ) (h : n < cfg0.N) (r : Fin 1024) (d : Fin 2048),
    (outsAt0 m c n h (ix2 r d) : EReal)
      = ∑ f ∈ Finset.range (n % 3 * 2176 + 2176), R.T (X0 m c) (X1 m c) (n / 3 * 1024 + r.val) d f
  | 0, h, r, d => by
    have e := (outsAt0_A m c ⟨0, h⟩ rfl (by show ¬1 ≤ 0 % 3; omega)).trans (out_A ..)
    refine (congrFun e (ix2 r d)).trans ((tile m c ⟨0, h⟩ r d).trans ?_)
    simp
  | n + 1, h, r, d => by
    by_cases h0 : (n + 1) % 3 = 0
    · have e := (outsAt0_A m c ⟨n + 1, h⟩ h0 (by show ¬1 ≤ (n + 1) % 3; omega)).trans (out_A ..)
      refine (congrFun e (ix2 r d)).trans ((tile m c ⟨n + 1, h⟩ r d).trans ?_)
      show ∑ k ∈ Finset.range 2176, R.T (X0 m c) (X1 m c) ((n + 1) / 3 * 1024 + r.val) d ((n + 1) % 3 * 2176 + k) = _
      rw [h0]
      simp only [Nat.zero_mul, Nat.zero_add]
    · have e := (outsAt0_B m c ⟨n + 1, h⟩ h0 (by show 1 ≤ (n + 1) % 3; omega)).trans (out_B ..)
      refine (congrFun e (ix2 r d)).trans ((pay2_apply _ _ _ r d).trans ?_)
      refine (congrArg₂ (· + ·) (outs_eq n (Nat.lt_of_succ_lt h) r d) (tile m c ⟨n + 1, h⟩ r d)).trans ?_
      show ∑ f ∈ Finset.range (n % 3 * 2176 + 2176), R.T (X0 m c) (X1 m c) (n / 3 * 1024 + r.val) d f
          + ∑ k ∈ Finset.range 2176, R.T (X0 m c) (X1 m c) ((n + 1) / 3 * 1024 + r.val) d ((n + 1) % 3 * 2176 + k) = _
      rw [show n % 3 * 2176 + 2176 = (n + 1) % 3 * 2176 by omega, show n / 3 = (n + 1) / 3 by omega]
      exact (Finset.sum_range_add _ _ _).symm

/-- The array the reference leaves, over the kernel's arguments. -/
def G : S2048x2048.Idx → EReal := Cert.Dh1ReferenceIdeal.Read.val_main_v7 (F := Ideal) (X0 m c) (X1 m c)

/-- The block a point leaves is that point's block of the reference's array. -/
theorem flushed_eq (t : Fin cfg0.N) (hf : t.val % 3 = 2) :
    (dats m 0 c).flushed 2 t = ((cfg0.win 2).blk t).view.read (Elt Ideal) (G m c) := by
  rw [Value.flushed2]
  funext y
  obtain ⟨y0, y1, rfl⟩ : ∃ (y0 : Fin 1024) (y1 : Fin 2048), y = (ix2 y0 y1) := ⟨y 0, y 1, eq_ix2 y⟩
  refine (outs_eq m c t.val t.isLt y0 y1).trans ?_
  show _ = G m c ((win0_2.rect t).emb (ix2 y0 y1))
  rw [emb2]
  refine Eq.trans ?_ (R.ref_apply (X0 m c) (X1 m c) _ _).symm
  rw [hf]

/-- Every element of the array lies in some point's block. -/
theorem cover (i : S2048x2048.Idx) : ∃ t : Fin cfg0.N, (cfg0.win 2).flush t = true ∧ i ∈ ((cfg0.win 2).blk t).view.set := by
  obtain ⟨q0, q1, rfl⟩ : ∃ (q0 : Fin 2048) (q1 : Fin 2048), i = (ix2 q0 q1) := ⟨i 0, i 1, eq_ix2 i⟩
  have hN : cfg0.N = 6 := N_0
  have h0 := q0.isLt
  have h1 := q1.isLt
  let t : Fin cfg0.N := ⟨q0.val / 1024 * 3 + 2, by omega⟩
  refine ⟨t, (flush0_2 t).mpr (by show (q0.val / 1024 * 3 + 2) % 3 = 2; omega), ?_⟩
  have e : ((win0_2.rect t).emb (ix2 (⟨q0.val % 1024, by omega⟩ : Fin 1024) (q1 : Fin 2048)) : S2048x2048.Idx) = (ix2 q0 q1) := by
    refine (emb2 t ⟨q0.val % 1024, by omega⟩ q1).trans ?_
    funext a; apply Fin.ext
    match a with
    | ⟨0, _⟩ => show ((q0.val / 1024 * 3 + 2) / 3) * 1024 + q0.val % 1024 = q0.val; omega
    | ⟨1, _⟩ => rfl
  exact e ▸ View.emb_mem_set ((cfg0.win 2).blk t).view (ix2 (⟨q0.val % 1024, by omega⟩ : Fin 1024) (q1 : Fin 2048))

/-- The array the kernel leaves. -/
theorem final : (dats m 0 c).arrAt 2 cfg0.N = G m c :=
  (dats m 0 c).arrAt_eq_of_cover 2 (G m c) (fun t h => flushed_eq m c t ((flush0_2 t).mp h)) cover

end Cert.Dh1.V

namespace Cert.Dh1

open Idealize.ShloMosaic Idealize.ShloMosaic.TcCoe Idealize.SL.Sem

/-- Over the real numbers with infinities, the kernel and its reference leave the same arrays. -/
theorem algebraic : Cert.algebraic_Dh1KernelIdeal_Dh1ReferenceIdeal := by
  intro m ρ m' ρ' _ hagree
  refine ⟨fun c => V.G m c, ?_, ?_⟩
  · exact (θ_run Cert.Dh1KernelIdeal.defs _ _).mono (fun r h c => ⟨(h c).1.trans (V.final m c), (h c).2⟩)
      (Cert.Dh1KernelIdeal.Value.run_blocks (F := Ideal) m ρ)
  · refine (θ_run Cert.Dh1ReferenceIdeal.defs _ _).mono (fun r h c => ?_) (Cert.Dh1ReferenceIdeal.Value.run (F := Ideal) m' ρ')
    obtain ⟨a0, a1⟩ := hagree c
    refine ⟨(h c).1.trans ((Cert.Dh1ReferenceIdeal.Read.val_main_v7_eq (m' ((c.tc : Thread _ _).loc Cert.Dh1ReferenceIdeal.main_arg0)) (m' ((c.tc : Thread _ _).loc Cert.Dh1ReferenceIdeal.main_arg1))).trans ?_), (h c).2⟩
    · show Cert.Dh1ReferenceIdeal.Read.val_main_v7 (F := Ideal) (m' ((c.tc : Thread _ _).loc Cert.Dh1ReferenceIdeal.main_arg0)) (m' ((c.tc : Thread _ _).loc Cert.Dh1ReferenceIdeal.main_arg1)) = _
      rw [a0, a1]
      rfl

end Cert.Dh1
-- ==== Proof.DwinValue.lean ====
module

public import proofs.«01_k».proof.Defs
public import proofs.«01_k».proof.Proof.Gen.DwinKernelIdeal.Value
public import proofs.«01_k».proof.Proof.Gen.DwinReferenceIdeal.Run
public import proofs.«01_k».proof.Proof.Gen.DwinReferenceIdeal.Read
public import Idealize.ShloMosaic.Lib.Pointwise
public import Idealize.ShloMosaic.Lib.Pipeline.Value

/-! The weight gradient of the input projection: the blocks of the kernel make up the reference's array. -/

@[expose] public section

set_option maxRecDepth 16384

noncomputable section

namespace Cert.Dwin.R

open Idealize.ShloMosaic
open Cert.DwinReferenceIdeal Cert.DwinReferenceIdeal.Gen Cert.DwinReferenceIdeal.Read

/-- The contraction over a unit axis and the rows at once: its index at row `k`. -/
def cidx (k : Fin 2048) : dot_S1x2048x6528_S1x2048x2048_S6528x2048_01_01_2_2_n_n.contr.Idx := fun p =>
  match p with
  | ⟨0, _⟩ => (0 : Fin 1)
  | ⟨1, _⟩ => k

/-- That contraction's sum as the sum over the rows. -/
theorem dot_sum (l : FVec Ideal S1x2048x6528 .f32) (r : FVec Ideal S1x2048x2048 .f32) (i : Fin 6528) (j : Fin 2048) :
    (Host.dotGeneral dot_S1x2048x6528_S1x2048x2048_S6528x2048_01_01_2_2_n_n none l r (ix2 i j) : EReal) = ∑ k : Fin 2048, l (ix3 0 k i) * r (ix3 0 k j) := by
  have e : ∀ f : dot_S1x2048x6528_S1x2048x2048_S6528x2048_01_01_2_2_n_n.contr.Idx → EReal, ∑ k, f k = ∑ k : Fin 2048, f (cidx k) := by
    intro f
    refine (Fintype.sum_bijective cidx ⟨?_, ?_⟩ _ _ fun _ => rfl).symm
    · intro x y h
      exact congrFun h ⟨1, by decide⟩
    · intro y
      refine ⟨y ⟨1, by decide⟩, ?_⟩
      funext p
      match p with
      | ⟨0, _⟩ => exact (Fin.fin_one_eq_zero (y ⟨0, by decide⟩)).symm
      | ⟨1, _⟩ => rfl
  simp only [Host.dotGeneral]
  rw [Ideal.dotGeneral_apply, e]
  refine Finset.sum_congr rfl fun k _ => ?_
  congr 2
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-- The reference's weight gradient: at row `p` and column `q` the sum over the tokens of the activation times the
    upstream gradient. -/
theorem ref_apply (a : S2048x2048.Idx → EReal) (d : S2048x6528.Idx → EReal) (p : Fin 2048) (q : Fin 6528) :
    (val_main_v8 (F := Ideal) a d (ix2 p q) : EReal) = ∑ k : Fin 2048, a (ix2 k p) * d (ix2 k q) := by
  have e : (val_main_v8 (F := Ideal) a d (ix2 p q) : EReal) = val_main_v6 (F := Ideal) a d (ix2 q p) := by
    unfold val_main_v8 val_main_v7
    generalize val_main_v6 (F := Ideal) a d = y
    pointwise
  rw [e]
  unfold val_main_v6
  rw [dot_sum]
  refine Finset.sum_congr rfl fun k _ => ?_
  have e0 : (val_main_v5 (F := Ideal) d (ix3 0 k q) : EReal) = d (ix2 k q) := by
    unfold val_main_v5 val_main_v4
    pointwise
  have e1 : (val_main_v1 (F := Ideal) a (ix3 0 k p) : EReal) = a (ix2 k p) := by
    unfold val_main_v1 val_main_v0
    pointwise
  rw [e0, e1, mul_comm]

end Cert.Dwin.R

namespace Cert.Dwin.V

open Idealize.ShloMosaic Idealize.ShloMosaic.TcCoe Idealize.SL.Sem
open Idealize.ShloMosaic.Pipeline (Dat)
open Cert.DwinKernelIdeal Cert.DwinKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S2048x6528.Idx → EReal := m ((c : Thread nD τ).loc main_arg1)

theorem hz2 : (![0, 0] : Fin 2 → Nat) = fun _ => 0 := funext fun a => by fin_cases a <;> rfl

/-- The grid has 6 points. -/
theorem tN (t : Fin cfg0.N) : t.val < 6 := N_0 ▸ t.isLt

/-- The block window 0 names at a point. -/
theorem idx0 : ∀ t : Fin grid0.N, win0_0.index t 0 = 0 ∧ win0_0.index t 1 = t.val % 2 := by decide +kernel

/-- Where an element of window 0's block lies in its array. -/
theorem emb0 (t : Fin cfg0.N) (y0 : Fin 2048) (y1 : Fin 1024) :
    ((win0_0.rect t).emb (ix2 y0 y1) : (⟨2, ![2048, 2048]⟩ : Shape).Idx) = ((ix2 y0 ⟨t.val % 2 * 1024 + y1.val, by have := tN t; have := y1.isLt; omega⟩) : (⟨2, ![2048, 2048]⟩ : Shape).Idx) := by
  funext a; apply Fin.ext
  match a with
  | ⟨0, _⟩ => exact Pipeline.Window.rect_emb_val_of_index_zero win0_0 t _ (idx0 t).1 _
  | ⟨1, _⟩ => exact (Pipeline.Window.rect_emb_val win0_0 t _ _).trans (congrArg (· * 1024 + y1.val) (idx0 t).2)

/-- Window 0's block at a point, read from the argument. -/
theorem blk0 (t : Fin cfg0.N) (y0 : Fin 2048) (y1 : Fin 1024) :
    (iblk m c 0 t : S2048x1024.Idx → EReal) (ix2 y0 y1) = X0 m c (ix2 y0 ⟨t.val % 2 * 1024 + y1.val, by have := tN t; have := y1.isLt; omega⟩) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = 0 ∧ win0_1.index t 1 = t.val / 2 := by decide +kernel

/-- Where an element of window 1's block lies in its array. -/
theorem emb1 (t : Fin cfg0.N) (y0 : Fin 2048) (y1 : Fin 2176) :
    ((win0_1.rect t).emb (ix2 y0 y1) : (⟨2, ![2048, 6528]⟩ : Shape).Idx) = ((ix2 y0 ⟨t.val / 2 * 2176 + y1.val, by have := tN t; have := y1.isLt; omega⟩) : (⟨2, ![2048, 6528]⟩ : Shape).Idx) := by
  funext a; apply Fin.ext
  match a with
  | ⟨0, _⟩ => exact Pipeline.Window.rect_emb_val_of_index_zero win0_1 t _ (idx1 t).1 _
  | ⟨1, _⟩ => exact (Pipeline.Window.rect_emb_val win0_1 t _ _).trans (congrArg (· * 2176 + y1.val) (idx1 t).2)

/-- Window 1's block at a point, read from the argument. -/
theorem blk1 (t : Fin cfg0.N) (y0 : Fin 2048) (y1 : Fin 2176) :
    (iblk m c 1 t : S2048x2176.Idx → EReal) (ix2 y0 y1) = X1 m c (ix2 y0 ⟨t.val / 2 * 2176 + y1.val, by have := tN t; have := y1.isLt; omega⟩) := by
  show (V m c main_arg1 : S2048x6528.Idx → EReal) ((win0_1.rect t).emb (ix2 y0 y1)) = _
  rw [V_main_arg1, emb1]

/-- The block window 2 names at a point. -/
theorem idx2 : ∀ t : Fin grid0.N, win0_2.index t 0 = t.val % 2 ∧ win0_2.index t 1 = t.val / 2 := by decide +kernel

/-- Where an element of window 2's block lies in its array. -/
theorem emb2 (t : Fin cfg0.N) (y0 : Fin 1024) (y1 : Fin 2176) :
    ((win0_2.rect t).emb (ix2 y0 y1) : (⟨2, ![2048, 6528]⟩ : Shape).Idx) = ((ix2 ⟨t.val % 2 * 1024 + y0.val, by have := tN t; have := y0.isLt; omega⟩ ⟨t.val / 2 * 2176 + y1.val, by have := tN t; have := y1.isLt; omega⟩) : (⟨2, ![2048, 6528]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact (Pipeline.Window.rect_emb_val win0_2 t _ _).trans (congrArg (· * 2176 + y1.val) (idx2 t).2)

/-- A load of a whole block reads the block. -/
theorem l0 (X : Vec Ideal S2048x1024 .bf16) : View.ld X r0_0 = X := View.ld_unit_zero hz2 _ X

/-- A load of a whole block reads the block. -/
theorem l1 (X : Vec Ideal S2048x2176 .bf16) : View.ld X r0_1 = X := View.ld_unit_zero hz2 _ X

/-- What the body leaves in its output block, read at an element. -/
theorem out_apply (x0 : Vec Ideal S2048x1024 .bf16) (x1 : Vec Ideal S2048x2176 .bf16) (r : Fin 1024) (d : Fin 2176) :
    (out0_2 (F := Ideal) x0 x1 (ix2 r d) : EReal) = ∑ k : Fin 2048, x0 (ix2 k r) * x1 (ix2 k d) := by
  unfold out0_2
  rw [View.canon_unit_zero hz2]
  simp only [l0, l1]
  unfold k0_pay1
  pointwise

/-- The array the reference leaves, over the kernel's arguments. -/
def G : S2048x6528.Idx → EReal := Cert.DwinReferenceIdeal.Read.val_main_v8 (F := Ideal) (X0 m c) (X1 m c)

/-- The block a point leaves is that point's block of the reference's array. -/
theorem flushed_eq (t : Fin cfg0.N) :
    (dats m 0 c).flushed 2 t = ((cfg0.win 2).blk t).view.read (Elt Ideal) (G m c) := by
  rw [Value.flushed2]
  funext y
  obtain ⟨y0, y1, rfl⟩ : ∃ (y0 : Fin 1024) (y1 : Fin 2176), y = (ix2 y0 y1) := ⟨y 0, y 1, eq_ix2 y⟩
  refine (out_apply (iblk m c 0 t) (iblk m c 1 t) y0 y1).trans ?_
  show _ = G m c ((win0_2.rect t).emb (ix2 y0 y1))
  rw [emb2]
  refine Eq.trans ?_ (R.ref_apply (X0 m c) (X1 m c) _ _).symm
  exact Finset.sum_congr rfl fun k _ => congrArg₂ (· * ·) (blk0 m c t k y0) (blk1 m c t k y1)

/-- Every element of the array lies in some point's block. -/
theorem cover (i : S2048x6528.Idx) : ∃ t : Fin cfg0.N, (cfg0.win 2).flush t = true ∧ i ∈ ((cfg0.win 2).blk t).view.set := by
  obtain ⟨q0, q1, rfl⟩ : ∃ (q0 : Fin 2048) (q1 : Fin 6528), i = (ix2 q0 q1) := ⟨i 0, i 1, eq_ix2 i⟩
  have hN : cfg0.N = 6 := N_0
  have h0 := q0.isLt
  have h1 := q1.isLt
  let t : Fin cfg0.N := ⟨q1.val / 2176 * 2 + q0.val / 1024, by omega⟩
  refine ⟨t, flush0_2 _, ?_⟩
  have e : ((win0_2.rect t).emb (ix2 (⟨q0.val % 1024, by omega⟩ : Fin 1024) (⟨q1.val % 2176, by omega⟩ : Fin 2176)) : S2048x6528.Idx) = (ix2 q0 q1) := by
    refine (emb2 t ⟨q0.val % 1024, by omega⟩ ⟨q1.val % 2176, by omega⟩).trans ?_
    funext a; apply Fin.ext
    match a with
    | ⟨0, _⟩ => show ((q1.val / 2176 * 2 + q0.val / 1024) % 2) * 1024 + q0.val % 1024 = q0.val; omega
    | ⟨1, _⟩ => show ((q1.val / 2176 * 2 + q0.val / 1024) / 2) * 2176 + q1.val % 2176 = q1.val; omega
  exact e ▸ View.emb_mem_set ((cfg0.win 2).blk t).view (ix2 (⟨q0.val % 1024, by omega⟩ : Fin 1024) (⟨q1.val % 2176, by omega⟩ : Fin 2176))

/-- The array the kernel leaves. -/
theorem final : (dats m 0 c).arrAt 2 cfg0.N = G m c :=
  (dats m 0 c).arrAt_eq_of_cover 2 (G m c) (fun t _ => flushed_eq m c t) cover

end Cert.Dwin.V

namespace Cert.Dwin

open Idealize.ShloMosaic Idealize.ShloMosaic.TcCoe Idealize.SL.Sem

/-- Over the real numbers with infinities, the kernel and its reference leave the same arrays. -/
theorem algebraic : Cert.algebraic_DwinKernelIdeal_DwinReferenceIdeal := by
  intro m ρ m' ρ' _ hagree
  refine ⟨fun c => V.G m c, ?_, ?_⟩
  · exact (θ_run Cert.DwinKernelIdeal.defs _ _).mono (fun r h c => ⟨(h c).1.trans (V.final m c), (h c).2⟩)
      (Cert.DwinKernelIdeal.Value.run_blocks (F := Ideal) m ρ)
  · refine (θ_run Cert.DwinReferenceIdeal.defs _ _).mono (fun r h c => ?_) (Cert.DwinReferenceIdeal.Value.run (F := Ideal) m' ρ')
    obtain ⟨a0, a1⟩ := hagree c
    refine ⟨(h c).1.trans ((Cert.DwinReferenceIdeal.Read.val_main_v8_eq (m' ((c.tc : Thread _ _).loc Cert.DwinReferenceIdeal.main_arg0)) (m' ((c.tc : Thread _ _).loc Cert.DwinReferenceIdeal.main_arg1))).trans ?_), (h c).2⟩
    · show Cert.DwinReferenceIdeal.Read.val_main_v8 (F := Ideal) (m' ((c.tc : Thread _ _).loc Cert.DwinReferenceIdeal.main_arg0)) (m' ((c.tc : Thread _ _).loc Cert.DwinReferenceIdeal.main_arg1)) = _
      rw [a0, a1]
      rfl

end Cert.Dwin
-- ==== Proof.OutValue.lean ====
module

public import proofs.«01_k».proof.Defs
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.Pointwise
public import Idealize.ShloMosaic.Lib.Pipeline.Value

/-! The output projection with its residual: the blocks of the kernel make up the reference's array. -/

@[expose] public section

set_option maxRecDepth 16384

noncomputable section

namespace Cert.Out.R

open Idealize.ShloMosaic
open Cert.OutReferenceIdeal Cert.OutReferenceIdeal.Gen Cert.OutReferenceIdeal.Read

/-- The reference's product at row `p` and column `q`, with the residual. -/
theorem ref_apply (a : S2048x2048.Idx → EReal) (w : S1x2048x2048.Idx → EReal) (x : S2048x2048.Idx → EReal) (p : Fin 2048) (q : Fin 2048) :
    (val_main_v6 (F := Ideal) a w x (ix2 p q) : EReal) = x (ix2 p q) + ∑ k : Fin 2048, a (ix2 p k) * w (ix3 0 k q) := by
  rw [← val_main_v6_eq]
  pointwise

end Cert.Out.R

namespace Cert.Out.V

open Idealize.ShloMosaic Idealize.ShloMosaic.TcCoe Idealize.SL.Sem
open Idealize.ShloMosaic.Pipeline (Dat)
open Cert.OutKernelIdeal Cert.OutKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S1x2048x2048.Idx → EReal := m ((c : Thread nD τ).loc main_arg1)
@[inherit_doc X0] abbrev X2 : S2048x2048.Idx → EReal := m ((c : Thread nD τ).loc main_arg2)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 4 points. -/
theorem tN (t : Fin cfg0.N) : t.val < 4 := N_0 ▸ t.isLt

/-- The block window 0 names at a point. -/
theorem idx0 : ∀ t : Fin grid0.N, win0_0.index t 0 = t.val % 2 ∧ win0_0.index t 1 = 0 := by decide +kernel

/-- Where an element of window 0's block lies in its array. -/
theorem emb0 (t : Fin cfg0.N) (y0 : Fin 1024) (y1 : Fin 2048) :
    ((win0_0.rect t).emb (ix2 y0 y1) : (⟨2, ![2048, 2048]⟩ : Shape).Idx) = ((ix2 ⟨t.val % 2 * 1024 + y0.val, by have := tN t; have := y0.isLt; omega⟩ y1) : (⟨2, ![2048, 2048]⟩ : Shape).Idx) := by
  funext a; apply Fin.ext
  match a with
  | ⟨0, _⟩ => exact (Pipeline.Window.rect_emb_val win0_0 t _ _).trans (congrArg (· * 1024 + y0.val) (idx0 t).1)
  | ⟨1, _⟩ => exact Pipeline.Window.rect_emb_val_of_index_zero win0_0 t _ (idx0 t).2 _

/-- Window 0's block at a point, read from the argument. -/
theorem blk0 (t : Fin cfg0.N) (y0 : Fin 1024) (y1 : Fin 2048) :
    (iblk m c 0 t : S1024x2048.Idx → EReal) (ix2 y0 y1) = X0 m c (ix2 ⟨t.val % 2 * 1024 + y0.val, by have := tN t; have := y0.isLt; omega⟩ y1) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = 0 ∧ win0_1.index t 1 = 0 ∧ win0_1.index t 2 = t.val / 2 := by decide +kernel

/-- Where an element of window 1's block lies in its array. -/
theorem emb1 (t : Fin cfg0.N) (y0 : Fin 1) (y1 : Fin 2048) (y2 : Fin 1024) :
    ((win0_1.rect t).emb (ix3 y0 y1 y2) : (⟨3, ![1, 2048, 2048]⟩ : Shape).Idx) = ((ix3 y0 y1 ⟨t.val / 2 * 1024 + y2.val, by have := tN t; have := y2.isLt; omega⟩) : (⟨3, ![1, 2048, 2048]⟩ : Shape).Idx) := by
  funext a; apply Fin.ext
  match a with
  | ⟨0, _⟩ => exact Pipeline.Window.rect_emb_val_of_index_zero win0_1 t _ (idx1 t).1 _
  | ⟨1, _⟩ => exact Pipeline.Window.rect_emb_val_of_index_zero win0_1 t _ (idx1 t).2.1 _
  | ⟨2, _⟩ => exact (Pipeline.Window.rect_emb_val win0_1 t _ _).trans (congrArg (· * 1024 + y2.val) (idx1 t).2.2)

/-- Window 1's block at a point, read from the argument. -/
theorem blk1 (t : Fin cfg0.N) (y0 : Fin 1) (y1 : Fin 2048) (y2 : Fin 1024) :
    (iblk m c 1 t : S1x2048x1024.Idx → EReal) (ix3 y0 y1 y2) = X1 m c (ix3 y0 y1 ⟨t.val / 2 * 1024 + y2.val, by have := tN t; have := y2.isLt; omega⟩) := by
  show (V m c main_arg1 : S1x2048x2048.Idx → EReal) ((win0_1.rect t).emb (ix3 y0 y1 y2)) = _
  rw [V_main_arg1, emb1]

/-- The block window 2 names at a point. -/
theorem idx2 : ∀ t : Fin grid0.N, win0_2.index t 0 = t.val % 2 ∧ win0_2.index t 1 = t.val / 2 := by decide +kernel

/-- Where an element of window 2's block lies in its array. -/
theorem emb2 (t : Fin cfg0.N) (y0 : Fin 1024) (y1 : Fin 1024) :
    ((win0_2.rect t).emb (ix2 y0 y1) : (⟨2, ![2048, 2048]⟩ : Shape).Idx) = ((ix2 ⟨t.val % 2 * 1024 + y0.val, by have := tN t; have := y0.isLt; omega⟩ ⟨t.val / 2 * 1024 + y1.val, by have := tN t; have := y1.isLt; omega⟩) : (⟨2, ![2048, 2048]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact (Pipeline.Window.rect_emb_val win0_2 t _ _).trans (congrArg (· * 1024 + y1.val) (idx2 t).2)

/-- Window 2's block at a point, read from the argument. -/
theorem blk2 (t : Fin cfg0.N) (y0 : Fin 1024) (y1 : Fin 1024) :
    (iblk m c 2 t : S1024x1024.Idx → EReal) (ix2 y0 y1) = X2 m c (ix2 ⟨t.val % 2 * 1024 + y0.val, by have := tN t; have := y0.isLt; omega⟩ ⟨t.val / 2 * 1024 + y1.val, by have := tN t; have := y1.isLt; omega⟩) := by
  show (V m c main_arg2 : S2048x2048.Idx → EReal) ((win0_2.rect t).emb (ix2 y0 y1)) = _
  rw [V_main_arg2, emb2]

/-- The block window 3 names at a point. -/
theorem idx3 : ∀ t : Fin grid0.N, win0_3.index t 0 = t.val % 2 ∧ win0_3.index t 1 = t.val / 2 := by decide +kernel

/-- Where an element of window 3's block lies in its array. -/
theorem emb3 (t : Fin cfg0.N) (y0 : Fin 1024) (y1 : Fin 1024) :
    ((win0_3.rect t).emb (ix2 y0 y1) : (⟨2, ![2048, 2048]⟩ : Shape).Idx) = ((ix2 ⟨t.val % 2 * 1024 + y0.val, by have := tN t; have := y0.isLt; omega⟩ ⟨t.val / 2 * 1024 + y1.val, by have := tN t; have := y1.isLt; omega⟩) : (⟨2, ![2048, 2048]⟩ : Shape).Idx) := by
  funext a; apply Fin.ext
  match a with
  | ⟨0, _⟩ => exact (Pipeline.Window.rect_emb_val win0_3 t _ _).trans (congrArg (· * 1024 + y0.val) (idx3 t).1)
  | ⟨1, _⟩ => exact (Pipeline.Window.rect_emb_val win0_3 t _ _).trans (congrArg (· * 1024 + y1.val) (idx3 t).2)

/-- A load of a whole block reads the block. -/
theorem l0 (X : Vec Ideal S1024x2048 .bf16) : View.ld X r0_0 = X := View.ld_unit_zero hz2 _ X

/-- A load of a whole block reads the block. -/
theorem l1 (X : Vec Ideal S1x2048x1024 .bf16) : View.ld X r0_1 = X := View.ld_unit_zero hz3 _ X

/-- A load of a whole block reads the block. -/
theorem l2 (X : Vec Ideal S1024x1024 .f32) : View.ld X r0_2 = X := View.ld_unit_zero hz2 _ X

/-- What the body leaves in its output block, read at an element. -/
theorem out_apply (x0 : Vec Ideal S1024x2048 .bf16) (x1 : Vec Ideal S1x2048x1024 .bf16) (x2 : Vec Ideal S1024x1024 .f32) (r : Fin 1024) (d : Fin 1024) :
    (out0_3 (F := Ideal) x0 x1 x2 (ix2 r d) : EReal) = (∑ k : Fin 2048, x0 (ix2 r k) * x1 (ix3 0 k d)) + x2 (ix2 r d) := by
  unfold out0_3
  rw [View.canon_unit_zero hz2]
  simp only [l0, l1, l2]
  unfold k0_pay1
  pointwise

/-- The array the reference leaves, over the kernel's arguments. -/
def G : S2048x2048.Idx → EReal := Cert.OutReferenceIdeal.Read.val_main_v6 (F := Ideal) (X0 m c) (X1 m c) (X2 m c)

/-- The block a point leaves is that point's block of the reference's array. -/
theorem flushed_eq (t : Fin cfg0.N) :
    (dats m 0 c).flushed 3 t = ((cfg0.win 3).blk t).view.read (Elt Ideal) (G m c) := by
  rw [Value.flushed3]
  funext y
  obtain ⟨y0, y1, rfl⟩ : ∃ (y0 : Fin 1024) (y1 : Fin 1024), y = (ix2 y0 y1) := ⟨y 0, y 1, eq_ix2 y⟩
  refine (out_apply (iblk m c 0 t) (iblk m c 1 t) (iblk m c 2 t) y0 y1).trans ?_
  show _ = G m c ((win0_3.rect t).emb (ix2 y0 y1))
  rw [emb3]
  refine Eq.trans ?_ (R.ref_apply (X0 m c) (X1 m c) (X2 m c) _ _).symm
  refine (add_comm _ _).trans (congrArg₂ (· + ·) (blk2 m c t y0 y1) ?_)
  exact Finset.sum_congr rfl fun k _ => congrArg₂ (· * ·) (blk0 m c t y0 k) (blk1 m c t 0 k y1)

/-- Every element of the array lies in some point's block. -/
theorem cover (i : S2048x2048.Idx) : ∃ t : Fin cfg0.N, (cfg0.win 3).flush t = true ∧ i ∈ ((cfg0.win 3).blk t).view.set := by
  obtain ⟨q0, q1, rfl⟩ : ∃ (q0 : Fin 2048) (q1 : Fin 2048), i = (ix2 q0 q1) := ⟨i 0, i 1, eq_ix2 i⟩
  have hN : cfg0.N = 4 := N_0
  have h0 := q0.isLt
  have h1 := q1.isLt
  let t : Fin cfg0.N := ⟨q1.val / 1024 * 2 + q0.val / 1024, by omega⟩
  refine ⟨t, flush0_3 _, ?_⟩
  have e : ((win0_3.rect t).emb (ix2 (⟨q0.val % 1024, by omega⟩ : Fin 1024) (⟨q1.val % 1024, by omega⟩ : Fin 1024)) : S2048x2048.Idx) = (ix2 q0 q1) := by
    refine (emb3 t ⟨q0.val % 1024, by omega⟩ ⟨q1.val % 1024, by omega⟩).trans ?_
    funext a; apply Fin.ext
    match a with
    | ⟨0, _⟩ => show ((q1.val / 1024 * 2 + q0.val / 1024) % 2) * 1024 + q0.val % 1024 = q0.val; omega
    | ⟨1, _⟩ => show ((q1.val / 1024 * 2 + q0.val / 1024) / 2) * 1024 + q1.val % 1024 = q1.val; omega
  exact e ▸ View.emb_mem_set ((cfg0.win 3).blk t).view (ix2 (⟨q0.val % 1024, by omega⟩ : Fin 1024) (⟨q1.val % 1024, by omega⟩ : Fin 1024))

/-- The array the kernel leaves. -/
theorem final : (dats m 0 c).arrAt 3 cfg0.N = G m c :=
  (dats m 0 c).arrAt_eq_of_cover 3 (G m c) (fun t _ => flushed_eq m c t) cover

end Cert.Out.V

namespace Cert.Out

open Idealize.ShloMosaic Idealize.ShloMosaic.TcCoe Idealize.SL.Sem

/-- Over the real numbers with infinities, the kernel and its reference leave the same arrays. -/
theorem algebraic : Cert.algebraic_OutKernelIdeal_OutReferenceIdeal := by
  intro m ρ m' ρ' _ hagree
  refine ⟨fun c => V.G m c, ?_, ?_⟩
  · exact (θ_run Cert.OutKernelIdeal.defs _ _).mono (fun r h c => ⟨(h c).1.trans (V.final m c), (h c).2⟩)
      (Cert.OutKernelIdeal.Value.run_blocks (F := Ideal) m ρ)
  · refine (θ_run Cert.OutReferenceIdeal.defs _ _).mono (fun r h c => ?_) (Cert.OutReferenceIdeal.Value.run (F := Ideal) m' ρ')
    obtain ⟨a0, a1, a2⟩ := hagree c
    refine ⟨(h c).1.trans ((Cert.OutReferenceIdeal.Read.val_main_v6_eq (m' ((c.tc : Thread _ _).loc Cert.OutReferenceIdeal.main_arg0)) (m' ((c.tc : Thread _ _).loc Cert.OutReferenceIdeal.main_arg1)) (m' ((c.tc : Thread _ _).loc Cert.OutReferenceIdeal.main_arg2))).trans ?_), (h c).2⟩
    · show Cert.OutReferenceIdeal.Read.val_main_v6 (F := Ideal) (m' ((c.tc : Thread _ _).loc Cert.OutReferenceIdeal.main_arg0)) (m' ((c.tc : Thread _ _).loc Cert.OutReferenceIdeal.main_arg1)) (m' ((c.tc : Thread _ _).loc Cert.OutReferenceIdeal.main_arg2)) = _
      rw [a0, a1, a2]
      rfl

end Cert.Out
-- ==== Proof.DmixValue.lean ====
module

public import proofs.«01_k».proof.Defs
public import proofs.«01_k».proof.Proof.Gen.DmixKernelIdeal.Value
public import proofs.«01_k».proof.Proof.Gen.DmixReferenceIdeal.Run
public import proofs.«01_k».proof.Proof.Gen.DmixReferenceIdeal.Read
public import Idealize.ShloMosaic.Lib.Pointwise
public import Idealize.ShloMosaic.Lib.Pipeline.Value

/-! The input gradient of the output projection: the blocks of the kernel make up the reference's array. -/

@[expose] public section

set_option maxRecDepth 16384

noncomputable section

namespace Cert.Dmix.R

open Idealize.ShloMosaic
open Cert.DmixReferenceIdeal Cert.DmixReferenceIdeal.Gen Cert.DmixReferenceIdeal.Read

/-- The reference's product at row `p` and column `q`. -/
theorem ref_apply (a : S2048x2048.Idx → EReal) (w : S1x2048x2048.Idx → EReal) (p : Fin 2048) (q : Fin 2048) :
    (val_main_v7 (F := Ideal) a w (ix2 p q) : EReal) = ∑ k : Fin 2048, a (ix2 p k) * w (ix3 0 q k) := by
  rw [← val_main_v7_eq]
  pointwise

end Cert.Dmix.R

namespace Cert.Dmix.V

open Idealize.ShloMosaic Idealize.ShloMosaic.TcCoe Idealize.SL.Sem
open Idealize.ShloMosaic.Pipeline (Dat)
open Cert.DmixKernelIdeal Cert.DmixKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S1x2048x2048.Idx → EReal := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 4 points. -/
theorem tN (t : Fin cfg0.N) : t.val < 4 := N_0 ▸ t.isLt

/-- The block window 0 names at a point. -/
theorem idx0 : ∀ t : Fin grid0.N, win0_0.index t 0 = t.val % 2 ∧ win0_0.index t 1 = 0 := by decide +kernel

/-- Where an element of window 0's block lies in its array. -/
theorem emb0 (t : Fin cfg0.N) (y0 : Fin 1024) (y1 : Fin 2048) :
    ((win0_0.rect t).emb (ix2 y0 y1) : (⟨2, ![2048, 2048]⟩ : Shape).Idx) = ((ix2 ⟨t.val % 2 * 1024 + y0.val, by have := tN t; have := y0.isLt; omega⟩ y1) : (⟨2, ![2048, 2048]⟩ : Shape).Idx) := by
  funext a; apply Fin.ext
  match a with
  | ⟨0, _⟩ => exact (Pipeline.Window.rect_emb_val win0_0 t _ _).trans (congrArg (· * 1024 + y0.val) (idx0 t).1)
  | ⟨1, _⟩ => exact Pipeline.Window.rect_emb_val_of_index_zero win0_0 t _ (idx0 t).2 _

/-- Window 0's block at a point, read from the argument. -/
theorem blk0 (t : Fin cfg0.N) (y0 : Fin 1024) (y1 : Fin 2048) :
    (iblk m c 0 t : S1024x2048.Idx → EReal) (ix2 y0 y1) = X0 m c (ix2 ⟨t.val % 2 * 1024 + y0.val, by have := tN t; have := y0.isLt; omega⟩ y1) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = 0 ∧ win0_1.index t 1 = t.val / 2 ∧ win0_1.index t 2 = 0 := by decide +kernel

/-- Where an element of window 1's block lies in its array. -/
theorem emb1 (t : Fin cfg0.N) (y0 : Fin 1) (y1 : Fin 1024) (y2 : Fin 2048) :
    ((win0_1.rect t).emb (ix3 y0 y1 y2) : (⟨3, ![1, 2048, 2048]⟩ : Shape).Idx) = ((ix3 y0 ⟨t.val / 2 * 1024 + y1.val, by have := tN t; have := y1.isLt; omega⟩ y2) : (⟨3, ![1, 2048, 2048]⟩ : Shape).Idx) := by
  funext a; apply Fin.ext
  match a with
  | ⟨0, _⟩ => exact Pipeline.Window.rect_emb_val_of_index_zero win0_1 t _ (idx1 t).1 _
  | ⟨1, _⟩ => exact (Pipeline.Window.rect_emb_val win0_1 t _ _).trans (congrArg (· * 1024 + y1.val) (idx1 t).2.1)
  | ⟨2, _⟩ => exact Pipeline.Window.rect_emb_val_of_index_zero win0_1 t _ (idx1 t).2.2 _

/-- Window 1's block at a point, read from the argument. -/
theorem blk1 (t : Fin cfg0.N) (y0 : Fin 1) (y1 : Fin 1024) (y2 : Fin 2048) :
    (iblk m c 1 t : S1x1024x2048.Idx → EReal) (ix3 y0 y1 y2) = X1 m c (ix3 y0 ⟨t.val / 2 * 1024 + y1.val, by have := tN t; have := y1.isLt; omega⟩ y2) := by
  show (V m c main_arg1 : S1x2048x2048.Idx → EReal) ((win0_1.rect t).emb (ix3 y0 y1 y2)) = _
  rw [V_main_arg1, emb1]

/-- The block window 2 names at a point. -/
theorem idx2 : ∀ t : Fin grid0.N, win0_2.index t 0 = t.val % 2 ∧ win0_2.index t 1 = t.val / 2 := by decide +kernel

/-- Where an element of window 2's block lies in its array. -/
theorem emb2 (t : Fin cfg0.N) (y0 : Fin 1024) (y1 : Fin 1024) :
    ((win0_2.rect t).emb (ix2 y0 y1) : (⟨2, ![2048, 2048]⟩ : Shape).Idx) = ((ix2 ⟨t.val % 2 * 1024 + y0.val, by have := tN t; have := y0.isLt; omega⟩ ⟨t.val / 2 * 1024 + y1.val, by have := tN t; have := y1.isLt; omega⟩) : (⟨2, ![2048, 2048]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact (Pipeline.Window.rect_emb_val win0_2 t _ _).trans (congrArg (· * 1024 + y1.val) (idx2 t).2)

/-- A load of a whole block reads the block. -/
theorem l0 (X : Vec Ideal S1024x2048 .bf16) : View.ld X r0_0 = X := View.ld_unit_zero hz2 _ X

/-- A load of a whole block reads the block. -/
theorem l1 (X : Vec Ideal S1x1024x2048 .bf16) : View.ld X r0_1 = X := View.ld_unit_zero hz3 _ X

/-- What the body leaves in its output block, read at an element. -/
theorem out_apply (x0 : Vec Ideal S1024x2048 .bf16) (x1 : Vec Ideal S1x1024x2048 .bf16) (r : Fin 1024) (d : Fin 1024) :
    (out0_2 (F := Ideal) x0 x1 (ix2 r d) : EReal) = ∑ k : Fin 2048, x0 (ix2 r k) * x1 (ix3 0 d k) := by
  unfold out0_2
  rw [View.canon_unit_zero hz2]
  simp only [l0, l1]
  unfold k0_pay1
  pointwise

/-- The array the reference leaves, over the kernel's arguments. -/
def G : S2048x2048.Idx → EReal := Cert.DmixReferenceIdeal.Read.val_main_v7 (F := Ideal) (X0 m c) (X1 m c)

/-- The block a point leaves is that point's block of the reference's array. -/
theorem flushed_eq (t : Fin cfg0.N) :
    (dats m 0 c).flushed 2 t = ((cfg0.win 2).blk t).view.read (Elt Ideal) (G m c) := by
  rw [Value.flushed2]
  funext y
  obtain ⟨y0, y1, rfl⟩ : ∃ (y0 : Fin 1024) (y1 : Fin 1024), y = (ix2 y0 y1) := ⟨y 0, y 1, eq_ix2 y⟩
  refine (out_apply (iblk m c 0 t) (iblk m c 1 t) y0 y1).trans ?_
  show _ = G m c ((win0_2.rect t).emb (ix2 y0 y1))
  rw [emb2]
  refine Eq.trans ?_ (R.ref_apply (X0 m c) (X1 m c) _ _).symm
  exact Finset.sum_congr rfl fun k _ => congrArg₂ (· * ·) (blk0 m c t y0 k) (blk1 m c t 0 y1 k)

/-- Every element of the array lies in some point's block. -/
theorem cover (i : S2048x2048.Idx) : ∃ t : Fin cfg0.N, (cfg0.win 2).flush t = true ∧ i ∈ ((cfg0.win 2).blk t).view.set := by
  obtain ⟨q0, q1, rfl⟩ : ∃ (q0 : Fin 2048) (q1 : Fin 2048), i = (ix2 q0 q1) := ⟨i 0, i 1, eq_ix2 i⟩
  have hN : cfg0.N = 4 := N_0
  have h0 := q0.isLt
  have h1 := q1.isLt
  let t : Fin cfg0.N := ⟨q1.val / 1024 * 2 + q0.val / 1024, by omega⟩
  refine ⟨t, flush0_2 _, ?_⟩
  have e : ((win0_2.rect t).emb (ix2 (⟨q0.val % 1024, by omega⟩ : Fin 1024) (⟨q1.val % 1024, by omega⟩ : Fin 1024)) : S2048x2048.Idx) = (ix2 q0 q1) := by
    refine (emb2 t ⟨q0.val % 1024, by omega⟩ ⟨q1.val % 1024, by omega⟩).trans ?_
    funext a; apply Fin.ext
    match a with
    | ⟨0, _⟩ => show ((q1.val / 1024 * 2 + q0.val / 1024) % 2) * 1024 + q0.val % 1024 = q0.val; omega
    | ⟨1, _⟩ => show ((q1.val / 1024 * 2 + q0.val / 1024) / 2) * 1024 + q1.val % 1024 = q1.val; omega
  exact e ▸ View.emb_mem_set ((cfg0.win 2).blk t).view (ix2 (⟨q0.val % 1024, by omega⟩ : Fin 1024) (⟨q1.val % 1024, by omega⟩ : Fin 1024))

/-- The array the kernel leaves. -/
theorem final : (dats m 0 c).arrAt 2 cfg0.N = G m c :=
  (dats m 0 c).arrAt_eq_of_cover 2 (G m c) (fun t _ => flushed_eq m c t) cover

end Cert.Dmix.V

namespace Cert.Dmix

open Idealize.ShloMosaic Idealize.ShloMosaic.TcCoe Idealize.SL.Sem

/-- Over the real numbers with infinities, the kernel and its reference leave the same arrays. -/
theorem algebraic : Cert.algebraic_DmixKernelIdeal_DmixReferenceIdeal := by
  intro m ρ m' ρ' _ hagree
  refine ⟨fun c => V.G m c, ?_, ?_⟩
  · exact (θ_run Cert.DmixKernelIdeal.defs _ _).mono (fun r h c => ⟨(h c).1.trans (V.final m c), (h c).2⟩)
      (Cert.DmixKernelIdeal.Value.run_blocks (F := Ideal) m ρ)
  · refine (θ_run Cert.DmixReferenceIdeal.defs _ _).mono (fun r h c => ?_) (Cert.DmixReferenceIdeal.Value.run (F := Ideal) m' ρ')
    obtain ⟨a0, a1⟩ := hagree c
    refine ⟨(h c).1.trans ((Cert.DmixReferenceIdeal.Read.val_main_v7_eq (m' ((c.tc : Thread _ _).loc Cert.DmixReferenceIdeal.main_arg0)) (m' ((c.tc : Thread _ _).loc Cert.DmixReferenceIdeal.main_arg1))).trans ?_), (h c).2⟩
    · show Cert.DmixReferenceIdeal.Read.val_main_v7 (F := Ideal) (m' ((c.tc : Thread _ _).loc Cert.DmixReferenceIdeal.main_arg0)) (m' ((c.tc : Thread _ _).loc Cert.DmixReferenceIdeal.main_arg1)) = _
      rw [a0, a1]
      rfl

end Cert.Dmix
-- ==== Proof.DwoutValue.lean ====
module

public import proofs.«01_k».proof.Defs
public import proofs.«01_k».proof.Proof.Gen.DwoutKernelIdeal.Value
public import proofs.«01_k».proof.Proof.Gen.DwoutReferenceIdeal.Run
public import proofs.«01_k».proof.Proof.Gen.DwoutReferenceIdeal.Read
public import Idealize.ShloMosaic.Lib.Pointwise
public import Idealize.ShloMosaic.Lib.Pipeline.Value

/-! The weight gradient of the output projection: the blocks of the kernel make up the reference's array. -/

@[expose] public section

set_option maxRecDepth 16384

noncomputable section

namespace Cert.Dwout.R

open Idealize.ShloMosaic
open Cert.DwoutReferenceIdeal Cert.DwoutReferenceIdeal.Gen Cert.DwoutReferenceIdeal.Read

/-- The contraction over a unit axis and the rows at once: its index at row `k`. -/
def cidx (k : Fin 2048) : dot_S1x2048x2048_S1x2048x2048_S2048x2048_01_01_2_2_n_n.contr.Idx := fun p =>
  match p with
  | ⟨0, _⟩ => (0 : Fin 1)
  | ⟨1, _⟩ => k

/-- That contraction's sum as the sum over the rows. -/
theorem dot_sum (l : FVec Ideal S1x2048x2048 .f32) (r : FVec Ideal S1x2048x2048 .f32) (i : Fin 2048) (j : Fin 2048) :
    (Host.dotGeneral dot_S1x2048x2048_S1x2048x2048_S2048x2048_01_01_2_2_n_n none l r (ix2 i j) : EReal) = ∑ k : Fin 2048, l (ix3 0 k i) * r (ix3 0 k j) := by
  have e : ∀ f : dot_S1x2048x2048_S1x2048x2048_S2048x2048_01_01_2_2_n_n.contr.Idx → EReal, ∑ k, f k = ∑ k : Fin 2048, f (cidx k) := by
    intro f
    refine (Fintype.sum_bijective cidx ⟨?_, ?_⟩ _ _ fun _ => rfl).symm
    · intro x y h
      exact congrFun h ⟨1, by decide⟩
    · intro y
      refine ⟨y ⟨1, by decide⟩, ?_⟩
      funext p
      match p with
      | ⟨0, _⟩ => exact (Fin.fin_one_eq_zero (y ⟨0, by decide⟩)).symm
      | ⟨1, _⟩ => rfl
  simp only [Host.dotGeneral]
  rw [Ideal.dotGeneral_apply, e]
  refine Finset.sum_congr rfl fun k _ => ?_
  congr 2
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-- The reference's weight gradient: at row `p` and column `q` the sum over the tokens of the activation times the
    upstream gradient. -/
theorem ref_apply (a : S2048x2048.Idx → EReal) (d : S2048x2048.Idx → EReal) (p : Fin 2048) (q : Fin 2048) :
    (val_main_v8 (F := Ideal) a d (ix2 p q) : EReal) = ∑ k : Fin 2048, a (ix2 k p) * d (ix2 k q) := by
  have e : (val_main_v8 (F := Ideal) a d (ix2 p q) : EReal) = val_main_v6 (F := Ideal) a d (ix2 q p) := by
    unfold val_main_v8 val_main_v7
    generalize val_main_v6 (F := Ideal) a d = y
    pointwise
  rw [e]
  unfold val_main_v6
  rw [dot_sum]
  refine Finset.sum_congr rfl fun k _ => ?_
  have e0 : (val_main_v5 (F := Ideal) d (ix3 0 k q) : EReal) = d (ix2 k q) := by
    unfold val_main_v5 val_main_v4
    pointwise
  have e1 : (val_main_v1 (F := Ideal) a (ix3 0 k p) : EReal) = a (ix2 k p) := by
    unfold val_main_v1 val_main_v0
    pointwise
  rw [e0, e1, mul_comm]

end Cert.Dwout.R

namespace Cert.Dwout.V

open Idealize.ShloMosaic Idealize.ShloMosaic.TcCoe Idealize.SL.Sem
open Idealize.ShloMosaic.Pipeline (Dat)
open Cert.DwoutKernelIdeal Cert.DwoutKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S2048x2048.Idx → EReal := m ((c : Thread nD τ).loc main_arg1)

theorem hz2 : (![0, 0] : Fin 2 → Nat) = fun _ => 0 := funext fun a => by fin_cases a <;> rfl

/-- The grid has 4 points. -/
theorem tN (t : Fin cfg0.N) : t.val < 4 := N_0 ▸ t.isLt

/-- The block window 0 names at a point. -/
theorem idx0 : ∀ t : Fin grid0.N, win0_0.index t 0 = 0 ∧ win0_0.index t 1 = t.val % 2 := by decide +kernel

/-- Where an element of window 0's block lies in its array. -/
theorem emb0 (t : Fin cfg0.N) (y0 : Fin 2048) (y1 : Fin 1024) :
    ((win0_0.rect t).emb (ix2 y0 y1) : (⟨2, ![2048, 2048]⟩ : Shape).Idx) = ((ix2 y0 ⟨t.val % 2 * 1024 + y1.val, by have := tN t; have := y1.isLt; omega⟩) : (⟨2, ![2048, 2048]⟩ : Shape).Idx) := by
  funext a; apply Fin.ext
  match a with
  | ⟨0, _⟩ => exact Pipeline.Window.rect_emb_val_of_index_zero win0_0 t _ (idx0 t).1 _
  | ⟨1, _⟩ => exact (Pipeline.Window.rect_emb_val win0_0 t _ _).trans (congrArg (· * 1024 + y1.val) (idx0 t).2)

/-- Window 0's block at a point, read from the argument. -/
theorem blk0 (t : Fin cfg0.N) (y0 : Fin 2048) (y1 : Fin 1024) :
    (iblk m c 0 t : S2048x1024.Idx → EReal) (ix2 y0 y1) = X0 m c (ix2 y0 ⟨t.val % 2 * 1024 + y1.val, by have := tN t; have := y1.isLt; omega⟩) := by
  show (V m c main_arg0 : S2048x2048.Idx → EReal) ((win0_0.rect t).emb (ix2 y0 y1)) = _
  rw [V_main_arg0, emb0]

/-- The block window 1 names at a point. -/
theorem idx1 : ∀ t : Fin grid0.N, win0_1.index t 0 = 0 ∧ win0_1.index t 1 = t.val / 2 := by decide +kernel

/-- Where an element of window 1's block lies in its array. -/
theorem emb1 (t : Fin cfg0.N) (y0 : Fin 2048) (y1 : Fin 1024) :
    ((win0_1.rect t).emb (ix2 y0 y1) : (⟨2, ![2048, 2048]⟩ : Shape).Idx) = ((ix2 y0 ⟨t.val / 2 * 1024 + y1.val, by have := tN t; have := y1.isLt; omega⟩) : (⟨2, ![2048, 2048]⟩ : Shape).Idx) := by
  funext a; apply Fin.ext
  match a with
  | ⟨0, _⟩ => exact Pipeline.Window.rect_emb_val_of_index_zero win0_1 t _ (idx1 t).1 _
  | ⟨1, _⟩ => exact (Pipeline.Window.rect_emb_val win0_1 t _ _).trans (congrArg (· * 1024 + y1.val) (idx1 t).2)

/-- Window 1's block at a point, read from the argument. -/
theorem blk1 (t : Fin cfg0.N) (y0 : Fin 2048) (y1 : Fin 1024) :
    (iblk m c 1 t : S2048x1024.Idx → EReal) (ix2 y0 y1) = X1 m c (ix2 y0 ⟨t.val / 2 * 1024 + y1.val, by have := tN t; have := y1.isLt; omega⟩) := by
  show (V m c main_arg1 : S2048x2048.Idx → EReal) ((win0_1.rect t).emb (ix2 y0 y1)) = _
  rw [V_main_arg1, emb1]

/-- The block window 2 names at a point. -/
theorem idx2 : ∀ t : Fin grid0.N, win0_2.index t 0 = t.val % 2 ∧ win0_2.index t 1 = t.val / 2 := by decide +kernel

/-- Where an element of window 2's block lies in its array. -/
theorem emb2 (t : Fin cfg0.N) (y0 : Fin 1024) (y1 : Fin 1024) :
    ((win0_2.rect t).emb (ix2 y0 y1) : (⟨2, ![2048, 2048]⟩ : Shape).Idx) = ((ix2 ⟨t.val % 2 * 1024 + y0.val, by have := tN t; have := y0.isLt; omega⟩ ⟨t.val / 2 * 1024 + y1.val, by have := tN t; have := y1.isLt; omega⟩) : (⟨2, ![2048, 2048]⟩ : Shape).Idx) := by
  funext a; apply Fin.ext
  match a with
  | ⟨0, _⟩ => exact (Pipeline.Window.rect_emb_val win0_2 t _ _).trans (congrArg (· * 1024 + y0.val) (idx2 t).1)
  | ⟨1, _⟩ => exact (Pipeline.Window.rect_emb_val win0_2 t _ _).trans (congrArg (· * 1024 + y1.val) (idx2 t).2)

/-- A load of a whole block reads the block. -/
theorem l0 (X : Vec Ideal S2048x1024 .bf16) : View.ld X r0_0 = X := View.ld_unit_zero hz2 _ X

/-- What the body leaves in its output block, read at an element. -/
theorem out_apply (x0 : Vec Ideal S2048x1024 .bf16) (x1 : Vec Ideal S2048x1024 .bf16) (r : Fin 1024) (d : Fin 1024) :
    (out0_2 (F := Ideal) x0 x1 (ix2 r d) : EReal) = ∑ k : Fin 2048, x0 (ix2 k r) * x1 (ix2 k d) := by
  unfold out0_2
  rw [View.canon_unit_zero hz2]
  simp only [l0]
  unfold k0_pay1
  pointwise

/-- The array the reference leaves, over the kernel's arguments. -/
def G : S2048x2048.Idx → EReal := Cert.DwoutReferenceIdeal.Read.val_main_v8 (F := Ideal) (X0 m c) (X1 m c)

/-- The block a point leaves is that point's block of the reference's array. -/
theorem flushed_eq (t : Fin cfg0.N) :
    (dats m 0 c).flushed 2 t = ((cfg0.win 2).blk t).view.read (Elt Ideal) (G m c) := by
  rw [Value.flushed2]
  funext y
  obtain ⟨y0, y1, rfl⟩ : ∃ (y0 : Fin 1024) (y1 : Fin 1024), y = (ix2 y0 y1) := ⟨y 0, y 1, eq_ix2 y⟩
  refine (out_apply (iblk m c 0 t) (iblk m c 1 t) y0 y1).trans ?_
  show _ = G m c ((win0_2.rect t).emb (ix2 y0 y1))
  rw [emb2]
  refine Eq.trans ?_ (R.ref_apply (X0 m c) (X1 m c) _ _).symm
  exact Finset.sum_congr rfl fun k _ => congrArg₂ (· * ·) (blk0 m c t k y0) (blk1 m c t k y1)

/-- Every element of the array lies in some point's block. -/
theorem cover (i : S2048x2048.Idx) : ∃ t : Fin cfg0.N, (cfg0.win 2).flush t = true ∧ i ∈ ((cfg0.win 2).blk t).view.set := by
  obtain ⟨q0, q1, rfl⟩ : ∃ (q0 : Fin 2048) (q1 : Fin 2048), i = (ix2 q0 q1) := ⟨i 0, i 1, eq_ix2 i⟩
  have hN : cfg0.N = 4 := N_0
  have h0 := q0.isLt
  have h1 := q1.isLt
  let t : Fin cfg0.N := ⟨q1.val / 1024 * 2 + q0.val / 1024, by omega⟩
  refine ⟨t, flush0_2 _, ?_⟩
  have e : ((win0_2.rect t).emb (ix2 (⟨q0.val % 1024, by omega⟩ : Fin 1024) (⟨q1.val % 1024, by omega⟩ : Fin 1024)) : S2048x2048.Idx) = (ix2 q0 q1) := by
    refine (emb2 t ⟨q0.val % 1024, by omega⟩ ⟨q1.val % 1024, by omega⟩).trans ?_
    funext a; apply Fin.ext
    match a with
    | ⟨0, _⟩ => show ((q1.val / 1024 * 2 + q0.val / 1024) % 2) * 1024 + q0.val % 1024 = q0.val; omega
    | ⟨1, _⟩ => show ((q1.val / 1024 * 2 + q0.val / 1024) / 2) * 1024 + q1.val % 1024 = q1.val; omega
  exact e ▸ View.emb_mem_set ((cfg0.win 2).blk t).view (ix2 (⟨q0.val % 1024, by omega⟩ : Fin 1024) (⟨q1.val % 1024, by omega⟩ : Fin 1024))

/-- The array the kernel leaves. -/
theorem final : (dats m 0 c).arrAt 2 cfg0.N = G m c :=
  (dats m 0 c).arrAt_eq_of_cover 2 (G m c) (fun t _ => flushed_eq m c t) cover

end Cert.Dwout.V

namespace Cert.Dwout

open Idealize.ShloMosaic Idealize.ShloMosaic.TcCoe Idealize.SL.Sem

/-- Over the real numbers with infinities, the kernel and its reference leave the same arrays. -/
theorem algebraic : Cert.algebraic_DwoutKernelIdeal_DwoutReferenceIdeal := by
  intro m ρ m' ρ' _ hagree
  refine ⟨fun c => V.G m c, ?_, ?_⟩
  · exact (θ_run Cert.DwoutKernelIdeal.defs _ _).mono (fun r h c => ⟨(h c).1.trans (V.final m c), (h c).2⟩)
      (Cert.DwoutKernelIdeal.Value.run_blocks (F := Ideal) m ρ)
  · refine (θ_run Cert.DwoutReferenceIdeal.defs _ _).mono (fun r h c => ?_) (Cert.DwoutReferenceIdeal.Value.run (F := Ideal) m' ρ')
    obtain ⟨a0, a1⟩ := hagree c
    refine ⟨(h c).1.trans ((Cert.DwoutReferenceIdeal.Read.val_main_v8_eq (m' ((c.tc : Thread _ _).loc Cert.DwoutReferenceIdeal.main_arg0)) (m' ((c.tc : Thread _ _).loc Cert.DwoutReferenceIdeal.main_arg1))).trans ?_), (h c).2⟩
    · show Cert.DwoutReferenceIdeal.Read.val_main_v8 (F := Ideal) (m' ((c.tc : Thread _ _).loc Cert.DwoutReferenceIdeal.main_arg0)) (m' ((c.tc : Thread _ _).loc Cert.DwoutReferenceIdeal.main_arg1)) = _
      rw [a0, a1]
      rfl

end Cert.Dwout
-- ==== Proof.ScanSpec.lean ====
module

public import proofs.«01_k».proof.Proof.SguSpec
public import proofs.«01_k».proof.Proof.Swiglu

/-! The gradient of the gated delta rule over the extended reals, in closed form: one chunk of one head, then the chunks
    from the last to the first with the state's gradient carried between them. -/

@[expose] public section

noncomputable section

open scoped BigOperators

namespace Cert.Scan

open Idealize.ShloMosaic Cert.Sgu Cert.Swiglu

/-- What the gradient of one chunk of one head reads: the chunk's queries, keys, values, erased keys, summed log decays,
    gates and incoming gradients, the attention inside the chunk, the normalisation's gains, the state before the chunk and
    the gradient of the state after it. -/
structure Hd where
  q : Fin 64 → Fin 128 → EReal
  k : Fin 64 → Fin 128 → EReal
  u : Fin 64 → Fin 128 → EReal
  w : Fin 64 → Fin 128 → EReal
  g : Fin 64 → Fin 128 → EReal
  gate : Fin 64 → Fin 128 → EReal
  dy : Fin 64 → Fin 128 → EReal
  a : Fin 64 → Fin 64 → EReal
  og : Fin 128 → EReal
  s : Fin 128 → Fin 128 → EReal
  ds : Fin 128 → Fin 128 → EReal

namespace Hd

variable (H : Hd)

/-- The chunk's values less what the state already answers. -/
def vn (i : Fin 64) (j : Fin 128) : EReal := H.u i j - ∑ k, H.w i k * H.s k j
/-- The decay since the chunk's start. -/
def eg (i : Fin 64) (j : Fin 128) : EReal := Ideal.exp (H.g i j)
/-- The decayed queries. -/
def qe (i : Fin 64) (j : Fin 128) : EReal := H.q i j * H.eg i j
/-- The chunk's outputs before their normalisation. -/
def o (i : Fin 64) (j : Fin 128) : EReal := (∑ k, H.qe i k * H.s k j) + ∑ k, H.a i k * H.vn k j
/-- The decay of the whole chunk. -/
def egl (j : Fin 128) : EReal := Ideal.exp (H.g 63 j)
/-- The decay until the chunk's end. -/
def ed (i : Fin 64) (j : Fin 128) : EReal := Ideal.exp (H.g 63 j - H.g i j)
/-- The decayed keys. -/
def ke (i : Fin 64) (j : Fin 128) : EReal := H.k i j * H.ed i j
/-- The mean square of a row of the outputs, with the normalisation's constant. -/
def var (i : Fin 64) : EReal := Ideal.div (∑ j, H.o i j * H.o i j) (lit 0x43000000#32) + lit 0x358637BD#32
/-- Its reciprocal square root. -/
def rs (i : Fin 64) : EReal := Ideal.rsqrt (H.var i)
/-- The normalised outputs. -/
def nx (i : Fin 64) (j : Fin 128) : EReal := H.o i j * H.rs i
/-- The gradient that reaches the scaled outputs. -/
def dn (i : Fin 64) (j : Fin 128) : EReal := H.dy i j * (H.gate i j * sig (H.gate i j))
/-- The gradient that reaches the normalised outputs. -/
def dm (i : Fin 64) (j : Fin 128) : EReal := H.dn i j * H.og j
/-- The gradient that reaches a row's mean square, spread over the row. -/
def dr (i : Fin 64) : EReal :=
  Ideal.div ((∑ j, H.o i j * H.dm i j) * (lit 0xBF000000#32 * Ideal.div (H.rs i) (H.var i))) (lit 0x43000000#32)
/-- The gradient of the outputs before their normalisation. -/
def dO (i : Fin 64) (j : Fin 128) : EReal := H.dm i j * H.rs i + H.o i j * H.dr i + H.dr i * H.o i j
/-- The gradient of the decayed keys. -/
def kd (i : Fin 64) (j : Fin 128) : EReal := ∑ v, H.vn i v * H.ds j v
/-- The gradient of the exponent of the keys' decay. -/
def dx (i : Fin 64) (j : Fin 128) : EReal := H.k i j * H.kd i j * H.ed i j
/-- The gradient of the values. -/
def dv (i : Fin 64) (j : Fin 128) : EReal := (∑ k, H.ke i k * H.ds k j) + ∑ l, H.a l i * H.dO l j
/-- The gradient of the decayed queries. -/
def qd (i : Fin 64) (j : Fin 128) : EReal := ∑ v, H.dO i v * H.s j v
/-- The gradient of the queries. -/
def dq (i : Fin 64) (j : Fin 128) : EReal := H.qd i j * H.eg i j
/-- The gradient of the keys. -/
def dk (i : Fin 64) (j : Fin 128) : EReal := H.kd i j * H.ed i j
/-- The gradient of the erased keys. -/
def dw (i : Fin 64) (j : Fin 128) : EReal := ∑ v, -H.dv i v * H.s j v
/-- The gradient of the gates. -/
def dgt (i : Fin 64) (j : Fin 128) : EReal := dgate (H.nx i j * H.og j) (H.gate i j) (H.dy i j)
/-- The gradient of the chunk's last log decay, through the keys and through the state. -/
def dl (j : Fin 128) : EReal := (∑ i, H.dx i j) + (∑ k, H.s k j * H.ds k j) * H.egl j
/-- The gradient of the summed log decays. -/
def dg (i : Fin 64) (j : Fin 128) : EReal := -H.dx i j + (if i.val = 63 then H.dl j else 0) + H.q i j * H.qd i j * H.eg i j
/-- The gradient of the attention inside the chunk. -/
def da (i j : Fin 64) : EReal := ∑ v, H.dO i v * H.vn j v
/-- The chunk's part of the gradient of the gains. -/
def dog (j : Fin 128) : EReal := ∑ i, H.nx i j * H.dn i j
/-- The gradient of the state before the chunk. -/
def dS (k j : Fin 128) : EReal :=
  H.ds k j * H.egl j + (∑ i, H.qe i k * H.dO i j) + ∑ i, H.w i k * -H.dv i j

end Hd

/-- What the gradient of the whole recurrence reads, by chunk, head, row and column. -/
structure Inp where
  q : Fin 32 → Fin 6 → Fin 64 → Fin 128 → EReal
  k : Fin 32 → Fin 6 → Fin 64 → Fin 128 → EReal
  u : Fin 32 → Fin 6 → Fin 64 → Fin 128 → EReal
  w : Fin 32 → Fin 6 → Fin 64 → Fin 128 → EReal
  g : Fin 32 → Fin 6 → Fin 64 → Fin 128 → EReal
  gate : Fin 32 → Fin 6 → Fin 64 → Fin 128 → EReal
  dy : Fin 32 → Fin 6 → Fin 64 → Fin 128 → EReal
  a : Fin 32 → Fin 6 → Fin 64 → Fin 64 → EReal
  og : Fin 128 → EReal
  s : Fin 32 → Fin 6 → Fin 128 → Fin 128 → EReal

namespace Inp

variable (X : Inp)

/-- One chunk of one head, with the gradient of the state after it. -/
def hd (n : Fin 32) (h : Fin 6) (ds : Fin 128 → Fin 128 → EReal) : Hd :=
  { q := X.q n h, k := X.k n h, u := X.u n h, w := X.w n h, g := X.g n h, gate := X.gate n h, dy := X.dy n h, a := X.a n h,
    og := X.og, s := X.s n h, ds := ds }

/-- The chunk the `t`-th trip takes: from the last to the first. -/
def ch (t : ℕ) : Fin 32 := ⟨31 - t, by omega⟩

/-- The gradient of a head's state before the `t`-th trip. -/
def DS : ℕ → Fin 6 → Fin 128 → Fin 128 → EReal
  | 0, _ => fun _ _ => 0
  | t + 1, h => (X.hd (ch t) h (DS t h)).dS

/-- The chunk and head of the `t`-th trip. -/
def H (t : ℕ) (h : Fin 6) : Hd := X.hd (ch t) h (X.DS t h)

/-- The gradient of the gains before the `t`-th trip. -/
def DOG : ℕ → Fin 128 → EReal
  | 0 => fun _ => 0
  | t + 1 => fun d => DOG t d + ∑ h, (X.H t h).dog d

end Inp

namespace Inp

variable (X : Inp)

/-- The array of a gradient laid out by rows and heads' columns. -/
def row (f : Hd → Fin 64 → Fin 128 → EReal) : (⟨2, ![2048, 768]⟩ : Shape).Idx → EReal := fun y =>
  f (X.H (31 - (y 0).val / 64) ⟨(y 1).val / 128, by have h : (y 1).val < 768 := (y 1).isLt; omega⟩)
    ⟨(y 0).val % 64, by omega⟩ ⟨(y 1).val % 128, by omega⟩

/-- The array of the gradient of the summed log decays. -/
def gArr : (⟨3, ![6, 2048, 128]⟩ : Shape).Idx → EReal := fun y =>
  (X.H (31 - (y 1).val / 64) (y 0)).dg ⟨(y 1).val % 64, by omega⟩ (y 2)

/-- The array of the gradient of the attention inside the chunks. -/
def aArr : (⟨4, ![6, 32, 64, 64]⟩ : Shape).Idx → EReal := fun y => (X.H (31 - (y 1).val) (y 0)).da (y 2) (y 3)

/-- The array of the gradient of the gains. -/
def oArr : (⟨2, ![1, 128]⟩ : Shape).Idx → EReal := fun y => X.DOG 32 (y 1)

end Inp

/-- The recurrence's inputs, of the arrays that hold them. -/
def inp (q k u w : (⟨2, ![2048, 768]⟩ : Shape).Idx → EReal) (g : (⟨3, ![6, 2048, 128]⟩ : Shape).Idx → EReal)
    (a : (⟨4, ![6, 32, 64, 64]⟩ : Shape).Idx → EReal) (gate : (⟨2, ![2048, 768]⟩ : Shape).Idx → EReal)
    (og : (⟨1, ![128]⟩ : Shape).Idx → EReal) (s : (⟨4, ![32, 6, 128, 128]⟩ : Shape).Idx → EReal)
    (dmix : (⟨2, ![2048, 2048]⟩ : Shape).Idx → EReal) : Inp :=
  { q := fun n h i d => q (ix2 ⟨n.val * 64 + i.val, by omega⟩ ⟨h.val * 128 + d.val, by omega⟩),
    k := fun n h i d => k (ix2 ⟨n.val * 64 + i.val, by omega⟩ ⟨h.val * 128 + d.val, by omega⟩),
    u := fun n h i d => u (ix2 ⟨n.val * 64 + i.val, by omega⟩ ⟨h.val * 128 + d.val, by omega⟩),
    w := fun n h i d => w (ix2 ⟨n.val * 64 + i.val, by omega⟩ ⟨h.val * 128 + d.val, by omega⟩),
    g := fun n h i d => g (ix3 h ⟨n.val * 64 + i.val, by omega⟩ d),
    gate := fun n h i d => gate (ix2 ⟨n.val * 64 + i.val, by omega⟩ ⟨h.val * 128 + d.val, by omega⟩),
    dy := fun n h i d => dmix (ix2 ⟨n.val * 64 + i.val, by omega⟩ ⟨512 + (h.val * 128 + d.val), by omega⟩),
    a := fun n h i j => a (ix4 h n i j),
    og := fun d => og (ix1 d),
    s := fun n h k v => s (ix4 n h k v) }

end Cert.Scan

end
-- ==== Proof.ScanHead.lean ====
module

public import proofs.«01_k».proof.Proof.ScanSpec
public import proofs.«01_k».proof.Proof.Gen.ScanKernelIdeal.Skeleton
public import Idealize.ShloMosaic.Lib.Pointwise
public import Idealize.ShloMosaic.Lib.Tactic

/-! What the gated delta rule's gradient kernel computes for one head of one chunk, value by value. -/

@[expose] public section

noncomputable section

open scoped BigOperators

namespace Cert.Scan.K

open Idealize.ShloMosaic Cert.ScanKernelIdeal Cert.ScanKernelIdeal.Gen Cert.Sgu Cert.Swiglu

/-- What the kernel loads for one head of one chunk. -/
structure Ld where
  q : Vec Ideal S64x128 .f32
  k : Vec Ideal S64x128 .f32
  u : Vec Ideal S64x128 .f32
  w : Vec Ideal S64x128 .f32
  g : Vec Ideal S1x64x128 .f32
  a : Vec Ideal S1x1x64x64 .f32
  gate : Vec Ideal S64x128 .f32
  og : Vec Ideal S1x128 .f32
  s : Vec Ideal S1x1x128x128 .f32
  dy : Vec Ideal S64x128 .f32
  ds : Vec Ideal S1x128x128 .f32

/-- The same values by row and column. -/
def Ld.hd (X : Ld) : Hd where
  q i d := X.q (ix2 i d)
  k i d := X.k (ix2 i d)
  u i d := X.u (ix2 i d)
  w i d := X.w (ix2 i d)
  g i d := X.g (ix3 0 i d)
  gate i d := X.gate (ix2 i d)
  dy i d := X.dy (ix2 i d)
  a i j := X.a (ix4 0 0 i j)
  og d := X.og (ix2 0 d)
  s k v := X.s (ix4 0 0 k v)
  ds k v := X.ds (ix3 0 k v)

variable (X : Ld)

/-- The row numbers. -/
def v29 (X : Ld) : IVec S64x128 32 := iota .tc S64x128 32 [0] iota_S64x128_d0_w32
@[inherit_doc Ld.hd] def v8 : FVec Ideal S64x128 .f32 := k0_pay4 X.g
@[inherit_doc Ld.hd] def v10 : FVec Ideal S64x64 .f32 := k0_pay5 X.a
@[inherit_doc Ld.hd] def v13 : FVec Ideal S1x128 .f32 := k0_pay6 X.og
@[inherit_doc Ld.hd] def v15 : FVec Ideal S128x128 .f32 := k0_pay7 X.s
@[inherit_doc Ld.hd] def v19 : FVec Ideal S64x128 .f32 := k0_pay8 X.u X.w X.s
@[inherit_doc Ld.hd] def v20 : FVec Ideal S64x128 .f32 := k0_pay9 X.g
@[inherit_doc Ld.hd] def v21 : FVec Ideal S64x128 .f32 := k0_pay10 X.q X.g
@[inherit_doc Ld.hd] def v28 : FVec Ideal S64x128 .f32 := k0_pay11 X.q X.u X.w X.g X.a X.s
@[inherit_doc Ld.hd] def v31 : IVec S64x128 1 := k0_pay12 (v29 X)
@[inherit_doc Ld.hd] def v36 : FVec Ideal S1x128 .f32 := k0_pay14 (v8 X) (v29 X)
@[inherit_doc Ld.hd] def v39 : FVec Ideal S64x128 .f32 := k0_pay15 (v8 X) (v29 X)
@[inherit_doc Ld.hd] def v40 : FVec Ideal S64x128 .f32 := k0_pay16 X.k (v8 X) (v29 X)
@[inherit_doc Ld.hd] def v48 : FVec Ideal S64x1 .f32 := k0_pay18 (v28 X)
@[inherit_doc Ld.hd] def v51 : FVec Ideal S64x1 .f32 := k0_pay19 (v28 X)
@[inherit_doc Ld.hd] def v53 : FVec Ideal S64x128 .f32 := k0_pay20 (v28 X)
@[inherit_doc Ld.hd] def v58 : FVec Ideal S64x128 .f32 := k0_pay21 X.gate
@[inherit_doc Ld.hd] def v65 : FVec Ideal S64x128 .f32 := k0_pay24 X.gate
@[inherit_doc Ld.hd] def v69 : FVec Ideal S128x128 .f32 := k0_pay25 X.ds
@[inherit_doc Ld.hd] def v71 : FVec Ideal S64x128 .f32 := k0_pay27 X.gate X.dy
@[inherit_doc Ld.hd] def v72 : FVec Ideal S64x128 .f32 := k0_pay28 X.gate (v13 X) (v28 X) X.dy
@[inherit_doc Ld.hd] def v73 : FVec Ideal S64x128 .f32 := k0_pay29 X.gate (v13 X) (v28 X) X.dy
@[inherit_doc Ld.hd] def v82 : FVec Ideal S64x128 .f32 := k0_pay30 (v58 X) (v65 X) (v72 X) (v73 X)
@[inherit_doc Ld.hd] def v85 : FVec Ideal S1x128 .f32 := k0_pay31 (v53 X) (v71 X)
@[inherit_doc Ld.hd] def v102 : FVec Ideal S64x128 .f32 := k0_pay32 (v13 X) (v28 X) (v48 X) (v51 X) (v71 X)
@[inherit_doc Ld.hd] def v103 : FVec Ideal S128x128 .f32 := k0_pay33 (v69 X)
@[inherit_doc Ld.hd] def v110 : FVec Ideal S64x128 .f32 := k0_pay36 (v40 X) (v69 X)
@[inherit_doc Ld.hd] def v112 : FVec Ideal S64x128 .f32 := k0_pay37 (v19 X) (v39 X) (v69 X)
@[inherit_doc Ld.hd] def v115 : FVec Ideal S1x128 .f32 := k0_pay39 X.k (v19 X) (v39 X) (v69 X)
@[inherit_doc Ld.hd] def v117 : FVec Ideal S64x128 .f32 := k0_pay40 X.k (v19 X) (v39 X) (v69 X)
@[inherit_doc Ld.hd] def v120 : FVec Ideal S1x128 .f32 := k0_pay41 (v15 X) (v69 X)
@[inherit_doc Ld.hd] def v121 : FVec Ideal S128x128 .f32 := k0_pay42 (v36 X)
@[inherit_doc Ld.hd] def v133 : FVec Ideal S64x64 .f32 := k0_pay43 (v19 X) (v102 X)
@[inherit_doc Ld.hd] def v148 : FVec Ideal S64x128 .f32 := k0_pay47 X.q (v15 X) (v20 X) (v31 X) (v36 X) (v102 X) (v115 X) (v117 X) (v120 X)
@[inherit_doc Ld.hd] def v153 : FVec Ideal S64x128 .f32 := k0_pay49 (v10 X) (v15 X) (v102 X) (v110 X)
@[inherit_doc Ld.hd] def v157 : FVec Ideal S128x128 .f32 := k0_pay50 X.w (v10 X) (v21 X) (v102 X) (v103 X) (v110 X) (v121 X)

theorem v8_eq (i : Fin 64) (j : Fin 128) : ((v8 X : _) (ix2 i j) : EReal) = X.hd.g i j := by
  unfold v8 k0_pay4
  pointwise
  try simp only [Fin.sum_univ_one, Fin.isValue]
  rfl

theorem v10_eq (i j : Fin 64) : ((v10 X : _) (ix2 i j) : EReal) = X.hd.a i j := by
  unfold v10 k0_pay5
  pointwise
  try simp only [Fin.sum_univ_one, Fin.isValue, v8_eq]
  rfl

theorem v13_eq (j : Fin 128) : ((v13 X : _) (ix2 0 j) : EReal) = X.hd.og j := by
  unfold v13 k0_pay6
  pointwise
  try simp only [Fin.sum_univ_one, Fin.isValue, v8_eq, v10_eq]
  rfl

theorem v15_eq (k v : Fin 128) : ((v15 X : _) (ix2 k v) : EReal) = X.hd.s k v := by
  unfold v15 k0_pay7
  pointwise
  try simp only [Fin.sum_univ_one, Fin.isValue, v8_eq, v10_eq, v13_eq]
  rfl

theorem v69_eq (k v : Fin 128) : ((v69 X : _) (ix2 k v) : EReal) = X.hd.ds k v := by
  unfold v69 k0_pay25
  pointwise
  try simp only [Fin.sum_univ_one, Fin.isValue, v8_eq, v10_eq, v13_eq, v15_eq]
  rfl

theorem p4_eq (i : Fin 64) (j : Fin 128) : ((k0_pay4 X.g : _) (ix2 i j) : EReal) = X.hd.g i j := by
  unfold k0_pay4
  pointwise
  try simp only [Fin.sum_univ_one, Fin.isValue, v8_eq, v10_eq, v13_eq, v15_eq, v69_eq]
  rfl

theorem p5_eq (i j : Fin 64) : ((k0_pay5 X.a : _) (ix2 i j) : EReal) = X.hd.a i j := by
  unfold k0_pay5
  pointwise
  try simp only [Fin.sum_univ_one, Fin.isValue, v8_eq, v10_eq, v13_eq, v15_eq, v69_eq, p4_eq]
  rfl

theorem p7_eq (k v : Fin 128) : ((k0_pay7 X.s : _) (ix2 k v) : EReal) = X.hd.s k v := by
  unfold k0_pay7
  pointwise
  try simp only [Fin.sum_univ_one, Fin.isValue, v8_eq, v10_eq, v13_eq, v15_eq, v69_eq, p4_eq, p5_eq]
  rfl

theorem p8_eq (i : Fin 64) (j : Fin 128) : ((k0_pay8 X.u X.w X.s : _) (ix2 i j) : EReal) = X.hd.vn i j := by
  unfold k0_pay8
  pointwise
  try simp only [Fin.sum_univ_one, Fin.isValue, v8_eq, v10_eq, v13_eq, v15_eq, v69_eq, p4_eq, p5_eq, p7_eq]
  rfl

theorem v19_eq (i : Fin 64) (j : Fin 128) : ((v19 X : _) (ix2 i j) : EReal) = X.hd.vn i j := by
  unfold v19 k0_pay8
  pointwise
  try simp only [Fin.sum_univ_one, Fin.isValue, v8_eq, v10_eq, v13_eq, v15_eq, v69_eq, p4_eq, p5_eq, p7_eq, p8_eq]
  rfl

theorem p9_eq (i : Fin 64) (j : Fin 128) : ((k0_pay9 X.g : _) (ix2 i j) : EReal) = X.hd.eg i j := by
  unfold k0_pay9
  pointwise
  try simp only [Fin.sum_univ_one, Fin.isValue, v8_eq, v10_eq, v13_eq, v15_eq, v69_eq, p4_eq, p5_eq, p7_eq, p8_eq, v19_eq]
  rfl

theorem v20_eq (i : Fin 64) (j : Fin 128) : ((v20 X : _) (ix2 i j) : EReal) = X.hd.eg i j := by
  unfold v20 k0_pay9
  pointwise
  try simp only [Fin.sum_univ_one, Fin.isValue, v8_eq, v10_eq, v13_eq, v15_eq, v69_eq, p4_eq, p5_eq, p7_eq, p8_eq, v19_eq, p9_eq]
  rfl

theorem p10_eq (i : Fin 64) (j : Fin 128) : ((k0_pay10 X.q X.g : _) (ix2 i j) : EReal) = X.hd.qe i j := by
  unfold k0_pay10
  pointwise
  try simp only [Fin.sum_univ_one, Fin.isValue, v8_eq, v10_eq, v13_eq, v15_eq, v69_eq, p4_eq, p5_eq, p7_eq, p8_eq, v19_eq, p9_eq, v20_eq]
  rfl

theorem v21_eq (i : Fin 64) (j : Fin 128) : ((v21 X : _) (ix2 i j) : EReal) = X.hd.qe i j := by
  unfold v21 k0_pay10
  pointwise
  try simp only [Fin.sum_univ_one, Fin.isValue, v8_eq, v10_eq, v13_eq, v15_eq, v69_eq, p4_eq, p5_eq, p7_eq, p8_eq, v19_eq, p9_eq, v20_eq, p10_eq]
  rfl

theorem v28_eq (i : Fin 64) (j : Fin 128) : ((v28 X : _) (ix2 i j) : EReal) = X.hd.o i j := by
  unfold v28 k0_pay11
  pointwise
  try simp only [Fin.sum_univ_one, Fin.isValue, v8_eq, v10_eq, v13_eq, v15_eq, v69_eq, p4_eq, p5_eq, p7_eq, p8_eq, v19_eq, p9_eq, v20_eq, p10_eq, v21_eq]
  rfl

theorem sel_eq (i : Fin 64) (j : Fin 128) (a b : EReal) :
    Scalar.select (k0_pay12 (v29 X) (ix2 i j)) a b = if i.val = 63 then a else b := by
  have e : k0_pay12 (v29 X) (ix2 i j) = Scalar.cmpi .eq (BitVec.ofNat 32 i.val) 63#32 := by
    unfold k0_pay12 v29
    pointwise
    rfl
  rw [e]
  fin_cases i <;> rfl

theorem sel31_eq (i : Fin 64) (j : Fin 128) (a b : EReal) :
    Scalar.select (v31 X (ix2 i j)) a b = if i.val = 63 then a else b := sel_eq X i j a b

theorem sum63 (f : Fin 64 → EReal) : (∑ x : Fin 64, if x.val = 63 then f x else 0) = f 63 := by
  rw [Finset.sum_eq_single (63 : Fin 64)]
  · rfl
  · intro b _ hb
    exact if_neg fun h => hb (Fin.ext h)
  · intro h
    exact absurd (Finset.mem_univ _) h

theorem p13_eq (j : Fin 128) : ((k0_pay13 (v8 X) (v29 X) : _) (ix2 0 j) : EReal) = X.hd.g 63 j := by
  unfold k0_pay13
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq]
  exact sum63 _

theorem p14_eq (j : Fin 128) : ((k0_pay14 (v8 X) (v29 X) : _) (ix2 0 j) : EReal) = X.hd.egl j := by
  unfold k0_pay14
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq]
  rfl

theorem v36_eq (j : Fin 128) : ((v36 X : _) (ix2 0 j) : EReal) = X.hd.egl j := by
  unfold v36 k0_pay14
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq]
  rfl

theorem p15_eq (i : Fin 64) (j : Fin 128) : ((k0_pay15 (v8 X) (v29 X) : _) (ix2 i j) : EReal) = X.hd.ed i j := by
  unfold k0_pay15
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq]
  rfl

theorem v39_eq (i : Fin 64) (j : Fin 128) : ((v39 X : _) (ix2 i j) : EReal) = X.hd.ed i j := by
  unfold v39 k0_pay15
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq]
  rfl

theorem v40_eq (i : Fin 64) (j : Fin 128) : ((v40 X : _) (ix2 i j) : EReal) = X.hd.ke i j := by
  unfold v40 k0_pay16
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq]
  rfl

theorem p17_eq (i : Fin 64) : ((k0_pay17 (v28 X) : _) (ix2 i 0) : EReal) = X.hd.var i := by
  unfold k0_pay17
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq]
  rfl

theorem p18_eq (i : Fin 64) : ((k0_pay18 (v28 X) : _) (ix2 i 0) : EReal) = X.hd.rs i := by
  unfold k0_pay18
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq]
  rfl

theorem v48_eq (i : Fin 64) : ((v48 X : _) (ix2 i 0) : EReal) = X.hd.rs i := by
  unfold v48 k0_pay18
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq]
  rfl

theorem v51_eq (i : Fin 64) : ((v51 X : _) (ix2 i 0) : EReal) = lit 0xBF000000#32 * Ideal.div (X.hd.rs i) (X.hd.var i) := by
  unfold v51 k0_pay19
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq]

theorem p20_eq (i : Fin 64) (j : Fin 128) : ((k0_pay20 (v28 X) : _) (ix2 i j) : EReal) = X.hd.nx i j := by
  unfold k0_pay20
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq]
  rfl

theorem v53_eq (i : Fin 64) (j : Fin 128) : ((v53 X : _) (ix2 i j) : EReal) = X.hd.nx i j := by
  unfold v53 k0_pay20
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq]
  rfl

theorem p21_eq (i : Fin 64) (j : Fin 128) : ((k0_pay21 X.gate : _) (ix2 i j) : EReal) = Ideal.exp (0 - X.hd.gate i j) := by
  unfold k0_pay21
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq]
  rfl

theorem v58_eq (i : Fin 64) (j : Fin 128) : ((v58 X : _) (ix2 i j) : EReal) = Ideal.exp (0 - X.hd.gate i j) := by
  unfold v58 k0_pay21
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq]
  rfl

theorem p22_eq (i : Fin 64) (j : Fin 128) : ((k0_pay22 X.gate : _) (ix2 i j) : EReal) = 1 + Ideal.exp (0 - X.hd.gate i j) := by
  unfold k0_pay22
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq]

theorem p23_eq (i : Fin 64) (j : Fin 128) : ((k0_pay23 X.gate : _) (ix2 i j) : EReal) = sig (X.hd.gate i j) := by
  unfold k0_pay23
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq]
  rw [zero_sub]
  rfl

theorem v65_eq (i : Fin 64) (j : Fin 128) : ((v65 X : _) (ix2 i j) : EReal) = Ideal.div 1 ((1 + Ideal.exp (0 - X.hd.gate i j)) * (1 + Ideal.exp (0 - X.hd.gate i j))) := by
  unfold v65 k0_pay24
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq]

theorem p26_eq (i : Fin 64) (j : Fin 128) : ((k0_pay26 (v13 X) (v28 X) X.dy : _) (ix2 i j) : EReal) = X.hd.nx i j * X.hd.og j * X.hd.dy i j := by
  unfold k0_pay26
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq]
  rfl

theorem v71_eq (i : Fin 64) (j : Fin 128) : ((v71 X : _) (ix2 i j) : EReal) = X.hd.dn i j := by
  unfold v71 k0_pay27
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq]
  rfl

theorem v72_eq (i : Fin 64) (j : Fin 128) : ((v72 X : _) (ix2 i j) : EReal) = X.hd.gate i j * (X.hd.nx i j * X.hd.og j * X.hd.dy i j) := by
  unfold v72 k0_pay28
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq]
  rfl

theorem v73_eq (i : Fin 64) (j : Fin 128) : ((v73 X : _) (ix2 i j) : EReal) = X.hd.nx i j * X.hd.og j * X.hd.dy i j * sig (X.hd.gate i j) := by
  unfold v73 k0_pay29
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq]

theorem v82_eq (i : Fin 64) (j : Fin 128) : ((v82 X : _) (ix2 i j) : EReal) = X.hd.dgt i j := by
  unfold v82 k0_pay30
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq]
  unfold Hd.dgt
  rw [← dgate_eq]
  simp only [Swiglu.sig, mul_one, zero_sub]

theorem v85_eq (j : Fin 128) : ((v85 X : _) (ix2 0 j) : EReal) = X.hd.dog j := by
  unfold v85 k0_pay31
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq]
  rfl

theorem v102_eq (i : Fin 64) (j : Fin 128) : ((v102 X : _) (ix2 i j) : EReal) = X.hd.dO i j := by
  unfold v102 k0_pay32
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq]
  rfl

theorem p33_eq (k v : Fin 128) : ((k0_pay33 (v69 X) : _) (ix2 k v) : EReal) = X.hd.ds k v := by
  unfold k0_pay33
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq]

theorem v103_eq (k v : Fin 128) : ((v103 X : _) (ix2 k v) : EReal) = X.hd.ds k v := by
  unfold v103 k0_pay33
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq]

theorem p34_eq (k v : Fin 128) : ((k0_pay34 (v69 X) : _) (ix2 k v) : EReal) = X.hd.ds k v := by
  unfold k0_pay34
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq]

theorem p35_eq (i : Fin 64) (j : Fin 128) : ((k0_pay35 (v19 X) (v69 X) : _) (ix2 i j) : EReal) = X.hd.kd i j := by
  unfold k0_pay35
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq]
  rfl

theorem v110_eq (i : Fin 64) (j : Fin 128) : ((v110 X : _) (ix2 i j) : EReal) = ∑ k, X.hd.ke i k * X.hd.ds k j := by
  unfold v110 k0_pay36
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq]

theorem v112_eq (i : Fin 64) (j : Fin 128) : ((v112 X : _) (ix2 i j) : EReal) = X.hd.dk i j := by
  unfold v112 k0_pay37
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq]
  rfl

theorem p38_eq (i : Fin 64) (j : Fin 128) : ((k0_pay38 X.k (v19 X) (v39 X) (v69 X) : _) (ix2 i j) : EReal) = X.hd.dx i j := by
  unfold k0_pay38
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq]
  rfl

theorem v115_eq (j : Fin 128) : ((v115 X : _) (ix2 0 j) : EReal) = ∑ i, X.hd.dx i j := by
  unfold v115 k0_pay39
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq]

theorem v117_eq (i : Fin 64) (j : Fin 128) : ((v117 X : _) (ix2 i j) : EReal) = -X.hd.dx i j := by
  unfold v117 k0_pay40
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq]
  exact zero_sub _

theorem v120_eq (j : Fin 128) : ((v120 X : _) (ix2 0 j) : EReal) = ∑ k, X.hd.s k j * X.hd.ds k j := by
  unfold v120 k0_pay41
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq]

theorem v121_eq (k v : Fin 128) : ((v121 X : _) (ix2 k v) : EReal) = X.hd.egl v := by
  unfold v121 k0_pay42
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq]

theorem v133_eq (i j : Fin 64) : ((v133 X : _) (ix2 i j) : EReal) = X.hd.da i j := by
  unfold v133 k0_pay43
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq]
  rfl

theorem p44_eq (i : Fin 64) (j : Fin 128) : ((k0_pay44 (v10 X) (v102 X) (v110 X) : _) (ix2 i j) : EReal) = X.hd.dv i j := by
  unfold k0_pay44
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq, v133_eq]
  rfl

theorem p45_eq (i : Fin 64) (j : Fin 128) : ((k0_pay45 (v15 X) (v102 X) : _) (ix2 i j) : EReal) = X.hd.qd i j := by
  unfold k0_pay45
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq, v133_eq, p44_eq]
  rfl

theorem p46_eq (i : Fin 64) (j : Fin 128) : ((k0_pay46 (v15 X) (v20 X) (v102 X) : _) (ix2 i j) : EReal) = X.hd.dq i j := by
  unfold k0_pay46
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq, v133_eq, p44_eq, p45_eq]
  rfl

theorem v148_eq (i : Fin 64) (j : Fin 128) : ((v148 X : _) (ix2 i j) : EReal) = X.hd.dg i j := by
  unfold v148 k0_pay47
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq, v133_eq, p44_eq, p45_eq, p46_eq]
  rfl

theorem p48_eq (i : Fin 64) (j : Fin 128) : ((k0_pay48 (v10 X) (v102 X) (v110 X) : _) (ix2 i j) : EReal) = -X.hd.dv i j := by
  unfold k0_pay48
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq, v133_eq, p44_eq, p45_eq, p46_eq, v148_eq]
  exact zero_sub _

theorem v153_eq (i : Fin 64) (j : Fin 128) : ((v153 X : _) (ix2 i j) : EReal) = X.hd.dw i j := by
  unfold v153 k0_pay49
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq, v133_eq, p44_eq, p45_eq, p46_eq, v148_eq, p48_eq]
  rfl

theorem v157_eq (k v : Fin 128) : ((v157 X : _) (ix2 k v) : EReal) = X.hd.dS k v := by
  unfold v157 k0_pay50
  pointwise
  try simp only [Fin.sum_univ_one, Fin.isValue, v8_eq, v10_eq, v13_eq, v15_eq, v69_eq, p4_eq, p5_eq, p7_eq, p8_eq, v19_eq, p9_eq, v20_eq, p10_eq, v21_eq, v28_eq, sel_eq, sel31_eq, p13_eq, p14_eq, v36_eq, p15_eq, v39_eq, v40_eq, p17_eq, p18_eq, v48_eq, v51_eq, p20_eq, v53_eq, p21_eq, v58_eq, p22_eq, p23_eq, v65_eq, p26_eq, v71_eq, v72_eq, v73_eq, v82_eq, v85_eq, v102_eq, p33_eq, v103_eq, p34_eq, p35_eq, v110_eq, v112_eq, p38_eq, v115_eq, v117_eq, v120_eq, v121_eq, v133_eq, p44_eq, p45_eq, p46_eq, v148_eq, p48_eq, v153_eq]
  rfl

end Cert.Scan.K
-- ==== Proof.ScanStores.lean ====
module

public import proofs.«01_k».proof.Proof.ScanHead

/-! What the gated delta rule's gradient kernel stores for each head: every head's stored values are the same functions of what
    it loads. -/

@[expose] public section

set_option maxRecDepth 16384

noncomputable section

open scoped BigOperators

namespace Cert.Scan.K

open Idealize.ShloMosaic Cert.ScanKernelIdeal Cert.ScanKernelIdeal.Gen Cert.Sgu Cert.Swiglu

variable (X : Ld) (acc : Vec Ideal S1x128 .f32)

/-- A head's stored value. -/
def sq (X : Ld) : Vec Ideal S64x128 .f32 := k0_pay46 (v15 X) (v20 X) (v102 X)
/-- A head's stored value. -/
def sk (X : Ld) : Vec Ideal S64x128 .f32 := v112 X
/-- A head's stored value. -/
def su (X : Ld) : Vec Ideal S64x128 .f32 := k0_pay44 (v10 X) (v102 X) (v110 X)
/-- A head's stored value. -/
def sw (X : Ld) : Vec Ideal S64x128 .f32 := v153 X
/-- A head's stored value. -/
def sgt (X : Ld) : Vec Ideal S64x128 .bf16 := k0_pay51 (v82 X)
/-- A head's stored value. -/
def sg (X : Ld) : Vec Ideal S1x64x128 .f32 := k0_pay52 (v148 X)
/-- A head's stored value. -/
def sa (X : Ld) : Vec Ideal S1x1x64x64 .f32 := k0_pay53 (v133 X)
/-- A head's stored value. -/
def so (X : Ld) (acc : Vec Ideal S1x128 .f32) : Vec Ideal S1x128 .f32 := k0_pay54 (v85 X) acc
/-- A head's stored value. -/
def ss (X : Ld) : Vec Ideal S1x128x128 .f32 := k0_pay55 (v157 X)

theorem sq_eq (i : Fin 64) (j : Fin 128) : (sq X (ix2 i j) : EReal) = X.hd.dq i j := p46_eq X i j
theorem sk_eq (i : Fin 64) (j : Fin 128) : (sk X (ix2 i j) : EReal) = X.hd.dk i j := v112_eq X i j
theorem su_eq (i : Fin 64) (j : Fin 128) : (su X (ix2 i j) : EReal) = X.hd.dv i j := p44_eq X i j
theorem sw_eq (i : Fin 64) (j : Fin 128) : (sw X (ix2 i j) : EReal) = X.hd.dw i j := v153_eq X i j
theorem sgt_eq (i : Fin 64) (j : Fin 128) : (sgt X (ix2 i j) : EReal) = X.hd.dgt i j := by
  unfold sgt k0_pay51
  pointwise
  exact v82_eq X i j
theorem sg_eq (i : Fin 64) (j : Fin 128) : (sg X (ix3 0 i j) : EReal) = X.hd.dg i j := by
  unfold sg k0_pay52
  pointwise
  exact v148_eq X i j
theorem sa_eq (i j : Fin 64) : (sa X (ix4 0 0 i j) : EReal) = X.hd.da i j := by
  unfold sa k0_pay53
  pointwise
  exact v133_eq X i j
theorem so_eq (j : Fin 128) : (so X acc (ix2 0 j) : EReal) = acc (ix2 0 j) + X.hd.dog j := by
  unfold so k0_pay54
  pointwise
  exact congrArg (_ + ·) (v85_eq X j)
theorem ss_eq (k v : Fin 128) : (ss X (ix3 0 k v) : EReal) = X.hd.dS k v := by
  unfold ss k0_pay55
  pointwise
  exact v157_eq X k v

section Words

variable {q k u w gate dy : Vec Ideal S64x128 .f32} {g : Vec Ideal S1x64x128 .f32} {a : Vec Ideal S1x1x64x64 .f32}
  {og : Vec Ideal S1x128 .f32} {s : Vec Ideal S1x1x128x128 .f32} {ds : Vec Ideal S1x128x128 .f32} {acc : Vec Ideal S1x128 .f32}

theorem sq0 : k0_pay46 (k0_pay7 s) (k0_pay9 g) (k0_pay32 (k0_pay6 og) (k0_pay11 q u w g a s) (k0_pay18 (k0_pay11 q u w g a s)) (k0_pay19 (k0_pay11 q u w g a s)) (k0_pay27 gate dy)) = sq ⟨q, k, u, w, g, a, gate, og, s, dy, ds⟩ := rfl
theorem sk0 : k0_pay37 (k0_pay8 u w s) (k0_pay15 (k0_pay4 g) (iota .tc S64x128 32 [0] iota_S64x128_d0_w32)) (k0_pay25 ds) = sk ⟨q, k, u, w, g, a, gate, og, s, dy, ds⟩ := rfl
theorem su0 : k0_pay44 (k0_pay5 a) (k0_pay32 (k0_pay6 og) (k0_pay11 q u w g a s) (k0_pay18 (k0_pay11 q u w g a s)) (k0_pay19 (k0_pay11 q u w g a s)) (k0_pay27 gate dy)) (k0_pay36 (k0_pay16 k (k0_pay4 g) (iota .tc S64x128 32 [0] iota_S64x128_d0_w32)) (k0_pay25 ds)) = su ⟨q, k, u, w, g, a, gate, og, s, dy, ds⟩ := rfl
theorem sw0 : k0_pay49 (k0_pay5 a) (k0_pay7 s) (k0_pay32 (k0_pay6 og) (k0_pay11 q u w g a s) (k0_pay18 (k0_pay11 q u w g a s)) (k0_pay19 (k0_pay11 q u w g a s)) (k0_pay27 gate dy)) (k0_pay36 (k0_pay16 k (k0_pay4 g) (iota .tc S64x128 32 [0] iota_S64x128_d0_w32)) (k0_pay25 ds)) = sw ⟨q, k, u, w, g, a, gate, og, s, dy, ds⟩ := rfl
theorem sgt0 : k0_pay51 (k0_pay30 (k0_pay21 gate) (k0_pay24 gate) (k0_pay28 gate (k0_pay6 og) (k0_pay11 q u w g a s) dy) (k0_pay29 gate (k0_pay6 og) (k0_pay11 q u w g a s) dy)) = sgt ⟨q, k, u, w, g, a, gate, og, s, dy, ds⟩ := rfl
theorem sg0 : k0_pay52 (k0_pay47 q (k0_pay7 s) (k0_pay9 g) (k0_pay12 (iota .tc S64x128 32 [0] iota_S64x128_d0_w32)) (k0_pay14 (k0_pay4 g) (iota .tc S64x128 32 [0] iota_S64x128_d0_w32)) (k0_pay32 (k0_pay6 og) (k0_pay11 q u w g a s) (k0_pay18 (k0_pay11 q u w g a s)) (k0_pay19 (k0_pay11 q u w g a s)) (k0_pay27 gate dy)) (k0_pay39 k (k0_pay8 u w s) (k0_pay15 (k0_pay4 g) (iota .tc S64x128 32 [0] iota_S64x128_d0_w32)) (k0_pay25 ds)) (k0_pay40 k (k0_pay8 u w s) (k0_pay15 (k0_pay4 g) (iota .tc S64x128 32 [0] iota_S64x128_d0_w32)) (k0_pay25 ds)) (k0_pay41 (k0_pay7 s) (k0_pay25 ds))) = sg ⟨q, k, u, w, g, a, gate, og, s, dy, ds⟩ := rfl
theorem sa0 : k0_pay53 (k0_pay43 (k0_pay8 u w s) (k0_pay32 (k0_pay6 og) (k0_pay11 q u w g a s) (k0_pay18 (k0_pay11 q u w g a s)) (k0_pay19 (k0_pay11 q u w g a s)) (k0_pay27 gate dy))) = sa ⟨q, k, u, w, g, a, gate, og, s, dy, ds⟩ := rfl
theorem so0 : k0_pay54 (k0_pay31 (k0_pay20 (k0_pay11 q u w g a s)) (k0_pay27 gate dy)) acc = so ⟨q, k, u, w, g, a, gate, og, s, dy, ds⟩ acc := rfl
theorem ss0 : k0_pay55 (k0_pay50 w (k0_pay5 a) (k0_pay10 q g) (k0_pay32 (k0_pay6 og) (k0_pay11 q u w g a s) (k0_pay18 (k0_pay11 q u w g a s)) (k0_pay19 (k0_pay11 q u w g a s)) (k0_pay27 gate dy)) (k0_pay33 (k0_pay25 ds)) (k0_pay36 (k0_pay16 k (k0_pay4 g) (iota .tc S64x128 32 [0] iota_S64x128_d0_w32)) (k0_pay25 ds)) (k0_pay42 (k0_pay14 (k0_pay4 g) (iota .tc S64x128 32 [0] iota_S64x128_d0_w32)))) = ss ⟨q, k, u, w, g, a, gate, og, s, dy, ds⟩ := rfl
theorem sq1 : k0_pay95 (k0_pay61 (k0_pay56 g)) (k0_pay92 (k0_pay59 s) (k0_pay63 q u w (k0_pay56 g) (k0_pay57 a) s) (k0_pay82 gate (k0_pay58 og) (k0_pay70 q u w (k0_pay56 g) (k0_pay57 a) s) dy) (k0_pay83 gate (k0_pay58 og) (k0_pay63 q u w (k0_pay56 g) (k0_pay57 a) s) (k0_pay71 q u w (k0_pay56 g) (k0_pay57 a) s) dy)) = sq ⟨q, k, u, w, g, a, gate, og, s, dy, ds⟩ := rfl
theorem sk1 : k0_pay88 (k0_pay60 u w s) (k0_pay67 (k0_pay56 g)) (k0_pay77 ds) = sk ⟨q, k, u, w, g, a, gate, og, s, dy, ds⟩ := rfl
theorem su1 : k0_pay91 (k0_pay57 a) (k0_pay63 q u w (k0_pay56 g) (k0_pay57 a) s) (k0_pay68 k (k0_pay56 g)) (k0_pay77 ds) (k0_pay82 gate (k0_pay58 og) (k0_pay70 q u w (k0_pay56 g) (k0_pay57 a) s) dy) (k0_pay83 gate (k0_pay58 og) (k0_pay63 q u w (k0_pay56 g) (k0_pay57 a) s) (k0_pay71 q u w (k0_pay56 g) (k0_pay57 a) s) dy) = su ⟨q, k, u, w, g, a, gate, og, s, dy, ds⟩ := rfl
theorem sw1 : k0_pay97 (k0_pay59 s) (k0_pay91 (k0_pay57 a) (k0_pay63 q u w (k0_pay56 g) (k0_pay57 a) s) (k0_pay68 k (k0_pay56 g)) (k0_pay77 ds) (k0_pay82 gate (k0_pay58 og) (k0_pay70 q u w (k0_pay56 g) (k0_pay57 a) s) dy) (k0_pay83 gate (k0_pay58 og) (k0_pay63 q u w (k0_pay56 g) (k0_pay57 a) s) (k0_pay71 q u w (k0_pay56 g) (k0_pay57 a) s) dy)) = sw ⟨q, k, u, w, g, a, gate, og, s, dy, ds⟩ := rfl
theorem sgt1 : k0_pay99 (k0_pay79 gate (k0_pay58 og) (k0_pay63 q u w (k0_pay56 g) (k0_pay57 a) s) (k0_pay72 q u w (k0_pay56 g) (k0_pay57 a) s) dy) = sgt ⟨q, k, u, w, g, a, gate, og, s, dy, ds⟩ := rfl
theorem sg1 : k0_pay100 (k0_pay61 (k0_pay56 g)) (k0_pay89 k (k0_pay59 s) (k0_pay60 u w s) (k0_pay64) (k0_pay66 (k0_pay56 g)) (k0_pay67 (k0_pay56 g)) (k0_pay77 ds)) (k0_pay94 q (k0_pay59 s) (k0_pay63 q u w (k0_pay56 g) (k0_pay57 a) s) (k0_pay82 gate (k0_pay58 og) (k0_pay70 q u w (k0_pay56 g) (k0_pay57 a) s) dy) (k0_pay83 gate (k0_pay58 og) (k0_pay63 q u w (k0_pay56 g) (k0_pay57 a) s) (k0_pay71 q u w (k0_pay56 g) (k0_pay57 a) s) dy)) = sg ⟨q, k, u, w, g, a, gate, og, s, dy, ds⟩ := rfl
theorem sa1 : k0_pay101 (k0_pay90 (k0_pay60 u w s) (k0_pay63 q u w (k0_pay56 g) (k0_pay57 a) s) (k0_pay82 gate (k0_pay58 og) (k0_pay70 q u w (k0_pay56 g) (k0_pay57 a) s) dy) (k0_pay83 gate (k0_pay58 og) (k0_pay63 q u w (k0_pay56 g) (k0_pay57 a) s) (k0_pay71 q u w (k0_pay56 g) (k0_pay57 a) s) dy)) = sa ⟨q, k, u, w, g, a, gate, og, s, dy, ds⟩ := rfl
theorem so1 : k0_pay102 (k0_pay80 gate (k0_pay63 q u w (k0_pay56 g) (k0_pay57 a) s) (k0_pay72 q u w (k0_pay56 g) (k0_pay57 a) s) dy) acc = so ⟨q, k, u, w, g, a, gate, og, s, dy, ds⟩ acc := rfl
theorem ss1 : k0_pay103 (k0_pay98 w (k0_pay91 (k0_pay57 a) (k0_pay63 q u w (k0_pay56 g) (k0_pay57 a) s) (k0_pay68 k (k0_pay56 g)) (k0_pay77 ds) (k0_pay82 gate (k0_pay58 og) (k0_pay70 q u w (k0_pay56 g) (k0_pay57 a) s) dy) (k0_pay83 gate (k0_pay58 og) (k0_pay63 q u w (k0_pay56 g) (k0_pay57 a) s) (k0_pay71 q u w (k0_pay56 g) (k0_pay57 a) s) dy)) (k0_pay93 (k0_pay62 q (k0_pay56 g)) (k0_pay63 q u w (k0_pay56 g) (k0_pay57 a) s) (k0_pay66 (k0_pay56 g)) (k0_pay77 ds) (k0_pay82 gate (k0_pay58 og) (k0_pay70 q u w (k0_pay56 g) (k0_pay57 a) s) dy) (k0_pay83 gate (k0_pay58 og) (k0_pay63 q u w (k0_pay56 g) (k0_pay57 a) s) (k0_pay71 q u w (k0_pay56 g) (k0_pay57 a) s) dy))) = ss ⟨q, k, u, w, g, a, gate, og, s, dy, ds⟩ := rfl
theorem sq2 : k0_pay146 (k0_pay107 s) (k0_pay109 g) (k0_pay132 (k0_pay106 og) (k0_pay111 q u w g a s) (k0_pay118 (k0_pay111 q u w g a s)) (k0_pay119 (k0_pay111 q u w g a s)) (k0_pay127 gate dy)) = sq ⟨q, k, u, w, g, a, gate, og, s, dy, ds⟩ := rfl
theorem sk2 : k0_pay137 (k0_pay108 u w s) (k0_pay115 (k0_pay104 g) (iota .tc S64x128 32 [0] iota_S64x128_d0_w32)) (k0_pay125 ds) = sk ⟨q, k, u, w, g, a, gate, og, s, dy, ds⟩ := rfl
theorem su2 : k0_pay144 (k0_pay105 a) (k0_pay132 (k0_pay106 og) (k0_pay111 q u w g a s) (k0_pay118 (k0_pay111 q u w g a s)) (k0_pay119 (k0_pay111 q u w g a s)) (k0_pay127 gate dy)) (k0_pay136 (k0_pay116 k (k0_pay104 g) (iota .tc S64x128 32 [0] iota_S64x128_d0_w32)) (k0_pay125 ds)) = su ⟨q, k, u, w, g, a, gate, og, s, dy, ds⟩ := rfl
theorem sw2 : k0_pay149 (k0_pay105 a) (k0_pay107 s) (k0_pay132 (k0_pay106 og) (k0_pay111 q u w g a s) (k0_pay118 (k0_pay111 q u w g a s)) (k0_pay119 (k0_pay111 q u w g a s)) (k0_pay127 gate dy)) (k0_pay136 (k0_pay116 k (k0_pay104 g) (iota .tc S64x128 32 [0] iota_S64x128_d0_w32)) (k0_pay125 ds)) = sw ⟨q, k, u, w, g, a, gate, og, s, dy, ds⟩ := rfl
theorem sgt2 : k0_pay151 (k0_pay130 (k0_pay121 gate) (k0_pay124 gate) (k0_pay128 gate (k0_pay106 og) (k0_pay111 q u w g a s) dy) (k0_pay129 gate (k0_pay106 og) (k0_pay111 q u w g a s) dy)) = sgt ⟨q, k, u, w, g, a, gate, og, s, dy, ds⟩ := rfl
theorem sg2 : k0_pay152 (k0_pay147 q (k0_pay107 s) (k0_pay109 g) (k0_pay112 (iota .tc S64x128 32 [0] iota_S64x128_d0_w32)) (k0_pay114 (k0_pay104 g) (iota .tc S64x128 32 [0] iota_S64x128_d0_w32)) (k0_pay132 (k0_pay106 og) (k0_pay111 q u w g a s) (k0_pay118 (k0_pay111 q u w g a s)) (k0_pay119 (k0_pay111 q u w g a s)) (k0_pay127 gate dy)) (k0_pay139 k (k0_pay108 u w s) (k0_pay115 (k0_pay104 g) (iota .tc S64x128 32 [0] iota_S64x128_d0_w32)) (k0_pay125 ds)) (k0_pay140 k (k0_pay108 u w s) (k0_pay115 (k0_pay104 g) (iota .tc S64x128 32 [0] iota_S64x128_d0_w32)) (k0_pay125 ds)) (k0_pay141 (k0_pay107 s) (k0_pay125 ds))) = sg ⟨q, k, u, w, g, a, gate, og, s, dy, ds⟩ := rfl
theorem sa2 : k0_pay153 (k0_pay143 (k0_pay108 u w s) (k0_pay132 (k0_pay106 og) (k0_pay111 q u w g a s) (k0_pay118 (k0_pay111 q u w g a s)) (k0_pay119 (k0_pay111 q u w g a s)) (k0_pay127 gate dy))) = sa ⟨q, k, u, w, g, a, gate, og, s, dy, ds⟩ := rfl
theorem so2 : k0_pay154 (k0_pay131 (k0_pay120 (k0_pay111 q u w g a s)) (k0_pay127 gate dy)) acc = so ⟨q, k, u, w, g, a, gate, og, s, dy, ds⟩ acc := rfl
theorem ss2 : k0_pay155 (k0_pay150 w (k0_pay105 a) (k0_pay110 q g) (k0_pay132 (k0_pay106 og) (k0_pay111 q u w g a s) (k0_pay118 (k0_pay111 q u w g a s)) (k0_pay119 (k0_pay111 q u w g a s)) (k0_pay127 gate dy)) (k0_pay133 (k0_pay125 ds)) (k0_pay136 (k0_pay116 k (k0_pay104 g) (iota .tc S64x128 32 [0] iota_S64x128_d0_w32)) (k0_pay125 ds)) (k0_pay142 (k0_pay114 (k0_pay104 g) (iota .tc S64x128 32 [0] iota_S64x128_d0_w32)))) = ss ⟨q, k, u, w, g, a, gate, og, s, dy, ds⟩ := rfl
theorem sq3 : k0_pay195 (k0_pay161 (k0_pay156 g)) (k0_pay192 (k0_pay159 s) (k0_pay163 q u w (k0_pay156 g) (k0_pay157 a) s) (k0_pay182 gate (k0_pay158 og) (k0_pay170 q u w (k0_pay156 g) (k0_pay157 a) s) dy) (k0_pay183 gate (k0_pay158 og) (k0_pay163 q u w (k0_pay156 g) (k0_pay157 a) s) (k0_pay171 q u w (k0_pay156 g) (k0_pay157 a) s) dy)) = sq ⟨q, k, u, w, g, a, gate, og, s, dy, ds⟩ := rfl
theorem sk3 : k0_pay188 (k0_pay160 u w s) (k0_pay167 (k0_pay156 g)) (k0_pay177 ds) = sk ⟨q, k, u, w, g, a, gate, og, s, dy, ds⟩ := rfl
theorem su3 : k0_pay191 (k0_pay157 a) (k0_pay163 q u w (k0_pay156 g) (k0_pay157 a) s) (k0_pay168 k (k0_pay156 g)) (k0_pay177 ds) (k0_pay182 gate (k0_pay158 og) (k0_pay170 q u w (k0_pay156 g) (k0_pay157 a) s) dy) (k0_pay183 gate (k0_pay158 og) (k0_pay163 q u w (k0_pay156 g) (k0_pay157 a) s) (k0_pay171 q u w (k0_pay156 g) (k0_pay157 a) s) dy) = su ⟨q, k, u, w, g, a, gate, og, s, dy, ds⟩ := rfl
theorem sw3 : k0_pay197 (k0_pay159 s) (k0_pay191 (k0_pay157 a) (k0_pay163 q u w (k0_pay156 g) (k0_pay157 a) s) (k0_pay168 k (k0_pay156 g)) (k0_pay177 ds) (k0_pay182 gate (k0_pay158 og) (k0_pay170 q u w (k0_pay156 g) (k0_pay157 a) s) dy) (k0_pay183 gate (k0_pay158 og) (k0_pay163 q u w (k0_pay156 g) (k0_pay157 a) s) (k0_pay171 q u w (k0_pay156 g) (k0_pay157 a) s) dy)) = sw ⟨q, k, u, w, g, a, gate, og, s, dy, ds⟩ := rfl
theorem sgt3 : k0_pay199 (k0_pay179 gate (k0_pay158 og) (k0_pay163 q u w (k0_pay156 g) (k0_pay157 a) s) (k0_pay172 q u w (k0_pay156 g) (k0_pay157 a) s) dy) = sgt ⟨q, k, u, w, g, a, gate, og, s, dy, ds⟩ := rfl
theorem sg3 : k0_pay200 (k0_pay161 (k0_pay156 g)) (k0_pay189 k (k0_pay159 s) (k0_pay160 u w s) (k0_pay164) (k0_pay166 (k0_pay156 g)) (k0_pay167 (k0_pay156 g)) (k0_pay177 ds)) (k0_pay194 q (k0_pay159 s) (k0_pay163 q u w (k0_pay156 g) (k0_pay157 a) s) (k0_pay182 gate (k0_pay158 og) (k0_pay170 q u w (k0_pay156 g) (k0_pay157 a) s) dy) (k0_pay183 gate (k0_pay158 og) (k0_pay163 q u w (k0_pay156 g) (k0_pay157 a) s) (k0_pay171 q u w (k0_pay156 g) (k0_pay157 a) s) dy)) = sg ⟨q, k, u, w, g, a, gate, og, s, dy, ds⟩ := rfl
theorem sa3 : k0_pay201 (k0_pay190 (k0_pay160 u w s) (k0_pay163 q u w (k0_pay156 g) (k0_pay157 a) s) (k0_pay182 gate (k0_pay158 og) (k0_pay170 q u w (k0_pay156 g) (k0_pay157 a) s) dy) (k0_pay183 gate (k0_pay158 og) (k0_pay163 q u w (k0_pay156 g) (k0_pay157 a) s) (k0_pay171 q u w (k0_pay156 g) (k0_pay157 a) s) dy)) = sa ⟨q, k, u, w, g, a, gate, og, s, dy, ds⟩ := rfl
theorem so3 : k0_pay202 (k0_pay180 gate (k0_pay163 q u w (k0_pay156 g) (k0_pay157 a) s) (k0_pay172 q u w (k0_pay156 g) (k0_pay157 a) s) dy) acc = so ⟨q, k, u, w, g, a, gate, og, s, dy, ds⟩ acc := rfl
theorem ss3 : k0_pay203 (k0_pay198 w (k0_pay191 (k0_pay157 a) (k0_pay163 q u w (k0_pay156 g) (k0_pay157 a) s) (k0_pay168 k (k0_pay156 g)) (k0_pay177 ds) (k0_pay182 gate (k0_pay158 og) (k0_pay170 q u w (k0_pay156 g) (k0_pay157 a) s) dy) (k0_pay183 gate (k0_pay158 og) (k0_pay163 q u w (k0_pay156 g) (k0_pay157 a) s) (k0_pay171 q u w (k0_pay156 g) (k0_pay157 a) s) dy)) (k0_pay193 (k0_pay162 q (k0_pay156 g)) (k0_pay163 q u w (k0_pay156 g) (k0_pay157 a) s) (k0_pay166 (k0_pay156 g)) (k0_pay177 ds) (k0_pay182 gate (k0_pay158 og) (k0_pay170 q u w (k0_pay156 g) (k0_pay157 a) s) dy) (k0_pay183 gate (k0_pay158 og) (k0_pay163 q u w (k0_pay156 g) (k0_pay157 a) s) (k0_pay171 q u w (k0_pay156 g) (k0_pay157 a) s) dy))) = ss ⟨q, k, u, w, g, a, gate, og, s, dy, ds⟩ := rfl
theorem sq4 : k0_pay246 (k0_pay207 s) (k0_pay209 g) (k0_pay232 (k0_pay206 og) (k0_pay211 q u w g a s) (k0_pay218 (k0_pay211 q u w g a s)) (k0_pay219 (k0_pay211 q u w g a s)) (k0_pay227 gate dy)) = sq ⟨q, k, u, w, g, a, gate, og, s, dy, ds⟩ := rfl
theorem sk4 : k0_pay237 (k0_pay208 u w s) (k0_pay215 (k0_pay204 g) (iota .tc S64x128 32 [0] iota_S64x128_d0_w32)) (k0_pay225 ds) = sk ⟨q, k, u, w, g, a, gate, og, s, dy, ds⟩ := rfl
theorem su4 : k0_pay244 (k0_pay205 a) (k0_pay232 (k0_pay206 og) (k0_pay211 q u w g a s) (k0_pay218 (k0_pay211 q u w g a s)) (k0_pay219 (k0_pay211 q u w g a s)) (k0_pay227 gate dy)) (k0_pay236 (k0_pay216 k (k0_pay204 g) (iota .tc S64x128 32 [0] iota_S64x128_d0_w32)) (k0_pay225 ds)) = su ⟨q, k, u, w, g, a, gate, og, s, dy, ds⟩ := rfl
theorem sw4 : k0_pay249 (k0_pay205 a) (k0_pay207 s) (k0_pay232 (k0_pay206 og) (k0_pay211 q u w g a s) (k0_pay218 (k0_pay211 q u w g a s)) (k0_pay219 (k0_pay211 q u w g a s)) (k0_pay227 gate dy)) (k0_pay236 (k0_pay216 k (k0_pay204 g) (iota .tc S64x128 32 [0] iota_S64x128_d0_w32)) (k0_pay225 ds)) = sw ⟨q, k, u, w, g, a, gate, og, s, dy, ds⟩ := rfl
theorem sgt4 : k0_pay251 (k0_pay230 (k0_pay221 gate) (k0_pay224 gate) (k0_pay228 gate (k0_pay206 og) (k0_pay211 q u w g a s) dy) (k0_pay229 gate (k0_pay206 og) (k0_pay211 q u w g a s) dy)) = sgt ⟨q, k, u, w, g, a, gate, og, s, dy, ds⟩ := rfl
theorem sg4 : k0_pay252 (k0_pay247 q (k0_pay207 s) (k0_pay209 g) (k0_pay212 (iota .tc S64x128 32 [0] iota_S64x128_d0_w32)) (k0_pay214 (k0_pay204 g) (iota .tc S64x128 32 [0] iota_S64x128_d0_w32)) (k0_pay232 (k0_pay206 og) (k0_pay211 q u w g a s) (k0_pay218 (k0_pay211 q u w g a s)) (k0_pay219 (k0_pay211 q u w g a s)) (k0_pay227 gate dy)) (k0_pay239 k (k0_pay208 u w s) (k0_pay215 (k0_pay204 g) (iota .tc S64x128 32 [0] iota_S64x128_d0_w32)) (k0_pay225 ds)) (k0_pay240 k (k0_pay208 u w s) (k0_pay215 (k0_pay204 g) (iota .tc S64x128 32 [0] iota_S64x128_d0_w32)) (k0_pay225 ds)) (k0_pay241 (k0_pay207 s) (k0_pay225 ds))) = sg ⟨q, k, u, w, g, a, gate, og, s, dy, ds⟩ := rfl
theorem sa4 : k0_pay253 (k0_pay243 (k0_pay208 u w s) (k0_pay232 (k0_pay206 og) (k0_pay211 q u w g a s) (k0_pay218 (k0_pay211 q u w g a s)) (k0_pay219 (k0_pay211 q u w g a s)) (k0_pay227 gate dy))) = sa ⟨q, k, u, w, g, a, gate, og, s, dy, ds⟩ := rfl
theorem so4 : k0_pay254 (k0_pay231 (k0_pay220 (k0_pay211 q u w g a s)) (k0_pay227 gate dy)) acc = so ⟨q, k, u, w, g, a, gate, og, s, dy, ds⟩ acc := rfl
theorem ss4 : k0_pay255 (k0_pay250 w (k0_pay205 a) (k0_pay210 q g) (k0_pay232 (k0_pay206 og) (k0_pay211 q u w g a s) (k0_pay218 (k0_pay211 q u w g a s)) (k0_pay219 (k0_pay211 q u w g a s)) (k0_pay227 gate dy)) (k0_pay233 (k0_pay225 ds)) (k0_pay236 (k0_pay216 k (k0_pay204 g) (iota .tc S64x128 32 [0] iota_S64x128_d0_w32)) (k0_pay225 ds)) (k0_pay242 (k0_pay214 (k0_pay204 g) (iota .tc S64x128 32 [0] iota_S64x128_d0_w32)))) = ss ⟨q, k, u, w, g, a, gate, og, s, dy, ds⟩ := rfl
theorem sq5 : k0_pay295 (k0_pay261 (k0_pay256 g)) (k0_pay292 (k0_pay259 s) (k0_pay263 q u w (k0_pay256 g) (k0_pay257 a) s) (k0_pay282 gate (k0_pay258 og) (k0_pay270 q u w (k0_pay256 g) (k0_pay257 a) s) dy) (k0_pay283 gate (k0_pay258 og) (k0_pay263 q u w (k0_pay256 g) (k0_pay257 a) s) (k0_pay271 q u w (k0_pay256 g) (k0_pay257 a) s) dy)) = sq ⟨q, k, u, w, g, a, gate, og, s, dy, ds⟩ := rfl
theorem sk5 : k0_pay288 (k0_pay260 u w s) (k0_pay267 (k0_pay256 g)) (k0_pay277 ds) = sk ⟨q, k, u, w, g, a, gate, og, s, dy, ds⟩ := rfl
theorem su5 : k0_pay291 (k0_pay257 a) (k0_pay263 q u w (k0_pay256 g) (k0_pay257 a) s) (k0_pay268 k (k0_pay256 g)) (k0_pay277 ds) (k0_pay282 gate (k0_pay258 og) (k0_pay270 q u w (k0_pay256 g) (k0_pay257 a) s) dy) (k0_pay283 gate (k0_pay258 og) (k0_pay263 q u w (k0_pay256 g) (k0_pay257 a) s) (k0_pay271 q u w (k0_pay256 g) (k0_pay257 a) s) dy) = su ⟨q, k, u, w, g, a, gate, og, s, dy, ds⟩ := rfl
theorem sw5 : k0_pay297 (k0_pay259 s) (k0_pay291 (k0_pay257 a) (k0_pay263 q u w (k0_pay256 g) (k0_pay257 a) s) (k0_pay268 k (k0_pay256 g)) (k0_pay277 ds) (k0_pay282 gate (k0_pay258 og) (k0_pay270 q u w (k0_pay256 g) (k0_pay257 a) s) dy) (k0_pay283 gate (k0_pay258 og) (k0_pay263 q u w (k0_pay256 g) (k0_pay257 a) s) (k0_pay271 q u w (k0_pay256 g) (k0_pay257 a) s) dy)) = sw ⟨q, k, u, w, g, a, gate, og, s, dy, ds⟩ := rfl
theorem sgt5 : k0_pay299 (k0_pay279 gate (k0_pay258 og) (k0_pay263 q u w (k0_pay256 g) (k0_pay257 a) s) (k0_pay272 q u w (k0_pay256 g) (k0_pay257 a) s) dy) = sgt ⟨q, k, u, w, g, a, gate, og, s, dy, ds⟩ := rfl
theorem sg5 : k0_pay300 (k0_pay261 (k0_pay256 g)) (k0_pay289 k (k0_pay259 s) (k0_pay260 u w s) (k0_pay264) (k0_pay266 (k0_pay256 g)) (k0_pay267 (k0_pay256 g)) (k0_pay277 ds)) (k0_pay294 q (k0_pay259 s) (k0_pay263 q u w (k0_pay256 g) (k0_pay257 a) s) (k0_pay282 gate (k0_pay258 og) (k0_pay270 q u w (k0_pay256 g) (k0_pay257 a) s) dy) (k0_pay283 gate (k0_pay258 og) (k0_pay263 q u w (k0_pay256 g) (k0_pay257 a) s) (k0_pay271 q u w (k0_pay256 g) (k0_pay257 a) s) dy)) = sg ⟨q, k, u, w, g, a, gate, og, s, dy, ds⟩ := rfl
theorem sa5 : k0_pay301 (k0_pay290 (k0_pay260 u w s) (k0_pay263 q u w (k0_pay256 g) (k0_pay257 a) s) (k0_pay282 gate (k0_pay258 og) (k0_pay270 q u w (k0_pay256 g) (k0_pay257 a) s) dy) (k0_pay283 gate (k0_pay258 og) (k0_pay263 q u w (k0_pay256 g) (k0_pay257 a) s) (k0_pay271 q u w (k0_pay256 g) (k0_pay257 a) s) dy)) = sa ⟨q, k, u, w, g, a, gate, og, s, dy, ds⟩ := rfl
theorem so5 : k0_pay302 (k0_pay280 gate (k0_pay263 q u w (k0_pay256 g) (k0_pay257 a) s) (k0_pay272 q u w (k0_pay256 g) (k0_pay257 a) s) dy) acc = so ⟨q, k, u, w, g, a, gate, og, s, dy, ds⟩ acc := rfl
theorem ss5 : k0_pay1 (k0_pay298 w (k0_pay291 (k0_pay257 a) (k0_pay263 q u w (k0_pay256 g) (k0_pay257 a) s) (k0_pay268 k (k0_pay256 g)) (k0_pay277 ds) (k0_pay282 gate (k0_pay258 og) (k0_pay270 q u w (k0_pay256 g) (k0_pay257 a) s) dy) (k0_pay283 gate (k0_pay258 og) (k0_pay263 q u w (k0_pay256 g) (k0_pay257 a) s) (k0_pay271 q u w (k0_pay256 g) (k0_pay257 a) s) dy)) (k0_pay293 (k0_pay262 q (k0_pay256 g)) (k0_pay263 q u w (k0_pay256 g) (k0_pay257 a) s) (k0_pay266 (k0_pay256 g)) (k0_pay277 ds) (k0_pay282 gate (k0_pay258 og) (k0_pay270 q u w (k0_pay256 g) (k0_pay257 a) s) dy) (k0_pay283 gate (k0_pay258 og) (k0_pay263 q u w (k0_pay256 g) (k0_pay257 a) s) (k0_pay271 q u w (k0_pay256 g) (k0_pay257 a) s) dy))) = ss ⟨q, k, u, w, g, a, gate, og, s, dy, ds⟩ := rfl

end Words

end Cert.Scan.K
-- ==== Proof.ScanTiles.lean ====
module

public import proofs.«01_k».proof.Proof.ScanStores
public import Idealize.ShloMosaic.Lib.Pipeline.ValueKit.Tiles
public import Idealize.ShloMosaic.Lib.Pipeline.ValueKit.Acc
public import Idealize.ShloMosaic.Lib.Pipeline.ReadBack

/-! The gated delta rule's blocks by head: a load of a head's part of a block, and six stores, one per head, read back. -/

@[expose] public section

noncomputable section

namespace Cert.Scan.K

open Idealize.ShloMosaic Cert.ScanKernelIdeal Cert.ScanKernelIdeal.Gen

/-- Equal fields give equal loads. -/
theorem Ld.congr {q q' k k' u u' w w' gate gate' dy dy' : Vec Ideal S64x128 .f32} {g g' : Vec Ideal S1x64x128 .f32}
    {a a' : Vec Ideal S1x1x64x64 .f32} {og og' : Vec Ideal S1x128 .f32} {s s' : Vec Ideal S1x1x128x128 .f32}
    {ds ds' : Vec Ideal S1x128x128 .f32} (hq : q = q') (hk : k = k') (hu : u = u') (hw : w = w') (hg : g = g') (ha : a = a')
    (hgate : gate = gate') (hog : og = og') (hs : s = s') (hdy : dy = dy') (hds : ds = ds') :
    (⟨q, k, u, w, g, a, gate, og, s, dy, ds⟩ : Ld) = ⟨q', k', u', w', g', a', gate', og', s', dy', ds'⟩ := by
  subst hq hk hu hw hg ha hgate hog hs hdy hds
  rfl

/-- What the kernel loads for head `h` at a point whose blocks are the given ones. -/
def LB (x0 x1 x2 x3 : Vec Ideal S64x768 .f32) (x4 : Vec Ideal S6x64x128 .f32) (x5 : Vec Ideal S6x1x64x64 .f32)
    (x6 : Vec Ideal S64x768 .f32) (x7 : Vec Ideal S1x128 .f32) (x8 : Vec Ideal S1x6x128x128 .f32)
    (x9 x10 x11 x12 x13 x14 : Vec Ideal S64x128 .f32) (xs0 : Vec Ideal S6x128x128 .f32) (h : Fin 6) : Ld where
  q := fun y => x0 (ix2 (y 0) ⟨h.val * 128 + (y 1).val, by have : (y 1).val < 128 := (y 1).isLt; omega⟩)
  k := fun y => x1 (ix2 (y 0) ⟨h.val * 128 + (y 1).val, by have : (y 1).val < 128 := (y 1).isLt; omega⟩)
  u := fun y => x2 (ix2 (y 0) ⟨h.val * 128 + (y 1).val, by have : (y 1).val < 128 := (y 1).isLt; omega⟩)
  w := fun y => x3 (ix2 (y 0) ⟨h.val * 128 + (y 1).val, by have : (y 1).val < 128 := (y 1).isLt; omega⟩)
  g := fun y => x4 (ix3 h (y 1) (y 2))
  a := fun y => x5 (ix4 h 0 (y 2) (y 3))
  gate := fun y => x6 (ix2 (y 0) ⟨h.val * 128 + (y 1).val, by have : (y 1).val < 128 := (y 1).isLt; omega⟩)
  og := x7
  s := fun y => x8 (ix4 0 h (y 2) (y 3))
  dy := match h with
    | 0 => x9
    | 1 => x10
    | 2 => x11
    | 3 => x12
    | 4 => x13
    | 5 => x14
  ds := fun y => xs0 (ix3 h (y 1) (y 2))

section Loads

variable {sp : Space}

/-- A load of a head's columns. -/
theorem ld2 (r : Memref sig .tc sp S64x768 .f32) (hr : r.IsWhole) (x : Vec Ideal S64x768 .f32) (h : Fin 6) (o : ℕ) (ho : o = h.val * 128)
    (inb : ∀ a, (![0, o] : Fin 2 → ℕ) a + S64x128.size a ≤ S64x768.size a) :
    View.readAt (Elt Ideal) r.view (Rect.unit (s := S64x768) ![0, o] S64x128.size inb).toLoadRect (hr.unread x)
      = fun y => x (ix2 (y 0) ⟨h.val * 128 + (y 1).val, by have : (y 1).val < 128 := (y 1).isLt; omega⟩) := by
  subst ho
  rw [View.readAt_eq_ld, hr.read_unread]
  funext y
  refine View.ld_unit_apply_of x _ _ _ _ _ fun a => ?_
  match a with
  | ⟨0, _⟩ => show (y 0).val = 0 + (y 0).val; omega
  | ⟨1, _⟩ => rfl

/-- A load of a head's slice of the summed log decays. -/
theorem ld3 (r : Memref sig .tc sp S6x64x128 .f32) (hr : r.IsWhole) (x : Vec Ideal S6x64x128 .f32) (h : Fin 6)
    (inb : ∀ a, (![h.val, 0, 0] : Fin 3 → ℕ) a + S1x64x128.size a ≤ S6x64x128.size a) :
    View.readAt (Elt Ideal) r.view (Rect.unit (s := S6x64x128) ![h.val, 0, 0] S1x64x128.size inb).toLoadRect (hr.unread x)
      = fun y => x (ix3 h (y 1) (y 2)) := by
  rw [View.readAt_eq_ld, hr.read_unread]
  funext y
  refine View.ld_unit_apply_of x _ _ _ _ _ fun a => ?_
  have h0 : (y 0).val < 1 := (y 0).isLt
  match a with
  | ⟨0, _⟩ => show h.val = h.val + (y 0).val; omega
  | ⟨1, _⟩ => show (y 1).val = 0 + (y 1).val; omega
  | ⟨2, _⟩ => show (y 2).val = 0 + (y 2).val; omega

/-- A load of a head's slice of the attention. -/
theorem ld4 (r : Memref sig .tc sp S6x1x64x64 .f32) (hr : r.IsWhole) (x : Vec Ideal S6x1x64x64 .f32) (h : Fin 6)
    (inb : ∀ a, (![h.val, 0, 0, 0] : Fin 4 → ℕ) a + S1x1x64x64.size a ≤ S6x1x64x64.size a) :
    View.readAt (Elt Ideal) r.view (Rect.unit (s := S6x1x64x64) ![h.val, 0, 0, 0] S1x1x64x64.size inb).toLoadRect (hr.unread x)
      = fun y => x (ix4 h 0 (y 2) (y 3)) := by
  rw [View.readAt_eq_ld, hr.read_unread]
  funext y
  refine View.ld_unit_apply_of x _ _ _ _ _ fun a => ?_
  have h0 : (y 0).val < 1 := (y 0).isLt
  have h1 : (y 1).val < 1 := (y 1).isLt
  match a with
  | ⟨0, _⟩ => show h.val = h.val + (y 0).val; omega
  | ⟨1, _⟩ => show 0 = 0 + (y 1).val; omega
  | ⟨2, _⟩ => show (y 2).val = 0 + (y 2).val; omega
  | ⟨3, _⟩ => show (y 3).val = 0 + (y 3).val; omega

/-- A load of a head's slice of the states. -/
theorem lds (r : Memref sig .tc sp S1x6x128x128 .f32) (hr : r.IsWhole) (x : Vec Ideal S1x6x128x128 .f32) (h : Fin 6)
    (inb : ∀ a, (![0, h.val, 0, 0] : Fin 4 → ℕ) a + S1x1x128x128.size a ≤ S1x6x128x128.size a) :
    View.readAt (Elt Ideal) r.view (Rect.unit (s := S1x6x128x128) ![0, h.val, 0, 0] S1x1x128x128.size inb).toLoadRect (hr.unread x)
      = fun y => x (ix4 0 h (y 2) (y 3)) := by
  rw [View.readAt_eq_ld, hr.read_unread]
  funext y
  refine View.ld_unit_apply_of x _ _ _ _ _ fun a => ?_
  have h0 : (y 0).val < 1 := (y 0).isLt
  have h1 : (y 1).val < 1 := (y 1).isLt
  match a with
  | ⟨0, _⟩ => show 0 = 0 + (y 0).val; omega
  | ⟨1, _⟩ => show h.val = h.val + (y 1).val; omega
  | ⟨2, _⟩ => show (y 2).val = 0 + (y 2).val; omega
  | ⟨3, _⟩ => show (y 3).val = 0 + (y 3).val; omega

/-- A head's slice of a whole scratch. -/
theorem ldz (x : Vec Ideal S6x128x128 .f32) (h : Fin 6)
    (inb : ∀ a, (![h.val, 0, 0] : Fin 3 → ℕ) a + S1x128x128.size a ≤ S6x128x128.size a) :
    View.ld x (Rect.unit (s := S6x128x128) ![h.val, 0, 0] S1x128x128.size inb) = fun y => x (ix3 h (y 1) (y 2)) := by
  funext y
  refine View.ld_unit_apply_of x _ _ _ _ _ fun a => ?_
  have h0 : (y 0).val < 1 := (y 0).isLt
  match a with
  | ⟨0, _⟩ => show h.val = h.val + (y 0).val; omega
  | ⟨1, _⟩ => show (y 1).val = 0 + (y 1).val; omega
  | ⟨2, _⟩ => show (y 2).val = 0 + (y 2).val; omega

/-- A load of a head's slice of the scratch. -/
theorem ldd (r : Memref sig .tc sp S6x128x128 .f32) (hr : r.IsWhole) (x : Vec Ideal S6x128x128 .f32) (h : Fin 6)
    (inb : ∀ a, (![h.val, 0, 0] : Fin 3 → ℕ) a + S1x128x128.size a ≤ S6x128x128.size a) :
    View.readAt (Elt Ideal) r.view (Rect.unit (s := S6x128x128) ![h.val, 0, 0] S1x128x128.size inb).toLoadRect (hr.unread x)
      = fun y => x (ix3 h (y 1) (y 2)) := by
  rw [View.readAt_eq_ld, hr.read_unread]
  exact ldz x h inb

/-- A load of a whole block of one row. -/
theorem ldo (r : Memref sig .tc sp S1x128 .f32) (hr : r.IsWhole) (x : Vec Ideal S1x128 .f32)
    (inb : ∀ a, (![0, 0] : Fin 2 → ℕ) a + S1x128.size a ≤ S1x128.size a) :
    View.readAt (Elt Ideal) r.view (Rect.unit (s := S1x128) ![0, 0] S1x128.size inb).toLoadRect (hr.unread x) = x := by
  rw [View.readAt_eq_ld, hr.read_unread]
  exact View.ld_unit_lit' inb x (by decide)

/-- A load of a whole block of 64 rows. -/
theorem ldy (r : Memref sig .tc sp S64x128 .f32) (hr : r.IsWhole) (x : Vec Ideal S64x128 .f32)
    (inb : ∀ a, (![0, 0] : Fin 2 → ℕ) a + S64x128.size a ≤ S64x128.size a) :
    View.readAt (Elt Ideal) r.view (Rect.unit (s := S64x128) ![0, 0] S64x128.size inb).toLoadRect (hr.unread x) = x := by
  rw [View.readAt_eq_ld, hr.read_unread]
  exact View.ld_unit_lit' inb x (by decide)

/-- A head's columns lie in the block. -/
theorem in2 : ∀ (h : Fin 6) (a : Fin 2), (![0, h.val * 128] : Fin 2 → ℕ) a + S64x128.size a ≤ S64x768.size a := by decide
/-- A head's slice of the summed log decays lies in the block. -/
theorem in3 : ∀ (h : Fin 6) (a : Fin 3), (![h.val, 0, 0] : Fin 3 → ℕ) a + S1x64x128.size a ≤ S6x64x128.size a := by decide
/-- A head's slice of the attention lies in the block. -/
theorem in4 : ∀ (h : Fin 6) (a : Fin 4), (![h.val, 0, 0, 0] : Fin 4 → ℕ) a + S1x1x64x64.size a ≤ S6x1x64x64.size a := by decide
/-- A head's slice of the states lies in the block. -/
theorem ins : ∀ (h : Fin 6) (a : Fin 4), (![0, h.val, 0, 0] : Fin 4 → ℕ) a + S1x1x128x128.size a ≤ S1x6x128x128.size a := by decide

/-- What a head loads at a point, as its parts of the point's blocks. The block of its `dy` is given, and what it finds in the
scratch. -/
theorem ldh (a1 : Memref sig .tc sp S64x768 .f32) (h1 : a1.IsWhole) (a2 : Memref sig .tc sp S64x768 .f32) (h2 : a2.IsWhole)
    (a3 : Memref sig .tc sp S64x768 .f32) (h3 : a3.IsWhole) (a4 : Memref sig .tc sp S64x768 .f32) (h4 : a4.IsWhole)
    (a5 : Memref sig .tc sp S6x64x128 .f32) (h5 : a5.IsWhole) (a6 : Memref sig .tc sp S6x1x64x64 .f32) (h6 : a6.IsWhole)
    (a7 : Memref sig .tc sp S64x768 .f32) (h7 : a7.IsWhole) (a8 : Memref sig .tc sp S1x128 .f32) (h8 : a8.IsWhole)
    (a9 : Memref sig .tc sp S1x6x128x128 .f32) (h9 : a9.IsWhole) (x0 x1 x2 x3 : Vec Ideal S64x768 .f32) (x4 : Vec Ideal S6x64x128 .f32)
    (x5 : Vec Ideal S6x1x64x64 .f32) (x6 : Vec Ideal S64x768 .f32) (x7 : Vec Ideal S1x128 .f32) (x8 : Vec Ideal S1x6x128x128 .f32)
    (x9 x10 x11 x12 x13 x14 : Vec Ideal S64x128 .f32) (xs0 : Vec Ideal S6x128x128 .f32) (h : Fin 6)
    (b : Memref sig .tc sp S64x128 .f32) (hb : b.IsWhole) {xb : Vec Ideal S64x128 .f32} {ds : Vec Ideal S1x128x128 .f32}
    (hx : xb = (LB x0 x1 x2 x3 x4 x5 x6 x7 x8 x9 x10 x11 x12 x13 x14 xs0 h).dy) (hds : ds = fun y => xs0 (ix3 h (y 1) (y 2))) :
    (⟨View.readAt (Elt Ideal) a1.view (Rect.unit (s := S64x768) ![0, h.val * 128] S64x128.size (in2 h)).toLoadRect (h1.unread x0),
    View.readAt (Elt Ideal) a2.view (Rect.unit (s := S64x768) ![0, h.val * 128] S64x128.size (in2 h)).toLoadRect (h2.unread x1),
    View.readAt (Elt Ideal) a3.view (Rect.unit (s := S64x768) ![0, h.val * 128] S64x128.size (in2 h)).toLoadRect (h3.unread x2),
    View.readAt (Elt Ideal) a4.view (Rect.unit (s := S64x768) ![0, h.val * 128] S64x128.size (in2 h)).toLoadRect (h4.unread x3),
    View.readAt (Elt Ideal) a5.view (Rect.unit (s := S6x64x128) ![h.val, 0, 0] S1x64x128.size (in3 h)).toLoadRect (h5.unread x4),
    View.readAt (Elt Ideal) a6.view (Rect.unit (s := S6x1x64x64) ![h.val, 0, 0, 0] S1x1x64x64.size (in4 h)).toLoadRect (h6.unread x5),
    View.readAt (Elt Ideal) a7.view (Rect.unit (s := S64x768) ![0, h.val * 128] S64x128.size (in2 h)).toLoadRect (h7.unread x6),
    View.readAt (Elt Ideal) a8.view (Rect.unit (s := S1x128) ![0, 0] S1x128.size inb_S1x128_S1x128_0_0).toLoadRect (h8.unread x7),
    View.readAt (Elt Ideal) a9.view (Rect.unit (s := S1x6x128x128) ![0, h.val, 0, 0] S1x1x128x128.size (ins h)).toLoadRect (h9.unread x8),
    View.readAt (Elt Ideal) b.view (Rect.unit (s := S64x128) ![0, 0] S64x128.size inb_S64x128_S64x128_0_0).toLoadRect (hb.unread xb), ds⟩ : Ld) =
    LB x0 x1 x2 x3 x4 x5 x6 x7 x8 x9 x10 x11 x12 x13 x14 xs0 h :=
  Ld.congr (ld2 a1 h1 x0 h _ rfl _) (ld2 a2 h2 x1 h _ rfl _) (ld2 a3 h3 x2 h _ rfl _) (ld2 a4 h4 x3 h _ rfl _) (ld3 a5 h5 x4 h _)
    (ld4 a6 h6 x5 h _) (ld2 a7 h7 x6 h _ rfl _) (ldo a8 h8 x7 _) (lds a9 h9 x8 h _) ((ldy b hb xb _).trans hx) hds

end Loads

section Six

variable {e : EltTy}

/-- A store of a head's columns, read back inside it. -/
theorem hit2 (h : Fin 6) (o : ℕ) (ho : o = h.val * 128) (inb : ∀ a, (![0, o] : Fin 2 → ℕ) a + S64x128.size a ≤ S64x768.size a)
    (P : Vec Ideal S64x128 e) (L : List (View.Piece (Elt Ideal) S64x768 e)) (i : Fin 64) (j : Fin 128) :
    View.canon (⟨Rect.unit (s := S64x768) ![0, o] S64x128.size inb, P⟩ :: L) (ix2 i ⟨h.val * 128 + j.val, by omega⟩) = P (ix2 i j) := by
  subst ho
  have e1 : (ix2 i ⟨h.val * 128 + j.val, by omega⟩ : S64x768.Idx) = (Rect.unit (s := S64x768) ![0, (h.val * 128)] S64x128.size inb).emb (ix2 i j) := by
    funext a
    apply Fin.ext
    rw [Rect.emb_apply]
    match a with
    | ⟨0, _⟩ => exact (by show i.val = 0 + 1 * i.val; omega)
    | ⟨1, _⟩ => exact (by show h.val * 128 + j.val = h.val * 128 + 1 * j.val; omega)
  rw [e1]
  exact View.canon_cons_emb (Rect.unit (s := S64x768) ![0, (h.val * 128)] S64x128.size inb) P L (ix2 i j)

/-- A store of another head's part is not seen. -/
theorem miss2 (h h' : Fin 6) (hh : h ≠ h') (o : ℕ) (ho : o = h'.val * 128) (inb : ∀ a, (![0, o] : Fin 2 → ℕ) a + S64x128.size a ≤ S64x768.size a)
    (P : Vec Ideal S64x128 e) (L : List (View.Piece (Elt Ideal) S64x768 e)) (i : Fin 64) (j : Fin 128) :
    View.canon (⟨Rect.unit (s := S64x768) ![0, o] S64x128.size inb, P⟩ :: L) (ix2 i ⟨h.val * 128 + j.val, by omega⟩) = View.canon L (ix2 i ⟨h.val * 128 + j.val, by omega⟩) := by
  subst ho
  refine View.canon_cons_of_not_mem _ _ fun hm => hh ?_
  have h1 := ((Rect.mem_set_unit (s := S64x768) (off := ![0, (h'.val * 128)]) (size := S64x128.size) (inb := inb)).mp hm) 1
  apply Fin.ext
  have h2 : h'.val * 128 ≤ h.val * 128 + j.val ∧ h.val * 128 + j.val < h'.val * 128 + 128 := h1
  omega

/-- Six stores, one per head, read back. -/
theorem six2 (P : Fin 6 → Vec Ideal S64x128 e) (P0 P1 P2 P3 P4 P5 : Vec Ideal S64x128 e) (e0 : P0 = P 0) (e1 : P1 = P 1) (e2 : P2 = P 2)
    (e3 : P3 = P 3) (e4 : P4 = P 4) (e5 : P5 = P 5)
    (i0 : ∀ a, (![0, 0] : Fin 2 → ℕ) a + S64x128.size a ≤ S64x768.size a)
    (i1 : ∀ a, (![0, 128] : Fin 2 → ℕ) a + S64x128.size a ≤ S64x768.size a)
    (i2 : ∀ a, (![0, 256] : Fin 2 → ℕ) a + S64x128.size a ≤ S64x768.size a)
    (i3 : ∀ a, (![0, 384] : Fin 2 → ℕ) a + S64x128.size a ≤ S64x768.size a)
    (i4 : ∀ a, (![0, 512] : Fin 2 → ℕ) a + S64x128.size a ≤ S64x768.size a)
    (i5 : ∀ a, (![0, 640] : Fin 2 → ℕ) a + S64x128.size a ≤ S64x768.size a)
    (L : List (View.Piece (Elt Ideal) S64x768 e)) (h : Fin 6) (i : Fin 64) (j : Fin 128) :
    View.canon (⟨Rect.unit (s := S64x768) ![0, 640] S64x128.size i5, P5⟩ ::
      ⟨Rect.unit (s := S64x768) ![0, 512] S64x128.size i4, P4⟩ ::
      ⟨Rect.unit (s := S64x768) ![0, 384] S64x128.size i3, P3⟩ ::
      ⟨Rect.unit (s := S64x768) ![0, 256] S64x128.size i2, P2⟩ ::
      ⟨Rect.unit (s := S64x768) ![0, 128] S64x128.size i1, P1⟩ ::
      ⟨Rect.unit (s := S64x768) ![0, 0] S64x128.size i0, P0⟩ :: L) (ix2 i ⟨h.val * 128 + j.val, by omega⟩) = P h (ix2 i j) := by
  subst e0 e1 e2 e3 e4 e5
  match h with
  | 0 =>
    rw [miss2 0 5 (by decide) 640 rfl, miss2 0 4 (by decide) 512 rfl, miss2 0 3 (by decide) 384 rfl, miss2 0 2 (by decide) 256 rfl, miss2 0 1 (by decide) 128 rfl]
    exact hit2 0 0 rfl _ _ _ i j
  | 1 =>
    rw [miss2 1 5 (by decide) 640 rfl, miss2 1 4 (by decide) 512 rfl, miss2 1 3 (by decide) 384 rfl, miss2 1 2 (by decide) 256 rfl]
    exact hit2 1 128 rfl _ _ _ i j
  | 2 =>
    rw [miss2 2 5 (by decide) 640 rfl, miss2 2 4 (by decide) 512 rfl, miss2 2 3 (by decide) 384 rfl]
    exact hit2 2 256 rfl _ _ _ i j
  | 3 =>
    rw [miss2 3 5 (by decide) 640 rfl, miss2 3 4 (by decide) 512 rfl]
    exact hit2 3 384 rfl _ _ _ i j
  | 4 =>
    rw [miss2 4 5 (by decide) 640 rfl]
    exact hit2 4 512 rfl _ _ _ i j
  | 5 =>
    exact hit2 5 640 rfl _ _ _ i j

/-- A store of a head's slice, read back inside it. -/
theorem hit3 (h : Fin 6) (o : ℕ) (ho : o = h.val) (inb : ∀ a, (![o, 0, 0] : Fin 3 → ℕ) a + S1x64x128.size a ≤ S6x64x128.size a)
    (P : Vec Ideal S1x64x128 e) (L : List (View.Piece (Elt Ideal) S6x64x128 e)) (i : Fin 64) (j : Fin 128) :
    View.canon (⟨Rect.unit (s := S6x64x128) ![o, 0, 0] S1x64x128.size inb, P⟩ :: L) (ix3 h i j) = P (ix3 0 i j) := by
  subst ho
  have e1 : (ix3 h i j : S6x64x128.Idx) = (Rect.unit (s := S6x64x128) ![(h.val), 0, 0] S1x64x128.size inb).emb (ix3 0 i j) := by
    funext a
    apply Fin.ext
    rw [Rect.emb_apply]
    match a with
    | ⟨0, _⟩ => exact (by show h.val = h.val + 1 * 0; omega)
    | ⟨1, _⟩ => exact (by show i.val = 0 + 1 * i.val; omega)
    | ⟨2, _⟩ => exact (by show j.val = 0 + 1 * j.val; omega)
  rw [e1]
  exact View.canon_cons_emb (Rect.unit (s := S6x64x128) ![(h.val), 0, 0] S1x64x128.size inb) P L (ix3 0 i j)

/-- A store of another head's part is not seen. -/
theorem miss3 (h h' : Fin 6) (hh : h ≠ h') (o : ℕ) (ho : o = h'.val) (inb : ∀ a, (![o, 0, 0] : Fin 3 → ℕ) a + S1x64x128.size a ≤ S6x64x128.size a)
    (P : Vec Ideal S1x64x128 e) (L : List (View.Piece (Elt Ideal) S6x64x128 e)) (i : Fin 64) (j : Fin 128) :
    View.canon (⟨Rect.unit (s := S6x64x128) ![o, 0, 0] S1x64x128.size inb, P⟩ :: L) (ix3 h i j) = View.canon L (ix3 h i j) := by
  subst ho
  refine View.canon_cons_of_not_mem _ _ fun hm => hh ?_
  have h1 := ((Rect.mem_set_unit (s := S6x64x128) (off := ![(h'.val), 0, 0]) (size := S1x64x128.size) (inb := inb)).mp hm) 0
  apply Fin.ext
  have h2 : h'.val ≤ h.val ∧ h.val < h'.val + 1 := h1
  omega

/-- Six stores, one per head, read back. -/
theorem six3 (P : Fin 6 → Vec Ideal S1x64x128 e) (P0 P1 P2 P3 P4 P5 : Vec Ideal S1x64x128 e) (e0 : P0 = P 0) (e1 : P1 = P 1) (e2 : P2 = P 2)
    (e3 : P3 = P 3) (e4 : P4 = P 4) (e5 : P5 = P 5)
    (i0 : ∀ a, (![0, 0, 0] : Fin 3 → ℕ) a + S1x64x128.size a ≤ S6x64x128.size a)
    (i1 : ∀ a, (![1, 0, 0] : Fin 3 → ℕ) a + S1x64x128.size a ≤ S6x64x128.size a)
    (i2 : ∀ a, (![2, 0, 0] : Fin 3 → ℕ) a + S1x64x128.size a ≤ S6x64x128.size a)
    (i3 : ∀ a, (![3, 0, 0] : Fin 3 → ℕ) a + S1x64x128.size a ≤ S6x64x128.size a)
    (i4 : ∀ a, (![4, 0, 0] : Fin 3 → ℕ) a + S1x64x128.size a ≤ S6x64x128.size a)
    (i5 : ∀ a, (![5, 0, 0] : Fin 3 → ℕ) a + S1x64x128.size a ≤ S6x64x128.size a)
    (L : List (View.Piece (Elt Ideal) S6x64x128 e)) (h : Fin 6) (i : Fin 64) (j : Fin 128) :
    View.canon (⟨Rect.unit (s := S6x64x128) ![5, 0, 0] S1x64x128.size i5, P5⟩ ::
      ⟨Rect.unit (s := S6x64x128) ![4, 0, 0] S1x64x128.size i4, P4⟩ ::
      ⟨Rect.unit (s := S6x64x128) ![3, 0, 0] S1x64x128.size i3, P3⟩ ::
      ⟨Rect.unit (s := S6x64x128) ![2, 0, 0] S1x64x128.size i2, P2⟩ ::
      ⟨Rect.unit (s := S6x64x128) ![1, 0, 0] S1x64x128.size i1, P1⟩ ::
      ⟨Rect.unit (s := S6x64x128) ![0, 0, 0] S1x64x128.size i0, P0⟩ :: L) (ix3 h i j) = P h (ix3 0 i j) := by
  subst e0 e1 e2 e3 e4 e5
  match h with
  | 0 =>
    rw [miss3 0 5 (by decide) 5 rfl, miss3 0 4 (by decide) 4 rfl, miss3 0 3 (by decide) 3 rfl, miss3 0 2 (by decide) 2 rfl, miss3 0 1 (by decide) 1 rfl]
    exact hit3 0 0 rfl _ _ _ i j
  | 1 =>
    rw [miss3 1 5 (by decide) 5 rfl, miss3 1 4 (by decide) 4 rfl, miss3 1 3 (by decide) 3 rfl, miss3 1 2 (by decide) 2 rfl]
    exact hit3 1 1 rfl _ _ _ i j
  | 2 =>
    rw [miss3 2 5 (by decide) 5 rfl, miss3 2 4 (by decide) 4 rfl, miss3 2 3 (by decide) 3 rfl]
    exact hit3 2 2 rfl _ _ _ i j
  | 3 =>
    rw [miss3 3 5 (by decide) 5 rfl, miss3 3 4 (by decide) 4 rfl]
    exact hit3 3 3 rfl _ _ _ i j
  | 4 =>
    rw [miss3 4 5 (by decide) 5 rfl]
    exact hit3 4 4 rfl _ _ _ i j
  | 5 =>
    exact hit3 5 5 rfl _ _ _ i j

/-- A store of a head's slice, read back inside it. -/
theorem hitd (h : Fin 6) (o : ℕ) (ho : o = h.val) (inb : ∀ a, (![o, 0, 0] : Fin 3 → ℕ) a + S1x128x128.size a ≤ S6x128x128.size a)
    (P : Vec Ideal S1x128x128 e) (L : List (View.Piece (Elt Ideal) S6x128x128 e)) (i j : Fin 128) :
    View.canon (⟨Rect.unit (s := S6x128x128) ![o, 0, 0] S1x128x128.size inb, P⟩ :: L) (ix3 h i j) = P (ix3 0 i j) := by
  subst ho
  have e1 : (ix3 h i j : S6x128x128.Idx) = (Rect.unit (s := S6x128x128) ![(h.val), 0, 0] S1x128x128.size inb).emb (ix3 0 i j) := by
    funext a
    apply Fin.ext
    rw [Rect.emb_apply]
    match a with
    | ⟨0, _⟩ => exact (by show h.val = h.val + 1 * 0; omega)
    | ⟨1, _⟩ => exact (by show i.val = 0 + 1 * i.val; omega)
    | ⟨2, _⟩ => exact (by show j.val = 0 + 1 * j.val; omega)
  rw [e1]
  exact View.canon_cons_emb (Rect.unit (s := S6x128x128) ![(h.val), 0, 0] S1x128x128.size inb) P L (ix3 0 i j)

/-- A store of another head's part is not seen. -/
theorem missd (h h' : Fin 6) (hh : h ≠ h') (o : ℕ) (ho : o = h'.val) (inb : ∀ a, (![o, 0, 0] : Fin 3 → ℕ) a + S1x128x128.size a ≤ S6x128x128.size a)
    (P : Vec Ideal S1x128x128 e) (L : List (View.Piece (Elt Ideal) S6x128x128 e)) (i j : Fin 128) :
    View.canon (⟨Rect.unit (s := S6x128x128) ![o, 0, 0] S1x128x128.size inb, P⟩ :: L) (ix3 h i j) = View.canon L (ix3 h i j) := by
  subst ho
  refine View.canon_cons_of_not_mem _ _ fun hm => hh ?_
  have h1 := ((Rect.mem_set_unit (s := S6x128x128) (off := ![(h'.val), 0, 0]) (size := S1x128x128.size) (inb := inb)).mp hm) 0
  apply Fin.ext
  have h2 : h'.val ≤ h.val ∧ h.val < h'.val + 1 := h1
  omega

/-- Six stores, one per head, read back. -/
theorem sixd (P : Fin 6 → Vec Ideal S1x128x128 e) (P0 P1 P2 P3 P4 P5 : Vec Ideal S1x128x128 e) (e0 : P0 = P 0) (e1 : P1 = P 1) (e2 : P2 = P 2)
    (e3 : P3 = P 3) (e4 : P4 = P 4) (e5 : P5 = P 5)
    (i0 : ∀ a, (![0, 0, 0] : Fin 3 → ℕ) a + S1x128x128.size a ≤ S6x128x128.size a)
    (i1 : ∀ a, (![1, 0, 0] : Fin 3 → ℕ) a + S1x128x128.size a ≤ S6x128x128.size a)
    (i2 : ∀ a, (![2, 0, 0] : Fin 3 → ℕ) a + S1x128x128.size a ≤ S6x128x128.size a)
    (i3 : ∀ a, (![3, 0, 0] : Fin 3 → ℕ) a + S1x128x128.size a ≤ S6x128x128.size a)
    (i4 : ∀ a, (![4, 0, 0] : Fin 3 → ℕ) a + S1x128x128.size a ≤ S6x128x128.size a)
    (i5 : ∀ a, (![5, 0, 0] : Fin 3 → ℕ) a + S1x128x128.size a ≤ S6x128x128.size a)
    (L : List (View.Piece (Elt Ideal) S6x128x128 e)) (h : Fin 6) (i j : Fin 128) :
    View.canon (⟨Rect.unit (s := S6x128x128) ![5, 0, 0] S1x128x128.size i5, P5⟩ ::
      ⟨Rect.unit (s := S6x128x128) ![4, 0, 0] S1x128x128.size i4, P4⟩ ::
      ⟨Rect.unit (s := S6x128x128) ![3, 0, 0] S1x128x128.size i3, P3⟩ ::
      ⟨Rect.unit (s := S6x128x128) ![2, 0, 0] S1x128x128.size i2, P2⟩ ::
      ⟨Rect.unit (s := S6x128x128) ![1, 0, 0] S1x128x128.size i1, P1⟩ ::
      ⟨Rect.unit (s := S6x128x128) ![0, 0, 0] S1x128x128.size i0, P0⟩ :: L) (ix3 h i j) = P h (ix3 0 i j) := by
  subst e0 e1 e2 e3 e4 e5
  match h with
  | 0 =>
    rw [missd 0 5 (by decide) 5 rfl, missd 0 4 (by decide) 4 rfl, missd 0 3 (by decide) 3 rfl, missd 0 2 (by decide) 2 rfl, missd 0 1 (by decide) 1 rfl]
    exact hitd 0 0 rfl _ _ _ i j
  | 1 =>
    rw [missd 1 5 (by decide) 5 rfl, missd 1 4 (by decide) 4 rfl, missd 1 3 (by decide) 3 rfl, missd 1 2 (by decide) 2 rfl]
    exact hitd 1 1 rfl _ _ _ i j
  | 2 =>
    rw [missd 2 5 (by decide) 5 rfl, missd 2 4 (by decide) 4 rfl, missd 2 3 (by decide) 3 rfl]
    exact hitd 2 2 rfl _ _ _ i j
  | 3 =>
    rw [missd 3 5 (by decide) 5 rfl, missd 3 4 (by decide) 4 rfl]
    exact hitd 3 3 rfl _ _ _ i j
  | 4 =>
    rw [missd 4 5 (by decide) 5 rfl]
    exact hitd 4 4 rfl _ _ _ i j
  | 5 =>
    exact hitd 5 5 rfl _ _ _ i j

/-- A store of a head's slice, read back inside it. -/
theorem hit4 (h : Fin 6) (o : ℕ) (ho : o = h.val) (inb : ∀ a, (![o, 0, 0, 0] : Fin 4 → ℕ) a + S1x1x64x64.size a ≤ S6x1x64x64.size a)
    (P : Vec Ideal S1x1x64x64 e) (L : List (View.Piece (Elt Ideal) S6x1x64x64 e)) (i j : Fin 64) :
    View.canon (⟨Rect.unit (s := S6x1x64x64) ![o, 0, 0, 0] S1x1x64x64.size inb, P⟩ :: L) (ix4 h 0 i j) = P (ix4 0 0 i j) := by
  subst ho
  have e1 : (ix4 h 0 i j : S6x1x64x64.Idx) = (Rect.unit (s := S6x1x64x64) ![(h.val), 0, 0, 0] S1x1x64x64.size inb).emb (ix4 0 0 i j) := by
    funext a
    apply Fin.ext
    rw [Rect.emb_apply]
    match a with
    | ⟨0, _⟩ => exact (by show h.val = h.val + 1 * 0; omega)
    | ⟨1, _⟩ => exact (by show 0 = 0 + 1 * 0; omega)
    | ⟨2, _⟩ => exact (by show i.val = 0 + 1 * i.val; omega)
    | ⟨3, _⟩ => exact (by show j.val = 0 + 1 * j.val; omega)
  rw [e1]
  exact View.canon_cons_emb (Rect.unit (s := S6x1x64x64) ![(h.val), 0, 0, 0] S1x1x64x64.size inb) P L (ix4 0 0 i j)

/-- A store of another head's part is not seen. -/
theorem miss4 (h h' : Fin 6) (hh : h ≠ h') (o : ℕ) (ho : o = h'.val) (inb : ∀ a, (![o, 0, 0, 0] : Fin 4 → ℕ) a + S1x1x64x64.size a ≤ S6x1x64x64.size a)
    (P : Vec Ideal S1x1x64x64 e) (L : List (View.Piece (Elt Ideal) S6x1x64x64 e)) (i j : Fin 64) :
    View.canon (⟨Rect.unit (s := S6x1x64x64) ![o, 0, 0, 0] S1x1x64x64.size inb, P⟩ :: L) (ix4 h 0 i j) = View.canon L (ix4 h 0 i j) := by
  subst ho
  refine View.canon_cons_of_not_mem _ _ fun hm => hh ?_
  have h1 := ((Rect.mem_set_unit (s := S6x1x64x64) (off := ![(h'.val), 0, 0, 0]) (size := S1x1x64x64.size) (inb := inb)).mp hm) 0
  apply Fin.ext
  have h2 : h'.val ≤ h.val ∧ h.val < h'.val + 1 := h1
  omega

/-- Six stores, one per head, read back. -/
theorem six4 (P : Fin 6 → Vec Ideal S1x1x64x64 e) (P0 P1 P2 P3 P4 P5 : Vec Ideal S1x1x64x64 e) (e0 : P0 = P 0) (e1 : P1 = P 1) (e2 : P2 = P 2)
    (e3 : P3 = P 3) (e4 : P4 = P 4) (e5 : P5 = P 5)
    (i0 : ∀ a, (![0, 0, 0, 0] : Fin 4 → ℕ) a + S1x1x64x64.size a ≤ S6x1x64x64.size a)
    (i1 : ∀ a, (![1, 0, 0, 0] : Fin 4 → ℕ) a + S1x1x64x64.size a ≤ S6x1x64x64.size a)
    (i2 : ∀ a, (![2, 0, 0, 0] : Fin 4 → ℕ) a + S1x1x64x64.size a ≤ S6x1x64x64.size a)
    (i3 : ∀ a, (![3, 0, 0, 0] : Fin 4 → ℕ) a + S1x1x64x64.size a ≤ S6x1x64x64.size a)
    (i4 : ∀ a, (![4, 0, 0, 0] : Fin 4 → ℕ) a + S1x1x64x64.size a ≤ S6x1x64x64.size a)
    (i5 : ∀ a, (![5, 0, 0, 0] : Fin 4 → ℕ) a + S1x1x64x64.size a ≤ S6x1x64x64.size a)
    (L : List (View.Piece (Elt Ideal) S6x1x64x64 e)) (h : Fin 6) (i j : Fin 64) :
    View.canon (⟨Rect.unit (s := S6x1x64x64) ![5, 0, 0, 0] S1x1x64x64.size i5, P5⟩ ::
      ⟨Rect.unit (s := S6x1x64x64) ![4, 0, 0, 0] S1x1x64x64.size i4, P4⟩ ::
      ⟨Rect.unit (s := S6x1x64x64) ![3, 0, 0, 0] S1x1x64x64.size i3, P3⟩ ::
      ⟨Rect.unit (s := S6x1x64x64) ![2, 0, 0, 0] S1x1x64x64.size i2, P2⟩ ::
      ⟨Rect.unit (s := S6x1x64x64) ![1, 0, 0, 0] S1x1x64x64.size i1, P1⟩ ::
      ⟨Rect.unit (s := S6x1x64x64) ![0, 0, 0, 0] S1x1x64x64.size i0, P0⟩ :: L) (ix4 h 0 i j) = P h (ix4 0 0 i j) := by
  subst e0 e1 e2 e3 e4 e5
  match h with
  | 0 =>
    rw [miss4 0 5 (by decide) 5 rfl, miss4 0 4 (by decide) 4 rfl, miss4 0 3 (by decide) 3 rfl, miss4 0 2 (by decide) 2 rfl, miss4 0 1 (by decide) 1 rfl]
    exact hit4 0 0 rfl _ _ _ i j
  | 1 =>
    rw [miss4 1 5 (by decide) 5 rfl, miss4 1 4 (by decide) 4 rfl, miss4 1 3 (by decide) 3 rfl, miss4 1 2 (by decide) 2 rfl]
    exact hit4 1 1 rfl _ _ _ i j
  | 2 =>
    rw [miss4 2 5 (by decide) 5 rfl, miss4 2 4 (by decide) 4 rfl, miss4 2 3 (by decide) 3 rfl]
    exact hit4 2 2 rfl _ _ _ i j
  | 3 =>
    rw [miss4 3 5 (by decide) 5 rfl, miss4 3 4 (by decide) 4 rfl]
    exact hit4 3 3 rfl _ _ _ i j
  | 4 =>
    rw [miss4 4 5 (by decide) 5 rfl]
    exact hit4 4 4 rfl _ _ _ i j
  | 5 =>
    exact hit4 5 5 rfl _ _ _ i j

end Six

end Cert.Scan.K
-- ==== Proof.ScanFirst.lean ====
module

public import proofs.«01_k».proof.Proof.ScanTiles
public import proofs.«01_k».proof.Proof.Gen.ScanKernelIdeal.Frame

/-! One point of the gated delta rule's kernel, the first one, which clears what it accumulates: each block it leaves, at an element. -/

@[expose] public section

set_option maxRecDepth 8192
set_option maxHeartbeats 4000000

noncomputable section

namespace Cert.Scan.K.A

open Idealize.ShloMosaic Idealize.ShloMosaic.TcCoe Cert.ScanKernelIdeal Cert.ScanKernelIdeal.Gen Cert.Scan.K

variable (c : Dev nD) (gi : grid0.Coords) (arg1 : Memref sig .tc .vmem S64x768 .f32) (harg1 : arg1.IsWhole) (arg2 : Memref sig .tc .vmem S64x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S6x64x128 .f32) (harg5 : arg5.IsWhole) (arg6 : Memref sig .tc .vmem S6x1x64x64 .f32) (harg6 : arg6.IsWhole) (arg7 : Memref sig .tc .vmem S64x768 .f32) (harg7 : arg7.IsWhole) (arg8 : Memref sig .tc .vmem S1x128 .f32) (harg8 : arg8.IsWhole) (arg9 : Memref sig .tc .vmem S1x6x128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S64x768 .f32) (harg16 : arg16.IsWhole) (arg17 : Memref sig .tc .vmem S64x768 .f32) (harg17 : arg17.IsWhole) (arg18 : Memref sig .tc .vmem S64x768 .f32) (harg18 : arg18.IsWhole) (arg19 : Memref sig .tc .vmem S64x768 .f32) (harg19 : arg19.IsWhole) (arg20 : Memref sig .tc .vmem S64x768 .bf16) (harg20 : arg20.IsWhole) (arg21 : Memref sig .tc .vmem S6x64x128 .f32) (harg21 : arg21.IsWhole) (arg22 : Memref sig .tc .vmem S6x1x64x64 .f32) (harg22 : arg22.IsWhole) (arg23 : Memref sig .tc .vmem S1x128 .f32) (harg23 : arg23.IsWhole) (arg24 : Memref sig .tc .vmem S6x128x128 .f32) (harg24 : arg24.IsWhole) (hc0 : cond0_0 gi)
    (x0 : Vec Ideal S64x768 .f32) (x1 : Vec Ideal S64x768 .f32) (x2 : Vec Ideal S64x768 .f32) (x3 : Vec Ideal S64x768 .f32) (x4 : Vec Ideal S6x64x128 .f32) (x5 : Vec Ideal S6x1x64x64 .f32) (x6 : Vec Ideal S64x768 .f32) (x7 : Vec Ideal S1x128 .f32) (x8 : Vec Ideal S1x6x128x128 .f32) (x9 : Vec Ideal S64x128 .f32) (x10 : Vec Ideal S64x128 .f32) (x11 : Vec Ideal S64x128 .f32) (x12 : Vec Ideal S64x128 .f32) (x13 : Vec Ideal S64x128 .f32) (x14 : Vec Ideal S64x128 .f32)

/-- The scratch's slice of head 0 is still clear when the head loads it. -/
theorem ds0 : (kernelRun0_A.sl.v68 c arg24 : Vec Ideal S1x128x128 .f32) = fun y : S1x128x128.Idx => (k0_pay2 (F := Ideal)) (ix3 0 (y 1) (y 2)) := by
  unfold kernelRun0_A.sl.v68
  unfold kernelRun0_A.sl.HS0_1
  rw [View.readCov_fill _ _ _ _ _ (by decide)]
  exact ldz _ 0 _

/-- The scratch's slice of head 1 is still clear when the head loads it. -/
theorem ds1 : (kernelRun0_A.sl.v242 c arg1 harg1 arg2 harg2 arg3 harg3 arg4 harg4 arg5 harg5 arg6 harg6 arg7 harg7 arg8 harg8 arg9 harg9 arg10 harg10 arg24 x0 x1 x2 x3 x4 x5 x6 x7 x8 x9 : Vec Ideal S1x128x128 .f32) = fun y : S1x128x128.Idx => (k0_pay2 (F := Ideal)) (ix3 1 (y 1) (y 2)) := by
  unfold kernelRun0_A.sl.v242
  unfold kernelRun0_A.sl.HS0_2
  rw [View.readCov_skip _ _ _ _ _ (by decide)]
  unfold kernelRun0_A.sl.HS0_1
  rw [View.readCov_fill _ _ _ _ _ (by decide)]
  exact ldz _ 1 _

/-- The scratch's slice of head 2 is still clear when the head loads it. -/
theorem ds2 : (kernelRun0_A.sl.v416 c arg1 harg1 arg2 harg2 arg3 harg3 arg4 harg4 arg5 harg5 arg6 harg6 arg7 harg7 arg8 harg8 arg9 harg9 arg10 harg10 arg11 harg11 arg24 x0 x1 x2 x3 x4 x5 x6 x7 x8 x9 x10 : Vec Ideal S1x128x128 .f32) = fun y : S1x128x128.Idx => (k0_pay2 (F := Ideal)) (ix3 2 (y 1) (y 2)) := by
  unfold kernelRun0_A.sl.v416
  unfold kernelRun0_A.sl.HS0_3
  rw [View.readCov_skip _ _ _ _ _ (by decide)]
  unfold kernelRun0_A.sl.HS0_2
  rw [View.readCov_skip _ _ _ _ _ (by decide)]
  unfold kernelRun0_A.sl.HS0_1
  rw [View.readCov_fill _ _ _ _ _ (by decide)]
  exact ldz _ 2 _

/-- The scratch's slice of head 3 is still clear when the head loads it. -/
theorem ds3 : (kernelRun0_A.sl.v590 c arg1 harg1 arg2 harg2 arg3 harg3 arg4 harg4 arg5 harg5 arg6 harg6 arg7 harg7 arg8 harg8 arg9 harg9 arg10 harg10 arg11 harg11 arg12 harg12 arg24 x0 x1 x2 x3 x4 x5 x6 x7 x8 x9 x10 x11 : Vec Ideal S1x128x128 .f32) = fun y : S1x128x128.Idx => (k0_pay2 (F := Ideal)) (ix3 3 (y 1) (y 2)) := by
  unfold kernelRun0_A.sl.v590
  unfold kernelRun0_A.sl.HS0_4
  rw [View.readCov_skip _ _ _ _ _ (by decide)]
  unfold kernelRun0_A.sl.HS0_3
  rw [View.readCov_skip _ _ _ _ _ (by decide)]
  unfold kernelRun0_A.sl.HS0_2
  rw [View.readCov_skip _ _ _ _ _ (by decide)]
  unfold kernelRun0_A.sl.HS0_1
  rw [View.readCov_fill _ _ _ _ _ (by decide)]
  exact ldz _ 3 _

/-- The scratch's slice of head 4 is still clear when the head loads it. -/
theorem ds4 : (kernelRun0_A.sl.v764 c arg1 harg1 arg2 harg2 arg3 harg3 arg4 harg4 arg5 harg5 arg6 harg6 arg7 harg7 arg8 harg8 arg9 harg9 arg10 harg10 arg11 harg11 arg12 harg12 arg13 harg13 arg24 x0 x1 x2 x3 x4 x5 x6 x7 x8 x9 x10 x11 x12 : Vec Ideal S1x128x128 .f32) = fun y : S1x128x128.Idx => (k0_pay2 (F := Ideal)) (ix3 4 (y 1) (y 2)) := by
  unfold kernelRun0_A.sl.v764
  unfold kernelRun0_A.sl.HS0_5
  rw [View.readCov_skip _ _ _ _ _ (by decide)]
  unfold kernelRun0_A.sl.HS0_4
  rw [View.readCov_skip _ _ _ _ _ (by decide)]
  unfold kernelRun0_A.sl.HS0_3
  rw [View.readCov_skip _ _ _ _ _ (by decide)]
  unfold kernelRun0_A.sl.HS0_2
  rw [View.readCov_skip _ _ _ _ _ (by decide)]
  unfold kernelRun0_A.sl.HS0_1
  rw [View.readCov_fill _ _ _ _ _ (by decide)]
  exact ldz _ 4 _

/-- The scratch's slice of head 5 is still clear when the head loads it. -/
theorem ds5 : (kernelRun0_A.sl.v938 c arg1 harg1 arg2 harg2 arg3 harg3 arg4 harg4 arg5 harg5 arg6 harg6 arg7 harg7 arg8 harg8 arg9 harg9 arg10 harg10 arg11 harg11 arg12 harg12 arg13 harg13 arg14 harg14 arg24 x0 x1 x2 x3 x4 x5 x6 x7 x8 x9 x10 x11 x12 x13 : Vec Ideal S1x128x128 .f32) = fun y : S1x128x128.Idx => (k0_pay2 (F := Ideal)) (ix3 5 (y 1) (y 2)) := by
  unfold kernelRun0_A.sl.v938
  unfold kernelRun0_A.sl.HS0_6
  rw [View.readCov_skip _ _ _ _ _ (by decide)]
  unfold kernelRun0_A.sl.HS0_5
  rw [View.readCov_skip _ _ _ _ _ (by decide)]
  unfold kernelRun0_A.sl.HS0_4
  rw [View.readCov_skip _ _ _ _ _ (by decide)]
  unfold kernelRun0_A.sl.HS0_3
  rw [View.readCov_skip _ _ _ _ _ (by decide)]
  unfold kernelRun0_A.sl.HS0_2
  rw [View.readCov_skip _ _ _ _ _ (by decide)]
  unfold kernelRun0_A.sl.HS0_1
  rw [View.readCov_fill _ _ _ _ _ (by decide)]
  exact ldz _ 5 _

/-- A head's part of the block that `dq` is left in. -/
theorem at_dq (h : Fin 6) (i : Fin 64) (j : Fin 128) :
    (out0_A_15 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix2 i ⟨h.val * 128 + j.val, by omega⟩) : EReal) = (LB x0 x1 x2 x3 x4 x5 x6 x7 x8 x9 x10 x11 x12 x13 x14 (k0_pay2 (F := Ideal)) h).hd.dq i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold out0_A_15
  rw [View.read_writes_junk_apply_eq_canon]
  unfold kernelRun0_A
  dsimp only
  refine Eq.trans ?_ (sq_eq (LB x0 x1 x2 x3 x4 x5 x6 x7 x8 x9 x10 x11 x12 x13 x14 (k0_pay2 (F := Ideal)) h) i j)
  refine six2 (e := .f32) (fun h => sq (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact sq0.trans (congrArg sq (L 0 arg10 harg10 rfl rfl))
  · exact sq1.trans (congrArg sq (L 1 arg11 harg11 rfl rfl))
  · exact sq2.trans (congrArg sq (L 2 arg12 harg12 rfl rfl))
  · exact sq3.trans (congrArg sq (L 3 arg13 harg13 rfl rfl))
  · exact sq4.trans (congrArg sq (L 4 arg14 harg14 rfl rfl))
  · exact sq5.trans (congrArg sq (L 5 arg15 harg15 rfl rfl))

/-- A head's part of the block that `dk` is left in. -/
theorem at_dk (h : Fin 6) (i : Fin 64) (j : Fin 128) :
    (out0_A_16 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix2 i ⟨h.val * 128 + j.val, by omega⟩) : EReal) = (LB x0 x1 x2 x3 x4 x5 x6 x7 x8 x9 x10 x11 x12 x13 x14 (k0_pay2 (F := Ideal)) h).hd.dk i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold out0_A_16
  rw [View.read_writes_junk_apply_eq_canon]
  unfold kernelRun0_A
  dsimp only
  refine Eq.trans ?_ (sk_eq (LB x0 x1 x2 x3 x4 x5 x6 x7 x8 x9 x10 x11 x12 x13 x14 (k0_pay2 (F := Ideal)) h) i j)
  refine six2 (e := .f32) (fun h => sk (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact sk0.trans (congrArg sk (L 0 arg10 harg10 rfl (ds0 ..)))
  · exact sk1.trans (congrArg sk (L 1 arg11 harg11 rfl (ds1 ..)))
  · exact sk2.trans (congrArg sk (L 2 arg12 harg12 rfl (ds2 ..)))
  · exact sk3.trans (congrArg sk (L 3 arg13 harg13 rfl (ds3 ..)))
  · exact sk4.trans (congrArg sk (L 4 arg14 harg14 rfl (ds4 ..)))
  · exact sk5.trans (congrArg sk (L 5 arg15 harg15 rfl (ds5 ..)))

/-- A head's part of the block that `dv` is left in. -/
theorem at_dv (h : Fin 6) (i : Fin 64) (j : Fin 128) :
    (out0_A_17 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix2 i ⟨h.val * 128 + j.val, by omega⟩) : EReal) = (LB x0 x1 x2 x3 x4 x5 x6 x7 x8 x9 x10 x11 x12 x13 x14 (k0_pay2 (F := Ideal)) h).hd.dv i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold out0_A_17
  rw [View.read_writes_junk_apply_eq_canon]
  unfold kernelRun0_A
  dsimp only
  refine Eq.trans ?_ (su_eq (LB x0 x1 x2 x3 x4 x5 x6 x7 x8 x9 x10 x11 x12 x13 x14 (k0_pay2 (F := Ideal)) h) i j)
  refine six2 (e := .f32) (fun h => su (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact su0.trans (congrArg su (L 0 arg10 harg10 rfl (ds0 ..)))
  · exact su1.trans (congrArg su (L 1 arg11 harg11 rfl (ds1 ..)))
  · exact su2.trans (congrArg su (L 2 arg12 harg12 rfl (ds2 ..)))
  · exact su3.trans (congrArg su (L 3 arg13 harg13 rfl (ds3 ..)))
  · exact su4.trans (congrArg su (L 4 arg14 harg14 rfl (ds4 ..)))
  · exact su5.trans (congrArg su (L 5 arg15 harg15 rfl (ds5 ..)))

/-- A head's part of the block that `dw` is left in. -/
theorem at_dw (h : Fin 6) (i : Fin 64) (j : Fin 128) :
    (out0_A_18 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix2 i ⟨h.val * 128 + j.val, by omega⟩) : EReal) = (LB x0 x1 x2 x3 x4 x5 x6 x7 x8 x9 x10 x11 x12 x13 x14 (k0_pay2 (F := Ideal)) h).hd.dw i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold out0_A_18
  rw [View.read_writes_junk_apply_eq_canon]
  unfold kernelRun0_A
  dsimp only
  refine Eq.trans ?_ (sw_eq (LB x0 x1 x2 x3 x4 x5 x6 x7 x8 x9 x10 x11 x12 x13 x14 (k0_pay2 (F := Ideal)) h) i j)
  refine six2 (e := .f32) (fun h => sw (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact sw0.trans (congrArg sw (L 0 arg10 harg10 rfl (ds0 ..)))
  · exact sw1.trans (congrArg sw (L 1 arg11 harg11 rfl (ds1 ..)))
  · exact sw2.trans (congrArg sw (L 2 arg12 harg12 rfl (ds2 ..)))
  · exact sw3.trans (congrArg sw (L 3 arg13 harg13 rfl (ds3 ..)))
  · exact sw4.trans (congrArg sw (L 4 arg14 harg14 rfl (ds4 ..)))
  · exact sw5.trans (congrArg sw (L 5 arg15 harg15 rfl (ds5 ..)))

/-- A head's part of the block that `dgt` is left in. -/
theorem at_dgt (h : Fin 6) (i : Fin 64) (j : Fin 128) :
    (out0_A_19 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix2 i ⟨h.val * 128 + j.val, by omega⟩) : EReal) = (LB x0 x1 x2 x3 x4 x5 x6 x7 x8 x9 x10 x11 x12 x13 x14 (k0_pay2 (F := Ideal)) h).hd.dgt i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold out0_A_19
  rw [View.read_writes_junk_apply_eq_canon]
  unfold kernelRun0_A
  dsimp only
  refine Eq.trans ?_ (sgt_eq (LB x0 x1 x2 x3 x4 x5 x6 x7 x8 x9 x10 x11 x12 x13 x14 (k0_pay2 (F := Ideal)) h) i j)
  refine six2 (e := .bf16) (fun h => sgt (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact sgt0.trans (congrArg sgt (L 0 arg10 harg10 rfl rfl))
  · exact sgt1.trans (congrArg sgt (L 1 arg11 harg11 rfl rfl))
  · exact sgt2.trans (congrArg sgt (L 2 arg12 harg12 rfl rfl))
  · exact sgt3.trans (congrArg sgt (L 3 arg13 harg13 rfl rfl))
  · exact sgt4.trans (congrArg sgt (L 4 arg14 harg14 rfl rfl))
  · exact sgt5.trans (congrArg sgt (L 5 arg15 harg15 rfl rfl))

/-- A head's part of the block that `dg` is left in. -/
theorem at_dg (h : Fin 6) (i : Fin 64) (j : Fin 128) :
    (out0_A_20 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix3 h i j) : EReal) = (LB x0 x1 x2 x3 x4 x5 x6 x7 x8 x9 x10 x11 x12 x13 x14 (k0_pay2 (F := Ideal)) h).hd.dg i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold out0_A_20
  rw [View.read_writes_junk_apply_eq_canon]
  unfold kernelRun0_A
  dsimp only
  refine Eq.trans ?_ (sg_eq (LB x0 x1 x2 x3 x4 x5 x6 x7 x8 x9 x10 x11 x12 x13 x14 (k0_pay2 (F := Ideal)) h) i j)
  refine six3 (e := .f32) (fun h => sg (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact sg0.trans (congrArg sg (L 0 arg10 harg10 rfl (ds0 ..)))
  · exact sg1.trans (congrArg sg (L 1 arg11 harg11 rfl (ds1 ..)))
  · exact sg2.trans (congrArg sg (L 2 arg12 harg12 rfl (ds2 ..)))
  · exact sg3.trans (congrArg sg (L 3 arg13 harg13 rfl (ds3 ..)))
  · exact sg4.trans (congrArg sg (L 4 arg14 harg14 rfl (ds4 ..)))
  · exact sg5.trans (congrArg sg (L 5 arg15 harg15 rfl (ds5 ..)))

/-- A head's part of the block that `da` is left in. -/
theorem at_da (h : Fin 6) (i j : Fin 64) :
    (out0_A_21 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix4 h 0 i j) : EReal) = (LB x0 x1 x2 x3 x4 x5 x6 x7 x8 x9 x10 x11 x12 x13 x14 (k0_pay2 (F := Ideal)) h).hd.da i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold out0_A_21
  rw [View.read_writes_junk_apply_eq_canon]
  unfold kernelRun0_A
  dsimp only
  refine Eq.trans ?_ (sa_eq (LB x0 x1 x2 x3 x4 x5 x6 x7 x8 x9 x10 x11 x12 x13 x14 (k0_pay2 (F := Ideal)) h) i j)
  refine six4 (e := .f32) (fun h => sa (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact sa0.trans (congrArg sa (L 0 arg10 harg10 rfl rfl))
  · exact sa1.trans (congrArg sa (L 1 arg11 harg11 rfl rfl))
  · exact sa2.trans (congrArg sa (L 2 arg12 harg12 rfl rfl))
  · exact sa3.trans (congrArg sa (L 3 arg13 harg13 rfl rfl))
  · exact sa4.trans (congrArg sa (L 4 arg14 harg14 rfl rfl))
  · exact sa5.trans (congrArg sa (L 5 arg15 harg15 rfl rfl))

/-- A head's part of the block that `dS` is left in. -/
theorem at_dS (h : Fin 6) (i j : Fin 128) :
    (sout0_A_0 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix3 h i j) : EReal) = (LB x0 x1 x2 x3 x4 x5 x6 x7 x8 x9 x10 x11 x12 x13 x14 (k0_pay2 (F := Ideal)) h).hd.dS i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  unfold sout0_A_0
  rw [View.read_writes_junk_apply_eq_canon]
  unfold kernelRun0_A
  dsimp only
  refine Eq.trans ?_ (ss_eq (LB x0 x1 x2 x3 x4 x5 x6 x7 x8 x9 x10 x11 x12 x13 x14 (k0_pay2 (F := Ideal)) h) i j)
  refine sixd (e := .f32) (fun h => ss (LB x0 x1 x2 x3 x4 x5 x6 x7 x8 x9 x10 x11 x12 x13 x14 (k0_pay2 (F := Ideal)) h)) _ _ _ _ _ _ ?_ ?_ ?_ ?_ ?_ ?_ _ _ _ _ _ _ _ h i j
  · exact ss0.trans (congrArg ss (L 0 arg10 harg10 rfl (ds0 ..)))
  · exact ss1.trans (congrArg ss (L 1 arg11 harg11 rfl (ds1 ..)))
  · exact ss2.trans (congrArg ss (L 2 arg12 harg12 rfl (ds2 ..)))
  · exact ss3.trans (congrArg ss (L 3 arg13 harg13 rfl (ds3 ..)))
  · exact ss4.trans (congrArg ss (L 4 arg14 harg14 rfl (ds4 ..)))
  · exact ss5.trans (congrArg ss (L 5 arg15 harg15 rfl (ds5 ..)))

/-- The block of the gain's gradient, with the six heads' rows added to it. -/
theorem at_dog (j : Fin 128) : (out0_A_22 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 (ix2 0 j) : EReal) =
    (((k0_pay3 (F := Ideal)) : Vec Ideal S1x128 .f32) (ix2 0 j) : EReal) + (LB x0 x1 x2 x3 x4 x5 x6 x7 x8 x9 x10 x11 x12 x13 x14 (k0_pay2 (F := Ideal)) 0).hd.dog j + (LB x0 x1 x2 x3 x4 x5 x6 x7 x8 x9 x10 x11 x12 x13 x14 (k0_pay2 (F := Ideal)) 1).hd.dog j + (LB x0 x1 x2 x3 x4 x5 x6 x7 x8 x9 x10 x11 x12 x13 x14 (k0_pay2 (F := Ideal)) 2).hd.dog j + (LB x0 x1 x2 x3 x4 x5 x6 x7 x8 x9 x10 x11 x12 x13 x14 (k0_pay2 (F := Ideal)) 3).hd.dog j + (LB x0 x1 x2 x3 x4 x5 x6 x7 x8 x9 x10 x11 x12 x13 x14 (k0_pay2 (F := Ideal)) 4).hd.dog j + (LB x0 x1 x2 x3 x4 x5 x6 x7 x8 x9 x10 x11 x12 x13 x14 (k0_pay2 (F := Ideal)) 5).hd.dog j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 (k0_pay2 (F := Ideal))
  have acc_0 : (kernelRun0_A.sl.v170 c arg23 : Vec Ideal S1x128 .f32) = (k0_pay3 (F := Ideal)) := by
    unfold kernelRun0_A.sl.v170 kernelRun0_A.sl.H22_1
    rw [View.readCov_cons_unit_lit' _ _ _ _ _ (by decide) (by decide)]
  have acc_1 : (kernelRun0_A.sl.v344 c arg1 harg1 arg3 harg3 arg4 harg4 arg5 harg5 arg6 harg6 arg7 harg7 arg9 harg9 arg10 harg10 arg23 x0 x2 x3 x4 x5 x6 x8 x9 : Vec Ideal S1x128 .f32) = so (LB x0 x1 x2 x3 x4 x5 x6 x7 x8 x9 x10 x11 x12 x13 x14 (k0_pay2 (F := Ideal)) 0) ((k0_pay3 (F := Ideal))) := by
    unfold kernelRun0_A.sl.v344 kernelRun0_A.sl.H22_2
    rw [View.readCov_cons_unit_lit' _ _ _ _ _ (by decide) (by decide)]
    exact so0.trans (congrArg₂ so (L 0 arg10 harg10 rfl rfl) acc_0)
  have acc_2 : (kernelRun0_A.sl.v518 c arg1 harg1 arg3 harg3 arg4 harg4 arg5 harg5 arg6 harg6 arg7 harg7 arg9 harg9 arg10 harg10 arg11 harg11 arg23 x0 x2 x3 x4 x5 x6 x8 x9 x10 : Vec Ideal S1x128 .f32) = so (LB x0 x1 x2 x3 x4 x5 x6 x7 x8 x9 x10 x11 x12 x13 x14 (k0_pay2 (F := Ideal)) 1) (so (LB x0 x1 x2 x3 x4 x5 x6 x7 x8 x9 x10 x11 x12 x13 x14 (k0_pay2 (F := Ideal)) 0) ((k0_pay3 (F := Ideal)))) := by
    unfold kernelRun0_A.sl.v518 kernelRun0_A.sl.H22_3
    rw [View.readCov_cons_unit_lit' _ _ _ _ _ (by decide) (by decide)]
    exact so1.trans (congrArg₂ so (L 1 arg11 harg11 rfl rfl) acc_1)
  have acc_3 : (kernelRun0_A.sl.v692 c arg1 harg1 arg3 harg3 arg4 harg4 arg5 harg5 arg6 harg6 arg7 harg7 arg9 harg9 arg10 harg10 arg11 harg11 arg12 harg12 arg23 x0 x2 x3 x4 x5 x6 x8 x9 x10 x11 : Vec Ideal S1x128 .f32) = so (LB x0 x1 x2 x3 x4 x5 x6 x7 x8 x9 x10 x11 x12 x13 x14 (k0_pay2 (F := Ideal)) 2) (so (LB x0 x1 x2 x3 x4 x5 x6 x7 x8 x9 x10 x11 x12 x13 x14 (k0_pay2 (F := Ideal)) 1) (so (LB x0 x1 x2 x3 x4 x5 x6 x7 x8 x9 x10 x11 x12 x13 x14 (k0_pay2 (F := Ideal)) 0) ((k0_pay3 (F := Ideal))))) := by
    unfold kernelRun0_A.sl.v692 kernelRun0_A.sl.H22_4
    rw [View.readCov_cons_unit_lit' _ _ _ _ _ (by decide) (by decide)]
    exact so2.trans (congrArg₂ so (L 2 arg12 harg12 rfl rfl) acc_2)
  have acc_4 : (kernelRun0_A.sl.v866 c arg1 harg1 arg3 harg3 arg4 harg4 arg5 harg5 arg6 harg6 arg7 harg7 arg9 harg9 arg10 harg10 arg11 harg11 arg12 harg12 arg13 harg13 arg23 x0 x2 x3 x4 x5 x6 x8 x9 x10 x11 x12 : Vec Ideal S1x128 .f32) = so (LB x0 x1 x2 x3 x4 x5 x6 x7 x8 x9 x10 x11 x12 x13 x14 (k0_pay2 (F := Ideal)) 3) (so (LB x0 x1 x2 x3 x4 x5 x6 x7 x8 x9 x10 x11 x12 x13 x14 (k0_pay2 (F := Ideal)) 2) (so (LB x0 x1 x2 x3 x4 x5 x6 x7 x8 x9 x10 x11 x12 x13 x14 (k0_pay2 (F := Ideal)) 1) (so (LB x0 x1 x2 x3 x4 x5 x6 x7 x8 x9 x10 x11 x12 x13 x14 (k0_pay2 (F := Ideal)) 0) ((k0_pay3 (F := Ideal)))))) := by
    unfold kernelRun0_A.sl.v866 kernelRun0_A.sl.H22_5
    rw [View.readCov_cons_unit_lit' _ _ _ _ _ (by decide) (by decide)]
    exact so3.trans (congrArg₂ so (L 3 arg13 harg13 rfl rfl) acc_3)
  have acc_5 : (kernelRun0_A.sl.v1040 c arg1 harg1 arg3 harg3 arg4 harg4 arg5 harg5 arg6 harg6 arg7 harg7 arg9 harg9 arg10 harg10 arg11 harg11 arg12 harg12 arg13 harg13 arg14 harg14 arg23 x0 x2 x3 x4 x5 x6 x8 x9 x10 x11 x12 x13 : Vec Ideal S1x128 .f32) = so (LB x0 x1 x2 x3 x4 x5 x6 x7 x8 x9 x10 x11 x12 x13 x14 (k0_pay2 (F := Ideal)) 4) (so (LB x0 x1 x2 x3 x4 x5 x6 x7 x8 x9 x10 x11 x12 x13 x14 (k0_pay2 (F := Ideal)) 3) (so (LB x0 x1 x2 x3 x4 x5 x6 x7 x8 x9 x10 x11 x12 x13 x14 (k0_pay2 (F := Ideal)) 2) (so (LB x0 x1 x2 x3 x4 x5 x6 x7 x8 x9 x10 x11 x12 x13 x14 (k0_pay2 (F := Ideal)) 1) (so (LB x0 x1 x2 x3 x4 x5 x6 x7 x8 x9 x10 x11 x12 x13 x14 (k0_pay2 (F := Ideal)) 0) ((k0_pay3 (F := Ideal))))))) := by
    unfold kernelRun0_A.sl.v1040 kernelRun0_A.sl.H22_6
    rw [View.readCov_cons_unit_lit' _ _ _ _ _ (by decide) (by decide)]
    exact so4.trans (congrArg₂ so (L 4 arg14 harg14 rfl rfl) acc_4)
  unfold out0_A_22
  rw [View.read_writes_junk_apply_eq_canon]
  unfold kernelRun0_A
  dsimp only
  rw [View.canon_cons_unit_lit' _ _ _ (by decide)]
  refine (congrFun (so5.trans (congrArg₂ so (L 5 arg15 harg15 rfl rfl) acc_5)) (ix2 0 j)).trans ?_
  simp only [so_eq]

end Cert.Scan.K.A
-- ==== Proof.ScanNext.lean ====
module

public import proofs.«01_k».proof.Proof.ScanTiles
public import proofs.«01_k».proof.Proof.Gen.ScanKernelIdeal.Frame

/-! One point of the gated delta rule's kernel, every one but the first: each block it leaves, at an element. -/

@[expose] public section

set_option maxRecDepth 8192
set_option maxHeartbeats 4000000

noncomputable section

namespace Cert.Scan.K.B

open Idealize.ShloMosaic Idealize.ShloMosaic.TcCoe Cert.ScanKernelIdeal Cert.ScanKernelIdeal.Gen Cert.Scan.K

variable (c : Dev nD) (gi : grid0.Coords) (arg1 : Memref sig .tc .vmem S64x768 .f32) (harg1 : arg1.IsWhole) (arg2 : Memref sig .tc .vmem S64x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S6x64x128 .f32) (harg5 : arg5.IsWhole) (arg6 : Memref sig .tc .vmem S6x1x64x64 .f32) (harg6 : arg6.IsWhole) (arg7 : Memref sig .tc .vmem S64x768 .f32) (harg7 : arg7.IsWhole) (arg8 : Memref sig .tc .vmem S1x128 .f32) (harg8 : arg8.IsWhole) (arg9 : Memref sig .tc .vmem S1x6x128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S64x768 .f32) (harg16 : arg16.IsWhole) (arg17 : Memref sig .tc .vmem S64x768 .f32) (harg17 : arg17.IsWhole) (arg18 : Memref sig .tc .vmem S64x768 .f32) (harg18 : arg18.IsWhole) (arg19 : Memref sig .tc .vmem S64x768 .f32) (harg19 : arg19.IsWhole) (arg20 : Memref sig .tc .vmem S64x768 .bf16) (harg20 : arg20.IsWhole) (arg21 : Memref sig .tc .vmem S6x64x128 .f32) (harg21 : arg21.IsWhole) (arg22 : Memref sig .tc .vmem S6x1x64x64 .f32) (harg22 : arg22.IsWhole) (arg23 : Memref sig .tc .vmem S1x128 .f32) (harg23 : arg23.IsWhole) (arg24 : Memref sig .tc .vmem S6x128x128 .f32) (harg24 : arg24.IsWhole) (hc0 : ¬cond0_0 gi)
    (x0 : Vec Ideal S64x768 .f32) (x1 : Vec Ideal S64x768 .f32) (x2 : Vec Ideal S64x768 .f32) (x3 : Vec Ideal S64x768 .f32) (x4 : Vec Ideal S6x64x128 .f32) (x5 : Vec Ideal S6x1x64x64 .f32) (x6 : Vec Ideal S64x768 .f32) (x7 : Vec Ideal S1x128 .f32) (x8 : Vec Ideal S1x6x128x128 .f32) (x9 : Vec Ideal S64x128 .f32) (x10 : Vec Ideal S64x128 .f32) (x11 : Vec Ideal S64x128 .f32) (x12 : Vec Ideal S64x128 .f32) (x13 : Vec Ideal S64x128 .f32) (x14 : Vec Ideal S64x128 .f32) (xo22 : Vec Ideal S1x128 .f32) (xs0 : Vec Ideal S6x128x128 .f32)

/-- A head's part of the block that `dq` is left in. -/
theorem at_dq (h : Fin 6) (i : Fin 64) (j : Fin 128) :
    (out0_B_15 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix2 i ⟨h.val * 128 + j.val, by omega⟩) : EReal) = (LB x0 x1 x2 x3 x4 x5 x6 x7 x8 x9 x10 x11 x12 x13 x14 xs0 h).hd.dq i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold out0_B_15
  rw [View.read_writes_junk_apply_eq_canon]
  unfold kernelRun0_B
  dsimp only
  refine Eq.trans ?_ (sq_eq (LB x0 x1 x2 x3 x4 x5 x6 x7 x8 x9 x10 x11 x12 x13 x14 xs0 h) i j)
  refine six2 (e := .f32) (fun h => sq (LB x0 x1 x2 x3 x4 x5 x6 x7 x8 x9 x10 x11 x12 x13 x14 xs0 h)) _ _ _ _ _ _ ?_ ?_ ?_ ?_ ?_ ?_ _ _ _ _ _ _ _ h i j
  · exact sq0.trans (congrArg sq (L 0 arg10 harg10 rfl rfl))
  · exact sq1.trans (congrArg sq (L 1 arg11 harg11 rfl rfl))
  · exact sq2.trans (congrArg sq (L 2 arg12 harg12 rfl rfl))
  · exact sq3.trans (congrArg sq (L 3 arg13 harg13 rfl rfl))
  · exact sq4.trans (congrArg sq (L 4 arg14 harg14 rfl rfl))
  · exact sq5.trans (congrArg sq (L 5 arg15 harg15 rfl rfl))

/-- A head's part of the block that `dk` is left in. -/
theorem at_dk (h : Fin 6) (i : Fin 64) (j : Fin 128) :
    (out0_B_16 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix2 i ⟨h.val * 128 + j.val, by omega⟩) : EReal) = (LB x0 x1 x2 x3 x4 x5 x6 x7 x8 x9 x10 x11 x12 x13 x14 xs0 h).hd.dk i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold out0_B_16
  rw [View.read_writes_junk_apply_eq_canon]
  unfold kernelRun0_B
  dsimp only
  refine Eq.trans ?_ (sk_eq (LB x0 x1 x2 x3 x4 x5 x6 x7 x8 x9 x10 x11 x12 x13 x14 xs0 h) i j)
  refine six2 (e := .f32) (fun h => sk (LB x0 x1 x2 x3 x4 x5 x6 x7 x8 x9 x10 x11 x12 x13 x14 xs0 h)) _ _ _ _ _ _ ?_ ?_ ?_ ?_ ?_ ?_ _ _ _ _ _ _ _ h i j
  · exact sk0.trans (congrArg sk (L 0 arg10 harg10 rfl (ldd arg24 harg24 xs0 0 _)))
  · exact sk1.trans (congrArg sk (L 1 arg11 harg11 rfl (ldd arg24 harg24 xs0 1 _)))
  · exact sk2.trans (congrArg sk (L 2 arg12 harg12 rfl (ldd arg24 harg24 xs0 2 _)))
  · exact sk3.trans (congrArg sk (L 3 arg13 harg13 rfl (ldd arg24 harg24 xs0 3 _)))
  · exact sk4.trans (congrArg sk (L 4 arg14 harg14 rfl (ldd arg24 harg24 xs0 4 _)))
  · exact sk5.trans (congrArg sk (L 5 arg15 harg15 rfl (ldd arg24 harg24 xs0 5 _)))

/-- A head's part of the block that `dv` is left in. -/
theorem at_dv (h : Fin 6) (i : Fin 64) (j : Fin 128) :
    (out0_B_17 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix2 i ⟨h.val * 128 + j.val, by omega⟩) : EReal) = (LB x0 x1 x2 x3 x4 x5 x6 x7 x8 x9 x10 x11 x12 x13 x14 xs0 h).hd.dv i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold out0_B_17
  rw [View.read_writes_junk_apply_eq_canon]
  unfold kernelRun0_B
  dsimp only
  refine Eq.trans ?_ (su_eq (LB x0 x1 x2 x3 x4 x5 x6 x7 x8 x9 x10 x11 x12 x13 x14 xs0 h) i j)
  refine six2 (e := .f32) (fun h => su (LB x0 x1 x2 x3 x4 x5 x6 x7 x8 x9 x10 x11 x12 x13 x14 xs0 h)) _ _ _ _ _ _ ?_ ?_ ?_ ?_ ?_ ?_ _ _ _ _ _ _ _ h i j
  · exact su0.trans (congrArg su (L 0 arg10 harg10 rfl (ldd arg24 harg24 xs0 0 _)))
  · exact su1.trans (congrArg su (L 1 arg11 harg11 rfl (ldd arg24 harg24 xs0 1 _)))
  · exact su2.trans (congrArg su (L 2 arg12 harg12 rfl (ldd arg24 harg24 xs0 2 _)))
  · exact su3.trans (congrArg su (L 3 arg13 harg13 rfl (ldd arg24 harg24 xs0 3 _)))
  · exact su4.trans (congrArg su (L 4 arg14 harg14 rfl (ldd arg24 harg24 xs0 4 _)))
  · exact su5.trans (congrArg su (L 5 arg15 harg15 rfl (ldd arg24 harg24 xs0 5 _)))

/-- A head's part of the block that `dw` is left in. -/
theorem at_dw (h : Fin 6) (i : Fin 64) (j : Fin 128) :
    (out0_B_18 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix2 i ⟨h.val * 128 + j.val, by omega⟩) : EReal) = (LB x0 x1 x2 x3 x4 x5 x6 x7 x8 x9 x10 x11 x12 x13 x14 xs0 h).hd.dw i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold out0_B_18
  rw [View.read_writes_junk_apply_eq_canon]
  unfold kernelRun0_B
  dsimp only
  refine Eq.trans ?_ (sw_eq (LB x0 x1 x2 x3 x4 x5 x6 x7 x8 x9 x10 x11 x12 x13 x14 xs0 h) i j)
  refine six2 (e := .f32) (fun h => sw (LB x0 x1 x2 x3 x4 x5 x6 x7 x8 x9 x10 x11 x12 x13 x14 xs0 h)) _ _ _ _ _ _ ?_ ?_ ?_ ?_ ?_ ?_ _ _ _ _ _ _ _ h i j
  · exact sw0.trans (congrArg sw (L 0 arg10 harg10 rfl (ldd arg24 harg24 xs0 0 _)))
  · exact sw1.trans (congrArg sw (L 1 arg11 harg11 rfl (ldd arg24 harg24 xs0 1 _)))
  · exact sw2.trans (congrArg sw (L 2 arg12 harg12 rfl (ldd arg24 harg24 xs0 2 _)))
  · exact sw3.trans (congrArg sw (L 3 arg13 harg13 rfl (ldd arg24 harg24 xs0 3 _)))
  · exact sw4.trans (congrArg sw (L 4 arg14 harg14 rfl (ldd arg24 harg24 xs0 4 _)))
  · exact sw5.trans (congrArg sw (L 5 arg15 harg15 rfl (ldd arg24 harg24 xs0 5 _)))

/-- A head's part of the block that `dgt` is left in. -/
theorem at_dgt (h : Fin 6) (i : Fin 64) (j : Fin 128) :
    (out0_B_19 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix2 i ⟨h.val * 128 + j.val, by omega⟩) : EReal) = (LB x0 x1 x2 x3 x4 x5 x6 x7 x8 x9 x10 x11 x12 x13 x14 xs0 h).hd.dgt i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold out0_B_19
  rw [View.read_writes_junk_apply_eq_canon]
  unfold kernelRun0_B
  dsimp only
  refine Eq.trans ?_ (sgt_eq (LB x0 x1 x2 x3 x4 x5 x6 x7 x8 x9 x10 x11 x12 x13 x14 xs0 h) i j)
  refine six2 (e := .bf16) (fun h => sgt (LB x0 x1 x2 x3 x4 x5 x6 x7 x8 x9 x10 x11 x12 x13 x14 xs0 h)) _ _ _ _ _ _ ?_ ?_ ?_ ?_ ?_ ?_ _ _ _ _ _ _ _ h i j
  · exact sgt0.trans (congrArg sgt (L 0 arg10 harg10 rfl rfl))
  · exact sgt1.trans (congrArg sgt (L 1 arg11 harg11 rfl rfl))
  · exact sgt2.trans (congrArg sgt (L 2 arg12 harg12 rfl rfl))
  · exact sgt3.trans (congrArg sgt (L 3 arg13 harg13 rfl rfl))
  · exact sgt4.trans (congrArg sgt (L 4 arg14 harg14 rfl rfl))
  · exact sgt5.trans (congrArg sgt (L 5 arg15 harg15 rfl rfl))

/-- A head's part of the block that `dg` is left in. -/
theorem at_dg (h : Fin 6) (i : Fin 64) (j : Fin 128) :
    (out0_B_20 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix3 h i j) : EReal) = (LB x0 x1 x2 x3 x4 x5 x6 x7 x8 x9 x10 x11 x12 x13 x14 xs0 h).hd.dg i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold out0_B_20
  rw [View.read_writes_junk_apply_eq_canon]
  unfold kernelRun0_B
  dsimp only
  refine Eq.trans ?_ (sg_eq (LB x0 x1 x2 x3 x4 x5 x6 x7 x8 x9 x10 x11 x12 x13 x14 xs0 h) i j)
  refine six3 (e := .f32) (fun h => sg (LB x0 x1 x2 x3 x4 x5 x6 x7 x8 x9 x10 x11 x12 x13 x14 xs0 h)) _ _ _ _ _ _ ?_ ?_ ?_ ?_ ?_ ?_ _ _ _ _ _ _ _ h i j
  · exact sg0.trans (congrArg sg (L 0 arg10 harg10 rfl (ldd arg24 harg24 xs0 0 _)))
  · exact sg1.trans (congrArg sg (L 1 arg11 harg11 rfl (ldd arg24 harg24 xs0 1 _)))
  · exact sg2.trans (congrArg sg (L 2 arg12 harg12 rfl (ldd arg24 harg24 xs0 2 _)))
  · exact sg3.trans (congrArg sg (L 3 arg13 harg13 rfl (ldd arg24 harg24 xs0 3 _)))
  · exact sg4.trans (congrArg sg (L 4 arg14 harg14 rfl (ldd arg24 harg24 xs0 4 _)))
  · exact sg5.trans (congrArg sg (L 5 arg15 harg15 rfl (ldd arg24 harg24 xs0 5 _)))

/-- A head's part of the block that `da` is left in. -/
theorem at_da (h : Fin 6) (i j : Fin 64) :
    (out0_B_21 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix4 h 0 i j) : EReal) = (LB x0 x1 x2 x3 x4 x5 x6 x7 x8 x9 x10 x11 x12 x13 x14 xs0 h).hd.da i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold out0_B_21
  rw [View.read_writes_junk_apply_eq_canon]
  unfold kernelRun0_B
  dsimp only
  refine Eq.trans ?_ (sa_eq (LB x0 x1 x2 x3 x4 x5 x6 x7 x8 x9 x10 x11 x12 x13 x14 xs0 h) i j)
  refine six4 (e := .f32) (fun h => sa (LB x0 x1 x2 x3 x4 x5 x6 x7 x8 x9 x10 x11 x12 x13 x14 xs0 h)) _ _ _ _ _ _ ?_ ?_ ?_ ?_ ?_ ?_ _ _ _ _ _ _ _ h i j
  · exact sa0.trans (congrArg sa (L 0 arg10 harg10 rfl rfl))
  · exact sa1.trans (congrArg sa (L 1 arg11 harg11 rfl rfl))
  · exact sa2.trans (congrArg sa (L 2 arg12 harg12 rfl rfl))
  · exact sa3.trans (congrArg sa (L 3 arg13 harg13 rfl rfl))
  · exact sa4.trans (congrArg sa (L 4 arg14 harg14 rfl rfl))
  · exact sa5.trans (congrArg sa (L 5 arg15 harg15 rfl rfl))

/-- A head's part of the block that `dS` is left in. -/
theorem at_dS (h : Fin 6) (i j : Fin 128) :
    (sout0_B_0 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix3 h i j) : EReal) = (LB x0 x1 x2 x3 x4 x5 x6 x7 x8 x9 x10 x11 x12 x13 x14 xs0 h).hd.dS i j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  unfold sout0_B_0
  rw [View.read_writes_junk_apply_eq_canon]
  unfold kernelRun0_B
  dsimp only
  refine Eq.trans ?_ (ss_eq (LB x0 x1 x2 x3 x4 x5 x6 x7 x8 x9 x10 x11 x12 x13 x14 xs0 h) i j)
  refine sixd (e := .f32) (fun h => ss (LB x0 x1 x2 x3 x4 x5 x6 x7 x8 x9 x10 x11 x12 x13 x14 xs0 h)) _ _ _ _ _ _ ?_ ?_ ?_ ?_ ?_ ?_ _ _ _ _ _ _ _ h i j
  · exact ss0.trans (congrArg ss (L 0 arg10 harg10 rfl (ldd arg24 harg24 xs0 0 _)))
  · exact ss1.trans (congrArg ss (L 1 arg11 harg11 rfl (ldd arg24 harg24 xs0 1 _)))
  · exact ss2.trans (congrArg ss (L 2 arg12 harg12 rfl (ldd arg24 harg24 xs0 2 _)))
  · exact ss3.trans (congrArg ss (L 3 arg13 harg13 rfl (ldd arg24 harg24 xs0 3 _)))
  · exact ss4.trans (congrArg ss (L 4 arg14 harg14 rfl (ldd arg24 harg24 xs0 4 _)))
  · exact ss5.trans (congrArg ss (L 5 arg15 harg15 rfl (ldd arg24 harg24 xs0 5 _)))

/-- The block of the gain's gradient, with the six heads' rows added to it. -/
theorem at_dog (j : Fin 128) : (out0_B_22 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xo22 xs0 (ix2 0 j) : EReal) =
    ((xo22 : Vec Ideal S1x128 .f32) (ix2 0 j) : EReal) + (LB x0 x1 x2 x3 x4 x5 x6 x7 x8 x9 x10 x11 x12 x13 x14 xs0 0).hd.dog j + (LB x0 x1 x2 x3 x4 x5 x6 x7 x8 x9 x10 x11 x12 x13 x14 xs0 1).hd.dog j + (LB x0 x1 x2 x3 x4 x5 x6 x7 x8 x9 x10 x11 x12 x13 x14 xs0 2).hd.dog j + (LB x0 x1 x2 x3 x4 x5 x6 x7 x8 x9 x10 x11 x12 x13 x14 xs0 3).hd.dog j + (LB x0 x1 x2 x3 x4 x5 x6 x7 x8 x9 x10 x11 x12 x13 x14 xs0 4).hd.dog j + (LB x0 x1 x2 x3 x4 x5 x6 x7 x8 x9 x10 x11 x12 x13 x14 xs0 5).hd.dog j := by
  have L := ldh arg1 harg1 arg2 harg2 arg3 harg3 arg4 harg4 arg5 harg5 arg6 harg6 arg7 harg7 arg8 harg8 arg9 harg9 x0 x1 x2 x3 x4 x5 x6 x7 x8 x9 x10 x11 x12 x13 x14 xs0
  have acc_1 : (kernelRun0_B.sl.v344 c arg1 harg1 arg3 harg3 arg4 harg4 arg5 harg5 arg6 harg6 arg7 harg7 arg9 harg9 arg10 harg10 arg23 harg23 x0 x2 x3 x4 x5 x6 x8 x9 xo22 : Vec Ideal S1x128 .f32) = so (LB x0 x1 x2 x3 x4 x5 x6 x7 x8 x9 x10 x11 x12 x13 x14 xs0 0) (xo22) := by
    unfold kernelRun0_B.sl.v344 kernelRun0_B.sl.H22_1
    rw [View.readCov_cons_unit_lit' _ _ _ _ _ (by decide) (by decide)]
    exact so0.trans (congrArg₂ so (L 0 arg10 harg10 rfl rfl) (ldo arg23 harg23 xo22 _))
  have acc_2 : (kernelRun0_B.sl.v518 c arg1 harg1 arg3 harg3 arg4 harg4 arg5 harg5 arg6 harg6 arg7 harg7 arg9 harg9 arg10 harg10 arg11 harg11 arg23 harg23 x0 x2 x3 x4 x5 x6 x8 x9 x10 xo22 : Vec Ideal S1x128 .f32) = so (LB x0 x1 x2 x3 x4 x5 x6 x7 x8 x9 x10 x11 x12 x13 x14 xs0 1) (so (LB x0 x1 x2 x3 x4 x5 x6 x7 x8 x9 x10 x11 x12 x13 x14 xs0 0) (xo22)) := by
    unfold kernelRun0_B.sl.v518 kernelRun0_B.sl.H22_2
    rw [View.readCov_cons_unit_lit' _ _ _ _ _ (by decide) (by decide)]
    exact so1.trans (congrArg₂ so (L 1 arg11 harg11 rfl rfl) acc_1)
  have acc_3 : (kernelRun0_B.sl.v692 c arg1 harg1 arg3 harg3 arg4 harg4 arg5 harg5 arg6 harg6 arg7 harg7 arg9 harg9 arg10 harg10 arg11 harg11 arg12 harg12 arg23 harg23 x0 x2 x3 x4 x5 x6 x8 x9 x10 x11 xo22 : Vec Ideal S1x128 .f32) = so (LB x0 x1 x2 x3 x4 x5 x6 x7 x8 x9 x10 x11 x12 x13 x14 xs0 2) (so (LB x0 x1 x2 x3 x4 x5 x6 x7 x8 x9 x10 x11 x12 x13 x14 xs0 1) (so (LB x0 x1 x2 x3 x4 x5 x6 x7 x8 x9 x10 x11 x12 x13 x14 xs0 0) (xo22))) := by
    unfold kernelRun0_B.sl.v692 kernelRun0_B.sl.H22_3
    rw [View.readCov_cons_unit_lit' _ _ _ _ _ (by decide) (by decide)]
    exact so2.trans (congrArg₂ so (L 2 arg12 harg12 rfl rfl) acc_2)
  have acc_4 : (kernelRun0_B.sl.v866 c arg1 harg1 arg3 harg3 arg4 harg4 arg5 harg5 arg6 harg6 arg7 harg7 arg9 harg9 arg10 harg10 arg11 harg11 arg12 harg12 arg13 harg13 arg23 harg23 x0 x2 x3 x4 x5 x6 x8 x9 x10 x11 x12 xo22 : Vec Ideal S1x128 .f32) = so (LB x0 x1 x2 x3 x4 x5 x6 x7 x8 x9 x10 x11 x12 x13 x14 xs0 3) (so (LB x0 x1 x2 x3 x4 x5 x6 x7 x8 x9 x10 x11 x12 x13 x14 xs0 2) (so (LB x0 x1 x2 x3 x4 x5 x6 x7 x8 x9 x10 x11 x12 x13 x14 xs0 1) (so (LB x0 x1 x2 x3 x4 x5 x6 x7 x8 x9 x10 x11 x12 x13 x14 xs0 0) (xo22)))) := by
    unfold kernelRun0_B.sl.v866 kernelRun0_B.sl.H22_4
    rw [View.readCov_cons_unit_lit' _ _ _ _ _ (by decide) (by decide)]
    exact so3.trans (congrArg₂ so (L 3 arg13 harg13 rfl rfl) acc_3)
  have acc_5 : (kernelRun0_B.sl.v1040 c arg1 harg1 arg3 harg3 arg4 harg4 arg5 harg5 arg6 harg6 arg7 harg7 arg9 harg9 arg10 harg10 arg11 harg11 arg12 harg12 arg13 harg13 arg14 harg14 arg23 harg23 x0 x2 x3 x4 x5 x6 x8 x9 x10 x11 x12 x13 xo22 : Vec Ideal S1x128 .f32) = so (LB x0 x1 x2 x3 x4 x5 x6 x7 x8 x9 x10 x11 x12 x13 x14 xs0 4) (so (LB x0 x1 x2 x3 x4 x5 x6 x7 x8 x9 x10 x11 x12 x13 x14 xs0 3) (so (LB x0 x1 x2 x3 x4 x5 x6 x7 x8 x9 x10 x11 x12 x13 x14 xs0 2) (so (LB x0 x1 x2 x3 x4 x5 x6 x7 x8 x9 x10 x11 x12 x13 x14 xs0 1) (so (LB x0 x1 x2 x3 x4 x5 x6 x7 x8 x9 x10 x11 x12 x13 x14 xs0 0) (xo22))))) := by
    unfold kernelRun0_B.sl.v1040 kernelRun0_B.sl.H22_5
    rw [View.readCov_cons_unit_lit' _ _ _ _ _ (by decide) (by decide)]
    exact so4.trans (congrArg₂ so (L 4 arg14 harg14 rfl rfl) acc_4)
  unfold out0_B_22
  rw [View.read_writes_junk_apply_eq_canon]
  unfold kernelRun0_B
  dsimp only
  rw [View.canon_cons_unit_lit' _ _ _ (by decide)]
  refine (congrFun (so5.trans (congrArg₂ so (L 5 arg15 harg15 rfl rfl) acc_5)) (ix2 0 j)).trans ?_
  simp only [so_eq]

end Cert.Scan.K.B
-- ==== Proof.ScanReference.lean ====
module

public import proofs.«01_k».proof.Proof.ScanSpec
public import proofs.«01_k».proof.Proof.Gen.ScanReferenceIdeal.Step

/-! The reference's loop over the chunks: one trip at an element, then all the trips. -/

@[expose] public section

noncomputable section

open scoped BigOperators

namespace Cert.Scan.R

open Idealize.ShloMosaic Cert.ScanReferenceIdeal Cert.ScanReferenceIdeal.Step Cert.Sgu Cert.Swiglu

/-- A slice of one entry of the first axis, read at an element. -/
theorem dslice {a b c : Nat} {α : Type} (x : (⟨4, ![32, a, b, c]⟩ : Shape).Idx → α) (start : Fin 4 → Int)
    (h : (⟨4, ![32, a, b, c]⟩ : Shape).Slices (fun _ => 0) ⟨4, ![1, a, b, c]⟩) (n : Fin 32) (h0 : start 0 = (n.val : Int))
    (h1 : start 1 = 0) (h2 : start 2 = 0) (h3 : start 3 = 0) (z : Fin 1) (i : Fin a) (j : Fin b) (k : Fin c) :
    Host.dynamicSlice (⟨4, ![1, a, b, c]⟩ : Shape) x start h (ix4 z i j k) = x (ix4 n i j k) := by
  rw [Host.dynamicSlice_apply]
  refine congrArg x (funext fun d => Fin.ext ?_)
  have hz : z.val = 0 := by omega
  match d with
  | ⟨0, _⟩ =>
    show Host.clampedStart (⟨4, ![32, a, b, c]⟩ : Shape) (⟨4, ![1, a, b, c]⟩ : Shape) h.1 start 0 + z.val = n.val
    rw [Host.clampedStart_of_le h.1 start 0 n.val h0 (by show n.val + 1 ≤ 32; omega), hz]; rfl
  | ⟨1, _⟩ =>
    show Host.clampedStart (⟨4, ![32, a, b, c]⟩ : Shape) (⟨4, ![1, a, b, c]⟩ : Shape) h.1 start 1 + i.val = i.val
    rw [Host.clampedStart_of_le h.1 start 1 0 h1 (by show 0 + a ≤ a; omega)]; omega
  | ⟨2, _⟩ =>
    show Host.clampedStart (⟨4, ![32, a, b, c]⟩ : Shape) (⟨4, ![1, a, b, c]⟩ : Shape) h.1 start 2 + j.val = j.val
    rw [Host.clampedStart_of_le h.1 start 2 0 h2 (by show 0 + b ≤ b; omega)]; omega
  | ⟨3, _⟩ =>
    show Host.clampedStart (⟨4, ![32, a, b, c]⟩ : Shape) (⟨4, ![1, a, b, c]⟩ : Shape) h.1 start 3 + k.val = k.val
    rw [Host.clampedStart_of_le h.1 start 3 0 h3 (by show 0 + c ≤ c; omega)]; omega

/-- An update of one entry of the first axis, read at an element. -/
theorem dupd {a b c : Nat} {α : Type} (x : (⟨4, ![32, a, b, c]⟩ : Shape).Idx → α)
    (y : (⟨4, ![1, a, b, c]⟩ : Shape).Idx → α) (start : Fin 4 → Int)
    (h : (⟨4, ![32, a, b, c]⟩ : Shape).Slices (fun _ => 0) ⟨4, ![1, a, b, c]⟩) (n : Fin 32) (h0 : start 0 = (n.val : Int))
    (h1 : start 1 = 0) (h2 : start 2 = 0) (h3 : start 3 = 0) (p : Fin 32) (i : Fin a) (j : Fin b) (k : Fin c) :
    Host.dynamicUpdateSlice x y start h (ix4 p i j k) = if p = n then y (ix4 0 i j k) else x (ix4 p i j k) := by
  rw [Host.dynamicUpdateSlice_apply]
  have c0 := Host.clampedStart_of_le (s := (⟨4, ![32, a, b, c]⟩ : Shape)) (t := (⟨4, ![1, a, b, c]⟩ : Shape)) h.1 start 0 n.val h0 (by show n.val + 1 ≤ 32; omega)
  have c1 := Host.clampedStart_of_le (s := (⟨4, ![32, a, b, c]⟩ : Shape)) (t := (⟨4, ![1, a, b, c]⟩ : Shape)) h.1 start 1 0 h1 (by show 0 + a ≤ a; omega)
  have c2 := Host.clampedStart_of_le (s := (⟨4, ![32, a, b, c]⟩ : Shape)) (t := (⟨4, ![1, a, b, c]⟩ : Shape)) h.1 start 2 0 h2 (by show 0 + b ≤ b; omega)
  have c3 := Host.clampedStart_of_le (s := (⟨4, ![32, a, b, c]⟩ : Shape)) (t := (⟨4, ![1, a, b, c]⟩ : Shape)) h.1 start 3 0 h3 (by show 0 + c ≤ c; omega)
  by_cases hp : p = n
  · rw [if_pos hp, dif_pos]
    · refine congrArg y (funext fun d => Fin.ext ?_)
      match d with
      | ⟨0, _⟩ => show p.val - Host.clampedStart _ _ h.1 start 0 = 0; rw [c0, hp]; omega
      | ⟨1, _⟩ => show i.val - Host.clampedStart _ _ h.1 start 1 = i.val; rw [c1]; omega
      | ⟨2, _⟩ => show j.val - Host.clampedStart _ _ h.1 start 2 = j.val; rw [c2]; omega
      | ⟨3, _⟩ => show k.val - Host.clampedStart _ _ h.1 start 3 = k.val; rw [c3]; omega
    · intro d
      match d with
      | ⟨0, _⟩ => show Host.clampedStart _ _ h.1 start 0 ≤ p.val ∧ p.val < Host.clampedStart _ _ h.1 start 0 + 1; rw [c0, hp]; omega
      | ⟨1, _⟩ => show Host.clampedStart _ _ h.1 start 1 ≤ i.val ∧ i.val < Host.clampedStart _ _ h.1 start 1 + a; rw [c1]; omega
      | ⟨2, _⟩ => show Host.clampedStart _ _ h.1 start 2 ≤ j.val ∧ j.val < Host.clampedStart _ _ h.1 start 2 + b; rw [c2]; omega
      | ⟨3, _⟩ => show Host.clampedStart _ _ h.1 start 3 ≤ k.val ∧ k.val < Host.clampedStart _ _ h.1 start 3 + c; rw [c3]; omega
  · rw [if_neg hp, dif_neg]
    intro hin
    have h' : Host.clampedStart (⟨4, ![32, a, b, c]⟩ : Shape) (⟨4, ![1, a, b, c]⟩ : Shape) h.1 start 0 ≤ p.val
      ∧ p.val < Host.clampedStart (⟨4, ![32, a, b, c]⟩ : Shape) (⟨4, ![1, a, b, c]⟩ : Shape) h.1 start 0 + 1 := hin 0
    rw [c0] at h'
    exact hp (Fin.ext (by omega))

/-- A sum over the first two of three axes, read along them. -/
theorem hostReduceAdd_a01 {n0 n1 n2 : Nat} (h : (⟨3, ![n0, n1, n2]⟩ : Shape).ReducesTo [0, 1] ⟨1, ![n2]⟩)
    (v : (⟨3, ![n0, n1, n2]⟩ : Shape).Idx → EReal) (z : EReal) (i : Fin n2) :
    Ideal.hostReduceAdd h v z (ix1 i) = z + ∑ a : Fin n0, ∑ b : Fin n1, v (ix3 a b i) := by
  unfold Ideal.hostReduceAdd
  refine congrArg (z + ·) ((Finset.sum_filter_eq_sum_of_fiber _ (fun k : Fin n0 × Fin n1 => (ix3 k.1 k.2 i : (⟨3, ![n0, n1, n2]⟩ : Shape).Idx))
    (fun _ _ e => Prod.ext (congrFun e 0) (congrFun e 1)) (fun y => ?_) v).trans ?_)
  · constructor
    · intro e
      refine ⟨(y 0, y 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The chunk a trip takes, as the loop computes it. -/
theorem start_eq : ∀ j : Fin 32, (IntOp.subi (IntOp.subi 32#32 (BitVec.ofNat 32 j.val)) 1#32).toInt = ((31 - j.val : Nat) : Int) := by
  decide

/-- One trip's chunk of each array, and the carried gradient. -/
def hd (j : ℕ) (s : State Ideal) (h : Fin 6) : Hd :=
  { q := fun i d => s.main_v25_1 (ix4 (Inp.ch j) h i d), k := fun i d => s.main_v25_2 (ix4 (Inp.ch j) h i d),
    u := fun i d => s.main_v25_3 (ix4 (Inp.ch j) h i d), w := fun i d => s.main_v25_4 (ix4 (Inp.ch j) h i d),
    g := fun i d => s.main_v25_5 (ix4 (Inp.ch j) h i d), gate := fun i d => s.main_v25_7 (ix4 (Inp.ch j) h i d),
    dy := fun i d => s.main_v25_8 (ix4 (Inp.ch j) h i d), a := fun i l => s.main_v25_6 (ix4 (Inp.ch j) h i l),
    og := fun d => s.main_v25_9 (ix1 d), s := fun k v => s.main_v25_0 (ix4 (Inp.ch j) h k v),
    ds := fun k v => s.main_v25_11 (ix3 h k v) }

variable (j : ℕ) (hj : j < 32) (s : State Ideal) (h : Fin 6)

include hj

theorem b8_eq (k v : Fin 128) : (b8 (F := Ideal) j s (ix3 h k v) : EReal) = (hd j s h).s k v := by
  have e : (b7 (F := Ideal) j s (ix4 0 h k v) : EReal) = s.main_v25_0 (ix4 (Inp.ch j) h k v) :=
    dslice s.main_v25_0 _ _ (Inp.ch j) (start_eq ⟨j, hj⟩) rfl rfl rfl 0 h k v
  unfold b8
  pointwise
  exact e

theorem b13_eq (i : Fin 64) (d : Fin 128) : (b13 (F := Ideal) j s (ix3 h i d) : EReal) = (hd j s h).q i d := by
  have e : (b12 (F := Ideal) j s (ix4 0 h i d) : EReal) = s.main_v25_1 (ix4 (Inp.ch j) h i d) :=
    dslice s.main_v25_1 _ _ (Inp.ch j) (start_eq ⟨j, hj⟩) rfl rfl rfl 0 h i d
  unfold b13
  pointwise
  exact e

theorem b18_eq (i : Fin 64) (d : Fin 128) : (b18 (F := Ideal) j s (ix3 h i d) : EReal) = (hd j s h).k i d := by
  have e : (b17 (F := Ideal) j s (ix4 0 h i d) : EReal) = s.main_v25_2 (ix4 (Inp.ch j) h i d) :=
    dslice s.main_v25_2 _ _ (Inp.ch j) (start_eq ⟨j, hj⟩) rfl rfl rfl 0 h i d
  unfold b18
  pointwise
  exact e

theorem b23_eq (i : Fin 64) (d : Fin 128) : (b23 (F := Ideal) j s (ix3 h i d) : EReal) = (hd j s h).u i d := by
  have e : (b22 (F := Ideal) j s (ix4 0 h i d) : EReal) = s.main_v25_3 (ix4 (Inp.ch j) h i d) :=
    dslice s.main_v25_3 _ _ (Inp.ch j) (start_eq ⟨j, hj⟩) rfl rfl rfl 0 h i d
  unfold b23
  pointwise
  exact e

theorem b28_eq (i : Fin 64) (d : Fin 128) : (b28 (F := Ideal) j s (ix3 h i d) : EReal) = (hd j s h).w i d := by
  have e : (b27 (F := Ideal) j s (ix4 0 h i d) : EReal) = s.main_v25_4 (ix4 (Inp.ch j) h i d) :=
    dslice s.main_v25_4 _ _ (Inp.ch j) (start_eq ⟨j, hj⟩) rfl rfl rfl 0 h i d
  unfold b28
  pointwise
  exact e

theorem b33_eq (i : Fin 64) (d : Fin 128) : (b33 (F := Ideal) j s (ix3 h i d) : EReal) = (hd j s h).g i d := by
  have e : (b32 (F := Ideal) j s (ix4 0 h i d) : EReal) = s.main_v25_5 (ix4 (Inp.ch j) h i d) :=
    dslice s.main_v25_5 _ _ (Inp.ch j) (start_eq ⟨j, hj⟩) rfl rfl rfl 0 h i d
  unfold b33
  pointwise
  exact e

theorem b43_eq (i : Fin 64) (d : Fin 128) : (b43 (F := Ideal) j s (ix3 h i d) : EReal) = (hd j s h).gate i d := by
  have e : (b42 (F := Ideal) j s (ix4 0 h i d) : EReal) = s.main_v25_7 (ix4 (Inp.ch j) h i d) :=
    dslice s.main_v25_7 _ _ (Inp.ch j) (start_eq ⟨j, hj⟩) rfl rfl rfl 0 h i d
  unfold b43
  pointwise
  exact e

theorem b48_eq (i : Fin 64) (d : Fin 128) : (b48 (F := Ideal) j s (ix3 h i d) : EReal) = (hd j s h).dy i d := by
  have e : (b47 (F := Ideal) j s (ix4 0 h i d) : EReal) = s.main_v25_8 (ix4 (Inp.ch j) h i d) :=
    dslice s.main_v25_8 _ _ (Inp.ch j) (start_eq ⟨j, hj⟩) rfl rfl rfl 0 h i d
  unfold b48
  pointwise
  exact e

theorem b38_eq (i l : Fin 64) : (b38 (F := Ideal) j s (ix3 h i l) : EReal) = (hd j s h).a i l := by
  have e : (b37 (F := Ideal) j s (ix4 0 h i l) : EReal) = s.main_v25_6 (ix4 (Inp.ch j) h i l) :=
    dslice s.main_v25_6 _ _ (Inp.ch j) (start_eq ⟨j, hj⟩) rfl rfl rfl 0 h i l
  unfold b38
  pointwise
  exact e

theorem b50_eq (i : Fin 64) (d : Fin 128) : (b50 (F := Ideal) j s (ix3 h i d) : EReal) = (hd j s h).vn i d := by
  unfold b50 b49
  pointwise
  simp only [b23_eq j hj s, b28_eq j hj s, b8_eq j hj s]
  rfl

theorem b51_eq (i : Fin 64) (d : Fin 128) : (b51 (F := Ideal) j s (ix3 h i d) : EReal) = (hd j s h).eg i d := by
  unfold b51
  pointwise
  simp only [b33_eq j hj s]
  rfl

theorem b52_eq (i : Fin 64) (d : Fin 128) : (b52 (F := Ideal) j s (ix3 h i d) : EReal) = (hd j s h).qe i d := by
  unfold b52
  pointwise
  simp only [b13_eq j hj s, b51_eq j hj s]
  rfl

theorem b55_eq (i : Fin 64) (d : Fin 128) : (b55 (F := Ideal) j s (ix3 h i d) : EReal) = (hd j s h).o i d := by
  unfold b55 b54 b53
  pointwise
  simp only [b52_eq j hj s, b8_eq j hj s, b38_eq j hj s, b50_eq j hj s]
  rfl

theorem b57_eq (d : Fin 128) : (b57 (F := Ideal) j s (ix3 h 0 d) : EReal) = (hd j s h).egl d := by
  unfold b57 b56
  pointwise
  simp only [b33_eq j hj s]
  rfl

theorem b62_eq (i : Fin 64) (d : Fin 128) : (b62 (F := Ideal) j s (ix3 h i d) : EReal) = (hd j s h).ed i d := by
  unfold b62 b61 b60 b56
  pointwise
  simp only [b33_eq j hj s]
  rfl

theorem b63_eq (i : Fin 64) (d : Fin 128) : (b63 (F := Ideal) j s (ix3 h i d) : EReal) = (hd j s h).ke i d := by
  unfold b63
  pointwise
  simp only [b18_eq j hj s, b62_eq j hj s]
  rfl

theorem b75_eq (i : Fin 64) : (b75 (F := Ideal) j s (ix3 h i 0) : EReal) = (hd j s h).var i := by
  unfold b75 b74 b73 b72 b71 b70 b69 b68 b67 b66
  pointwise
  simp only [b55_eq j hj s]
  rfl

theorem b76_eq (i : Fin 64) : (b76 (F := Ideal) j s (ix3 h i 0) : EReal) = (hd j s h).rs i := by
  unfold b76
  pointwise
  simp only [b75_eq j hj s]
  rfl

theorem b82_eq (i : Fin 64) (d : Fin 128) : (b82 (F := Ideal) j s (ix3 h i d) : EReal) = (hd j s h).nx i d := by
  unfold b82 b81
  pointwise
  simp only [b55_eq j hj s, b76_eq j hj s]
  rfl

theorem b93_eq (i : Fin 64) (d : Fin 128) : (b93 (F := Ideal) j s (ix3 h i d) : EReal) = sig ((hd j s h).gate i d) := by
  unfold b93 b92 b91 b90 b89 b88 b87 b86
  pointwise
  simp only [b43_eq j hj s]
  rfl

theorem b101_eq (i : Fin 64) (d : Fin 128) : (b101 (F := Ideal) j s (ix3 h i d) : EReal) = (hd j s h).dn i d := by
  unfold b101 b98
  pointwise
  simp only [b48_eq j hj s, b43_eq j hj s, b93_eq j hj s]
  rfl

theorem b84_eq (i : Fin 64) (d : Fin 128) : (b84 (F := Ideal) j s (ix3 h i d) : EReal) = (hd j s h).og d := by
  unfold b84 b83
  pointwise
  skip
  rfl

theorem b110_eq (i : Fin 64) (d : Fin 128) : (b110 (F := Ideal) j s (ix3 h i d) : EReal) = (hd j s h).og d := by
  unfold b110 b83
  pointwise
  skip
  rfl

theorem b111_eq (i : Fin 64) (d : Fin 128) : (b111 (F := Ideal) j s (ix3 h i d) : EReal) = (hd j s h).dm i d := by
  unfold b111
  pointwise
  simp only [b101_eq j hj s, b110_eq j hj s]
  rfl

theorem b126_eq (i : Fin 64) (d : Fin 128) : (b126 (F := Ideal) j s (ix3 h i d) : EReal) = (hd j s h).dr i := by
  unfold b126 b125 b124 b123 b122 b121 b120 b117 b116 b115 b114 b80 b79 b78 b77
  pointwise
  simp only [Fin.sum_univ_one, Fin.isValue]
  simp only [b55_eq j hj s, b111_eq j hj s, b76_eq j hj s, b75_eq j hj s]
  rfl

theorem b130_eq (i : Fin 64) (d : Fin 128) : (b130 (F := Ideal) j s (ix3 h i d) : EReal) = (hd j s h).dO i d := by
  unfold b130 b129 b128 b127 b119 b118
  pointwise
  simp only [b111_eq j hj s, b76_eq j hj s, b55_eq j hj s, b126_eq j hj s]
  rfl

theorem b134_eq (i : Fin 64) (d : Fin 128) : (b134 (F := Ideal) j s (ix3 h i d) : EReal) = (hd j s h).kd i d := by
  unfold b134 b133
  pointwise
  simp only [b50_eq j hj s]
  exact Finset.sum_congr rfl fun v _ => mul_comm _ _

theorem b137_eq (i : Fin 64) (d : Fin 128) : (b137 (F := Ideal) j s (ix3 h i d) : EReal) = (hd j s h).dx i d := by
  unfold b137 b135
  pointwise
  simp only [b18_eq j hj s, b134_eq j hj s, b62_eq j hj s]
  rfl

theorem b155_eq (i : Fin 64) (d : Fin 128) : (b155 (F := Ideal) j s (ix3 h i d) : EReal) = (hd j s h).dv i d := by
  unfold b155 b154 b153 b132 b131
  pointwise
  simp only [b63_eq j hj s, b130_eq j hj s, b38_eq j hj s]
  exact congrArg₂ (· + ·) (Finset.sum_congr rfl fun v _ => mul_comm _ _) (Finset.sum_congr rfl fun v _ => mul_comm _ _)

theorem b160_eq (i : Fin 64) (d : Fin 128) : (b160 (F := Ideal) j s (ix3 h i d) : EReal) = (hd j s h).qd i d := by
  unfold b160
  pointwise
  simp only [b130_eq j hj s, b8_eq j hj s]
  rfl

theorem b162_eq (i : Fin 64) (d : Fin 128) : (b162 (F := Ideal) j s (ix3 h i d) : EReal) = (hd j s h).dq i d := by
  unfold b162
  pointwise
  simp only [b160_eq j hj s, b51_eq j hj s]
  rfl

theorem b136_eq (i : Fin 64) (d : Fin 128) : (b136 (F := Ideal) j s (ix3 h i d) : EReal) = (hd j s h).dk i d := by
  unfold b136
  pointwise
  simp only [b134_eq j hj s, b62_eq j hj s]
  rfl

theorem b169_eq (i : Fin 64) (d : Fin 128) : (b169 (F := Ideal) j s (ix3 h i d) : EReal) = (hd j s h).dw i d := by
  unfold b169 b165
  pointwise
  simp only [b155_eq j hj s, b8_eq j hj s]
  rfl

theorem b105_eq (i : Fin 64) (d : Fin 128) : (b105 (F := Ideal) j s (ix3 h i d) : EReal) = (hd j s h).dgt i d := by
  unfold b105 b104 b103 b102 b100 b97 b96 b95 b94 b85
  pointwise
  simp only [b82_eq j hj s, b84_eq j hj s, b48_eq j hj s, b93_eq j hj s, b43_eq j hj s]
  rfl

theorem b149_eq (d : Fin 128) : (b149 (F := Ideal) j s (ix3 h 0 d) : EReal) = (hd j s h).dl d := by
  unfold b149 b148 b145 b144 b143 b142 b140 b139 b138
  pointwise
  simp only [b137_eq j hj s, b8_eq j hj s, b57_eq j hj s]
  rfl

theorem b164_eq (i : Fin 64) (d : Fin 128) : (b164 (F := Ideal) j s (ix3 h i d) : EReal) = (hd j s h).dg i d := by
  unfold b164 b163 b161 b152 b151 b150 b141
  pointwise
  simp only [b137_eq j hj s, b13_eq j hj s, b160_eq j hj s, b51_eq j hj s]
  refine congrArg₂ (· + ·) (congrArg _ ?_) rfl
  by_cases hi : i.val = 63
  · rw [if_pos hi, dif_pos ⟨by omega, by omega⟩]
    refine Eq.trans (congrArg (b149 (F := Ideal) j s) (ix3_congr rfl ?_ rfl)) (b149_eq j hj s h d)
    show i.val - 63 = 0
    omega
  · rw [if_neg hi, dif_neg (fun h' => hi (by omega))]

theorem b156_eq (i l : Fin 64) : (b156 (F := Ideal) j s (ix3 h i l) : EReal) = (hd j s h).da i l := by
  unfold b156
  pointwise
  simp only [b130_eq j hj s, b50_eq j hj s]
  rfl

theorem b168_eq (k v : Fin 128) : (b168 (F := Ideal) j s (ix3 h k v) : EReal) = (hd j s h).dS k v := by
  unfold b168 b167 b166 b165 b159 b158 b157 b147 b146
  pointwise
  simp only [b57_eq j hj s, b130_eq j hj s, b52_eq j hj s, b155_eq j hj s, b28_eq j hj s]
  exact congrArg₂ (· + ·) (congrArg _ (Finset.sum_congr rfl fun v _ => mul_comm _ _)) (Finset.sum_congr rfl fun v _ => mul_comm _ _)

/-- The gradient of the gains after one trip. -/
theorem b170_eq (d : Fin 128) :
    (b170 (F := Ideal) j s (ix1 d) : EReal) = s.main_v25_12 (ix1 d) + ∑ h : Fin 6, (hd j s h).dog d := by
  unfold b170 b113 b109 b108 b106 b112 b107
  pointwise
  simp only [hostReduceAdd_a01]
  pointwise
  simp only [hostReduceAdd_a01]
  pointwise
  simp only [Fin.sum_univ_one, Fin.isValue, fun h i d => b82_eq j hj s h i d, fun h i d => b101_eq j hj s h i d]
  rfl

theorem b175_eq (p : Fin 32) (i : Fin 64) (d : Fin 128) :
    (b175 (F := Ideal) j s (ix4 p h i d) : EReal) = if p = Inp.ch j then (hd j s h).dq i d else s.main_v25_13 (ix4 p h i d) := by
  have e : (b171 (F := Ideal) j s (ix4 0 h i d) : EReal) = (hd j s h).dq i d := by
    unfold b171
    pointwise
    exact b162_eq j hj s h i d
  rw [← e]
  exact dupd s.main_v25_13 (b171 j s) _ _ (Inp.ch j) (start_eq ⟨j, hj⟩) rfl rfl rfl p h i d

theorem b180_eq (p : Fin 32) (i : Fin 64) (d : Fin 128) :
    (b180 (F := Ideal) j s (ix4 p h i d) : EReal) = if p = Inp.ch j then (hd j s h).dk i d else s.main_v25_14 (ix4 p h i d) := by
  have e : (b176 (F := Ideal) j s (ix4 0 h i d) : EReal) = (hd j s h).dk i d := by
    unfold b176
    pointwise
    exact b136_eq j hj s h i d
  rw [← e]
  exact dupd s.main_v25_14 (b176 j s) _ _ (Inp.ch j) (start_eq ⟨j, hj⟩) rfl rfl rfl p h i d

theorem b185_eq (p : Fin 32) (i : Fin 64) (d : Fin 128) :
    (b185 (F := Ideal) j s (ix4 p h i d) : EReal) = if p = Inp.ch j then (hd j s h).dv i d else s.main_v25_15 (ix4 p h i d) := by
  have e : (b181 (F := Ideal) j s (ix4 0 h i d) : EReal) = (hd j s h).dv i d := by
    unfold b181
    pointwise
    exact b155_eq j hj s h i d
  rw [← e]
  exact dupd s.main_v25_15 (b181 j s) _ _ (Inp.ch j) (start_eq ⟨j, hj⟩) rfl rfl rfl p h i d

theorem b190_eq (p : Fin 32) (i : Fin 64) (d : Fin 128) :
    (b190 (F := Ideal) j s (ix4 p h i d) : EReal) = if p = Inp.ch j then (hd j s h).dw i d else s.main_v25_16 (ix4 p h i d) := by
  have e : (b186 (F := Ideal) j s (ix4 0 h i d) : EReal) = (hd j s h).dw i d := by
    unfold b186
    pointwise
    exact b169_eq j hj s h i d
  rw [← e]
  exact dupd s.main_v25_16 (b186 j s) _ _ (Inp.ch j) (start_eq ⟨j, hj⟩) rfl rfl rfl p h i d

theorem b195_eq (p : Fin 32) (i : Fin 64) (d : Fin 128) :
    (b195 (F := Ideal) j s (ix4 p h i d) : EReal) = if p = Inp.ch j then (hd j s h).dgt i d else s.main_v25_17 (ix4 p h i d) := by
  have e : (b191 (F := Ideal) j s (ix4 0 h i d) : EReal) = (hd j s h).dgt i d := by
    unfold b191
    pointwise
    exact b105_eq j hj s h i d
  rw [← e]
  exact dupd s.main_v25_17 (b191 j s) _ _ (Inp.ch j) (start_eq ⟨j, hj⟩) rfl rfl rfl p h i d

theorem b200_eq (p : Fin 32) (i : Fin 64) (d : Fin 128) :
    (b200 (F := Ideal) j s (ix4 p h i d) : EReal) = if p = Inp.ch j then (hd j s h).dg i d else s.main_v25_18 (ix4 p h i d) := by
  have e : (b196 (F := Ideal) j s (ix4 0 h i d) : EReal) = (hd j s h).dg i d := by
    unfold b196
    pointwise
    exact b164_eq j hj s h i d
  rw [← e]
  exact dupd s.main_v25_18 (b196 j s) _ _ (Inp.ch j) (start_eq ⟨j, hj⟩) rfl rfl rfl p h i d

theorem b205_eq (p : Fin 32) (i : Fin 64) (d : Fin 64) :
    (b205 (F := Ideal) j s (ix4 p h i d) : EReal) = if p = Inp.ch j then (hd j s h).da i d else s.main_v25_19 (ix4 p h i d) := by
  have e : (b201 (F := Ideal) j s (ix4 0 h i d) : EReal) = (hd j s h).da i d := by
    unfold b201
    pointwise
    exact b156_eq j hj s h i d
  rw [← e]
  exact dupd s.main_v25_19 (b201 j s) _ _ (Inp.ch j) (start_eq ⟨j, hj⟩) rfl rfl rfl p h i d

omit hj

/-- The arrays the loop reads are the recurrence's inputs. -/
structure Con (X : Inp) (s : State Ideal) : Prop where
  q : ∀ n h i d, (s.main_v25_1 (ix4 n h i d) : EReal) = X.q n h i d
  k : ∀ n h i d, (s.main_v25_2 (ix4 n h i d) : EReal) = X.k n h i d
  u : ∀ n h i d, (s.main_v25_3 (ix4 n h i d) : EReal) = X.u n h i d
  w : ∀ n h i d, (s.main_v25_4 (ix4 n h i d) : EReal) = X.w n h i d
  g : ∀ n h i d, (s.main_v25_5 (ix4 n h i d) : EReal) = X.g n h i d
  gate : ∀ n h i d, (s.main_v25_7 (ix4 n h i d) : EReal) = X.gate n h i d
  dy : ∀ n h i d, (s.main_v25_8 (ix4 n h i d) : EReal) = X.dy n h i d
  a : ∀ n h i l, (s.main_v25_6 (ix4 n h i l) : EReal) = X.a n h i l
  og : ∀ d, (s.main_v25_9 (ix1 d) : EReal) = X.og d
  s : ∀ n h k v, (s.main_v25_0 (ix4 n h k v) : EReal) = X.s n h k v

/-- What the state holds before the `n`-th trip: the two carried gradients, and the gradients of the chunks taken. -/
structure Inv (X : Inp) (n : ℕ) (s : State Ideal) : Prop where
  con : Con X s
  ds : ∀ h k v, (s.main_v25_11 (ix3 h k v) : EReal) = X.DS n h k v
  dog : ∀ d, (s.main_v25_12 (ix1 d) : EReal) = X.DOG n d
  dq : ∀ (p : Fin 32) h i d, 31 - p.val < n → (s.main_v25_13 (ix4 p h i d) : EReal) = (X.H (31 - p.val) h).dq i d
  dk : ∀ (p : Fin 32) h i d, 31 - p.val < n → (s.main_v25_14 (ix4 p h i d) : EReal) = (X.H (31 - p.val) h).dk i d
  dv : ∀ (p : Fin 32) h i d, 31 - p.val < n → (s.main_v25_15 (ix4 p h i d) : EReal) = (X.H (31 - p.val) h).dv i d
  dw : ∀ (p : Fin 32) h i d, 31 - p.val < n → (s.main_v25_16 (ix4 p h i d) : EReal) = (X.H (31 - p.val) h).dw i d
  dgt : ∀ (p : Fin 32) h i d, 31 - p.val < n → (s.main_v25_17 (ix4 p h i d) : EReal) = (X.H (31 - p.val) h).dgt i d
  dg : ∀ (p : Fin 32) h i d, 31 - p.val < n → (s.main_v25_18 (ix4 p h i d) : EReal) = (X.H (31 - p.val) h).dg i d
  da : ∀ (p : Fin 32) h i d, 31 - p.val < n → (s.main_v25_19 (ix4 p h i d) : EReal) = (X.H (31 - p.val) h).da i d

/-- A trip's chunk of a head is the recurrence's. -/
theorem hd_eq {X : Inp} {n : ℕ} {s : State Ideal} (I : Inv X n s) (h : Fin 6) : hd n s h = X.H n h := by
  have c := I.con
  unfold hd Inp.H Inp.hd
  congr 1
  · funext i d; exact c.q _ _ _ _
  · funext i d; exact c.k _ _ _ _
  · funext i d; exact c.u _ _ _ _
  · funext i d; exact c.w _ _ _ _
  · funext i d; exact c.g _ _ _ _
  · funext i d; exact c.gate _ _ _ _
  · funext i d; exact c.dy _ _ _ _
  · funext i d; exact c.a _ _ _ _
  · funext d; exact c.og _
  · funext k v; exact c.s _ _ _ _
  · funext k v; exact I.ds _ _ _

/-- The chunk of a trip, and the chunks taken before it. -/
theorem ch_cases {p : Fin 32} {n : ℕ} (hn : n < 32) (hp : 31 - p.val < n + 1) : (p = Inp.ch n ∧ 31 - p.val = n) ∨ (p ≠ Inp.ch n ∧ 31 - p.val < n) := by
  by_cases h : p = Inp.ch n
  · refine .inl ⟨h, ?_⟩
    have e : p.val = 31 - n := congrArg Fin.val h
    omega
  · refine .inr ⟨h, ?_⟩
    by_contra h'
    exact h (Fin.ext (by show p.val = 31 - n; omega))

/-- One trip keeps the invariant. -/
theorem inv_step {X : Inp} {n : ℕ} (hn : n < 32) {s : State Ideal} (I : Inv X n s) : Inv X (n + 1) (step n s) := by
  have e := hd_eq I
  refine ⟨⟨I.con.q, I.con.k, I.con.u, I.con.w, I.con.g, I.con.gate, I.con.dy, I.con.a, I.con.og, I.con.s⟩, ?_, ?_, ?_, ?_, ?_, ?_, ?_, ?_, ?_⟩
  · intro h k v
    exact (b168_eq n hn s h k v).trans (congrArg (fun H : Hd => H.dS k v) (e h))
  · intro d
    refine (b170_eq n hn s d).trans (congrArg₂ (· + ·) (I.dog d) (Finset.sum_congr rfl fun h _ => ?_))
    exact congrArg (fun H : Hd => H.dog d) (e h)
  · intro p h i d hp
    refine (b175_eq n hn s h p i d).trans ?_
    rcases ch_cases hn hp with ⟨h1, h2⟩ | ⟨h1, h2⟩
    · rw [if_pos h1, h2, e h]
    · rw [if_neg h1]; exact I.dq p h i d h2
  · intro p h i d hp
    refine (b180_eq n hn s h p i d).trans ?_
    rcases ch_cases hn hp with ⟨h1, h2⟩ | ⟨h1, h2⟩
    · rw [if_pos h1, h2, e h]
    · rw [if_neg h1]; exact I.dk p h i d h2
  · intro p h i d hp
    refine (b185_eq n hn s h p i d).trans ?_
    rcases ch_cases hn hp with ⟨h1, h2⟩ | ⟨h1, h2⟩
    · rw [if_pos h1, h2, e h]
    · rw [if_neg h1]; exact I.dv p h i d h2
  · intro p h i d hp
    refine (b190_eq n hn s h p i d).trans ?_
    rcases ch_cases hn hp with ⟨h1, h2⟩ | ⟨h1, h2⟩
    · rw [if_pos h1, h2, e h]
    · rw [if_neg h1]; exact I.dw p h i d h2
  · intro p h i d hp
    refine (b195_eq n hn s h p i d).trans ?_
    rcases ch_cases hn hp with ⟨h1, h2⟩ | ⟨h1, h2⟩
    · rw [if_pos h1, h2, e h]
    · rw [if_neg h1]; exact I.dgt p h i d h2
  · intro p h i d hp
    refine (b200_eq n hn s h p i d).trans ?_
    rcases ch_cases hn hp with ⟨h1, h2⟩ | ⟨h1, h2⟩
    · rw [if_pos h1, h2, e h]
    · rw [if_neg h1]; exact I.dg p h i d h2
  · intro p h i d hp
    refine (b205_eq n hn s h p i d).trans ?_
    rcases ch_cases hn hp with ⟨h1, h2⟩ | ⟨h1, h2⟩
    · rw [if_pos h1, h2, e h]
    · rw [if_neg h1]; exact I.da p h i d h2

/-- The sequence of states of the loop. -/
def iter (s : State Ideal) : ℕ → State Ideal
  | 0 => s
  | n + 1 => step n (iter s n)

/-- The invariant before every trip, from the state the loop begins with. -/
theorem inv_iter {X : Inp} {s : State Ideal} (I : Inv X 0 s) : ∀ n, n ≤ 32 → Inv X n (iter s n)
  | 0, _ => I
  | n + 1, hn => inv_step (by omega) (inv_iter I n (by omega))

section Init

variable (q k u w : S2048x768.Idx → EReal) (g : S6x2048x128.Idx → EReal) (a : S6x32x64x64.Idx → EReal)
  (gate : S2048x768.Idx → EReal) (og : S128.Idx → EReal) (st : S32x6x128x128.Idx → EReal) (dmix : S2048x2048.Idx → EReal)

/-- The state the loop begins with holds the inputs and no gradient. -/
theorem inv_init : Inv (inp q k u w g a gate og st dmix) 0 (init (F := Ideal) st og q k u w g a gate dmix) := by
  refine ⟨⟨?_, ?_, ?_, ?_, ?_, ?_, ?_, ?_, ?_, ?_⟩, ?_, ?_, ?_, ?_, ?_, ?_, ?_, ?_, ?_⟩
  · intro n h i d
    show (A_main_v4 (F := Ideal) q k u w g a gate dmix (ix4 n h i d) : EReal) = _
    unfold A_main_v4 A_main_v3
    pointwise
    rfl
  · intro n h i d
    show (A_main_v6 (F := Ideal) q k u w g a gate dmix (ix4 n h i d) : EReal) = _
    unfold A_main_v6 A_main_v5
    pointwise
    rfl
  · intro n h i d
    show (A_main_v8 (F := Ideal) q k u w g a gate dmix (ix4 n h i d) : EReal) = _
    unfold A_main_v8 A_main_v7
    pointwise
    rfl
  · intro n h i d
    show (A_main_v10 (F := Ideal) q k u w g a gate dmix (ix4 n h i d) : EReal) = _
    unfold A_main_v10 A_main_v9
    pointwise
    rfl
  · intro n h i d
    show (A_main_v2 (F := Ideal) q k u w g a gate dmix (ix4 n h i d) : EReal) = _
    unfold A_main_v2 A_main_v1
    pointwise
    rfl
  · intro n h i d
    show (A_main_v13 (F := Ideal) q k u w g a gate dmix (ix4 n h i d) : EReal) = _
    unfold A_main_v13 A_main_v12
    pointwise
    rfl
  · intro n h i d
    show (A_main_v15 (F := Ideal) q k u w g a gate dmix (ix4 n h i d) : EReal) = _
    unfold A_main_v15 A_main_v14 A_main_v0
    pointwise
    rfl
  · intro n h i l
    show (A_main_v11 (F := Ideal) q k u w g a gate dmix (ix4 n h i l) : EReal) = _
    unfold A_main_v11
    pointwise
    rfl
  · intro d
    rfl
  · intro n h k v
    rfl
  · intro h k v
    show (K_main_v16 (F := Ideal) (ix3 h k v) : EReal) = _
    unfold K_main_v16 K_main_cst
    pointwise
    rfl
  · intro d
    show (K_main_v17 (F := Ideal) (ix1 d) : EReal) = _
    unfold K_main_v17 K_main_cst_0
    pointwise
    rfl
  all_goals
    intro p h i d hp
    exact absurd hp (Nat.not_lt_zero _)

end Init

section Final

variable {X : Inp} {s : State Ideal} (I : Inv X 32 s)
include I

/-- The array the reference returns for `dq`. -/
theorem dq_eq : (R_main_v27 (F := Ideal) s : S2048x768.Idx → EReal) = X.row Hd.dq := by
  funext y
  obtain ⟨y0, y1, rfl⟩ : ∃ (y0 : Fin 2048) (y1 : Fin 768), y = ix2 y0 y1 := ⟨y 0, y 1, eq_ix2 y⟩
  have h0 := y0.isLt
  have h1 := y1.isLt
  refine Eq.trans ?_ (I.dq ⟨y0.val / 64, by omega⟩ ⟨y1.val / 128, by omega⟩ ⟨y0.val % 64, by omega⟩ ⟨y1.val % 128, by omega⟩ (by show 31 - y0.val / 64 < 32; omega))
  unfold R_main_v27
  pointwise
  try rfl

/-- The array the reference returns for `dk`. -/
theorem dk_eq : (R_main_v29 (F := Ideal) s : S2048x768.Idx → EReal) = X.row Hd.dk := by
  funext y
  obtain ⟨y0, y1, rfl⟩ : ∃ (y0 : Fin 2048) (y1 : Fin 768), y = ix2 y0 y1 := ⟨y 0, y 1, eq_ix2 y⟩
  have h0 := y0.isLt
  have h1 := y1.isLt
  refine Eq.trans ?_ (I.dk ⟨y0.val / 64, by omega⟩ ⟨y1.val / 128, by omega⟩ ⟨y0.val % 64, by omega⟩ ⟨y1.val % 128, by omega⟩ (by show 31 - y0.val / 64 < 32; omega))
  unfold R_main_v29
  pointwise
  try rfl

/-- The array the reference returns for `dv`. -/
theorem dv_eq : (R_main_v31 (F := Ideal) s : S2048x768.Idx → EReal) = X.row Hd.dv := by
  funext y
  obtain ⟨y0, y1, rfl⟩ : ∃ (y0 : Fin 2048) (y1 : Fin 768), y = ix2 y0 y1 := ⟨y 0, y 1, eq_ix2 y⟩
  have h0 := y0.isLt
  have h1 := y1.isLt
  refine Eq.trans ?_ (I.dv ⟨y0.val / 64, by omega⟩ ⟨y1.val / 128, by omega⟩ ⟨y0.val % 64, by omega⟩ ⟨y1.val % 128, by omega⟩ (by show 31 - y0.val / 64 < 32; omega))
  unfold R_main_v31
  pointwise
  try rfl

/-- The array the reference returns for `dw`. -/
theorem dw_eq : (R_main_v33 (F := Ideal) s : S2048x768.Idx → EReal) = X.row Hd.dw := by
  funext y
  obtain ⟨y0, y1, rfl⟩ : ∃ (y0 : Fin 2048) (y1 : Fin 768), y = ix2 y0 y1 := ⟨y 0, y 1, eq_ix2 y⟩
  have h0 := y0.isLt
  have h1 := y1.isLt
  refine Eq.trans ?_ (I.dw ⟨y0.val / 64, by omega⟩ ⟨y1.val / 128, by omega⟩ ⟨y0.val % 64, by omega⟩ ⟨y1.val % 128, by omega⟩ (by show 31 - y0.val / 64 < 32; omega))
  unfold R_main_v33
  pointwise
  try rfl

/-- The array the reference returns for `dgt`. -/
theorem dgt_eq : (R_main_v36 (F := Ideal) s : S2048x768.Idx → EReal) = X.row Hd.dgt := by
  funext y
  obtain ⟨y0, y1, rfl⟩ : ∃ (y0 : Fin 2048) (y1 : Fin 768), y = ix2 y0 y1 := ⟨y 0, y 1, eq_ix2 y⟩
  have h0 := y0.isLt
  have h1 := y1.isLt
  refine Eq.trans ?_ (I.dgt ⟨y0.val / 64, by omega⟩ ⟨y1.val / 128, by omega⟩ ⟨y0.val % 64, by omega⟩ ⟨y1.val % 128, by omega⟩ (by show 31 - y0.val / 64 < 32; omega))
  unfold R_main_v36
  pointwise
  try rfl

/-- The array the reference returns for the summed log decays' gradient. -/
theorem dg_eq : (R_main_v38 (F := Ideal) s : S6x2048x128.Idx → EReal) = X.gArr := by
  funext y
  obtain ⟨y0, y1, y2, rfl⟩ : ∃ (y0 : Fin 6) (y1 : Fin 2048) (y2 : Fin 128), y = ix3 y0 y1 y2 := ⟨y 0, y 1, y 2, eq_ix3 y⟩
  have h1 := y1.isLt
  refine Eq.trans ?_ (I.dg ⟨y1.val / 64, by omega⟩ y0 ⟨y1.val % 64, by omega⟩ y2 (by show 31 - y1.val / 64 < 32; omega))
  unfold R_main_v38
  pointwise
  try rfl

/-- The array the reference returns for the attention's gradient. -/
theorem da_eq : (R_main_v39 (F := Ideal) s : S6x32x64x64.Idx → EReal) = X.aArr := by
  funext y
  obtain ⟨y0, y1, y2, y3, rfl⟩ : ∃ (y0 : Fin 6) (y1 : Fin 32) (y2 y3 : Fin 64), y = ix4 y0 y1 y2 y3 := ⟨y 0, y 1, y 2, y 3, eq_ix4 y⟩
  refine Eq.trans ?_ (I.da y1 y0 y2 y3 (by omega))
  unfold R_main_v39
  pointwise
  try rfl

/-- The array the reference returns for the gains' gradient. -/
theorem dog_eq : (R_main_v40 (F := Ideal) s : S1x128.Idx → EReal) = X.oArr := by
  funext y
  obtain ⟨y0, y1, rfl⟩ : ∃ (y0 : Fin 1) (y1 : Fin 128), y = ix2 y0 y1 := ⟨y 0, y 1, eq_ix2 y⟩
  refine Eq.trans ?_ (I.dog y1)
  unfold R_main_v40
  pointwise
  try rfl

end Final

end Cert.Scan.R

end
-- ==== Proof.ScanRun.lean ====
module

public import proofs.«01_k».proof.Proof.Gen.ScanReferenceIdeal.Run
public import proofs.«01_k».proof.Proof.ScanReference

/-! The reference's run: what its loop leaves in the buffers is the chain of `step`s of `ScanReference`, so every result is the
    plain array of the specification. -/

@[expose] public section

set_option maxRecDepth 8192

noncomputable section

namespace Cert.Scan.R

open Idealize.ShloMosaic Idealize.ShloMosaic.TcCoe Idealize.SL.Sem Idealize.ShloMosaic.StableHlo
open Cert.ScanReferenceIdeal Cert.ScanReferenceIdeal.Gen Cert.ScanReferenceIdeal.Value Cert.ScanReferenceIdeal.Step

variable {V : Valuation τ sig (Elt Ideal)} {s : State Ideal} {n : ℕ}

/-- The buffers the loop carries, before trip `n`, contain the state `s`. -/
structure Carries (V : Valuation τ sig (Elt Ideal)) (s : State Ideal) (n : ℕ) : Prop where
  cnt : V (Proc.devRef .tc main_v25_10) = constantI S_ 32 (BitVec.ofNat 32 n)
  dS : V (Proc.devRef .tc main_v25_11) = s.main_v25_11
  dog : V (Proc.devRef .tc main_v25_12) = s.main_v25_12
  dq : V (Proc.devRef .tc main_v25_13) = s.main_v25_13
  dk : V (Proc.devRef .tc main_v25_14) = s.main_v25_14
  dv : V (Proc.devRef .tc main_v25_15) = s.main_v25_15
  dw : V (Proc.devRef .tc main_v25_16) = s.main_v25_16
  dgt : V (Proc.devRef .tc main_v25_17) = s.main_v25_17
  dg : V (Proc.devRef .tc main_v25_18) = s.main_v25_18
  da : V (Proc.devRef .tc main_v25_19) = s.main_v25_19
  st : V (Proc.devRef .tc main_v25_0) = s.main_v25_0
  q : V (Proc.devRef .tc main_v25_1) = s.main_v25_1
  k : V (Proc.devRef .tc main_v25_2) = s.main_v25_2
  u : V (Proc.devRef .tc main_v25_3) = s.main_v25_3
  w : V (Proc.devRef .tc main_v25_4) = s.main_v25_4
  g : V (Proc.devRef .tc main_v25_5) = s.main_v25_5
  a : V (Proc.devRef .tc main_v25_6) = s.main_v25_6
  gate : V (Proc.devRef .tc main_v25_7) = s.main_v25_7
  dy : V (Proc.devRef .tc main_v25_8) = s.main_v25_8
  og : V (Proc.devRef .tc main_v25_9) = s.main_v25_9

/-! The values one trip shares between its operations, one equation each. -/

theorem e_v42 (H : Carries V s n) : res_main_while0b_v42 V = b3 n s := by
  unfold res_main_while0b_v42
  rw [H.cnt]
  rfl

theorem e_v43 (H : Carries V s n) : res_main_while0b_v43 V = b8 n s := by
  unfold res_main_while0b_v43
  rw [e_v42 H, H.st]
  rfl

theorem e_v44 (H : Carries V s n) : res_main_while0b_v44 V = b13 n s := by
  unfold res_main_while0b_v44
  rw [e_v42 H, H.q]
  rfl

theorem e_v45 (H : Carries V s n) : res_main_while0b_v45 V = b18 n s := by
  unfold res_main_while0b_v45
  rw [e_v42 H, H.k]
  rfl

theorem e_v47 (H : Carries V s n) : res_main_while0b_v47 V = b28 n s := by
  unfold res_main_while0b_v47
  rw [e_v42 H, H.w]
  rfl

theorem e_v48 (H : Carries V s n) : res_main_while0b_v48 V = b33 n s := by
  unfold res_main_while0b_v48
  rw [e_v42 H, H.g]
  rfl

theorem e_v49 (H : Carries V s n) : res_main_while0b_v49 V = b38 n s := by
  unfold res_main_while0b_v49
  rw [e_v42 H, H.a]
  rfl

theorem e_v50 (H : Carries V s n) : res_main_while0b_v50 V = b43 n s := by
  unfold res_main_while0b_v50
  rw [e_v42 H, H.gate]
  rfl

theorem e_v51 (H : Carries V s n) : res_main_while0b_v51 V = b48 n s := by
  unfold res_main_while0b_v51
  rw [e_v42 H, H.dy]
  rfl

theorem e_v53 (H : Carries V s n) : res_main_while0b_v53 V = b50 n s := by
  unfold res_main_while0b_v53
  rw [e_v42 H, e_v47 H, e_v43 H, H.u]
  rfl

theorem e_v54 (H : Carries V s n) : res_main_while0b_v54 V = b51 n s := by
  unfold res_main_while0b_v54
  rw [e_v48 H]
  rfl

theorem e_v55 (H : Carries V s n) : res_main_while0b_v55 V = b52 n s := by
  unfold res_main_while0b_v55
  rw [e_v44 H, e_v54 H]
  rfl

theorem e_v58 (H : Carries V s n) : res_main_while0b_v58 V = b55 n s := by
  unfold res_main_while0b_v58
  rw [e_v55 H, e_v43 H, e_v49 H, e_v53 H]
  rfl

theorem e_v59 (H : Carries V s n) : res_main_while0b_v59 V = b56 n s := by
  unfold res_main_while0b_v59
  rw [e_v48 H]
  rfl

theorem e_v60 (H : Carries V s n) : res_main_while0b_v60 V = b57 n s := by
  unfold res_main_while0b_v60
  rw [e_v59 H]
  rfl

theorem e_v65 (H : Carries V s n) : res_main_while0b_v65 V = b62 n s := by
  unfold res_main_while0b_v65
  rw [e_v59 H, e_v48 H]
  rfl

theorem e_v66 (H : Carries V s n) : res_main_while0b_v66 V = b63 n s := by
  unfold res_main_while0b_v66
  rw [e_v45 H, e_v65 H]
  rfl

theorem e_v75 (H : Carries V s n) : res_main_while0b_v75 V = b75 n s := by
  unfold res_main_while0b_v75
  rw [e_v58 H]
  rfl

theorem e_v76 (H : Carries V s n) : res_main_while0b_v76 V = b76 n s := by
  unfold res_main_while0b_v76
  rw [e_v75 H]
  rfl

theorem e_v81 (H : Carries V s n) : res_main_while0b_v81 V = b82 n s := by
  unfold res_main_while0b_v81
  rw [e_v58 H, e_v76 H]
  rfl

theorem e_v82 (H : Carries V s n) : res_main_while0b_v82 V = b83 n s := by
  unfold res_main_while0b_v82
  rw [H.og]
  rfl

theorem e_v84 (H : Carries V s n) : res_main_while0b_v84 V = b85 n s := by
  unfold res_main_while0b_v84
  rw [e_v81 H, e_v82 H]
  rfl

theorem e_v85_2 (H : Carries V s n) : res_main_while0b_v85_2 V = b93 n s := by
  unfold res_main_while0b_v85_2
  rw [e_v50 H]
  rfl

theorem e_v85_0 (H : Carries V s n) : res_main_while0b_v85_0 V = b98 n s := by
  unfold res_main_while0b_v85_0
  rw [e_v50 H, e_v85_2 H]
  rfl

theorem e_v87 (H : Carries V s n) : res_main_while0b_v87 V = b100 n s := by
  unfold res_main_while0b_v87
  rw [e_v84 H, e_v51 H]
  rfl

theorem e_v88 (H : Carries V s n) : res_main_while0b_v88 V = b101 n s := by
  unfold res_main_while0b_v88
  rw [e_v51 H, e_v85_0 H]
  rfl

theorem e_v94 (H : Carries V s n) : res_main_while0b_v94 V = b111 n s := by
  unfold res_main_while0b_v94
  rw [e_v88 H, e_v82 H]
  rfl

theorem e_v105 (H : Carries V s n) : res_main_while0b_v105 V = b126 n s := by
  unfold res_main_while0b_v105
  rw [e_v58 H, e_v94 H, e_v76 H, e_v75 H]
  rfl

theorem e_v109 (H : Carries V s n) : res_main_while0b_v109 V = b130 n s := by
  unfold res_main_while0b_v109
  rw [e_v94 H, e_v76 H, e_v58 H, e_v105 H]
  rfl

theorem e_v113 (H : Carries V s n) : res_main_while0b_v113 V = b134 n s := by
  unfold res_main_while0b_v113
  rw [e_v53 H, H.dS]
  rfl

theorem e_v116 (H : Carries V s n) : res_main_while0b_v116 V = b137 n s := by
  unfold res_main_while0b_v116
  rw [e_v45 H, e_v113 H, e_v65 H]
  rfl

theorem e_v131 (H : Carries V s n) : res_main_while0b_v131 V = b155 n s := by
  unfold res_main_while0b_v131
  rw [e_v66 H, e_v109 H, e_v49 H, H.dS]
  rfl

theorem e_v136 (H : Carries V s n) : res_main_while0b_v136 V = b160 n s := by
  unfold res_main_while0b_v136
  rw [e_v109 H, e_v43 H]
  rfl

theorem e_v141 (H : Carries V s n) : res_main_while0b_v141 V = b165 n s := by
  unfold res_main_while0b_v141
  rw [e_v131 H]
  rfl

/-! One trip, carried buffer by carried buffer. -/

/-- A trip counts one further. -/
theorem trip_cnt (H : Carries V s n) : step_main_v25_10 V = constantI S_ 32 (BitVec.ofNat 32 (n + 1)) := by
  unfold step_main_v25_10
  rw [H.cnt]
  refine funext fun i => ?_
  change BitVec.ofNat 32 n + 1#32 = BitVec.ofNat 32 (n + 1)
  rw [BitVec.ofNat_add]

theorem trip_dS (H : Carries V s n) : Value.step_main_v25_11 V = (step n s).main_v25_11 := by
  rw [Step.step_main_v25_11]
  unfold Value.step_main_v25_11
  rw [e_v60 H, e_v109 H, e_v55 H, e_v141 H, e_v47 H, H.dS]
  rfl

theorem trip_dog (H : Carries V s n) : Value.step_main_v25_12 V = (step n s).main_v25_12 := by
  rw [Step.step_main_v25_12]
  unfold Value.step_main_v25_12
  rw [e_v81 H, e_v88 H, H.dog]
  rfl

theorem trip_dq (H : Carries V s n) : Value.step_main_v25_13 V = (step n s).main_v25_13 := by
  rw [Step.step_main_v25_13]
  unfold Value.step_main_v25_13
  rw [e_v136 H, e_v54 H, e_v42 H, H.dq]
  rfl

theorem trip_dk (H : Carries V s n) : Value.step_main_v25_14 V = (step n s).main_v25_14 := by
  rw [Step.step_main_v25_14]
  unfold Value.step_main_v25_14
  rw [e_v113 H, e_v65 H, e_v42 H, H.dk]
  rfl

theorem trip_dv (H : Carries V s n) : Value.step_main_v25_15 V = (step n s).main_v25_15 := by
  rw [Step.step_main_v25_15]
  unfold Value.step_main_v25_15
  rw [e_v131 H, e_v42 H, H.dv]
  rfl

theorem trip_dw (H : Carries V s n) : Value.step_main_v25_16 V = (step n s).main_v25_16 := by
  rw [Step.step_main_v25_16]
  unfold Value.step_main_v25_16
  rw [e_v141 H, e_v43 H, e_v42 H, H.dw]
  rfl

theorem trip_dgt (H : Carries V s n) : Value.step_main_v25_17 V = (step n s).main_v25_17 := by
  rw [Step.step_main_v25_17]
  unfold Value.step_main_v25_17
  rw [e_v87 H, e_v85_2 H, e_v50 H, e_v42 H, H.dgt]
  rfl

theorem trip_dg (H : Carries V s n) : Value.step_main_v25_18 V = (step n s).main_v25_18 := by
  rw [Step.step_main_v25_18]
  unfold Value.step_main_v25_18
  rw [e_v116 H, e_v43 H, e_v60 H, e_v44 H, e_v136 H, e_v54 H, e_v42 H, H.dg, H.dS]
  rfl

theorem trip_da (H : Carries V s n) : Value.step_main_v25_19 V = (step n s).main_v25_19 := by
  rw [Step.step_main_v25_19]
  unfold Value.step_main_v25_19
  rw [e_v109 H, e_v53 H, e_v42 H, H.da]
  rfl

/-- A trip of the loop is one `step`. -/
theorem carries_trip (H : Carries V s n) : Carries (STEP V) (step n s) (n + 1) :=
  { cnt := (STEP_main_v25_10 V).trans (trip_cnt H)
    dS := (STEP_main_v25_11 V).trans (trip_dS H)
    dog := (STEP_main_v25_12 V).trans (trip_dog H)
    dq := (STEP_main_v25_13 V).trans (trip_dq H)
    dk := (STEP_main_v25_14 V).trans (trip_dk H)
    dv := (STEP_main_v25_15 V).trans (trip_dv H)
    dw := (STEP_main_v25_16 V).trans (trip_dw H)
    dgt := (STEP_main_v25_17 V).trans (trip_dgt H)
    dg := (STEP_main_v25_18 V).trans (trip_dg H)
    da := (STEP_main_v25_19 V).trans (trip_da H)
    st := (STEP_main_v25_0 V).trans H.st
    q := (STEP_main_v25_1 V).trans H.q
    k := (STEP_main_v25_2 V).trans H.k
    u := (STEP_main_v25_3 V).trans H.u
    w := (STEP_main_v25_4 V).trans H.w
    g := (STEP_main_v25_5 V).trans H.g
    a := (STEP_main_v25_6 V).trans H.a
    gate := (STEP_main_v25_7 V).trans H.gate
    dy := (STEP_main_v25_8 V).trans H.dy
    og := (STEP_main_v25_9 V).trans H.og }

variable (m : (ℓ : Loc nD τ sig) → Buf (Elt Ideal) ℓ) (c : Dev nD)

/-- The state the first trip sees: the arguments cut into chunks, and zeros. -/
abbrev first : State Ideal :=
  init (F := Ideal) (m ((c.tc : Thread nD τ).loc main_arg8)) (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9))

set_option maxRecDepth 65536 in
set_option maxHeartbeats 800000 in
/-- The operations before the loop leave that state in the carried buffers. -/
theorem carries_entry : Carries (entryContents preI m c) (first m c) 0 := by
  constructor
  all_goals simp only [entryContents, afterL_cons, afterL_nil]
  all_goals after_reads_simp
  all_goals rfl

/-- After `k` trips they contain the `k`-th state. -/
theorem carries_iter (k : ℕ) : Carries (STEP^[k] (entryContents preI m c)) (iter (first m c) k) k := by
  induction k with
  | zero => exact carries_entry m c
  | succ k ih =>
    rw [Function.iterate_succ_apply']
    exact carries_trip ih

/-- The specification's inputs, of the arguments in memory. -/
abbrev input : Inp :=
  inp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

theorem out_dq (H : Carries V s n) : out_main_v27 V = R_main_v27 s := by
  unfold out_main_v27 R_main_v27
  rw [H.dq]
  try rfl

theorem out_dk (H : Carries V s n) : out_main_v29 V = R_main_v29 s := by
  unfold out_main_v29 R_main_v29
  rw [H.dk]
  try rfl

theorem out_dv (H : Carries V s n) : out_main_v31 V = R_main_v31 s := by
  unfold out_main_v31 R_main_v31
  rw [H.dv]
  try rfl

theorem out_dw (H : Carries V s n) : out_main_v33 V = R_main_v33 s := by
  unfold out_main_v33 R_main_v33
  rw [H.dw]
  try rfl

theorem out_dgt (H : Carries V s n) : out_main_v36 V = R_main_v36 s := by
  unfold out_main_v36 R_main_v36
  rw [H.dgt]
  try rfl

theorem out_dg (H : Carries V s n) : out_main_v38 V = R_main_v38 s := by
  unfold out_main_v38 R_main_v38
  rw [H.dg]
  try rfl

theorem out_da (H : Carries V s n) : out_main_v39 V = R_main_v39 s := by
  unfold out_main_v39 R_main_v39
  rw [H.da]
  try rfl

theorem out_dog (H : Carries V s n) : out_main_v40 V = R_main_v40 s := by
  unfold out_main_v40 R_main_v40
  rw [H.dog]
  try rfl

/-- Every run of the reference ends with the eight gradients of the specification, and its arguments as they were. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = (input m c).row Hd.dq
      ∧ r.2.mem ((c.tc : Thread nD τ).loc main_v29) = (input m c).row Hd.dk
      ∧ r.2.mem ((c.tc : Thread nD τ).loc main_v31) = (input m c).row Hd.dv
      ∧ r.2.mem ((c.tc : Thread nD τ).loc main_v33) = (input m c).row Hd.dw
      ∧ r.2.mem ((c.tc : Thread nD τ).loc main_v36) = (input m c).row Hd.dgt
      ∧ r.2.mem ((c.tc : Thread nD τ).loc main_v38) = (input m c).gArr
      ∧ r.2.mem ((c.tc : Thread nD τ).loc main_v39) = (input m c).aArr
      ∧ r.2.mem ((c.tc : Thread nD τ).loc main_v40) = (input m c).oArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Value.run m ρ)
  have C := carries_iter m c 32
  have I : Inv (input m c) 32 (iter (first m c) 32) := inv_iter (inv_init _ _ _ _ _ _ _ _ _ _) 32 le_rfl
  obtain ⟨h0, h1, h2, h3, h4, h5, h6, h7, hr⟩ := h c
  exact ⟨h0.trans ((out_dq C).trans (dq_eq I)), h1.trans ((out_dk C).trans (dk_eq I)), h2.trans ((out_dv C).trans (dv_eq I)), h3.trans ((out_dw C).trans (dw_eq I)), h4.trans ((out_dgt C).trans (dgt_eq I)), h5.trans ((out_dg C).trans (dg_eq I)), h6.trans ((out_da C).trans (da_eq I)), h7.trans ((out_dog C).trans (dog_eq I)), hr⟩

end Cert.Scan.R
-- ==== Proof.ScanValue.lean ====
module

public import proofs.«01_k».proof.Defs
public import proofs.«01_k».proof.Proof.Gen.ScanKernelIdeal.Value
public import Idealize.ShloMosaic.Lib.Pointwise
public import Idealize.ShloMosaic.Lib.Pipeline.Value
public import Idealize.ShloMosaic.Lib.Tactic
public import proofs.«01_k».proof.Proof.ScanFirst
public import proofs.«01_k».proof.Proof.ScanNext
public import proofs.«01_k».proof.Proof.ScanRun

/-! The gradient of the gated delta rule: the kernel's points run the chunks from the last to the first, the state's gradient in
    the scratch between them, and leave the specification's arrays; so does the reference's loop. -/

@[expose] public section

set_option maxRecDepth 16384
set_option maxHeartbeats 1000000

noncomputable section

open scoped BigOperators

namespace Cert.Scan.V

open Idealize.ShloMosaic Idealize.ShloMosaic.TcCoe Idealize.SL.Sem
open Idealize.ShloMosaic.Pipeline (Dat)
open Cert.ScanKernelIdeal Cert.ScanKernelIdeal.Gen Cert.Scan.K

variable (m : (ℓ : Loc nD τ sig) → Buf (Elt Ideal) ℓ) (ρ : Dev nD → PrngReg) (c : Dev nD)

/-- The arguments. -/ abbrev X0 : S2048x768.Idx → EReal := m ((c : Thread nD τ).loc main_arg0)
@[inherit_doc X0] abbrev X1 : S2048x768.Idx → EReal := m ((c : Thread nD τ).loc main_arg1)
@[inherit_doc X0] abbrev X2 : S2048x768.Idx → EReal := m ((c : Thread nD τ).loc main_arg2)
@[inherit_doc X0] abbrev X3 : S2048x768.Idx → EReal := m ((c : Thread nD τ).loc main_arg3)
@[inherit_doc X0] abbrev X4 : S6x2048x128.Idx → EReal := m ((c : Thread nD τ).loc main_arg4)
@[inherit_doc X0] abbrev X5 : S6x32x64x64.Idx → EReal := m ((c : Thread nD τ).loc main_arg5)
@[inherit_doc X0] abbrev X6 : S2048x768.Idx → EReal := m ((c : Thread nD τ).loc main_arg6)
@[inherit_doc X0] abbrev X7 : S128.Idx → EReal := m ((c : Thread nD τ).loc main_arg7)
@[inherit_doc X0] abbrev X8 : S32x6x128x128.Idx → EReal := m ((c : Thread nD τ).loc main_arg8)
@[inherit_doc X0] abbrev X9 : S2048x2048.Idx → EReal := m ((c : Thread nD τ).loc main_arg9)

/-- The specification's inputs, of the kernel's arguments. -/
def X : Inp := inp (X0 m c) (X1 m c) (X2 m c) (X3 m c) (X4 m c) (X5 m c) (X6 m c) (X7 m c) (X8 m c) (X9 m c)

/-- The grid has 32 points. -/
theorem tN (t : Fin cfg0.N) : t.val < 32 := N_0 ▸ t.isLt

/-- The gains as the host hands them to the kernel: a unit axis before them. -/
theorem V_v0 (d : Fin 128) : (V m c main_v0 : S1x128.Idx → EReal) (ix2 0 d) = X7 m c (ix1 d) := by
  show (broadcastInDim S1x128 ![1] bcast_S128_S1x128_1 (X7 m c) : S1x128.Idx → EReal) (ix2 0 d) = _
  pointwise

/-- The block window 0 names at a point. -/
theorem idx0 : ∀ t : Fin grid0.N, win0_0.index t 0 = 31 - t.val ∧ win0_0.index t 1 = 0 := by decide +kernel

/-- Where an element of window 0's block lies in its array. -/
theorem emb0 (t : Fin cfg0.N) (y0 : Fin 64) (y1 : Fin 768) : ((win0_0.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_0 t _ _).trans (congrArg (· * 64 + y0.val) (idx0 t).1)
  | ⟨1, _⟩ => exact Pipeline.Window.rect_emb_val_of_index_zero win0_0 t _ (idx0 t).2 _

/-- Window 0's block at a point, read from the argument. -/
theorem blk0 (t : Fin cfg0.N) (y0 : Fin 64) (y1 : Fin 768) : (iblk m c 0 t : S64x768.Idx → EReal) (ix2 y0 y1) = X0 m c (ix2 ⟨(31 - t.val) * 64 + y0.val, by have := tN t; have := y0.isLt; omega⟩ y1) := by
  show (V m c main_arg0 : S2048x768.Idx → EReal) ((win0_0.rect t).emb (ix2 y0 y1)) = _
  rw [V_main_arg0, emb0]

/-- The block window 1 names at a point. -/
theorem idx1 : ∀ t : Fin grid0.N, win0_1.index t 0 = 31 - t.val ∧ win0_1.index t 1 = 0 := by decide +kernel

/-- Where an element of window 1's block lies in its array. -/
theorem emb1 (t : Fin cfg0.N) (y0 : Fin 64) (y1 : Fin 768) : ((win0_1.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_1 t _ _).trans (congrArg (· * 64 + y0.val) (idx1 t).1)
  | ⟨1, _⟩ => exact Pipeline.Window.rect_emb_val_of_index_zero win0_1 t _ (idx1 t).2 _

/-- Window 1's block at a point, read from the argument. -/
theorem blk1 (t : Fin cfg0.N) (y0 : Fin 64) (y1 : Fin 768) : (iblk m c 1 t : S64x768.Idx → EReal) (ix2 y0 y1) = X1 m c (ix2 ⟨(31 - t.val) * 64 + y0.val, by have := tN t; have := y0.isLt; omega⟩ y1) := by
  show (V m c main_arg1 : S2048x768.Idx → EReal) ((win0_1.rect t).emb (ix2 y0 y1)) = _
  rw [V_main_arg1, emb1]

/-- The block window 2 names at a point. -/
theorem idx2 : ∀ t : Fin grid0.N, win0_2.index t 0 = 31 - t.val ∧ win0_2.index t 1 = 0 := by decide +kernel

/-- Where an element of window 2's block lies in its array. -/
theorem emb2 (t : Fin cfg0.N) (y0 : Fin 64) (y1 : Fin 768) : ((win0_2.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_2 t _ _).trans (congrArg (· * 64 + y0.val) (idx2 t).1)
  | ⟨1, _⟩ => exact Pipeline.Window.rect_emb_val_of_index_zero win0_2 t _ (idx2 t).2 _

/-- Window 2's block at a point, read from the argument. -/
theorem blk2 (t : Fin cfg0.N) (y0 : Fin 64) (y1 : Fin 768) : (iblk m c 2 t : S64x768.Idx → EReal) (ix2 y0 y1) = X2 m c (ix2 ⟨(31 - t.val) * 64 + y0.val, by have := tN t; have := y0.isLt; omega⟩ y1) := by
  show (V m c main_arg2 : S2048x768.Idx → EReal) ((win0_2.rect t).emb (ix2 y0 y1)) = _
  rw [V_main_arg2, emb2]

/-- The block window 3 names at a point. -/
theorem idx3 : ∀ t : Fin grid0.N, win0_3.index t 0 = 31 - t.val ∧ win0_3.index t 1 = 0 := by decide +kernel

/-- Where an element of window 3's block lies in its array. -/
theorem emb3 (t : Fin cfg0.N) (y0 : Fin 64) (y1 : Fin 768) : ((win0_3.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_3 t _ _).trans (congrArg (· * 64 + y0.val) (idx3 t).1)
  | ⟨1, _⟩ => exact Pipeline.Window.rect_emb_val_of_index_zero win0_3 t _ (idx3 t).2 _

/-- Window 3's block at a point, read from the argument. -/
theorem blk3 (t : Fin cfg0.N) (y0 : Fin 64) (y1 : Fin 768) : (iblk m c 3 t : S64x768.Idx → EReal) (ix2 y0 y1) = X3 m c (ix2 ⟨(31 - t.val) * 64 + y0.val, by have := tN t; have := y0.isLt; omega⟩ y1) := by
  show (V m c main_arg3 : S2048x768.Idx → EReal) ((win0_3.rect t).emb (ix2 y0 y1)) = _
  rw [V_main_arg3, emb3]

/-- The block window 4 names at a point. -/
theorem idx4 : ∀ t : Fin grid0.N, win0_4.index t 0 = 0 ∧ win0_4.index t 1 = 31 - t.val ∧ win0_4.index t 2 = 0 := by decide +kernel

/-- Where an element of window 4's block lies in its array. -/
theorem emb4 (t : Fin cfg0.N) (y0 : Fin 6) (y1 : Fin 64) (y2 : Fin 128) : ((win0_4.rect t).emb (ix3 y0 y1 y2) : S6x2048x128.Idx) = ix3 y0 ⟨(31 - t.val) * 64 + y1.val, by have := tN t; have := y1.isLt; omega⟩ y2 := by
  funext a; apply Fin.ext
  match a with
  | ⟨0, _⟩ => exact Pipeline.Window.rect_emb_val_of_index_zero win0_4 t _ (idx4 t).1 _
  | ⟨1, _⟩ => exact (Pipeline.Window.rect_emb_val win0_4 t _ _).trans (congrArg (· * 64 + y1.val) (idx4 t).2.1)
  | ⟨2, _⟩ => exact Pipeline.Window.rect_emb_val_of_index_zero win0_4 t _ (idx4 t).2.2 _

/-- Window 4's block at a point, read from the argument. -/
theorem blk4 (t : Fin cfg0.N) (y0 : Fin 6) (y1 : Fin 64) (y2 : Fin 128) : (iblk m c 4 t : S6x64x128.Idx → EReal) (ix3 y0 y1 y2) = X4 m c (ix3 y0 ⟨(31 - t.val) * 64 + y1.val, by have := tN t; have := y1.isLt; omega⟩ y2) := by
  show (V m c main_arg4 : S6x2048x128.Idx → EReal) ((win0_4.rect t).emb (ix3 y0 y1 y2)) = _
  rw [V_main_arg4, emb4]

/-- The block window 5 names at a point. -/
theorem idx5 : ∀ t : Fin grid0.N, win0_5.index t 0 = 0 ∧ win0_5.index t 1 = 31 - t.val ∧ win0_5.index t 2 = 0 ∧ win0_5.index t 3 = 0 := by decide +kernel

/-- Where an element of window 5's block lies in its array. -/
theorem emb5 (t : Fin cfg0.N) (y0 : Fin 6) (y1 : Fin 1) (y2 : Fin 64) (y3 : Fin 64) : ((win0_5.rect t).emb (ix4 y0 y1 y2 y3) : S6x32x64x64.Idx) = ix4 y0 ⟨31 - t.val + y1.val, by have := tN t; have := y1.isLt; omega⟩ y2 y3 := by
  funext a; apply Fin.ext
  match a with
  | ⟨0, _⟩ => exact Pipeline.Window.rect_emb_val_of_index_zero win0_5 t _ (idx5 t).1 _
  | ⟨1, _⟩ =>
    refine (Pipeline.Window.rect_emb_val win0_5 t _ _).trans ?_
    show win0_5.index t 1 * 1 + y1.val = 31 - t.val + y1.val
    rw [(idx5 t).2.1]; omega
  | ⟨2, _⟩ => exact Pipeline.Window.rect_emb_val_of_index_zero win0_5 t _ (idx5 t).2.2.1 _
  | ⟨3, _⟩ => exact Pipeline.Window.rect_emb_val_of_index_zero win0_5 t _ (idx5 t).2.2.2 _

/-- Window 5's block at a point, read from the argument. -/
theorem blk5 (t : Fin cfg0.N) (y0 : Fin 6) (y1 : Fin 1) (y2 : Fin 64) (y3 : Fin 64) : (iblk m c 5 t : S6x1x64x64.Idx → EReal) (ix4 y0 y1 y2 y3) = X5 m c (ix4 y0 ⟨31 - t.val + y1.val, by have := tN t; have := y1.isLt; omega⟩ y2 y3) := by
  show (V m c main_arg5 : S6x32x64x64.Idx → EReal) ((win0_5.rect t).emb (ix4 y0 y1 y2 y3)) = _
  rw [V_main_arg5, emb5]

/-- The block window 6 names at a point. -/
theorem idx6 : ∀ t : Fin grid0.N, win0_6.index t 0 = 31 - t.val ∧ win0_6.index t 1 = 0 := by decide +kernel

/-- Where an element of window 6's block lies in its array. -/
theorem emb6 (t : Fin cfg0.N) (y0 : Fin 64) (y1 : Fin 768) : ((win0_6.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_6 t _ _).trans (congrArg (· * 64 + y0.val) (idx6 t).1)
  | ⟨1, _⟩ => exact Pipeline.Window.rect_emb_val_of_index_zero win0_6 t _ (idx6 t).2 _

/-- Window 6's block at a point, read from the argument. -/
theorem blk6 (t : Fin cfg0.N) (y0 : Fin 64) (y1 : Fin 768) : (iblk m c 6 t : S64x768.Idx → EReal) (ix2 y0 y1) = X6 m c (ix2 ⟨(31 - t.val) * 64 + y0.val, by have := tN t; have := y0.isLt; omega⟩ y1) := by
  show (V m c main_arg6 : S2048x768.Idx → EReal) ((win0_6.rect t).emb (ix2 y0 y1)) = _
  rw [V_main_arg6, emb6]

/-- The block window 7 names at a point. -/
theorem idx7 : ∀ t : Fin grid0.N, win0_7.index t 0 = 0 ∧ win0_7.index t 1 = 0 := by decide +kernel

/-- Where an element of window 7's block lies in its array. -/
theorem emb7 (t : Fin cfg0.N) (y0 : Fin 1) (y1 : Fin 128) : ((win0_7.rect t).emb (ix2 y0 y1) : S1x128.Idx) = ix2 y0 y1 := by
  funext a; apply Fin.ext
  match a with
  | ⟨0, _⟩ => exact Pipeline.Window.rect_emb_val_of_index_zero win0_7 t _ (idx7 t).1 _
  | ⟨1, _⟩ => exact Pipeline.Window.rect_emb_val_of_index_zero win0_7 t _ (idx7 t).2 _

/-- Window 7's block at a point, read from the argument. -/
theorem blk7 (t : Fin cfg0.N) (y1 : Fin 128) : (iblk m c 7 t : S1x128.Idx → EReal) (ix2 0 y1) = X7 m c (ix1 y1) := by
  show (V m c main_v0 : S1x128.Idx → EReal) ((win0_7.rect t).emb (ix2 0 y1)) = _
  rw [emb7, V_v0]

/-- The block window 8 names at a point. -/
theorem idx8 : ∀ t : Fin grid0.N, win0_8.index t 0 = 31 - t.val ∧ win0_8.index t 1 = 0 ∧ win0_8.index t 2 = 0 ∧ win0_8.index t 3 = 0 := by decide +kernel

/-- Where an element of window 8's block lies in its array. -/
theorem emb8 (t : Fin cfg0.N) (y0 : Fin 1) (y1 : Fin 6) (y2 : Fin 128) (y3 : Fin 128) : ((win0_8.rect t).emb (ix4 y0 y1 y2 y3) : S32x6x128x128.Idx) = ix4 ⟨31 - t.val + y0.val, by have := tN t; have := y0.isLt; omega⟩ y1 y2 y3 := by
  funext a; apply Fin.ext
  match a with
  | ⟨0, _⟩ =>
    refine (Pipeline.Window.rect_emb_val win0_8 t _ _).trans ?_
    show win0_8.index t 0 * 1 + y0.val = 31 - t.val + y0.val
    rw [(idx8 t).1]; omega
  | ⟨1, _⟩ => exact Pipeline.Window.rect_emb_val_of_index_zero win0_8 t _ (idx8 t).2.1 _
  | ⟨2, _⟩ => exact Pipeline.Window.rect_emb_val_of_index_zero win0_8 t _ (idx8 t).2.2.1 _
  | ⟨3, _⟩ => exact Pipeline.Window.rect_emb_val_of_index_zero win0_8 t _ (idx8 t).2.2.2 _

/-- Window 8's block at a point, read from the argument. -/
theorem blk8 (t : Fin cfg0.N) (y0 : Fin 1) (y1 : Fin 6) (y2 : Fin 128) (y3 : Fin 128) : (iblk m c 8 t : S1x6x128x128.Idx → EReal) (ix4 y0 y1 y2 y3) = X8 m c (ix4 ⟨31 - t.val + y0.val, by have := tN t; have := y0.isLt; omega⟩ y1 y2 y3) := by
  show (V m c main_arg8 : S32x6x128x128.Idx → EReal) ((win0_8.rect t).emb (ix4 y0 y1 y2 y3)) = _
  rw [V_main_arg8, emb8]

/-- The block window 9 names at a point. -/
theorem idx9 : ∀ t : Fin grid0.N, win0_9.index t 0 = 31 - t.val ∧ win0_9.index t 1 = 4 := by decide +kernel

/-- Where an element of window 9's block lies in its array. -/
theorem emb9 (t : Fin cfg0.N) (y0 : Fin 64) (y1 : Fin 128) : ((win0_9.rect t).emb (ix2 y0 y1) : S2048x2048.Idx) = ix2 ⟨(31 - t.val) * 64 + y0.val, by have := tN t; have := y0.isLt; omega⟩ ⟨4 * 128 + y1.val, by have := tN t; have := y1.isLt; omega⟩ := by
  funext a; apply Fin.ext
  match a with
  | ⟨0, _⟩ => exact (Pipeline.Window.rect_emb_val win0_9 t _ _).trans (congrArg (· * 64 + y0.val) (idx9 t).1)
  | ⟨1, _⟩ => exact (Pipeline.Window.rect_emb_val win0_9 t _ _).trans (congrArg (· * 128 + y1.val) (idx9 t).2)

/-- Window 9's block at a point, read from the argument. -/
theorem blk9 (t : Fin cfg0.N) (y0 : Fin 64) (y1 : Fin 128) : (iblk m c 9 t : S64x128.Idx → EReal) (ix2 y0 y1) = X9 m c (ix2 ⟨(31 - t.val) * 64 + y0.val, by have := tN t; have := y0.isLt; omega⟩ ⟨4 * 128 + y1.val, by have := tN t; have := y1.isLt; omega⟩) := by
  show (V m c main_arg9 : S2048x2048.Idx → EReal) ((win0_9.rect t).emb (ix2 y0 y1)) = _
  rw [V_main_arg9, emb9]

/-- The block window 10 names at a point. -/
theorem idx10 : ∀ t : Fin grid0.N, win0_10.index t 0 = 31 - t.val ∧ win0_10.index t 1 = 5 := by decide +kernel

/-- Where an element of window 10's block lies in its array. -/
theorem emb10 (t : Fin cfg0.N) (y0 : Fin 64) (y1 : Fin 128) : ((win0_10.rect t).emb (ix2 y0 y1) : S2048x2048.Idx) = ix2 ⟨(31 - t.val) * 64 + y0.val, by have := tN t; have := y0.isLt; omega⟩ ⟨5 * 128 + y1.val, by have := tN t; have := y1.isLt; omega⟩ := by
  funext a; apply Fin.ext
  match a with
  | ⟨0, _⟩ => exact (Pipeline.Window.rect_emb_val win0_10 t _ _).trans (congrArg (· * 64 + y0.val) (idx10 t).1)
  | ⟨1, _⟩ => exact (Pipeline.Window.rect_emb_val win0_10 t _ _).trans (congrArg (· * 128 + y1.val) (idx10 t).2)

/-- Window 10's block at a point, read from the argument. -/
theorem blk10 (t : Fin cfg0.N) (y0 : Fin 64) (y1 : Fin 128) : (iblk m c 10 t : S64x128.Idx → EReal) (ix2 y0 y1) = X9 m c (ix2 ⟨(31 - t.val) * 64 + y0.val, by have := tN t; have := y0.isLt; omega⟩ ⟨5 * 128 + y1.val, by have := tN t; have := y1.isLt; omega⟩) := by
  show (V m c main_arg9 : S2048x2048.Idx → EReal) ((win0_10.rect t).emb (ix2 y0 y1)) = _
  rw [V_main_arg9, emb10]

/-- The block window 11 names at a point. -/
theorem idx11 : ∀ t : Fin grid0.N, win0_11.index t 0 = 31 - t.val ∧ win0_11.index t 1 = 6 := by decide +kernel

/-- Where an element of window 11's block lies in its array. -/
theorem emb11 (t : Fin cfg0.N) (y0 : Fin 64) (y1 : Fin 128) : ((win0_11.rect t).emb (ix2 y0 y1) : S2048x2048.Idx) = ix2 ⟨(31 - t.val) * 64 + y0.val, by have := tN t; have := y0.isLt; omega⟩ ⟨6 * 128 + y1.val, by have := tN t; have := y1.isLt; omega⟩ := by
  funext a; apply Fin.ext
  match a with
  | ⟨0, _⟩ => exact (Pipeline.Window.rect_emb_val win0_11 t _ _).trans (congrArg (· * 64 + y0.val) (idx11 t).1)
  | ⟨1, _⟩ => exact (Pipeline.Window.rect_emb_val win0_11 t _ _).trans (congrArg (· * 128 + y1.val) (idx11 t).2)

/-- Window 11's block at a point, read from the argument. -/
theorem blk11 (t : Fin cfg0.N) (y0 : Fin 64) (y1 : Fin 128) : (iblk m c 11 t : S64x128.Idx → EReal) (ix2 y0 y1) = X9 m c (ix2 ⟨(31 - t.val) * 64 + y0.val, by have := tN t; have := y0.isLt; omega⟩ ⟨6 * 128 + y1.val, by have := tN t; have := y1.isLt; omega⟩) := by
  show (V m c main_arg9 : S2048x2048.Idx → EReal) ((win0_11.rect t).emb (ix2 y0 y1)) = _
  rw [V_main_arg9, emb11]

/-- The block window 12 names at a point. -/
theorem idx12 : ∀ t : Fin grid0.N, win0_12.index t 0 = 31 - t.val ∧ win0_12.index t 1 = 7 := by decide +kernel

/-- Where an element of window 12's block lies in its array. -/
theorem emb12 (t : Fin cfg0.N) (y0 : Fin 64) (y1 : Fin 128) : ((win0_12.rect t).emb (ix2 y0 y1) : S2048x2048.Idx) = ix2 ⟨(31 - t.val) * 64 + y0.val, by have := tN t; have := y0.isLt; omega⟩ ⟨7 * 128 + y1.val, by have := tN t; have := y1.isLt; omega⟩ := by
  funext a; apply Fin.ext
  match a with
  | ⟨0, _⟩ => exact (Pipeline.Window.rect_emb_val win0_12 t _ _).trans (congrArg (· * 64 + y0.val) (idx12 t).1)
  | ⟨1, _⟩ => exact (Pipeline.Window.rect_emb_val win0_12 t _ _).trans (congrArg (· * 128 + y1.val) (idx12 t).2)

/-- Window 12's block at a point, read from the argument. -/
theorem blk12 (t : Fin cfg0.N) (y0 : Fin 64) (y1 : Fin 128) : (iblk m c 12 t : S64x128.Idx → EReal) (ix2 y0 y1) = X9 m c (ix2 ⟨(31 - t.val) * 64 + y0.val, by have := tN t; have := y0.isLt; omega⟩ ⟨7 * 128 + y1.val, by have := tN t; have := y1.isLt; omega⟩) := by
  show (V m c main_arg9 : S2048x2048.Idx → EReal) ((win0_12.rect t).emb (ix2 y0 y1)) = _
  rw [V_main_arg9, emb12]

/-- The block window 13 names at a point. -/
theorem idx13 : ∀ t : Fin grid0.N, win0_13.index t 0 = 31 - t.val ∧ win0_13.index t 1 = 8 := by decide +kernel

/-- Where an element of window 13's block lies in its array. -/
theorem emb13 (t : Fin cfg0.N) (y0 : Fin 64) (y1 : Fin 128) : ((win0_13.rect t).emb (ix2 y0 y1) : S2048x2048.Idx) = ix2 ⟨(31 - t.val) * 64 + y0.val, by have := tN t; have := y0.isLt; omega⟩ ⟨8 * 128 + y1.val, by have := tN t; have := y1.isLt; omega⟩ := by
  funext a; apply Fin.ext
  match a with
  | ⟨0, _⟩ => exact (Pipeline.Window.rect_emb_val win0_13 t _ _).trans (congrArg (· * 64 + y0.val) (idx13 t).1)
  | ⟨1, _⟩ => exact (Pipeline.Window.rect_emb_val win0_13 t _ _).trans (congrArg (· * 128 + y1.val) (idx13 t).2)

/-- Window 13's block at a point, read from the argument. -/
theorem blk13 (t : Fin cfg0.N) (y0 : Fin 64) (y1 : Fin 128) : (iblk m c 13 t : S64x128.Idx → EReal) (ix2 y0 y1) = X9 m c (ix2 ⟨(31 - t.val) * 64 + y0.val, by have := tN t; have := y0.isLt; omega⟩ ⟨8 * 128 + y1.val, by have := tN t; have := y1.isLt; omega⟩) := by
  show (V m c main_arg9 : S2048x2048.Idx → EReal) ((win0_13.rect t).emb (ix2 y0 y1)) = _
  rw [V_main_arg9, emb13]

/-- The block window 14 names at a point. -/
theorem idx14 : ∀ t : Fin grid0.N, win0_14.index t 0 = 31 - t.val ∧ win0_14.index t 1 = 9 := by decide +kernel

/-- Where an element of window 14's block lies in its array. -/
theorem emb14 (t : Fin cfg0.N) (y0 : Fin 64) (y1 : Fin 128) : ((win0_14.rect t).emb (ix2 y0 y1) : S2048x2048.Idx) = ix2 ⟨(31 - t.val) * 64 + y0.val, by have := tN t; have := y0.isLt; omega⟩ ⟨9 * 128 + y1.val, by have := tN t; have := y1.isLt; omega⟩ := by
  funext a; apply Fin.ext
  match a with
  | ⟨0, _⟩ => exact (Pipeline.Window.rect_emb_val win0_14 t _ _).trans (congrArg (· * 64 + y0.val) (idx14 t).1)
  | ⟨1, _⟩ => exact (Pipeline.Window.rect_emb_val win0_14 t _ _).trans (congrArg (· * 128 + y1.val) (idx14 t).2)

/-- Window 14's block at a point, read from the argument. -/
theorem blk14 (t : Fin cfg0.N) (y0 : Fin 64) (y1 : Fin 128) : (iblk m c 14 t : S64x128.Idx → EReal) (ix2 y0 y1) = X9 m c (ix2 ⟨(31 - t.val) * 64 + y0.val, by have := tN t; have := y0.isLt; omega⟩ ⟨9 * 128 + y1.val, by have := tN t; have := y1.isLt; omega⟩) := by
  show (V m c main_arg9 : S2048x2048.Idx → EReal) ((win0_14.rect t).emb (ix2 y0 y1)) = _
  rw [V_main_arg9, emb14]

/-- The block window 15 names at a point. -/
theorem idx15 : ∀ t : Fin grid0.N, win0_15.index t 0 = 31 - t.val ∧ win0_15.index t 1 = 0 := by decide +kernel

/-- Where an element of window 15's block lies in its array. -/
theorem emb15 (t : Fin cfg0.N) (y0 : Fin 64) (y1 : Fin 768) : ((win0_15.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_15 t _ _).trans (congrArg (· * 64 + y0.val) (idx15 t).1)
  | ⟨1, _⟩ => exact Pipeline.Window.rect_emb_val_of_index_zero win0_15 t _ (idx15 t).2 _

/-- The block window 16 names at a point. -/
theorem idx16 : ∀ t : Fin grid0.N, win0_16.index t 0 = 31 - t.val ∧ win0_16.index t 1 = 0 := by decide +kernel

/-- Where an element of window 16's block lies in its array. -/
theorem emb16 (t : Fin cfg0.N) (y0 : Fin 64) (y1 : Fin 768) : ((win0_16.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_16 t _ _).trans (congrArg (· * 64 + y0.val) (idx16 t).1)
  | ⟨1, _⟩ => exact Pipeline.Window.rect_emb_val_of_index_zero win0_16 t _ (idx16 t).2 _

/-- The block window 17 names at a point. -/
theorem idx17 : ∀ t : Fin grid0.N, win0_17.index t 0 = 31 - t.val ∧ win0_17.index t 1 = 0 := by decide +kernel

/-- Where an element of window 17's block lies in its array. -/
theorem emb17 (t : Fin cfg0.N) (y0 : Fin 64) (y1 : Fin 768) : ((win0_17.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_17 t _ _).trans (congrArg (· * 64 + y0.val) (idx17 t).1)
  | ⟨1, _⟩ => exact Pipeline.Window.rect_emb_val_of_index_zero win0_17 t _ (idx17 t).2 _

/-- The block window 18 names at a point. -/
theorem idx18 : ∀ t : Fin grid0.N, win0_18.index t 0 = 31 - t.val ∧ win0_18.index t 1 = 0 := by decide +kernel

/-- Where an element of window 18's block lies in its array. -/
theorem emb18 (t : Fin cfg0.N) (y0 : Fin 64) (y1 : Fin 768) : ((win0_18.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_18 t _ _).trans (congrArg (· * 64 + y0.val) (idx18 t).1)
  | ⟨1, _⟩ => exact Pipeline.Window.rect_emb_val_of_index_zero win0_18 t _ (idx18 t).2 _

/-- The block window 19 names at a point. -/
theorem idx19 : ∀ t : Fin grid0.N, win0_19.index t 0 = 31 - t.val ∧ win0_19.index t 1 = 0 := by decide +kernel

/-- Where an element of window 19's block lies in its array. -/
theorem emb19 (t : Fin cfg0.N) (y0 : Fin 64) (y1 : Fin 768) : ((win0_19.rect t).emb (ix2 y0 y1) : S2048x768.Idx) = ix2 ⟨(31 - t.val) * 64 + y0.val, by have := tN t; have := y0.isLt; omega⟩ y1 := by
  funext a; apply Fin.ext
  match a with
  | ⟨0, _⟩ => exact (Pipeline.Window.rect_emb_val win0_19 t _ _).trans (congrArg (· * 64 + y0.val) (idx19 t).1)
  | ⟨1, _⟩ => exact Pipeline.Window.rect_emb_val_of_index_zero win0_19 t _ (idx19 t).2 _

/-- The block window 20 names at a point. -/
theorem idx20 : ∀ t : Fin grid0.N, win0_20.index t 0 = 0 ∧ win0_20.index t 1 = 31 - t.val ∧ win0_20.index t 2 = 0 := by decide +kernel

/-- Where an element of window 20's block lies in its array. -/
theorem emb20 (t : Fin cfg0.N) (y0 : Fin 6) (y1 : Fin 64) (y2 : Fin 128) : ((win0_20.rect t).emb (ix3 y0 y1 y2) : S6x2048x128.Idx) = ix3 y0 ⟨(31 - t.val) * 64 + y1.val, by have := tN t; have := y1.isLt; omega⟩ y2 := by
  funext a; apply Fin.ext
  match a with
  | ⟨0, _⟩ => exact Pipeline.Window.rect_emb_val_of_index_zero win0_20 t _ (idx20 t).1 _
  | ⟨1, _⟩ => exact (Pipeline.Window.rect_emb_val win0_20 t _ _).trans (congrArg (· * 64 + y1.val) (idx20 t).2.1)
  | ⟨2, _⟩ => exact Pipeline.Window.rect_emb_val_of_index_zero win0_20 t _ (idx20 t).2.2 _

/-- The block window 21 names at a point. -/
theorem idx21 : ∀ t : Fin grid0.N, win0_21.index t 0 = 0 ∧ win0_21.index t 1 = 31 - t.val ∧ win0_21.index t 2 = 0 ∧ win0_21.index t 3 = 0 := by decide +kernel

/-- Where an element of window 21's block lies in its array. -/
theorem emb21 (t : Fin cfg0.N) (y0 : Fin 6) (y1 : Fin 1) (y2 : Fin 64) (y3 : Fin 64) : ((win0_21.rect t).emb (ix4 y0 y1 y2 y3) : S6x32x64x64.Idx) = ix4 y0 ⟨31 - t.val + y1.val, by have := tN t; have := y1.isLt; omega⟩ y2 y3 := by
  funext a; apply Fin.ext
  match a with
  | ⟨0, _⟩ => exact Pipeline.Window.rect_emb_val_of_index_zero win0_21 t _ (idx21 t).1 _
  | ⟨1, _⟩ =>
    refine (Pipeline.Window.rect_emb_val win0_21 t _ _).trans ?_
    show win0_21.index t 1 * 1 + y1.val = 31 - t.val + y1.val
    rw [(idx21 t).2.1]; omega
  | ⟨2, _⟩ => exact Pipeline.Window.rect_emb_val_of_index_zero win0_21 t _ (idx21 t).2.2.1 _
  | ⟨3, _⟩ => exact Pipeline.Window.rect_emb_val_of_index_zero win0_21 t _ (idx21 t).2.2.2 _

/-- The block window 22 names at a point. -/
theorem idx22 : ∀ t : Fin grid0.N, win0_22.index t 0 = 0 ∧ win0_22.index t 1 = 0 := by decide +kernel

/-- Where an element of window 22's block lies in its array. -/
theorem emb22 (t : Fin cfg0.N) (y0 : Fin 1) (y1 : Fin 128) : ((win0_22.rect t).emb (ix2 y0 y1) : S1x128.Idx) = ix2 y0 y1 := by
  funext a; apply Fin.ext
  match a with
  | ⟨0, _⟩ => exact Pipeline.Window.rect_emb_val_of_index_zero win0_22 t _ (idx22 t).1 _
  | ⟨1, _⟩ => exact Pipeline.Window.rect_emb_val_of_index_zero win0_22 t _ (idx22 t).2 _

/-- What the head `h` loads at a point, with the state's gradient as the point before left it. -/
theorem hd_eq (t : Fin cfg0.N) (h : Fin 6) (xs : Vec Ideal S6x128x128 .f32) (ds : Fin 128 → Fin 128 → EReal)
    (hs : ∀ k v, (xs (ix3 h k v) : EReal) = ds k v) : (LB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs h).hd = (X m c).hd (Inp.ch t.val) h ds := by
  have ht := tN t
  have hy : ∀ (i : Fin 64) (d : Fin 128), ((LB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs h).dy (ix2 i d) : EReal)
      = X9 m c (ix2 ⟨(31 - t.val) * 64 + i.val, by omega⟩ ⟨512 + (h.val * 128 + d.val), by omega⟩) := by
    intro i d
    match h with
    | 0 =>
      refine (blk9 m c t i d).trans (congrArg (X9 m c) ?_)
      funext a; apply Fin.ext
      match a with
      | ⟨0, _⟩ => rfl
      | ⟨1, _⟩ => show 4 * 128 + d.val = 512 + (0 * 128 + d.val); omega
    | 1 =>
      refine (blk10 m c t i d).trans (congrArg (X9 m c) ?_)
      funext a; apply Fin.ext
      match a with
      | ⟨0, _⟩ => rfl
      | ⟨1, _⟩ => show 5 * 128 + d.val = 512 + (1 * 128 + d.val); omega
    | 2 =>
      refine (blk11 m c t i d).trans (congrArg (X9 m c) ?_)
      funext a; apply Fin.ext
      match a with
      | ⟨0, _⟩ => rfl
      | ⟨1, _⟩ => show 6 * 128 + d.val = 512 + (2 * 128 + d.val); omega
    | 3 =>
      refine (blk12 m c t i d).trans (congrArg (X9 m c) ?_)
      funext a; apply Fin.ext
      match a with
      | ⟨0, _⟩ => rfl
      | ⟨1, _⟩ => show 7 * 128 + d.val = 512 + (3 * 128 + d.val); omega
    | 4 =>
      refine (blk13 m c t i d).trans (congrArg (X9 m c) ?_)
      funext a; apply Fin.ext
      match a with
      | ⟨0, _⟩ => rfl
      | ⟨1, _⟩ => show 8 * 128 + d.val = 512 + (4 * 128 + d.val); omega
    | 5 =>
      refine (blk14 m c t i d).trans (congrArg (X9 m c) ?_)
      funext a; apply Fin.ext
      match a with
      | ⟨0, _⟩ => rfl
      | ⟨1, _⟩ => show 9 * 128 + d.val = 512 + (5 * 128 + d.val); omega
  simp only [Ld.hd, Inp.hd, X, inp, Hd.mk.injEq]
  refine ⟨?_, ?_, ?_, ?_, ?_, ?_, ?_, ?_, ?_, ?_, ?_⟩
  · funext i d; exact blk0 m c t i _
  · funext i d; exact blk1 m c t i _
  · funext i d; exact blk2 m c t i _
  · funext i d; exact blk3 m c t i _
  · funext i d; exact blk4 m c t h i d
  · funext i d; exact blk6 m c t i _
  · funext i d; exact hy i d
  · funext i j; exact blk5 m c t h 0 i j
  · funext d; exact blk7 m c t d
  · funext k v; exact blk8 m c t 0 h k v
  · funext k v; exact hs k v

/-- The cleared scratch. -/
theorem pay2_apply (h : Fin 6) (k v : Fin 128) : (k0_pay2 (F := Ideal) (ix3 h k v) : EReal) = 0 := by
  unfold k0_pay2
  pointwise

/-- The cleared block of the gain's gradient. -/
theorem pay3_apply (j : Fin 128) : (k0_pay3 (F := Ideal) (ix2 0 j) : EReal) = 0 := by
  unfold k0_pay3
  pointwise

/-- The gradient of the gains after one more trip, head by head. -/
theorem dog_step (t : ℕ) (j : Fin 128) (D : Fin 6 → Hd) (e : EReal) (he : e = (X m c).DOG t j) (hD : ∀ h, D h = (X m c).H t h) :
    e + (D 0).dog j + (D 1).dog j + (D 2).dog j + (D 3).dog j + (D 4).dog j + (D 5).dog j = (X m c).DOG (t + 1) j := by
  show _ = (X m c).DOG t j + ∑ h, ((X m c).H t h).dog j
  simp only [Fin.sum_univ_six, hD, he, add_assoc]

/-- What the scratch and the gain's block hold after a point: the state's gradient and the gain's, after as many trips. -/
theorem carried : ∀ (n : ℕ) (hn : n < cfg0.N),
    (∀ (h : Fin 6) (k v : Fin 128), ((outsAt0 m c n hn).2.2.2.2.2.2.2.2 (ix3 h k v) : EReal) = (X m c).DS (n + 1) h k v)
      ∧ ∀ j : Fin 128, ((outsAt0 m c n hn).2.2.2.2.2.2.2.1 (ix2 0 j) : EReal) = (X m c).DOG (n + 1) j
  | 0, hn => by
    have h0 : (⟨0, hn⟩ : Fin cfg0.N).val % 32 = 0 := rfl
    have e := outsAt0_A m c ⟨0, hn⟩ h0
    have H : ∀ h : Fin 6, (LB (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (k0_pay2 (F := Ideal)) h).hd = (X m c).H 0 h :=
      fun h => hd_eq m c ⟨0, hn⟩ h _ _ (pay2_apply h)
    refine ⟨fun h k v => ?_, fun j => ?_⟩
    · refine (congrFun (congrArg (·.2.2.2.2.2.2.2.2) e) _).trans ((K.A.at_dS c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) h k v).trans ?_)
      rw [H h]; rfl
    · refine (congrFun (congrArg (·.2.2.2.2.2.2.2.1) e) _).trans ((K.A.at_dog c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) j).trans ?_)
      exact dog_step m c 0 j (fun h => (LB _ _ _ _ _ _ _ _ _ _ _ _ _ _ _ _ h).hd) _ (pay3_apply j) H
  | n + 1, hn => by
    have h0 : ¬(n + 1) % 32 = 0 := by have : n + 1 < 32 := tN ⟨n + 1, hn⟩; omega
    have e := outsAt0_B m c ⟨n + 1, hn⟩ h0
    obtain ⟨iS, iO⟩ := carried n (Nat.lt_of_succ_lt hn)
    have H : ∀ h : Fin 6, (LB (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 m c n (Nat.lt_of_succ_lt hn)).2.2.2.2.2.2.2.2 h).hd = (X m c).H (n + 1) h :=
      fun h => hd_eq m c ⟨n + 1, hn⟩ h _ _ (iS h)
    refine ⟨fun h k v => ?_, fun j => ?_⟩
    · refine (congrFun (congrArg (·.2.2.2.2.2.2.2.2) e) _).trans ((K.B.at_dS c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 m c n (Nat.lt_of_succ_lt hn)).2.2.2.2.2.2.2.1 (outsAt0 m c n (Nat.lt_of_succ_lt hn)).2.2.2.2.2.2.2.2 h k v).trans ?_)
      refine (congrArg (fun D : Hd => D.dS k v) (H h)).trans ?_
      rfl
    · refine (congrFun (congrArg (·.2.2.2.2.2.2.2.1) e) _).trans ((K.B.at_dog c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 m c n (Nat.lt_of_succ_lt hn)).2.2.2.2.2.2.2.1 (outsAt0 m c n (Nat.lt_of_succ_lt hn)).2.2.2.2.2.2.2.2 j).trans ?_)
      exact dog_step m c (n + 1) j (fun h => (LB _ _ _ _ _ _ _ _ _ _ _ _ _ _ _ _ h).hd) _ (iO j) H

/-- What a point leaves in the block of `dq`. -/
theorem out_dq (t : Fin cfg0.N) (h : Fin 6) (i : Fin 64) (j : Fin 128) :
    ((outsAt0 m c t.val t.isLt).1 (ix2 i ⟨h.val * 128 + j.val, by omega⟩) : EReal) = ((X m c).H t.val h).dq i j := by
  by_cases h0 : t.val % 32 = 0
  · have ht : t.val = 0 := by have := tN t; omega
    rw [outsAt0_A m c t h0]
    dsimp only
    refine (K.A.at_dq ..).trans ?_
    refine congrArg (fun D : Hd => D.dq i j) (hd_eq m c t h _ _ fun k v => (pay2_apply h k v).trans ?_)
    rw [ht]; rfl
  · have ht : t.val - 1 + 1 = t.val := by omega
    rw [outsAt0_B m c t h0]
    dsimp only
    refine (K.B.at_dq ..).trans ?_
    refine congrArg (fun D : Hd => D.dq i j) (hd_eq m c t h _ _ fun k v => ((carried m c _ _).1 h k v).trans ?_)
    rw [ht]

/-- What a point leaves in the block of `dk`. -/
theorem out_dk (t : Fin cfg0.N) (h : Fin 6) (i : Fin 64) (j : Fin 128) :
    ((outsAt0 m c t.val t.isLt).2.1 (ix2 i ⟨h.val * 128 + j.val, by omega⟩) : EReal) = ((X m c).H t.val h).dk i j := by
  by_cases h0 : t.val % 32 = 0
  · have ht : t.val = 0 := by have := tN t; omega
    rw [outsAt0_A m c t h0]
    dsimp only
    refine (K.A.at_dk ..).trans ?_
    refine congrArg (fun D : Hd => D.dk i j) (hd_eq m c t h _ _ fun k v => (pay2_apply h k v).trans ?_)
    rw [ht]; rfl
  · have ht : t.val - 1 + 1 = t.val := by omega
    rw [outsAt0_B m c t h0]
    dsimp only
    refine (K.B.at_dk ..).trans ?_
    refine congrArg (fun D : Hd => D.dk i j) (hd_eq m c t h _ _ fun k v => ((carried m c _ _).1 h k v).trans ?_)
    rw [ht]

/-- What a point leaves in the block of `dv`. -/
theorem out_dv (t : Fin cfg0.N) (h : Fin 6) (i : Fin 64) (j : Fin 128) :
    ((outsAt0 m c t.val t.isLt).2.2.1 (ix2 i ⟨h.val * 128 + j.val, by omega⟩) : EReal) = ((X m c).H t.val h).dv i j := by
  by_cases h0 : t.val % 32 = 0
  · have ht : t.val = 0 := by have := tN t; omega
    rw [outsAt0_A m c t h0]
    dsimp only
    refine (K.A.at_dv ..).trans ?_
    refine congrArg (fun D : Hd => D.dv i j) (hd_eq m c t h _ _ fun k v => (pay2_apply h k v).trans ?_)
    rw [ht]; rfl
  · have ht : t.val - 1 + 1 = t.val := by omega
    rw [outsAt0_B m c t h0]
    dsimp only
    refine (K.B.at_dv ..).trans ?_
    refine congrArg (fun D : Hd => D.dv i j) (hd_eq m c t h _ _ fun k v => ((carried m c _ _).1 h k v).trans ?_)
    rw [ht]

/-- What a point leaves in the block of `dw`. -/
theorem out_dw (t : Fin cfg0.N) (h : Fin 6) (i : Fin 64) (j : Fin 128) :
    ((outsAt0 m c t.val t.isLt).2.2.2.1 (ix2 i ⟨h.val * 128 + j.val, by omega⟩) : EReal) = ((X m c).H t.val h).dw i j := by
  by_cases h0 : t.val % 32 = 0
  · have ht : t.val = 0 := by have := tN t; omega
    rw [outsAt0_A m c t h0]
    dsimp only
    refine (K.A.at_dw ..).trans ?_
    refine congrArg (fun D : Hd => D.dw i j) (hd_eq m c t h _ _ fun k v => (pay2_apply h k v).trans ?_)
    rw [ht]; rfl
  · have ht : t.val - 1 + 1 = t.val := by omega
    rw [outsAt0_B m c t h0]
    dsimp only
    refine (K.B.at_dw ..).trans ?_
    refine congrArg (fun D : Hd => D.dw i j) (hd_eq m c t h _ _ fun k v => ((carried m c _ _).1 h k v).trans ?_)
    rw [ht]

/-- What a point leaves in the block of `dgt`. -/
theorem out_dgt (t : Fin cfg0.N) (h : Fin 6) (i : Fin 64) (j : Fin 128) :
    ((outsAt0 m c t.val t.isLt).2.2.2.2.1 (ix2 i ⟨h.val * 128 + j.val, by omega⟩) : EReal) = ((X m c).H t.val h).dgt i j := by
  by_cases h0 : t.val % 32 = 0
  · have ht : t.val = 0 := by have := tN t; omega
    rw [outsAt0_A m c t h0]
    dsimp only
    refine (K.A.at_dgt ..).trans ?_
    refine congrArg (fun D : Hd => D.dgt i j) (hd_eq m c t h _ _ fun k v => (pay2_apply h k v).trans ?_)
    rw [ht]; rfl
  · have ht : t.val - 1 + 1 = t.val := by omega
    rw [outsAt0_B m c t h0]
    dsimp only
    refine (K.B.at_dgt ..).trans ?_
    refine congrArg (fun D : Hd => D.dgt i j) (hd_eq m c t h _ _ fun k v => ((carried m c _ _).1 h k v).trans ?_)
    rw [ht]

/-- What a point leaves in the block of `dg`. -/
theorem out_dg (t : Fin cfg0.N) (h : Fin 6) (i : Fin 64) (j : Fin 128) :
    ((outsAt0 m c t.val t.isLt).2.2.2.2.2.1 (ix3 h i j) : EReal) = ((X m c).H t.val h).dg i j := by
  by_cases h0 : t.val % 32 = 0
  · have ht : t.val = 0 := by have := tN t; omega
    rw [outsAt0_A m c t h0]
    dsimp only
    refine (K.A.at_dg ..).trans ?_
    refine congrArg (fun D : Hd => D.dg i j) (hd_eq m c t h _ _ fun k v => (pay2_apply h k v).trans ?_)
    rw [ht]; rfl
  · have ht : t.val - 1 + 1 = t.val := by omega
    rw [outsAt0_B m c t h0]
    dsimp only
    refine (K.B.at_dg ..).trans ?_
    refine congrArg (fun D : Hd => D.dg i j) (hd_eq m c t h _ _ fun k v => ((carried m c _ _).1 h k v).trans ?_)
    rw [ht]

/-- What a point leaves in the block of `da`. -/
theorem out_da (t : Fin cfg0.N) (h : Fin 6) (i j : Fin 64) :
    ((outsAt0 m c t.val t.isLt).2.2.2.2.2.2.1 (ix4 h 0 i j) : EReal) = ((X m c).H t.val h).da i j := by
  by_cases h0 : t.val % 32 = 0
  · have ht : t.val = 0 := by have := tN t; omega
    rw [outsAt0_A m c t h0]
    dsimp only
    refine (K.A.at_da ..).trans ?_
    refine congrArg (fun D : Hd => D.da i j) (hd_eq m c t h _ _ fun k v => (pay2_apply h k v).trans ?_)
    rw [ht]; rfl
  · have ht : t.val - 1 + 1 = t.val := by omega
    rw [outsAt0_B m c t h0]
    dsimp only
    refine (K.B.at_da ..).trans ?_
    refine congrArg (fun D : Hd => D.da i j) (hd_eq m c t h _ _ fun k v => ((carried m c _ _).1 h k v).trans ?_)
    rw [ht]

/-- A column lies in a head's columns. -/
theorem split (y : Fin 768) : ∃ (h : Fin 6) (j : Fin 128), y = ⟨h.val * 128 + j.val, by omega⟩ :=
  ⟨⟨y.val / 128, by omega⟩, ⟨y.val % 128, by omega⟩, Fin.ext (by show y.val = y.val / 128 * 128 + y.val % 128; omega)⟩

/-- An array laid out by rows and heads' columns, at a point's rows and a head's columns. -/
theorem row_at (Y : Inp) (f : Hd → Fin 64 → Fin 128 → EReal) (t : ℕ) (ht : t < 32) (h : Fin 6) (i : Fin 64) (j : Fin 128) :
    Y.row f (ix2 ⟨(31 - t) * 64 + i.val, by omega⟩ ⟨h.val * 128 + j.val, by omega⟩) = f (Y.H t h) i j := by
  have e1 : 31 - ((31 - t) * 64 + i.val) / 64 = t := by omega
  have e2 : (⟨(h.val * 128 + j.val) / 128, by omega⟩ : Fin 6) = h := Fin.ext (by show (h.val * 128 + j.val) / 128 = h.val; omega)
  have e3 : (⟨((31 - t) * 64 + i.val) % 64, by omega⟩ : Fin 64) = i := Fin.ext (by show ((31 - t) * 64 + i.val) % 64 = i.val; omega)
  have e4 : (⟨(h.val * 128 + j.val) % 128, by omega⟩ : Fin 128) = j := Fin.ext (by show (h.val * 128 + j.val) % 128 = j.val; omega)
  show f (Y.H (31 - ((31 - t) * 64 + i.val) / 64) ⟨(h.val * 128 + j.val) / 128, _⟩) ⟨((31 - t) * 64 + i.val) % 64, _⟩ ⟨(h.val * 128 + j.val) % 128, _⟩ = _
  rw [e1, e2, e3, e4]

/-- The gradient of the summed log decays at a point's rows. -/
theorem g_at (Y : Inp) (t : ℕ) (ht : t < 32) (h : Fin 6) (i : Fin 64) (j : Fin 128) :
    Y.gArr (ix3 h ⟨(31 - t) * 64 + i.val, by omega⟩ j) = (Y.H t h).dg i j := by
  have e1 : 31 - ((31 - t) * 64 + i.val) / 64 = t := by omega
  have e3 : (⟨((31 - t) * 64 + i.val) % 64, by omega⟩ : Fin 64) = i := Fin.ext (by show ((31 - t) * 64 + i.val) % 64 = i.val; omega)
  show (Y.H (31 - ((31 - t) * 64 + i.val) / 64) h).dg ⟨((31 - t) * 64 + i.val) % 64, _⟩ j = _
  rw [e1, e3]

/-- The gradient of the attention at a point's chunk. -/
theorem a_at (Y : Inp) (t : ℕ) (ht : t < 32) (h : Fin 6) (q : Fin 1) (i j : Fin 64) :
    Y.aArr (ix4 h ⟨31 - t + q.val, by omega⟩ i j) = (Y.H t h).da i j := by
  have e1 : 31 - (31 - t + q.val) = t := by omega
  show (Y.H (31 - (31 - t + q.val)) h).da i j = _
  rw [e1]

/-- The block of `dq` a point leaves is that point's block of the specification's array. -/
theorem flushed_dq (t : Fin cfg0.N) : (dats m 0 c).flushed 15 t = ((cfg0.win 15).blk t).view.read (Elt Ideal) ((X m c).row Hd.dq) := by
  rw [Value.flushed15]
  funext y
  obtain ⟨i, y1, rfl⟩ : ∃ (i : Fin 64) (y1 : Fin 768), y = (ix2 i y1) := ⟨y 0, y 1, eq_ix2 y⟩
  obtain ⟨h, j, rfl⟩ := split y1
  refine (out_dq m c t h i j).trans ?_
  show _ = (X m c).row Hd.dq ((win0_15.rect t).emb (ix2 i ⟨h.val * 128 + j.val, by omega⟩))
  rw [emb15]
  exact (row_at (X m c) Hd.dq t.val (tN t) h i j).symm

/-- Every element of the array of `dq` lies in some point's block. -/
theorem cover_dq (i : S2048x768.Idx) : ∃ t : Fin cfg0.N, (cfg0.win 15).flush t = true ∧ i ∈ ((cfg0.win 15).blk t).view.set := by
  obtain ⟨q0, q1, rfl⟩ : ∃ (q0 : Fin 2048) (q1 : Fin 768), i = (ix2 q0 q1) := ⟨i 0, i 1, eq_ix2 i⟩
  have h0 := q0.isLt
  let t : Fin cfg0.N := ⟨31 - q0.val / 64, by have : cfg0.N = 32 := N_0; omega⟩
  refine ⟨t, flush0_15 t, ?_⟩
  have e : ((win0_15.rect t).emb (ix2 (⟨q0.val % 64, by omega⟩ : Fin 64) q1) : S2048x768.Idx) = ix2 q0 q1 := by
    refine (emb15 t ⟨q0.val % 64, by omega⟩ q1).trans ?_
    funext a; apply Fin.ext
    match a with
    | ⟨0, _⟩ => show (31 - (31 - q0.val / 64)) * 64 + q0.val % 64 = q0.val; omega
    | ⟨1, _⟩ => rfl
  exact e ▸ View.emb_mem_set ((cfg0.win 15).blk t).view (ix2 (⟨q0.val % 64, by omega⟩ : Fin 64) q1)

/-- The array of `dq` that the kernel leaves. -/
theorem final_dq : (dats m 0 c).arrAt 15 cfg0.N = (X m c).row Hd.dq :=
  (dats m 0 c).arrAt_eq_of_cover 15 ((X m c).row Hd.dq) (fun t _ => flushed_dq m c t) cover_dq

/-- The block of `dk` a point leaves is that point's block of the specification's array. -/
theorem flushed_dk (t : Fin cfg0.N) : (dats m 0 c).flushed 16 t = ((cfg0.win 16).blk t).view.read (Elt Ideal) ((X m c).row Hd.dk) := by
  rw [Value.flushed16]
  funext y
  obtain ⟨i, y1, rfl⟩ : ∃ (i : Fin 64) (y1 : Fin 768), y = (ix2 i y1) := ⟨y 0, y 1, eq_ix2 y⟩
  obtain ⟨h, j, rfl⟩ := split y1
  refine (out_dk m c t h i j).trans ?_
  show _ = (X m c).row Hd.dk ((win0_16.rect t).emb (ix2 i ⟨h.val * 128 + j.val, by omega⟩))
  rw [emb16]
  exact (row_at (X m c) Hd.dk t.val (tN t) h i j).symm

/-- Every element of the array of `dk` lies in some point's block. -/
theorem cover_dk (i : S2048x768.Idx) : ∃ t : Fin cfg0.N, (cfg0.win 16).flush t = true ∧ i ∈ ((cfg0.win 16).blk t).view.set := by
  obtain ⟨q0, q1, rfl⟩ : ∃ (q0 : Fin 2048) (q1 : Fin 768), i = (ix2 q0 q1) := ⟨i 0, i 1, eq_ix2 i⟩
  have h0 := q0.isLt
  let t : Fin cfg0.N := ⟨31 - q0.val / 64, by have : cfg0.N = 32 := N_0; omega⟩
  refine ⟨t, flush0_16 t, ?_⟩
  have e : ((win0_16.rect t).emb (ix2 (⟨q0.val % 64, by omega⟩ : Fin 64) q1) : S2048x768.Idx) = ix2 q0 q1 := by
    refine (emb16 t ⟨q0.val % 64, by omega⟩ q1).trans ?_
    funext a; apply Fin.ext
    match a with
    | ⟨0, _⟩ => show (31 - (31 - q0.val / 64)) * 64 + q0.val % 64 = q0.val; omega
    | ⟨1, _⟩ => rfl
  exact e ▸ View.emb_mem_set ((cfg0.win 16).blk t).view (ix2 (⟨q0.val % 64, by omega⟩ : Fin 64) q1)

/-- The array of `dk` that the kernel leaves. -/
theorem final_dk : (dats m 0 c).arrAt 16 cfg0.N = (X m c).row Hd.dk :=
  (dats m 0 c).arrAt_eq_of_cover 16 ((X m c).row Hd.dk) (fun t _ => flushed_dk m c t) cover_dk

/-- The block of `dv` a point leaves is that point's block of the specification's array. -/
theorem flushed_dv (t : Fin cfg0.N) : (dats m 0 c).flushed 17 t = ((cfg0.win 17).blk t).view.read (Elt Ideal) ((X m c).row Hd.dv) := by
  rw [Value.flushed17]
  funext y
  obtain ⟨i, y1, rfl⟩ : ∃ (i : Fin 64) (y1 : Fin 768), y = (ix2 i y1) := ⟨y 0, y 1, eq_ix2 y⟩
  obtain ⟨h, j, rfl⟩ := split y1
  refine (out_dv m c t h i j).trans ?_
  show _ = (X m c).row Hd.dv ((win0_17.rect t).emb (ix2 i ⟨h.val * 128 + j.val, by omega⟩))
  rw [emb17]
  exact (row_at (X m c) Hd.dv t.val (tN t) h i j).symm

/-- Every element of the array of `dv` lies in some point's block. -/
theorem cover_dv (i : S2048x768.Idx) : ∃ t : Fin cfg0.N, (cfg0.win 17).flush t = true ∧ i ∈ ((cfg0.win 17).blk t).view.set := by
  obtain ⟨q0, q1, rfl⟩ : ∃ (q0 : Fin 2048) (q1 : Fin 768), i = (ix2 q0 q1) := ⟨i 0, i 1, eq_ix2 i⟩
  have h0 := q0.isLt
  let t : Fin cfg0.N := ⟨31 - q0.val / 64, by have : cfg0.N = 32 := N_0; omega⟩
  refine ⟨t, flush0_17 t, ?_⟩
  have e : ((win0_17.rect t).emb (ix2 (⟨q0.val % 64, by omega⟩ : Fin 64) q1) : S2048x768.Idx) = ix2 q0 q1 := by
    refine (emb17 t ⟨q0.val % 64, by omega⟩ q1).trans ?_
    funext a; apply Fin.ext
    match a with
    | ⟨0, _⟩ => show (31 - (31 - q0.val / 64)) * 64 + q0.val % 64 = q0.val; omega
    | ⟨1, _⟩ => rfl
  exact e ▸ View.emb_mem_set ((cfg0.win 17).blk t).view (ix2 (⟨q0.val % 64, by omega⟩ : Fin 64) q1)

/-- The array of `dv` that the kernel leaves. -/
theorem final_dv : (dats m 0 c).arrAt 17 cfg0.N = (X m c).row Hd.dv :=
  (dats m 0 c).arrAt_eq_of_cover 17 ((X m c).row Hd.dv) (fun t _ => flushed_dv m c t) cover_dv

/-- The block of `dw` a point leaves is that point's block of the specification's array. -/
theorem flushed_dw (t : Fin cfg0.N) : (dats m 0 c).flushed 18 t = ((cfg0.win 18).blk t).view.read (Elt Ideal) ((X m c).row Hd.dw) := by
  rw [Value.flushed18]
  funext y
  obtain ⟨i, y1, rfl⟩ : ∃ (i : Fin 64) (y1 : Fin 768), y = (ix2 i y1) := ⟨y 0, y 1, eq_ix2 y⟩
  obtain ⟨h, j, rfl⟩ := split y1
  refine (out_dw m c t h i j).trans ?_
  show _ = (X m c).row Hd.dw ((win0_18.rect t).emb (ix2 i ⟨h.val * 128 + j.val, by omega⟩))
  rw [emb18]
  exact (row_at (X m c) Hd.dw t.val (tN t) h i j).symm

/-- Every element of the array of `dw` lies in some point's block. -/
theorem cover_dw (i : S2048x768.Idx) : ∃ t : Fin cfg0.N, (cfg0.win 18).flush t = true ∧ i ∈ ((cfg0.win 18).blk t).view.set := by
  obtain ⟨q0, q1, rfl⟩ : ∃ (q0 : Fin 2048) (q1 : Fin 768), i = (ix2 q0 q1) := ⟨i 0, i 1, eq_ix2 i⟩
  have h0 := q0.isLt
  let t : Fin cfg0.N := ⟨31 - q0.val / 64, by have : cfg0.N = 32 := N_0; omega⟩
  refine ⟨t, flush0_18 t, ?_⟩
  have e : ((win0_18.rect t).emb (ix2 (⟨q0.val % 64, by omega⟩ : Fin 64) q1) : S2048x768.Idx) = ix2 q0 q1 := by
    refine (emb18 t ⟨q0.val % 64, by omega⟩ q1).trans ?_
    funext a; apply Fin.ext
    match a with
    | ⟨0, _⟩ => show (31 - (31 - q0.val / 64)) * 64 + q0.val % 64 = q0.val; omega
    | ⟨1, _⟩ => rfl
  exact e ▸ View.emb_mem_set ((cfg0.win 18).blk t).view (ix2 (⟨q0.val % 64, by omega⟩ : Fin 64) q1)

/-- The array of `dw` that the kernel leaves. -/
theorem final_dw : (dats m 0 c).arrAt 18 cfg0.N = (X m c).row Hd.dw :=
  (dats m 0 c).arrAt_eq_of_cover 18 ((X m c).row Hd.dw) (fun t _ => flushed_dw m c t) cover_dw

/-- The block of `dgt` a point leaves is that point's block of the specification's array. -/
theorem flushed_dgt (t : Fin cfg0.N) : (dats m 0 c).flushed 19 t = ((cfg0.win 19).blk t).view.read (Elt Ideal) ((X m c).row Hd.dgt) := by
  rw [Value.flushed19]
  funext y
  obtain ⟨i, y1, rfl⟩ : ∃ (i : Fin 64) (y1 : Fin 768), y = (ix2 i y1) := ⟨y 0, y 1, eq_ix2 y⟩
  obtain ⟨h, j, rfl⟩ := split y1
  refine (out_dgt m c t h i j).trans ?_
  show _ = (X m c).row Hd.dgt ((win0_19.rect t).emb (ix2 i ⟨h.val * 128 + j.val, by omega⟩))
  rw [emb19]
  exact (row_at (X m c) Hd.dgt t.val (tN t) h i j).symm

/-- Every element of the array of `dgt` lies in some point's block. -/
theorem cover_dgt (i : S2048x768.Idx) : ∃ t : Fin cfg0.N, (cfg0.win 19).flush t = true ∧ i ∈ ((cfg0.win 19).blk t).view.set := by
  obtain ⟨q0, q1, rfl⟩ : ∃ (q0 : Fin 2048) (q1 : Fin 768), i = (ix2 q0 q1) := ⟨i 0, i 1, eq_ix2 i⟩
  have h0 := q0.isLt
  let t : Fin cfg0.N := ⟨31 - q0.val / 64, by have : cfg0.N = 32 := N_0; omega⟩
  refine ⟨t, flush0_19 t, ?_⟩
  have e : ((win0_19.rect t).emb (ix2 (⟨q0.val % 64, by omega⟩ : Fin 64) q1) : S2048x768.Idx) = ix2 q0 q1 := by
    refine (emb19 t ⟨q0.val % 64, by omega⟩ q1).trans ?_
    funext a; apply Fin.ext
    match a with
    | ⟨0, _⟩ => show (31 - (31 - q0.val / 64)) * 64 + q0.val % 64 = q0.val; omega
    | ⟨1, _⟩ => rfl
  exact e ▸ View.emb_mem_set ((cfg0.win 19).blk t).view (ix2 (⟨q0.val % 64, by omega⟩ : Fin 64) q1)

/-- The array of `dgt` that the kernel leaves. -/
theorem final_dgt : (dats m 0 c).arrAt 19 cfg0.N = (X m c).row Hd.dgt :=
  (dats m 0 c).arrAt_eq_of_cover 19 ((X m c).row Hd.dgt) (fun t _ => flushed_dgt m c t) cover_dgt

/-- The block of `dg` a point leaves is that point's block of the specification's array. -/
theorem flushed_dg (t : Fin cfg0.N) : (dats m 0 c).flushed 20 t = ((cfg0.win 20).blk t).view.read (Elt Ideal) ((X m c).gArr) := by
  rw [Value.flushed20]
  funext y
  obtain ⟨h, i, j, rfl⟩ : ∃ (h : Fin 6) (i : Fin 64) (j : Fin 128), y = (ix3 h i j) := ⟨y 0, y 1, y 2, eq_ix3 y⟩
  refine (out_dg m c t h i j).trans ?_
  show _ = (X m c).gArr ((win0_20.rect t).emb (ix3 h i j))
  rw [emb20]
  exact (g_at (X m c) t.val (tN t) h i j).symm

/-- Every element of the array of `dg` lies in some point's block. -/
theorem cover_dg (i : S6x2048x128.Idx) : ∃ t : Fin cfg0.N, (cfg0.win 20).flush t = true ∧ i ∈ ((cfg0.win 20).blk t).view.set := by
  obtain ⟨q0, q1, q2, rfl⟩ : ∃ (q0 : Fin 6) (q1 : Fin 2048) (q2 : Fin 128), i = (ix3 q0 q1 q2) := ⟨i 0, i 1, i 2, eq_ix3 i⟩
  have h0 := q1.isLt
  let t : Fin cfg0.N := ⟨31 - q1.val / 64, by have : cfg0.N = 32 := N_0; omega⟩
  refine ⟨t, flush0_20 t, ?_⟩
  have e : ((win0_20.rect t).emb (ix3 q0 (⟨q1.val % 64, by omega⟩ : Fin 64) q2) : S6x2048x128.Idx) = ix3 q0 q1 q2 := by
    refine (emb20 t q0 ⟨q1.val % 64, by omega⟩ q2).trans ?_
    funext a; apply Fin.ext
    match a with
    | ⟨0, _⟩ => rfl
    | ⟨1, _⟩ => show (31 - (31 - q1.val / 64)) * 64 + q1.val % 64 = q1.val; omega
    | ⟨2, _⟩ => rfl
  exact e ▸ View.emb_mem_set ((cfg0.win 20).blk t).view (ix3 q0 (⟨q1.val % 64, by omega⟩ : Fin 64) q2)

/-- The array of `dg` that the kernel leaves. -/
theorem final_dg : (dats m 0 c).arrAt 20 cfg0.N = (X m c).gArr :=
  (dats m 0 c).arrAt_eq_of_cover 20 ((X m c).gArr) (fun t _ => flushed_dg m c t) cover_dg

/-- The block of `da` a point leaves is that point's block of the specification's array. -/
theorem flushed_da (t : Fin cfg0.N) : (dats m 0 c).flushed 21 t = ((cfg0.win 21).blk t).view.read (Elt Ideal) ((X m c).aArr) := by
  rw [Value.flushed21]
  funext y
  obtain ⟨h, q, i, j, rfl⟩ : ∃ (h : Fin 6) (q : Fin 1) (i j : Fin 64), y = (ix4 h q i j) := ⟨y 0, y 1, y 2, y 3, eq_ix4 y⟩
  obtain rfl : q = 0 := Subsingleton.elim _ _
  refine (out_da m c t h i j).trans ?_
  show _ = (X m c).aArr ((win0_21.rect t).emb (ix4 h 0 i j))
  rw [emb21]
  exact (a_at (X m c) t.val (tN t) h 0 i j).symm

/-- Every element of the array of `da` lies in some point's block. -/
theorem cover_da (i : S6x32x64x64.Idx) : ∃ t : Fin cfg0.N, (cfg0.win 21).flush t = true ∧ i ∈ ((cfg0.win 21).blk t).view.set := by
  obtain ⟨q0, q1, q2, q3, rfl⟩ : ∃ (q0 : Fin 6) (q1 : Fin 32) (q2 q3 : Fin 64), i = (ix4 q0 q1 q2 q3) := ⟨i 0, i 1, i 2, i 3, eq_ix4 i⟩
  have h0 := q1.isLt
  let t : Fin cfg0.N := ⟨31 - q1.val, by have : cfg0.N = 32 := N_0; omega⟩
  refine ⟨t, flush0_21 t, ?_⟩
  have e : ((win0_21.rect t).emb (ix4 q0 (0 : Fin 1) q2 q3) : S6x32x64x64.Idx) = ix4 q0 q1 q2 q3 := by
    refine (emb21 t q0 0 q2 q3).trans ?_
    funext a; apply Fin.ext
    match a with
    | ⟨0, _⟩ => rfl
    | ⟨1, _⟩ => show 31 - (31 - q1.val) + 0 = q1.val; omega
    | ⟨2, _⟩ => rfl
    | ⟨3, _⟩ => rfl
  exact e ▸ View.emb_mem_set ((cfg0.win 21).blk t).view (ix4 q0 (0 : Fin 1) q2 q3)

/-- The array of `da` that the kernel leaves. -/
theorem final_da : (dats m 0 c).arrAt 21 cfg0.N = (X m c).aArr :=
  (dats m 0 c).arrAt_eq_of_cover 21 ((X m c).aArr) (fun t _ => flushed_da m c t) cover_da

/-- The gain's gradient as the last point leaves it. -/
theorem flushed_dog (t : Fin cfg0.N) (hf : t.val % 32 = 31) :
    (dats m 0 c).flushed 22 t = ((cfg0.win 22).blk t).view.read (Elt Ideal) ((X m c).oArr) := by
  rw [Value.flushed22]
  funext y
  obtain ⟨q, j, rfl⟩ : ∃ (q : Fin 1) (j : Fin 128), y = (ix2 q j) := ⟨y 0, y 1, eq_ix2 y⟩
  obtain rfl : q = 0 := Subsingleton.elim _ _
  refine ((carried m c t.val t.isLt).2 j).trans ?_
  show _ = (X m c).oArr ((win0_22.rect t).emb (ix2 0 j))
  rw [emb22, show t.val + 1 = 32 by have := tN t; omega]
  rfl

/-- The last point's block is the whole array. -/
theorem cover_dog (i : S1x128.Idx) : ∃ t : Fin cfg0.N, (cfg0.win 22).flush t = true ∧ i ∈ ((cfg0.win 22).blk t).view.set := by
  obtain ⟨q0, q1, rfl⟩ : ∃ (q0 : Fin 1) (q1 : Fin 128), i = (ix2 q0 q1) := ⟨i 0, i 1, eq_ix2 i⟩
  let t : Fin cfg0.N := ⟨31, by have : cfg0.N = 32 := N_0; omega⟩
  refine ⟨t, (flush0_22 t).mpr (by show 31 % 32 = 31; rfl), ?_⟩
  have e : ((win0_22.rect t).emb (ix2 q0 q1) : S1x128.Idx) = ix2 q0 q1 := emb22 t q0 q1
  exact e ▸ View.emb_mem_set ((cfg0.win 22).blk t).view (ix2 q0 q1)

/-- The gain's gradient that the kernel leaves. -/
theorem final_dog : (dats m 0 c).arrAt 22 cfg0.N = (X m c).oArr :=
  (dats m 0 c).arrAt_eq_of_cover 22 ((X m c).oArr) (fun t h => flushed_dog m c t ((flush0_22 t).mp h)) cover_dog

end Cert.Scan.V

namespace Cert.Scan

open Idealize.ShloMosaic Idealize.ShloMosaic.TcCoe Idealize.SL.Sem

/-- Over the real numbers with infinities, the kernel and its reference leave the same arrays. -/
theorem algebraic : Cert.algebraic_ScanKernelIdeal_ScanReferenceIdeal := by
  intro m ρ m' ρ' _ hagree
  refine ⟨fun c => (V.X m c).row Hd.dq, fun c => (V.X m c).row Hd.dk, fun c => (V.X m c).row Hd.dv, fun c => (V.X m c).row Hd.dw,
    fun c => (V.X m c).row Hd.dgt, fun c => (V.X m c).gArr, fun c => (V.X m c).aArr, fun c => (V.X m c).oArr, ?_, ?_⟩
  · exact (θ_run Cert.ScanKernelIdeal.defs _ _).mono (fun r h c =>
      ⟨(h c).1.trans (V.final_dq m c), (h c).2.1.trans (V.final_dk m c), (h c).2.2.1.trans (V.final_dv m c),
        (h c).2.2.2.1.trans (V.final_dw m c), (h c).2.2.2.2.1.trans (V.final_dgt m c), (h c).2.2.2.2.2.1.trans (V.final_dg m c),
        (h c).2.2.2.2.2.2.1.trans (V.final_da m c), (h c).2.2.2.2.2.2.2.1.trans (V.final_dog m c), (h c).2.2.2.2.2.2.2.2⟩)
      (Cert.ScanKernelIdeal.Value.run_blocks (F := Ideal) m ρ)
  · refine (θ_run Cert.ScanReferenceIdeal.defs _ _).mono (fun r h c => ?_) (R.run_spec m' ρ')
    obtain ⟨a0, a1, a2, a3, a4, a5, a6, a7, a8, a9⟩ := hagree c
    have e : R.input m' c = V.X m c := by
      show inp _ _ _ _ _ _ _ _ _ _ = inp _ _ _ _ _ _ _ _ _ _
      rw [a0, a1, a2, a3, a4, a5, a6, a7, a8, a9]
    have hc := h c
    rw [e] at hc
    exact hc

end Cert.Scan
-- ==== Proof.NormSpec.lean ====
module

public import Idealize.ShloMosaic.Lib.Pointwise

/-! The layer's RMS normalisation of one row of 2048 numbers, and its gradient, in closed form. -/

@[expose] public section

set_option maxRecDepth 16384

noncomputable section

open scoped BigOperators

namespace Cert.Norm

open Idealize.ShloMosaic

/-- A number of the programs as the extended real its 32-bit word denotes. -/
abbrev lit (w : BitVec 32) : EReal := Ideal.ofBits .f32 w

variable (x g dh : Fin 2048 → EReal)

/-- The row's mean square, with the small constant added. -/
def ms : EReal := Ideal.div (∑ k : Fin 2048, x k * x k) (lit 0x45000000#32) + lit 0x358637BD#32
/-- The reciprocal root of that. -/
def rs : EReal := Ideal.rsqrt (ms x)
/-- The normalised row with its gains. -/
def nrm (d : Fin 2048) : EReal := x d * rs x * g d
/-- The gradient of the row's mean square, divided by the row's length. -/
def q : EReal :=
  Ideal.div ((∑ k : Fin 2048, x k * (dh k * g k)) * (lit 0xBF000000#32 * Ideal.div (rs x) (ms x))) (lit 0x45000000#32)
/-- The gradient of the row. -/
def dx (d : Fin 2048) : EReal := dh d * g d * rs x + x d * q x g dh + q x g dh * x d
/-- The row's part of the gradient of the gains. -/
def dg (d : Fin 2048) : EReal := x d * rs x * dh d

/-- The array's row that row `r` of the `t`-th of its four blocks is. -/
abbrev rowAt (t : ℕ) (ht : t < 4) (r : Fin 512) : Fin 2048 := ⟨t * 512 + r.val, by have := r.isLt; omega⟩

/-- An element of the array is known by its row's place in a block and its column. -/
theorem eq_rows {t : ℕ} (ht : t < 4) (e : (⟨2, ![2048, 2048]⟩ : Shape).Idx) (r : Fin 512) (d : Fin 2048)
    (h0 : (e 0).val = t * 512 + r.val) (h1 : (e 1).val = 0 * 2048 + d.val) : e = ix2 (rowAt t ht r) d :=
  (eq_ix2 e).trans (congrArg₂ ix2 (Fin.ext h0) (Fin.ext (h1.trans (by omega))))

/-- An element of the one-row array is known by its column. -/
theorem eq_row (e : (⟨2, ![1, 2048]⟩ : Shape).Idx) (d : Fin 2048) (h1 : (e 1).val = 0 * 2048 + d.val) : e = ix2 0 d :=
  (eq_ix2 e).trans (congrArg₂ ix2 (Subsingleton.elim _ _) (Fin.ext (h1.trans (by omega))))

/-- Every row of the array is in one of the four blocks. -/
theorem exists_row (i : Fin 2048) : ∃ (t : ℕ) (ht : t < 4) (r : Fin 512), rowAt t ht r = i :=
  ⟨i.val / 512, by omega, ⟨i.val % 512, by omega⟩, Fin.ext (by show i.val / 512 * 512 + i.val % 512 = i.val; omega)⟩

end Cert.Norm
-- ==== Proof.NormValue.lean ====
module

public import proofs.«01_k».proof.Defs
public import proofs.«01_k».proof.Proof.NormSpec
public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pointwise
public import Idealize.ShloMosaic.Lib.Pipeline.Value
public import Idealize.ShloMosaic.Lib.Pipeline.ReadBack

/-! The layer's RMS normalisation: the blocks of the kernel make up the reference's array. -/

@[expose] public section

set_option maxRecDepth 16384

noncomputable section

namespace Cert.Norm.R

open Idealize.ShloMosaic Cert.NormReferenceIdeal Cert.NormReferenceIdeal.Gen Cert.NormReferenceIdeal.Read

/-- The reference's array at an element: its row normalised, with the gains. -/
theorem ref_apply (x0 : FVec Ideal S2048x2048 .f32) (x1 : FVec Ideal S2048 .f32) (r d : Fin 2048) :
    (val_main_v13 (F := Ideal) x0 x1 (ix2 r d) : EReal) = nrm (fun k => x0 (ix2 r k)) (fun k => x1 (ix1 k)) d := by
  unfold nrm rs ms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try rfl

end Cert.Norm.R

namespace Cert.Norm.V

open Idealize.ShloMosaic Idealize.ShloMosaic.TcCoe Idealize.SL.Sem
open Idealize.ShloMosaic.Pipeline (Dat)
open Cert.NormKernelIdeal Cert.NormKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S2048.Idx → EReal := m ((c : Thread nD τ).loc main_arg1)

theorem hz2 : (![0, 0] : Fin 2 → Nat) = fun _ => 0 := funext fun a => by fin_cases a <;> rfl

/-- The grid has four points. -/
theorem tN (t : Fin cfg0.N) : t.val < 4 := N_0 ▸ t.isLt

/-- The array's row that row `r` of a point's block is. -/
abbrev rowOf (t : Fin cfg0.N) (r : Fin 512) : Fin 2048 := Cert.Norm.rowAt t.val (tN t) r

/-- The gains as the host hands them to the kernel: a unit axis put before them. -/
theorem V_v0 (d : Fin 2048) : (V m c main_v0 : S1x2048.Idx → EReal) (ix2 0 d) = X1 m c (ix1 d) := by
  show (broadcastInDim S1x2048 ![1] bcast_S2048_S1x2048_1 (X1 m c) : S1x2048.Idx → EReal) (ix2 0 d) = _
  pointwise

/-- Window 0's block at a point and where the block's elements lie in its array. -/
theorem idx0 : ∀ t : Fin grid0.N, win0_0.index t 0 = t.val ∧ win0_0.index t 1 = 0 := by decide +kernel

@[inherit_doc idx0]
theorem emb0 (t : Fin cfg0.N) (y0 : Fin 512) (y1 : Fin 2048) :
    ((win0_0.rect t).emb (ix2 y0 y1) : S2048x2048.Idx) = ix2 (rowOf t y0) y1 :=
  Cert.Norm.eq_rows _ _ _ _ ((Pipeline.Window.rect_emb_val win0_0 t _ _).trans (congrArg (· * 512 + y0.val) (idx0 t).1))
    ((Pipeline.Window.rect_emb_val win0_0 t _ _).trans (congrArg (· * 2048 + y1.val) (idx0 t).2))

/-- Window 0's block at a point, read from the argument. -/
theorem blk0 (t : Fin cfg0.N) (y0 : Fin 512) (y1 : Fin 2048) :
    (iblk m c 0 t : S512x2048.Idx → EReal) (ix2 y0 y1) = X0 m c (ix2 (rowOf t y0) y1) := by
  show (V m c main_arg0 : S2048x2048.Idx → EReal) ((win0_0.rect t).emb (ix2 y0 y1)) = _
  rw [V_main_arg0, emb0]

/-- Window 1's block at a point and where the block's elements lie in its array. -/
theorem idx1 : ∀ t : Fin grid0.N, win0_1.index t 0 = 0 ∧ win0_1.index t 1 = 0 := by decide +kernel

@[inherit_doc idx1]
theorem emb1 (t : Fin cfg0.N) (y1 : Fin 2048) :
    ((win0_1.rect t).emb (ix2 0 y1) : S1x2048.Idx) = ix2 0 y1 :=
  Cert.Norm.eq_row _ _ ((Pipeline.Window.rect_emb_val win0_1 t _ _).trans (congrArg (· * 2048 + y1.val) (idx1 t).2))

/-- Window 1's block at a point, the gains. -/
theorem blk1 (t : Fin cfg0.N) (d : Fin 2048) : (iblk m c 1 t : S1x2048.Idx → EReal) (ix2 0 d) = X1 m c (ix1 d) := by
  show (V m c main_v0 : S1x2048.Idx → EReal) ((win0_1.rect t).emb (ix2 0 d)) = _
  rw [emb1]; exact V_v0 m c d

/-- Window 2's block at a point and where the block's elements lie in its array. -/
theorem idx2 : ∀ t : Fin grid0.N, win0_2.index t 0 = t.val ∧ win0_2.index t 1 = 0 := by decide +kernel

@[inherit_doc idx2]
theorem emb2 (t : Fin cfg0.N) (y0 : Fin 512) (y1 : Fin 2048) :
    ((win0_2.rect t).emb (ix2 y0 y1) : S2048x2048.Idx) = ix2 (rowOf t y0) y1 :=
  Cert.Norm.eq_rows _ _ _ _ ((Pipeline.Window.rect_emb_val win0_2 t _ _).trans (congrArg (· * 512 + y0.val) (idx2 t).1))
    ((Pipeline.Window.rect_emb_val win0_2 t _ _).trans (congrArg (· * 2048 + y1.val) (idx2 t).2))

/-- A load of a whole block reads the block. -/
theorem l0 (X : Vec Ideal S512x2048 .f32) : View.ld X r0_0 = X := View.ld_unit_zero hz2 _ X

/-- A load of a whole block reads the block. -/
theorem l1 (X : Vec Ideal S1x2048 .f32) : View.ld X r0_1 = X := View.ld_unit_zero hz2 _ X

/-- What the body leaves in its output block, read at an element. -/
theorem out_apply (x0 : Vec Ideal S512x2048 .f32) (x1 : Vec Ideal S1x2048 .f32) (r : Fin 512) (d : Fin 2048) :
    (out0_2 (F := Ideal) x0 x1 (ix2 r d) : EReal) = nrm (fun k => x0 (ix2 r k)) (fun k => x1 (ix2 0 k)) d := by
  unfold out0_2
  rw [View.canon_unit_zero hz2]
  simp only [l0, l1]
  unfold k0_pay1 nrm rs ms
  pointwise
  try rfl

/-- The array the reference leaves, over the kernel's arguments. -/
def G : S2048x2048.Idx → EReal := Cert.NormReferenceIdeal.Read.val_main_v13 (F := Ideal) (X0 m c) (X1 m c)

/-- The block a point leaves is that point's block of the reference's array. -/
theorem flushed_eq (t : Fin cfg0.N) :
    (dats m 0 c).flushed 2 t = ((cfg0.win 2).blk t).view.read (Elt Ideal) (G m c) := by
  rw [Value.flushed2]
  funext y
  obtain ⟨y0, y1, rfl⟩ : ∃ (y0 : Fin 512) (y1 : Fin 2048), y = (ix2 y0 y1) := ⟨y 0, y 1, eq_ix2 y⟩
  refine (out_apply (iblk m c 0 t) (iblk m c 1 t) y0 y1).trans ?_
  show _ = G m c ((win0_2.rect t).emb (ix2 y0 y1))
  rw [emb2]
  refine Eq.trans ?_ (R.ref_apply (X0 m c) (X1 m c) _ _).symm
  exact congrArg₂ (fun a b => nrm a b y1) (funext fun k => blk0 m c t y0 k) (funext fun k => blk1 m c t k)

/-- Every element of the array lies in some point's block. -/
theorem cover (i : S2048x2048.Idx) : ∃ t : Fin cfg0.N, (cfg0.win 2).flush t = true ∧ i ∈ ((cfg0.win 2).blk t).view.set := by
  obtain ⟨t, ht, r, e⟩ := Cert.Norm.exists_row (i 0)
  have hN : t < cfg0.N := lt_of_lt_of_eq ht N_0.symm
  have e' : ((win0_2.rect ⟨t, hN⟩).emb (ix2 r (i 1)) : S2048x2048.Idx) = i := (emb2 _ r (i 1)).trans ((congrArg (ix2 · (i 1)) e).trans (eq_ix2 i).symm)
  exact ⟨⟨t, hN⟩, flush0_2 _, e' ▸ View.emb_mem_set ((cfg0.win 2).blk ⟨t, hN⟩).view (ix2 r (i 1))⟩

/-- The array the kernel leaves. -/
theorem final : (dats m 0 c).arrAt 2 cfg0.N = G m c :=
  (dats m 0 c).arrAt_eq_of_cover 2 (G m c) (fun t _ => flushed_eq m c t) cover

end Cert.Norm.V

namespace Cert.Norm

open Idealize.ShloMosaic Idealize.ShloMosaic.TcCoe Idealize.SL.Sem

/-- Over the real numbers with infinities, the kernel and its reference leave the same arrays. -/
theorem algebraic : Cert.algebraic_NormKernelIdeal_NormReferenceIdeal := by
  intro m ρ m' ρ' _ hagree
  refine ⟨fun c => V.G m c, ?_, ?_⟩
  · exact (θ_run Cert.NormKernelIdeal.defs _ _).mono (fun r h c => ⟨(h c).1.trans (V.final m c), (h c).2⟩)
      (Cert.NormKernelIdeal.Value.run_blocks (F := Ideal) m ρ)
  · refine (θ_run Cert.NormReferenceIdeal.defs _ _).mono (fun r h c => ?_) (Cert.NormReferenceIdeal.Value.run (F := Ideal) m' ρ')
    obtain ⟨a0, a1⟩ := hagree c
    refine ⟨(h c).1.trans ((Cert.NormReferenceIdeal.Read.val_main_v13_eq (m' ((c.tc : Thread _ _).loc Cert.NormReferenceIdeal.main_arg0)) (m' ((c.tc : Thread _ _).loc Cert.NormReferenceIdeal.main_arg1))).trans ?_), (h c).2⟩
    · show Cert.NormReferenceIdeal.Read.val_main_v13 (F := Ideal) (m' ((c.tc : Thread _ _).loc Cert.NormReferenceIdeal.main_arg0)) (m' ((c.tc : Thread _ _).loc Cert.NormReferenceIdeal.main_arg1)) = _
      rw [a0, a1]
      rfl

end Cert.Norm
-- ==== Proof.DnormValue.lean ====
module

public import proofs.«01_k».proof.Defs
public import proofs.«01_k».proof.Proof.NormSpec
public import proofs.«01_k».proof.Proof.Gen.DnormKernelIdeal.Value
public import proofs.«01_k».proof.Proof.Gen.DnormReferenceIdeal.Run
public import proofs.«01_k».proof.Proof.Gen.DnormReferenceIdeal.Read
public import Idealize.ShloMosaic.Lib.Pointwise
public import Idealize.ShloMosaic.Lib.Pipeline.Value
public import Idealize.ShloMosaic.Lib.Pipeline.ReadBack

/-! The gradient of the layer's RMS normalisation: the blocks of the kernel make up the reference's arrays. -/

@[expose] public section

set_option maxRecDepth 16384

noncomputable section

namespace Cert.Dnorm.R

open Idealize.ShloMosaic Cert.DnormReferenceIdeal Cert.DnormReferenceIdeal.Gen Cert.DnormReferenceIdeal.Read
open Cert.Norm

variable (x0 : FVec Ideal S2048x2048 .f32) (x1 : FVec Ideal S2048 .f32) (x2 x3 : FVec Ideal S2048x2048 .f32)

/-- The mean square. -/
theorem v6 (r : Fin 2048) : (val_main_v6 (F := Ideal) x0 (ix2 r 0) : EReal) = ms (fun k => x0 (ix2 r k)) := by
  unfold ms
  pointwise [val_main_v6, val_main_v5, val_main_v4, val_main_v3, val_main_v2, val_main_v1, val_main_v0, val_main_cst, val_main_cst_0, val_main_cst_1]
  try rfl

/-- The reciprocal root. -/
theorem v7 (r : Fin 2048) : (val_main_v7 (F := Ideal) x0 (ix2 r 0) : EReal) = rs (fun k => x0 (ix2 r k)) := by
  unfold rs
  rw [← v6]
  pointwise [val_main_v7]
  try rfl

/-- The gradient of the mean square, divided by the row's length. -/
theorem v30 (r : Fin 2048) :
    (val_main_v30 (F := Ideal) x0 x1 x2 (ix1 r) : EReal) = q (fun k => x0 (ix2 r k)) (fun k => x1 (ix1 k)) (fun k => x2 (ix2 r k)) := by
  unfold q
  rw [← v7, ← v6]
  pointwise [val_main_v30, val_main_v29, val_main_v28, val_main_v27, val_main_v24, val_main_v23, val_main_v22, val_main_v20, val_main_v19, val_main_v13, val_main_v10, val_main_v9, val_main_v8, val_main_cst_2, val_main_cst_5, val_main_cst_6, val_main_cst_7]
  try simp only [Fin.sum_univ_one, Fin.isValue]
  try rfl

/-- The gradient that flows past the layer plus the normalised row's. -/
theorem v36 (r d : Fin 2048) :
    (val_main_v36 (F := Ideal) x0 x1 x2 x3 (ix2 r d) : EReal)
      = x3 (ix2 r d) + dx (fun k => x0 (ix2 r k)) (fun k => x1 (ix1 k)) (fun k => x2 (ix2 r k)) d := by
  unfold dx
  rw [← v30, ← v7]
  pointwise [val_main_v36, val_main_v35, val_main_v34, val_main_v33, val_main_v32, val_main_v31, val_main_v26, val_main_v25, val_main_v20, val_main_v19, val_main_v13]
  try rfl

/-- The same, rounded: over the real numbers with infinities the same number. -/
theorem v37 (i : S2048x2048.Idx) : (val_main_v37 (F := Ideal) x0 x1 x2 x3 i : EReal) = val_main_v36 (F := Ideal) x0 x1 x2 x3 i := by
  unfold val_main_v37
  generalize val_main_v36 (F := Ideal) x0 x1 x2 x3 = y
  pointwise

/-- The gradient of the gains: the sum of the rows' parts. -/
theorem v38 (d : Fin 2048) :
    (val_main_v38 (F := Ideal) x0 x2 (ix2 0 d) : EReal)
      = ∑ r : Fin 2048, dg (fun k => x0 (ix2 r k)) (fun k => x2 (ix2 r k)) d := by
  unfold dg
  simp only [← v7]
  pointwise [val_main_v38, val_main_v21, val_main_v18, val_main_v17, val_main_v16, val_main_v12, val_main_v11, val_main_cst_3, val_main_cst_4]
  try simp only [Fin.sum_univ_one, Fin.isValue]
  try rfl

end Cert.Dnorm.R

namespace Cert.Dnorm.V

open Idealize.ShloMosaic Idealize.ShloMosaic.TcCoe Idealize.SL.Sem
open Idealize.ShloMosaic.Pipeline (Dat)
open Cert.DnormKernelIdeal Cert.DnormKernelIdeal.Gen

variable (m : (ℓ : Loc nD τ sig) → Buf (Elt Ideal) ℓ) (ρ : Dev nD → PrngReg) (c : Dev nD)

/-- The arguments. -/ abbrev X0 : S2048x2048.Idx → EReal := m ((c : Thread nD τ).loc main_arg0)
@[inherit_doc X0] abbrev X1 : S2048.Idx → EReal := m ((c : Thread nD τ).loc main_arg1)
@[inherit_doc X0] abbrev X2 : S2048x2048.Idx → EReal := m ((c : Thread nD τ).loc main_arg2)
@[inherit_doc X0] abbrev X3 : S2048x2048.Idx → EReal := m ((c : Thread nD τ).loc main_arg3)

theorem hz2 : (![0, 0] : Fin 2 → Nat) = fun _ => 0 := funext fun a => by fin_cases a <;> rfl

/-- The grid has four points. -/
theorem tN (t : Fin cfg0.N) : t.val < 4 := N_0 ▸ t.isLt

/-- The array's row that row `r` of a point's block is. -/
abbrev rowOf (t : Fin cfg0.N) (r : Fin 512) : Fin 2048 := Cert.Norm.rowAt t.val (tN t) r

/-- The gains as the host hands them to the kernel: a unit axis put before them. -/
theorem V_v0 (d : Fin 2048) : (V m c main_v0 : S1x2048.Idx → EReal) (ix2 0 d) = X1 m c (ix1 d) := by
  show (broadcastInDim S1x2048 ![1] bcast_S2048_S1x2048_1 (X1 m c) : S1x2048.Idx → EReal) (ix2 0 d) = _
  pointwise

/-- Window 0's block at a point and where the block's elements lie in its array. -/
theorem idx0 : ∀ t : Fin grid0.N, win0_0.index t 0 = t.val ∧ win0_0.index t 1 = 0 := by decide +kernel

@[inherit_doc idx0]
theorem emb0 (t : Fin cfg0.N) (y0 : Fin 512) (y1 : Fin 2048) :
    ((win0_0.rect t).emb (ix2 y0 y1) : S2048x2048.Idx) = ix2 (rowOf t y0) y1 :=
  Cert.Norm.eq_rows _ _ _ _ ((Pipeline.Window.rect_emb_val win0_0 t _ _).trans (congrArg (· * 512 + y0.val) (idx0 t).1))
    ((Pipeline.Window.rect_emb_val win0_0 t _ _).trans (congrArg (· * 2048 + y1.val) (idx0 t).2))

/-- Window 0's block at a point, read from the argument. -/
theorem blk0 (t : Fin cfg0.N) (y0 : Fin 512) (y1 : Fin 2048) :
    (iblk m c 0 t : S512x2048.Idx → EReal) (ix2 y0 y1) = X0 m c (ix2 (rowOf t y0) y1) := by
  show (V m c main_arg0 : S2048x2048.Idx → EReal) ((win0_0.rect t).emb (ix2 y0 y1)) = _
  rw [V_main_arg0, emb0]

/-- Window 2's block at a point and where the block's elements lie in its array. -/
theorem idx2 : ∀ t : Fin grid0.N, win0_2.index t 0 = t.val ∧ win0_2.index t 1 = 0 := by decide +kernel

@[inherit_doc idx2]
theorem emb2 (t : Fin cfg0.N) (y0 : Fin 512) (y1 : Fin 2048) :
    ((win0_2.rect t).emb (ix2 y0 y1) : S2048x2048.Idx) = ix2 (rowOf t y0) y1 :=
  Cert.Norm.eq_rows _ _ _ _ ((Pipeline.Window.rect_emb_val win0_2 t _ _).trans (congrArg (· * 512 + y0.val) (idx2 t).1))
    ((Pipeline.Window.rect_emb_val win0_2 t _ _).trans (congrArg (· * 2048 + y1.val) (idx2 t).2))

/-- Window 2's block at a point, read from the argument. -/
theorem blk2 (t : Fin cfg0.N) (y0 : Fin 512) (y1 : Fin 2048) :
    (iblk m c 2 t : S512x2048.Idx → EReal) (ix2 y0 y1) = X2 m c (ix2 (rowOf t y0) y1) := by
  show (V m c main_arg2 : S2048x2048.Idx → EReal) ((win0_2.rect t).emb (ix2 y0 y1)) = _
  rw [V_main_arg2, emb2]

/-- Window 3's block at a point and where the block's elements lie in its array. -/
theorem idx3 : ∀ t : Fin grid0.N, win0_3.index t 0 = t.val ∧ win0_3.index t 1 = 0 := by decide +kernel

@[inherit_doc idx3]
theorem emb3 (t : Fin cfg0.N) (y0 : Fin 512) (y1 : Fin 2048) :
    ((win0_3.rect t).emb (ix2 y0 y1) : S2048x2048.Idx) = ix2 (rowOf t y0) y1 :=
  Cert.Norm.eq_rows _ _ _ _ ((Pipeline.Window.rect_emb_val win0_3 t _ _).trans (congrArg (· * 512 + y0.val) (idx3 t).1))
    ((Pipeline.Window.rect_emb_val win0_3 t _ _).trans (congrArg (· * 2048 + y1.val) (idx3 t).2))

/-- Window 3's block at a point, read from the argument. -/
theorem blk3 (t : Fin cfg0.N) (y0 : Fin 512) (y1 : Fin 2048) :
    (iblk m c 3 t : S512x2048.Idx → EReal) (ix2 y0 y1) = X3 m c (ix2 (rowOf t y0) y1) := by
  show (V m c main_arg3 : S2048x2048.Idx → EReal) ((win0_3.rect t).emb (ix2 y0 y1)) = _
  rw [V_main_arg3, emb3]

/-- Window 1's block at a point and where the block's elements lie in its array. -/
theorem idx1 : ∀ t : Fin grid0.N, win0_1.index t 0 = 0 ∧ win0_1.index t 1 = 0 := by decide +kernel

@[inherit_doc idx1]
theorem emb1 (t : Fin cfg0.N) (y1 : Fin 2048) :
    ((win0_1.rect t).emb (ix2 0 y1) : S1x2048.Idx) = ix2 0 y1 :=
  Cert.Norm.eq_row _ _ ((Pipeline.Window.rect_emb_val win0_1 t _ _).trans (congrArg (· * 2048 + y1.val) (idx1 t).2))

/-- Window 1's block at a point, the gains. -/
theorem blk1 (t : Fin cfg0.N) (d : Fin 2048) : (iblk m c 1 t : S1x2048.Idx → EReal) (ix2 0 d) = X1 m c (ix1 d) := by
  show (V m c main_v0 : S1x2048.Idx → EReal) ((win0_1.rect t).emb (ix2 0 d)) = _
  rw [emb1]; exact V_v0 m c d

/-- Window 4's block at a point and where the block's elements lie in its array. -/
theorem idx4 : ∀ t : Fin grid0.N, win0_4.index t 0 = t.val ∧ win0_4.index t 1 = 0 := by decide +kernel

@[inherit_doc idx4]
theorem emb4 (t : Fin cfg0.N) (y0 : Fin 512) (y1 : Fin 2048) :
    ((win0_4.rect t).emb (ix2 y0 y1) : S2048x2048.Idx) = ix2 (rowOf t y0) y1 :=
  Cert.Norm.eq_rows _ _ _ _ ((Pipeline.Window.rect_emb_val win0_4 t _ _).trans (congrArg (· * 512 + y0.val) (idx4 t).1))
    ((Pipeline.Window.rect_emb_val win0_4 t _ _).trans (congrArg (· * 2048 + y1.val) (idx4 t).2))

/-- Window 5's block at a point and where the block's elements lie in its array. -/
theorem idx5 : ∀ t : Fin grid0.N, win0_5.index t 0 = t.val ∧ win0_5.index t 1 = 0 := by decide +kernel

@[inherit_doc idx5]
theorem emb5 (t : Fin cfg0.N) (y0 : Fin 512) (y1 : Fin 2048) :
    ((win0_5.rect t).emb (ix2 y0 y1) : S2048x2048.Idx) = ix2 (rowOf t y0) y1 :=
  Cert.Norm.eq_rows _ _ _ _ ((Pipeline.Window.rect_emb_val win0_5 t _ _).trans (congrArg (· * 512 + y0.val) (idx5 t).1))
    ((Pipeline.Window.rect_emb_val win0_5 t _ _).trans (congrArg (· * 2048 + y1.val) (idx5 t).2))

/-- Window 6's block at a point and where the block's elements lie in its array. -/
theorem idx6 : ∀ t : Fin grid0.N, win0_6.index t 0 = 0 ∧ win0_6.index t 1 = 0 := by decide +kernel

@[inherit_doc idx6]
theorem emb6 (t : Fin cfg0.N) (y1 : Fin 2048) :
    ((win0_6.rect t).emb (ix2 0 y1) : S1x2048.Idx) = ix2 0 y1 :=
  Cert.Norm.eq_row _ _ ((Pipeline.Window.rect_emb_val win0_6 t _ _).trans (congrArg (· * 2048 + y1.val) (idx6 t).2))

/-- What a point at the start leaves: the gradient of the rows, the same rounded, and the gains' gradient. -/
theorem out_A (c : Dev nD) (i : grid0.Coords) (a1 : Memref sig .tc .vmem S512x2048 .f32) (h1 : a1.IsWhole) (a2 : Memref sig .tc .vmem S1x2048 .f32) (h2 : a2.IsWhole) (a3 : Memref sig .tc .vmem S512x2048 .f32) (h3 : a3.IsWhole) (a4 : Memref sig .tc .vmem S512x2048 .f32) (h4 : a4.IsWhole) (a5 : Memref sig .tc .vmem S512x2048 .f32) (h5 : a5.IsWhole) (a6 : Memref sig .tc .vmem S512x2048 .bf16) (h6 : a6.IsWhole) (a7 : Memref sig .tc .vmem S1x2048 .f32) (h7 : a7.IsWhole)
    (hc0 : cond0_0 i) (x0 : Vec Ideal S512x2048 .f32) (x1 : Vec Ideal S1x2048 .f32) (x2 x3 : Vec Ideal S512x2048 .f32) :
    out0_A_4 c i a1 h1 a2 h2 a3 h3 a4 h4 a5 h5 a6 h6 a7 h7 hc0 x0 x1 x2 x3 = k0_pay7 x0 x1 x2 x3 ∧ out0_A_5 c i a1 h1 a2 h2 a3 h3 a4 h4 a5 h5 a6 h6 a7 h7 hc0 x0 x1 x2 x3 = k0_pay1 (k0_pay7 x0 x1 x2 x3) ∧
      out0_A_6 c i a1 h1 a2 h2 a3 h3 a4 h4 a5 h5 a6 h6 a7 h7 hc0 x0 x1 x2 x3 = k0_pay3 (k0_pay6 x0 x2) (k0_pay2 (F := Ideal)) := by
  refine ⟨?_, ?_, ?_⟩
  · unfold out0_A_4
    rw [View.read_writes_eq_canon _ _ _ (cover0_A_4 c i a1 h1 a2 h2 a3 h3 a4 h4 a5 h5 a6 h6 a7 h7 hc0 x0 x1 x2 x3)]
    unfold kernelRun0_A
    dsimp only
    rw [View.canon_unit_zero hz2]
    simp only [View.readAt_eq_ld, h1.read_unread, h2.read_unread, h3.read_unread, h4.read_unread, h7.read_unread, View.ld_unit_zero (S := S512x2048) hz2, View.ld_unit_zero (S := S1x2048) hz2]
  · unfold out0_A_5
    rw [View.read_writes_eq_canon _ _ _ (cover0_A_5 c i a1 h1 a2 h2 a3 h3 a4 h4 a5 h5 a6 h6 a7 h7 hc0 x0 x1 x2 x3)]
    unfold kernelRun0_A
    dsimp only
    unfold kernelRun0_A.sl.r_1
    rw [View.canon_unit_zero hz2]
    simp only [View.readAt_eq_ld, h1.read_unread, h2.read_unread, h3.read_unread, h4.read_unread, h7.read_unread, View.ld_unit_zero (S := S512x2048) hz2, View.ld_unit_zero (S := S1x2048) hz2]
  · unfold out0_A_6
    rw [View.read_writes_eq_canon _ _ _ (cover0_A_6 c i a1 h1 a2 h2 a3 h3 a4 h4 a5 h5 a6 h6 a7 h7 hc0 x0 x1 x2 x3)]
    unfold kernelRun0_A
    dsimp only
    unfold kernelRun0_A.sl.r kernelRun0_A.sl.v45
    rw [View.canon_cons_unit_zero hz2]
    try unfold kernelRun0_A.sl.H6_1
    rw [View.readCov_fill _ _ _ _ _ (by decide)]
    simp only [View.readAt_eq_ld, h1.read_unread, h2.read_unread, h3.read_unread, h4.read_unread, h7.read_unread, View.ld_unit_zero (S := S512x2048) hz2, View.ld_unit_zero (S := S1x2048) hz2]

/-- What a point past the start leaves: the gradient of the rows, the same rounded, and the gains' gradient. -/
theorem out_B (c : Dev nD) (i : grid0.Coords) (a1 : Memref sig .tc .vmem S512x2048 .f32) (h1 : a1.IsWhole) (a2 : Memref sig .tc .vmem S1x2048 .f32) (h2 : a2.IsWhole) (a3 : Memref sig .tc .vmem S512x2048 .f32) (h3 : a3.IsWhole) (a4 : Memref sig .tc .vmem S512x2048 .f32) (h4 : a4.IsWhole) (a5 : Memref sig .tc .vmem S512x2048 .f32) (h5 : a5.IsWhole) (a6 : Memref sig .tc .vmem S512x2048 .bf16) (h6 : a6.IsWhole) (a7 : Memref sig .tc .vmem S1x2048 .f32) (h7 : a7.IsWhole)
    (hc0 : ¬cond0_0 i) (x0 : Vec Ideal S512x2048 .f32) (x1 : Vec Ideal S1x2048 .f32) (x2 x3 : Vec Ideal S512x2048 .f32) (xo : Vec Ideal S1x2048 .f32) :
    out0_B_4 c i a1 h1 a2 h2 a3 h3 a4 h4 a5 h5 a6 h6 a7 h7 hc0 x0 x1 x2 x3 xo = k0_pay7 x0 x1 x2 x3 ∧ out0_B_5 c i a1 h1 a2 h2 a3 h3 a4 h4 a5 h5 a6 h6 a7 h7 hc0 x0 x1 x2 x3 xo = k0_pay1 (k0_pay7 x0 x1 x2 x3) ∧
      out0_B_6 c i a1 h1 a2 h2 a3 h3 a4 h4 a5 h5 a6 h6 a7 h7 hc0 x0 x1 x2 x3 xo = k0_pay3 (k0_pay6 x0 x2) xo := by
  refine ⟨?_, ?_, ?_⟩
  · unfold out0_B_4
    rw [View.read_writes_eq_canon _ _ _ (cover0_B_4 c i a1 h1 a2 h2 a3 h3 a4 h4 a5 h5 a6 h6 a7 h7 hc0 x0 x1 x2 x3 xo)]
    unfold kernelRun0_B
    dsimp only
    rw [View.canon_unit_zero hz2]
    simp only [View.readAt_eq_ld, h1.read_unread, h2.read_unread, h3.read_unread, h4.read_unread, h7.read_unread, View.ld_unit_zero (S := S512x2048) hz2, View.ld_unit_zero (S := S1x2048) hz2]
  · unfold out0_B_5
    rw [View.read_writes_eq_canon _ _ _ (cover0_B_5 c i a1 h1 a2 h2 a3 h3 a4 h4 a5 h5 a6 h6 a7 h7 hc0 x0 x1 x2 x3 xo)]
    unfold kernelRun0_B
    dsimp only
    unfold kernelRun0_B.sl.r_1
    rw [View.canon_unit_zero hz2]
    simp only [View.readAt_eq_ld, h1.read_unread, h2.read_unread, h3.read_unread, h4.read_unread, h7.read_unread, View.ld_unit_zero (S := S512x2048) hz2, View.ld_unit_zero (S := S1x2048) hz2]
  · unfold out0_B_6
    rw [View.read_writes_eq_canon _ _ _ (cover0_B_6 c i a1 h1 a2 h2 a3 h3 a4 h4 a5 h5 a6 h6 a7 h7 hc0 x0 x1 x2 x3 xo)]
    unfold kernelRun0_B
    dsimp only
    unfold kernelRun0_B.sl.r
    rw [View.canon_unit_zero hz2]
    simp only [View.readAt_eq_ld, h1.read_unread, h2.read_unread, h3.read_unread, h4.read_unread, h7.read_unread, View.ld_unit_zero (S := S512x2048) hz2, View.ld_unit_zero (S := S1x2048) hz2]

section
open Cert.Norm

variable (x0 : Vec Ideal S512x2048 .f32) (x1 : Vec Ideal S1x2048 .f32) (x2 x3 : Vec Ideal S512x2048 .f32)

/-- The mean square of a block's row. -/
theorem pay4 (r : Fin 512) : (k0_pay4 (F := Ideal) x0 (ix2 r 0) : EReal) = ms (fun k => x0 (ix2 r k)) := by
  unfold k0_pay4 ms
  pointwise
  try rfl

/-- The reciprocal root. -/
theorem pay5 (r : Fin 512) : (k0_pay5 (F := Ideal) x0 (ix2 r 0) : EReal) = rs (fun k => x0 (ix2 r k)) := by
  unfold k0_pay5 rs
  rw [← pay4]
  generalize k0_pay4 x0 = y
  pointwise
  try rfl

/-- The gradient of a block's row. -/
theorem pay7 (r : Fin 512) (d : Fin 2048) :
    (k0_pay7 (F := Ideal) x0 x1 x2 x3 (ix2 r d) : EReal)
      = x3 (ix2 r d) + dx (fun k => x0 (ix2 r k)) (fun k => x1 (ix2 0 k)) (fun k => x2 (ix2 r k)) d := by
  unfold k0_pay7 dx q
  rw [← pay5, ← pay4]
  generalize k0_pay5 x0 = y
  generalize k0_pay4 x0 = z
  pointwise
  try simp only [Fin.sum_univ_one, Fin.isValue]
  try rfl

/-- The same, rounded. -/
theorem pay1 (v : FVec Ideal S512x2048 .f32) (i : S512x2048.Idx) : (k0_pay1 (F := Ideal) v i : EReal) = v i := by
  unfold k0_pay1
  pointwise

/-- The block's part of the gains' gradient. -/
theorem pay6 (d : Fin 2048) :
    (k0_pay6 (F := Ideal) x0 x2 (ix2 0 d) : EReal) = ∑ r : Fin 512, dg (fun k => x0 (ix2 r k)) (fun k => x2 (ix2 r k)) d := by
  unfold k0_pay6 dg
  simp only [← pay5]
  generalize k0_pay5 x0 = y
  pointwise
  try rfl

/-- A point adds its part to what the block holds. -/
theorem pay3 (v w : FVec Ideal S1x2048 .f32) (d : Fin 2048) : (k0_pay3 (F := Ideal) v w (ix2 0 d) : EReal) = w (ix2 0 d) + v (ix2 0 d) := by
  unfold k0_pay3
  pointwise
  try rfl

/-- The block starts from zero. -/
theorem pay2 (d : Fin 2048) : (k0_pay2 (F := Ideal) (ix2 0 d) : EReal) = 0 := by
  unfold k0_pay2
  pointwise

end

/-- What the first two output blocks hold after a point. -/
theorem outs_1 (t : Fin cfg0.N) : (outsAt0 m c t.val t.isLt).1 = k0_pay7 (iblk m c 0 t) (iblk m c 1 t) (iblk m c 2 t) (iblk m c 3 t) := by
  by_cases h0 : t.val % 4 = 0
  · rw [outsAt0_A m c t h0]; dsimp only; rw [(out_A _ _ _ _ _ _ _ _ _ _ _ _ _ _ _ _ _ _ _ _ _).1]
  · rw [outsAt0_B m c t h0]; dsimp only; rw [(out_B _ _ _ _ _ _ _ _ _ _ _ _ _ _ _ _ _ _ _ _ _ _).1]

@[inherit_doc outs_1]
theorem outs_2 (t : Fin cfg0.N) : (outsAt0 m c t.val t.isLt).2.1 = k0_pay1 (k0_pay7 (iblk m c 0 t) (iblk m c 1 t) (iblk m c 2 t) (iblk m c 3 t)) := by
  by_cases h0 : t.val % 4 = 0
  · rw [outsAt0_A m c t h0]; dsimp only; rw [(out_A _ _ _ _ _ _ _ _ _ _ _ _ _ _ _ _ _ _ _ _ _).2.1]
  · rw [outsAt0_B m c t h0]; dsimp only; rw [(out_B _ _ _ _ _ _ _ _ _ _ _ _ _ _ _ _ _ _ _ _ _ _).2.1]

/-- What the gains' block holds after the first point. -/
theorem outs_3A (t : Fin cfg0.N) (h0 : t.val % 4 = 0) :
    (outsAt0 m c t.val t.isLt).2.2 = k0_pay3 (k0_pay6 (iblk m c 0 t) (iblk m c 2 t)) (k0_pay2 (F := Ideal)) := by
  rw [outsAt0_A m c t h0]; dsimp only; rw [(out_A _ _ _ _ _ _ _ _ _ _ _ _ _ _ _ _ _ _ _ _ _).2.2]

/-- What the gains' block holds after a later point. -/
theorem outs_3B (t : Fin cfg0.N) (h0 : ¬t.val % 4 = 0) :
    (outsAt0 m c t.val t.isLt).2.2 = k0_pay3 (k0_pay6 (iblk m c 0 t) (iblk m c 2 t))
      (outsAt0 m c (t.val - 1) (Nat.lt_of_le_of_lt (Nat.sub_le _ _) t.isLt)).2.2 := by
  rw [outsAt0_B m c t h0]; dsimp only; rw [(out_B _ _ _ _ _ _ _ _ _ _ _ _ _ _ _ _ _ _ _ _ _ _).2.2]

/-- The part of row `n` of the arguments in the gains' gradient; past the last row the rows start again. -/
def D (d : Fin 2048) (n : ℕ) : EReal :=
  Cert.Norm.dg (fun k => X0 m c (ix2 ⟨n % 2048, Nat.mod_lt _ (by decide)⟩ k)) (fun k => X2 m c (ix2 ⟨n % 2048, Nat.mod_lt _ (by decide)⟩ k)) d

/-- A point's part of the gains' gradient is the sum over the point's rows. -/
theorem tile (t : Fin cfg0.N) (d : Fin 2048) :
    (k0_pay6 (F := Ideal) (iblk m c 0 t) (iblk m c 2 t) (ix2 0 d) : EReal) = ∑ k ∈ Finset.range 512, D m c d (t.val * 512 + k) := by
  have ht := tN t
  refine (pay6 (iblk m c 0 t) (iblk m c 2 t) d).trans ?_
  rw [Finset.sum_range]
  refine Finset.sum_congr rfl fun r _ => ?_
  have e : (⟨(t.val * 512 + r.val) % 2048, Nat.mod_lt _ (by decide)⟩ : Fin 2048) = rowOf t r :=
    Fin.ext (by show (t.val * 512 + r.val) % 2048 = t.val * 512 + r.val; omega)
  unfold D
  rw [e]
  exact congrArg₂ (fun a b => Cert.Norm.dg a b d) (funext fun k => blk0 m c t r k) (funext fun k => blk2 m c t r k)

/-- What the gains' block holds after a point: the sum over the rows read so far. -/
theorem outs_3 : ∀ (n : ℕ) (h : n < cfg0.N) (d : Fin 2048),
    ((outsAt0 m c n h).2.2 (ix2 0 d) : EReal) = ∑ k ∈ Finset.range (n * 512 + 512), D m c d k
  | 0, h, d => by
    have e := outs_3A m c ⟨0, h⟩ rfl
    refine (congrFun e (ix2 0 d)).trans ((pay3 _ _ d).trans ?_)
    refine (congrArg₂ (· + ·) (pay2 d) (tile m c ⟨0, h⟩ d)).trans ?_
    simp
  | n + 1, h, d => by
    have hN : n + 1 < 4 := lt_of_lt_of_eq h N_0
    have e := outs_3B m c ⟨n + 1, h⟩ (by show ¬(n + 1) % 4 = 0; omega)
    refine (congrFun e (ix2 0 d)).trans ((pay3 _ _ d).trans ?_)
    refine (congrArg₂ (· + ·) (outs_3 n (Nat.lt_of_succ_lt h) d) (tile m c ⟨n + 1, h⟩ d)).trans ?_
    show _ + ∑ k ∈ Finset.range 512, D m c d ((n + 1) * 512 + k) = _
    rw [show n * 512 + 512 = (n + 1) * 512 by omega]
    exact (Finset.sum_range_add _ _ _).symm

/-- The gradient of a block's row is that of the reference's row. -/
theorem total (t : Fin cfg0.N) (y0 : Fin 512) (y1 : Fin 2048) :
    (k0_pay7 (F := Ideal) (iblk m c 0 t) (iblk m c 1 t) (iblk m c 2 t) (iblk m c 3 t) (ix2 y0 y1) : EReal)
      = Cert.DnormReferenceIdeal.Read.val_main_v36 (F := Ideal) (X0 m c) (X1 m c) (X2 m c) (X3 m c) (ix2 (rowOf t y0) y1) := by
  refine (pay7 (iblk m c 0 t) (iblk m c 1 t) (iblk m c 2 t) (iblk m c 3 t) y0 y1).trans
    (Eq.trans ?_ (R.v36 (X0 m c) (X1 m c) (X2 m c) (X3 m c) _ _).symm)
  refine congrArg₂ (· + ·) (blk3 m c t y0 y1) ?_
  rw [show (fun k => (iblk m c 0 t : S512x2048.Idx → EReal) (ix2 y0 k)) = _ from funext fun k => blk0 m c t y0 k,
    show (fun k => (iblk m c 2 t : S512x2048.Idx → EReal) (ix2 y0 k)) = _ from funext fun k => blk2 m c t y0 k,
    show (fun k => (iblk m c 1 t : S1x2048.Idx → EReal) (ix2 0 k)) = _ from funext fun k => blk1 m c t k]

/-- The array the reference leaves, over the kernel's arguments. -/
def G4 : S2048x2048.Idx → EReal := Cert.DnormReferenceIdeal.Read.val_main_v36 (F := Ideal) (X0 m c) (X1 m c) (X2 m c) (X3 m c)

/-- The block a point leaves is that point's block of the reference's array. -/
theorem flushed_eq4 (t : Fin cfg0.N) :
    (dats m 0 c).flushed 4 t = ((cfg0.win 4).blk t).view.read (Elt Ideal) (G4 m c) := by
  rw [Value.flushed4, outs_1]
  funext y
  obtain ⟨y0, y1, rfl⟩ : ∃ (y0 : Fin 512) (y1 : Fin 2048), y = (ix2 y0 y1) := ⟨y 0, y 1, eq_ix2 y⟩
  show _ = G4 m c ((win0_4.rect t).emb (ix2 y0 y1))
  rw [emb4]
  exact total m c t y0 y1

/-- Every element of the array lies in some point's block. -/
theorem cover4 (i : S2048x2048.Idx) : ∃ t : Fin cfg0.N, (cfg0.win 4).flush t = true ∧ i ∈ ((cfg0.win 4).blk t).view.set := by
  obtain ⟨t, ht, r, e⟩ := Cert.Norm.exists_row (i 0)
  have hN : t < cfg0.N := lt_of_lt_of_eq ht N_0.symm
  have e' : ((win0_4.rect ⟨t, hN⟩).emb (ix2 r (i 1)) : S2048x2048.Idx) = i := (emb4 _ r (i 1)).trans ((congrArg (ix2 · (i 1)) e).trans (eq_ix2 i).symm)
  exact ⟨⟨t, hN⟩, flush0_4 _, e' ▸ View.emb_mem_set ((cfg0.win 4).blk ⟨t, hN⟩).view (ix2 r (i 1))⟩

/-- The array the kernel leaves. -/
theorem final4 : (dats m 0 c).arrAt 4 cfg0.N = G4 m c :=
  (dats m 0 c).arrAt_eq_of_cover 4 (G4 m c) (fun t _ => flushed_eq4 m c t) cover4

/-- The array the reference leaves, over the kernel's arguments. -/
def G5 : S2048x2048.Idx → EReal := Cert.DnormReferenceIdeal.Read.val_main_v37 (F := Ideal) (X0 m c) (X1 m c) (X2 m c) (X3 m c)

/-- The block a point leaves is that point's block of the reference's array. -/
theorem flushed_eq5 (t : Fin cfg0.N) :
    (dats m 0 c).flushed 5 t = ((cfg0.win 5).blk t).view.read (Elt Ideal) (G5 m c) := by
  rw [Value.flushed5, outs_2]
  funext y
  obtain ⟨y0, y1, rfl⟩ : ∃ (y0 : Fin 512) (y1 : Fin 2048), y = (ix2 y0 y1) := ⟨y 0, y 1, eq_ix2 y⟩
  show _ = G5 m c ((win0_5.rect t).emb (ix2 y0 y1))
  rw [emb5]
  exact (pay1 _ (ix2 y0 y1)).trans ((total m c t y0 y1).trans (R.v37 (X0 m c) (X1 m c) (X2 m c) (X3 m c) _).symm)

/-- Every element of the array lies in some point's block. -/
theorem cover5 (i : S2048x2048.Idx) : ∃ t : Fin cfg0.N, (cfg0.win 5).flush t = true ∧ i ∈ ((cfg0.win 5).blk t).view.set := by
  obtain ⟨t, ht, r, e⟩ := Cert.Norm.exists_row (i 0)
  have hN : t < cfg0.N := lt_of_lt_of_eq ht N_0.symm
  have e' : ((win0_5.rect ⟨t, hN⟩).emb (ix2 r (i 1)) : S2048x2048.Idx) = i := (emb5 _ r (i 1)).trans ((congrArg (ix2 · (i 1)) e).trans (eq_ix2 i).symm)
  exact ⟨⟨t, hN⟩, flush0_5 _, e' ▸ View.emb_mem_set ((cfg0.win 5).blk ⟨t, hN⟩).view (ix2 r (i 1))⟩

/-- The array the kernel leaves. -/
theorem final5 : (dats m 0 c).arrAt 5 cfg0.N = G5 m c :=
  (dats m 0 c).arrAt_eq_of_cover 5 (G5 m c) (fun t _ => flushed_eq5 m c t) cover5

/-- The array the reference leaves, over the kernel's arguments. -/
def G6 : S1x2048.Idx → EReal := Cert.DnormReferenceIdeal.Read.val_main_v38 (F := Ideal) (X0 m c) (X2 m c)

/-- The block the last point leaves is the reference's array. -/
theorem flushed_eq6 (t : Fin cfg0.N) (hf : t.val % 4 = 3) :
    (dats m 0 c).flushed 6 t = ((cfg0.win 6).blk t).view.read (Elt Ideal) (G6 m c) := by
  have ht := tN t
  rw [Value.flushed6]
  funext y
  obtain ⟨y0, y1, rfl⟩ : ∃ (y0 : Fin 1) (y1 : Fin 2048), y = (ix2 y0 y1) := ⟨y 0, y 1, eq_ix2 y⟩
  obtain rfl : y0 = 0 := Subsingleton.elim _ _
  refine (outs_3 m c t.val t.isLt y1).trans ?_
  show _ = G6 m c ((win0_6.rect t).emb (ix2 0 y1))
  rw [emb6]
  refine Eq.trans ?_ (R.v38 (X0 m c) (X2 m c) _).symm
  rw [show t.val * 512 + 512 = 2048 by omega, Finset.sum_range]
  refine Finset.sum_congr rfl fun r _ => ?_
  unfold D
  rw [show (⟨r.val % 2048, Nat.mod_lt _ (by decide)⟩ : Fin 2048) = r from Fin.ext (Nat.mod_eq_of_lt r.isLt)]

/-- Every element of the array lies in the last point's block. -/
theorem cover6 (i : S1x2048.Idx) : ∃ t : Fin cfg0.N, (cfg0.win 6).flush t = true ∧ i ∈ ((cfg0.win 6).blk t).view.set := by
  obtain ⟨q0, q1, rfl⟩ : ∃ (q0 : Fin 1) (q1 : Fin 2048), i = (ix2 q0 q1) := ⟨i 0, i 1, eq_ix2 i⟩
  have hN : cfg0.N = 4 := N_0
  let t : Fin cfg0.N := ⟨3, by omega⟩
  refine ⟨t, (flush0_6 t).mpr rfl, ?_⟩
  have e : ((win0_6.rect t).emb (ix2 q0 q1) : S1x2048.Idx) = (ix2 q0 q1) := by
    obtain rfl : q0 = 0 := Subsingleton.elim _ _
    exact emb6 t q1
  exact e ▸ View.emb_mem_set ((cfg0.win 6).blk t).view (ix2 q0 q1)

/-- The array the kernel leaves. -/
theorem final6 : (dats m 0 c).arrAt 6 cfg0.N = G6 m c :=
  (dats m 0 c).arrAt_eq_of_cover 6 (G6 m c) (fun t h => flushed_eq6 m c t ((flush0_6 t).mp h)) cover6

end Cert.Dnorm.V

namespace Cert.Dnorm

open Idealize.ShloMosaic Idealize.ShloMosaic.TcCoe Idealize.SL.Sem

/-- Over the real numbers with infinities, the kernel and its reference leave the same arrays. -/
theorem algebraic : Cert.algebraic_DnormKernelIdeal_DnormReferenceIdeal := by
  intro m ρ m' ρ' _ hagree
  refine ⟨fun c => V.G4 m c, fun c => V.G5 m c, fun c => V.G6 m c, ?_, ?_⟩
  · exact (θ_run Cert.DnormKernelIdeal.defs _ _).mono (fun r h c => ⟨(h c).1.trans (V.final4 m c),
      (h c).2.1.trans (V.final5 m c), (h c).2.2.1.trans (V.final6 m c), (h c).2.2.2⟩)
      (Cert.DnormKernelIdeal.Value.run_blocks (F := Ideal) m ρ)
  · refine (θ_run Cert.DnormReferenceIdeal.defs _ _).mono (fun r h c => ?_) (Cert.DnormReferenceIdeal.Value.run (F := Ideal) m' ρ')
    obtain ⟨a0, a1, a2, a3⟩ := hagree c
    refine ⟨(h c).1.trans ((Cert.DnormReferenceIdeal.Read.val_main_v36_eq (m' ((c.tc : Thread _ _).loc Cert.DnormReferenceIdeal.main_arg0)) (m' ((c.tc : Thread _ _).loc Cert.DnormReferenceIdeal.main_arg1)) (m' ((c.tc : Thread _ _).loc Cert.DnormReferenceIdeal.main_arg2)) (m' ((c.tc : Thread _ _).loc Cert.DnormReferenceIdeal.main_arg3))).trans ?_),
      (h c).2.1.trans ((Cert.DnormReferenceIdeal.Read.val_main_v37_eq (m' ((c.tc : Thread _ _).loc Cert.DnormReferenceIdeal.main_arg0)) (m' ((c.tc : Thread _ _).loc Cert.DnormReferenceIdeal.main_arg1)) (m' ((c.tc : Thread _ _).loc Cert.DnormReferenceIdeal.main_arg2)) (m' ((c.tc : Thread _ _).loc Cert.DnormReferenceIdeal.main_arg3))).trans ?_),
      (h c).2.2.1.trans ((Cert.DnormReferenceIdeal.Read.val_main_v38_eq (m' ((c.tc : Thread _ _).loc Cert.DnormReferenceIdeal.main_arg0)) (m' ((c.tc : Thread _ _).loc Cert.DnormReferenceIdeal.main_arg2))).trans ?_), (h c).2.2.2⟩
    · show Cert.DnormReferenceIdeal.Read.val_main_v36 (F := Ideal) (m' ((c.tc : Thread _ _).loc Cert.DnormReferenceIdeal.main_arg0)) (m' ((c.tc : Thread _ _).loc Cert.DnormReferenceIdeal.main_arg1)) (m' ((c.tc : Thread _ _).loc Cert.DnormReferenceIdeal.main_arg2)) (m' ((c.tc : Thread _ _).loc Cert.DnormReferenceIdeal.main_arg3)) = _
      rw [a0, a1, a2, a3]
      rfl
    · show Cert.DnormReferenceIdeal.Read.val_main_v37 (F := Ideal) (m' ((c.tc : Thread _ _).loc Cert.DnormReferenceIdeal.main_arg0)) (m' ((c.tc : Thread _ _).loc Cert.DnormReferenceIdeal.main_arg1)) (m' ((c.tc : Thread _ _).loc Cert.DnormReferenceIdeal.main_arg2)) (m' ((c.tc : Thread _ _).loc Cert.DnormReferenceIdeal.main_arg3)) = _
      rw [a0, a1, a2, a3]
      rfl
    · show Cert.DnormReferenceIdeal.Read.val_main_v38 (F := Ideal) (m' ((c.tc : Thread _ _).loc Cert.DnormReferenceIdeal.main_arg0)) (m' ((c.tc : Thread _ _).loc Cert.DnormReferenceIdeal.main_arg2)) = _
      rw [a0, a2]
      rfl

end Cert.Dnorm
-- ==== Proof.GateValue.lean ====
module

public import proofs.«01_k».proof.Defs
public import proofs.«01_k».proof.Proof.SguSpec
public import proofs.«01_k».proof.Proof.Gen.GateKernelIdeal.Value
public import proofs.«01_k».proof.Proof.Gen.GateReferenceIdeal.Run
public import proofs.«01_k».proof.Proof.Gen.GateReferenceIdeal.Read
public import Idealize.ShloMosaic.Lib.Pointwise
public import Idealize.ShloMosaic.Lib.Pipeline.Value

/-! The gating's forward pass: the four blocks of the kernel make up the reference's array. -/

@[expose] public section

set_option maxRecDepth 16384

noncomputable section

open scoped BigOperators

namespace Cert.Gate.R

open Idealize.ShloMosaic Cert.Sgu Cert.GateReferenceIdeal Cert.GateReferenceIdeal.Gen Cert.GateReferenceIdeal.Read

variable (x0 : FVec Ideal S2048x6528 .f32) (x1 : FVec Ideal S4x128 .f32) (x2 : FVec Ideal S4x128x128 .f32)
    (x3 : FVec Ideal S4x128 .f32)

/-- Group `g` of the arguments; the forward pass reads no incoming gradient. -/
def grp (g : Fin 4) : Grp where
  u r d := x0 (ix2 r ⟨g.val * 128 + d.val, by omega⟩)
  v r d := x0 (ix2 r ⟨512 + (g.val * 128 + d.val), by omega⟩)
  dy _ _ := 0
  sg d := x1 (ix2 g d)
  w i j := x2 (ix3 g i j)
  b i := x3 (ix2 g i)

/-- The activated second input. -/
theorem v29 (r : Fin 2048) (c : Fin 512) :
    (val_main_v29 (F := Ideal) x0 (ix3 0 r c) : EReal) = gl (x0 (ix2 r ⟨512 + c.val, by omega⟩)) := by
  pointwise [val_main_v17, val_main_v18, val_main_v19, val_main_v20, val_main_v21, val_main_v22, val_main_v23, val_main_v24, val_main_v25, val_main_v26, val_main_v27, val_main_v28, val_main_v29, val_main_v2, val_main_v3, val_main_cst_3, val_main_cst_4, val_main_cst_5, val_main_cst_6]
  try rfl

/-- The activated first input. -/
theorem v16 (r : Fin 2048) (c : Fin 512) :
    (val_main_v16 (F := Ideal) x0 (ix3 0 r c) : EReal) = gl (x0 (ix2 r ⟨c.val, by omega⟩)) := by
  pointwise [val_main_v4, val_main_v5, val_main_v6, val_main_v7, val_main_v8, val_main_v9, val_main_v10, val_main_v11, val_main_v12, val_main_v13, val_main_v14, val_main_v15, val_main_v16, val_main_v0, val_main_v1, val_main_cst, val_main_cst_0, val_main_cst_1, val_main_cst_2]
  try rfl

/-- The activated second input, by groups. -/
theorem v30 (r : Fin 2048) (g : Fin 4) (d : Fin 128) :
    (val_main_v30 (F := Ideal) x0 (ix4 0 r g d) : EReal) = (grp x0 x1 x2 x3 g).G r d := by
  unfold val_main_v30
  pointwise []
  rw [v29]
  try rfl

/-- Its mean square. -/
theorem v37 (r : Fin 2048) (g : Fin 4) :
    (val_main_v37 (F := Ideal) x0 (ix4 0 r g 0) : EReal) = (grp x0 x1 x2 x3 g).ms r := by
  unfold Grp.ms
  simp only [← v30]
  pointwise [val_main_v31, val_main_v32, val_main_v33, val_main_v34, val_main_v35, val_main_v36, val_main_v37, val_main_cst_7, val_main_cst_8, val_main_cst_9]
  try rfl

/-- The reciprocal root. -/
theorem v38 (r : Fin 2048) (g : Fin 4) :
    (val_main_v38 (F := Ideal) x0 (ix4 0 r g 0) : EReal) = (grp x0 x1 x2 x3 g).rs r := by
  unfold Grp.rs
  rw [← v37]
  pointwise [val_main_v38]
  try rfl

/-- The normalised input with its gains. -/
theorem v43 (r : Fin 2048) (g : Fin 4) (d : Fin 128) :
    (val_main_v43 (F := Ideal) x0 x1 (ix4 0 r g d) : EReal) = (grp x0 x1 x2 x3 g).vn r d := by
  unfold Grp.vn Grp.xn
  rw [← v30, ← v38]
  pointwise [val_main_v39, val_main_v40, val_main_v41, val_main_v42, val_main_v43]
  try rfl

/-- The same, by chunks. -/
theorem v44 (c : Fin 16) (j : Fin 128) (g : Fin 4) (d : Fin 128) :
    (val_main_v44 (F := Ideal) x0 x1 (ix5 0 c j g d) : EReal) = (grp x0 x1 x2 x3 g).vn (row c j) d := by
  rw [← v43]
  unfold val_main_v44
  pointwise []
  try rfl

/-- A bit chosen by a bit is that bit. -/
theorem select_bit (p : BitVec 1) : (Scalar.select p 1#1 0#1 : BitVec 1) = p := by
  revert p; decide

/-- The triangle of the mask. -/
theorem mask (g : Fin 4) (i j : Fin 128) : val_main_call1_v0 (F := Ideal) (ix3 g i j) = tri i j := by
  pointwise [val_main_call1_v0, val_main_v47, val_main_v46, val_main_v45, val_main_c, val_main_call0_v0, val_main_call0_v1, val_main_call0_v2, val_main_call0_v3, val_main_call0_v4, val_main_call0_v5, val_main_call0_c, val_main_call0_c_0]
  rw [select_bit]
  simp [IntOp.addi]

/-- The mixing matrix without what looks ahead. -/
theorem v49 (g : Fin 4) (i j : Fin 128) :
    (val_main_v49 (F := Ideal) x2 (ix3 g i j) : EReal) = (grp x0 x1 x2 x3 g).wm i j := by
  unfold Grp.wm
  rw [← mask g]
  pointwise [val_main_v49, val_main_v48, val_main_cst_10]
  try rfl

/-- The mixed value. -/
theorem v56 (r : Fin 2048) (c : Fin 512) :
    (val_main_v56 (F := Ideal) x0 x1 x2 x3 (ix3 0 r c) : EReal) = (grp x0 x1 x2 x3 ⟨c.val / 128, by omega⟩).z r ⟨c.val % 128, by omega⟩ := by
  unfold Grp.z
  pointwise [val_main_v50, val_main_v51, val_main_v52, val_main_v53, val_main_v54, val_main_v55, val_main_v56]
  simp only [v44 x0 x1 x2 x3, v49 x0 x1 x2 x3]
  exact congrArg (· + _) (Finset.sum_congr rfl fun _ _ => mul_comm _ _)

/-- The gated value, rounded: over the real numbers with infinities, the gated value. -/
theorem v59 (r : Fin 2048) (c : Fin 512) :
    (val_main_v59 (F := Ideal) x0 x1 x2 x3 (ix2 r c) : EReal)
      = gl (x0 (ix2 r ⟨c.val, by omega⟩)) * (grp x0 x1 x2 x3 ⟨c.val / 128, by omega⟩).z r ⟨c.val % 128, by omega⟩ := by
  rw [← v16, ← v56]
  pointwise [val_main_v59, val_main_v58, val_main_v57]
  try rfl

end Cert.Gate.R

namespace Cert.Gate.K

open Idealize.ShloMosaic Cert.Sgu Cert.GateKernelIdeal Cert.GateKernelIdeal.Gen

variable (u v : FVec Ideal S2048x128 .f32) (sg : FVec Ideal S1x1x128 .f32) (w : FVec Ideal S1x128x128 .f32)
    (b : FVec Ideal S1x128x1 .f32)

/-- The group a grid point works on, from the blocks it reads. -/
def grp : Grp where
  u r d := u (ix2 r d)
  v r d := v (ix2 r d)
  dy _ _ := 0
  sg d := sg (ix3 0 0 d)
  w i j := w (ix3 0 i j)
  b i := b (ix3 0 i 0)

/-- The activated second input. -/
theorem pay6 (r : Fin 2048) (d : Fin 128) :
    (k0_pay6 (F := Ideal) v (ix2 r d) : EReal) = (grp u v sg w b).G r d := by
  unfold Grp.G; rw [← gl_alt]
  unfold k0_pay6
  pointwise
  rfl

/-- The activated first input. -/
theorem pay5 (r : Fin 2048) (d : Fin 128) :
    (k0_pay5 (F := Ideal) u (ix2 r d) : EReal) = gl (u (ix2 r d)) := by
  rw [← gl_alt]
  unfold k0_pay5
  pointwise
  rfl

/-- A row's sum of squares. -/
theorem pay7 (r : Fin 2048) :
    (k0_pay7 (F := Ideal) v (ix2 r 0) : EReal) = ∑ d : Fin 128, (grp u v sg w b).G r d * (grp u v sg w b).G r d := by
  simp only [← pay6]
  unfold k0_pay7
  pointwise
  try rfl

/-- The gains, read from their block. -/
theorem pay2 (d : Fin 128) : (k0_pay2 (F := Ideal) sg (ix2 0 d) : EReal) = (grp u v sg w b).sg d := by
  unfold k0_pay2
  pointwise
  try rfl

/-- The mixing matrix, read from its block. -/
theorem pay3 (i j : Fin 128) : (k0_pay3 (F := Ideal) w (ix2 i j) : EReal) = (grp u v sg w b).w i j := by
  unfold k0_pay3
  pointwise
  try rfl

/-- The offsets, read from their block. -/
theorem pay4 (i : Fin 128) : (k0_pay4 (F := Ideal) b (ix2 i 0) : EReal) = (grp u v sg w b).b i := by
  unfold k0_pay4
  pointwise
  try rfl

/-- What the body stores: the gated value. -/
theorem pay1 (r : Fin 2048) (d : Fin 128) :
    (k0_pay1 (F := Ideal) (k0_pay2 sg) (k0_pay3 w) (k0_pay4 b) (k0_pay5 u) (k0_pay6 v) (k0_pay7 v) (ix2 r d) : EReal)
      = gl (u (ix2 r d)) * (grp u v sg w b).z r d := by
  unfold Grp.z Grp.wm Grp.vn Grp.xn Grp.rs Grp.ms
  simp only [← pay7]
  simp only [← pay6, ← pay5, ← pay4, ← pay3, ← pay2]
  generalize k0_pay2 (F := Ideal) sg = y2
  generalize k0_pay3 (F := Ideal) w = y3
  generalize k0_pay4 (F := Ideal) b = y4
  generalize k0_pay5 (F := Ideal) u = y5
  generalize k0_pay7 (F := Ideal) v = y7
  generalize k0_pay6 (F := Ideal) v = y6
  unfold k0_pay1
  pointwise
  try rfl

end Cert.Gate.K

namespace Cert.Gate.V

open Idealize.ShloMosaic Idealize.ShloMosaic.TcCoe Idealize.SL.Sem
open Idealize.ShloMosaic.Pipeline (Dat)
open Cert.GateKernelIdeal Cert.GateKernelIdeal.Gen

variable (m : (ℓ : Loc nD τ sig) → Buf (Elt Ideal) ℓ) (ρ : Dev nD → PrngReg) (c : Dev nD)

/-- The four arguments. -/
abbrev X0 : S2048x6528.Idx → EReal := m ((c : Thread nD τ).loc main_arg0)
@[inherit_doc X0] abbrev X1 : S4x128.Idx → EReal := m ((c : Thread nD τ).loc main_arg1)
@[inherit_doc X0] abbrev X2 : S4x128x128.Idx → EReal := m ((c : Thread nD τ).loc main_arg2)
@[inherit_doc X0] abbrev X3 : S4x128.Idx → EReal := m ((c : Thread nD τ).loc main_arg3)

/-- The group a grid point works on. -/
def gp (t : Fin cfg0.N) : Fin 4 := ⟨t.val, N_0 ▸ t.isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The normalisation's weights as the host hands them to the kernel: a unit axis inserted. -/
theorem V_v0 (g : Fin 4) (d : Fin 128) : (V m c main_v0 : S4x1x128.Idx → EReal) (ix3 g 0 d) = X1 m c (ix2 g d) := by
  show (broadcastInDim S4x1x128 ![0, 2] bcast_S4x128_S4x1x128_0_2 (X1 m c) : S4x1x128.Idx → EReal) (ix3 g 0 d) = _
  pointwise

/-- The biases as the host hands them to the kernel: a unit axis appended. -/
theorem V_v1 (g : Fin 4) (i : Fin 128) : (V m c main_v1 : S4x128x1.Idx → EReal) (ix3 g i 0) = X3 m c (ix2 g i) := by
  show (broadcastInDim S4x128x1 ![0, 1] bcast_S4x128_S4x128x1_0_1 (X3 m c) : S4x128x1.Idx → EReal) (ix3 g i 0) = _
  pointwise

/-- Window 0 at a point: all rows, column block the point's. -/
theorem idx0 : ∀ t : Fin grid0.N, win0_0.index t 0 = 0 ∧ win0_0.index t 1 = t.val := by decide +kernel

/-- Window 1 at a point: all rows, column block four past the point's. -/
theorem idx1 : ∀ t : Fin grid0.N, win0_1.index t 0 = 0 ∧ win0_1.index t 1 = 4 + t.val := by decide +kernel

/-- Window 2 at a point: the point's slice of the first axis. -/
theorem idx2 : ∀ t : Fin grid0.N, win0_2.index t 0 = t.val ∧ win0_2.index t 1 = 0 ∧ win0_2.index t 2 = 0 := by decide +kernel

/-- Window 3 at a point: the point's slice of the first axis. -/
theorem idx3 : ∀ t : Fin grid0.N, win0_3.index t 0 = t.val ∧ win0_3.index t 1 = 0 ∧ win0_3.index t 2 = 0 := by decide +kernel

/-- Window 4 at a point: the point's slice of the first axis. -/
theorem idx4 : ∀ t : Fin grid0.N, win0_4.index t 0 = t.val ∧ win0_4.index t 1 = 0 ∧ win0_4.index t 2 = 0 := by decide +kernel

/-- Window 5 at a point: all rows, column block the point's. -/
theorem idx5 : ∀ t : Fin grid0.N, win0_5.index t 0 = 0 ∧ win0_5.index t 1 = t.val := by decide +kernel

/-- Where an element of window 0's block lies in its array. -/
theorem emb0 (t : Fin cfg0.N) (r : Fin 2048) (d : Fin 128) :
    ((win0_0.rect t).emb (ix2 r d) : (⟨2, ![2048, 6528]⟩ : Shape).Idx) = (ix2 r ⟨(gp t).val * 128 + d.val, by omega⟩ : (⟨2, ![2048, 6528]⟩ : Shape).Idx) := by
  funext a; apply Fin.ext
  match a with
  | ⟨0, _⟩ => exact Pipeline.Window.rect_emb_val_of_index_zero win0_0 t _ (idx0 t).1 _
  | ⟨1, _⟩ => exact (Pipeline.Window.rect_emb_val win0_0 t _ _).trans (congrArg (· * 128 + d.val) (idx0 t).2)

/-- Where an element of window 1's block lies in its array. -/
theorem emb1 (t : Fin cfg0.N) (r : Fin 2048) (d : Fin 128) :
    ((win0_1.rect t).emb (ix2 r d) : (⟨2, ![2048, 6528]⟩ : Shape).Idx) = (ix2 r ⟨512 + ((gp t).val * 128 + d.val), by omega⟩ : (⟨2, ![2048, 6528]⟩ : Shape).Idx) := by
  funext a; apply Fin.ext
  match a with
  | ⟨0, _⟩ => exact Pipeline.Window.rect_emb_val_of_index_zero win0_1 t _ (idx1 t).1 _
  | ⟨1, _⟩ =>
    refine (Pipeline.Window.rect_emb_val win0_1 t _ _).trans ?_
    show win0_1.index t 1 * 128 + d.val = 512 + (t.val * 128 + d.val)
    rw [(idx1 t).2]; omega

/-- Where an element of window 2's block lies in its array. -/
theorem emb2 (t : Fin cfg0.N) (i : Fin 1) (j : Fin 128) :
    ((win0_2.rect t).emb (ix3 0 i j) : (⟨3, ![4, 1, 128]⟩ : Shape).Idx) = (ix3 (gp t) i j : (⟨3, ![4, 1, 128]⟩ : Shape).Idx) := by
  funext a; apply Fin.ext
  match a with
  | ⟨0, _⟩ =>
    refine (Pipeline.Window.rect_emb_val win0_2 t _ _).trans ?_
    show win0_2.index t 0 * 1 + 0 = t.val
    rw [(idx2 t).1]; omega
  | ⟨1, _⟩ => exact Pipeline.Window.rect_emb_val_of_index_zero win0_2 t _ (idx2 t).2.1 _
  | ⟨2, _⟩ => exact Pipeline.Window.rect_emb_val_of_index_zero win0_2 t _ (idx2 t).2.2 _

/-- Where an element of window 3's block lies in its array. -/
theorem emb3 (t : Fin cfg0.N) (i : Fin 128) (j : Fin 128) :
    ((win0_3.rect t).emb (ix3 0 i j) : (⟨3, ![4, 128, 128]⟩ : Shape).Idx) = (ix3 (gp t) i j : (⟨3, ![4, 128, 128]⟩ : Shape).Idx) := by
  funext a; apply Fin.ext
  match a with
  | ⟨0, _⟩ =>
    refine (Pipeline.Window.rect_emb_val win0_3 t _ _).trans ?_
    show win0_3.index t 0 * 1 + 0 = t.val
    rw [(idx3 t).1]; omega
  | ⟨1, _⟩ => exact Pipeline.Window.rect_emb_val_of_index_zero win0_3 t _ (idx3 t).2.1 _
  | ⟨2, _⟩ => exact Pipeline.Window.rect_emb_val_of_index_zero win0_3 t _ (idx3 t).2.2 _

/-- Where an element of window 4's block lies in its array. -/
theorem emb4 (t : Fin cfg0.N) (i : Fin 128) (j : Fin 1) :
    ((win0_4.rect t).emb (ix3 0 i j) : (⟨3, ![4, 128, 1]⟩ : Shape).Idx) = (ix3 (gp t) i j : (⟨3, ![4, 128, 1]⟩ : Shape).Idx) := by
  funext a; apply Fin.ext
  match a with
  | ⟨0, _⟩ =>
    refine (Pipeline.Window.rect_emb_val win0_4 t _ _).trans ?_
    show win0_4.index t 0 * 1 + 0 = t.val
    rw [(idx4 t).1]; omega
  | ⟨1, _⟩ => exact Pipeline.Window.rect_emb_val_of_index_zero win0_4 t _ (idx4 t).2.1 _
  | ⟨2, _⟩ => exact Pipeline.Window.rect_emb_val_of_index_zero win0_4 t _ (idx4 t).2.2 _

/-- Where an element of window 5's block lies in its array. -/
theorem emb5 (t : Fin cfg0.N) (r : Fin 2048) (d : Fin 128) :
    ((win0_5.rect t).emb (ix2 r d) : (⟨2, ![2048, 512]⟩ : Shape).Idx) = (ix2 r ⟨(gp t).val * 128 + d.val, by omega⟩ : (⟨2, ![2048, 512]⟩ : Shape).Idx) := by
  funext a; apply Fin.ext
  match a with
  | ⟨0, _⟩ => exact Pipeline.Window.rect_emb_val_of_index_zero win0_5 t _ (idx5 t).1 _
  | ⟨1, _⟩ => exact (Pipeline.Window.rect_emb_val win0_5 t _ _).trans (congrArg (· * 128 + d.val) (idx5 t).2)

/-- The blocks the kernel reads at a point are the columns, slices and weights of the point's group. -/
theorem grp_eq (t : Fin cfg0.N) :
    Cert.Gate.K.grp (iblk m c 0 t) (iblk m c 1 t) (iblk m c 2 t) (iblk m c 3 t) (iblk m c 4 t)
      = Cert.Gate.R.grp (X0 m c) (X1 m c) (X2 m c) (X3 m c) (gp t) := by
  unfold Cert.Gate.K.grp Cert.Gate.R.grp
  congr 1
  · funext r d
    show (V m c main_arg0 : S2048x6528.Idx → EReal) ((win0_0.rect t).emb (ix2 r d)) = _
    rw [V_main_arg0, emb0]
  · funext r d
    show (V m c main_arg0 : S2048x6528.Idx → EReal) ((win0_1.rect t).emb (ix2 r d)) = _
    rw [V_main_arg0, emb1]
  · funext d
    show (V m c main_v0 : S4x1x128.Idx → EReal) ((win0_2.rect t).emb (ix3 0 0 d)) = _
    rw [emb2]; exact V_v0 m c _ d
  · funext i j
    show (V m c main_arg2 : S4x128x128.Idx → EReal) ((win0_3.rect t).emb (ix3 0 i j)) = _
    rw [V_main_arg2, emb3]
  · funext i
    show (V m c main_v1 : S4x128x1.Idx → EReal) ((win0_4.rect t).emb (ix3 0 i 0)) = _
    rw [emb4]; exact V_v1 m c _ i

theorem div_col (g d : Nat) (h : d < 128) : (g * 128 + d) / 128 = g := by omega
theorem mod_col (g d : Nat) (h : d < 128) : (g * 128 + d) % 128 = d := by omega

theorem l0 (X : Vec Ideal S2048x128 .f32) : View.ld X r0_0 = X := View.ld_unit_zero hz2 _ X
theorem l1 (X : Vec Ideal S1x1x128 .f32) : View.ld X r0_1 = X := View.ld_unit_zero hz3 _ X
theorem l2 (X : Vec Ideal S1x128x128 .f32) : View.ld X r0_2 = X := View.ld_unit_zero hz3 _ X
theorem l3 (X : Vec Ideal S1x128x1 .f32) : View.ld X r0_3 = X := View.ld_unit_zero hz3 _ X

/-- The array the reference leaves, over the kernel's arguments. -/
def G : S2048x512.Idx → EReal := Cert.GateReferenceIdeal.Read.val_main_v59 (F := Ideal) (X0 m c) (X1 m c) (X2 m c) (X3 m c)

/-- What the body leaves in its output block, read at an element. -/
theorem out_apply (u v : FVec Ideal S2048x128 .f32) (sg : FVec Ideal S1x1x128 .f32) (w : FVec Ideal S1x128x128 .f32) (b : FVec Ideal S1x128x1 .f32) (r : Fin 2048) (d : Fin 128) :
    (out0_5 (F := Ideal) u v sg w b (ix2 r d) : EReal) = Cert.Sgu.gl (u (ix2 r d)) * (Cert.Gate.K.grp u v sg w b).z r d := by
  unfold out0_5
  rw [View.canon_unit_zero hz2]
  simp only [l0, l1, l2, l3]
  exact Cert.Gate.K.pay1 u v sg w b r d

/-- The block a point leaves is that point's block of the reference's array. -/
theorem flushed_eq (t : Fin cfg0.N) :
    (dats m 0 c).flushed 5 t = ((cfg0.win 5).blk t).view.read (Elt Ideal) (G m c) := by
  rw [Value.flushed5]
  funext y
  obtain ⟨r, d, rfl⟩ : ∃ (r : Fin 2048) (d : Fin 128), y = ix2 r d := ⟨y 0, y 1, eq_ix2 y⟩
  refine (out_apply (iblk m c 0 t) (iblk m c 1 t) (iblk m c 2 t) (iblk m c 3 t) (iblk m c 4 t) r d).trans ?_
  rw [grp_eq]
  show _ = G m c ((win0_5.rect t).emb (ix2 r d))
  rw [emb5]
  refine Eq.trans ?_ (Cert.Gate.R.v59 (X0 m c) (X1 m c) (X2 m c) (X3 m c) r _).symm
  simp only [div_col _ _ d.isLt, mod_col _ _ d.isLt, Fin.eta]
  refine congrArg (fun z => Cert.Sgu.gl z * _) ?_
  show (V m c main_arg0 : S2048x6528.Idx → EReal) ((win0_0.rect t).emb (ix2 r d)) = _
  rw [V_main_arg0, emb0]

/-- The blocks of window 5 fill its array. -/
theorem cover (i : S2048x512.Idx) : ∃ t : Fin cfg0.N, (cfg0.win 5).flush t = true ∧ i ∈ ((cfg0.win 5).blk t).view.set := by
  obtain ⟨r, q, rfl⟩ : ∃ (r : Fin 2048) (q : Fin 512), i = ix2 r q := ⟨i 0, i 1, eq_ix2 i⟩
  have hN : cfg0.N = 4 := N_0
  let t : Fin cfg0.N := ⟨q.val / 128, by omega⟩
  refine ⟨t, flush0_5 _, ?_⟩
  have e : ((win0_5.rect t).emb (ix2 r ⟨q.val % 128, Nat.mod_lt _ (by decide)⟩) : S2048x512.Idx) = ix2 r q := by
    refine (emb5 t r ⟨q.val % 128, Nat.mod_lt _ (by decide)⟩).trans ?_
    refine congrArg (ix2 r) (Fin.ext ?_)
    show q.val / 128 * 128 + q.val % 128 = q.val
    omega
  exact e ▸ View.emb_mem_set ((cfg0.win 5).blk t).view (ix2 r ⟨q.val % 128, Nat.mod_lt _ (by decide)⟩)

/-- The array the kernel leaves. -/
theorem final : (dats m 0 c).arrAt 5 cfg0.N = G m c :=
  (dats m 0 c).arrAt_eq_of_cover 5 (G m c) (fun t _ => flushed_eq m c t) cover

end Cert.Gate.V

namespace Cert.Gate

open Idealize.ShloMosaic Idealize.ShloMosaic.TcCoe Idealize.SL.Sem

/-- Over the real numbers with infinities, the kernel and its reference leave the same arrays. -/
theorem algebraic : Cert.algebraic_GateKernelIdeal_GateReferenceIdeal := by
  intro m ρ m' ρ' _ hagree
  refine ⟨fun c => V.G m c, ?_, ?_⟩
  · exact (θ_run Cert.GateKernelIdeal.defs _ _).mono (fun r h c => ⟨(h c).1.trans (V.final m c), (h c).2⟩)
      (Cert.GateKernelIdeal.Value.run_blocks (F := Ideal) m ρ)
  · refine (θ_run Cert.GateReferenceIdeal.defs _ _).mono (fun r h c => ?_) (Cert.GateReferenceIdeal.Value.run (F := Ideal) m' ρ')
    obtain ⟨a0, a1, a2, a3⟩ := hagree c
    refine ⟨(h c).1.trans ((Cert.GateReferenceIdeal.Read.val_main_v59_eq m' c).trans ?_), (h c).2⟩
    · show Cert.GateReferenceIdeal.Read.val_main_v59 (F := Ideal) (m' ((c.tc : Thread _ _).loc Cert.GateReferenceIdeal.main_arg0)) (m' ((c.tc : Thread _ _).loc Cert.GateReferenceIdeal.main_arg1)) (m' ((c.tc : Thread _ _).loc Cert.GateReferenceIdeal.main_arg2)) (m' ((c.tc : Thread _ _).loc Cert.GateReferenceIdeal.main_arg3)) = _
      rw [a0, a1, a2, a3]
      rfl

end Cert.Gate
-- ==== Proof.DconvValue.lean ====
module

public import proofs.«01_k».proof.Defs
public import proofs.«01_k».proof.Proof.Swiglu
public import proofs.«01_k».proof.Proof.ScanReference
public import proofs.«01_k».proof.Proof.Gen.DconvKernelIdeal.Value
public import proofs.«01_k».proof.Proof.Gen.DconvReferenceIdeal.Run
public import proofs.«01_k».proof.Proof.Gen.DconvReferenceIdeal.Read
public import Idealize.ShloMosaic.Lib.Pointwise
public import Idealize.ShloMosaic.Lib.Pipeline.Value
public import Idealize.ShloMosaic.Lib.KernelVsHost
public import Idealize.ShloMosaic.Lib.WordCmp
public import Idealize.ShloMosaic.Lib.Pipeline.ValueKit.Tiles

/-! The gradient of the short causal convolution and its activation: the blocks of the kernel make up the reference's
    arrays. Every column is a convolution by itself, so the facts are stated for one column. -/

@[expose] public section

set_option maxRecDepth 16384

noncomputable section

open scoped BigOperators

namespace Cert.Dconv

open Idealize.ShloMosaic

/-- A column moved down by `s` rows, zeros above it. -/
def down (s : ℕ) (x : Fin 2048 → EReal) (p : Fin 2048) : EReal := if s ≤ p.val then x ⟨p.val - s, by omega⟩ else 0

/-- A column moved up by `s` rows, zeros below it. -/
def up (s : ℕ) (x : Fin 2048 → EReal) (p : Fin 2048) : EReal := if h : p.val + s < 2048 then x ⟨p.val + s, h⟩ else 0

/-- The convolution before its activation. -/
def pre (x : Fin 2048 → EReal) (w : Fin 4 → EReal) (p : Fin 2048) : EReal :=
  w 0 * down 3 x p + w 1 * down 2 x p + w 2 * down 1 x p + w 3 * x p

/-- The gradient that reaches the convolution. -/
def dpre (x : Fin 2048 → EReal) (w : Fin 4 → EReal) (g : Fin 2048 → EReal) (p : Fin 2048) : EReal :=
  Cert.Swiglu.dgate (g p) (pre x w p) 1

/-- The gradient of the input, from the gradient `y` that reaches the convolution. -/
def dx (w : Fin 4 → EReal) (y : Fin 2048 → EReal) (p : Fin 2048) : EReal :=
  w 3 * y p + w 0 * up 3 y p + w 1 * up 2 y p + w 2 * up 1 y p

/-- The gradient of tap `a`. -/
def dw (x y : Fin 2048 → EReal) (a : Fin 4) : EReal := ∑ p : Fin 2048, y p * down (3 - a.val) x p

/-- A selection, read at an index. -/
theorem select_at {s : Shape} {α : Type} (c : IVec s 1) (a b : s.Idx → α) (i : s.Idx) :
    select c a b i = if c i = 1 then a i else b i := rfl

end Cert.Dconv

namespace Cert.Dconv.R

open Idealize.ShloMosaic Cert.DconvReferenceIdeal Cert.DconvReferenceIdeal.Gen Cert.DconvReferenceIdeal.Read

variable (x0 : FVec Ideal S2048x6528 .f32) (x1 : FVec Ideal S4x2304 .f32) (x2 : FVec Ideal S2048x768 .f32) (p : Fin 2048) (j : Fin 768)

/-- Column `j` of the input, of the taps and of the incoming gradient. -/
def X (q : Fin 2048) : EReal := x0 (ix2 q ⟨2560 + j.val, by omega⟩)
@[inherit_doc X] def W (k : Fin 4) : EReal := x1 (ix2 k ⟨1536 + j.val, by omega⟩)
@[inherit_doc X] def D (q : Fin 2048) : EReal := x2 (ix2 q j)

/-- The input with zeros put before it. -/
theorem v4 (s : ℕ) (hs : s ≤ 3) (q : Fin 2051) (hq : q.val = 3 - s + p.val) :
    (val_main_v4 (F := Ideal) x0 (ix3 0 q j) : EReal) = down s (X x0 j) p := by
  unfold val_main_v4 down
  by_cases h : s ≤ p.val
  · rw [if_pos h]
    refine (concatenate_pair_apply_right (s₁ := S1x3x768) (s₂ := S1x2048x768) _ _ _ _ (ix3 0 q j : S1x2051x768.Idx) rfl rfl
      (ix3 0 ⟨p.val - s, by omega⟩ j : S1x2048x768.Idx) (fun b hb => ?_) ?_).trans ?_
    · match b with
      | ⟨0, _⟩ => rfl
      | ⟨1, _⟩ => exact absurd rfl hb
      | ⟨2, _⟩ => rfl
    · show p.val - s + 3 = q.val; omega
    · pointwise [val_main_v1, val_main_v0]
      rfl
  · rw [if_neg h]
    refine (concatenate_pair_apply_left (s₁ := S1x3x768) (s₂ := S1x2048x768) _ _ _ _ (ix3 0 q j : S1x2051x768.Idx) rfl
      (ix3 0 ⟨q.val, by omega⟩ j : S1x3x768.Idx) (fun b => ?_)).trans ?_
    · match b with
      | ⟨0, _⟩ => rfl
      | ⟨1, _⟩ => rfl
      | ⟨2, _⟩ => rfl
    · pointwise [val_main_v3, val_main_cst]

/-- A piece of the padded array. -/
theorem slice3 (k : ℕ) (hk : k ≤ 3) (y : FVec Ideal S1x2051x768 .f32) (h) :
    (extractStridedSlice S1x2048x768 ![0, k, 0] y h (ix3 0 p j) : EReal) = y (ix3 0 ⟨k + p.val, by omega⟩ j) :=
  extractStridedSlice_apply _ _ _ _ _ fun a => by
    match a with
    | ⟨0, _⟩ => rfl
    | ⟨1, _⟩ => rfl
    | ⟨2, _⟩ => exact (Nat.zero_add _).symm

/-- The moved inputs. -/
theorem moved : (val_main_v6 (F := Ideal) x0 (ix3 0 p j) : EReal) = down 3 (X x0 j) p
    ∧ (val_main_v14 (F := Ideal) x0 (ix3 0 p j) : EReal) = down 2 (X x0 j) p
    ∧ (val_main_v21 (F := Ideal) x0 (ix3 0 p j) : EReal) = down 1 (X x0 j) p
    ∧ (val_main_v28 (F := Ideal) x0 (ix3 0 p j) : EReal) = X x0 j p :=
  ⟨(slice3 p j 0 (by decide) _ _).trans (v4 x0 p j 3 (by decide) _ rfl), (slice3 p j 1 (by decide) _ _).trans (v4 x0 p j 2 (by decide) _ rfl),
    (slice3 p j 2 (by decide) _ _).trans (v4 x0 p j 1 (by decide) _ rfl), (slice3 p j 3 (by decide) _ _).trans (v4 x0 p j 0 (by decide) _ rfl)⟩

/-- The taps, one for every row. -/
theorem taps : (val_main_v10 (F := Ideal) x1 (ix3 0 p j) : EReal) = W x1 j 0 ∧ (val_main_v18 (F := Ideal) x1 (ix3 0 p j) : EReal) = W x1 j 1
    ∧ (val_main_v25 (F := Ideal) x1 (ix3 0 p j) : EReal) = W x1 j 2 ∧ (val_main_v32 (F := Ideal) x1 (ix3 0 p j) : EReal) = W x1 j 3 := by
  unfold W
  refine ⟨?_, ?_, ?_, ?_⟩ <;>
    pointwise [val_main_v10, val_main_v9, val_main_v8, val_main_v7, val_main_v18, val_main_v17, val_main_v16, val_main_v15, val_main_v25,
      val_main_v24, val_main_v23, val_main_v22, val_main_v32, val_main_v31, val_main_v30, val_main_v29, val_main_v2] <;> try rfl

/-- The convolution before its activation. -/
theorem v34 : (val_main_v34 (F := Ideal) x0 x1 (ix3 0 p j) : EReal) = pre (X x0 j) (W x1 j) p := by
  obtain ⟨m0, m1, m2, m3⟩ := moved x0 p j
  obtain ⟨t0, t1, t2, t3⟩ := taps x1 p j
  have z : (val_main_v12 (F := Ideal) (ix3 0 p j) : EReal) = 0 := by pointwise [val_main_v12, val_main_cst_1]
  unfold pre
  rw [← m0, ← m1, ← m2, ← m3, ← t0, ← t1, ← t2, ← t3, mul_comm, mul_comm (val_main_v18 (F := Ideal) x1 _ : EReal),
    mul_comm (val_main_v25 (F := Ideal) x1 _ : EReal), mul_comm (val_main_v32 (F := Ideal) x1 _ : EReal),
    ← zero_add ((val_main_v6 (F := Ideal) x0 _ : EReal) * _), ← z]
  rfl

/-- The gradient that reaches the convolution. -/
theorem v37 : (val_main_v37 (F := Ideal) x0 x1 x2 (ix3 0 p j) : EReal) = dpre (X x0 j) (W x1 j) (D x2 j) p := by
  unfold dpre Cert.Swiglu.dgate Cert.Swiglu.sig D
  rw [← v34, mul_one]
  unfold val_main_v37 val_main_call1_v1 val_main_call1_v2 val_main_call1_v0 val_main_v35_1 val_main_call0_v7 val_main_call0_v6
    val_main_call0_cst_1 val_main_v35_2 val_main_call0_v4 val_main_call0_cst_0 val_main_call0_v3 val_main_call0_v2 val_main_call0_cst
    val_main_call0_v1 val_main_call0_v0 val_main_v36
  generalize val_main_v34 (F := Ideal) x0 x1 = a
  pointwise

/-- A column with zeros put around it, read past the third row. -/
theorem pad_col (s : ℕ) (hs : s ≤ 3) (y : FVec Ideal S1x2048x768 .f32) (v : FVec Ideal S_ .f32) (hv : ∀ i, (v i : EReal) = 0)
    (h : S1x2048x768.Pads ![0, 3 - s, 0] ![0, s, 0] ![0, 0, 0] S1x2051x768) (hu) (i : Fin 2051) (hi : i.val = 3 + p.val) :
    (pad S1x2051x768 ![0, 3 - s, 0] ![0, s, 0] ![0, 0, 0] y v h hu (ix3 0 i j) : EReal) = up s (fun q => y (ix3 0 q j)) p := by
  unfold up
  by_cases hp : p.val + s < 2048
  · rw [dif_pos hp]
    refine pad_apply_of_inside _ _ _ y v h hu _ _ fun a => ?_
    match a with
    | ⟨0, _⟩ => rfl
    | ⟨1, _⟩ => show i.val = 3 - s + (p.val + s) * 1; omega
    | ⟨2, _⟩ => show j.val = 0 + j.val * 1; omega
  · rw [dif_neg hp]
    refine (pad_apply_of_not_inside _ _ _ y v h hu _ 1 fun hin => hp ?_).trans (hv _)
    have e : (i.val - (3 - s)) / (0 + 1) < 2048 := hin.2.2
    rw [Nat.div_one] at e; omega

/-- A row with zeros put around it, read at a row. -/
theorem pad_row (k : ℕ) (hk : k ≤ 3) (y : FVec Ideal S1x768 .f32) (v : FVec Ideal S_ .f32) (hv : ∀ i, (v i : EReal) = 0)
    (h : S1x768.Pads ![k, 0] ![3 - k, 0] ![0, 0] S4x768) (hu) (i : Fin 4) :
    (pad S4x768 ![k, 0] ![3 - k, 0] ![0, 0] y v h hu (ix2 i j) : EReal) = if i.val = k then (y (ix2 0 j) : EReal) else 0 := by
  by_cases hp : i.val = k
  · rw [if_pos hp]
    refine pad_apply_of_inside _ _ _ y v h hu _ _ fun a => ?_
    match a with
    | ⟨0, _⟩ => exact hp
    | ⟨1, _⟩ => show j.val = 0 + j.val * 1; omega
  · rw [if_neg hp]
    refine (pad_apply_of_not_inside _ _ _ y v h hu _ 0 fun hin => hp ?_).trans (hv _)
    have e : k ≤ i.val := hin.1
    have e' : (i.val - k) / (0 + 1) < 1 := hin.2.2
    rw [Nat.div_one] at e'; omega

/-- A moved product with a factor that is the same for every row. -/
theorem up_mul (s : ℕ) (y : Fin 2048 → EReal) (w : EReal) : up s (fun q => y q * w) p = w * up s y p := by
  unfold up
  split
  · exact mul_comm _ _
  · exact (mul_zero w).symm

/-- The four terms of the input's gradient. -/
theorem terms (i : Fin 2051) (hi : i.val = 3 + p.val) :
    (val_main_v79 (F := Ideal) x0 x1 x2 (ix3 0 i j) : EReal) = dx (W x1 j) (dpre (X x0 j) (W x1 j) (D x2 j)) p := by
  have k3 : ∀ q, (val_main_v42 (F := Ideal) x0 x1 x2 (ix3 0 q j) : EReal) = dpre (X x0 j) (W x1 j) (D x2 j) q * W x1 j 3 :=
    fun q => congrArg₂ (· * ·) (v37 x0 x1 x2 q j) (taps x1 q j).2.2.2
  have k2 : ∀ q, (val_main_v51 (F := Ideal) x0 x1 x2 (ix3 0 q j) : EReal) = dpre (X x0 j) (W x1 j) (D x2 j) q * W x1 j 2 :=
    fun q => congrArg₂ (· * ·) (v37 x0 x1 x2 q j) (taps x1 q j).2.2.1
  have k1 : ∀ q, (val_main_v62 (F := Ideal) x0 x1 x2 (ix3 0 q j) : EReal) = dpre (X x0 j) (W x1 j) (D x2 j) q * W x1 j 1 :=
    fun q => congrArg₂ (· * ·) (v37 x0 x1 x2 q j) (taps x1 q j).2.1
  have k0 : ∀ q, (val_main_v73 (F := Ideal) x0 x1 x2 (ix3 0 q j) : EReal) = dpre (X x0 j) (W x1 j) (D x2 j) q * W x1 j 0 :=
    fun q => congrArg₂ (· * ·) (v37 x0 x1 x2 q j) (taps x1 q j).1
  have e3 := pad_col p j 0 (by decide) (val_main_v42 (F := Ideal) x0 x1 x2) (val_main_cst_5 (F := Ideal)) (fun i => by pointwise [val_main_cst_5])
    pads_S1x2048x768_S1x2051x768_000_300_000 h_S_ i hi
  have e2 := pad_col p j 1 (by decide) (val_main_v51 (F := Ideal) x0 x1 x2) (val_main_cst_9 (F := Ideal)) (fun i => by pointwise [val_main_cst_9])
    pads_S1x2048x768_S1x2051x768_000_210_000 h_S_ i hi
  have e1 := pad_col p j 2 (by decide) (val_main_v62 (F := Ideal) x0 x1 x2) (val_main_cst_13 (F := Ideal)) (fun i => by pointwise [val_main_cst_13])
    pads_S1x2048x768_S1x2051x768_000_120_000 h_S_ i hi
  have e0 := pad_col p j 3 (by decide) (val_main_v73 (F := Ideal) x0 x1 x2) (val_main_cst_17 (F := Ideal)) (fun i => by pointwise [val_main_cst_17])
    pads_S1x2048x768_S1x2051x768_000_030_000 h_S_ i hi
  refine (congrArg₂ (· + ·) (congrArg₂ (· + ·) (congrArg₂ (· + ·) e3 e2) e1) e0).trans ?_
  rw [funext k3, funext k2, funext k1, funext k0, up_mul, up_mul, up_mul, up_mul]
  unfold dx
  rw [show up 0 (dpre (X x0 j) (W x1 j) (D x2 j)) p = dpre (X x0 j) (W x1 j) (D x2 j) p from dif_pos p.isLt]
  ac_rfl

/-- The input's gradient. -/
theorem v83 : (val_main_v83 (F := Ideal) x0 x1 x2 (ix2 p j) : EReal) = dx (W x1 j) (dpre (X x0 j) (W x1 j) (D x2 j)) p := by
  rw [← terms x0 x1 x2 p j ⟨3 + p.val, by omega⟩ rfl, ← slice3 p j 3 (by decide) (val_main_v79 (F := Ideal) x0 x1 x2) slices_S1x2051x768_S1x2048x768_0_3_0]
  show (val_main_v83 (F := Ideal) x0 x1 x2 (ix2 p j) : EReal) = val_main_v81 (F := Ideal) x0 x1 x2 (ix3 0 p j)
  pointwise [val_main_v83, val_main_v82]

/-- The sum of a product over the rows, as the reference forms it. -/
theorem rowsum : (val_main_v44 (F := Ideal) x0 x1 x2 (ix2 0 j) : EReal) = dw (X x0 j) (dpre (X x0 j) (W x1 j) (D x2 j)) 3
    ∧ (val_main_v53 (F := Ideal) x0 x1 x2 (ix2 0 j) : EReal) = dw (X x0 j) (dpre (X x0 j) (W x1 j) (D x2 j)) 2
    ∧ (val_main_v64 (F := Ideal) x0 x1 x2 (ix2 0 j) : EReal) = dw (X x0 j) (dpre (X x0 j) (W x1 j) (D x2 j)) 1
    ∧ (val_main_v75 (F := Ideal) x0 x1 x2 (ix2 0 j) : EReal) = dw (X x0 j) (dpre (X x0 j) (W x1 j) (D x2 j)) 0 := by
  have h : ∀ (k : Fin 4) (y : FVec Ideal S1x2048x768 .f32), (∀ q, (y (ix3 0 q j) : EReal) = down (3 - k.val) (X x0 j) q) →
      ∑ q : Fin 2048, (y (ix3 0 q j) : EReal) * val_main_v37 (F := Ideal) x0 x1 x2 (ix3 0 q j)
        = dw (X x0 j) (dpre (X x0 j) (W x1 j) (D x2 j)) k := fun k y hy =>
    Finset.sum_congr rfl fun q _ => by rw [hy, v37, mul_comm]
  refine ⟨Eq.trans ?_ (h 3 (val_main_v28 (F := Ideal) x0) fun q => (moved x0 q j).2.2.2),
    Eq.trans ?_ (h 2 (val_main_v21 (F := Ideal) x0) fun q => (moved x0 q j).2.2.1),
    Eq.trans ?_ (h 1 (val_main_v14 (F := Ideal) x0) fun q => (moved x0 q j).2.1),
    Eq.trans ?_ (h 0 (val_main_v6 (F := Ideal) x0) fun q => (moved x0 q j).1)⟩
  · pointwise [val_main_v44, val_main_v43, val_main_v40, val_main_v39, val_main_v38, val_main_cst_2, val_main_cst_3]
    simp only [Cert.Scan.R.hostReduceAdd_a01, Fin.sum_univ_one, Fin.isValue, zero_add]
    pointwise
  · pointwise [val_main_v53, val_main_v52, val_main_v49, val_main_v48, val_main_v47, val_main_cst_6, val_main_cst_7]
    simp only [Cert.Scan.R.hostReduceAdd_a01, Fin.sum_univ_one, Fin.isValue, zero_add]
    pointwise
  · pointwise [val_main_v64, val_main_v63, val_main_v60, val_main_v59, val_main_v58, val_main_cst_10, val_main_cst_11]
    simp only [Cert.Scan.R.hostReduceAdd_a01, Fin.sum_univ_one, Fin.isValue, zero_add]
    pointwise
  · pointwise [val_main_v75, val_main_v74, val_main_v71, val_main_v70, val_main_v69, val_main_cst_14, val_main_cst_15]
    simp only [Cert.Scan.R.hostReduceAdd_a01, Fin.sum_univ_one, Fin.isValue, zero_add]
    pointwise

/-- The taps' gradient. -/
theorem v77 (k : Fin 4) :
    (val_main_v77 (F := Ideal) x0 x1 x2 (ix2 k j) : EReal) = dw (X x0 j) (dpre (X x0 j) (W x1 j) (D x2 j)) k := by
  obtain ⟨r3, r2, r1, r0⟩ := rowsum x0 x1 x2 j
  have e3 := pad_row j 3 (by decide) (val_main_v44 (F := Ideal) x0 x1 x2) (val_main_cst_4 (F := Ideal)) (fun i => by pointwise [val_main_cst_4])
    pads_S1x768_S4x768_300_000 h_S_ k
  have e2 := pad_row j 2 (by decide) (val_main_v53 (F := Ideal) x0 x1 x2) (val_main_cst_8 (F := Ideal)) (fun i => by pointwise [val_main_cst_8])
    pads_S1x768_S4x768_210_000 h_S_ k
  have e1 := pad_row j 1 (by decide) (val_main_v64 (F := Ideal) x0 x1 x2) (val_main_cst_12 (F := Ideal)) (fun i => by pointwise [val_main_cst_12])
    pads_S1x768_S4x768_120_000 h_S_ k
  have e0 := pad_row j 0 (by decide) (val_main_v75 (F := Ideal) x0 x1 x2) (val_main_cst_16 (F := Ideal)) (fun i => by pointwise [val_main_cst_16])
    pads_S1x768_S4x768_030_000 h_S_ k
  rw [r3] at e3; rw [r2] at e2; rw [r1] at e1; rw [r0] at e0
  refine (congrArg₂ (· + ·) (congrArg₂ (· + ·) (congrArg₂ (· + ·) e3 e2) e1) e0).trans ?_
  fin_cases k <;> simp

end Cert.Dconv.R

namespace Cert.Dconv.V

open Idealize.ShloMosaic Idealize.ShloMosaic.TcCoe Idealize.SL.Sem
open Idealize.ShloMosaic.Pipeline (Dat)
open Cert.DconvKernelIdeal Cert.DconvKernelIdeal.Gen

/-- A block rotated down by `s` rows with its first `s` rows put to zero. -/
theorem down_apply (s : ℕ) (hs : s < 4) (v : FVec Ideal S2048x128 .f32) (p : Fin 2048) (d : Fin 128) :
    (select (cmpi .sge (iota .tc S2048x128 32 [0] iota_S2048x128_d0_w32) (broadcast S2048x128 (BitVec.ofNat 32 s)))
      (dynamicRotate 0 (BitVec.ofNat 32 s) none v rotates_S2048x128_d0)
      (broadcast S2048x128 (Scalar.ofBits (F := Ideal) .f32 0x00000000#32)) (ix2 p d) : EReal) = down s (fun q => v (ix2 q d)) p := by
  have hc : cmpi .sge (iota .tc S2048x128 32 [0] iota_S2048x128_d0_w32) (broadcast S2048x128 (BitVec.ofNat 32 s)) (ix2 p d)
      = IntOp.cmpi .sge (BitVec.ofNat 32 p.val) (BitVec.ofNat 32 s) := by pointwise
  unfold down
  by_cases h : s ≤ p.val
  · have h1 : IntOp.cmpi .sge (BitVec.ofNat 32 p.val) (BitVec.ofNat 32 s) = 1#1 := by
      rw [WordCmp.cmpi_sge_ofNat (by omega) (by omega)]; simp [h]
    rw [if_pos h, select_at, hc, h1, if_pos (show (1#1 : BitVec 1) = 1 from rfl)]
    refine dynamicRotate_apply _ _ v _ _ _ fun b => ?_
    match b with
    | ⟨0, _⟩ => show p.val - s = (p.val + 2048 - (BitVec.ofNat 32 s).toNat % 2048) % 2048
                rw [BitVec.toNat_ofNat]; omega
    | ⟨1, _⟩ => rfl
  · have h1 : IntOp.cmpi .sge (BitVec.ofNat 32 p.val) (BitVec.ofNat 32 s) = 0#1 := by
      rw [WordCmp.cmpi_sge_ofNat (by omega) (by omega)]; simp [h]
    rw [if_neg h, select_at, hc, h1, if_neg (by decide)]
    pointwise

/-- A block rotated up by `s` rows with its last `s` rows put to zero. -/
theorem up_apply (s b : ℕ) (hs : s < 4) (hb : b = 2048 - s) (h0 : 0 < s) (v : FVec Ideal S2048x128 .f32) (p : Fin 2048) (d : Fin 128) :
    (select (cmpi .slt (iota .tc S2048x128 32 [0] iota_S2048x128_d0_w32) (broadcast S2048x128 (BitVec.ofNat 32 b)))
      (dynamicRotate 0 (BitVec.ofNat 32 b) none v rotates_S2048x128_d0)
      (broadcast S2048x128 (Scalar.ofBits (F := Ideal) .f32 0x00000000#32)) (ix2 p d) : EReal) = up s (fun q => v (ix2 q d)) p := by
  have hc : cmpi .slt (iota .tc S2048x128 32 [0] iota_S2048x128_d0_w32) (broadcast S2048x128 (BitVec.ofNat 32 b)) (ix2 p d)
      = IntOp.cmpi .slt (BitVec.ofNat 32 p.val) (BitVec.ofNat 32 b) := by pointwise
  unfold up
  by_cases h : p.val + s < 2048
  · have h1 : IntOp.cmpi .slt (BitVec.ofNat 32 p.val) (BitVec.ofNat 32 b) = 1#1 := by
      rw [WordCmp.cmpi_slt_ofNat (by omega) (by omega)]; rw [decide_eq_true (by omega)]; rfl
    rw [dif_pos h, select_at, hc, h1, if_pos (show (1#1 : BitVec 1) = 1 from rfl)]
    refine dynamicRotate_apply _ _ v _ _ _ fun a => ?_
    match a with
    | ⟨0, _⟩ => show p.val + s = (p.val + 2048 - (BitVec.ofNat 32 b).toNat % 2048) % 2048
                rw [BitVec.toNat_ofNat]; omega
    | ⟨1, _⟩ => rfl
  · have h1 : IntOp.cmpi .slt (BitVec.ofNat 32 p.val) (BitVec.ofNat 32 b) = 0#1 := by
      rw [WordCmp.cmpi_slt_ofNat (by omega) (by omega)]; rw [decide_eq_false (by omega)]; rfl
    rw [dif_neg h, select_at, hc, h1, if_neg (by decide)]
    pointwise

/-- A load of a whole block reads the block. -/
theorem l0 (X : Vec Ideal S2048x128 .f32) : View.ld X r0_0 = X :=
  View.ld_unit_zero (funext fun a => by fin_cases a <;> rfl) _ X

/-- A load of row `k` of the taps. -/
theorem row (X : Vec Ideal S4x128 .f32) (d : Fin 128) :
    (View.ld X r0_1 (ix2 0 d : S1x128.Idx) : EReal) = X (ix2 0 d) ∧ (View.ld X r0_2 (ix2 0 d : S1x128.Idx) : EReal) = X (ix2 1 d)
      ∧ (View.ld X r0_3 (ix2 0 d : S1x128.Idx) : EReal) = X (ix2 2 d) ∧ (View.ld X r0_4 (ix2 0 d : S1x128.Idx) : EReal) = X (ix2 3 d) := by
  have h : ∀ (k : Fin 4) (inb), (View.ld X (Rect.unit (s := S4x128) ![k.val, 0] S1x128.size inb) (ix2 0 d : S1x128.Idx) : EReal) = X (ix2 k d) := by
    intro k inb
    refine View.ld_unit_apply_of X _ _ _ _ _ fun a => ?_
    match a with
    | ⟨0, _⟩ => rfl
    | ⟨1, _⟩ => show d.val = 0 + d.val; omega
  exact ⟨h 0 _, h 1 _, h 2 _, h 3 _⟩

/-- A piece stored in row `k`, read at an index of that row. -/
theorem at_row {k : Fin 4} {P : Vec Ideal S1x128 .f32} {T : S4x128.Idx → EReal} (h : ∀ d, (P (ix2 0 d) : EReal) = T (ix2 k d))
    (y : S4x128.Idx) (x : S1x128.Idx) (hx : ∀ a : Fin 2, (y a).val = (![k.val, 0] : Fin 2 → ℕ) a + (x a).val) : (P x : EReal) = T y := by
  obtain ⟨x0, x1, rfl⟩ : ∃ (x0 : Fin 1) (x1 : Fin 128), x = ix2 x0 x1 := ⟨x 0, x 1, eq_ix2 x⟩
  obtain rfl : x0 = 0 := by omega
  refine (h x1).trans (congrArg T ?_)
  funext a; apply Fin.ext
  match a with
  | ⟨0, _⟩ => exact (hx 0).symm
  | ⟨1, _⟩ => exact ((hx 1).trans (Nat.zero_add _)).symm

/-- Four stores, one in each row, read back. -/
theorem rows (P0 P1 P2 P3 : Vec Ideal S1x128 .f32) (T : S4x128.Idx → EReal) (h0 : ∀ d, (P0 (ix2 0 d) : EReal) = T (ix2 0 d))
    (h1 : ∀ d, (P1 (ix2 0 d) : EReal) = T (ix2 1 d)) (h2 : ∀ d, (P2 (ix2 0 d) : EReal) = T (ix2 2 d))
    (h3 : ∀ d, (P3 (ix2 0 d) : EReal) = T (ix2 3 d)) (y : S4x128.Idx) :
    (View.canon [⟨r0_4, P3⟩, ⟨r0_3, P2⟩, ⟨r0_2, P1⟩, ⟨r0_1, P0⟩] y : EReal) = T y := by
  refine View.canon_eq_of_allAt _ _ _ (cover0_4 P3 P2 P1 P0 y) ?_
  exact View.allAt_cons_unit _ _ _ _ _ (fun x hx => at_row h3 y x hx) (View.allAt_cons_unit _ _ _ _ _ (fun x hx => at_row h2 y x hx)
    (View.allAt_cons_unit _ _ _ _ _ (fun x hx => at_row h1 y x hx) (View.allAt_cons_unit _ _ _ _ _ (fun x hx => at_row h0 y x hx)
      (View.allAt_nil _ _))))

variable (x : FVec Ideal S2048x128 .f32) (w : FVec Ideal S4x128 .f32) (g : FVec Ideal S2048x128 .f32) (p : Fin 2048) (d : Fin 128)

/-- The moved inputs of the body. -/
theorem pay5 : (k0_pay5 (F := Ideal) x (ix2 p d) : EReal) = down 3 (fun q => x (ix2 q d)) p := down_apply 3 (by decide) x p d
@[inherit_doc pay5] theorem pay6 : (k0_pay6 (F := Ideal) x (ix2 p d) : EReal) = down 2 (fun q => x (ix2 q d)) p := down_apply 2 (by decide) x p d
@[inherit_doc pay5] theorem pay7 : (k0_pay7 (F := Ideal) x (ix2 p d) : EReal) = down 1 (fun q => x (ix2 q d)) p := down_apply 1 (by decide) x p d

/-- The convolution in the body. -/
theorem pay14 : (k0_pay14 (F := Ideal) x w g (ix2 p d) : EReal) = pre (fun q => x (ix2 q d)) (fun k => w (ix2 k d)) p := by
  obtain ⟨e0, e1, e2, e3⟩ := row w d
  unfold pre k0_pay14 k0_pay8
  rw [l0, ← pay5 x, ← pay6 x, ← pay7 x]
  show _ = w (ix2 0 d) * _ + w (ix2 1 d) * _ + w (ix2 2 d) * _ + w (ix2 3 d) * x (ix2 p d)
  rw [← e0, ← e1, ← e2, ← e3]
  generalize k0_pay5 (F := Ideal) x = a5
  generalize k0_pay6 (F := Ideal) x = a6
  generalize k0_pay7 (F := Ideal) x = a7
  pointwise

/-- The gradient that reaches the convolution, in the body. -/
theorem pay16 : (k0_pay16 (F := Ideal) x w g (ix2 p d) : EReal)
    = dpre (fun q => x (ix2 q d)) (fun k => w (ix2 k d)) (fun q => g (ix2 q d)) p := by
  have e : (k0_pay15 (F := Ideal) x w g (ix2 p d) : EReal) = Ideal.exp (0 - k0_pay14 (F := Ideal) x w g (ix2 p d)) := by
    have h : ∀ a : FVec Ideal S2048x128 .f32, (exp (subf (broadcast S2048x128 (Scalar.ofBits (F := Ideal) .f32 0x00000000#32)) a)
        (ix2 p d) : EReal) = Ideal.exp (0 - a (ix2 p d)) := by
      intro a
      pointwise
    exact h _
  unfold dpre
  rw [← pay14 x w g, ← Cert.Swiglu.dgate_eq, ← e, mul_one]
  show _ = g (ix2 p d) * _ + (0 - (0 - _ * g (ix2 p d) * _ * _) * _)
  rw [← zero_add (g (ix2 p d) : EReal)]
  unfold k0_pay16 k0_pay10
  rw [l0]
  generalize k0_pay14 (F := Ideal) x w g = a
  generalize k0_pay15 (F := Ideal) x w g = b
  pointwise

/-- The first two terms of the input's gradient. -/
theorem pay12 (a b : FVec Ideal S2048x128 .f32) (o : EReal) (r s : Vec Ideal S1x128 .f32) :
    (k0_pay12 (F := Ideal) a b o g r s (ix2 p d) : EReal)
      = r (ix2 0 d) * k0_pay10 (F := Ideal) a b o g (ix2 p d) + s (ix2 0 d) * up 3 (fun q => k0_pay10 (F := Ideal) a b o g (ix2 q d)) p := by
  refine congrArg₂ (· + ·) (congrArg (· * _) ?_) (congrArg₂ (· * ·) ?_ (up_apply 3 2045 (by decide) rfl (by decide) _ p d)) <;> pointwise

/-- The last two terms of the input's gradient. -/
theorem pay4 (y z : FVec Ideal S2048x128 .f32) (r s : Vec Ideal S1x128 .f32) :
    (k0_pay4 (F := Ideal) y (iota .tc S2048x128 32 [0] iota_S2048x128_d0_w32) z r s (ix2 p d) : EReal)
      = z (ix2 p d) + r (ix2 0 d) * up 2 (fun q => y (ix2 q d)) p + s (ix2 0 d) * up 1 (fun q => y (ix2 q d)) p := by
  refine congrArg₂ (· + ·) (congrArg (_ + ·) (congrArg₂ (· * ·) ?_ (up_apply 2 2046 (by decide) rfl (by decide) y p d)))
    (congrArg₂ (· * ·) ?_ (up_apply 1 2047 (by decide) rfl (by decide) y p d)) <;> pointwise

/-- The input's gradient as the body stores it. -/
theorem out3 : (out0_3 (F := Ideal) x w g (ix2 p d) : EReal)
    = dx (fun k => w (ix2 k d)) (dpre (fun q => x (ix2 q d)) (fun k => w (ix2 k d)) (fun q => g (ix2 q d))) p := by
  obtain ⟨e0, e1, e2, e3⟩ := row w d
  rw [show dpre (fun q => x (ix2 q d)) (fun k => w (ix2 k d)) (fun q => g (ix2 q d))
    = fun q => (k0_pay16 (F := Ideal) x w g (ix2 q d) : EReal) from funext fun q => (pay16 x w g q d).symm]
  unfold out0_3
  rw [View.canon_unit_zero (funext fun a => by fin_cases a <;> rfl), pay4, pay12, e0, e1, e2, e3]
  rfl

/-- A sum over the rows of a block, put in a row. -/
theorem sum_apply (y z : FVec Ideal S2048x128 .f32) :
    (shapeCast S1x128 (multiReduction .add [0] S128 (mulf (F := Ideal) y z) 0x00000000#32 reduces_S2048x128_S128 (.inl rfl) rfl) shapeCasts_S128_S1x128
      (ix2 0 d) : EReal) = ∑ q : Fin 2048, y (ix2 q d) * z (ix2 q d) := by
  pointwise

/-- The taps' gradient as the body stores it. -/
theorem out4 (k : Fin 4) : (out0_4 (F := Ideal) x w g (ix2 k d) : EReal)
    = dw (fun q => x (ix2 q d)) (dpre (fun q => x (ix2 q d)) (fun k => w (ix2 k d)) (fun q => g (ix2 q d))) k := by
  unfold out0_4
  refine rows _ _ _ _ (fun i => dw (fun q => x (ix2 q (i 1)))
    (dpre (fun q => x (ix2 q (i 1))) (fun k => w (ix2 k (i 1))) (fun q => g (ix2 q (i 1)))) (i 0)) ?_ ?_ ?_ ?_ (ix2 k d)
  all_goals
    intro e
    refine (sum_apply e _ _).trans (Finset.sum_congr rfl fun q _ => congrArg₂ (· * ·) (pay16 x w g q e) ?_)
    rw [l0]
  · exact pay5 x q e
  · exact pay6 x q e
  · exact pay7 x q e
  · rfl

variable (m : (ℓ : Loc nD τ sig) → Buf (Elt Ideal) ℓ) (ρ : Dev nD → PrngReg) (c : Dev nD) (t : Fin cfg0.N)

/-- The arguments. -/ abbrev X0 : S2048x6528.Idx → EReal := m ((c : Thread nD τ).loc main_arg0)
@[inherit_doc X0] abbrev X1 : S4x2304.Idx → EReal := m ((c : Thread nD τ).loc main_arg1)
@[inherit_doc X0] abbrev X2 : S2048x768.Idx → EReal := m ((c : Thread nD τ).loc main_arg2)

/-- The grid has 6 points. -/
theorem tN : t.val < 6 := lt_of_lt_of_eq t.isLt N_0

/-- The column of the arrays where column `d` of point `t`'s blocks lies. -/
def col (d : Fin 128) : Fin 768 := ⟨t.val * 128 + d.val, by have := tN t; omega⟩

/-- The blocks the windows name at a point. -/
theorem idx : ∀ t : Fin grid0.N, (win0_0.index t 0 = 0 ∧ win0_0.index t 1 = 20 + t.val) ∧ (win0_1.index t 0 = 0 ∧ win0_1.index t 1 = 12 + t.val)
    ∧ (win0_2.index t 0 = 0 ∧ win0_2.index t 1 = t.val) ∧ (win0_3.index t 0 = 0 ∧ win0_3.index t 1 = t.val)
    ∧ (win0_4.index t 0 = 0 ∧ win0_4.index t 1 = t.val) := by decide +kernel

/-- An index from its two coordinates. -/
theorem eq_of {n0 n1 : ℕ} (e : (⟨2, ![n0, n1]⟩ : Shape).Idx) (a : Fin n0) (b : Fin n1) (h0 : (e 0).val = a.val) (h1 : (e 1).val = b.val) :
    e = ix2 a b := by
  rw [eq_ix2 e]
  exact congrArg₂ ix2 (Fin.ext h0) (Fin.ext h1)

/-- The input's block at a point, read from the argument. -/
theorem blk0 (r : Fin 2048) (d : Fin 128) :
    ((iblk m c 0 t : S2048x128.Idx → EReal) (ix2 r d)) = R.X (X0 m c) (col t d) r := by
  show (V m c main_arg0 : S2048x6528.Idx → EReal) ((win0_0.rect t).emb (ix2 r d)) = _
  rw [V_main_arg0, eq_of ((win0_0.rect t).emb (ix2 r d) : (⟨2, ![2048, 6528]⟩ : Shape).Idx) r ⟨2560 + (t.val * 128 + d.val), by have := tN t; omega⟩
    ((Pipeline.Window.rect_emb_val win0_0 t _ _).trans (by
      show win0_0.index t 0 * 2048 + r.val = r.val
      rw [(idx t).1.1]; omega))
    ((Pipeline.Window.rect_emb_val win0_0 t _ _).trans (by
      show win0_0.index t 1 * 128 + d.val = 2560 + (t.val * 128 + d.val)
      rw [(idx t).1.2]; omega))]
  rfl

/-- The taps' block at a point, read from the argument. -/
theorem blk1 (r : Fin 4) (d : Fin 128) :
    ((iblk m c 1 t : S4x128.Idx → EReal) (ix2 r d)) = R.W (X1 m c) (col t d) r := by
  show (V m c main_arg1 : S4x2304.Idx → EReal) ((win0_1.rect t).emb (ix2 r d)) = _
  rw [V_main_arg1, eq_of ((win0_1.rect t).emb (ix2 r d) : (⟨2, ![4, 2304]⟩ : Shape).Idx) r ⟨1536 + (t.val * 128 + d.val), by have := tN t; omega⟩
    ((Pipeline.Window.rect_emb_val win0_1 t _ _).trans (by
      show win0_1.index t 0 * 4 + r.val = r.val
      rw [(idx t).2.1.1]; omega))
    ((Pipeline.Window.rect_emb_val win0_1 t _ _).trans (by
      show win0_1.index t 1 * 128 + d.val = 1536 + (t.val * 128 + d.val)
      rw [(idx t).2.1.2]; omega))]
  rfl

/-- The incoming gradient's block at a point, read from the argument. -/
theorem blk2 (r : Fin 2048) (d : Fin 128) :
    ((iblk m c 2 t : S2048x128.Idx → EReal) (ix2 r d)) = R.D (X2 m c) (col t d) r := by
  show (V m c main_arg2 : S2048x768.Idx → EReal) ((win0_2.rect t).emb (ix2 r d)) = _
  rw [V_main_arg2, eq_of ((win0_2.rect t).emb (ix2 r d) : (⟨2, ![2048, 768]⟩ : Shape).Idx) r (col t d)
    ((Pipeline.Window.rect_emb_val win0_2 t _ _).trans (by
      show win0_2.index t 0 * 2048 + r.val = r.val
      rw [(idx t).2.2.1.1]; omega))
    ((Pipeline.Window.rect_emb_val win0_2 t _ _).trans (by
      show win0_2.index t 1 * 128 + d.val = t.val * 128 + d.val
      rw [(idx t).2.2.1.2]))]
  rfl

/-- Where an element of the input's gradient lies in its array. -/
theorem emb3 (r : Fin 2048) (d : Fin 128) :
    ((win0_3.rect t).emb (ix2 r d) : (⟨2, ![2048, 768]⟩ : Shape).Idx) = ix2 r (col t d) :=
  eq_of _ r (col t d)
    ((Pipeline.Window.rect_emb_val win0_3 t _ _).trans (by
      show win0_3.index t 0 * 2048 + r.val = r.val
      rw [(idx t).2.2.2.1.1]; omega))
    ((Pipeline.Window.rect_emb_val win0_3 t _ _).trans (by
      show win0_3.index t 1 * 128 + d.val = t.val * 128 + d.val
      rw [(idx t).2.2.2.1.2]))

/-- Where an element of the taps' gradient lies in its array. -/
theorem emb4 (r : Fin 4) (d : Fin 128) :
    ((win0_4.rect t).emb (ix2 r d) : (⟨2, ![4, 768]⟩ : Shape).Idx) = ix2 r (col t d) :=
  eq_of _ r (col t d)
    ((Pipeline.Window.rect_emb_val win0_4 t _ _).trans (by
      show win0_4.index t 0 * 4 + r.val = r.val
      rw [(idx t).2.2.2.2.1]; omega))
    ((Pipeline.Window.rect_emb_val win0_4 t _ _).trans (by
      show win0_4.index t 1 * 128 + d.val = t.val * 128 + d.val
      rw [(idx t).2.2.2.2.2]))

/-- The arrays the reference leaves, over the kernel's arguments. -/
def G3 : S2048x768.Idx → EReal := Cert.DconvReferenceIdeal.Read.val_main_v83 (F := Ideal) (X0 m c) (X1 m c) (X2 m c)
@[inherit_doc G3] def G4 : S4x768.Idx → EReal := Cert.DconvReferenceIdeal.Read.val_main_v77 (F := Ideal) (X0 m c) (X1 m c) (X2 m c)

/-- The columns of a point's blocks are columns of the arguments. -/
theorem cols (d : Fin 128) : (fun q => (iblk m c 0 t : S2048x128.Idx → EReal) (ix2 q d)) = R.X (X0 m c) (col t d)
    ∧ (fun k => (iblk m c 1 t : S4x128.Idx → EReal) (ix2 k d)) = R.W (X1 m c) (col t d)
    ∧ (fun q => (iblk m c 2 t : S2048x128.Idx → EReal) (ix2 q d)) = R.D (X2 m c) (col t d) :=
  ⟨funext fun q => blk0 m c t q d, funext fun k => blk1 m c t k d, funext fun q => blk2 m c t q d⟩

/-- The block of the input's gradient a point leaves is that point's block of the reference's array. -/
theorem flushed_eq3 : (dats m 0 c).flushed 3 t = ((cfg0.win 3).blk t).view.read (Elt Ideal) (G3 m c) := by
  rw [Value.flushed3]
  funext y
  obtain ⟨r, d, rfl⟩ : ∃ (r : Fin 2048) (d : Fin 128), y = ix2 r d := ⟨y 0, y 1, eq_ix2 y⟩
  refine (out3 (iblk m c 0 t) (iblk m c 1 t) (iblk m c 2 t) r d).trans ?_
  show _ = G3 m c ((win0_3.rect t).emb (ix2 r d))
  obtain ⟨e0, e1, e2⟩ := cols m c t d
  rw [emb3]
  refine Eq.trans ?_ (R.v83 (X0 m c) (X1 m c) (X2 m c) r (col t d)).symm
  rw [← e0, ← e1, ← e2]

/-- The block of the taps' gradient a point leaves is that point's block of the reference's array. -/
theorem flushed_eq4 : (dats m 0 c).flushed 4 t = ((cfg0.win 4).blk t).view.read (Elt Ideal) (G4 m c) := by
  rw [Value.flushed4]
  funext y
  obtain ⟨r, d, rfl⟩ : ∃ (r : Fin 4) (d : Fin 128), y = ix2 r d := ⟨y 0, y 1, eq_ix2 y⟩
  refine (out4 (iblk m c 0 t) (iblk m c 1 t) (iblk m c 2 t) d r).trans ?_
  show _ = G4 m c ((win0_4.rect t).emb (ix2 r d))
  obtain ⟨e0, e1, e2⟩ := cols m c t d
  rw [emb4]
  refine Eq.trans ?_ (R.v77 (X0 m c) (X1 m c) (X2 m c) (col t d) r).symm
  rw [← e0, ← e1, ← e2]

/-- Every column of an array is a column of some point's block. -/
theorem exists_col (j : Fin 768) : ∃ (t : Fin cfg0.N) (d : Fin 128), col t d = j :=
  ⟨⟨j.val / 128, lt_of_lt_of_eq (by omega : j.val / 128 < 6) N_0.symm⟩, ⟨j.val % 128, by omega⟩,
    Fin.ext (by show j.val / 128 * 128 + j.val % 128 = j.val; omega)⟩

/-- The input's gradient the kernel leaves. -/
theorem final3 : (dats m 0 c).arrAt 3 cfg0.N = G3 m c :=
  (dats m 0 c).arrAt_eq_of_cover 3 (G3 m c) (fun t _ => flushed_eq3 m c t) fun (i : S2048x768.Idx) => by
    obtain ⟨q, j, rfl⟩ : ∃ (q : Fin 2048) (j : Fin 768), i = ix2 q j := ⟨i 0, i 1, eq_ix2 i⟩
    obtain ⟨t, d, rfl⟩ := exists_col j
    exact ⟨t, flush0_3 _, emb3 t q d ▸ View.emb_mem_set ((cfg0.win 3).blk t).view (ix2 q d)⟩

/-- The taps' gradient the kernel leaves. -/
theorem final4 : (dats m 0 c).arrAt 4 cfg0.N = G4 m c :=
  (dats m 0 c).arrAt_eq_of_cover 4 (G4 m c) (fun t _ => flushed_eq4 m c t) fun (i : S4x768.Idx) => by
    obtain ⟨q, j, rfl⟩ : ∃ (q : Fin 4) (j : Fin 768), i = ix2 q j := ⟨i 0, i 1, eq_ix2 i⟩
    obtain ⟨t, d, rfl⟩ := exists_col j
    exact ⟨t, flush0_4 _, emb4 t q d ▸ View.emb_mem_set ((cfg0.win 4).blk t).view (ix2 q d)⟩

end Cert.Dconv.V

namespace Cert.Dconv

open Idealize.ShloMosaic Idealize.ShloMosaic.TcCoe Idealize.SL.Sem

/-- Over the real numbers with infinities, the kernel and its reference leave the same arrays. -/
theorem algebraic : Cert.algebraic_DconvKernelIdeal_DconvReferenceIdeal := by
  intro m ρ m' ρ' _ hagree
  refine ⟨fun c => V.G3 m c, fun c => V.G4 m c, ?_, ?_⟩
  · exact (θ_run Cert.DconvKernelIdeal.defs _ _).mono (fun r h c => ⟨(h c).1.trans (V.final3 m c),
      (h c).2.1.trans (V.final4 m c), (h c).2.2⟩)
      (Cert.DconvKernelIdeal.Value.run_blocks (F := Ideal) m ρ)
  · refine (θ_run Cert.DconvReferenceIdeal.defs _ _).mono (fun r h c => ?_) (Cert.DconvReferenceIdeal.Value.run (F := Ideal) m' ρ')
    obtain ⟨a0, a1, a2⟩ := hagree c
    refine ⟨(h c).1.trans ((Cert.DconvReferenceIdeal.Read.val_main_v83_eq m' c).trans ?_),
      (h c).2.1.trans ((Cert.DconvReferenceIdeal.Read.val_main_v77_eq m' c).trans ?_), (h c).2.2⟩
    · show Cert.DconvReferenceIdeal.Read.val_main_v83 (F := Ideal) (m' ((c.tc : Thread _ _).loc Cert.DconvReferenceIdeal.main_arg0)) (m' ((c.tc : Thread _ _).loc Cert.DconvReferenceIdeal.main_arg1)) (m' ((c.tc : Thread _ _).loc Cert.DconvReferenceIdeal.main_arg2)) = _
      rw [a0, a1, a2]
      rfl
    · show Cert.DconvReferenceIdeal.Read.val_main_v77 (F := Ideal) (m' ((c.tc : Thread _ _).loc Cert.DconvReferenceIdeal.main_arg0)) (m' ((c.tc : Thread _ _).loc Cert.DconvReferenceIdeal.main_arg1)) (m' ((c.tc : Thread _ _).loc Cert.DconvReferenceIdeal.main_arg2)) = _
      rw [a0, a1, a2]
      rfl

end Cert.Dconv
-- ==== Proof.lean ====
/- The claims about the calls of the training step listed in NOTES.md: the frames, the rewrites kept, and the kernels'
   results equal to their references' on the extended reals. -/
module

public import proofs.«01_k».proof.Defs
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.Gen.DconvKernel
public import proofs.«01_k».proof.Proof.Gen.DconvKernel.Skeleton
public import proofs.«01_k».proof.Proof.Gen.DconvKernel.Launch
public import proofs.«01_k».proof.Proof.Gen.DconvKernel.Points
public import proofs.«01_k».proof.Proof.Gen.DconvKernel.Frame
public import proofs.«01_k».proof.Proof.Gen.DconvKernelIdeal
public import proofs.«01_k».proof.Proof.Gen.DconvKernelIdeal.Skeleton
public import proofs.«01_k».proof.Proof.Gen.DconvKernelIdeal.Launch
public import proofs.«01_k».proof.Proof.Gen.DconvKernelIdeal.Points
public import proofs.«01_k».proof.Proof.Gen.DconvKernelIdeal.Frame
public import proofs.«01_k».proof.Proof.Gen.DconvReferenceIdeal
public import proofs.«01_k».proof.Proof.Gen.DconvKernelIdeal.Value
public import proofs.«01_k».proof.Proof.Gen.DconvReferenceIdeal.Run
public import proofs.«01_k».proof.Proof.Gen.DconvReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Gen.DnormKernel
public import proofs.«01_k».proof.Proof.Gen.DnormKernel.Skeleton
public import proofs.«01_k».proof.Proof.Gen.DnormKernel.Launch
public import proofs.«01_k».proof.Proof.Gen.DnormKernel.Points
public import proofs.«01_k».proof.Proof.Gen.DnormKernel.Frame
public import proofs.«01_k».proof.Proof.Gen.DnormKernelIdeal
public import proofs.«01_k».proof.Proof.Gen.DnormKernelIdeal.Skeleton
public import proofs.«01_k».proof.Proof.Gen.DnormKernelIdeal.Launch
public import proofs.«01_k».proof.Proof.Gen.DnormKernelIdeal.Points
public import proofs.«01_k».proof.Proof.Gen.DnormKernelIdeal.Frame
public import proofs.«01_k».proof.Proof.Gen.DnormReferenceIdeal
public import proofs.«01_k».proof.Proof.Gen.DnormKernelIdeal.Value
public import proofs.«01_k».proof.Proof.Gen.DnormReferenceIdeal.Run
public import proofs.«01_k».proof.Proof.Gen.DnormReferenceIdeal.Read
public import proofs.«01_k».proof.Proof.Gen.ScanKernel
public import proofs.«01_k».proof.Proof.Gen.ScanKernel.Skeleton
public import proofs.«01_k».proof.Proof.Gen.ScanKernel.Launch
public import proofs.«01_k».proof.Proof.Gen.ScanKernel.Points
public import proofs.«01_k».proof.Proof.Gen.ScanKernel.Frame
public import proofs.«01_k».proof.Proof.Gen.ScanKernelIdeal
public import proofs.«01_k».proof.Proof.Gen.ScanKernelIdeal.Skeleton
public import proofs.«01_k».proof.Proof.Gen.ScanKernelIdeal.Launch
public import proofs.«01_k».proof.Proof.Gen.ScanKernelIdeal.Points
public import proofs.«01_k».proof.Proof.Gen.ScanKernelIdeal.Frame
public import proofs.«01_k».proof.Proof.Gen.ScanReferenceIdeal
public import proofs.«01_k».proof.Proof.Gen.ScanKernelIdeal.Value
public import proofs.«01_k».proof.Proof.Gen.ScanReferenceIdeal.Run
public import proofs.«01_k».proof.Proof.Gen.ScanReferenceIdeal.Step
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DactKernel
public import proofs.«01_k».proof.Proof.Gen.DactKernel.Skeleton
public import proofs.«01_k».proof.Proof.Gen.DactKernel.Launch
public import proofs.«01_k».proof.Proof.Gen.DactKernel.Points
public import proofs.«01_k».proof.Proof.Gen.DactKernel.Frame
public import proofs.«01_k».proof.Proof.Gen.DactKernelIdeal
public import proofs.«01_k».proof.Proof.Gen.DactKernelIdeal.Skeleton
public import proofs.«01_k».proof.Proof.Gen.DactKernelIdeal.Launch
public import proofs.«01_k».proof.Proof.Gen.DactKernelIdeal.Points
public import proofs.«01_k».proof.Proof.Gen.DactKernelIdeal.Frame
public import proofs.«01_k».proof.Proof.Gen.DactReferenceIdeal
public import proofs.«01_k».proof.Proof.Gen.DwguKernel
public import proofs.«01_k».proof.Proof.Gen.DwguKernel.Skeleton
public import proofs.«01_k».proof.Proof.Gen.DwguKernel.Launch
public import proofs.«01_k».proof.Proof.Gen.DwguKernel.Points
public import proofs.«01_k».proof.Proof.Gen.DwguKernel.Frame
public import proofs.«01_k».proof.Proof.Gen.DwguKernelIdeal
public import proofs.«01_k».proof.Proof.Gen.DwguKernelIdeal.Skeleton
public import proofs.«01_k».proof.Proof.Gen.DwguKernelIdeal.Launch
public import proofs.«01_k».proof.Proof.Gen.DwguKernelIdeal.Points
public import proofs.«01_k».proof.Proof.Gen.DwguKernelIdeal.Frame
public import proofs.«01_k».proof.Proof.Gen.DwguReferenceIdeal
public import proofs.«01_k».proof.Proof.Gen.Dh2Kernel
public import proofs.«01_k».proof.Proof.Gen.Dh2Kernel.Skeleton
public import proofs.«01_k».proof.Proof.Gen.Dh2Kernel.Launch
public import proofs.«01_k».proof.Proof.Gen.Dh2Kernel.Points
public import proofs.«01_k».proof.Proof.Gen.Dh2Kernel.Frame
public import proofs.«01_k».proof.Proof.Gen.Dh2KernelIdeal
public import proofs.«01_k».proof.Proof.Gen.Dh2KernelIdeal.Skeleton
public import proofs.«01_k».proof.Proof.Gen.Dh2KernelIdeal.Launch
public import proofs.«01_k».proof.Proof.Gen.Dh2KernelIdeal.Points
public import proofs.«01_k».proof.Proof.Gen.Dh2KernelIdeal.Frame
public import proofs.«01_k».proof.Proof.Gen.Dh2ReferenceIdeal
public import proofs.«01_k».proof.Proof.Gen.GuKernel
public import proofs.«01_k».proof.Proof.Gen.GuKernel.Skeleton
public import proofs.«01_k».proof.Proof.Gen.GuKernel.Launch
public import proofs.«01_k».proof.Proof.Gen.GuKernel.Points
public import proofs.«01_k».proof.Proof.Gen.GuKernel.Frame
public import proofs.«01_k».proof.Proof.Gen.GuKernelIdeal
public import proofs.«01_k».proof.Proof.Gen.GuKernelIdeal.Skeleton
public import proofs.«01_k».proof.Proof.Gen.GuKernelIdeal.Launch
public import proofs.«01_k».proof.Proof.Gen.GuKernelIdeal.Points
public import proofs.«01_k».proof.Proof.Gen.GuKernelIdeal.Frame
public import proofs.«01_k».proof.Proof.Gen.GuReferenceIdeal
public import proofs.«01_k».proof.Proof.Gen.DwdownKernel
public import proofs.«01_k».proof.Proof.Gen.DwdownKernel.Skeleton
public import proofs.«01_k».proof.Proof.Gen.DwdownKernel.Launch
public import proofs.«01_k».proof.Proof.Gen.DwdownKernel.Points
public import proofs.«01_k».proof.Proof.Gen.DwdownKernel.Frame
public import proofs.«01_k».proof.Proof.Gen.DwdownKernelIdeal
public import proofs.«01_k».proof.Proof.Gen.DwdownKernelIdeal.Skeleton
public import proofs.«01_k».proof.Proof.Gen.DwdownKernelIdeal.Launch
public import proofs.«01_k».proof.Proof.Gen.DwdownKernelIdeal.Points
public import proofs.«01_k».proof.Proof.Gen.DwdownKernelIdeal.Frame
public import proofs.«01_k».proof.Proof.Gen.DwdownReferenceIdeal
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.Dh1Kernel
public import proofs.«01_k».proof.Proof.Gen.Dh1Kernel.Skeleton
public import proofs.«01_k».proof.Proof.Gen.Dh1Kernel.Launch
public import proofs.«01_k».proof.Proof.Gen.Dh1Kernel.Points
public import proofs.«01_k».proof.Proof.Gen.Dh1Kernel.Frame
public import proofs.«01_k».proof.Proof.Gen.Dh1KernelIdeal
public import proofs.«01_k».proof.Proof.Gen.Dh1KernelIdeal.Skeleton
public import proofs.«01_k».proof.Proof.Gen.Dh1KernelIdeal.Launch
public import proofs.«01_k».proof.Proof.Gen.Dh1KernelIdeal.Points
public import proofs.«01_k».proof.Proof.Gen.Dh1KernelIdeal.Frame
public import proofs.«01_k».proof.Proof.Gen.Dh1ReferenceIdeal
public import proofs.«01_k».proof.Proof.Gen.DwinKernel
public import proofs.«01_k».proof.Proof.Gen.DwinKernel.Skeleton
public import proofs.«01_k».proof.Proof.Gen.DwinKernel.Launch
public import proofs.«01_k».proof.Proof.Gen.DwinKernel.Points
public import proofs.«01_k».proof.Proof.Gen.DwinKernel.Frame
public import proofs.«01_k».proof.Proof.Gen.DwinKernelIdeal
public import proofs.«01_k».proof.Proof.Gen.DwinKernelIdeal.Skeleton
public import proofs.«01_k».proof.Proof.Gen.DwinKernelIdeal.Launch
public import proofs.«01_k».proof.Proof.Gen.DwinKernelIdeal.Points
public import proofs.«01_k».proof.Proof.Gen.DwinKernelIdeal.Frame
public import proofs.«01_k».proof.Proof.Gen.DwinReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.DmixKernel
public import proofs.«01_k».proof.Proof.Gen.DmixKernel.Skeleton
public import proofs.«01_k».proof.Proof.Gen.DmixKernel.Launch
public import proofs.«01_k».proof.Proof.Gen.DmixKernel.Points
public import proofs.«01_k».proof.Proof.Gen.DmixKernel.Frame
public import proofs.«01_k».proof.Proof.Gen.DmixKernelIdeal
public import proofs.«01_k».proof.Proof.Gen.DmixKernelIdeal.Skeleton
public import proofs.«01_k».proof.Proof.Gen.DmixKernelIdeal.Launch
public import proofs.«01_k».proof.Proof.Gen.DmixKernelIdeal.Points
public import proofs.«01_k».proof.Proof.Gen.DmixKernelIdeal.Frame
public import proofs.«01_k».proof.Proof.Gen.DmixReferenceIdeal
public import proofs.«01_k».proof.Proof.Gen.DwoutKernel
public import proofs.«01_k».proof.Proof.Gen.DwoutKernel.Skeleton
public import proofs.«01_k».proof.Proof.Gen.DwoutKernel.Launch
public import proofs.«01_k».proof.Proof.Gen.DwoutKernel.Points
public import proofs.«01_k».proof.Proof.Gen.DwoutKernel.Frame
public import proofs.«01_k».proof.Proof.Gen.DwoutKernelIdeal
public import proofs.«01_k».proof.Proof.Gen.DwoutKernelIdeal.Skeleton
public import proofs.«01_k».proof.Proof.Gen.DwoutKernelIdeal.Launch
public import proofs.«01_k».proof.Proof.Gen.DwoutKernelIdeal.Points
public import proofs.«01_k».proof.Proof.Gen.DwoutKernelIdeal.Frame
public import proofs.«01_k».proof.Proof.Gen.DwoutReferenceIdeal
public import proofs.«01_k».proof.Proof.Gen.DactKernelIdeal.Value
public import proofs.«01_k».proof.Proof.Gen.DactReferenceIdeal.Run
public import proofs.«01_k».proof.Proof.Gen.DactReferenceIdeal.Read
public import proofs.«01_k».proof.Proof.Gen.DwguKernelIdeal.Value
public import proofs.«01_k».proof.Proof.Gen.DwguReferenceIdeal.Run
public import proofs.«01_k».proof.Proof.Gen.DwguReferenceIdeal.Read
public import proofs.«01_k».proof.Proof.Gen.Dh2KernelIdeal.Value
public import proofs.«01_k».proof.Proof.Gen.Dh2ReferenceIdeal.Run
public import proofs.«01_k».proof.Proof.Gen.Dh2ReferenceIdeal.Read
public import proofs.«01_k».proof.Proof.Gen.GuKernelIdeal.Value
public import proofs.«01_k».proof.Proof.Gen.GuReferenceIdeal.Run
public import proofs.«01_k».proof.Proof.Gen.GuReferenceIdeal.Read
public import proofs.«01_k».proof.Proof.Gen.DwdownKernelIdeal.Value
public import proofs.«01_k».proof.Proof.Gen.DwdownReferenceIdeal.Run
public import proofs.«01_k».proof.Proof.Gen.DwdownReferenceIdeal.Read
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.Dh1KernelIdeal.Value
public import proofs.«01_k».proof.Proof.Gen.Dh1ReferenceIdeal.Run
public import proofs.«01_k».proof.Proof.Gen.Dh1ReferenceIdeal.Read
public import proofs.«01_k».proof.Proof.Gen.DwinKernelIdeal.Value
public import proofs.«01_k».proof.Proof.Gen.DwinReferenceIdeal.Run
public import proofs.«01_k».proof.Proof.Gen.DwinReferenceIdeal.Read
public import proofs.«01_k».proof.Proof.Gen.OutKernelIdeal.Value
public import proofs.«01_k».proof.Proof.Gen.OutReferenceIdeal.Run
public import proofs.«01_k».proof.Proof.Gen.OutReferenceIdeal.Read
public import proofs.«01_k».proof.Proof.Gen.DmixKernelIdeal.Value
public import proofs.«01_k».proof.Proof.Gen.DmixReferenceIdeal.Run
public import proofs.«01_k».proof.Proof.Gen.DmixReferenceIdeal.Read
public import proofs.«01_k».proof.Proof.Gen.DwoutKernelIdeal.Value
public import proofs.«01_k».proof.Proof.Gen.DwoutReferenceIdeal.Run
public import proofs.«01_k».proof.Proof.Gen.DwoutReferenceIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.SguValue
public import proofs.«01_k».proof.Proof.DactValue
public import proofs.«01_k».proof.Proof.DwguValue
public import proofs.«01_k».proof.Proof.Dh2Value
public import proofs.«01_k».proof.Proof.GuValue
public import proofs.«01_k».proof.Proof.DwdownValue
public import proofs.«01_k».proof.Proof.DownValue
public import proofs.«01_k».proof.Proof.ProjValue
public import proofs.«01_k».proof.Proof.Dh1Value
public import proofs.«01_k».proof.Proof.DwinValue
public import proofs.«01_k».proof.Proof.OutValue
public import proofs.«01_k».proof.Proof.DmixValue
public import proofs.«01_k».proof.Proof.DwoutValue
public import proofs.«01_k».proof.Proof.ScanValue
public import proofs.«01_k».proof.Proof.NormValue
public import proofs.«01_k».proof.Proof.DnormValue
public import proofs.«01_k».proof.Proof.GateValue
public import proofs.«01_k».proof.Proof.DconvValue
public import Idealize.ShloMosaic.Adequacy
public import Idealize.ShloMosaic.Init
public import Idealize.ShloMosaic.Lib.Quiescent

@[expose] public section

noncomputable section

namespace Cert.Proof

open Idealize.ShloMosaic Idealize.SL.Sem

/-- The reference Sgu runs to its end and leaves its arguments as they were. -/
theorem frame_ReferenceIdeal : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The reference Dact runs to its end and leaves its arguments as they were. -/
theorem frame_DactReferenceIdeal : Cert.quiescent_DactReferenceIdeal := fun m ρ _ =>
  (θ_run Cert.DactReferenceIdeal.defs _ _).mono (fun r h => ⟨fun c => (h c).2,
      Idealize.ShloMosaic.sem_eq_zero_of_no_sems (by decide) r.2⟩)
    (Cert.DactReferenceIdeal.Value.run (F := Ideal) m ρ)

/-- The reference Dwgu runs to its end and leaves its arguments as they were. -/
theorem frame_DwguReferenceIdeal : Cert.quiescent_DwguReferenceIdeal := fun m ρ _ =>
  (θ_run Cert.DwguReferenceIdeal.defs _ _).mono (fun r h => ⟨fun c => (h c).2,
      Idealize.ShloMosaic.sem_eq_zero_of_no_sems (by decide) r.2⟩)
    (Cert.DwguReferenceIdeal.Value.run (F := Ideal) m ρ)

/-- The reference Dh2 runs to its end and leaves its arguments as they were. -/
theorem frame_Dh2ReferenceIdeal : Cert.quiescent_Dh2ReferenceIdeal := fun m ρ _ =>
  (θ_run Cert.Dh2ReferenceIdeal.defs _ _).mono (fun r h => ⟨fun c => (h c).2,
      Idealize.ShloMosaic.sem_eq_zero_of_no_sems (by decide) r.2⟩)
    (Cert.Dh2ReferenceIdeal.Value.run (F := Ideal) m ρ)

/-- The reference Gu runs to its end and leaves its arguments as they were. -/
theorem frame_GuReferenceIdeal : Cert.quiescent_GuReferenceIdeal := fun m ρ _ =>
  (θ_run Cert.GuReferenceIdeal.defs _ _).mono (fun r h => ⟨fun c => (h c).2.2,
      Idealize.ShloMosaic.sem_eq_zero_of_no_sems (by decide) r.2⟩)
    (Cert.GuReferenceIdeal.Value.run (F := Ideal) m ρ)

/-- The reference Dwdown runs to its end and leaves its arguments as they were. -/
theorem frame_DwdownReferenceIdeal : Cert.quiescent_DwdownReferenceIdeal := fun m ρ _ =>
  (θ_run Cert.DwdownReferenceIdeal.defs _ _).mono (fun r h => ⟨fun c => (h c).2,
      Idealize.ShloMosaic.sem_eq_zero_of_no_sems (by decide) r.2⟩)
    (Cert.DwdownReferenceIdeal.Value.run (F := Ideal) m ρ)

/-- The reference Down runs to its end and leaves its arguments as they were. -/
theorem frame_DownReferenceIdeal : Cert.quiescent_DownReferenceIdeal := fun m ρ _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- The reference Proj runs to its end and leaves its arguments as they were. -/
theorem frame_ProjReferenceIdeal : Cert.quiescent_ProjReferenceIdeal := fun m ρ _ =>
  (θ_run Cert.ProjReferenceIdeal.defs _ _).mono (fun r h => ⟨fun c => (h c).2,
      Idealize.ShloMosaic.sem_eq_zero_of_no_sems (by decide) r.2⟩)
    (Cert.ProjReferenceIdeal.Value.run (F := Ideal) m ρ)

/-- The reference Dh1 runs to its end and leaves its arguments as they were. -/
theorem frame_Dh1ReferenceIdeal : Cert.quiescent_Dh1ReferenceIdeal := fun m ρ _ =>
  (θ_run Cert.Dh1ReferenceIdeal.defs _ _).mono (fun r h => ⟨fun c => (h c).2,
      Idealize.ShloMosaic.sem_eq_zero_of_no_sems (by decide) r.2⟩)
    (Cert.Dh1ReferenceIdeal.Value.run (F := Ideal) m ρ)

/-- The reference Dwin runs to its end and leaves its arguments as they were. -/
theorem frame_DwinReferenceIdeal : Cert.quiescent_DwinReferenceIdeal := fun m ρ _ =>
  (θ_run Cert.DwinReferenceIdeal.defs _ _).mono (fun r h => ⟨fun c => (h c).2,
      Idealize.ShloMosaic.sem_eq_zero_of_no_sems (by decide) r.2⟩)
    (Cert.DwinReferenceIdeal.Value.run (F := Ideal) m ρ)

/-- The reference Out runs to its end and leaves its arguments as they were. -/
theorem frame_OutReferenceIdeal : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

/-- The reference Dmix runs to its end and leaves its arguments as they were. -/
theorem frame_DmixReferenceIdeal : Cert.quiescent_DmixReferenceIdeal := fun m ρ _ =>
  (θ_run Cert.DmixReferenceIdeal.defs _ _).mono (fun r h => ⟨fun c => (h c).2,
      Idealize.ShloMosaic.sem_eq_zero_of_no_sems (by decide) r.2⟩)
    (Cert.DmixReferenceIdeal.Value.run (F := Ideal) m ρ)

/-- The reference Dwout runs to its end and leaves its arguments as they were. -/
theorem frame_DwoutReferenceIdeal : Cert.quiescent_DwoutReferenceIdeal := fun m ρ _ =>
  (θ_run Cert.DwoutReferenceIdeal.defs _ _).mono (fun r h => ⟨fun c => (h c).2,
      Idealize.ShloMosaic.sem_eq_zero_of_no_sems (by decide) r.2⟩)
    (Cert.DwoutReferenceIdeal.Value.run (F := Ideal) m ρ)

/-- The reference Scan runs to its end and leaves its arguments as they were. -/
theorem frame_ScanReferenceIdeal : Cert.quiescent_ScanReferenceIdeal := fun m ρ _ =>
  (θ_run Cert.ScanReferenceIdeal.defs _ _).mono (fun r h => ⟨fun c => (h c).2.2.2.2.2.2.2.2,
      Idealize.ShloMosaic.sem_eq_zero_of_no_sems (by decide) r.2⟩)
    (Cert.ScanReferenceIdeal.Value.run (F := Ideal) m ρ)

/-- The reference Norm runs to its end and leaves its arguments as they were. -/
theorem frame_NormReferenceIdeal : Cert.quiescent_NormReferenceIdeal := fun m ρ _ =>
  (θ_run Cert.NormReferenceIdeal.defs _ _).mono (fun r h => ⟨fun c => (h c).2,
      Idealize.ShloMosaic.sem_eq_zero_of_no_sems (by decide) r.2⟩)
    (Cert.NormReferenceIdeal.Value.run (F := Ideal) m ρ)

/-- The reference Dnorm runs to its end and leaves its arguments as they were. -/
theorem frame_DnormReferenceIdeal : Cert.quiescent_DnormReferenceIdeal := fun m ρ _ =>
  (θ_run Cert.DnormReferenceIdeal.defs _ _).mono (fun r h => ⟨fun c => (h c).2.2.2,
      Idealize.ShloMosaic.sem_eq_zero_of_no_sems (by decide) r.2⟩)
    (Cert.DnormReferenceIdeal.Value.run (F := Ideal) m ρ)

/-- The reference Gate runs to its end and leaves its arguments as they were. -/
theorem frame_GateReferenceIdeal : Cert.quiescent_GateReferenceIdeal := fun m ρ _ =>
  (θ_run Cert.GateReferenceIdeal.defs _ _).mono (fun r h => ⟨fun c => (h c).2,
      Idealize.ShloMosaic.sem_eq_zero_of_no_sems (by decide) r.2⟩)
    (Cert.GateReferenceIdeal.Value.run (F := Ideal) m ρ)

/-- The reference Dconv runs to its end and leaves its arguments as they were. -/
theorem frame_DconvReferenceIdeal : Cert.quiescent_DconvReferenceIdeal := fun m ρ _ =>
  (θ_run Cert.DconvReferenceIdeal.defs _ _).mono (fun r h => ⟨fun c => (h c).2.2,
      Idealize.ShloMosaic.sem_eq_zero_of_no_sems (by decide) r.2⟩)
    (Cert.DconvReferenceIdeal.Value.run (F := Ideal) m ρ)

theorem claim : Cert.Claim := ⟨Cert.Kernel.Gen.facts, Cert.KernelIdeal.Gen.facts, Cert.ReferenceIdeal.Gen.facts,
  Cert.DactKernel.Gen.facts, Cert.DactKernelIdeal.Gen.facts, Cert.DactReferenceIdeal.Gen.facts,
  Cert.DwguKernel.Gen.facts, Cert.DwguKernelIdeal.Gen.facts, Cert.DwguReferenceIdeal.Gen.facts,
  Cert.Dh2Kernel.Gen.facts, Cert.Dh2KernelIdeal.Gen.facts, Cert.Dh2ReferenceIdeal.Gen.facts,
  Cert.GuKernel.Gen.facts, Cert.GuKernelIdeal.Gen.facts, Cert.GuReferenceIdeal.Gen.facts,
  Cert.DwdownKernel.Gen.facts, Cert.DwdownKernelIdeal.Gen.facts, Cert.DwdownReferenceIdeal.Gen.facts,
  Cert.DownKernel.Gen.facts, Cert.DownKernelIdeal.Gen.facts, Cert.DownReferenceIdeal.Gen.facts,
  Cert.ProjKernel.Gen.facts, Cert.ProjKernelIdeal.Gen.facts, Cert.ProjReferenceIdeal.Gen.facts,
  Cert.Dh1Kernel.Gen.facts, Cert.Dh1KernelIdeal.Gen.facts, Cert.Dh1ReferenceIdeal.Gen.facts,
  Cert.DwinKernel.Gen.facts, Cert.DwinKernelIdeal.Gen.facts, Cert.DwinReferenceIdeal.Gen.facts,
  Cert.OutKernel.Gen.facts, Cert.OutKernelIdeal.Gen.facts, Cert.OutReferenceIdeal.Gen.facts,
  Cert.DmixKernel.Gen.facts, Cert.DmixKernelIdeal.Gen.facts, Cert.DmixReferenceIdeal.Gen.facts,
  Cert.DwoutKernel.Gen.facts, Cert.DwoutKernelIdeal.Gen.facts, Cert.DwoutReferenceIdeal.Gen.facts,
  Cert.ScanKernel.Gen.facts, Cert.ScanKernelIdeal.Gen.facts, Cert.ScanReferenceIdeal.Gen.facts,
  Cert.NormKernel.Gen.facts, Cert.NormKernelIdeal.Gen.facts, Cert.NormReferenceIdeal.Gen.facts,
  Cert.DnormKernel.Gen.facts, Cert.DnormKernelIdeal.Gen.facts, Cert.DnormReferenceIdeal.Gen.facts,
  Cert.GateKernel.Gen.facts, Cert.GateKernelIdeal.Gen.facts, Cert.GateReferenceIdeal.Gen.facts,
  Cert.DconvKernel.Gen.facts, Cert.DconvKernelIdeal.Gen.facts, Cert.DconvReferenceIdeal.Gen.facts,
  fun m ρ _ => Cert.Kernel.Gen.frame m ρ, fun m ρ _ => Cert.KernelIdeal.Gen.frame m ρ, frame_ReferenceIdeal,
  fun m ρ _ => Cert.DactKernel.Gen.frame m ρ, fun m ρ _ => Cert.DactKernelIdeal.Gen.frame m ρ, frame_DactReferenceIdeal,
  fun m ρ _ => Cert.DwguKernel.Gen.frame m ρ, fun m ρ _ => Cert.DwguKernelIdeal.Gen.frame m ρ, frame_DwguReferenceIdeal,
  fun m ρ _ => Cert.Dh2Kernel.Gen.frame m ρ, fun m ρ _ => Cert.Dh2KernelIdeal.Gen.frame m ρ, frame_Dh2ReferenceIdeal,
  fun m ρ _ => Cert.GuKernel.Gen.frame m ρ, fun m ρ _ => Cert.GuKernelIdeal.Gen.frame m ρ, frame_GuReferenceIdeal,
  fun m ρ _ => Cert.DwdownKernel.Gen.frame m ρ, fun m ρ _ => Cert.DwdownKernelIdeal.Gen.frame m ρ, frame_DwdownReferenceIdeal,
  fun m ρ _ => Cert.DownKernel.Gen.frame m ρ, fun m ρ _ => Cert.DownKernelIdeal.Gen.frame m ρ, frame_DownReferenceIdeal,
  fun m ρ _ => Cert.ProjKernel.Gen.frame m ρ, fun m ρ _ => Cert.ProjKernelIdeal.Gen.frame m ρ, frame_ProjReferenceIdeal,
  fun m ρ _ => Cert.Dh1Kernel.Gen.frame m ρ, fun m ρ _ => Cert.Dh1KernelIdeal.Gen.frame m ρ, frame_Dh1ReferenceIdeal,
  fun m ρ _ => Cert.DwinKernel.Gen.frame m ρ, fun m ρ _ => Cert.DwinKernelIdeal.Gen.frame m ρ, frame_DwinReferenceIdeal,
  fun m ρ _ => Cert.OutKernel.Gen.frame m ρ, fun m ρ _ => Cert.OutKernelIdeal.Gen.frame m ρ, frame_OutReferenceIdeal,
  fun m ρ _ => Cert.DmixKernel.Gen.frame m ρ, fun m ρ _ => Cert.DmixKernelIdeal.Gen.frame m ρ, frame_DmixReferenceIdeal,
  fun m ρ _ => Cert.DwoutKernel.Gen.frame m ρ, fun m ρ _ => Cert.DwoutKernelIdeal.Gen.frame m ρ, frame_DwoutReferenceIdeal,
  fun m ρ _ => Cert.ScanKernel.Gen.frame m ρ, fun m ρ _ => Cert.ScanKernelIdeal.Gen.frame m ρ, frame_ScanReferenceIdeal,
  fun m ρ _ => Cert.NormKernel.Gen.frame m ρ, fun m ρ _ => Cert.NormKernelIdeal.Gen.frame m ρ, frame_NormReferenceIdeal,
  fun m ρ _ => Cert.DnormKernel.Gen.frame m ρ, fun m ρ _ => Cert.DnormKernelIdeal.Gen.frame m ρ, frame_DnormReferenceIdeal,
  fun m ρ _ => Cert.GateKernel.Gen.frame m ρ, fun m ρ _ => Cert.GateKernelIdeal.Gen.frame m ρ, frame_GateReferenceIdeal,
  fun m ρ _ => Cert.DconvKernel.Gen.frame m ρ, fun m ρ _ => Cert.DconvKernelIdeal.Gen.frame m ρ, frame_DconvReferenceIdeal,
  trivial, Cert.Sgu.algebraic,
  trivial, Cert.Dact.algebraic,
  trivial, Cert.Dwgu.algebraic,
  trivial, Cert.Dh2.algebraic,
  trivial, Cert.Gu.algebraic,
  trivial, Cert.Dwdown.algebraic,
  trivial, Cert.Down.algebraic,
  trivial, Cert.Proj.algebraic,
  trivial, Cert.Dh1.algebraic,
  trivial, Cert.Dwin.algebraic,
  trivial, Cert.Out.algebraic,
  trivial, Cert.Dmix.algebraic,
  trivial, Cert.Dwout.algebraic,
  trivial, Cert.Scan.algebraic,
  trivial, Cert.Norm.algebraic,
  trivial, Cert.Dnorm.algebraic,
  trivial, Cert.Gate.algebraic,
  trivial, Cert.Dconv.algebraic⟩

end Cert.Proof

end
